-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 [hPre_in_range15 : Cert.Pre_in_range15.Facts] (m : (ℓ : Loc Cert.Kernel15.nD Cert.Kernel15.τ Cert.Kernel15.sig) → Buf (Elt Bits) ℓ) : Prop :=
  ∀ c : Dev Cert.Kernel15.nD,
    (Cert.Pre_in_range15.fn (F := Bits) (m ((c.tc : Thread Cert.Kernel15.nD Cert.Kernel15.τ).loc Cert.Kernel15.main_arg0)) (m ((c.tc : Thread Cert.Kernel15.nD Cert.Kernel15.τ).loc Cert.Kernel15.main_arg1)) (m ((c.tc : Thread Cert.Kernel15.nD Cert.Kernel15.τ).loc Cert.Kernel15.main_arg2))).1 = (fun _ => 1#1)
    ∧ (Cert.Pre_in_range15.fn (F := Bits) (m ((c.tc : Thread Cert.Kernel15.nD Cert.Kernel15.τ).loc Cert.Kernel15.main_arg0)) (m ((c.tc : Thread Cert.Kernel15.nD Cert.Kernel15.τ).loc Cert.Kernel15.main_arg1)) (m ((c.tc : Thread Cert.Kernel15.nD Cert.Kernel15.τ).loc Cert.Kernel15.main_arg2))).2 = (fun _ => 1#1)

def Pre_Kernel15Ideal [hPre_in_range15 : Cert.Pre_in_range15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_in_range15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))).1 = (fun _ => 1#1)
    ∧ (Cert.Pre_in_range15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))).2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_in_range15 [hPre_in_range15 : Cert.Pre_in_range15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_in_range15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))).1 = (fun _ => 1#1)
    ∧ (Cert.Pre_in_range15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))).2 = (fun _ => 1#1)

def Pre_Kernel16 [hPre_in_range16 : Cert.Pre_in_range16.Facts] (m : (ℓ : Loc Cert.Kernel16.nD Cert.Kernel16.τ Cert.Kernel16.sig) → Buf (Elt Bits) ℓ) : Prop :=
  ∀ c : Dev Cert.Kernel16.nD,
    (Cert.Pre_in_range16.fn (F := Bits) (m ((c.tc : Thread Cert.Kernel16.nD Cert.Kernel16.τ).loc Cert.Kernel16.main_arg0)) (m ((c.tc : Thread Cert.Kernel16.nD Cert.Kernel16.τ).loc Cert.Kernel16.main_arg1)) (m ((c.tc : Thread Cert.Kernel16.nD Cert.Kernel16.τ).loc Cert.Kernel16.main_arg2)) (m ((c.tc : Thread Cert.Kernel16.nD Cert.Kernel16.τ).loc Cert.Kernel16.main_arg3)) (m ((c.tc : Thread Cert.Kernel16.nD Cert.Kernel16.τ).loc Cert.Kernel16.main_arg4)) (m ((c.tc : Thread Cert.Kernel16.nD Cert.Kernel16.τ).loc Cert.Kernel16.main_arg5)) (m ((c.tc : Thread Cert.Kernel16.nD Cert.Kernel16.τ).loc Cert.Kernel16.main_arg6)) (m ((c.tc : Thread Cert.Kernel16.nD Cert.Kernel16.τ).loc Cert.Kernel16.main_arg7))).1 = (fun _ => 1#1)
    ∧ (Cert.Pre_in_range16.fn (F := Bits) (m ((c.tc : Thread Cert.Kernel16.nD Cert.Kernel16.τ).loc Cert.Kernel16.main_arg0)) (m ((c.tc : Thread Cert.Kernel16.nD Cert.Kernel16.τ).loc Cert.Kernel16.main_arg1)) (m ((c.tc : Thread Cert.Kernel16.nD Cert.Kernel16.τ).loc Cert.Kernel16.main_arg2)) (m ((c.tc : Thread Cert.Kernel16.nD Cert.Kernel16.τ).loc Cert.Kernel16.main_arg3)) (m ((c.tc : Thread Cert.Kernel16.nD Cert.Kernel16.τ).loc Cert.Kernel16.main_arg4)) (m ((c.tc : Thread Cert.Kernel16.nD Cert.Kernel16.τ).loc Cert.Kernel16.main_arg5)) (m ((c.tc : Thread Cert.Kernel16.nD Cert.Kernel16.τ).loc Cert.Kernel16.main_arg6)) (m ((c.tc : Thread Cert.Kernel16.nD Cert.Kernel16.τ).loc Cert.Kernel16.main_arg7))).2.1 = (fun _ => 1#1)
    ∧ (Cert.Pre_in_range16.fn (F := Bits) (m ((c.tc : Thread Cert.Kernel16.nD Cert.Kernel16.τ).loc Cert.Kernel16.main_arg0)) (m ((c.tc : Thread Cert.Kernel16.nD Cert.Kernel16.τ).loc Cert.Kernel16.main_arg1)) (m ((c.tc : Thread Cert.Kernel16.nD Cert.Kernel16.τ).loc Cert.Kernel16.main_arg2)) (m ((c.tc : Thread Cert.Kernel16.nD Cert.Kernel16.τ).loc Cert.Kernel16.main_arg3)) (m ((c.tc : Thread Cert.Kernel16.nD Cert.Kernel16.τ).loc Cert.Kernel16.main_arg4)) (m ((c.tc : Thread Cert.Kernel16.nD Cert.Kernel16.τ).loc Cert.Kernel16.main_arg5)) (m ((c.tc : Thread Cert.Kernel16.nD Cert.Kernel16.τ).loc Cert.Kernel16.main_arg6)) (m ((c.tc : Thread Cert.Kernel16.nD Cert.Kernel16.τ).loc Cert.Kernel16.main_arg7))).2.2 = (fun _ => 1#1)

def Pre_Kernel16Ideal [hPre_in_range16 : Cert.Pre_in_range16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_in_range16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7))).1 = (fun _ => 1#1)
    ∧ (Cert.Pre_in_range16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7))).2.1 = (fun _ => 1#1)
    ∧ (Cert.Pre_in_range16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7))).2.2 = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_in_range16 [hPre_in_range16 : Cert.Pre_in_range16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_in_range16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6)) (m ((c.tc : Thread Cert.Reference16Ideal.nD Cert.Reference16Ideal.τ).loc Cert.Reference16Ideal.main_arg7))).1 = (fun _ => 1#1)
    ∧ (Cert.Pre_in_range16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6)) (m ((c.tc : Thread Cert.Reference16Ideal.nD Cert.Reference16Ideal.τ).loc Cert.Reference16Ideal.main_arg7))).2.1 = (fun _ => 1#1)
    ∧ (Cert.Pre_in_range16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6)) (m ((c.tc : Thread Cert.Reference16Ideal.nD Cert.Reference16Ideal.τ).loc Cert.Reference16Ideal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] [hPre_in_range15 : Cert.Pre_in_range15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] [hPre_in_range15 : Cert.Pre_in_range15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Reference15Ideal_pre_in_range15 [hReference15Ideal : Cert.Reference15Ideal.Facts] [hPre_in_range15 : Cert.Pre_in_range15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_in_range15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] [hPre_in_range16 : Cert.Pre_in_range16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7))
      ∧ r.2.sem = fun _ => 0)

def quiescent_Kernel16Ideal [hKernel16Ideal : Cert.Kernel16Ideal.Facts] [hPre_in_range16 : Cert.Pre_in_range16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7))
      ∧ r.2.sem = fun _ => 0)

def quiescent_Reference16Ideal_pre_in_range16 [hReference16Ideal : Cert.Reference16Ideal.Facts] [hPre_in_range16 : Cert.Pre_in_range16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_in_range16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v45_0)) (v1 : (c : Dev Cert.Kernel2Ideal.nD) → Buf (Elt Ideal) ((c.tc : Thread Cert.Kernel2Ideal.nD Cert.Kernel2Ideal.τ).loc Cert.Kernel2Ideal.main_v45_1)) (v2 : (c : Dev Cert.Kernel2Ideal.nD) → Buf (Elt Ideal) ((c.tc : Thread Cert.Kernel2Ideal.nD Cert.Kernel2Ideal.τ).loc Cert.Kernel2Ideal.main_v45_2)) (v3 : (c : Dev Cert.Kernel2Ideal.nD) → Buf (Elt Ideal) ((c.tc : Thread Cert.Kernel2Ideal.nD Cert.Kernel2Ideal.τ).loc Cert.Kernel2Ideal.main_v45_3)) (v4 : (c : Dev Cert.Kernel2Ideal.nD) → Buf (Elt Ideal) ((c.tc : Thread Cert.Kernel2Ideal.nD Cert.Kernel2Ideal.τ).loc Cert.Kernel2Ideal.main_v48)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v45_0) = v0 c
          ∧ r.2.mem ((c.tc : Thread Cert.Kernel2Ideal.nD Cert.Kernel2Ideal.τ).loc Cert.Kernel2Ideal.main_v45_1) = v1 c
          ∧ r.2.mem ((c.tc : Thread Cert.Kernel2Ideal.nD Cert.Kernel2Ideal.τ).loc Cert.Kernel2Ideal.main_v45_2) = v2 c
          ∧ r.2.mem ((c.tc : Thread Cert.Kernel2Ideal.nD Cert.Kernel2Ideal.τ).loc Cert.Kernel2Ideal.main_v45_3) = v3 c
          ∧ r.2.mem ((c.tc : Thread Cert.Kernel2Ideal.nD Cert.Kernel2Ideal.τ).loc Cert.Kernel2Ideal.main_v48) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v99) = v0 c
          ∧ r.2.mem ((c.tc : Thread Cert.Reference2Ideal.nD Cert.Reference2Ideal.τ).loc Cert.Reference2Ideal.main_v100) = v1 c
          ∧ r.2.mem ((c.tc : Thread Cert.Reference2Ideal.nD Cert.Reference2Ideal.τ).loc Cert.Reference2Ideal.main_v101) = v2 c
          ∧ r.2.mem ((c.tc : Thread Cert.Reference2Ideal.nD Cert.Reference2Ideal.τ).loc Cert.Reference2Ideal.main_v102) = v3 c
          ∧ r.2.mem ((c.tc : Thread Cert.Reference2Ideal.nD Cert.Reference2Ideal.τ).loc Cert.Reference2Ideal.main_v88) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v24)) (v1 : (c : Dev Cert.Kernel3Ideal.nD) → Buf (Elt Ideal) ((c.tc : Thread Cert.Kernel3Ideal.nD Cert.Kernel3Ideal.τ).loc Cert.Kernel3Ideal.main_v23_1)) (v2 : (c : Dev Cert.Kernel3Ideal.nD) → Buf (Elt Ideal) ((c.tc : Thread Cert.Kernel3Ideal.nD Cert.Kernel3Ideal.τ).loc Cert.Kernel3Ideal.main_v23_2)) (v3 : (c : Dev Cert.Kernel3Ideal.nD) → Buf (Elt Ideal) ((c.tc : Thread Cert.Kernel3Ideal.nD Cert.Kernel3Ideal.τ).loc Cert.Kernel3Ideal.main_v23_3)) (v4 : (c : Dev Cert.Kernel3Ideal.nD) → Buf (Elt Ideal) ((c.tc : Thread Cert.Kernel3Ideal.nD Cert.Kernel3Ideal.τ).loc Cert.Kernel3Ideal.main_v23_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24) = v0 c
          ∧ r.2.mem ((c.tc : Thread Cert.Kernel3Ideal.nD Cert.Kernel3Ideal.τ).loc Cert.Kernel3Ideal.main_v23_1) = v1 c
          ∧ r.2.mem ((c.tc : Thread Cert.Kernel3Ideal.nD Cert.Kernel3Ideal.τ).loc Cert.Kernel3Ideal.main_v23_2) = v2 c
          ∧ r.2.mem ((c.tc : Thread Cert.Kernel3Ideal.nD Cert.Kernel3Ideal.τ).loc Cert.Kernel3Ideal.main_v23_3) = v3 c
          ∧ r.2.mem ((c.tc : Thread Cert.Kernel3Ideal.nD Cert.Kernel3Ideal.τ).loc Cert.Kernel3Ideal.main_v23_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v76) = v1 c
          ∧ r.2.mem ((c.tc : Thread Cert.Reference3Ideal.nD Cert.Reference3Ideal.τ).loc Cert.Reference3Ideal.main_v77) = v2 c
          ∧ r.2.mem ((c.tc : Thread Cert.Reference3Ideal.nD Cert.Reference3Ideal.τ).loc Cert.Reference3Ideal.main_v78) = v3 c
          ∧ r.2.mem ((c.tc : Thread Cert.Reference3Ideal.nD Cert.Reference3Ideal.τ).loc Cert.Reference3Ideal.main_v79) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v17_0)) (v1 : (c : Dev Cert.Kernel4Ideal.nD) → Buf (Elt Ideal) ((c.tc : Thread Cert.Kernel4Ideal.nD Cert.Kernel4Ideal.τ).loc Cert.Kernel4Ideal.main_v17_1)) (v2 : (c : Dev Cert.Kernel4Ideal.nD) → Buf (Elt Ideal) ((c.tc : Thread Cert.Kernel4Ideal.nD Cert.Kernel4Ideal.τ).loc Cert.Kernel4Ideal.main_v17_2)) (v3 : (c : Dev Cert.Kernel4Ideal.nD) → Buf (Elt Ideal) ((c.tc : Thread Cert.Kernel4Ideal.nD Cert.Kernel4Ideal.τ).loc Cert.Kernel4Ideal.main_v17_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17_0) = v0 c
          ∧ r.2.mem ((c.tc : Thread Cert.Kernel4Ideal.nD Cert.Kernel4Ideal.τ).loc Cert.Kernel4Ideal.main_v17_1) = v1 c
          ∧ r.2.mem ((c.tc : Thread Cert.Kernel4Ideal.nD Cert.Kernel4Ideal.τ).loc Cert.Kernel4Ideal.main_v17_2) = v2 c
          ∧ r.2.mem ((c.tc : Thread Cert.Kernel4Ideal.nD Cert.Kernel4Ideal.τ).loc Cert.Kernel4Ideal.main_v17_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v67) = v0 c
          ∧ r.2.mem ((c.tc : Thread Cert.Reference4Ideal.nD Cert.Reference4Ideal.τ).loc Cert.Reference4Ideal.main_v68) = v1 c
          ∧ r.2.mem ((c.tc : Thread Cert.Reference4Ideal.nD Cert.Reference4Ideal.τ).loc Cert.Reference4Ideal.main_v69) = v2 c
          ∧ r.2.mem ((c.tc : Thread Cert.Reference4Ideal.nD Cert.Reference4Ideal.τ).loc Cert.Reference4Ideal.main_v70) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)) (v2 : (c : Dev Cert.Kernel5Ideal.nD) → Buf (Elt Ideal) ((c.tc : Thread Cert.Kernel5Ideal.nD Cert.Kernel5Ideal.τ).loc Cert.Kernel5Ideal.main_v1_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_v1_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v45) = v1 c
          ∧ r.2.mem ((c.tc : Thread Cert.Reference5Ideal.nD Cert.Reference5Ideal.τ).loc Cert.Reference5Ideal.main_v46) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)) (v3 : (c : Dev Cert.Kernel6Ideal.nD) → Buf (Elt Ideal) ((c.tc : Thread Cert.Kernel6Ideal.nD Cert.Kernel6Ideal.τ).loc Cert.Kernel6Ideal.main_v2_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_v2_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_v34) = v2 c
          ∧ r.2.mem ((c.tc : Thread Cert.Reference6Ideal.nD Cert.Reference6Ideal.τ).loc Cert.Reference6Ideal.main_v19) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v80_5) = v0 c
          ∧ r.2.mem ((c.tc : Thread Cert.Reference8Ideal.nD Cert.Reference8Ideal.τ).loc Cert.Reference8Ideal.main_v80_6) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v5) = v2 c
          ∧ r.2.mem ((c.tc : Thread Cert.Reference9Ideal.nD Cert.Reference9Ideal.τ).loc Cert.Reference9Ideal.main_v11) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_v10) = v1 c
          ∧ r.2.mem ((c.tc : Thread Cert.Reference14Ideal.nD Cert.Reference14Ideal.τ).loc Cert.Reference14Ideal.main_v15) = v2 c
          ∧ r.2.mem ((c.tc : Thread Cert.Reference14Ideal.nD Cert.Reference14Ideal.τ).loc Cert.Reference14Ideal.main_v20) = v3 c
          ∧ r.2.mem ((c.tc : Thread Cert.Reference14Ideal.nD Cert.Reference14Ideal.τ).loc Cert.Reference14Ideal.main_v25) = v4 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] [hPre_in_range15 : Cert.Pre_in_range15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_v8) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] [hPre_in_range16 : Cert.Pre_in_range16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v19) = v0 c
          ∧ r.2.mem ((c.tc : Thread Cert.Reference16Ideal.nD Cert.Reference16Ideal.τ).loc Cert.Reference16Ideal.main_v43) = v1 c
          ∧ r.2.mem ((c.tc : Thread Cert.Reference16Ideal.nD Cert.Reference16Ideal.τ).loc Cert.Reference16Ideal.main_v24) = v2 c
          ∧ r.2.mem ((c.tc : Thread Cert.Reference16Ideal.nD Cert.Reference16Ideal.τ).loc Cert.Reference16Ideal.main_v30) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite2 : Cert.Pre_finite2.Facts) (hPre_finite3 : Cert.Pre_finite3.Facts) (hPre_finite4 : Cert.Pre_finite4.Facts) (hPre_finite5 : Cert.Pre_finite5.Facts) (hPre_in_range15 : Cert.Pre_in_range15.Facts) (hPre_in_range16 : Cert.Pre_in_range16.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15) (hPre_in_range15 := hPre_in_range15)
    ∧ quiescent_Kernel15Ideal (hKernel15Ideal := hKernel15Ideal) (hPre_in_range15 := hPre_in_range15)
    ∧ quiescent_Reference15Ideal (hReference15Ideal := hReference15Ideal)
    ∧ quiescent_Reference15Ideal_pre_in_range15 (hReference15Ideal := hReference15Ideal) (hPre_in_range15 := hPre_in_range15)
    ∧ quiescent_Kernel16 (hKernel16 := hKernel16) (hPre_in_range16 := hPre_in_range16)
    ∧ quiescent_Kernel16Ideal (hKernel16Ideal := hKernel16Ideal) (hPre_in_range16 := hPre_in_range16)
    ∧ quiescent_Reference16Ideal (hReference16Ideal := hReference16Ideal)
    ∧ quiescent_Reference16Ideal_pre_in_range16 (hReference16Ideal := hReference16Ideal) (hPre_in_range16 := hPre_in_range16)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal) (hPre_in_range15 := hPre_in_range15)
    ∧ preserves_Kernel16_Kernel16Ideal
    ∧ algebraic_Kernel16Ideal_Reference16Ideal (hKernel16Ideal := hKernel16Ideal) (hReference16Ideal := hReference16Ideal) (hPre_in_range16 := hPre_in_range16)
-- ==== Pre_finite2.lean ====
abbrev S4096x4096 : Shape := ⟨2, ![4096, 4096]⟩
abbrev S16x4096 : Shape := ⟨2, ![16, 4096]⟩
abbrev S4096x1024 : Shape := ⟨2, ![4096, 1024]⟩
abbrev S_ : Shape := ⟨0, ![]⟩

class Facts : Prop where
  bcast_S_S4096x4096 : S_.BroadcastsInDim S4096x4096 (![] : Fin 0 → Fin S4096x4096.rank)
  bcast_S_S16x4096 : S_.BroadcastsInDim S16x4096 (![] : Fin 0 → Fin S16x4096.rank)
  bcast_S_S4096x1024 : S_.BroadcastsInDim S4096x1024 (![] : Fin 0 → Fin S4096x1024.rank)

variable [Facts]

def fn {F : FTy → Type} [FloatOps F] (main_arg0 : FVec F S4096x4096 .f32) (main_arg1 : FVec F S16x4096 .f32) (main_arg2 : FVec F S4096x1024 .f32) : IVec S4096x4096 1 × IVec S16x4096 1 × IVec S4096x1024 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S16x4096 .f32 := Host.absf main_arg1
  let main_cst_0 : FVec F S_ .f32 := constant S_ .f32 0x7F800000#32
  let main_v4 : FVec F S16x4096 .f32 := broadcastInDim S16x4096 ![] bcast_S_S16x4096 main_cst_0
  let main_v5 : IVec S16x4096 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_finite3.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S1024 .f32) (main_arg2 : FVec F S1024 .f32) (main_arg3 : FVec F S4096x1024 .f32) : IVec S4096x1024 1 × IVec S1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite4.lean ====
abbrev S4096x1024 : Shape := ⟨2, ![4096, 1024]⟩
abbrev S1024 : Shape := ⟨1, ![1024]⟩
abbrev S4096x2048 : Shape := ⟨2, ![4096, 2048]⟩
abbrev S1024x2048 : Shape := ⟨2, ![1024, 2048]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S4096x2048 : S_.BroadcastsInDim S4096x2048 (![] : Fin 0 → Fin S4096x2048.rank)
  bcast_S_S1024x2048 : S_.BroadcastsInDim S1024x2048 (![] : Fin 0 → Fin S1024x2048.rank)

variable [Facts]

def fn {F : FTy → Type} [FloatOps F] (main_arg0 : FVec F S4096x1024 .f32) (main_arg1 : FVec F S1024 .f32) (main_arg2 : FVec F S1024 .f32) (main_arg3 : FVec F S4096x2048 .bf16) (main_arg4 : FVec F S1024x2048 .f32) (main_arg5 : FVec F S4096x1024 .f32) : IVec S4096x1024 1 × IVec S1024 1 × IVec S4096x2048 1 × IVec S1024x2048 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4096x2048 .bf16 := Host.absf main_arg3
  let main_cst_1 : FVec F S_ .bf16 := constant S_ .bf16 0x7F80#16
  let main_v7 : FVec F S4096x2048 .bf16 := broadcastInDim S4096x2048 ![] bcast_S_S4096x2048 main_cst_1
  let main_v8 : IVec S4096x2048 1 := cmpf .olt main_v6 main_v7
  let main_v9 : FVec F S1024x2048 .f32 := Host.absf main_arg4
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_v12 : FVec F S4096x1024 .f32 := Host.absf main_arg5
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite5.lean ====
abbrev S4096x4096 : Shape := ⟨2, ![4096, 4096]⟩
abbrev S16x4096 : Shape := ⟨2, ![16, 4096]⟩
abbrev S_ : Shape := ⟨0, ![]⟩

class Facts : Prop where
  bcast_S_S4096x4096 : S_.BroadcastsInDim S4096x4096 (![] : Fin 0 → Fin S4096x4096.rank)
  bcast_S_S16x4096 : S_.BroadcastsInDim S16x4096 (![] : Fin 0 → Fin S16x4096.rank)

variable [Facts]

def fn {F : FTy → Type} [FloatOps F] (main_arg0 : FVec F S4096x4096 .f32) (main_arg1 : FVec F S16x4096 .f32) : IVec S4096x4096 1 × IVec S16x4096 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S16x4096 .f32 := Host.absf main_arg1
  let main_cst_0 : FVec F S_ .f32 := constant S_ .f32 0x7F800000#32
  let main_v4 : FVec F S16x4096 .f32 := broadcastInDim S16x4096 ![] bcast_S_S16x4096 main_cst_0
  let main_v5 : IVec S16x4096 1 := cmpf .olt main_v3 main_v4
  (main_v2, main_v5)
-- ==== Pre_in_range15.lean ====
abbrev S2x4x1024x514 : Shape := ⟨4, ![2, 4, 1024, 514]⟩
abbrev S4x1024x514 : Shape := ⟨3, ![4, 1024, 514]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2x4x1024x514 .f32) (main_arg1 : FVec F S4x1024x514 .f32) (main_arg2 : IVec S1 32) : IVec S1 1 × IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 2#32
  let main_v2 : IVec S1 32 := broadcastInDim S1 ![] bcast_S_S1 main_c_0
  let main_v3 : IVec S1 1 := cmpi .slt main_arg2 main_v2
  (main_v1, main_v3)
-- ==== Pre_in_range16.lean ====
abbrev S2x4x1024x256 : Shape := ⟨4, ![2, 4, 1024, 256]⟩
abbrev S2 : Shape := ⟨1, ![2]⟩
abbrev S2x1024x256 : Shape := ⟨3, ![2, 1024, 256]⟩
abbrev S_ : Shape := ⟨0, ![]⟩
abbrev S1 : Shape := ⟨1, ![1]⟩

class Facts : Prop where
  bcast_S_S2 : S_.BroadcastsInDim S2 (![] : Fin 0 → Fin S2.rank)
  slices_S2_S1_1 : S2.Slices ![1] S1
  bcast_S_S1 : S_.BroadcastsInDim S1 (![] : Fin 0 → Fin S1.rank)

variable [Facts]

def fn {F : FTy → Type} [FloatOps F] (main_arg0 : FVec F S2x4x1024x256 .f32) (main_arg1 : FVec F S2x4x1024x256 .f32) (main_arg2 : FVec F S2x4x1024x256 .f32) (main_arg3 : FVec F S2x4x1024x256 .f32) (main_arg4 : IVec S2 32) (main_arg5 : FVec F S2x1024x256 .f32) (main_arg6 : FVec F S2x1024x256 .f32) (main_arg7 : FVec F S2x1024x256 .f32) : IVec S2 1 × IVec S2 1 × IVec S1 1 :=
  let main_c : IVec S_ 32 := constantI S_ 32 0#32
  let main_v0 : IVec S2 32 := broadcastInDim S2 ![] bcast_S_S2 main_c
  let main_v1 : IVec S2 1 := cmpi .sge main_arg4 main_v0
  let main_c_0 : IVec S_ 32 := constantI S_ 32 4#32
  let main_v2 : IVec S2 32 := broadcastInDim S2 ![] bcast_S_S2 main_c_0
  let main_v3 : IVec S2 1 := cmpi .slt main_arg4 main_v2
  let main_v4 : IVec S1 32 := (extractStridedSlice S1 ![1] · slices_S2_S1_1) main_arg4
  let main_c_1 : IVec S_ 32 := constantI S_ 32 2#32
  let main_v5 : IVec S1 32 := broadcastInDim S1 ![] bcast_S_S1 main_c_1
  let main_v6 : IVec S1 1 := cmpi .slt main_v4 main_v5
  (main_v1, main_v3, main_v6)
-- ==== Kernel.lean ====
abbrev S4096x4112 : Shape := ⟨2, ![4096, 4112]⟩
abbrev S16 : Shape := ⟨1, ![16]⟩
abbrev S16x4096 : Shape := ⟨2, ![16, 4096]⟩
abbrev S_ : Shape := ⟨0, ![]⟩
abbrev S4096x4224 : Shape := ⟨2, ![4096, 4224]⟩
abbrev S1x16 : Shape := ⟨2, ![1, 16]⟩
abbrev S1x128 : Shape := ⟨2, ![1, 128]⟩
abbrev S128x4096 : Shape := ⟨2, ![128, 4096]⟩
abbrev S4096x128 : Shape := ⟨2, ![4096, 128]⟩
abbrev S128x512 : Shape := ⟨2, ![128, 512]⟩
abbrev S512x128 : Shape := ⟨2, ![512, 128]⟩
abbrev S512x512 : Shape := ⟨2, ![512, 512]⟩
abbrev S128 : Shape := ⟨1, ![128]⟩

abbrev nBuf : Space → Nat
  | .hbm => 15
  | .vmem => 9
  | .smem => 0
  | _ => 0

abbrev bufTy : (tb : Table) → Fin (tcTables nBuf tb) → BufTy
  | .hbm, ⟨0, _⟩ => ⟨S4096x4112, .f32⟩
  | .hbm, ⟨1, _⟩ => ⟨S16, .f32⟩
  | .hbm, ⟨2, _⟩ => ⟨S16x4096, .f32⟩
  | .hbm, ⟨3, _⟩ => ⟨S_, .i32⟩
  | .hbm, ⟨4, _⟩ => ⟨S_, .f32⟩
  | .hbm, ⟨5, _⟩ => ⟨S4096x4224, .f32⟩
  | .hbm, ⟨6, _⟩ => ⟨S1x16, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S_, .i32⟩
  | .hbm, ⟨11, _⟩ => ⟨S_, .f32⟩
  | .hbm, ⟨12, _⟩ => ⟨S128x4096, .f32⟩
  | .hbm, ⟨13, _⟩ => ⟨S4096x128, .bf16⟩
  | .hbm, ⟨14, _⟩ => ⟨S1x128, .f32⟩
  | .local _ .vmem, ⟨0, _⟩ => ⟨S128x512, .f32⟩
  | .local _ .vmem, ⟨1, _⟩ => ⟨S128x512, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S512x128, .bf16⟩
  | .local _ .vmem, ⟨6, _⟩ => ⟨S512x128, .bf16⟩
  | .local _ .vmem, ⟨7, _⟩ => ⟨S1x128, .f32⟩
  | .local _ .vmem, ⟨8, _⟩ => ⟨S1x128, .f32⟩
  | _, _ => ⟨S4096x4112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_c_1 : Ref sig .tc := ⟨.hbm, 10, rfl⟩
abbrev main_call2_v0 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let c0_i32 : BitVec 32 := 0#32
  ![v0.toNat, c32_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x4112 : Shape := ⟨2, ![4096, 4112]⟩
abbrev S16 : Shape := ⟨1, ![16]⟩
abbrev S16x4096 : Shape := ⟨2, ![16, 4096]⟩
abbrev S4096x16 : Shape := ⟨2, ![4096, 16]⟩
abbrev S1x16 : Shape := ⟨2, ![1, 16]⟩
abbrev S_ : Shape := ⟨0, ![]⟩
abbrev S4096x128 : Shape := ⟨2, ![4096, 128]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S4096x4112, .f32⟩
  | .hbm, ⟨1, _⟩ => ⟨S16, .f32⟩
  | .hbm, ⟨2, _⟩ => ⟨S16x4096, .f32⟩
  | .hbm, ⟨3, _⟩ => ⟨S4096x16, .f32⟩
  | .hbm, ⟨4, _⟩ => ⟨S1x16, .f32⟩
  | .hbm, ⟨5, _⟩ => ⟨S4096x16, .f32⟩
  | .hbm, ⟨6, _⟩ => ⟨S4096x16, .f32⟩
  | .hbm, ⟨7, _⟩ => ⟨S4096x16, .f32⟩
  | .hbm, ⟨8, _⟩ => ⟨S_, .f32⟩
  | .hbm, ⟨9, _⟩ => ⟨S4096x16, .f32⟩
  | .hbm, ⟨10, _⟩ => ⟨S4096x16, .f32⟩
  | .hbm, ⟨11, _⟩ => ⟨S4096x16, .f32⟩
  | .hbm, ⟨12, _⟩ => ⟨S4096x16, .f32⟩
  | .hbm, ⟨13, _⟩ => ⟨S4096x16, .i1⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S_, .f32⟩
  | .hbm, ⟨23, _⟩ => ⟨S4096x16, .f32⟩
  | .hbm, ⟨24, _⟩ => ⟨S4096x16, .i1⟩
  | .hbm, ⟨25, _⟩ => ⟨S_, .f32⟩
  | .hbm, ⟨26, _⟩ => ⟨S4096x16, .f32⟩
  | .hbm, ⟨27, _⟩ => ⟨S4096x16, .f32⟩
  | .hbm, ⟨28, _⟩ => ⟨S_, .f32⟩
  | .hbm, ⟨29, _⟩ => ⟨S4096x16, .f32⟩
  | .hbm, ⟨30, _⟩ => ⟨S4096x16, .i1⟩
  | .hbm, ⟨31, _⟩ => ⟨S_, .f32⟩
  | .hbm, ⟨32, _⟩ => ⟨S4096x16, .f32⟩
  | .hbm, ⟨33, _⟩ => ⟨S4096x16, .f32⟩
  | .hbm, ⟨34, _⟩ => ⟨S4096x16, .f32⟩
  | .hbm, ⟨35, _⟩ => ⟨S4096x16, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096x16, .f32⟩
  | .hbm, ⟨44, _⟩ => ⟨S4096x16, .i1⟩
  | .hbm, ⟨45, _⟩ => ⟨S_, .f32⟩
  | .hbm, ⟨46, _⟩ => ⟨S4096x16, .f32⟩
  | .hbm, ⟨47, _⟩ => ⟨S4096x16, .f32⟩
  | .hbm, ⟨48, _⟩ => ⟨S4096x16, .f32⟩
  | .hbm, ⟨49, _⟩ => ⟨S4096x16, .f32⟩
  | .hbm, ⟨50, _⟩ => ⟨S4096x16, .f32⟩
  | .hbm, ⟨51, _⟩ => ⟨S_, .f32⟩
  | .hbm, ⟨52, _⟩ => ⟨S4096x16, .f32⟩
  | .hbm, ⟨53, _⟩ => ⟨S4096x16, .f32⟩
  | .hbm, ⟨54, _⟩ => ⟨S4096x16, .f32⟩
  | .hbm, ⟨55, _⟩ => ⟨S_, .f32⟩
  | .hbm, ⟨56, _⟩ => ⟨S_, .f32⟩
  | .hbm, ⟨57, _⟩ => ⟨S4096x16, .f32⟩
  | .hbm, ⟨58, _⟩ => ⟨S16x4096, .f32⟩
  | .hbm, ⟨59, _⟩ => ⟨S4096x16, .f32⟩
  | .hbm, ⟨60, _⟩ => ⟨S_, .f32⟩
  | .hbm, ⟨61, _⟩ => ⟨S_, .f32⟩
  | .hbm, ⟨62, _⟩ => ⟨S4096x16, .f32⟩
  | .hbm, ⟨63, _⟩ => ⟨S4096x16, .f32⟩
  | .hbm, ⟨64, _⟩ => ⟨S4096x16, .f32⟩
  | .hbm, ⟨65, _⟩ => ⟨S4096x16, .f32⟩
  | .hbm, ⟨66, _⟩ => ⟨S_, .f32⟩
  | .hbm, ⟨67, _⟩ => ⟨S16, .f32⟩
  | .hbm, ⟨68, _⟩ => ⟨S1x16, .f32⟩
  | .hbm, ⟨69, _⟩ => ⟨S_, .f32⟩
  | .hbm, ⟨70, _⟩ => ⟨S16, .f32⟩
  | .hbm, ⟨71, _⟩ => ⟨S_, .i32⟩
  | .hbm, ⟨72, _⟩ => ⟨S_, .f32⟩
  | .hbm, ⟨73, _⟩ => ⟨S4096x128, .f32⟩
  | .hbm, ⟨74, _⟩ => ⟨S4096x128, .bf16⟩
  | .hbm, ⟨75, _⟩ => ⟨S1x16, .f32⟩
  | .hbm, ⟨76, _⟩ => ⟨S_, .i32⟩
  | .hbm, ⟨77, _⟩ => ⟨S_, .f32⟩
  | .hbm, ⟨78, _⟩ => ⟨S1x128, .f32⟩
  | _, _ => ⟨S4096x4112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v4_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v4_2 : Ref sig .tc := ⟨.hbm, 53, rfl⟩
abbrev main_v4_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_call2_call0_cst : Ref sig .tc := ⟨.hbm, 60, rfl⟩
abbrev main_call2_call0_v0 : Ref sig .tc := ⟨.hbm, 61, rfl⟩
abbrev main_v8 : Ref sig .tc := ⟨.hbm, 62, rfl⟩
abbrev main_call3_v0 : Ref sig .tc := ⟨.hbm, 63, rfl⟩
abbrev main_call3_v1 : Ref sig .tc := ⟨.hbm, 64, rfl⟩
abbrev main_v9 : Ref sig .tc := ⟨.hbm, 65, rfl⟩
abbrev main_cst : Ref sig .tc := ⟨.hbm, 66, rfl⟩
abbrev main_v10 : Ref sig .tc := ⟨.hbm, 67, rfl⟩
abbrev main_v11 : Ref sig .tc := ⟨.hbm, 68, rfl⟩
abbrev main_cst_0 : Ref sig .tc := ⟨.hbm, 69, rfl⟩
abbrev main_v12 : Ref sig .tc := ⟨.hbm, 70, rfl⟩
abbrev main_c : Ref sig .tc := ⟨.hbm, 71, rfl⟩
abbrev main_call4_v0 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_c_1 : Ref sig .tc := ⟨.hbm, 76, rfl⟩
abbrev main_call5_v0 : Ref sig .tc := ⟨.hbm, 77, rfl⟩
abbrev main_v16 : Ref sig .tc := ⟨.hbm, 78, rfl⟩

abbrev nD : Nat := 1
abbrev τ : Topo := Topo.v7x

variable {F : FTy → Type} [FloatOps F]
-- ==== Kernel2.lean ====
abbrev S4096x4096 : Shape := ⟨2, ![4096, 4096]⟩
abbrev S16x4096 : Shape := ⟨2, ![16, 4096]⟩
abbrev S4096x1024 : Shape := ⟨2, ![4096, 1024]⟩
abbrev S4096x16x64 : Shape := ⟨3, ![4096, 16, 64]⟩
abbrev S16x4096x64 : Shape := ⟨3, ![16, 4096, 64]⟩
abbrev S_ : Shape := ⟨0, ![]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S16x4096x128 : Shape := ⟨3, ![16, 4096, 128]⟩
abbrev S8x2x8x512 : Shape := ⟨4, ![8, 2, 8, 512]⟩
abbrev S8x8x2x512 : Shape := ⟨4, ![8, 8, 2, 512]⟩
abbrev S512x128 : Shape := ⟨2, ![512, 128]⟩
abbrev S4096x128 : Shape := ⟨2, ![4096, 128]⟩
abbrev S1x2x8x512 : Shape := ⟨4, ![1, 2, 8, 512]⟩
abbrev S2x512x128 : Shape := ⟨3, ![2, 512, 128]⟩
abbrev S1x1x2x512 : Shape := ⟨4, ![1, 1, 2, 512]⟩
abbrev S2x8x512 : Shape := ⟨3, ![2, 8, 512]⟩
abbrev S512 : Shape := ⟨1, ![512]⟩
abbrev S512x1 : Shape := ⟨2, ![512, 1]⟩
abbrev S1x512x128 : Shape := ⟨3, ![1, 512, 128]⟩
abbrev S512x512 : Shape := ⟨2, ![512, 512]⟩
abbrev S1x1x1x512 : Shape := ⟨4, ![1, 1, 1, 512]⟩
abbrev S1x512 : Shape := ⟨2, ![1, 512]⟩
abbrev S1x1x512 : Shape := ⟨3, ![1, 1, 512]⟩
abbrev S128x512 : Shape := ⟨2, ![128, 512]⟩

abbrev nBuf : Space → Nat
  | .hbm => 64
  | .vmem => 33
  | .smem => 0
  | _ => 0

abbrev bufTy : (tb : Table) → Fin (tcTables nBuf tb) → BufTy
  | .hbm, ⟨0, _⟩ => ⟨S4096x4096, .f32⟩
  | .hbm, ⟨1, _⟩ => ⟨S16x4096, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x16x64, .f32⟩
  | .hbm, ⟨8, _⟩ => ⟨S16x4096x64, .f32⟩
  | .hbm, ⟨9, _⟩ => ⟨S_, .f32⟩
  | .hbm, ⟨10, _⟩ => ⟨S16x4096x64, .f32⟩
  | .hbm, ⟨11, _⟩ => ⟨S16x4096x64, .f32⟩
  | .hbm, ⟨12, _⟩ => ⟨S4096x16x64, .f32⟩
  | .hbm, ⟨13, _⟩ => ⟨S16x4096x64, .f32⟩
  | .hbm, ⟨14, _⟩ => ⟨S4096x16x64, .f32⟩
  | .hbm, ⟨15, _⟩ => ⟨S16x4096x64, .f32⟩
  | .hbm, ⟨16, _⟩ => ⟨S16x4096x4096, .f32⟩
  | .hbm, ⟨17, _⟩ => ⟨S16x4096x1, .f32⟩
  | .hbm, ⟨18, _⟩ => ⟨S16x4096x4096, .f32⟩
  | .hbm, ⟨19, _⟩ => ⟨S16x4096x4096, .f32⟩
  | .hbm, ⟨20, _⟩ => ⟨S16x1x4096, .f32⟩
  | .hbm, ⟨21, _⟩ => ⟨S16x4096x4096, .f32⟩
  | .hbm, ⟨22, _⟩ => ⟨S16x4096x4096, .f32⟩
  | .hbm, ⟨23, _⟩ => ⟨S4096, .i32⟩
  | .hbm, ⟨24, _⟩ => ⟨S4096x1, .i32⟩
  | .hbm, ⟨25, _⟩ => ⟨S4096, .i32⟩
  | .hbm, ⟨26, _⟩ => ⟨S1x4096, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S16x4096x4096, .i1⟩
  | .hbm, ⟨33, _⟩ => ⟨S16x4096x4096, .f32⟩
  | .hbm, ⟨34, _⟩ => ⟨S16x4096x4096, .f32⟩
  | .hbm, ⟨35, _⟩ => ⟨S_, .f32⟩
  | .hbm, ⟨36, _⟩ => ⟨S16x4096, .f32⟩
  | .hbm, ⟨37, _⟩ => ⟨S16x4096x1, .f32⟩
  | .hbm, ⟨38, _⟩ => ⟨S16x4096x4096, .f32⟩
  | .hbm, ⟨39, _⟩ => ⟨S16x4096x4096, .f32⟩
  | .hbm, ⟨40, _⟩ => ⟨S16x4096x4096, .f32⟩
  | .hbm, ⟨41, _⟩ => ⟨S_, .f32⟩
  | .hbm, ⟨42, _⟩ => ⟨S16x4096, .f32⟩
  | .hbm, ⟨43, _⟩ => ⟨S16x4096x1, .f32⟩
  | .hbm, ⟨44, _⟩ => ⟨S16x4096x4096, .f32⟩
  | .hbm, ⟨45, _⟩ => ⟨S16x4096x4096, .f32⟩
  | .hbm, ⟨46, _⟩ => ⟨S16x4096x64, .f32⟩
  | .hbm, ⟨47, _⟩ => ⟨S4096x16x64, .f32⟩
  | .hbm, ⟨48, _⟩ => ⟨S4096x1024, .f32⟩
  | .hbm, ⟨49, _⟩ => ⟨S16x4096x1, .f32⟩
  | .hbm, ⟨50, _⟩ => ⟨S16x4096x1, .f32⟩
  | .hbm, ⟨51, _⟩ => ⟨S16x4096x1, .f32⟩
  | .hbm, ⟨52, _⟩ => ⟨S16x4096x1, .f32⟩
  | .hbm, ⟨53, _⟩ => ⟨S16x4096x128, .f32⟩
  | .hbm, ⟨54, _⟩ => ⟨S8x2x8x512, .f32⟩
  | .hbm, ⟨55, _⟩ => ⟨S4096x1024, .bf16⟩
  | .hbm, ⟨56, _⟩ => ⟨S4096x1024, .bf16⟩
  | .hbm, ⟨57, _⟩ => ⟨S4096x1024, .bf16⟩
  | .hbm, ⟨58, _⟩ => ⟨S4096x1024, .bf16⟩
  | .hbm, ⟨59, _⟩ => ⟨S8x8x2x512, .f32⟩
  | .hbm, ⟨60, _⟩ => ⟨S8x2x8x512, .f32⟩
  | .hbm, ⟨61, _⟩ => ⟨S8x2x8x512, .f32⟩
  | .hbm, ⟨62, _⟩ => ⟨S8x2x8x512, .f32⟩
  | .hbm, ⟨63, _⟩ => ⟨S16x4096, .f32⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S512x128, .f32⟩
  | .local _ .vmem, ⟨7, _⟩ => ⟨S512x128, .f32⟩
  | .local _ .vmem, ⟨8, _⟩ => ⟨S1x2x8x512, .f32⟩
  | .local _ .vmem, ⟨9, _⟩ => ⟨S1x2x8x512, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S2x512x128, .f32⟩
  | .local _ .vmem, ⟨15, _⟩ => ⟨S2x512x128, .f32⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S4096x128, .bf16⟩
  | .local _ .vmem, ⟨21, _⟩ => ⟨S4096x128, .bf16⟩
  | .local _ .vmem, ⟨22, _⟩ => ⟨S4096x128, .bf16⟩
  | .local _ .vmem, ⟨23, _⟩ => ⟨S4096x128, .bf16⟩
  | .local _ .vmem, ⟨24, _⟩ => ⟨S1x1x2x512, .f32⟩
  | .local _ .vmem, ⟨25, _⟩ => ⟨S1x1x2x512, .f32⟩
  | .local _ .vmem, ⟨26, _⟩ => ⟨S1x2x8x512, .f32⟩
  | .local _ .vmem, ⟨27, _⟩ => ⟨S1x2x8x512, .f32⟩
  | .local _ .vmem, ⟨28, _⟩ => ⟨S4096x128, .bf16⟩
  | .local _ .vmem, ⟨29, _⟩ => ⟨S4096x128, .bf16⟩
  | .local _ .vmem, ⟨30, _⟩ => ⟨S4096x128, .f32⟩
  | .local _ .vmem, ⟨31, _⟩ => ⟨S4096x128, .f32⟩
  | .local _ .vmem, ⟨32, _⟩ => ⟨S2x8x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45_0 : Ref sig .tc := ⟨.hbm, 55, rfl⟩
abbrev main_v45_1 : Ref sig .tc := ⟨.hbm, 56, rfl⟩
abbrev main_v45_2 : Ref sig .tc := ⟨.hbm, 57, rfl⟩
abbrev main_v45_3 : Ref sig .tc := ⟨.hbm, 58, rfl⟩
abbrev main_v45_4 : Ref sig .tc := ⟨.hbm, 59, rfl⟩
abbrev main_v45_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_31 : BitVec 32 := 0#32
  let arg1 : BitVec 32 := BitVec.ofNat 32 (i 1).val
  let v64 : BitVec 32 := Scalar.subi arg1 c0_i32_31
  let c1_i32 : BitVec 32 := 1#32
  let v66 : BitVec 32 := Scalar.divsi v64 c1_i32
  let v67 : BitVec 32 := Scalar.muli v66 c1_i32
  let v68 : BitVec 32 := Scalar.addi c0_i32_31 v67
  let c1_i32_32 : BitVec 32 := 1#32
  ⟨c0_i32_31, v68, c1_i32_32⟩
def k0_mult1 (i : grid0.Coords) (k0_t1 : Fin (k0_t1_loop i).trips) : BitVec 32 :=
  let c0_i32_31 : BitVec 32 := 0#32
  let c1_i32_32 : BitVec 32 := 1#32
  let arg21 : BitVec 32 := Scf.iv c0_i32_31 c1_i32_32 k0_t1
  let c512_i32_86 : BitVec 32 := 512#32
  let v201 : BitVec 32 := Scalar.muli arg21 c512_i32_86
  v201
def k0_off1 (i : grid0.Coords) (k0_t1 : Fin (k0_t1_loop i).trips) : Fin 2 → Nat :=
  let c0_i32_31 : BitVec 32 := 0#32
  let c1_i32_32 : BitVec 32 := 1#32
  let arg21 : BitVec 32 := Scf.iv c0_i32_31 c1_i32_32 k0_t1
  let c512_i32_86 : BitVec 32 := 512#32
  let v201 : BitVec 32 := Scalar.muli arg21 c512_i32_86
  let v202 : BitVec 32 := v201
  let v203 : Index := Scalar.indexCast v202
  let c0_87 : Index := 0#32
  ![v203.toNat, 0]
def k0_off2 (i : grid0.Coords) (k0_t1 : Fin (k0_t1_loop i).trips) : Fin 4 → Nat :=
  let c0_90 : Index := 0#32
  let c0_91 : Index := 0#32
  let c0_i32_31 : BitVec 32 := 0#32
  let c1_i32_32 : BitVec 32 := 1#32
  let arg21 : BitVec 32 := Scf.iv c0_i32_31 c1_i32_32 k0_t1
  let v208 : Index := Scalar.indexCast arg21
  let c0_92 : Index := 0#32
  ![0, 0, v208.toNat, 0]
def k0_off3 (i : grid0.Coords) (k0_t1 : Fin (k0_t1_loop i).trips) : Fin 3 → Nat :=
  let c0_96 : Index := 0#32
  let c0_i32_31 : BitVec 32 := 0#32
  let c1_i32_32 : BitVec 32 := 1#32
  let arg21 : BitVec 32 := Scf.iv c0_i32_31 c1_i32_32 k0_t1
  let v224 : Index := Scalar.indexCast arg21
  let c0_97 : Index := 0#32
  ![0, v224.toNat, 0]
def k0_off4 (i : grid0.Coords) (k0_t1 : Fin (k0_t1_loop i).trips) : Fin 4 → Nat :=
  let c0_104 : Index := 0#32
  let c1_105 : Index := 1#32
  let c0_i32_31 : BitVec 32 := 0#32
  let c1_i32_32 : BitVec 32 := 1#32
  let arg21 : BitVec 32 := Scf.iv c0_i32_31 c1_i32_32 k0_t1
  let v240 : Index := Scalar.indexCast arg21
  let c0_106 : Index := 0#32
  ![0, 1, v240.toNat, 0]
def k0_off5 (i : grid0.Coords) (k0_t1 : Fin (k0_t1_loop i).trips) : Fin 3 → Nat :=
  let c1_110 : Index := 1#32
  let c0_i32_31 : BitVec 32 := 0#32
  let c1_i32_32 : BitVec 32 := 1#32
  let arg21 : BitVec 32 := Scf.iv c0_i32_31 c1_i32_32 k0_t1
  let v258 : Index := Scalar.indexCast arg21
  let c0_111 : Index := 0#32
  ![1, v258.toNat, 0]
@[reducible] def k0_t2_loop (i : grid0.Coords) : Scf.Loop 32 :=
  let c0_i32_31 : BitVec 32 := 0#32
  let arg1 : BitVec 32 := BitVec.ofNat 32 (i 1).val
  let v64 : BitVec 32 := Scalar.subi arg1 c0_i32_31
  let c1_i32 : BitVec 32 := 1#32
  let v66 : BitVec 32 := Scalar.divsi v64 c1_i32
  let v67 : BitVec 32 := Scalar.muli v66 c1_i32
  let v68 : BitVec 32 := Scalar.addi c0_i32_31 v67
  let v65 : BitVec 32 := Scalar.addi c0_i32_31 v64
  let c1_i32_33 : BitVec 32 := 1#32
  ⟨v68, v65, c1_i32_33⟩
def k0_mult2 (i : grid0.Coords) (k0_t2 : Fin (k0_t2_loop i).trips) : BitVec 32 :=
  let c0_i32_31 : BitVec 32 := 0#32
  let arg1 : BitVec 32 := BitVec.ofNat 32 (i 1).val
  let v64 : BitVec 32 := Scalar.subi arg1 c0_i32_31
  let c1_i32 : BitVec 32 := 1#32
  let v66 : BitVec 32 := Scalar.divsi v64 c1_i32
  let v67 : BitVec 32 := Scalar.muli v66 c1_i32
  let v68 : BitVec 32 := Scalar.addi c0_i32_31 v67
  let c1_i32_33 : BitVec 32 := 1#32
  let arg21 : BitVec 32 := Scf.iv v68 c1_i32_33 k0_t2
  let c512_i32_86 : BitVec 32 := 512#32
  let v201 : BitVec 32 := Scalar.muli arg21 c512_i32_86
  v201
def k0_off6 (i : grid0.Coords) (k0_t2 : Fin (k0_t2_loop i).trips) : Fin 2 → Nat :=
  let c0_i32_31 : BitVec 32 := 0#32
  let arg1 : BitVec 32 := BitVec.ofNat 32 (i 1).val
  let v64 : BitVec 32 := Scalar.subi arg1 c0_i32_31
  let c1_i32 : BitVec 32 := 1#32
  let v66 : BitVec 32 := Scalar.divsi v64 c1_i32
  let v67 : BitVec 32 := Scalar.muli v66 c1_i32
  let v68 : BitVec 32 := Scalar.addi c0_i32_31 v67
  let c1_i32_33 : BitVec 32 := 1#32
  let arg21 : BitVec 32 := Scf.iv v68 c1_i32_33 k0_t2
  let c512_i32_86 : BitVec 32 := 512#32
  let v201 : BitVec 32 := Scalar.muli arg21 c512_i32_86
  let v202 : BitVec 32 := v201
  let v203 : Index := Scalar.indexCast v202
  let c0_87 : Index := 0#32
  ![v203.toNat, 0]
def k0_off7 (i : grid0.Coords) (k0_t2 : Fin (k0_t2_loop i).trips) : Fin 4 → Nat :=
  let c0_90 : Index := 0#32
  let c0_91 : Index := 0#32
  let c0_i32_31 : BitVec 32 := 0#32
  let arg1 : BitVec 32 := BitVec.ofNat 32 (i 1).val
  let v64 : BitVec 32 := Scalar.subi arg1 c0_i32_31
  let c1_i32 : BitVec 32 := 1#32
  let v66 : BitVec 32 := Scalar.divsi v64 c1_i32
  let v67 : BitVec 32 := Scalar.muli v66 c1_i32
  let v68 : BitVec 32 := Scalar.addi c0_i32_31 v67
  let c1_i32_33 : BitVec 32 := 1#32
  let arg21 : BitVec 32 := Scf.iv v68 c1_i32_33 k0_t2
  let v208 : Index := Scalar.indexCast arg21
  let c0_92 : Index := 0#32
  ![0, 0, v208.toNat, 0]
def k0_off8 (i : grid0.Coords) (k0_t2 : Fin (k0_t2_loop i).trips) : Fin 3 → Nat :=
  let c0_96 : Index := 0#32
  let c0_i32_31 : BitVec 32 := 0#32
  let arg1 : BitVec 32 := BitVec.ofNat 32 (i 1).val
  let v64 : BitVec 32 := Scalar.subi arg1 c0_i32_31
  let c1_i32 : BitVec 32 := 1#32
  let v66 : BitVec 32 := Scalar.divsi v64 c1_i32
  let v67 : BitVec 32 := Scalar.muli v66 c1_i32
  let v68 : BitVec 32 := Scalar.addi c0_i32_31 v67
  let c1_i32_33 : BitVec 32 := 1#32
  let arg21 : BitVec 32 := Scf.iv v68 c1_i32_33 k0_t2
  let v224 : Index := Scalar.indexCast arg21
  let c0_97 : Index := 0#32
  ![0, v224.toNat, 0]
def k0_off9 (i : grid0.Coords) (k0_t2 : Fin (k0_t2_loop i).trips) : Fin 4 → Nat :=
  let c0_104 : Index := 0#32
  let c1_105 : Index := 1#32
  let c0_i32_31 : BitVec 32 := 0#32
  let arg1 : BitVec 32 := BitVec.ofNat 32 (i 1).val
  let v64 : BitVec 32 := Scalar.subi arg1 c0_i32_31
  let c1_i32 : BitVec 32 := 1#32
  let v66 : BitVec 32 := Scalar.divsi v64 c1_i32
  let v67 : BitVec 32 := Scalar.muli v66 c1_i32
  let v68 : BitVec 32 := Scalar.addi c0_i32_31 v67
  let c1_i32_33 : BitVec 32 := 1#32
  let arg21 : BitVec 32 := Scf.iv v68 c1_i32_33 k0_t2
  let v240 : Index := Scalar.indexCast arg21
  let c0_106 : Index := 0#32
  ![0, 1, v240.toNat, 0]
def k0_off10 (i : grid0.Coords) (k0_t2 : Fin (k0_t2_loop i).trips) : Fin 3 → Nat :=
  let c1_110 : Index := 1#32
  let c0_i32_31 : BitVec 32 := 0#32
  let arg1 : BitVec 32 := BitVec.ofNat 32 (i 1).val
  let v64 : BitVec 32 := Scalar.subi arg1 c0_i32_31
  let c1_i32 : BitVec 32 := 1#32
  let v66 : BitVec 32 := Scalar.divsi v64 c1_i32
  let v67 : BitVec 32 := Scalar.muli v66 c1_i32
  let v68 : BitVec 32 := Scalar.addi c0_i32_31 v67
  let c1_i32_33 : BitVec 32 := 1#32
  let arg21 : BitVec 32 := Scf.iv v68 c1_i32_33 k0_t2
  let v258 : Index := Scalar.indexCast arg21
  let c0_111 : Index := 0#32
  ![1, v258.toNat, 0]
def k0_mult3 (i : grid0.Coords) : BitVec 32 :=
  let arg1 : BitVec 32 := BitVec.ofNat 32 (i 1).val
  let c512_i32 : BitVec 32 := 512#32
  let v71 : BitVec 32 := Scalar.muli arg1 c512_i32
  v71
def k0_off11 (i : grid0.Coords) : Fin 2 → Nat :=
  let arg1 : BitVec 32 := BitVec.ofNat 32 (i 1).val
  let c512_i32 : BitVec 32 := 512#32
  let v71 : BitVec 32 := Scalar.muli arg1 c512_i32
  let v72 : BitVec 32 := v71
  let v73 : Index := Scalar.indexCast v72
  let c0_34 : Index := 0#32
  ![v73.toNat, 0]
def k0_off12 (i : grid0.Coords) : Fin 4 → Nat :=
  let c0_37 : Index := 0#32
  let c0_38 : Index := 0#32
  let arg1 : BitVec 32 := BitVec.ofNat 32 (i 1).val
  let v78 : Index := Scalar.indexCast arg1
  let c0_39 : Index := 0#32
  ![0, 0, v78.toNat, 0]
def k0_off13 (i : grid0.Coords) : Fin 3 → Nat :=
  let c0_46 : Index := 0#32
  let arg1 : BitVec 32 := BitVec.ofNat 32 (i 1).val
  let v105 : Index := Scalar.indexCast arg1
  let c0_47 : Index := 0#32
  ![0, v105.toNat, 0]
def k0_off14 (i : grid0.Coords) : Fin 4 → Nat :=
  let c0_54 : Index := 0#32
  let c1_55 : Index := 1#32
  let arg1 : BitVec 32 := BitVec.ofNat 32 (i 1).val
  let v121 : Index := Scalar.indexCast arg1
  let c0_56 : Index := 0#32
  ![0, 1, v121.toNat, 0]
def k0_off15 (i : grid0.Coords) : Fin 3 → Nat :=
  let c1_63 : Index := 1#32
  let arg1 : BitVec 32 := BitVec.ofNat 32 (i 1).val
  let v150 : Index := Scalar.indexCast arg1
  let c0_64 : Index := 0#32
  ![1, v150.toNat, 0]
def k0_cond2 (i : grid0.Coords) : BitVec 1 :=
  let arg1 : BitVec 32 := BitVec.ofNat 32 (i 1).val
  let c7_i32 : BitVec 32 := 7#32
  let v198 : BitVec 1 := Scalar.cmpi .eq arg1 c7_i32
  let v199 : BitVec 32 := Scalar.extui v198
  let c0_i32_85 : BitVec 32 := 0#32
  let v200 : BitVec 1 := Scalar.cmpi .ne v199 c0_i32_85
  v200

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S4096x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x2x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference2Ideal.lean ====
abbrev S4096x4096 : Shape := ⟨2, ![4096, 4096]⟩
abbrev S16x4096 : Shape := ⟨2, ![16, 4096]⟩
abbrev S4096x1024 : Shape := ⟨2, ![4096, 1024]⟩
abbrev S4096x16x64 : Shape := ⟨3, ![4096, 16, 64]⟩
abbrev S16x4096x64 : Shape := ⟨3, ![16, 4096, 64]⟩
abbrev S_ : Shape := ⟨0, ![]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S16x64x4096 : Shape := ⟨3, ![16, 64, 4096]⟩

abbrev nBuf : Space → Nat
  | .hbm => 147
  | .vmem => 0
  | .smem => 0
  | _ => 0

abbrev hbmTy0_0 (i : Nat) : BufTy := match i % 128 with
  | 0 => ⟨S4096x4096, .f32⟩
  | 1 => ⟨S16x4096, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x16x64, .f32⟩
  | 8 => ⟨S16x4096x64, .f32⟩
  | 9 => ⟨S_, .f32⟩
  | 10 => ⟨S16x4096x64, .f32⟩
  | 11 => ⟨S16x4096x64, .f32⟩
  | 12 => ⟨S4096x16x64, .f32⟩
  | 13 => ⟨S16x4096x64, .f32⟩
  | 14 => ⟨S4096x16x64, .f32⟩
  | 15 => ⟨S16x4096x64, .f32⟩
  | 16 => ⟨S16x4096x4096, .f32⟩
  | 17 => ⟨S16x4096x1, .f32⟩
  | 18 => ⟨S16x4096x4096, .f32⟩
  | 19 => ⟨S16x4096x4096, .f32⟩
  | 20 => ⟨S16x1x4096, .f32⟩
  | 21 => ⟨S16x4096x4096, .f32⟩
  | 22 => ⟨S16x4096x4096, .f32⟩
  | 23 => ⟨S4096, .i32⟩
  | 24 => ⟨S4096x1, .i32⟩
  | 25 => ⟨S4096, .i32⟩
  | 26 => ⟨S1x4096, .i32⟩
  | 27 => ⟨S4096x4096, .i32⟩
  | 28 => ⟨S4096x4096, .i32⟩
  | 29 => ⟨S4096x4096, .i1⟩
  | 30 => ⟨S_, .f32⟩
  | 31 => ⟨S_, .f32⟩
  | 32 => ⟨S16x4096x4096, .i1⟩
  | 33 => ⟨S16x4096x4096, .f32⟩
  | 34 => ⟨S16x4096x4096, .f32⟩
  | 35 => ⟨S_, .f32⟩
  | 36 => ⟨S16x4096x4096, .f32⟩
  | 37 => ⟨S_, .f32⟩
  | 38 => ⟨S16x4096, .f32⟩
  | 39 => ⟨S16x4096x1, .f32⟩
  | 40 => ⟨S16x4096x4096, .f32⟩
  | 41 => ⟨S16x4096x4096, .i1⟩
  | 42 => ⟨S16x4096x4096, .f32⟩
  | 43 => ⟨S_, .f32⟩
  | 44 => ⟨S16x4096, .f32⟩
  | 45 => ⟨S_, .f32⟩
  | 46 => ⟨S16x4096, .f32⟩
  | 47 => ⟨S16x4096, .f32⟩
  | 48 => ⟨S_, .f32⟩
  | 49 => ⟨S16x4096, .f32⟩
  | 50 => ⟨S16x4096, .i1⟩
  | 51 => ⟨S_, .f32⟩
  | 52 => ⟨S16x4096, .f32⟩
  | 53 => ⟨S16x4096, .i1⟩
  | 54 => ⟨S_, .f32⟩
  | 55 => ⟨S16x4096, .f32⟩
  | 56 => ⟨S_, .f32⟩
  | 57 => ⟨S16x4096, .f32⟩
  | 58 => ⟨S_, .f32⟩
  | 59 => ⟨S16x4096, .f32⟩
  | 60 => ⟨S16x4096, .f32⟩
  | 61 => ⟨S16x4096, .f32⟩
  | 62 => ⟨S16x4096x1, .f32⟩
  | 63 => ⟨S16x4096x4096, .f32⟩
  | 64 => ⟨S16x4096x4096, .f32⟩
  | 65 => ⟨S16x4096x4096, .f32⟩
  | 66 => ⟨S_, .f32⟩
  | 67 => ⟨S16x4096, .f32⟩
  | 68 => ⟨S16x4096x1, .f32⟩
  | 69 => ⟨S16x4096x4096, .f32⟩
  | 70 => ⟨S16x4096x4096, .f32⟩
  | 71 => ⟨S16x4096x1, .f32⟩
  | 72 => ⟨S_, .f32⟩
  | 73 => ⟨S16x4096x1, .f32⟩
  | 74 => ⟨S16x4096x1, .f32⟩
  | 75 => ⟨S16x4096x64, .f32⟩
  | 76 => ⟨S4096x16x64, .f32⟩
  | 77 => ⟨S4096x1024, .f32⟩
  | 78 => ⟨S4096x1024, .f32⟩
  | 79 => ⟨S4096x1024, .f32⟩
  | 80 => ⟨S_, .f32⟩
  | 81 => ⟨S4096x1024, .f32⟩
  | 82 => ⟨S4096x1024, .f32⟩
  | 83 => ⟨S_, .f32⟩
  | 84 => ⟨S4096x1024, .f32⟩
  | 85 => ⟨S4096x1024, .f32⟩
  | 86 => ⟨S_, .f32⟩
  | 87 => ⟨S4096x1024, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S4096x16x64, .f32⟩
  | 99 => ⟨S16x4096x64, .f32⟩
  | 100 => ⟨S16x64x4096, .f32⟩
  | 101 => ⟨S16x4096x64, .f32⟩
  | 102 => ⟨S16x4096x4096, .f32⟩
  | 103 => ⟨S16x4096x4096, .f32⟩
  | 104 => ⟨S16x4096x4096, .f32⟩
  | 105 => ⟨S16x4096x4096, .f32⟩
  | 106 => ⟨S_, .f32⟩
  | 107 => ⟨S16x4096, .f32⟩
  | 108 => ⟨S16x4096x1, .f32⟩
  | 109 => ⟨S16x4096x1, .f32⟩
  | 110 => ⟨S16x4096x4096, .f32⟩
  | 111 => ⟨S16x4096x4096, .f32⟩
  | 112 => ⟨S_, .f32⟩
  | 113 => ⟨S16x4096, .f32⟩
  | 114 => ⟨S16x4096x4096, .f32⟩
  | 115 => ⟨S16x4096x4096, .f32⟩
  | 116 => ⟨S16x4096x4096, .f32⟩
  | 117 => ⟨S_, .f32⟩
  | 118 => ⟨S16x4096x4096, .f32⟩
  | 119 => ⟨S16x4096x4096, .f32⟩
  | 120 => ⟨S16x4096x4096, .f32⟩
  | 121 => ⟨S_, .f32⟩
  | 122 => ⟨S16x4096, .f32⟩
  | 123 => ⟨S16x1x4096, .f32⟩
  | 124 => ⟨S_, .f32⟩
  | 125 => ⟨S16x4096, .f32⟩
  | 126 => ⟨S_, .f32⟩
  | 127 => ⟨S16x4096, .f32⟩
  | _ => ⟨S4096x4096, .f32⟩

abbrev hbmTy0_1 (i : Nat) : BufTy := match i % 128 with
  | 0 => ⟨S16x4096x1, .f32⟩
  | 1 => ⟨S_, .f32⟩
  | 2 => ⟨S16x4096, .f32⟩
  | 3 => ⟨S16x4096, .f32⟩
  | 4 => ⟨S16x4096x64, .f32⟩
  | 5 => ⟨S16x4096x64, .f32⟩
  | 6 => ⟨S4096x16x64, .f32⟩
  | 7 => ⟨S4096x1024, .f32⟩
  | 8 => ⟨S4096x16x64, .f32⟩
  | 9 => ⟨S4096x1024, .f32⟩
  | 10 => ⟨S_, .f32⟩
  | 11 => ⟨S16x4096x64, .f32⟩
  | 12 => ⟨S16x4096x64, .f32⟩
  | 13 => ⟨S4096x16x64, .f32⟩
  | 14 => ⟨S4096x1024, .f32⟩
  | 15 => ⟨S4096x1024, .bf16⟩
  | 16 => ⟨S4096x1024, .bf16⟩
  | 17 => ⟨S4096x1024, .bf16⟩
  | 18 => ⟨S4096x1024, .bf16⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_v26_1 : Ref sig .tc := ⟨.hbm, 32, rfl⟩
abbrev main_call0_v2 : Ref sig .tc := ⟨.hbm, 33, rfl⟩
abbrev main_v26_0 : Ref sig .tc := ⟨.hbm, 34, rfl⟩
abbrev main_call0_cst : Ref sig .tc := ⟨.hbm, 35, rfl⟩
abbrev main_v26_2 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_call1_v0 : Ref sig .tc := ⟨.hbm, 78, rfl⟩
abbrev main_call1_v1 : Ref sig .tc := ⟨.hbm, 79, rfl⟩
abbrev main_call1_cst : Ref sig .tc := ⟨.hbm, 80, rfl⟩
abbrev main_call1_v2 : Ref sig .tc := ⟨.hbm, 81, rfl⟩
abbrev main_call1_v3 : Ref sig .tc := ⟨.hbm, 82, rfl⟩
abbrev main_call1_cst_0 : Ref sig .tc := ⟨.hbm, 83, rfl⟩
abbrev main_call1_v4 : Ref sig .tc := ⟨.hbm, 84, rfl⟩
abbrev main_v58_2 : Ref sig .tc := ⟨.hbm, 85, rfl⟩
abbrev main_call1_cst_1 : Ref sig .tc := ⟨.hbm, 86, rfl⟩
abbrev main_call1_v6 : Ref sig .tc := ⟨.hbm, 87, rfl⟩
abbrev main_call1_v7 : Ref sig .tc := ⟨.hbm, 88, rfl⟩
abbrev main_v58_1 : Ref sig .tc := ⟨.hbm, 89, rfl⟩
abbrev main_v58_0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_11 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_12 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_call3_cst : Ref sig .tc := ⟨.hbm, 117, rfl⟩
abbrev main_call3_v0 : Ref sig .tc := ⟨.hbm, 118, rfl⟩
abbrev main_v80 : Ref sig .tc := ⟨.hbm, 119, rfl⟩
abbrev main_v81 : Ref sig .tc := ⟨.hbm, 120, rfl⟩
abbrev main_cst_13 : Ref sig .tc := ⟨.hbm, 121, rfl⟩
abbrev main_v82 : Ref sig .tc := ⟨.hbm, 122, rfl⟩
abbrev main_v83 : Ref sig .tc := ⟨.hbm, 123, rfl⟩
abbrev main_cst_14 : Ref sig .tc := ⟨.hbm, 124, rfl⟩
abbrev main_v84 : Ref sig .tc := ⟨.hbm, 125, rfl⟩
abbrev main_cst_15 : Ref sig .tc := ⟨.hbm, 126, rfl⟩
abbrev main_v85 : Ref sig .tc := ⟨.hbm, 127, rfl⟩
abbrev main_v86 : Ref sig .tc := ⟨.hbm, 128, rfl⟩
abbrev main_cst_16 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_17 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S256x1024 : Shape := ⟨2, ![256, 1024]⟩
abbrev S256x1 : Shape := ⟨2, ![256, 1]⟩
abbrev S256 : Shape := ⟨1, ![256]⟩

abbrev nBuf : Space → Nat
  | .hbm => 39
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S1x1024, .f32⟩
  | .hbm, ⟨33, _⟩ => ⟨S4096x1024, .f32⟩
  | .hbm, ⟨34, _⟩ => ⟨S4096x1024, .bf16⟩
  | .hbm, ⟨35, _⟩ => ⟨S1x1024, .f32⟩
  | .hbm, ⟨36, _⟩ => ⟨S1x1024, .f32⟩
  | .hbm, ⟨37, _⟩ => ⟨S_, .f32⟩
  | .hbm, ⟨38, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1, .f32⟩
  | .local _ .vmem, ⟨7, _⟩ => ⟨S256x1, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev main_cst_4 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 110
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x1024, .f32⟩
  | .hbm, ⟨81, _⟩ => ⟨S4096x1024, .f32⟩
  | .hbm, ⟨82, _⟩ => ⟨S4096x1, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S_, .f32⟩
  | .hbm, ⟨96, _⟩ => ⟨S4096, .f32⟩
  | .hbm, ⟨97, _⟩ => ⟨S4096x1, .f32⟩
  | .hbm, ⟨98, _⟩ => ⟨S4096x1024, .f32⟩
  | .hbm, ⟨99, _⟩ => ⟨S4096x1, .f32⟩
  | .hbm, ⟨100, _⟩ => ⟨S_, .f32⟩
  | .hbm, ⟨101, _⟩ => ⟨S4096x1, .f32⟩
  | .hbm, ⟨102, _⟩ => ⟨S4096x1, .f32⟩
  | .hbm, ⟨103, _⟩ => ⟨S_, .f32⟩
  | .hbm, ⟨104, _⟩ => ⟨S4096, .f32⟩
  | .hbm, ⟨105, _⟩ => ⟨S4096x1024, .f32⟩
  | .hbm, ⟨106, _⟩ => ⟨S4096x1024, .f32⟩
  | .hbm, ⟨107, _⟩ => ⟨S4096x1024, .bf16⟩
  | .hbm, ⟨108, _⟩ => ⟨S1x1024, .f32⟩
  | .hbm, ⟨109, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_cst_11 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_cst_16 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_17 : Ref sig .tc := ⟨.hbm, 74, rfl⟩
abbrev main_v52 : Ref sig .tc := ⟨.hbm, 75, rfl⟩
abbrev main_v53 : Ref sig .tc := ⟨.hbm, 76, rfl⟩
abbrev main_cst_18 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_19 : Ref sig .tc := ⟨.hbm, 84, rfl⟩
abbrev main_v60 : Ref sig .tc := ⟨.hbm, 85, rfl⟩
abbrev main_v61 : Ref sig .tc := ⟨.hbm, 86, rfl⟩
abbrev main_cst_20 : Ref sig .tc := ⟨.hbm, 87, rfl⟩
abbrev main_v62 : Ref sig .tc := ⟨.hbm, 88, rfl⟩
abbrev main_v63 : Ref sig .tc := ⟨.hbm, 89, rfl⟩
abbrev main_cst_21 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_22 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_23 : Ref sig .tc := ⟨.hbm, 100, rfl⟩
abbrev main_v72 : Ref sig .tc := ⟨.hbm, 101, rfl⟩
abbrev main_v73 : Ref sig .tc := ⟨.hbm, 102, rfl⟩
abbrev main_cst_24 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S4096x2048 : Shape := ⟨2, ![4096, 2048]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S512x2048 : Shape := ⟨2, ![512, 2048]⟩
abbrev S512x1024 : Shape := ⟨2, ![512, 1024]⟩
abbrev S512x1 : Shape := ⟨2, ![512, 1]⟩
abbrev S512 : Shape := ⟨1, ![512]⟩

abbrev nBuf : Space → Nat
  | .hbm => 32
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S4096x2048, .bf16⟩
  | .hbm, ⟨4, _⟩ => ⟨S1024x2048, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .bf16⟩
  | .hbm, ⟨30, _⟩ => ⟨S1x1024, .f32⟩
  | .hbm, ⟨31, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v17_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S4096x1024 : Shape := ⟨2, ![4096, 1024]⟩
abbrev S1024 : Shape := ⟨1, ![1024]⟩
abbrev S4096x2048 : Shape := ⟨2, ![4096, 2048]⟩
abbrev S1024x2048 : Shape := ⟨2, ![1024, 2048]⟩
abbrev S_ : Shape := ⟨0, ![]⟩
abbrev S2048x1024 : Shape := ⟨2, ![2048, 1024]⟩
abbrev S4096 : Shape := ⟨1, ![4096]⟩
abbrev S4096x1 : Shape := ⟨2, ![4096, 1]⟩
abbrev S1x1024 : Shape := ⟨2, ![1, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S4096x2048, .bf16⟩
  | .hbm, ⟨4, _⟩ => ⟨S1024x2048, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x2048, .f32⟩
  | .hbm, ⟨10, _⟩ => ⟨S2048x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x1024, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | .hbm, ⟨93, _⟩ => ⟨S4096x1024, .bf16⟩
  | .hbm, ⟨94, _⟩ => ⟨S1x1024, .f32⟩
  | .hbm, ⟨95, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_v54 : Ref sig .tc := ⟨.hbm, 75, rfl⟩
abbrev main_cst_14 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_15 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_16 : Ref sig .tc := ⟨.hbm, 86, rfl⟩
abbrev main_v63 : Ref sig .tc := ⟨.hbm, 87, rfl⟩
abbrev main_v64 : Ref sig .tc := ⟨.hbm, 88, rfl⟩
abbrev main_cst_17 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩

abbrev nD : Nat := 1
abbrev τ : Topo := Topo.v7x

variable {F : FTy → Type} [FloatOps F]
-- ==== Kernel5.lean ====
abbrev S4096x4096 : Shape := ⟨2, ![4096, 4096]⟩
abbrev S16x4096 : Shape := ⟨2, ![16, 4096]⟩
abbrev S8x2x4x1024 : Shape := ⟨4, ![8, 2, 4, 1024]⟩
abbrev S4096x1024 : Shape := ⟨2, ![4096, 1024]⟩
abbrev S16x4096x128 : Shape := ⟨3, ![16, 4096, 128]⟩
abbrev S1024x128 : Shape := ⟨2, ![1024, 128]⟩
abbrev S4096x128 : Shape := ⟨2, ![4096, 128]⟩
abbrev S1x2x4x1024 : Shape := ⟨4, ![1, 2, 4, 1024]⟩
abbrev S2x1024x128 : Shape := ⟨3, ![2, 1024, 128]⟩
abbrev S1x1x1x1024 : Shape := ⟨4, ![1, 1, 1, 1024]⟩
abbrev S1x1024 : Shape := ⟨2, ![1, 1024]⟩
abbrev S1x1 : Shape := ⟨2, ![1, 1]⟩
abbrev S1024x1 : Shape := ⟨2, ![1024, 1]⟩
abbrev S1024x1024 : Shape := ⟨2, ![1024, 1024]⟩
abbrev S1024 : Shape := ⟨1, ![1024]⟩
abbrev S512x1 : Shape := ⟨2, ![512, 1]⟩
abbrev S512x128 : Shape := ⟨2, ![512, 128]⟩
abbrev S512x512 : Shape := ⟨2, ![512, 512]⟩
abbrev S1x512 : Shape := ⟨2, ![1, 512]⟩
abbrev S512 : Shape := ⟨1, ![512]⟩
abbrev S512x1024 : Shape := ⟨2, ![512, 1024]⟩
abbrev S1x1024x128 : Shape := ⟨3, ![1, 1024, 128]⟩

abbrev nBuf : Space → Nat
  | .hbm => 6
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S16x4096, .f32⟩
  | .hbm, ⟨2, _⟩ => ⟨S8x2x4x1024, .f32⟩
  | .hbm, ⟨3, _⟩ => ⟨S4096x1024, .f32⟩
  | .hbm, ⟨4, _⟩ => ⟨S4096x1024, .bf16⟩
  | .hbm, ⟨5, _⟩ => ⟨S16x4096x128, .f32⟩
  | .local _ .vmem, ⟨0, _⟩ => ⟨S1024x128, .f32⟩
  | .local _ .vmem, ⟨1, _⟩ => ⟨S1024x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1024x128, .f32⟩
  | .local _ .vmem, ⟨7, _⟩ => ⟨S1024x128, .f32⟩
  | .local _ .vmem, ⟨8, _⟩ => ⟨S1x2x4x1024, .f32⟩
  | .local _ .vmem, ⟨9, _⟩ => ⟨S1x2x4x1024, .f32⟩
  | .local _ .vmem, ⟨10, _⟩ => ⟨S1024x128, .f32⟩
  | .local _ .vmem, ⟨11, _⟩ => ⟨S1024x128, .f32⟩
  | .local _ .vmem, ⟨12, _⟩ => ⟨S1024x128, .bf16⟩
  | .local _ .vmem, ⟨13, _⟩ => ⟨S1024x128, .bf16⟩
  | .local _ .vmem, ⟨14, _⟩ => ⟨S2x1024x128, .f32⟩
  | .local _ .vmem, ⟨15, _⟩ => ⟨S2x1024x128, .f32⟩
  | .local _ .vmem, ⟨16, _⟩ => ⟨S4096x128, .bf16⟩
  | .local _ .vmem, ⟨17, _⟩ => ⟨S4096x128, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def k0_off1 (i : grid0.Coords) : Fin 4 → Nat :=
  let c0_5 : Index := 0#32
  let c0_6 : Index := 0#32
  let arg1 : BitVec 32 := BitVec.ofNat 32 (i 1).val
  let v17 : Index := Scalar.indexCast arg1
  let c0_7 : Index := 0#32
  ![0, 0, v17.toNat, 0]
def k0_off2 (i : grid0.Coords) : Fin 4 → Nat :=
  let c0_8 : Index := 0#32
  let c1 : Index := 1#32
  let arg1 : BitVec 32 := BitVec.ofNat 32 (i 1).val
  let v21 : Index := Scalar.indexCast arg1
  let c0_9 : Index := 0#32
  ![0, 1, v21.toNat, 0]
@[reducible] def k0_t1_loop (i : grid0.Coords) : Scf.Loop 32 :=
  let c0_i32_13 : BitVec 32 := 0#32
  let arg1 : BitVec 32 := BitVec.ofNat 32 (i 1).val
  let v28 : BitVec 32 := Scalar.subi arg1 c0_i32_13
  let c1_i32 : BitVec 32 := 1#32
  let v30 : BitVec 32 := Scalar.divsi v28 c1_i32
  let v31 : BitVec 32 := Scalar.muli v30 c1_i32
  let v32 : BitVec 32 := Scalar.addi c0_i32_13 v31
  let c1_i32_14 : BitVec 32 := 1#32
  ⟨c0_i32_13, v32, c1_i32_14⟩
def k0_mult1 (i : grid0.Coords) (k0_t1 : Fin (k0_t1_loop i).trips) : BitVec 32 :=
  let c0_i32_13 : BitVec 32 := 0#32
  let c1_i32_14 : BitVec 32 := 1#32
  let arg12 : BitVec 32 := Scf.iv c0_i32_13 c1_i32_14 k0_t1
  let c1024_i32_71 : BitVec 32 := 1024#32
  let v235 : BitVec 32 := Scalar.muli arg12 c1024_i32_71
  v235
def k0_off3 (i : grid0.Coords) (k0_t1 : Fin (k0_t1_loop i).trips) : Fin 2 → Nat :=
  let c0_i32_13 : BitVec 32 := 0#32
  let c1_i32_14 : BitVec 32 := 1#32
  let arg12 : BitVec 32 := Scf.iv c0_i32_13 c1_i32_14 k0_t1
  let c1024_i32_71 : BitVec 32 := 1024#32
  let v235 : BitVec 32 := Scalar.muli arg12 c1024_i32_71
  let v236 : BitVec 32 := v235
  let v237 : Index := Scalar.indexCast v236
  let c0_72 : Index := 0#32
  ![v237.toNat, 0]
def k0_off4 (i : grid0.Coords) (k0_t1 : Fin (k0_t1_loop i).trips) : Fin 4 → Nat :=
  let c0_75 : Index := 0#32
  let c0_76 : Index := 0#32
  let c0_i32_13 : BitVec 32 := 0#32
  let c1_i32_14 : BitVec 32 := 1#32
  let arg12 : BitVec 32 := Scf.iv c0_i32_13 c1_i32_14 k0_t1
  let v242 : Index := Scalar.indexCast arg12
  let c0_77 : Index := 0#32
  ![0, 0, v242.toNat, 0]
def k0_off5 (i : grid0.Coords) (k0_t1 : Fin (k0_t1_loop i).trips) : Fin 4 → Nat :=
  let c0_82 : Index := 0#32
  let c1_83 : Index := 1#32
  let c0_i32_13 : BitVec 32 := 0#32
  let c1_i32_14 : BitVec 32 := 1#32
  let arg12 : BitVec 32 := Scf.iv c0_i32_13 c1_i32_14 k0_t1
  let v267 : Index := Scalar.indexCast arg12
  let c0_84 : Index := 0#32
  ![0, 1, v267.toNat, 0]
@[reducible] def k0_t2_loop (i : grid0.Coords) : Scf.Loop 32 :=
  let c0_i32_13 : BitVec 32 := 0#32
  let arg1 : BitVec 32 := BitVec.ofNat 32 (i 1).val
  let v28 : BitVec 32 := Scalar.subi arg1 c0_i32_13
  let c1_i32 : BitVec 32 := 1#32
  let v30 : BitVec 32 := Scalar.divsi v28 c1_i32
  let v31 : BitVec 32 := Scalar.muli v30 c1_i32
  let v32 : BitVec 32 := Scalar.addi c0_i32_13 v31
  let v29 : BitVec 32 := Scalar.addi c0_i32_13 v28
  let c1_i32_15 : BitVec 32 := 1#32
  ⟨v32, v29, c1_i32_15⟩
def k0_mult2 (i : grid0.Coords) (k0_t2 : Fin (k0_t2_loop i).trips) : BitVec 32 :=
  let c0_i32_13 : BitVec 32 := 0#32
  let arg1 : BitVec 32 := BitVec.ofNat 32 (i 1).val
  let v28 : BitVec 32 := Scalar.subi arg1 c0_i32_13
  let c1_i32 : BitVec 32 := 1#32
  let v30 : BitVec 32 := Scalar.divsi v28 c1_i32
  let v31 : BitVec 32 := Scalar.muli v30 c1_i32
  let v32 : BitVec 32 := Scalar.addi c0_i32_13 v31
  let c1_i32_15 : BitVec 32 := 1#32
  let arg12 : BitVec 32 := Scf.iv v32 c1_i32_15 k0_t2
  let c1024_i32_71 : BitVec 32 := 1024#32
  let v235 : BitVec 32 := Scalar.muli arg12 c1024_i32_71
  v235
def k0_off6 (i : grid0.Coords) (k0_t2 : Fin (k0_t2_loop i).trips) : Fin 2 → Nat :=
  let c0_i32_13 : BitVec 32 := 0#32
  let arg1 : BitVec 32 := BitVec.ofNat 32 (i 1).val
  let v28 : BitVec 32 := Scalar.subi arg1 c0_i32_13
  let c1_i32 : BitVec 32 := 1#32
  let v30 : BitVec 32 := Scalar.divsi v28 c1_i32
  let v31 : BitVec 32 := Scalar.muli v30 c1_i32
  let v32 : BitVec 32 := Scalar.addi c0_i32_13 v31
  let c1_i32_15 : BitVec 32 := 1#32
  let arg12 : BitVec 32 := Scf.iv v32 c1_i32_15 k0_t2
  let c1024_i32_71 : BitVec 32 := 1024#32
  let v235 : BitVec 32 := Scalar.muli arg12 c1024_i32_71
  let v236 : BitVec 32 := v235
  let v237 : Index := Scalar.indexCast v236
  let c0_72 : Index := 0#32
  ![v237.toNat, 0]
def k0_off7 (i : grid0.Coords) (k0_t2 : Fin (k0_t2_loop i).trips) : Fin 4 → Nat :=
  let c0_75 : Index := 0#32
  let c0_76 : Index := 0#32
  let c0_i32_13 : BitVec 32 := 0#32
  let arg1 : BitVec 32 := BitVec.ofNat 32 (i 1).val
  let v28 : BitVec 32 := Scalar.subi arg1 c0_i32_13
  let c1_i32 : BitVec 32 := 1#32
  let v30 : BitVec 32 := Scalar.divsi v28 c1_i32
  let v31 : BitVec 32 := Scalar.muli v30 c1_i32
  let v32 : BitVec 32 := Scalar.addi c0_i32_13 v31
  let c1_i32_15 : BitVec 32 := 1#32
  let arg12 : BitVec 32 := Scf.iv v32 c1_i32_15 k0_t2
  let v242 : Index := Scalar.indexCast arg12
  let c0_77 : Index := 0#32
  ![0, 0, v242.toNat, 0]
def k0_off8 (i : grid0.Coords) (k0_t2 : Fin (k0_t2_loop i).trips) : Fin 4 → Nat :=
  let c0_82 : Index := 0#32
  let c1_83 : Index := 1#32
  let c0_i32_13 : BitVec 32 := 0#32
  let arg1 : BitVec 32 := BitVec.ofNat 32 (i 1).val
  let v28 : BitVec 32 := Scalar.subi arg1 c0_i32_13
  let c1_i32 : BitVec 32 := 1#32
  let v30 : BitVec 32 := Scalar.divsi v28 c1_i32
  let v31 : BitVec 32 := Scalar.muli v30 c1_i32
  let v32 : BitVec 32 := Scalar.addi c0_i32_13 v31
  let c1_i32_15 : BitVec 32 := 1#32
  let arg12 : BitVec 32 := Scf.iv v32 c1_i32_15 k0_t2
  let v267 : Index := Scalar.indexCast arg12
  let c0_84 : Index := 0#32
  ![0, 1, v267.toNat, 0]
def k0_mult3 (i : grid0.Coords) : BitVec 32 :=
  let arg1 : BitVec 32 := BitVec.ofNat 32 (i 1).val
  let c1024_i32 : BitVec 32 := 1024#32
  let v41 : BitVec 32 := Scalar.muli arg1 c1024_i32
  v41
def k0_off9 (i : grid0.Coords) : Fin 2 → Nat :=
  let arg1 : BitVec 32 := BitVec.ofNat 32 (i 1).val
  let c1024_i32 : BitVec 32 := 1024#32
  let v41 : BitVec 32 := Scalar.muli arg1 c1024_i32
  let v42 : BitVec 32 := v41
  let v43 : Index := Scalar.indexCast v42
  let c0_16 : Index := 0#32
  ![v43.toNat, 0]
def k0_mult4 (i : grid0.Coords) : BitVec 32 :=
  let arg1 : BitVec 32 := BitVec.ofNat 32 (i 1).val
  let c1024_i32_36 : BitVec 32 := 1024#32
  let v121 : BitVec 32 := Scalar.muli arg1 c1024_i32_36
  v121
def k0_off10 (i : grid0.Coords) : Fin 2 → Nat :=
  let arg1 : BitVec 32 := BitVec.ofNat 32 (i 1).val
  let c1024_i32_36 : BitVec 32 := 1024#32
  let v121 : BitVec 32 := Scalar.muli arg1 c1024_i32_36
  let v122 : BitVec 32 := v121
  let v123 : Index := Scalar.indexCast v122
  let c0_37 : Index := 0#32
  ![v123.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S4096x4096 : Shape := ⟨2, ![4096, 4096]⟩
abbrev S16x4096 : Shape := ⟨2, ![16, 4096]⟩
abbrev S4096x1024 : Shape := ⟨2, ![4096, 1024]⟩
abbrev S4096x16x64 : Shape := ⟨3, ![4096, 16, 64]⟩
abbrev S16x4096x64 : Shape := ⟨3, ![16, 4096, 64]⟩
abbrev S_ : Shape := ⟨0, ![]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S16x4096x128 : Shape := ⟨3, ![16, 4096, 128]⟩

abbrev nBuf : Space → Nat
  | .hbm => 64
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S16x4096, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x16x64, .f32⟩
  | .hbm, ⟨7, _⟩ => ⟨S16x4096x64, .f32⟩
  | .hbm, ⟨8, _⟩ => ⟨S_, .f32⟩
  | .hbm, ⟨9, _⟩ => ⟨S16x4096x64, .f32⟩
  | .hbm, ⟨10, _⟩ => ⟨S16x4096x64, .f32⟩
  | .hbm, ⟨11, _⟩ => ⟨S4096x16x64, .f32⟩
  | .hbm, ⟨12, _⟩ => ⟨S16x4096x64, .f32⟩
  | .hbm, ⟨13, _⟩ => ⟨S4096x16x64, .f32⟩
  | .hbm, ⟨14, _⟩ => ⟨S16x4096x64, .f32⟩
  | .hbm, ⟨15, _⟩ => ⟨S16x4096x4096, .f32⟩
  | .hbm, ⟨16, _⟩ => ⟨S16x4096x1, .f32⟩
  | .hbm, ⟨17, _⟩ => ⟨S16x4096x4096, .f32⟩
  | .hbm, ⟨18, _⟩ => ⟨S16x4096x4096, .f32⟩
  | .hbm, ⟨19, _⟩ => ⟨S16x1x4096, .f32⟩
  | .hbm, ⟨20, _⟩ => ⟨S16x4096x4096, .f32⟩
  | .hbm, ⟨21, _⟩ => ⟨S16x4096x4096, .f32⟩
  | .hbm, ⟨22, _⟩ => ⟨S4096, .i32⟩
  | .hbm, ⟨23, _⟩ => ⟨S4096x1, .i32⟩
  | .hbm, ⟨24, _⟩ => ⟨S4096, .i32⟩
  | .hbm, ⟨25, _⟩ => ⟨S1x4096, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S_, .f32⟩
  | .hbm, ⟨30, _⟩ => ⟨S_, .f32⟩
  | .hbm, ⟨31, _⟩ => ⟨S16x4096x4096, .i1⟩
  | .hbm, ⟨32, _⟩ => ⟨S16x4096x4096, .f32⟩
  | .hbm, ⟨33, _⟩ => ⟨S16x4096x4096, .f32⟩
  | .hbm, ⟨34, _⟩ => ⟨S_, .f32⟩
  | .hbm, ⟨35, _⟩ => ⟨S16x4096, .f32⟩
  | .hbm, ⟨36, _⟩ => ⟨S16x4096x1, .f32⟩
  | .hbm, ⟨37, _⟩ => ⟨S16x4096x4096, .f32⟩
  | .hbm, ⟨38, _⟩ => ⟨S16x4096x4096, .f32⟩
  | .hbm, ⟨39, _⟩ => ⟨S16x4096x4096, .f32⟩
  | .hbm, ⟨40, _⟩ => ⟨S_, .f32⟩
  | .hbm, ⟨41, _⟩ => ⟨S16x4096, .f32⟩
  | .hbm, ⟨42, _⟩ => ⟨S16x4096x1, .f32⟩
  | .hbm, ⟨43, _⟩ => ⟨S16x4096x4096, .f32⟩
  | .hbm, ⟨44, _⟩ => ⟨S16x4096x4096, .f32⟩
  | .hbm, ⟨45, _⟩ => ⟨S16x4096x64, .f32⟩
  | .hbm, ⟨46, _⟩ => ⟨S4096x16x64, .f32⟩
  | .hbm, ⟨47, _⟩ => ⟨S4096x1024, .f32⟩
  | .hbm, ⟨48, _⟩ => ⟨S16x4096x1, .f32⟩
  | .hbm, ⟨49, _⟩ => ⟨S16x4096x1, .f32⟩
  | .hbm, ⟨50, _⟩ => ⟨S16x4096x1, .f32⟩
  | .hbm, ⟨51, _⟩ => ⟨S16x4096x1, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .bf16⟩
  | .hbm, ⟨63, _⟩ => ⟨S16x4096x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S4096x1 : Shape := ⟨2, ![4096, 1]⟩
abbrev S512x1024 : Shape := ⟨2, ![512, 1024]⟩
abbrev S512x1 : Shape := ⟨2, ![512, 1]⟩
abbrev S512 : Shape := ⟨1, ![512]⟩

abbrev nBuf : Space → Nat
  | .hbm => 11
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel7.lean ====
abbrev S4096x4224 : Shape := ⟨2, ![4096, 4224]⟩
abbrev S128 : Shape := ⟨1, ![128]⟩
abbrev S1x128 : Shape := ⟨2, ![1, 128]⟩
abbrev S128x4096 : Shape := ⟨2, ![128, 4096]⟩
abbrev S512x128 : Shape := ⟨2, ![512, 128]⟩
abbrev S128x512 : Shape := ⟨2, ![128, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x4224, .f32⟩
  | .hbm, ⟨1, _⟩ => ⟨S128, .f32⟩
  | .hbm, ⟨2, _⟩ => ⟨S1x128, .f32⟩
  | .hbm, ⟨3, _⟩ => ⟨S128x4096, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S128x512, .f32⟩
  | .local _ .vmem, ⟨4, _⟩ => ⟨S128x512, .f32⟩
  | .local _ .vmem, ⟨5, _⟩ => ⟨S1x128, .f32⟩
  | _, _ => ⟨S4096x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4096x4224 : Shape := ⟨2, ![4096, 4224]⟩
abbrev S128 : Shape := ⟨1, ![128]⟩
abbrev S4096x128 : Shape := ⟨2, ![4096, 128]⟩
abbrev S1x128 : Shape := ⟨2, ![1, 128]⟩
abbrev S_ : Shape := ⟨0, ![]⟩
abbrev S128x4096 : Shape := ⟨2, ![128, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x4224, .f32⟩
  | .hbm, ⟨1, _⟩ => ⟨S128, .f32⟩
  | .hbm, ⟨2, _⟩ => ⟨S4096x128, .f32⟩
  | .hbm, ⟨3, _⟩ => ⟨S1x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S_, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x128, .f32⟩
  | .hbm, ⟨12, _⟩ => ⟨S4096x128, .i1⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S_, .f32⟩
  | .hbm, ⟨23, _⟩ => ⟨S_, .f32⟩
  | .hbm, ⟨24, _⟩ => ⟨S4096x128, .f32⟩
  | .hbm, ⟨25, _⟩ => ⟨S128x4096, .f32⟩
  | _, _ => ⟨S4096x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_call1_call0_cst : Ref sig .tc := ⟨.hbm, 22, rfl⟩
abbrev main_call1_call0_v0 : Ref sig .tc := ⟨.hbm, 23, rfl⟩
abbrev main_v5 : Ref sig .tc := ⟨.hbm, 24, rfl⟩
abbrev main_v6 : Ref sig .tc := ⟨.hbm, 25, rfl⟩

abbrev nD : Nat := 1
abbrev τ : Topo := Topo.v7x

variable {F : FTy → Type} [FloatOps F]
-- ==== Kernel8.lean ====
abbrev S4096x2048 : Shape := ⟨2, ![4096, 2048]⟩
abbrev S4x1024 : Shape := ⟨2, ![4, 1024]⟩
abbrev S1024 : Shape := ⟨1, ![1024]⟩
abbrev S4x256x256 : Shape := ⟨3, ![4, 256, 256]⟩
abbrev S1x1024 : Shape := ⟨2, ![1, 1024]⟩
abbrev S8x1024 : Shape := ⟨2, ![8, 1024]⟩
abbrev S4096x1024 : Shape := ⟨2, ![4096, 1024]⟩
abbrev S128x1024 : Shape := ⟨2, ![128, 1024]⟩
abbrev S120x1024 : Shape := ⟨2, ![120, 1024]⟩
abbrev S128x256 : Shape := ⟨2, ![128, 256]⟩
abbrev S1x256x256 : Shape := ⟨3, ![1, 256, 256]⟩
abbrev S256x256 : Shape := ⟨2, ![256, 256]⟩
abbrev S16x1024 : Shape := ⟨2, ![16, 1024]⟩
abbrev S112x1024 : Shape := ⟨2, ![112, 1024]⟩
abbrev S32x1024 : Shape := ⟨2, ![32, 1024]⟩
abbrev S96x1024 : Shape := ⟨2, ![96, 1024]⟩
abbrev S64x1024 : Shape := ⟨2, ![64, 1024]⟩

abbrev nBuf : Space → Nat
  | .hbm => 17
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4x1024, .f32⟩
  | .hbm, ⟨2, _⟩ => ⟨S1024, .f32⟩
  | .hbm, ⟨3, _⟩ => ⟨S4x256x256, .f32⟩
  | .hbm, ⟨4, _⟩ => ⟨S1024, .f32⟩
  | .hbm, ⟨5, _⟩ => ⟨S4x256x256, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S8x1024, .f32⟩
  | .hbm, ⟨13, _⟩ => ⟨S4x256x256, .bf16⟩
  | .hbm, ⟨14, _⟩ => ⟨S4x256x256, .bf16⟩
  | .hbm, ⟨15, _⟩ => ⟨S4096x1024, .f32⟩
  | .hbm, ⟨16, _⟩ => ⟨S4096x1024, .bf16⟩
  | .local _ .vmem, ⟨0, _⟩ => ⟨S128x1024, .f32⟩
  | .local _ .vmem, ⟨1, _⟩ => ⟨S128x1024, .f32⟩
  | .local _ .vmem, ⟨2, _⟩ => ⟨S8x1024, .f32⟩
  | .local _ .vmem, ⟨3, _⟩ => ⟨S8x1024, .f32⟩
  | .local _ .vmem, ⟨4, _⟩ => ⟨S128x1024, .f32⟩
  | .local _ .vmem, ⟨5, _⟩ => ⟨S128x1024, .f32⟩
  | .local _ .vmem, ⟨6, _⟩ => ⟨S8x1024, .f32⟩
  | .local _ .vmem, ⟨7, _⟩ => ⟨S4x256x256, .bf16⟩
  | .local _ .vmem, ⟨8, _⟩ => ⟨S4x256x256, .bf16⟩
  | .local _ .vmem, ⟨9, _⟩ => ⟨S128x1024, .f32⟩
  | .local _ .vmem, ⟨10, _⟩ => ⟨S128x1024, .f32⟩
  | .local _ .vmem, ⟨11, _⟩ => ⟨S128x1024, .bf16⟩
  | .local _ .vmem, ⟨12, _⟩ => ⟨S128x1024, .bf16⟩
  | .local _ .vmem, ⟨13, _⟩ => ⟨S1x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S4096x2048 : Shape := ⟨2, ![4096, 2048]⟩
abbrev S4x1024 : Shape := ⟨2, ![4, 1024]⟩
abbrev S1024 : Shape := ⟨1, ![1024]⟩
abbrev S4x256x256 : Shape := ⟨3, ![4, 256, 256]⟩
abbrev S4096x1024 : Shape := ⟨2, ![4096, 1024]⟩
abbrev S_ : Shape := ⟨0, ![]⟩
abbrev S3x1024 : Shape := ⟨2, ![3, 1024]⟩
abbrev S4099x1024 : Shape := ⟨2, ![4099, 1024]⟩
abbrev S1x1024 : Shape := ⟨2, ![1, 1024]⟩
abbrev S4096x4x256 : Shape := ⟨3, ![4096, 4, 256]⟩
abbrev S4x256x4096 : Shape := ⟨3, ![4, 256, 4096]⟩

abbrev nBuf : Space → Nat
  | .hbm => 151
  | .vmem => 0
  | .smem => 0
  | _ => 0

abbrev hbmTy0_0 (i : Nat) : BufTy := match i % 128 with
  | 0 => ⟨S4096x2048, .f32⟩
  | 1 => ⟨S4x1024, .f32⟩
  | 2 => ⟨S1024, .f32⟩
  | 3 => ⟨S4x256x256, .f32⟩
  | 4 => ⟨S1024, .f32⟩
  | 5 => ⟨S4x256x256, .f32⟩
  | 6 => ⟨S1024, .f32⟩
  | 7 => ⟨S1024, .f32⟩
  | 8 => ⟨S4096x1024, .f32⟩
  | 9 => ⟨S4096x1024, .f32⟩
  | 10 => ⟨S_, .f32⟩
  | 11 => ⟨S3x1024, .f32⟩
  | 12 => ⟨S4099x1024, .f32⟩
  | 13 => ⟨S4096x1024, .f32⟩
  | 14 => ⟨S1x1024, .f32⟩
  | 15 => ⟨S1024, .f32⟩
  | 16 => ⟨S1x1024, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S4096x1024, .f32⟩
  | 23 => ⟨S1x1024, .f32⟩
  | 24 => ⟨S1024, .f32⟩
  | 25 => ⟨S1x1024, .f32⟩
  | 26 => ⟨S4096x1024, .f32⟩
  | 27 => ⟨S4096x1024, .f32⟩
  | 28 => ⟨S4096x1024, .f32⟩
  | 29 => ⟨S4096x1024, .f32⟩
  | 30 => ⟨S1x1024, .f32⟩
  | 31 => ⟨S1024, .f32⟩
  | 32 => ⟨S1x1024, .f32⟩
  | 33 => ⟨S4096x1024, .f32⟩
  | 34 => ⟨S4096x1024, .f32⟩
  | 35 => ⟨S4096x1024, .f32⟩
  | 36 => ⟨S4096x1024, .f32⟩
  | 37 => ⟨S1x1024, .f32⟩
  | 38 => ⟨S1024, .f32⟩
  | 39 => ⟨S1x1024, .f32⟩
  | 40 => ⟨S4096x1024, .f32⟩
  | 41 => ⟨S4096x1024, .f32⟩
  | 42 => ⟨S4096x1024, .f32⟩
  | 43 => ⟨S1x1024, .f32⟩
  | 44 => ⟨S4096x1024, .f32⟩
  | 45 => ⟨S4096x1024, .f32⟩
  | 46 => ⟨S4096x4x256, .f32⟩
  | 47 => ⟨S4x256x4096, .f32⟩
  | 48 => ⟨S4096x4x256, .f32⟩
  | 49 => ⟨S4096x1024, .f32⟩
  | 50 => ⟨S1x1024, .f32⟩
  | 51 => ⟨S4096x1024, .f32⟩
  | 52 => ⟨S4096x1024, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S4x256x4096, .f32⟩
  | 62 => ⟨S4096x4x256, .f32⟩
  | 63 => ⟨S4096x1024, .f32⟩
  | 64 => ⟨S1x1024, .f32⟩
  | 65 => ⟨S4096x1024, .f32⟩
  | 66 => ⟨S4096x1024, .f32⟩
  | 67 => ⟨S4096x1024, .f32⟩
  | 68 => ⟨S4096x1024, .f32⟩
  | 69 => ⟨S_, .f32⟩
  | 70 => ⟨S4096x1024, .f32⟩
  | 71 => ⟨S4096x1024, .f32⟩
  | 72 => ⟨S_, .f32⟩
  | 73 => ⟨S4096x1024, .f32⟩
  | 74 => ⟨S4096x1024, .f32⟩
  | 75 => ⟨S_, .f32⟩
  | 76 => ⟨S4096x1024, .f32⟩
  | 77 => ⟨S4096x1024, .f32⟩
  | 78 => ⟨S1024, .f32⟩
  | 79 => ⟨S_, .f32⟩
  | 80 => ⟨S1024, .f32⟩
  | 81 => ⟨S1024, .f32⟩
  | 82 => ⟨S1024, .f32⟩
  | 83 => ⟨S1024, .f32⟩
  | 84 => ⟨S1024, .i1⟩
  | 85 => ⟨S1024, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S1x1024, .f32⟩
  | 94 => ⟨S4096x1024, .f32⟩
  | 95 => ⟨S4096x1024, .f32⟩
  | 96 => ⟨S4096x1024, .f32⟩
  | 97 => ⟨S_, .f32⟩
  | 98 => ⟨S4096x1024, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S_, .f32⟩
  | 106 => ⟨S1024, .f32⟩
  | 107 => ⟨S4096x1024, .f32⟩
  | 108 => ⟨S4096x1024, .f32⟩
  | 109 => ⟨S_, .f32⟩
  | 110 => ⟨S4096x1024, .f32⟩
  | 111 => ⟨S4096x1024, .f32⟩
  | 112 => ⟨S_, .f32⟩
  | 113 => ⟨S4096x1024, .f32⟩
  | 114 => ⟨S4096x1024, .f32⟩
  | 115 => ⟨S4096x1024, .f32⟩
  | 116 => ⟨S_, .f32⟩
  | 117 => ⟨S4096x1024, .f32⟩
  | 118 => ⟨S_, .bf16⟩
  | 119 => ⟨S4096x1024, .bf16⟩
  | 120 => ⟨S_, .i32⟩
  | 121 => ⟨S4096x1024, .f32⟩
  | 122 => ⟨S4096x1024, .f32⟩
  | 123 => ⟨S4096x1024, .f32⟩
  | 124 => ⟨S_, .i32⟩
  | 125 => ⟨S1024, .f32⟩
  | 126 => ⟨S4096x1024, .f32⟩
  | 127 => ⟨S4096x1024, .bf16⟩
  | _ => ⟨S4096x2048, .f32⟩

abbrev hbmTy0_1 (i : Nat) : BufTy := match i % 128 with
  | 0 => ⟨S_, .i32⟩
  | 1 => ⟨S_, .i1⟩
  | 2 => ⟨S_, .i32⟩
  | 3 => ⟨S1x1024, .f32⟩
  | 4 => ⟨S1024, .f32⟩
  | 5 => ⟨S_, .i32⟩
  | 6 => ⟨S1x1024, .f32⟩
  | 7 => ⟨S1024, .f32⟩
  | 8 => ⟨S_, .i32⟩
  | 9 => ⟨S1x1024, .f32⟩
  | 10 => ⟨S1024, .f32⟩
  | 11 => ⟨S1024, .f32⟩
  | 12 => ⟨S1024, .f32⟩
  | 13 => ⟨S1024, .f32⟩
  | 14 => ⟨S1024, .bf16⟩
  | 15 => ⟨S1x1024, .f32⟩
  | 16 => ⟨S_, .i32⟩
  | 17 => ⟨S4096x1024, .f32⟩
  | 18 => ⟨S1x1024, .bf16⟩
  | 19 => ⟨S_, .i32⟩
  | 20 => ⟨S4096x1024, .bf16⟩
  | 21 => ⟨S_, .i32⟩
  | 22 => ⟨S_, .i32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_1 : Ref sig .tc := ⟨.hbm, 55, rfl⟩
abbrev main_v45 : Ref sig .tc := ⟨.hbm, 56, rfl⟩
abbrev main_v46 : Ref sig .tc := ⟨.hbm, 57, rfl⟩
abbrev main_cst_2 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_3 : Ref sig .tc := ⟨.hbm, 69, rfl⟩
abbrev main_v57 : Ref sig .tc := ⟨.hbm, 70, rfl⟩
abbrev main_v58 : Ref sig .tc := ⟨.hbm, 71, rfl⟩
abbrev main_cst_4 : Ref sig .tc := ⟨.hbm, 72, rfl⟩
abbrev main_v59 : Ref sig .tc := ⟨.hbm, 73, rfl⟩
abbrev main_v60 : Ref sig .tc := ⟨.hbm, 74, rfl⟩
abbrev main_cst_5 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_v8 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_6 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_7 : Ref sig .tc := ⟨.hbm, 105, rfl⟩
abbrev main_v76 : Ref sig .tc := ⟨.hbm, 106, rfl⟩
abbrev main_call1_v0 : Ref sig .tc := ⟨.hbm, 107, rfl⟩
abbrev main_call1_v1 : Ref sig .tc := ⟨.hbm, 108, rfl⟩
abbrev main_call1_cst : Ref sig .tc := ⟨.hbm, 109, rfl⟩
abbrev main_call1_v2 : Ref sig .tc := ⟨.hbm, 110, rfl⟩
abbrev main_call1_v3 : Ref sig .tc := ⟨.hbm, 111, rfl⟩
abbrev main_call1_cst_0 : Ref sig .tc := ⟨.hbm, 112, rfl⟩
abbrev main_call1_v4 : Ref sig .tc := ⟨.hbm, 113, rfl⟩
abbrev main_call1_v5 : Ref sig .tc := ⟨.hbm, 114, rfl⟩
abbrev main_v77 : Ref sig .tc := ⟨.hbm, 115, rfl⟩
abbrev main_cst_8 : Ref sig .tc := ⟨.hbm, 116, rfl⟩
abbrev main_v78 : Ref sig .tc := ⟨.hbm, 117, rfl⟩
abbrev main_cst_9 : Ref sig .tc := ⟨.hbm, 118, rfl⟩
abbrev main_v79 : Ref sig .tc := ⟨.hbm, 119, rfl⟩
abbrev main_c : Ref sig .tc := ⟨.hbm, 120, rfl⟩
abbrev main_v80_0 : Ref sig .tc := ⟨.hbm, 121, rfl⟩
abbrev main_v80_1 : Ref sig .tc := ⟨.hbm, 122, rfl⟩
abbrev main_v80_2 : Ref sig .tc := ⟨.hbm, 123, rfl⟩
abbrev main_v80_3 : Ref sig .tc := ⟨.hbm, 124, rfl⟩
abbrev main_v80_4 : Ref sig .tc := ⟨.hbm, 125, rfl⟩
abbrev main_v80_5 : Ref sig .tc := ⟨.hbm, 126, rfl⟩
abbrev main_v80_6 : Ref sig .tc := ⟨.hbm, 127, rfl⟩
abbrev main_while0c_c_16 : Ref sig .tc := ⟨.hbm, 128, rfl⟩
abbrev main_while0c_v81 : Ref sig .tc := ⟨.hbm, 129, rfl⟩
abbrev main_while0b_call2_c : Ref sig .tc := ⟨.hbm, 130, rfl⟩
abbrev main_while0b_call2_v0 : Ref sig .tc := ⟨.hbm, 131, rfl⟩
abbrev main_while0b_v81 : Ref sig .tc := ⟨.hbm, 132, rfl⟩
abbrev main_while0b_call3_c : Ref sig .tc := ⟨.hbm, 133, rfl⟩
abbrev main_while0b_call3_v0 : Ref sig .tc := ⟨.hbm, 134, rfl⟩
abbrev main_while0b_v82 : Ref sig .tc := ⟨.hbm, 135, rfl⟩
abbrev main_while0b_call4_c : Ref sig .tc := ⟨.hbm, 136, rfl⟩
abbrev main_while0b_call4_v0 : Ref sig .tc := ⟨.hbm, 137, rfl⟩
abbrev main_while0b_v83 : Ref sig .tc := ⟨.hbm, 138, rfl⟩
abbrev main_while0b_v84 : Ref sig .tc := ⟨.hbm, 139, rfl⟩
abbrev main_while0b_v85 : Ref sig .tc := ⟨.hbm, 140, rfl⟩
abbrev main_while0b_v86 : Ref sig .tc := ⟨.hbm, 141, rfl⟩
abbrev main_while0b_v87 : Ref sig .tc := ⟨.hbm, 142, rfl⟩
abbrev main_while0b_call5_v0 : Ref sig .tc := ⟨.hbm, 143, rfl⟩
abbrev main_while0b_call5_c : Ref sig .tc := ⟨.hbm, 144, rfl⟩
abbrev main_while0b_v88 : Ref sig .tc := ⟨.hbm, 145, rfl⟩
abbrev main_while0b_call6_v0 : Ref sig .tc := ⟨.hbm, 146, rfl⟩
abbrev main_while0b_call6_c : Ref sig .tc := ⟨.hbm, 147, rfl⟩
abbrev main_while0b_v89 : Ref sig .tc := ⟨.hbm, 148, rfl⟩
abbrev main_while0b_c_16 : Ref sig .tc := ⟨.hbm, 149, rfl⟩
abbrev main_while0b_v90 : Ref sig .tc := ⟨.hbm, 150, rfl⟩

abbrev nD : Nat := 1
abbrev τ : Topo := Topo.v7x

variable {F : FTy → Type} [FloatOps F]

abbrev main_while0_count : Scf.Loop 32 := ⟨0#32, 4096#32, 1#32⟩
-- ==== Kernel9.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S16x1024, .f32⟩
  | .local _ .vmem, ⟨0, _⟩ => ⟨S8x16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference9Ideal.lean ====
abbrev S8x16x1024 : Shape := ⟨3, ![8, 16, 1024]⟩
abbrev S16x1024 : Shape := ⟨2, ![16, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S_, .f32⟩
  | .hbm, ⟨18, _⟩ => ⟨S16x1024, .f32⟩
  | .hbm, ⟨19, _⟩ => ⟨S16x1024, .f32⟩
  | .hbm, ⟨20, _⟩ => ⟨S16x1024, .f32⟩
  | .hbm, ⟨21, _⟩ => ⟨S_, .f32⟩
  | .hbm, ⟨22, _⟩ => ⟨S16x1024, .f32⟩
  | .hbm, ⟨23, _⟩ => ⟨S16x1024, .f32⟩
  | .hbm, ⟨24, _⟩ => ⟨S_, .f32⟩
  | .hbm, ⟨25, _⟩ => ⟨S16x1024, .f32⟩
  | .hbm, ⟨26, _⟩ => ⟨S16x1024, .f32⟩
  | .hbm, ⟨27, _⟩ => ⟨S16x1024, .f32⟩
  | .hbm, ⟨28, _⟩ => ⟨S_, .f32⟩
  | .hbm, ⟨29, _⟩ => ⟨S16x1024, .f32⟩
  | .hbm, ⟨30, _⟩ => ⟨S16x1024, .f32⟩
  | .hbm, ⟨31, _⟩ => ⟨S16x1024, .f32⟩
  | .hbm, ⟨32, _⟩ => ⟨S_, .f32⟩
  | .hbm, ⟨33, _⟩ => ⟨S16x1024, .f32⟩
  | .hbm, ⟨34, _⟩ => ⟨S16x1024, .f32⟩
  | .hbm, ⟨35, _⟩ => ⟨S16x1024, .f32⟩
  | .hbm, ⟨36, _⟩ => ⟨S_, .f32⟩
  | .hbm, ⟨37, _⟩ => ⟨S16x1024, .f32⟩
  | .hbm, ⟨38, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel10.lean ====
abbrev S4096x1024 : Shape := ⟨2, ![4096, 1024]⟩
abbrev S1024x4224 : Shape := ⟨2, ![1024, 4224]⟩
abbrev S4096x4224 : Shape := ⟨2, ![4096, 4224]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4224, .bf16⟩
  | .hbm, ⟨2, _⟩ => ⟨S4096x4224, .f32⟩
  | .local _ .vmem, ⟨0, _⟩ => ⟨S512x1024, .f32⟩
  | .local _ .vmem, ⟨1, _⟩ => ⟨S512x1024, .f32⟩
  | .local _ .vmem, ⟨2, _⟩ => ⟨S1024x1408, .bf16⟩
  | .local _ .vmem, ⟨3, _⟩ => ⟨S1024x1408, .bf16⟩
  | .local _ .vmem, ⟨4, _⟩ => ⟨S512x1408, .f32⟩
  | .local _ .vmem, ⟨5, _⟩ => ⟨S512x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1024 : Shape := ⟨2, ![4096, 1024]⟩
abbrev S1024x4224 : Shape := ⟨2, ![1024, 4224]⟩
abbrev S4096x4224 : Shape := ⟨2, ![4096, 4224]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4224, .bf16⟩
  | .hbm, ⟨2, _⟩ => ⟨S1024x4224, .f32⟩
  | .hbm, ⟨3, _⟩ => ⟨S4096x4224, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S4096x1024 : Shape := ⟨2, ![4096, 1024]⟩
abbrev S4096x2048 : Shape := ⟨2, ![4096, 2048]⟩
abbrev S1024x2048 : Shape := ⟨2, ![1024, 2048]⟩
abbrev S1024x512 : Shape := ⟨2, ![1024, 512]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .f32⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S1024x2048 : Shape := ⟨2, ![1024, 2048]⟩
abbrev S2x4x1024x256 : Shape := ⟨4, ![2, 4, 1024, 256]⟩
abbrev S256x2048 : Shape := ⟨2, ![256, 2048]⟩
abbrev S2x4x256x256 : Shape := ⟨4, ![2, 4, 256, 256]⟩
abbrev S256x256 : Shape := ⟨2, ![256, 256]⟩
abbrev S1x1x256x256 : Shape := ⟨4, ![1, 1, 256, 256]⟩

abbrev nBuf : Space → Nat
  | .hbm => 2
  | .vmem => 4
  | .smem => 0
  | _ => 0

abbrev bufTy : (tb : Table) → Fin (tcTables nBuf tb) → BufTy
  | .hbm, ⟨0, _⟩ => ⟨S1024x2048, .f32⟩
  | .hbm, ⟨1, _⟩ => ⟨S2x4x1024x256, .f32⟩
  | .local _ .vmem, ⟨0, _⟩ => ⟨S256x2048, .f32⟩
  | .local _ .vmem, ⟨1, _⟩ => ⟨S256x2048, .f32⟩
  | .local _ .vmem, ⟨2, _⟩ => ⟨S2x4x256x256, .f32⟩
  | .local _ .vmem, ⟨3, _⟩ => ⟨S2x4x256x256, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference12Ideal.lean ====
abbrev S1024x2048 : Shape := ⟨2, ![1024, 2048]⟩
abbrev S1024x4x2x256 : Shape := ⟨4, ![1024, 4, 2, 256]⟩
abbrev S2x4x1024x256 : Shape := ⟨4, ![2, 4, 1024, 256]⟩

abbrev nBuf : Space → Nat
  | .hbm => 3
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x4x2x256, .f32⟩
  | .hbm, ⟨2, _⟩ => ⟨S2x4x1024x256, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Kernel13.lean ====
abbrev S2x4x1024x514 : Shape := ⟨4, ![2, 4, 1024, 514]⟩
abbrev S1024x4224 : Shape := ⟨2, ![1024, 4224]⟩
abbrev S1x1x256x514 : Shape := ⟨4, ![1, 1, 256, 514]⟩
abbrev S256x4224 : Shape := ⟨2, ![256, 4224]⟩
abbrev S256x514 : Shape := ⟨2, ![256, 514]⟩
abbrev S256x112 : Shape := ⟨2, ![256, 112]⟩

abbrev nBuf : Space → Nat
  | .hbm => 2
  | .vmem => 18
  | .smem => 0
  | _ => 0

abbrev bufTy : (tb : Table) → Fin (tcTables nBuf tb) → BufTy
  | .hbm, ⟨0, _⟩ => ⟨S2x4x1024x514, .bf16⟩
  | .hbm, ⟨1, _⟩ => ⟨S1024x4224, .bf16⟩
  | .local _ .vmem, ⟨0, _⟩ => ⟨S1x1x256x514, .bf16⟩
  | .local _ .vmem, ⟨1, _⟩ => ⟨S1x1x256x514, .bf16⟩
  | .local _ .vmem, ⟨2, _⟩ => ⟨S1x1x256x514, .bf16⟩
  | .local _ .vmem, ⟨3, _⟩ => ⟨S1x1x256x514, .bf16⟩
  | .local _ .vmem, ⟨4, _⟩ => ⟨S1x1x256x514, .bf16⟩
  | .local _ .vmem, ⟨5, _⟩ => ⟨S1x1x256x514, .bf16⟩
  | .local _ .vmem, ⟨6, _⟩ => ⟨S1x1x256x514, .bf16⟩
  | .local _ .vmem, ⟨7, _⟩ => ⟨S1x1x256x514, .bf16⟩
  | .local _ .vmem, ⟨8, _⟩ => ⟨S1x1x256x514, .bf16⟩
  | .local _ .vmem, ⟨9, _⟩ => ⟨S1x1x256x514, .bf16⟩
  | .local _ .vmem, ⟨10, _⟩ => ⟨S1x1x256x514, .bf16⟩
  | .local _ .vmem, ⟨11, _⟩ => ⟨S1x1x256x514, .bf16⟩
  | .local _ .vmem, ⟨12, _⟩ => ⟨S1x1x256x514, .bf16⟩
  | .local _ .vmem, ⟨13, _⟩ => ⟨S1x1x256x514, .bf16⟩
  | .local _ .vmem, ⟨14, _⟩ => ⟨S1x1x256x514, .bf16⟩
  | .local _ .vmem, ⟨15, _⟩ => ⟨S1x1x256x514, .bf16⟩
  | .local _ .vmem, ⟨16, _⟩ => ⟨S256x4224, .bf16⟩
  | .local _ .vmem, ⟨17, _⟩ => ⟨S256x4224, .bf16⟩
  | _, _ => ⟨S2x4x1024x514, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, arg0.toNat, c0_i32_0.toNat]

def cc0_transform_3 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, arg0.toNat, c0_i32.toNat]

def cc0_transform_4 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, arg0.toNat, c0_i32_0.toNat]

def cc0_transform_5 (i : grid0.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  ![c1_i32.toNat, c2_i32.toNat, arg0.toNat, c0_i32.toNat]

def cc0_transform_6 (i : grid0.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, arg0.toNat, c0_i32_0.toNat]

def cc0_transform_7 (i : grid0.Coords) : Fin 4 → Nat :=
  let arg0 : BitVec 32 := BitVec.ofNat 32 (i 0).val
  let c1_i32 : BitVec 32 := 1#32
  let c3_i32 : BitVec 32 := 3#32
  let c0_i32 : BitVec 32 := 0#32
  let c0_i32_0 : BitVec 32 := 0#32
  ![c1_i32.toNat, c3_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x256x514 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256x514 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x514 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x514 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256x514 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256x514 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256x514 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256x514 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4224 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S2x4x1024x514 : Shape := ⟨4, ![2, 4, 1024, 514]⟩
abbrev S1024x4x2x514 : Shape := ⟨4, ![1024, 4, 2, 514]⟩
abbrev S1024x4112 : Shape := ⟨2, ![1024, 4112]⟩
abbrev S_ : Shape := ⟨0, ![]⟩
abbrev S1024x4224 : Shape := ⟨2, ![1024, 4224]⟩

abbrev nBuf : Space → Nat
  | .hbm => 6
  | .vmem => 0
  | .smem => 0
  | _ => 0

abbrev bufTy : (tb : Table) → Fin (tcTables nBuf tb) → BufTy
  | .hbm, ⟨0, _⟩ => ⟨S2x4x1024x514, .bf16⟩
  | .hbm, ⟨1, _⟩ => ⟨S1024x4x2x514, .bf16⟩
  | .hbm, ⟨2, _⟩ => ⟨S1024x4112, .bf16⟩
  | .hbm, ⟨3, _⟩ => ⟨S_, .i32⟩
  | .hbm, ⟨4, _⟩ => ⟨S_, .bf16⟩
  | .hbm, ⟨5, _⟩ => ⟨S1024x4224, .bf16⟩
  | _, _ => ⟨S2x4x1024x514, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S4096x1024 : Shape := ⟨2, ![4096, 1024]⟩
abbrev S4096x128 : Shape := ⟨2, ![4096, 128]⟩
abbrev S1024x1024 : Shape := ⟨2, ![1024, 1024]⟩
abbrev S1024x128 : Shape := ⟨2, ![1024, 128]⟩
abbrev S1024x512 : Shape := ⟨2, ![1024, 512]⟩
abbrev S512x1024 : Shape := ⟨2, ![512, 1024]⟩
abbrev S512x128 : Shape := ⟨2, ![512, 128]⟩

abbrev nBuf : Space → Nat
  | .hbm => 11
  | .vmem => 22
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x128, .bf16⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x128, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x128, .bf16⟩
  | .local _ .vmem, ⟨11, _⟩ => ⟨S1024x128, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x128, .f32⟩
  | .local _ .vmem, ⟨21, _⟩ => ⟨S512x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference14Ideal.lean ====
abbrev S4096x1024 : Shape := ⟨2, ![4096, 1024]⟩
abbrev S4096x128 : Shape := ⟨2, ![4096, 128]⟩
abbrev S_ : Shape := ⟨0, ![]⟩
abbrev S1024x1024 : Shape := ⟨2, ![1024, 1024]⟩
abbrev S1024x128 : Shape := ⟨2, ![1024, 128]⟩
abbrev S128x1024 : Shape := ⟨2, ![128, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x128, .bf16⟩
  | .hbm, ⟨6, _⟩ => ⟨S4096x1024, .f32⟩
  | .hbm, ⟨7, _⟩ => ⟨S_, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S4096x1024, .f32⟩
  | .hbm, ⟨22, _⟩ => ⟨S4096x1024, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S4096x1024, .f32⟩
  | .hbm, ⟨28, _⟩ => ⟨S4096x1024, .f32⟩
  | .hbm, ⟨29, _⟩ => ⟨S1024x1024, .f32⟩
  | .hbm, ⟨30, _⟩ => ⟨S1024x1024, .f32⟩
  | .hbm, ⟨31, _⟩ => ⟨S_, .f32⟩
  | .hbm, ⟨32, _⟩ => ⟨S1024x128, .f32⟩
  | .hbm, ⟨33, _⟩ => ⟨S4096x128, .f32⟩
  | .hbm, ⟨34, _⟩ => ⟨S4096x128, .f32⟩
  | .hbm, ⟨35, _⟩ => ⟨S128x1024, .f32⟩
  | .hbm, ⟨36, _⟩ => ⟨S1024x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel15.lean ====
abbrev S2x4x1024x514 : Shape := ⟨4, ![2, 4, 1024, 514]⟩
abbrev S4x1024x514 : Shape := ⟨3, ![4, 1024, 514]⟩
abbrev S1 : Shape := ⟨1, ![1]⟩
abbrev S1x1x512x514 : Shape := ⟨4, ![1, 1, 512, 514]⟩
abbrev S1x512x514 : Shape := ⟨3, ![1, 512, 514]⟩

abbrev nBuf : Space → Nat
  | .hbm => 4
  | .vmem => 8
  | .smem => 1
  | _ => 0

abbrev bufTy : (tb : Table) → Fin (tcTables nBuf tb) → BufTy
  | .hbm, ⟨0, _⟩ => ⟨S2x4x1024x514, .f32⟩
  | .hbm, ⟨1, _⟩ => ⟨S4x1024x514, .f32⟩
  | .hbm, ⟨2, _⟩ => ⟨S4x1024x514, .f32⟩
  | .hbm, ⟨3, _⟩ => ⟨S4x1024x514, .bf16⟩
  | .local _ .vmem, ⟨0, _⟩ => ⟨S1x1x512x514, .f32⟩
  | .local _ .vmem, ⟨1, _⟩ => ⟨S1x1x512x514, .f32⟩
  | .local _ .vmem, ⟨2, _⟩ => ⟨S1x512x514, .f32⟩
  | .local _ .vmem, ⟨3, _⟩ => ⟨S1x512x514, .f32⟩
  | .local _ .vmem, ⟨4, _⟩ => ⟨S1x512x514, .f32⟩
  | .local _ .vmem, ⟨5, _⟩ => ⟨S1x512x514, .f32⟩
  | .local _ .vmem, ⟨6, _⟩ => ⟨S1x512x514, .bf16⟩
  | .local _ .vmem, ⟨7, _⟩ => ⟨S1x512x514, .bf16⟩
  | .local _ .smem, ⟨0, _⟩ => ⟨S1, .i32⟩
  | _, _ => ⟨S2x4x1024x514, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x514 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x514 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x514 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference15Ideal.lean ====
abbrev S2x4x1024x514 : Shape := ⟨4, ![2, 4, 1024, 514]⟩
abbrev S4x1024x514 : Shape := ⟨3, ![4, 1024, 514]⟩
abbrev S1 : Shape := ⟨1, ![1]⟩
abbrev S_ : Shape := ⟨0, ![]⟩
abbrev S1x4x1024x514 : Shape := ⟨4, ![1, 4, 1024, 514]⟩

abbrev nBuf : Space → Nat
  | .hbm => 13
  | .vmem => 0
  | .smem => 0
  | _ => 0

abbrev bufTy : (tb : Table) → Fin (tcTables nBuf tb) → BufTy
  | .hbm, ⟨0, _⟩ => ⟨S2x4x1024x514, .f32⟩
  | .hbm, ⟨1, _⟩ => ⟨S4x1024x514, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S1x4x1024x514, .f32⟩
  | .hbm, ⟨7, _⟩ => ⟨S4x1024x514, .f32⟩
  | .hbm, ⟨8, _⟩ => ⟨S1x4x1024x514, .f32⟩
  | .hbm, ⟨9, _⟩ => ⟨S4x1024x514, .f32⟩
  | .hbm, ⟨10, _⟩ => ⟨S4x1024x514, .f32⟩
  | .hbm, ⟨11, _⟩ => ⟨S4x1024x514, .f32⟩
  | .hbm, ⟨12, _⟩ => ⟨S4x1024x514, .bf16⟩
  | _, _ => ⟨S2x4x1024x514, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel16.lean ====
abbrev S2x4x1024x256 : Shape := ⟨4, ![2, 4, 1024, 256]⟩
abbrev S2 : Shape := ⟨1, ![2]⟩
abbrev S2x1024x256 : Shape := ⟨3, ![2, 1024, 256]⟩
abbrev S1x1x256x256 : Shape := ⟨4, ![1, 1, 256, 256]⟩
abbrev S1 : Shape := ⟨1, ![1]⟩
abbrev S1x256x256 : Shape := ⟨3, ![1, 256, 256]⟩

abbrev nBuf : Space → Nat
  | .hbm => 11
  | .vmem => 46
  | .smem => 1
  | _ => 0

abbrev bufTy : (tb : Table) → Fin (tcTables nBuf tb) → BufTy
  | .hbm, ⟨0, _⟩ => ⟨S2x4x1024x256, .f32⟩
  | .hbm, ⟨1, _⟩ => ⟨S2x4x1024x256, .f32⟩
  | .hbm, ⟨2, _⟩ => ⟨S2x4x1024x256, .f32⟩
  | .hbm, ⟨3, _⟩ => ⟨S2x4x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S2x1024x256, .f32⟩
  | .local _ .vmem, ⟨0, _⟩ => ⟨S1x1x256x256, .f32⟩
  | .local _ .vmem, ⟨1, _⟩ => ⟨S1x1x256x256, .f32⟩
  | .local _ .vmem, ⟨2, _⟩ => ⟨S1x1x256x256, .f32⟩
  | .local _ .vmem, ⟨3, _⟩ => ⟨S1x1x256x256, .f32⟩
  | .local _ .vmem, ⟨4, _⟩ => ⟨S1x1x256x256, .f32⟩
  | .local _ .vmem, ⟨5, _⟩ => ⟨S1x1x256x256, .f32⟩
  | .local _ .vmem, ⟨6, _⟩ => ⟨S1x1x256x256, .f32⟩
  | .local _ .vmem, ⟨7, _⟩ => ⟨S1x1x256x256, .f32⟩
  | .local _ .vmem, ⟨8, _⟩ => ⟨S1x1x256x256, .f32⟩
  | .local _ .vmem, ⟨9, _⟩ => ⟨S1x1x256x256, .f32⟩
  | .local _ .vmem, ⟨10, _⟩ => ⟨S1x1x256x256, .f32⟩
  | .local _ .vmem, ⟨11, _⟩ => ⟨S1x1x256x256, .f32⟩
  | .local _ .vmem, ⟨12, _⟩ => ⟨S1x1x256x256, .f32⟩
  | .local _ .vmem, ⟨13, _⟩ => ⟨S1x1x256x256, .f32⟩
  | .local _ .vmem, ⟨14, _⟩ => ⟨S1x1x256x256, .f32⟩
  | .local _ .vmem, ⟨15, _⟩ => ⟨S1x1x256x256, .f32⟩
  | .local _ .vmem, ⟨16, _⟩ => ⟨S1x1x256x256, .f32⟩
  | .local _ .vmem, ⟨17, _⟩ => ⟨S1x1x256x256, .f32⟩
  | .local _ .vmem, ⟨18, _⟩ => ⟨S1x1x256x256, .f32⟩
  | .local _ .vmem, ⟨19, _⟩ => ⟨S1x1x256x256, .f32⟩
  | .local _ .vmem, ⟨20, _⟩ => ⟨S1x1x256x256, .f32⟩
  | .local _ .vmem, ⟨21, _⟩ => ⟨S1x1x256x256, .f32⟩
  | .local _ .vmem, ⟨22, _⟩ => ⟨S1x1x256x256, .f32⟩
  | .local _ .vmem, ⟨23, _⟩ => ⟨S1x1x256x256, .f32⟩
  | .local _ .vmem, ⟨24, _⟩ => ⟨S1x1x256x256, .f32⟩
  | .local _ .vmem, ⟨25, _⟩ => ⟨S1x1x256x256, .f32⟩
  | .local _ .vmem, ⟨26, _⟩ => ⟨S1x1x256x256, .f32⟩
  | .local _ .vmem, ⟨27, _⟩ => ⟨S1x1x256x256, .f32⟩
  | .local _ .vmem, ⟨28, _⟩ => ⟨S1x1x256x256, .f32⟩
  | .local _ .vmem, ⟨29, _⟩ => ⟨S1x1x256x256, .f32⟩
  | .local _ .vmem, ⟨30, _⟩ => ⟨S1x1x256x256, .f32⟩
  | .local _ .vmem, ⟨31, _⟩ => ⟨S1x1x256x256, .f32⟩
  | .local _ .vmem, ⟨32, _⟩ => ⟨S1x256x256, .f32⟩
  | .local _ .vmem, ⟨33, _⟩ => ⟨S1x256x256, .f32⟩
  | .local _ .vmem, ⟨34, _⟩ => ⟨S1x256x256, .f32⟩
  | .local _ .vmem, ⟨35, _⟩ => ⟨S1x256x256, .f32⟩
  | .local _ .vmem, ⟨36, _⟩ => ⟨S1x256x256, .f32⟩
  | .local _ .vmem, ⟨37, _⟩ => ⟨S1x256x256, .f32⟩
  | .local _ .vmem, ⟨38, _⟩ => ⟨S1x256x256, .f32⟩
  | .local _ .vmem, ⟨39, _⟩ => ⟨S1x256x256, .f32⟩
  | .local _ .vmem, ⟨40, _⟩ => ⟨S1x256x256, .f32⟩
  | .local _ .vmem, ⟨41, _⟩ => ⟨S1x256x256, .f32⟩
  | .local _ .vmem, ⟨42, _⟩ => ⟨S1x256x256, .f32⟩
  | .local _ .vmem, ⟨43, _⟩ => ⟨S1x256x256, .f32⟩
  | .local _ .vmem, ⟨44, _⟩ => ⟨S1x256x256, .f32⟩
  | .local _ .vmem, ⟨45, _⟩ => ⟨S1x256x256, .f32⟩
  | .local _ .smem, ⟨0, _⟩ => ⟨S2, .i32⟩
  | _, _ => ⟨S2x4x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0 : Index := 0#32
  let v1 : BitVec 32 := pf.at 0 (Rect.unit (s := S2) ![0] S1.size inb_S2_S1_0) numel1_S1
  let c0_i32 : BitVec 32 := 0#32
  let v2 : BitVec 1 := Scalar.cmpi .eq arg0 c0_i32
  let c0_i32_0 : BitVec 32 := 0#32
  let v3 : BitVec 32 := Scalar.select v2 arg1 c0_i32_0
  let c0_i32_1 : BitVec 32 := 0#32
  let c0_i32_2 : BitVec 32 := 0#32
  ![v0.toNat, v1.toNat, v3.toNat, c0_i32_1.toNat]

def cc0_transform_1 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let v1 : BitVec 32 := Scalar.xori v0 c0_i32
  let c0 : Index := 0#32
  let v2 : BitVec 32 := pf.at 0 (Rect.unit (s := S2) ![0] S1.size inb_S2_S1_0) numel1_S1
  let c1_i32 : BitVec 32 := 1#32
  let v3 : BitVec 32 := Scalar.xori v2 c1_i32
  let c0_i32_0 : BitVec 32 := 0#32
  let v4 : BitVec 1 := Scalar.cmpi .eq arg0 c0_i32_0
  let c0_i32_1 : BitVec 32 := 0#32
  let v5 : BitVec 32 := Scalar.select v4 arg1 c0_i32_1
  let c0_i32_2 : BitVec 32 := 0#32
  let c0_i32_3 : BitVec 32 := 0#32
  ![v1.toNat, v3.toNat, v5.toNat, c0_i32_2.toNat]

def cc0_transform_2 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let v1 : BitVec 32 := Scalar.xori v0 c0_i32
  let c0 : Index := 0#32
  let v2 : BitVec 32 := pf.at 0 (Rect.unit (s := S2) ![0] S1.size inb_S2_S1_0) numel1_S1
  let c2_i32 : BitVec 32 := 2#32
  let v3 : BitVec 32 := Scalar.xori v2 c2_i32
  let c0_i32_0 : BitVec 32 := 0#32
  let v4 : BitVec 1 := Scalar.cmpi .eq arg0 c0_i32_0
  let c0_i32_1 : BitVec 32 := 0#32
  let v5 : BitVec 32 := Scalar.select v4 arg1 c0_i32_1
  let c0_i32_2 : BitVec 32 := 0#32
  let c0_i32_3 : BitVec 32 := 0#32
  ![v1.toNat, v3.toNat, v5.toNat, c0_i32_2.toNat]

def cc0_transform_3 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let v1 : BitVec 32 := Scalar.xori v0 c0_i32
  let c0 : Index := 0#32
  let v2 : BitVec 32 := pf.at 0 (Rect.unit (s := S2) ![0] S1.size inb_S2_S1_0) numel1_S1
  let c3_i32 : BitVec 32 := 3#32
  let v3 : BitVec 32 := Scalar.xori v2 c3_i32
  let c0_i32_0 : BitVec 32 := 0#32
  let v4 : BitVec 1 := Scalar.cmpi .eq arg0 c0_i32_0
  let c0_i32_1 : BitVec 32 := 0#32
  let v5 : BitVec 32 := Scalar.select v4 arg1 c0_i32_1
  let c0_i32_2 : BitVec 32 := 0#32
  let c0_i32_3 : BitVec 32 := 0#32
  ![v1.toNat, v3.toNat, v5.toNat, c0_i32_2.toNat]

def cc0_transform_4 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c1_i32 : BitVec 32 := 1#32
  let v1 : BitVec 32 := Scalar.xori v0 c1_i32
  let c0 : Index := 0#32
  let v2 : BitVec 32 := pf.at 0 (Rect.unit (s := S2) ![0] S1.size inb_S2_S1_0) numel1_S1
  let c0_i32 : BitVec 32 := 0#32
  let v3 : BitVec 32 := Scalar.xori v2 c0_i32
  let c0_i32_0 : BitVec 32 := 0#32
  let v4 : BitVec 1 := Scalar.cmpi .eq arg0 c0_i32_0
  let c0_i32_1 : BitVec 32 := 0#32
  let v5 : BitVec 32 := Scalar.select v4 arg1 c0_i32_1
  let c0_i32_2 : BitVec 32 := 0#32
  let c0_i32_3 : BitVec 32 := 0#32
  ![v1.toNat, v3.toNat, v5.toNat, c0_i32_2.toNat]

def cc0_transform_5 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c1_i32 : BitVec 32 := 1#32
  let v1 : BitVec 32 := Scalar.xori v0 c1_i32
  let c0 : Index := 0#32
  let v2 : BitVec 32 := pf.at 0 (Rect.unit (s := S2) ![0] S1.size inb_S2_S1_0) numel1_S1
  let c1_i32_0 : BitVec 32 := 1#32
  let v3 : BitVec 32 := Scalar.xori v2 c1_i32_0
  let c0_i32 : BitVec 32 := 0#32
  let v4 : BitVec 1 := Scalar.cmpi .eq arg0 c0_i32
  let c0_i32_1 : BitVec 32 := 0#32
  let v5 : BitVec 32 := Scalar.select v4 arg1 c0_i32_1
  let c0_i32_2 : BitVec 32 := 0#32
  let c0_i32_3 : BitVec 32 := 0#32
  ![v1.toNat, v3.toNat, v5.toNat, c0_i32_2.toNat]

def cc0_transform_6 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c1_i32 : BitVec 32 := 1#32
  let v1 : BitVec 32 := Scalar.xori v0 c1_i32
  let c0 : Index := 0#32
  let v2 : BitVec 32 := pf.at 0 (Rect.unit (s := S2) ![0] S1.size inb_S2_S1_0) numel1_S1
  let c2_i32 : BitVec 32 := 2#32
  let v3 : BitVec 32 := Scalar.xori v2 c2_i32
  let c0_i32 : BitVec 32 := 0#32
  let v4 : BitVec 1 := Scalar.cmpi .eq arg0 c0_i32
  let c0_i32_0 : BitVec 32 := 0#32
  let v5 : BitVec 32 := Scalar.select v4 arg1 c0_i32_0
  let c0_i32_1 : BitVec 32 := 0#32
  let c0_i32_2 : BitVec 32 := 0#32
  ![v1.toNat, v3.toNat, v5.toNat, c0_i32_1.toNat]

def cc0_transform_7 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c1_i32 : BitVec 32 := 1#32
  let v1 : BitVec 32 := Scalar.xori v0 c1_i32
  let c0 : Index := 0#32
  let v2 : BitVec 32 := pf.at 0 (Rect.unit (s := S2) ![0] S1.size inb_S2_S1_0) numel1_S1
  let c3_i32 : BitVec 32 := 3#32
  let v3 : BitVec 32 := Scalar.xori v2 c3_i32
  let c0_i32 : BitVec 32 := 0#32
  let v4 : BitVec 1 := Scalar.cmpi .eq arg0 c0_i32
  let c0_i32_0 : BitVec 32 := 0#32
  let v5 : BitVec 32 := Scalar.select v4 arg1 c0_i32_0
  let c0_i32_1 : BitVec 32 := 0#32
  let c0_i32_2 : BitVec 32 := 0#32
  ![v1.toNat, v3.toNat, v5.toNat, c0_i32_1.toNat]

def cc0_transform_8 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0 : Index := 0#32
  let v1 : BitVec 32 := pf.at 0 (Rect.unit (s := S2) ![0] S1.size inb_S2_S1_0) numel1_S1
  let c1_i32 : BitVec 32 := 1#32
  let v2 : BitVec 1 := Scalar.cmpi .eq arg0 c1_i32
  let c0_i32 : BitVec 32 := 0#32
  let v3 : BitVec 32 := Scalar.select v2 arg1 c0_i32
  let c0_i32_0 : BitVec 32 := 0#32
  let c0_i32_1 : BitVec 32 := 0#32
  ![v0.toNat, v1.toNat, v3.toNat, c0_i32_0.toNat]

def cc0_transform_9 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let v1 : BitVec 32 := Scalar.xori v0 c0_i32
  let c0 : Index := 0#32
  let v2 : BitVec 32 := pf.at 0 (Rect.unit (s := S2) ![0] S1.size inb_S2_S1_0) numel1_S1
  let c1_i32 : BitVec 32 := 1#32
  let v3 : BitVec 32 := Scalar.xori v2 c1_i32
  let c1_i32_0 : BitVec 32 := 1#32
  let v4 : BitVec 1 := Scalar.cmpi .eq arg0 c1_i32_0
  let c0_i32_1 : BitVec 32 := 0#32
  let v5 : BitVec 32 := Scalar.select v4 arg1 c0_i32_1
  let c0_i32_2 : BitVec 32 := 0#32
  let c0_i32_3 : BitVec 32 := 0#32
  ![v1.toNat, v3.toNat, v5.toNat, c0_i32_2.toNat]

def cc0_transform_10 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let v1 : BitVec 32 := Scalar.xori v0 c0_i32
  let c0 : Index := 0#32
  let v2 : BitVec 32 := pf.at 0 (Rect.unit (s := S2) ![0] S1.size inb_S2_S1_0) numel1_S1
  let c2_i32 : BitVec 32 := 2#32
  let v3 : BitVec 32 := Scalar.xori v2 c2_i32
  let c1_i32 : BitVec 32 := 1#32
  let v4 : BitVec 1 := Scalar.cmpi .eq arg0 c1_i32
  let c0_i32_0 : BitVec 32 := 0#32
  let v5 : BitVec 32 := Scalar.select v4 arg1 c0_i32_0
  let c0_i32_1 : BitVec 32 := 0#32
  let c0_i32_2 : BitVec 32 := 0#32
  ![v1.toNat, v3.toNat, v5.toNat, c0_i32_1.toNat]

def cc0_transform_11 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let v1 : BitVec 32 := Scalar.xori v0 c0_i32
  let c0 : Index := 0#32
  let v2 : BitVec 32 := pf.at 0 (Rect.unit (s := S2) ![0] S1.size inb_S2_S1_0) numel1_S1
  let c3_i32 : BitVec 32 := 3#32
  let v3 : BitVec 32 := Scalar.xori v2 c3_i32
  let c1_i32 : BitVec 32 := 1#32
  let v4 : BitVec 1 := Scalar.cmpi .eq arg0 c1_i32
  let c0_i32_0 : BitVec 32 := 0#32
  let v5 : BitVec 32 := Scalar.select v4 arg1 c0_i32_0
  let c0_i32_1 : BitVec 32 := 0#32
  let c0_i32_2 : BitVec 32 := 0#32
  ![v1.toNat, v3.toNat, v5.toNat, c0_i32_1.toNat]

def cc0_transform_12 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c1_i32 : BitVec 32 := 1#32
  let v1 : BitVec 32 := Scalar.xori v0 c1_i32
  let c0 : Index := 0#32
  let v2 : BitVec 32 := pf.at 0 (Rect.unit (s := S2) ![0] S1.size inb_S2_S1_0) numel1_S1
  let c0_i32 : BitVec 32 := 0#32
  let v3 : BitVec 32 := Scalar.xori v2 c0_i32
  let c1_i32_0 : BitVec 32 := 1#32
  let v4 : BitVec 1 := Scalar.cmpi .eq arg0 c1_i32_0
  let c0_i32_1 : BitVec 32 := 0#32
  let v5 : BitVec 32 := Scalar.select v4 arg1 c0_i32_1
  let c0_i32_2 : BitVec 32 := 0#32
  let c0_i32_3 : BitVec 32 := 0#32
  ![v1.toNat, v3.toNat, v5.toNat, c0_i32_2.toNat]

def cc0_transform_13 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c1_i32 : BitVec 32 := 1#32
  let v1 : BitVec 32 := Scalar.xori v0 c1_i32
  let c0 : Index := 0#32
  let v2 : BitVec 32 := pf.at 0 (Rect.unit (s := S2) ![0] S1.size inb_S2_S1_0) numel1_S1
  let c1_i32_0 : BitVec 32 := 1#32
  let v3 : BitVec 32 := Scalar.xori v2 c1_i32_0
  let c1_i32_1 : BitVec 32 := 1#32
  let v4 : BitVec 1 := Scalar.cmpi .eq arg0 c1_i32_1
  let c0_i32 : BitVec 32 := 0#32
  let v5 : BitVec 32 := Scalar.select v4 arg1 c0_i32
  let c0_i32_2 : BitVec 32 := 0#32
  let c0_i32_3 : BitVec 32 := 0#32
  ![v1.toNat, v3.toNat, v5.toNat, c0_i32_2.toNat]

def cc0_transform_14 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c1_i32 : BitVec 32 := 1#32
  let v1 : BitVec 32 := Scalar.xori v0 c1_i32
  let c0 : Index := 0#32
  let v2 : BitVec 32 := pf.at 0 (Rect.unit (s := S2) ![0] S1.size inb_S2_S1_0) numel1_S1
  let c2_i32 : BitVec 32 := 2#32
  let v3 : BitVec 32 := Scalar.xori v2 c2_i32
  let c1_i32_0 : BitVec 32 := 1#32
  let v4 : BitVec 1 := Scalar.cmpi .eq arg0 c1_i32_0
  let c0_i32 : BitVec 32 := 0#32
  let v5 : BitVec 32 := Scalar.select v4 arg1 c0_i32
  let c0_i32_1 : BitVec 32 := 0#32
  let c0_i32_2 : BitVec 32 := 0#32
  ![v1.toNat, v3.toNat, v5.toNat, c0_i32_1.toNat]

def cc0_transform_15 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c1_i32 : BitVec 32 := 1#32
  let v1 : BitVec 32 := Scalar.xori v0 c1_i32
  let c0 : Index := 0#32
  let v2 : BitVec 32 := pf.at 0 (Rect.unit (s := S2) ![0] S1.size inb_S2_S1_0) numel1_S1
  let c3_i32 : BitVec 32 := 3#32
  let v3 : BitVec 32 := Scalar.xori v2 c3_i32
  let c1_i32_0 : BitVec 32 := 1#32
  let v4 : BitVec 1 := Scalar.cmpi .eq arg0 c1_i32_0
  let c0_i32 : BitVec 32 := 0#32
  let v5 : BitVec 32 := Scalar.select v4 arg1 c0_i32
  let c0_i32_1 : BitVec 32 := 0#32
  let c0_i32_2 : BitVec 32 := 0#32
  ![v1.toNat, v3.toNat, v5.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== Reference16Ideal.lean ====
abbrev S2x4x1024x256 : Shape := ⟨4, ![2, 4, 1024, 256]⟩
abbrev S2 : Shape := ⟨1, ![2]⟩
abbrev S2x1024x256 : Shape := ⟨3, ![2, 1024, 256]⟩
abbrev S8x1024x256 : Shape := ⟨3, ![8, 1024, 256]⟩
abbrev S1 : Shape := ⟨1, ![1]⟩
abbrev S_ : Shape := ⟨0, ![]⟩
abbrev S1024x256 : Shape := ⟨2, ![1024, 256]⟩
abbrev S1x1024x256 : Shape := ⟨3, ![1, 1024, 256]⟩

abbrev nBuf : Space → Nat
  | .hbm => 64
  | .vmem => 0
  | .smem => 0
  | _ => 0

abbrev bufTy : (tb : Table) → Fin (tcTables nBuf tb) → BufTy
  | .hbm, ⟨0, _⟩ => ⟨S2x4x1024x256, .f32⟩
  | .hbm, ⟨1, _⟩ => ⟨S2x4x1024x256, .f32⟩
  | .hbm, ⟨2, _⟩ => ⟨S2x4x1024x256, .f32⟩
  | .hbm, ⟨3, _⟩ => ⟨S2x4x1024x256, .f32⟩
  | .hbm, ⟨4, _⟩ => ⟨S2, .i32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S8x1024x256, .i32⟩
  | .hbm, ⟨9, _⟩ => ⟨S1, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S_, .i32⟩
  | .hbm, ⟨16, _⟩ => ⟨S8x1024x256, .i32⟩
  | .hbm, ⟨17, _⟩ => ⟨S8x1024x256, .i1⟩
  | .hbm, ⟨18, _⟩ => ⟨S8x1024x256, .f32⟩
  | .hbm, ⟨19, _⟩ => ⟨S8x1024x256, .f32⟩
  | .hbm, ⟨20, _⟩ => ⟨S8x1024x256, .f32⟩
  | .hbm, ⟨21, _⟩ => ⟨S_, .f32⟩
  | .hbm, ⟨22, _⟩ => ⟨S1024x256, .f32⟩
  | .hbm, ⟨23, _⟩ => ⟨S8x1024x256, .f32⟩
  | .hbm, ⟨24, _⟩ => ⟨S8x1024x256, .f32⟩
  | .hbm, ⟨25, _⟩ => ⟨S8x1024x256, .f32⟩
  | .hbm, ⟨26, _⟩ => ⟨S_, .f32⟩
  | .hbm, ⟨27, _⟩ => ⟨S1024x256, .f32⟩
  | .hbm, ⟨28, _⟩ => ⟨S1x1024x256, .f32⟩
  | .hbm, ⟨29, _⟩ => ⟨S1x1024x256, .f32⟩
  | .hbm, ⟨30, _⟩ => ⟨S2x1024x256, .f32⟩
  | .hbm, ⟨31, _⟩ => ⟨S_, .f32⟩
  | .hbm, ⟨32, _⟩ => ⟨S2x1024x256, .f32⟩
  | .hbm, ⟨33, _⟩ => ⟨S2x1024x256, .f32⟩
  | .hbm, ⟨34, _⟩ => ⟨S_, .f32⟩
  | .hbm, ⟨35, _⟩ => ⟨S2x1024x256, .f32⟩
  | .hbm, ⟨36, _⟩ => ⟨S2x1024x256, .f32⟩
  | .hbm, ⟨37, _⟩ => ⟨S2x1024x256, .f32⟩
  | .hbm, ⟨38, _⟩ => ⟨S_, .f32⟩
  | .hbm, ⟨39, _⟩ => ⟨S2x1024x256, .f32⟩
  | .hbm, ⟨40, _⟩ => ⟨S2x1024x256, .f32⟩
  | .hbm, ⟨41, _⟩ => ⟨S2x1024x256, .f32⟩
  | .hbm, ⟨42, _⟩ => ⟨S_, .f32⟩
  | .hbm, ⟨43, _⟩ => ⟨S2x1024x256, .f32⟩
  | .hbm, ⟨44, _⟩ => ⟨S2x1024x256, .f32⟩
  | .hbm, ⟨45, _⟩ => ⟨S2x1024x256, .f32⟩
  | .hbm, ⟨46, _⟩ => ⟨S_, .f32⟩
  | .hbm, ⟨47, _⟩ => ⟨S2x1024x256, .f32⟩
  | .hbm, ⟨48, _⟩ => ⟨S2x1024x256, .f32⟩
  | .hbm, ⟨49, _⟩ => ⟨S_, .f32⟩
  | .hbm, ⟨50, _⟩ => ⟨S2x1024x256, .f32⟩
  | .hbm, ⟨51, _⟩ => ⟨S2x1024x256, .f32⟩
  | .hbm, ⟨52, _⟩ => ⟨S2x1024x256, .f32⟩
  | .hbm, ⟨53, _⟩ => ⟨S_, .f32⟩
  | .hbm, ⟨54, _⟩ => ⟨S2x1024x256, .f32⟩
  | .hbm, ⟨55, _⟩ => ⟨S2x1024x256, .f32⟩
  | .hbm, ⟨56, _⟩ => ⟨S2x1024x256, .f32⟩
  | .hbm, ⟨57, _⟩ => ⟨S_, .f32⟩
  | .hbm, ⟨58, _⟩ => ⟨S2x1024x256, .f32⟩
  | .hbm, ⟨59, _⟩ => ⟨S2x1024x256, .f32⟩
  | .hbm, ⟨60, _⟩ => ⟨S2x1024x256, .f32⟩
  | .hbm, ⟨61, _⟩ => ⟨S_, .f32⟩
  | .hbm, ⟨62, _⟩ => ⟨S2x1024x256, .f32⟩
  | .hbm, ⟨63, _⟩ => ⟨S2x1024x256, .f32⟩
  | _, _ => ⟨S2x4x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Proof.Dcum.Math.lean ====
/- Scalar facts for the gradient of the forget-gate running sum: the derivative of the log-sigmoid as the
   reference writes it, and suffix sums. -/
module

public import Idealize.ShloMosaic.Lib.Pointwise

@[expose] public section

set_option maxRecDepth 16384

noncomputable section

open Idealize.ShloMosaic

namespace Cert.Dcum

theorem ix2_surj {A B : Nat} (i : (⟨2, ![A, B]⟩ : Shape).Idx) : ∃ a b, i = ix2 a b := ⟨i 0, i 1, by
  funext a
  refine Fin.cases ?_ (fun a => Fin.cases ?_ (fun a => a.elim0) a) a <;> rfl⟩

/-- What the reference's derivative of the log-sigmoid computes at `x = -(f + b)` before its two signs. -/
def dls (x : EReal) : EReal :=
  let top : EReal := Ideal.ofBits .f32 0x7F800000#32
  let out := max x 0 + Ideal.log1p (Ideal.exp (-(max (x - 0) (-(x - 0)))))
  Ideal.exp ((if x = top then 0 else x) - (if out = top then 0 else out))

theorem ofBits_top : Ideal.ofBits .f32 0x7F800000#32 = ⊤ := by simp [Ideal.ofBits, Ideal.ieee]

theorem log_one : Ideal.log 1 = 0 := by
  rw [← EReal.coe_one, Ideal.log_coe, if_neg (by norm_num), Real.log_one, EReal.coe_zero]

theorem exp_sub_softplus (r : ℝ) : Real.exp (r - (max r 0 + Real.log (1 + Real.exp (-|r|)))) = (1 + Real.exp (-r))⁻¹ := by
  have h1 : (0 : ℝ) < 1 + Real.exp (-|r|) := by positivity
  rw [Real.exp_sub, Real.exp_add, Real.exp_log h1]
  rcases le_total 0 r with h | h
  · rw [max_eq_left h, abs_of_nonneg h]
    field_simp
  · rw [max_eq_right h, abs_of_nonpos h, neg_neg, Real.exp_zero, Real.exp_neg]
    have := Real.exp_pos r
    field_simp
    ring

theorem dls_eq (x : EReal) : dls (-x) = Ideal.div 1 (1 + Ideal.exp x) := by
  unfold dls
  simp only [ofBits_top, Ideal.log1p]
  induction x with
  | bot =>
    have : Ideal.exp 0 = 1 := by rw [← EReal.coe_zero, Ideal.exp_coe, Real.exp_zero, EReal.coe_one]
    simp [Ideal.div, log_one, this]
  | top =>
    have e : (1 : EReal) + ⊤ = ⊤ := EReal.add_top_of_ne_bot (by rw [← EReal.coe_one]; exact EReal.coe_ne_bot 1)
    simp [Ideal.div, e, log_one]
  | coe r =>
    have h1 : (0 : ℝ) < 1 + Real.exp (-|(-r)|) := by positivity
    have h2 : (0 : ℝ) < 1 + Real.exp r := by positivity
    have e0 : max (-(r : EReal) - 0) (-(-(r : EReal) - 0)) = ((|(-r)| : ℝ) : EReal) := by
      rw [sub_zero, ← EReal.coe_neg, ← EReal.coe_neg, abs_eq_max_neg]
      exact (EReal.coe_strictMono.monotone.map_max).symm
    have e1 : (max (-(r : EReal)) 0 + Ideal.log (1 + Ideal.exp (-(max (-(r : EReal) - 0) (-(-(r : EReal) - 0))))))
        = ((max (-r) 0 + Real.log (1 + Real.exp (-|(-r)|)) : ℝ) : EReal) := by
      have em : max (-(r : EReal)) 0 = ((max (-r) 0 : ℝ) : EReal) := by
        rw [← EReal.coe_neg, ← EReal.coe_zero]
        exact (EReal.coe_strictMono.monotone.map_max).symm
      have ex : Ideal.exp (-((|(-r)| : ℝ) : EReal)) = ((Real.exp (-|(-r)|) : ℝ) : EReal) := by
        rw [← EReal.coe_neg, Ideal.exp_coe]
      have el : Ideal.log (1 + ((Real.exp (-|(-r)|) : ℝ) : EReal)) = ((Real.log (1 + Real.exp (-|(-r)|)) : ℝ) : EReal) := by
        rw [← EReal.coe_one, ← EReal.coe_add, Ideal.log_coe, if_neg (not_le.mpr h1)]
      rw [e0, ex, el, em, EReal.coe_add]
    rw [e1, if_neg (by rw [← EReal.coe_neg]; exact EReal.coe_ne_top _), if_neg (EReal.coe_ne_top _), ← EReal.coe_neg,
      ← EReal.coe_sub, Ideal.exp_coe, Ideal.exp_coe, ← EReal.coe_one, ← EReal.coe_add, Ideal.div_coe h2.ne',
      exp_sub_softplus, neg_neg, one_div, ← EReal.coe_mul, one_mul]

/-- The sum of `f` over the positions from `s` to the end of 4096. -/
def suffix (f : ℕ → EReal) (s : ℕ) : EReal := ∑ k ∈ Finset.Ico s 4096, f k

theorem suffix_end (f : ℕ → EReal) : suffix f 4096 = 0 := by simp [suffix]

/-- A block of 512 positions read against the triangle, and the positions after it. -/
theorem suffix_block (f : ℕ → EReal) (s r : ℕ) (hr : r < 512) (hs : s + 512 ≤ 4096) :
    ∑ k : Fin 512, (if r ≤ k.val then f (s + k.val) else 0) + suffix f (s + 512) = suffix f (s + r) := by
  unfold suffix
  rw [← Finset.sum_Ico_consecutive f (show s + r ≤ s + 512 by omega) hs]
  congr 1
  rw [Fin.sum_univ_eq_sum_range (fun k => if r ≤ k then f (s + k) else 0) 512, ← Finset.sum_filter, Finset.sum_Ico_eq_sum_range]
  refine Finset.sum_nbij' (fun k => k - r) (fun k => k + r) ?_ ?_ ?_ ?_ ?_
  · intro k hk; simp only [Finset.mem_filter, Finset.mem_range] at hk ⊢; omega
  · intro k hk; simp only [Finset.mem_filter, Finset.mem_range] at hk ⊢; omega
  · intro k hk; simp only [Finset.mem_filter, Finset.mem_range] at hk ⊢; omega
  · intro k hk; simp only [Finset.mem_range] at hk ⊢; omega
  · intro k hk
    simp only [Finset.mem_filter, Finset.mem_range] at hk
    congr 1
    omega

theorem foldl_add {ι : Type} (l : List ι) (g : ι → EReal) (r : EReal) :
    l.foldl (fun a n => a + g n) r = r + (l.map g).sum := by
  induction l generalizing r with
  | nil => simp
  | cons a l ih => rw [List.foldl_cons, ih, List.map_cons, List.sum_cons, add_assoc]

/-- The running sum from the far end, as the host computes it: a window of the whole length padded at the end. -/
theorem revsum (x : (⟨2, ![4096, 16]⟩ : Shape).Idx → EReal) (v : EReal) (hv : v = 0)
    (h : (⟨2, ![4096, 16]⟩ : Shape).ReduceWindows ![4096, 1] ![1, 1] ![0, 0] ![4095, 0] ⟨2, ![4096, 16]⟩) (t : Fin 4096) (c : Fin 16) :
    Ideal.hostReduceWindowAdd ![4096, 1] ![1, 1] ![0, 0] ![4095, 0] h x v (ix2 t c)
      = suffix (fun k => if hk : k < 4096 then x (ix2 ⟨k, hk⟩ c) else 0) t.val := by
  subst hv
  unfold Ideal.hostReduceWindowAdd Host.reduceWindow
  rw [foldl_add, zero_add, ← List.ofFn_eq_map, List.sum_ofFn]
  have key := Equiv.sum_comp (⟨2, ![4096, 1]⟩ : Shape).rowMajor.symm (fun i : (⟨2, ![4096, 1]⟩ : Shape).Idx =>
    if hk : t.val + (i 0).val < 4096 then x (ix2 ⟨t.val + (i 0).val, hk⟩ c) else 0)
  rw [sum_idx2] at key
  simp only [Fin.sum_univ_one] at key
  unfold suffix
  refine Eq.trans (Finset.sum_congr rfl fun n _ => ?_) (key.trans ?_)
  · have hi1 : ((⟨2, ![4096, 1]⟩ : Shape).rowMajor.symm n 1).val = 0 := by
      have := ((⟨2, ![4096, 1]⟩ : Shape).rowMajor.symm n 1).isLt
      simp at this
      omega
    by_cases hk : t.val + ((⟨2, ![4096, 1]⟩ : Shape).rowMajor.symm n 0).val < 4096
    · rw [dif_pos hk, dif_pos]
      · congr 1
        funext a
        refine Fin.cases ?_ (fun a => Fin.cases ?_ (fun a => a.elim0) a) a
        · exact Fin.ext (by simp [ix2])
        · exact Fin.ext (by simpa [ix2] using hi1)
      · intro a
        refine Fin.cases ?_ (fun a => Fin.cases ?_ (fun a => a.elim0) a) a
        · simpa [ix2] using hk
        · have := c.isLt
          simp [ix2] at hi1 ⊢
          omega
    · rw [dif_neg hk, dif_neg]
      intro hh
      exact hk (by simpa [ix2] using (hh 0).2)
  · show (∑ i : Fin 4096, if hk : t.val + i.val < 4096 then x (ix2 ⟨t.val + i.val, hk⟩ c) else 0) = _
    rw [Finset.sum_Ico_eq_sum_range, Fin.sum_univ_eq_sum_range (fun k => if hk : t.val + k < 4096 then x (ix2 ⟨t.val + k, hk⟩ c) else 0) 4096]
    symm
    refine Finset.sum_subset (fun k hk => ?_) (fun k hk hk' => ?_)
    · simp only [Finset.mem_range] at hk ⊢; omega
    · simp only [Finset.mem_range] at hk hk'
      rw [dif_neg (by omega)]

/-- The cotangent of the running sum of one head, and zero from 4096 on. -/
def ctv (x2 : (⟨2, ![16, 4096]⟩ : Shape).Idx → EReal) (l : Fin 16) (k : ℕ) : EReal := if hk : k < 4096 then x2 (ix2 l ⟨k, hk⟩) else 0

/-- The gradient of the gate of head `l` at row `s`: what both programs compute. -/
def grad (x0 : (⟨2, ![4096, 4112]⟩ : Shape).Idx → EReal) (x1 : (⟨1, ![16]⟩ : Shape).Idx → EReal)
    (x2 : (⟨2, ![16, 4096]⟩ : Shape).Idx → EReal) (l : Fin 16) (s : Fin 4096) : EReal :=
  suffix (ctv x2 l) s.val
    * Ideal.div 1 (1 + Ideal.exp (x0 (ix2 s ⟨4096 + l.val, by have := l.isLt; show _ < 4112; omega⟩) + x1 (ix1 l)))

end Cert.Dcum

end
-- ==== Proof.Dcum.Kernel.lean ====
/- What the kernel's call leaves in its two results. -/
module

public import proofs.«01_k».proof.Proof.Gen.KernelIdeal.Value
public import proofs.«01_k».proof.Proof.Dcum.Math
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Dcum

variable (m : (ℓ : Loc nD τ sig) → Buf (Elt Ideal) ℓ)

theorem one_i1 : (FloatOps.sitofp (F := Idealize.ShloMosaic.Ideal) FTy.f32 1#32 : EReal) = 1 := by
  show (((1#32).toInt : ℝ) : EReal) = 1
  norm_num
theorem zero_i1 : (FloatOps.sitofp (F := Idealize.ShloMosaic.Ideal) FTy.f32 0#32 : EReal) = 0 := by
  show (((0#32).toInt : ℝ) : EReal) = 0
  norm_num

theorem tri_val (r k : Fin 512) :
    (FloatOps.sitofp (F := Idealize.ShloMosaic.Ideal) FTy.f32
      (BitVec.setWidth 32 (IntOp.cmpi CmpIPredicate.sle (BitVec.ofNat 32 r.val) (BitVec.ofNat 32 k.val))) : EReal)
      = if r.val ≤ k.val then 1 else 0 := by
  have e : (BitVec.ofNat 32 r.val).sle (BitVec.ofNat 32 k.val) = decide (r.val ≤ k.val) := by
    have hr : (BitVec.ofNat 32 r.val).toInt = r.val := by
      rw [BitVec.toInt_ofNat']; exact Int.bmod_eq_of_le (by omega) (by omega)
    have hk : (BitVec.ofNat 32 k.val).toInt = k.val := by
      rw [BitVec.toInt_ofNat']; exact Int.bmod_eq_of_le (by omega) (by omega)
    unfold BitVec.sle
    rw [hr, hk]
    exact decide_eq_decide.mpr (by omega)
  unfold IntOp.cmpi
  simp only [e]
  by_cases h : r.val ≤ k.val
  · rw [if_pos h]; simp [h]; exact one_i1
  · rw [if_neg h]; simp [h]; exact zero_i1

theorem pay4_apply (v3 : Vec Ideal S128x512 .f32) (v12 : Vec Ideal S1x128 .f32) (r : Fin 512) (l : Fin 128) :
    k0_pay4 (F := Ideal) v3 v12 (ix2 r l)
      = ∑ k : Fin 512, (if r.val ≤ k.val then v3 (ix2 l k) else 0) + v12 (ix2 0 l) := by
  unfold_payloads
  pointwise
  congr 1
  refine Finset.sum_congr rfl fun k _ => ?_
  rw [tri_val, ite_mul, one_mul, zero_mul]

theorem pay6_apply (v3 : Vec Ideal S128x512 .f32) (v12 : Vec Ideal S1x128 .f32) (v19 : Vec Ideal S512x128 .f32) (v21 : Vec Ideal S1x128 .f32) (r : Fin 512) (l : Fin 128) :
    k0_pay6 (F := Ideal) v3 v12 v19 v21 (ix2 r l)
      = k0_pay4 (F := Ideal) v3 v12 (ix2 r l) * Ideal.div 1 (1 + Ideal.exp (v19 (ix2 r l) + v21 (ix2 0 l))) := by
  unfold k0_pay6
  pointwise
  rw [zero_sub, zero_sub, neg_neg]

theorem pay7_apply (v3 : Vec Ideal S128x512 .f32) (v12 : Vec Ideal S1x128 .f32) (v19 : Vec Ideal S512x128 .f32) (v21 : Vec Ideal S1x128 .f32) (r : Fin 512) (l : Fin 128) :
    k0_pay7 (F := Ideal) v3 v12 v19 v21 (ix2 r l) = k0_pay6 (F := Ideal) v3 v12 v19 v21 (ix2 r l) := by
  unfold k0_pay7
  pointwise

theorem pay1_apply (v34 : Vec Ideal S512x128 .f32) (v37 : Vec Ideal S1x128 .f32) (l : Fin 128) :
    k0_pay1 (F := Ideal) v34 v37 (ix2 0 l) = v37 (ix2 0 l) + ∑ r : Fin 512, v34 (ix2 r l) := by
  unfold k0_pay1
  pointwise

theorem pay2_apply (j : S1x128.Idx) : k0_pay2 (F := Ideal) j = (0 : EReal) := by
  unfold k0_pay2
  pointwise

theorem pay3_apply (j : S1x128.Idx) : k0_pay3 (F := Ideal) j = (0 : EReal) := by
  unfold k0_pay3
  pointwise

theorem pay5_apply (v3 : Vec Ideal S128x512 .f32) (v12 : Vec Ideal S1x128 .f32) (l : Fin 128) :
    k0_pay5 (F := Ideal) v3 v12 (ix2 0 l) = k0_pay4 (F := Ideal) v3 v12 (ix2 0 l) := by
  unfold k0_pay5
  pointwise

/-- The first point, from the zero carry. -/
theorem outs_A (c : Dev nD) (t : Fin cfg0.N) (h : t.val % 8 = 0) :
    outsAt0 m c t.val t.isLt
      = (k0_pay7 (F := Ideal) (iblk m c 0 t) (k0_pay2 (F := Ideal)) (iblk m c 1 t) (iblk m c 2 t),
         k0_pay1 (F := Ideal) (k0_pay6 (F := Ideal) (iblk m c 0 t) (k0_pay2 (F := Ideal)) (iblk m c 1 t) (iblk m c 2 t)) (k0_pay3 (F := Ideal)),
         k0_pay5 (F := Ideal) (iblk m c 0 t) (k0_pay2 (F := Ideal))) := by
  rw [outsAt0_A m c t h]
  refine Prod.ext ?_ (Prod.ext ?_ ?_) <;> dsimp only <;> frame_out

/-- A later point, over what the point before it left. -/
theorem outs_B (c : Dev nD) (t : Fin cfg0.N) (h : ¬t.val % 8 = 0) :
    outsAt0 m c t.val t.isLt
      = (let o := outsAt0 m c (t.val - 1) (Nat.lt_of_le_of_lt (Nat.sub_le _ _) t.isLt)
         (k0_pay7 (F := Ideal) (iblk m c 0 t) o.2.2 (iblk m c 1 t) (iblk m c 2 t),
          k0_pay1 (F := Ideal) (k0_pay6 (F := Ideal) (iblk m c 0 t) o.2.2 (iblk m c 1 t) (iblk m c 2 t)) o.2.1,
          k0_pay5 (F := Ideal) (iblk m c 0 t) o.2.2)) := by
  rw [outsAt0_B m c t h]
  have hr : ∀ x, View.read (Elt Ideal) (View.whole cc0_scratch0) ((Memref.isWhole_whole cc0_scratch0).unread x) = x := fun x =>
    (Memref.isWhole_whole cc0_scratch0).read_unread x
  refine Prod.ext ?_ (Prod.ext ?_ ?_) <;> dsimp only <;> frame_out <;> rw [hr]

/-- The cotangent of the running sum in column `l`, and zero from 4096 on. -/
def dcv (c : Dev nD) (l : Fin 128) (s : ℕ) : EReal :=
  if h : s < 4096 then V m c main_v3 (ix2 l ⟨s, h⟩) else 0

/-- The gate's logistic at row `s` and column `l`. -/
def sgv (c : Dev nD) (l : Fin 128) (s : Fin 4096) : EReal :=
  let f : EReal := V m c main_v0 (ix2 s ⟨4096 + l.val, by have := l.isLt; show _ < 4224; omega⟩)
  let b : EReal := V m c main_v2 (ix2 0 l)
  Ideal.div 1 (1 + Ideal.exp (f + b))

/-- The gradient of the gate at row `s` and column `l`. -/
def dfv (c : Dev nD) (l : Fin 128) (s : ℕ) : EReal :=
  if h : s < 4096 then suffix (dcv m c l) s * sgv m c l ⟨s, h⟩ else 0

theorem idx0 : ∀ t : Fin cfg0.N, win0_0.index t = ![0, 7 - t.val] :=
  (by decide +kernel : ∀ t : Fin grid0.N, win0_0.index t = ![0, 7 - t.val])
theorem idx1 : ∀ t : Fin cfg0.N, win0_1.index t = ![7 - t.val, 32] :=
  (by decide +kernel : ∀ t : Fin grid0.N, win0_1.index t = ![7 - t.val, 32])
theorem idx2 : ∀ t : Fin cfg0.N, win0_2.index t = ![0, 0] :=
  (by decide +kernel : ∀ t : Fin grid0.N, win0_2.index t = ![0, 0])
theorem idx3 : ∀ t : Fin cfg0.N, win0_3.index t = ![7 - t.val, 0] :=
  (by decide +kernel : ∀ t : Fin grid0.N, win0_3.index t = ![7 - t.val, 0])

theorem blk0 (c : Dev nD) (t : Fin cfg0.N) (l : Fin 128) (k : Fin 512) :
    (iblk m c 0 t (ix2 l k) : EReal) = dcv m c l (512 * (7 - t.val) + k.val) := by
  have hs : 512 * (7 - t.val) + k.val < 4096 := by omega
  unfold dcv
  rw [dif_pos hs]
  blk_ext [iblk, idx0 t]

theorem blk12 (c : Dev nD) (t : Fin cfg0.N) (r : Fin 512) (l : Fin 128) (hs : 512 * (7 - t.val) + r.val < 4096)
    (x y : EReal) (hx : x = iblk m c 1 t (ix2 r l)) (hy : y = iblk m c 2 t (ix2 0 l)) :
    Ideal.div 1 (1 + Ideal.exp (x + y)) = sgv m c l ⟨512 * (7 - t.val) + r.val, hs⟩ := by
  unfold sgv
  have e1 : iblk m c 1 t (ix2 r l) = V m c main_v0 (ix2 ⟨512 * (7 - t.val) + r.val, hs⟩ ⟨4096 + l.val, by have := l.isLt; show _ < 4224; omega⟩) := by
    blk_ext [iblk, idx1 t]
  have e2 : iblk m c 2 t (ix2 0 l) = V m c main_v2 (ix2 0 l) := by
    blk_ext [iblk, idx2 t]
  rw [hx, hy, e1, e2]

/-- One point's running sum, over a carry that holds the sum of the later rows. -/
theorem point4 (c : Dev nD) (t : Fin cfg0.N) (acc : Vec Ideal S1x128 .f32) (l : Fin 128)
    (ha : acc (ix2 0 l) = suffix (dcv m c l) (512 * (7 - t.val) + 512)) (r : Fin 512) :
    k0_pay4 (F := Ideal) (iblk m c 0 t) acc (ix2 r l) = suffix (dcv m c l) (512 * (7 - t.val) + r.val) := by
  rw [pay4_apply, ha, ← suffix_block (dcv m c l) _ r.val r.isLt (by omega)]
  congr 1
  refine Finset.sum_congr rfl fun k _ => ?_
  rw [blk0]

theorem point6 (c : Dev nD) (t : Fin cfg0.N) (acc : Vec Ideal S1x128 .f32) (l : Fin 128)
    (ha : acc (ix2 0 l) = suffix (dcv m c l) (512 * (7 - t.val) + 512)) (r : Fin 512) :
    k0_pay6 (F := Ideal) (iblk m c 0 t) acc (iblk m c 1 t) (iblk m c 2 t) (ix2 r l) = dfv m c l (512 * (7 - t.val) + r.val) := by
  have hs : 512 * (7 - t.val) + r.val < 4096 := by omega
  rw [pay6_apply, point4 m c t acc l ha, blk12 m c t r l hs _ _ rfl rfl]
  unfold dfv
  rw [dif_pos hs]

theorem point1 (c : Dev nD) (t : Fin cfg0.N) (acc db : Vec Ideal S1x128 .f32) (l : Fin 128)
    (ha : acc (ix2 0 l) = suffix (dcv m c l) (512 * (7 - t.val) + 512))
    (hd : db (ix2 0 l) = suffix (dfv m c l) (512 * (7 - t.val) + 512)) :
    k0_pay1 (F := Ideal) (k0_pay6 (F := Ideal) (iblk m c 0 t) acc (iblk m c 1 t) (iblk m c 2 t)) db (ix2 0 l)
      = suffix (dfv m c l) (512 * (7 - t.val)) := by
  rw [pay1_apply, hd, add_comm]
  have h := suffix_block (dfv m c l) (512 * (7 - t.val)) 0 (by omega) (by omega)
  refine Eq.trans ?_ (h.trans (by rw [Nat.add_zero]))
  congr 1
  refine Finset.sum_congr rfl fun r _ => ?_
  rw [point6 m c t acc l ha, if_pos (Nat.zero_le _)]

/-- What stands in the carry and in the bias gradient after point `n`. -/
theorem carry_eq (c : Dev nD) (l : Fin 128) : ∀ (n : ℕ) (h : n < cfg0.N),
    ((outsAt0 m c n h).2.2 (ix2 0 l) : EReal) = suffix (dcv m c l) (512 * (7 - n))
      ∧ ((outsAt0 m c n h).2.1 (ix2 0 l) : EReal) = suffix (dfv m c l) (512 * (7 - n))
  | 0, h => by
    have e := outs_A m c ⟨0, h⟩ rfl
    have ha : k0_pay2 (F := Ideal) (ix2 0 l) = suffix (dcv m c l) (512 * (7 - (⟨0, h⟩ : Fin cfg0.N).val) + 512) := by
      rw [pay2_apply]; exact (suffix_end _).symm
    have hd : k0_pay3 (F := Ideal) (ix2 0 l) = suffix (dfv m c l) (512 * (7 - (⟨0, h⟩ : Fin cfg0.N).val) + 512) := by
      rw [pay3_apply]; exact (suffix_end _).symm
    dsimp only at e
    rw [e]
    exact ⟨(pay5_apply _ _ l).trans (point4 m c ⟨0, h⟩ _ l ha 0), point1 m c ⟨0, h⟩ _ _ l ha hd⟩
  | n + 1, h => by
    have hN : cfg0.N = 8 := N_0
    have ih := carry_eq c l n (by omega)
    have e := outs_B m c ⟨n + 1, h⟩ (by dsimp only; omega)
    dsimp only [Nat.add_sub_cancel] at e
    rw [e]
    have e5 : 512 * (7 - n) = 512 * (7 - (⟨n + 1, h⟩ : Fin cfg0.N).val) + 512 := by dsimp only; omega
    rw [e5] at ih
    exact ⟨(pay5_apply _ _ l).trans (point4 m c ⟨n + 1, h⟩ _ l ih.1 0), point1 m c ⟨n + 1, h⟩ _ _ l ih.1 ih.2⟩

theorem out3_eq (c : Dev nD) (t : Fin cfg0.N) (r : Fin 512) (l : Fin 128) :
    ((outsAt0 m c t.val t.isLt).1 (ix2 r l) : EReal) = dfv m c l (512 * (7 - t.val) + r.val) := by
  have hN : cfg0.N = 8 := N_0
  by_cases h : t.val % 8 = 0
  · have h0 : t.val = 0 := by omega
    rw [outs_A m c t h]
    refine (pay7_apply _ _ _ _ r l).trans (point6 m c t _ l ?_ r)
    rw [pay2_apply, h0]
    exact (suffix_end _).symm
  · have ih := (carry_eq m c l (t.val - 1) (by omega)).1
    rw [outs_B m c t h]
    refine (pay7_apply _ _ _ _ r l).trans (point6 m c t _ l ?_ r)
    rw [show 512 * (7 - t.val) + 512 = 512 * (7 - (t.val - 1)) by omega]
    exact ih

/-- The gradient of the gate, whole. -/
theorem final3 (c : Dev nD) : (dats m 0 c).arrAt 3 cfg0.N = fun i : S4096x128.Idx => dfv m c (i 1) (i 0).val := by
  refine (dats m 0 c).arrAt_eq_of_covers 3 _ (by decide +kernel) fun t hf y => ?_
  blk_simp
  rw [after0_3]
  idx_vars y
  refine (out3_eq m c t y0 y1).trans ?_
  have e0 : 512 * (7 - t.val) + y0.val = win0_3.index t 0 * 512 + y0.val := by
    rw [idx3 t]; show _ = (7 - t.val) * 512 + _; omega
  have e1 : y1 = ((View.whole main_v4_0).slice (win0_3.rect t)).emb (ix2 y0 y1) 1 := by
    refine Fin.ext ?_
    blk_simp
    rw [idx3 t]
    show _ = 0 * 128 + _
    omega
  rw [e0]
  exact congrArg (fun z => dfv m c z _) e1

/-- The gradient of the bias, whole. -/
theorem final4 (c : Dev nD) : (dats m 0 c).arrAt 4 cfg0.N = fun i : S1x128.Idx => suffix (dfv m c (i 1)) 0 := by
  refine (dats m 0 c).arrAt_eq_of_after_last 4 t0_7 (by decide +kernel) _ fun j => ?_
  rw [after0_4]
  have h := (carry_eq m c (j 1) 7 (by decide)).2
  have ej : (j : S1x128.Idx) = ix2 0 (j 1) := by
    have := (j 0).isLt
    funext a
    refine Fin.cases ?_ (fun a => Fin.cases ?_ (fun a => a.elim0) a) a
    · exact Fin.ext (by show (j 0).val = 0; change (j 0).val < 1 at this; omega)
    · rfl
  show (outsAt0 m c 7 _).2.1 j = _
  rw [ej]
  exact h

end Cert.KernelIdeal.Value

end
-- ==== Proof.Dcum.Host.lean ====
/- The arrays the call is handed, and the reference's two results, at an index. -/
module

public import proofs.«01_k».proof.Proof.Dcum.Kernel
public import proofs.«01_k».proof.Proof.Gen.ReferenceIdeal.Read
public import Idealize.ShloMosaic.Lib.StableHlo.ReadAt

@[expose] public section

set_option maxRecDepth 16384

noncomputable section

open Idealize.ShloMosaic Idealize.ShloMosaic.TcCoe Idealize.SL.Sem

namespace Cert.KernelIdeal.Value

open Cert.KernelIdeal Cert.KernelIdeal.Gen Cert.Dcum

variable (m : (ℓ : Loc nD τ sig) → Buf (Elt Ideal) ℓ)

theorem zero_i : (FloatOps.sitofp (F := Ideal) FTy.f32 0#32 : EReal) = 0 := zero_i1

theorem V3 (c : Dev nD) (l : Fin 128) (s : Fin 4096) :
    V m c main_v3 (ix2 l s) = if h : l.val < 16 then m ((c.tc : Thread nD τ).loc main_arg2) (ix2 ⟨l.val, h⟩ s) else (0 : EReal) := by
  unfold V
  simp only [hostOps0, hostOps0_1, hostOps0_2, hostOps0_3, hostOps0_4, hostOps0_5, List.flatten_cons, List.flatten_nil, List.append_nil,
    List.cons_append, List.nil_append]
  after_reads_at
  rw [zero_i]

theorem V2 (c : Dev nD) (l : Fin 16) :
    V m c main_v2 (ix2 0 ⟨l.val, by have := l.isLt; show _ < 128; omega⟩) = m ((c.tc : Thread nD τ).loc main_arg1) (ix1 l) := by
  unfold V
  simp only [hostOps0, hostOps0_1, hostOps0_2, hostOps0_3, hostOps0_4, hostOps0_5, List.flatten_cons, List.flatten_nil, List.append_nil,
    List.cons_append, List.nil_append]
  after_reads_at

theorem V0 (c : Dev nD) (s : Fin 4096) (l : Fin 16) :
    V m c main_v0 (ix2 s ⟨4096 + l.val, by have := l.isLt; show _ < 4224; omega⟩)
      = m ((c.tc : Thread nD τ).loc main_arg0) (ix2 s ⟨4096 + l.val, by have := l.isLt; show _ < 4112; omega⟩) := by
  unfold V
  simp only [hostOps0, hostOps0_1, hostOps0_2, hostOps0_3, hostOps0_4, hostOps0_5, List.flatten_cons, List.flatten_nil, List.append_nil,
    List.cons_append, List.nil_append]
  after_reads_at
  rw [dif_pos (show 4096 + l.val < 4112 from by have := l.isLt; omega)]

/-- What the call computes, at the arguments: a real head's gradient, and zero in a padding column. -/
theorem dfv_eq (c : Dev nD) (l : Fin 128) (s : Fin 4096) :
    dfv m c l s.val = if h : l.val < 16 then grad (m ((c.tc : Thread nD τ).loc main_arg0)) (m ((c.tc : Thread nD τ).loc main_arg1))
      (m ((c.tc : Thread nD τ).loc main_arg2)) ⟨l.val, h⟩ s else 0 := by
  unfold dfv
  rw [dif_pos s.isLt]
  by_cases h : l.val < 16
  · rw [dif_pos h]
    unfold grad sgv
    have e3 : dcv m c l = ctv (m ((c.tc : Thread nD τ).loc main_arg2)) ⟨l.val, h⟩ := by
      funext k
      unfold dcv ctv
      by_cases hk : k < 4096
      · rw [dif_pos hk, dif_pos hk, V3, dif_pos h]
      · rw [dif_neg hk, dif_neg hk]
    rw [e3, ← V2 m c ⟨l.val, h⟩, ← V0 m c s ⟨l.val, h⟩]
  · rw [dif_neg h]
    have e3 : dcv m c l = fun _ => 0 := by
      funext k
      unfold dcv
      by_cases hk : k < 4096
      · rw [dif_pos hk, V3, dif_neg h]
      · rw [dif_neg hk]
    rw [e3]
    unfold suffix
    rw [Finset.sum_const_zero, zero_mul]

theorem sum_dfv (c : Dev nD) (l : Fin 128) : suffix (dfv m c l) 0 = ∑ s : Fin 4096, dfv m c l s.val := by
  unfold suffix
  rw [Fin.sum_univ_eq_sum_range (fun k => dfv m c l k) 4096, Finset.range_eq_Ico]

end Cert.KernelIdeal.Value

namespace Cert.ReferenceIdeal.Read
open Cert.ReferenceIdeal Cert.Dcum

/-- The reference's own operations for the derivative of the log-sigmoid. -/
def dlsF (x : Ideal .f32) : Ideal .f32 :=
  let top : Ideal .f32 := FloatOps.ofBits FTy.f32 2139095040#32
  let z : Ideal .f32 := FloatOps.ofBits FTy.f32 0#32
  let d : Ideal .f32 := FloatOps.subf x z
  let out : Ideal .f32 := Scalar.select (FloatOps.cmpf CmpFPredicate.une d d) (FloatOps.addf x z)
    (FloatOps.addf (FloatOps.maximumf x z)
      (FloatOps.hostUnary HostUnaryOp.log1p (FloatOps.hostUnary HostUnaryOp.exp (FloatOps.hostNegf (FloatOps.hostAbsf d)))))
  FloatOps.hostUnary HostUnaryOp.exp
    (FloatOps.subf (Scalar.select (FloatOps.cmpf CmpFPredicate.oeq x top) z x)
      (Scalar.select (FloatOps.cmpf CmpFPredicate.oeq out top) z out))

theorem select_oeq (a b u v : EReal) :
    Scalar.select (FloatOps.cmpf (F := Ideal) (φ := .f32) CmpFPredicate.oeq a b) u v = if a = b then u else v := by
  show Scalar.select (Ideal.cmp .oeq a b) u v = _
  by_cases h : a = b <;> simp [Ideal.cmp, Scalar.select, h]

theorem select_une (a u v : EReal) :
    Scalar.select (FloatOps.cmpf (F := Ideal) (φ := .f32) CmpFPredicate.une a a) u v = v := by
  show Scalar.select (Ideal.cmp .une a a) u v = _
  simp [Ideal.cmp, Scalar.select]

theorem dlsF_eq (x : Ideal .f32) : dlsF x = dls x := by
  unfold dlsF dls
  simp only [select_une, select_oeq]
  have hz : (FloatOps.ofBits (F := Ideal) FTy.f32 0#32 : EReal) = 0 := Ideal.ofBits_zero_f32
  simp only [hz]
  rfl

theorem v4_1_eq (x0 : (⟨S4096x4112, .f32⟩ : BufTy).Contents (Elt Ideal)) (x1 : (⟨S16, .f32⟩ : BufTy).Contents (Elt Ideal)) (s : Fin 4096) (l : Fin 16) :
    val_main_v4_1 (F := Ideal) x0 x1 (ix2 s l)
      = dls (FloatOps.hostNegf (F := Ideal) (φ := .f32) (FloatOps.addf (F := Ideal) (φ := .f32) (x0 (idx_main_v0 (ix2 s l))) (x1 (idx_main_v1 (idx_main_v2 (ix2 s l)))))) := by
  simp only [val_main_v4_1_apply, val_main_call0_call0_v21_apply, val_main_call0_call0_v20_apply, val_main_call0_call0_v18_apply,
    val_main_call0_call0_v19_apply,val_main_call0_call0_v16_apply,val_main_call0_call0_v17_apply,val_main_call0_call0_v14_apply,val_main_call0_call0_v15_apply,
    val_main_call0_v1_0_apply, val_main_call0_call0_v13_apply, val_main_call0_call0_v11_apply, val_main_call0_call0_v10_apply,
    val_main_call0_call0_v9_apply, val_main_call0_call0_v8_apply, val_main_call0_call0_v7_apply, val_main_call0_call0_v6_apply, val_main_call0_call0_v5_apply, val_main_call0_call0_v4_apply, val_main_call0_call0_v3_apply, val_main_call0_call0_v2_apply,
    val_main_call0_call0_v1_apply, val_main_call0_call0_v0_apply, val_main_call0_v0_apply, val_main_v3_apply, val_main_v2_apply, val_main_v1_apply, val_main_v0_apply,
    val_main_call0_call0_cst_0_apply, val_main_call0_call0_cst_1_apply, val_main_call0_call0_cst_2_apply, val_main_call0_call0_cst_3_apply, val_main_call0_call0_cst_apply]
  exact dlsF_eq _

theorem v9_eq (x0 : (⟨S4096x4112, .f32⟩ : BufTy).Contents (Elt Ideal)) (x1 : (⟨S16, .f32⟩ : BufTy).Contents (Elt Ideal)) (x2 : (⟨S16x4096, .f32⟩ : BufTy).Contents (Elt Ideal)) (s : Fin 4096) (l : Fin 16) :
    val_main_v9 (F := Ideal) x0 x1 x2 (ix2 s l) = grad x0 x1 x2 l s := by
  simp only [val_main_v9_apply, val_main_call3_v1_apply, val_main_call3_v0_apply, v4_1_eq]
  unfold val_main_v8
  have hr := revsum (val_main_v7 (F := Ideal) x2) (val_main_call2_call0_v0 (F := Ideal) (Shape.Idx.first Gen.h_S_)) Ideal.ofBits_zero_f32
    Gen.reduceWindows_S4096x16_S4096x16_w4096s1p0_4095_w1s1p0_0 s l
  have h7 : (fun k => if hk : k < 4096 then val_main_v7 (F := Ideal) x2 (ix2 ⟨k, hk⟩ l) else 0) = ctv x2 l := by
    funext k
    unfold ctv
    by_cases hk : k < 4096
    · rw [dif_pos hk, dif_pos hk, val_main_v7_apply]
      refine congrArg x2 ?_
      funext a
      refine Fin.cases ?_ (fun a => Fin.cases ?_ (fun a => a.elim0) a) a
      · rfl
      · exact Fin.ext rfl
    · rw [dif_neg hk, dif_neg hk]
  rw [h7] at hr
  have e0 : idx_main_v0 (ix2 s l) = ix2 s ⟨4096 + l.val, by have := l.isLt; show _ < 4112; omega⟩ := by
    funext a
    refine Fin.cases ?_ (fun a => Fin.cases ?_ (fun a => a.elim0) a) a
    · rfl
    · exact Fin.ext (by show 4096 + l.val = _; rfl)
  have e1 : idx_main_v1 (idx_main_v2 (ix2 s l)) = ix1 l := by
    funext a
    refine Fin.cases ?_ (fun a => a.elim0) a
    rfl
  rw [e0, e1]
  unfold grad
  have hd := dls_eq ((x0 (ix2 s ⟨4096 + l.val, by have := l.isLt; show _ < 4112; omega⟩) : EReal) + (x1 (ix1 l) : EReal))
  rw [← hd]
  have key : ∀ A B : EReal, FloatOps.hostNegf (F := Ideal) (φ := .f32) (FloatOps.mulf (F := Ideal) (φ := .f32) (FloatOps.hostNegf (F := Ideal) (φ := .f32) A) B) = A * B := fun A B => by
    show -(-A * B) = A * B
    rw [EReal.neg_mul, neg_neg]
  refine (key _ _).trans ?_
  rw [← hr]
  refine congrArg₂ (fun a b : EReal => a * b) ?_ ?_
  · unfold Host.reduceWindowAdd
    simp only [Ideal.hostReduceWindowAdd_def]
  · rfl

theorem v14_eq (x0 : (⟨S4096x4112, .f32⟩ : BufTy).Contents (Elt Ideal)) (x1 : (⟨S16, .f32⟩ : BufTy).Contents (Elt Ideal)) (x2 : (⟨S16x4096, .f32⟩ : BufTy).Contents (Elt Ideal)) (s : Fin 4096) (l : Fin 128) :
    val_main_v14 (F := Ideal) x0 x1 x2 (ix2 s l) = if h : l.val < 16 then grad x0 x1 x2 ⟨l.val, h⟩ s else (0 : EReal) := by
  unfold val_main_v14 val_main_v13
  pointwise
  have hz : (val_main_call4_v0 (F := Ideal) (Shape.Idx.first Gen.h_S_) : EReal) = 0 := Cert.KernelIdeal.Value.zero_i
  simp only [v9_eq, hz]

theorem v16_eq (x0 : (⟨S4096x4112, .f32⟩ : BufTy).Contents (Elt Ideal)) (x1 : (⟨S16, .f32⟩ : BufTy).Contents (Elt Ideal)) (x2 : (⟨S16x4096, .f32⟩ : BufTy).Contents (Elt Ideal)) (s : Fin 1) (l : Fin 128) :
    val_main_v16 (F := Ideal) x0 x1 x2 (ix2 s l) = if h : l.val < 16 then ∑ k : Fin 4096, grad x0 x1 x2 ⟨l.val, h⟩ k else (0 : EReal) := by
  unfold val_main_v16 val_main_v15 val_main_v12 val_main_v11 val_main_v10
  pointwise
  have hz : (val_main_call5_v0 (F := Ideal) (Shape.Idx.first Gen.h_S_) : EReal) = 0 := Cert.KernelIdeal.Value.zero_i
  have h0 : (val_main_cst (F := Ideal) (Shape.Idx.first Gen.h_S_) : EReal) = 0 := Ideal.ofBits_zero_f32
  have h1 : (val_main_cst_0 (F := Ideal) (Shape.Idx.first Gen.h_S_) : EReal) = 0 := Ideal.ofBits_zero_f32
  simp only [v9_eq, hz, h0, h1, zero_add, Fin.sum_univ_one]

end Cert.ReferenceIdeal.Read

end
-- ==== Proof.Flash.Tile.lean ====
/- Sums over the rows and columns of a tile, over the reals. -/
module

public import Idealize.ShloMosaic.Lib.Pointwise

@[expose] public section

noncomputable section

namespace Cert.Flash

open Finset

/-- A product of two tiles over their 128 columns. -/
def tS (q k : ℕ → ℕ → ℝ) (x y : ℕ) : ℝ := ∑ l ∈ range 128, q x l * k y l
/-- The weights of a tile: keys' running sum `c`, rows' log-sum `lp`. -/
def tP (q k : ℕ → ℕ → ℝ) (c lp : ℕ → ℝ) (x y : ℕ) : ℝ := Real.exp (tS q k x y - c y - lp x)
/-- The gradient of the scores of a tile with weights `p`. -/
def tD (p d v : ℕ → ℕ → ℝ) (δ : ℕ → ℝ) (x y : ℕ) : ℝ := p x y * (tS d v x y - δ x)
/-- The sum of a tile's columns. -/
def tC (w : ℕ → ℕ → ℝ) (y : ℕ) : ℝ := ∑ x ∈ range 512, w x y
/-- The sum of a tile's rows. -/
def tW (w : ℕ → ℕ → ℝ) (x : ℕ) : ℝ := ∑ y ∈ range 512, w x y
/-- A product over a tile's rows. -/
def tT (w d : ℕ → ℕ → ℝ) (y l : ℕ) : ℝ := ∑ x ∈ range 512, w x y * d x l
/-- A product over a tile's columns. -/
def tN (w k : ℕ → ℕ → ℝ) (x l : ℕ) : ℝ := ∑ y ∈ range 512, w x y * k y l
/-- The weights on and below the diagonal. -/
def low (p : ℕ → ℕ → ℝ) (x y : ℕ) : ℝ := if y ≤ x then p x y else 0

theorem coe_sum (n : ℕ) (f : ℕ → ℝ) : (∑ i : Fin n, ((f i.val : ℝ) : EReal)) = ((∑ i ∈ range n, f i : ℝ) : EReal) := by
  rw [Fin.sum_univ_eq_sum_range (fun i => ((f i : ℝ) : EReal)) n]
  induction n with
  | zero => simp
  | succ n ih => rw [sum_range_succ, sum_range_succ, EReal.coe_add, ih]

theorem coe_dot (n : ℕ) (f g : ℕ → ℝ) :
    (∑ i : Fin n, ((f i.val : ℝ) : EReal) * ((g i.val : ℝ) : EReal)) = ((∑ i ∈ range n, f i * g i : ℝ) : EReal) := by
  rw [← coe_sum n fun i => f i * g i]
  exact Finset.sum_congr rfl fun i _ => (EReal.coe_mul _ _).symm

end Cert.Flash
-- ==== Proof.Flash.Pay.lean ====
/- The vectors of the attention backward call, over the reals. -/
module

public import proofs.«01_k».proof.Proof.Gen.Kernel2Ideal.Frame
public import proofs.«01_k».proof.Proof.Flash.Tile
public import Idealize.ShloMosaic.Lib.Pipeline.ValueKit

@[expose] public section

set_option maxRecDepth 16384

noncomputable section

open Idealize.ShloMosaic Idealize.ShloMosaic.TcCoe Idealize.SL.Sem

namespace Cert.Kernel2Ideal.Value

open Cert.Kernel2Ideal Cert.Kernel2Ideal.Gen Cert.Flash

/-- The vector's entries are the reals `f`. -/
def R1 {a : ℕ} (v : (⟨2, ![a, 1]⟩ : Shape).Idx → EReal) (f : ℕ → ℝ) : Prop := ∀ x : Fin a, v (ix2 x 0) = ((f x.val : ℝ) : EReal)
def R2 {a b : ℕ} (v : (⟨2, ![a, b]⟩ : Shape).Idx → EReal) (f : ℕ → ℕ → ℝ) : Prop := ∀ (x : Fin a) (y : Fin b), v (ix2 x y) = ((f x.val y.val : ℝ) : EReal)
def R3 {b : ℕ} (v : (⟨3, ![1, 1, b]⟩ : Shape).Idx → EReal) (f : ℕ → ℝ) : Prop := ∀ (y : Fin b), v (ix3 0 0 y) = ((f y.val : ℝ) : EReal)
def R4 {b : ℕ} (v : (⟨4, ![1, 1, 1, b]⟩ : Shape).Idx → EReal) (f : ℕ → ℝ) : Prop := ∀ (y : Fin b), v (ix4 0 0 0 y) = ((f y.val : ℝ) : EReal)

section
variable {v36 v42 v39 v45 v204 v206 acc v222 v223 old : Vec Ideal S512x128 .f32} {v50 v55 v58 v61 rs : Vec Ideal S512x1 .f32}
  {v209 v241 : Vec Ideal S1x1x1x512 .f32} {v225 : Vec Ideal S1x1x512 .f32} {v239 : Vec Ideal S512x512 .f32}
variable {q d k v a u : ℕ → ℕ → ℝ} {δ lp c r e : ℕ → ℝ}

theorem r_pay4 (h36 : R2 v36 q) (h58 : R1 v58 lp) (h204 : R2 v204 k) (h209 : R4 v209 c) :
    R2 (k0_pay4 (F := Ideal) v36 v58 v204 v209) (tP q k c lp) := by
  intro x y
  unfold k0_pay4
  pointwise
  simp only [h36 _ _, h204 _ _, h58 _, h209 _]
  rw [coe_dot 128 (q x) (k y), ← EReal.coe_sub, ← EReal.coe_sub, Ideal.exp_coe]
  rfl

theorem r_pay5 (h36 : R2 v36 q) (h42 : R2 v42 d) (h50 : R1 v50 δ) (h58 : R1 v58 lp) (h204 : R2 v204 k) (h206 : R2 v206 v)
    (h209 : R4 v209 c) : R2 (k0_pay5 (F := Ideal) v36 v42 v50 v58 v204 v206 v209) (tD (tP q k c lp) d v δ) := by
  intro x y
  have h4 := r_pay4 h36 h58 h204 h209 x y
  unfold k0_pay5
  pointwise
  rw [h4]
  simp only [h42 _ _, h206 _ _, h50 _]
  rw [coe_dot 128 (d x) (v y), ← EReal.coe_sub, ← EReal.coe_mul]
  rfl

theorem r_pay7 (h36 : R2 v36 q) (h42 : R2 v42 d) (h58 : R1 v58 lp) (h204 : R2 v204 k) (h209 : R4 v209 c) :
    R2 (k0_pay7 (F := Ideal) v36 v42 v58 v204 v209) (tT (tP q k c lp) d) := by
  intro y l
  have h4 := r_pay4 h36 h58 h204 h209
  unfold k0_pay7
  pointwise
  simp only [h4 _ _, h42 _ _]
  exact coe_dot 512 (fun x => tP q k c lp x y) (fun x => d x l)

theorem r_pay8 (h36 : R2 v36 q) (h42 : R2 v42 d) (h50 : R1 v50 δ) (h58 : R1 v58 lp) (h204 : R2 v204 k) (h206 : R2 v206 v)
    (h209 : R4 v209 c) : R2 (k0_pay8 (F := Ideal) v36 v42 v50 v58 v204 v206 v209) (tT (tD (tP q k c lp) d v δ) q) := by
  intro y l
  have h5 := r_pay5 h36 h42 h50 h58 h204 h206 h209
  unfold k0_pay8 k0_pay6
  pointwise
  simp only [h5 _ _, h36 _ _]
  exact coe_dot 512 (fun x => tD (tP q k c lp) d v δ x y) (fun x => q x l)

theorem r_pay9 (h36 : R2 v36 q) (h42 : R2 v42 d) (h50 : R1 v50 δ) (h58 : R1 v58 lp) (h204 : R2 v204 k) (h206 : R2 v206 v)
    (h209 : R4 v209 c) (h225 : R3 v225 e) :
    R3 (k0_pay9 (F := Ideal) v36 v42 v50 v58 v204 v206 v209 v225) (fun y => e y - tC (tD (tP q k c lp) d v δ) y) := by
  intro y
  have h5 := r_pay5 h36 h42 h50 h58 h204 h206 h209
  unfold k0_pay9
  pointwise
  simp only [h5 _ _, h225 _]
  rw [coe_sum 512 (fun x => tD (tP q k c lp) d v δ x y), ← EReal.coe_sub]
  rfl

theorem r_pay10 (h36 : R2 v36 q) (h42 : R2 v42 d) (h50 : R1 v50 δ) (h58 : R1 v58 lp) (h204 : R2 v204 k) (h206 : R2 v206 v)
    (h209 : R4 v209 c) (ha : R2 acc a) :
    R2 (k0_pay10 (F := Ideal) v36 v42 v50 v58 acc v204 v206 v209) (fun x l => a x l + tN (tD (tP q k c lp) d v δ) k x l) := by
  intro x l
  have h5 := r_pay5 h36 h42 h50 h58 h204 h206 h209
  unfold k0_pay10 k0_pay6
  pointwise
  simp only [h5 _ _, h204 _ _, ha _ _]
  rw [coe_dot 512 (tD (tP q k c lp) d v δ x) (fun y => k y l), ← EReal.coe_add]
  rfl

theorem r_pay11 (h36 : R2 v36 q) (h42 : R2 v42 d) (h50 : R1 v50 δ) (h58 : R1 v58 lp) (h204 : R2 v204 k) (h206 : R2 v206 v)
    (h209 : R4 v209 c) (hr : R1 rs r) :
    R1 (k0_pay11 (F := Ideal) v36 v42 v50 v58 rs v204 v206 v209) (fun x => r x + tW (tD (tP q k c lp) d v δ) x) := by
  intro x
  have h5 := r_pay5 h36 h42 h50 h58 h204 h206 h209
  unfold k0_pay11
  pointwise
  simp only [h5 _ _, hr _]
  rw [coe_sum 512 (tD (tP q k c lp) d v δ x), ← EReal.coe_add]
  rfl

theorem r_pay12 (h39 : R2 v39 q) (h204 : R2 v204 k) : R2 (k0_pay12 (F := Ideal) v39 v204) (tS q k) := by
  intro x y
  unfold k0_pay12
  pointwise
  simp only [h39 _ _, h204 _ _]
  exact coe_dot 128 (q x) (k y)

theorem r_pay13 (h61 : R1 v61 lp) (h239 : R2 v239 (tS q k)) (h241 : R4 v241 c) :
    R2 (k0_pay13 (F := Ideal) v61 v239 v241) (tP q k c lp) := by
  intro x y
  unfold k0_pay13
  pointwise
  rw [h61 _, h239 _ _, h241 _, ← EReal.coe_sub, ← EReal.coe_sub, Ideal.exp_coe]
  rfl

theorem r_pay14 (h45 : R2 v45 d) (h55 : R1 v55 δ) (h61 : R1 v61 lp) (h206 : R2 v206 v) (h239 : R2 v239 (tS q k)) (h241 : R4 v241 c) :
    R2 (k0_pay14 (F := Ideal) v45 v55 v61 v206 v239 v241) (tD (tP q k c lp) d v δ) := by
  intro x y
  have h4 := r_pay13 h61 h239 h241 x y
  unfold k0_pay14
  pointwise
  rw [h4]
  simp only [h45 _ _, h206 _ _, h55 _]
  rw [coe_dot 128 (d x) (v y), ← EReal.coe_sub, ← EReal.coe_mul]
  rfl

theorem r_pay16 (h45 : R2 v45 d) (h55 : R1 v55 δ) (h61 : R1 v61 lp) (h206 : R2 v206 v) (h239 : R2 v239 (tS q k)) (h241 : R4 v241 c)
    (h225 : R3 v225 e) :
    R3 (k0_pay16 (F := Ideal) v45 v55 v61 v206 v239 v241 v225) (fun y => e y - tC (tD (tP q k c lp) d v δ) y) := by
  intro y
  have h5 := r_pay14 h45 h55 h61 h206 h239 h241
  unfold k0_pay16
  pointwise
  simp only [h5 _ _, h225 _]
  rw [coe_sum 512 (fun x => tD (tP q k c lp) d v δ x y), ← EReal.coe_sub]
  rfl

theorem r_pay17 (h45 : R2 v45 d) (h55 : R1 v55 δ) (h61 : R1 v61 lp) (h204 : R2 v204 k) (h206 : R2 v206 v) (h239 : R2 v239 (tS q k))
    (h241 : R4 v241 c) (ha : R2 acc a) :
    R2 (k0_pay17 (F := Ideal) v45 v55 v61 acc v204 v206 v239 v241) (fun x l => a x l + tN (tD (tP q k c lp) d v δ) k x l) := by
  intro x l
  have h5 := r_pay14 h45 h55 h61 h206 h239 h241
  unfold k0_pay17 k0_pay15
  pointwise
  simp only [h5 _ _, h204 _ _, ha _ _]
  rw [coe_dot 512 (tD (tP q k c lp) d v δ x) (fun y => k y l), ← EReal.coe_add]
  rfl

theorem r_pay18 (h45 : R2 v45 d) (h55 : R1 v55 δ) (h61 : R1 v61 lp) (h206 : R2 v206 v) (h239 : R2 v239 (tS q k))
    (h241 : R4 v241 c) (hr : R1 rs r) :
    R1 (k0_pay18 (F := Ideal) v45 v55 v61 rs v206 v239 v241) (fun x => r x + tW (tD (tP q k c lp) d v δ) x) := by
  intro x
  have h5 := r_pay14 h45 h55 h61 h206 h239 h241
  unfold k0_pay18
  pointwise
  simp only [h5 _ _, hr _]
  rw [coe_sum 512 (tD (tP q k c lp) d v δ x), ← EReal.coe_add]
  rfl

theorem r_pay19 (h39 : R2 v39 q) (h45 : R2 v45 d) (h55 : R1 v55 δ) (h61 : R1 v61 lp) (h206 : R2 v206 v) (h223 : R2 v223 u)
    (h239 : R2 v239 (tS q k)) (h241 : R4 v241 c) (ha : R2 old a) :
    R2 (k0_pay19 (F := Ideal) v39 v45 v55 v61 v206 v223 v239 v241 old)
      (fun y l => a y l + (u y l + tT (tD (tP q k c lp) d v δ) q y l)) := by
  intro y l
  have h5 := r_pay14 h45 h55 h61 h206 h239 h241
  unfold k0_pay19 k0_pay15
  pointwise
  simp only [h5 _ _, h39 _ _, h223 _ _, ha _ _]
  rw [coe_dot 512 (fun x => tD (tP q k c lp) d v δ x y) (fun x => q x l), ← EReal.coe_add, ← EReal.coe_add]
  rfl

theorem r_pay20 (h45 : R2 v45 d) (h61 : R1 v61 lp) (h222 : R2 v222 u) (h239 : R2 v239 (tS q k)) (h241 : R4 v241 c) (ha : R2 old a) :
    R2 (k0_pay20 (F := Ideal) v45 v61 v222 v239 v241 old) (fun y l => a y l + (u y l + tT (tP q k c lp) d y l)) := by
  intro y l
  have h5 := r_pay13 h61 h239 h241
  unfold k0_pay20
  pointwise
  simp only [h5 _ _, h45 _ _, h222 _ _, ha _ _]
  rw [coe_dot 512 (fun x => tP q k c lp x y) (fun x => d x l), ← EReal.coe_add, ← EReal.coe_add]
  rfl

theorem r_pay61 (ha : R2 old a) : R2 (k0_pay61 (F := Ideal) old) a := by
  intro x l
  unfold k0_pay61
  pointwise
  exact ha _ _

end
end Cert.Kernel2Ideal.Value
-- ==== Proof.Flash.Pay2.lean ====
/- The vectors of the attention backward call, over the reals. -/
module

public import proofs.«01_k».proof.Proof.Flash.Pay
public import Idealize.ShloMosaic.Lib.Pipeline.ValueKit

@[expose] public section

set_option maxRecDepth 16384

noncomputable section

open Idealize.ShloMosaic Idealize.ShloMosaic.TcCoe Idealize.SL.Sem

namespace Cert.Kernel2Ideal.Value

open Cert.Kernel2Ideal Cert.Kernel2Ideal.Gen Cert.Flash

/-- The logistic function. -/
def sg (x : ℝ) : ℝ := 1 / (1 + Real.exp (-x))
/-- The even head's lanes. -/
def m0 (f : ℕ → ℕ → ℝ) (x l : ℕ) : ℝ := if l < 64 then f x l else 0
/-- The odd head's lanes. -/
def m1 (f : ℕ → ℕ → ℝ) (x l : ℕ) : ℝ := if 64 ≤ l then f x l else 0

theorem toInt_small {n : ℕ} (h : n < 2 ^ 31) : (BitVec.ofNat 32 n).toInt = n := by
  rw [BitVec.toInt_ofNat']; exact Int.bmod_eq_of_le (by omega) (by omega)

theorem sel_slt {α : Type} {m n : ℕ} (hm : m < 2 ^ 31) (hn : n < 2 ^ 31) (a b : α) :
    Scalar.select (IntOp.cmpi CmpIPredicate.slt (BitVec.ofNat 32 m) (BitVec.ofNat 32 n)) a b = if m < n then a else b := by
  have e : (BitVec.ofNat 32 m).slt (BitVec.ofNat 32 n) = decide (m < n) := by
    unfold BitVec.slt
    rw [toInt_small hm, toInt_small hn]
    exact decide_eq_decide.mpr (by omega)
  unfold IntOp.cmpi
  simp only [e]
  by_cases h : m < n <;> simp [h, Scalar.select]

theorem sel_sge {α : Type} {m n : ℕ} (hm : m < 2 ^ 31) (hn : n < 2 ^ 31) (a b : α) :
    Scalar.select (IntOp.cmpi CmpIPredicate.sge (BitVec.ofNat 32 m) (BitVec.ofNat 32 n)) a b = if n ≤ m then a else b := by
  have e : (BitVec.ofNat 32 n).sle (BitVec.ofNat 32 m) = decide (n ≤ m) := by
    unfold BitVec.sle
    rw [toInt_small hm, toInt_small hn]
    exact decide_eq_decide.mpr (by omega)
  unfold IntOp.cmpi
  simp only [e]
  by_cases h : n ≤ m <;> simp [h, Scalar.select]

theorem eighth : Ideal.ofBits FTy.f32 0x3E000000#32 = (((1 / 8 : ℝ)) : EReal) := by
  simp [Ideal.ofBits, Ideal.ieee]
  norm_num
  rw [← EReal.coe_mul]
  norm_num

theorem coe_ite (p : Prop) [Decidable p] (a b : ℝ) : (if p then (a : EReal) else (b : EReal)) = ((if p then a else b : ℝ) : EReal) := by
  split <;> rfl

theorem even_sel {α : Type} (x : Fin 512) (l : Fin 128) (a b : α) : Scalar.select (k0_pay48 (ix2 x l)) a b = if l.val < 64 then a else b := by
  unfold k0_pay48
  pointwise
  exact sel_slt (by omega) (by omega) a b

theorem odd_sel {α : Type} (x : Fin 512) (l : Fin 128) (a b : α) : Scalar.select (k0_pay49 (ix2 x l)) a b = if 64 ≤ l.val then a else b := by
  unfold k0_pay49
  pointwise
  exact sel_sge (by omega) (by omega) a b

section
variable {v3 v11 v12 v13 v15 v26 v28 : Vec Ideal S512x128 .f32} {g o d q : ℕ → ℕ → ℝ} {lp : ℕ → ℝ}

theorem r_zero128 : R2 (k0_pay59 (F := Ideal)) (fun _ _ => 0) := by
  intro x l
  unfold k0_pay59
  pointwise
  rfl

theorem r_zero1 : R1 (k0_pay60 (F := Ideal)) (fun _ => 0) := by
  intro x
  unfold k0_pay60
  pointwise
  rfl

theorem r_pay43 (h : R2 v3 g) : R2 (k0_pay43 (F := Ideal) v3) (fun x l => sg (g x l)) := by
  intro x l
  have hp : (1 + Real.exp (-g x.val l.val)) ≠ 0 := by positivity
  unfold k0_pay43
  pointwise
  rw [h _ _, zero_sub, ← EReal.coe_neg, Ideal.exp_coe, ← EReal.coe_one, ← EReal.coe_add, Ideal.div_coe hp, ← EReal.coe_mul, one_mul]
  rfl

theorem r_pay44 (h : R2 v11 o) : R2 (k0_pay44 (F := Ideal) v11) o := by
  intro x l
  unfold k0_pay44
  pointwise
  exact h _ _

theorem r_pay45 (h : R2 v3 g) (hd : R2 v13 d) : R2 (k0_pay45 (F := Ideal) v3 v13) (fun x l => d x l * (g x l * sg (g x l))) := by
  intro x l
  have h4 := r_pay43 h x l
  unfold k0_pay45
  pointwise
  rw [h4, h _ _, hd _ _, ← EReal.coe_mul, ← EReal.coe_mul]

theorem r_pay46 (h : R2 v3 g) (ho : R2 v11 o) (hd : R2 v13 d) :
    R2 (k0_pay46 (F := Ideal) v3 v11 v13) (fun x l => d x l * o x l * (sg (g x l) * (1 + g x l * (1 - sg (g x l))))) := by
  intro x l
  have h4 := r_pay43 h x l
  have h5 := r_pay44 ho x l
  unfold k0_pay46
  pointwise
  rw [h4, h5, h _ _, hd _ _, ← EReal.coe_one, ← EReal.coe_sub, ← EReal.coe_mul, ← EReal.coe_mul, ← EReal.coe_add, ← EReal.coe_mul,
    ← EReal.coe_mul]

theorem r_pay47 (h : R2 v26 q) : R2 (k0_pay47 (F := Ideal) v26) (fun x l => q x l * (1 / 8)) := by
  intro x l
  unfold k0_pay47
  pointwise
  rw [eighth, h _ _, ← EReal.coe_mul]

theorem r_pay51 (h : R2 v28 q) : R2 (k0_pay51 (F := Ideal) v28 k0_pay48 (k0_pay50 (F := Ideal))) (m0 q) := by
  intro x l
  unfold k0_pay51 k0_pay50
  pointwise
  rw [even_sel, h _ _, ← EReal.coe_zero, coe_ite]
  rfl

theorem r_pay52 (h : R2 v28 q) : R2 (k0_pay52 (F := Ideal) v28 k0_pay49) (m1 q) := by
  intro x l
  unfold k0_pay52
  pointwise
  rw [odd_sel, h _ _, ← EReal.coe_zero, coe_ite]
  rfl

theorem r_pay53 (h : R2 v15 q) : R2 (k0_pay53 (F := Ideal) v15 k0_pay48) (m0 q) := by
  intro x l
  unfold k0_pay53
  pointwise
  rw [even_sel, h _ _, ← EReal.coe_zero, coe_ite]
  rfl

theorem r_pay54 (h : R2 v15 q) : R2 (k0_pay54 (F := Ideal) v15 k0_pay49) (m1 q) := by
  intro x l
  unfold k0_pay54
  pointwise
  rw [odd_sel, h _ _, ← EReal.coe_zero, coe_ite]
  rfl

/-- The row sums of `do * o` over one head's lanes. -/
def dlt (m : (ℕ → ℕ → ℝ) → ℕ → ℕ → ℝ) (d o : ℕ → ℕ → ℝ) (x : ℕ) : ℝ := ∑ l ∈ Finset.range 128, m (fun x l => d x l * o x l) x l

theorem r_pay55 (ho : R2 v12 o) (hd : R2 v15 d) : R1 (k0_pay55 (F := Ideal) v12 v15 k0_pay48) (dlt m0 d o) := by
  intro x
  unfold k0_pay55
  pointwise
  simp only [even_sel, ho _ _, hd _ _]
  simp only [← EReal.coe_mul, ← EReal.coe_zero, coe_ite]
  exact coe_sum 128 (fun l => m0 (fun x l => d x l * o x l) x l)

theorem r_pay56 (ho : R2 v12 o) (hd : R2 v15 d) : R1 (k0_pay56 (F := Ideal) v12 v15 k0_pay49) (dlt m1 d o) := by
  intro x
  unfold k0_pay56
  pointwise
  simp only [odd_sel, ho _ _, hd _ _]
  simp only [← EReal.coe_mul, ← EReal.coe_zero, coe_ite]
  exact coe_sum 128 (fun l => m1 (fun x l => d x l * o x l) x l)

theorem r_pay57 {v56 : Vec Ideal S1x512x128 .f32} (h : ∀ x : Fin 512, v56 (ix3 0 x 0) = ((lp x.val : ℝ) : EReal)) :
    R1 (k0_pay57 (F := Ideal) v56) lp := by
  intro x
  unfold k0_pay57
  pointwise
  exact h x

theorem r_pay58 {v56 : Vec Ideal S1x512x128 .f32} (h : ∀ x : Fin 512, v56 (ix3 0 x 0) = ((lp x.val : ℝ) : EReal)) :
    R1 (k0_pay58 (F := Ideal) v56) lp := by
  intro x
  unfold k0_pay58
  pointwise
  exact h x

end

section
variable {v36 v42 v39 v45 v74 v76 acc acc' : Vec Ideal S512x128 .f32} {v50 v55 v58 v61 rs : Vec Ideal S512x1 .f32}
  {v79 : Vec Ideal S1x1x1x512 .f32} {v106 : Vec Ideal S1x1x512 .f32} {ds : Vec Ideal S512x512 .f32}
variable {q d k v a u w : ℕ → ℕ → ℝ} {δ lp c r e : ℕ → ℝ} {n : ℕ}

theorem diag_sel {α : Type} (hn : n < 8) (x y : Fin 512) (a b : α) :
    Scalar.select (IntOp.cmpi CmpIPredicate.sge (IntOp.addi (Scalar.muli (BitVec.ofNat 32 n) 512#32) (BitVec.ofNat 32 x.val))
      (IntOp.addi (Scalar.muli (BitVec.ofNat 32 n) 512#32) (BitVec.ofNat 32 y.val))) a b = if y.val ≤ x.val then a else b := by
  have e : ∀ z : ℕ, IntOp.addi (Scalar.muli (BitVec.ofNat 32 n) 512#32) (BitVec.ofNat 32 z) = BitVec.ofNat 32 (n * 512 + z) := by
    intro z
    show BitVec.ofNat 32 n * BitVec.ofNat 32 512 + BitVec.ofNat 32 z = _
    rw [BitVec.ofNat_add, BitVec.ofNat_mul]
  rw [e, e, sel_sge (by omega) (by omega)]
  exact if_congr (by omega) rfl rfl

theorem r_pay63 (hn : n < 8) (h36 : R2 v36 q) (h58 : R1 v58 lp) (h74 : R2 v74 k) (h79 : R4 v79 c) :
    R2 (k0_pay63 (F := Ideal) (BitVec.ofNat 32 n) v36 v58 v74 v79) (low (tP q k c lp)) := by
  intro x y
  unfold k0_pay63
  pointwise
  rw [diag_sel hn]
  simp only [h36 _ _, h74 _ _, h58 _, h79 _]
  rw [coe_dot 128 (q x) (k y), ← EReal.coe_sub, ← EReal.coe_sub, Ideal.exp_coe, ← EReal.coe_zero, coe_ite]
  rfl

theorem r_pay64 (hn : n < 8) (h36 : R2 v36 q) (h42 : R2 v42 d) (h50 : R1 v50 δ) (h58 : R1 v58 lp) (h74 : R2 v74 k) (h76 : R2 v76 v)
    (h79 : R4 v79 c) : R2 (k0_pay64 (F := Ideal) (BitVec.ofNat 32 n) v36 v42 v50 v58 v74 v76 v79) (tD (low (tP q k c lp)) d v δ) := by
  intro x y
  have h4 := r_pay63 hn h36 h58 h74 h79 x y
  unfold k0_pay64
  pointwise
  rw [h4]
  simp only [h42 _ _, h76 _ _, h50 _]
  rw [coe_dot 128 (d x) (v y), ← EReal.coe_sub, ← EReal.coe_mul]
  rfl

theorem r_pay66 (hn : n < 8) (h36 : R2 v36 q) (h42 : R2 v42 d) (h58 : R1 v58 lp) (h74 : R2 v74 k) (h79 : R4 v79 c) :
    R2 (k0_pay66 (F := Ideal) (BitVec.ofNat 32 n) v36 v42 v58 v74 v79) (tT (low (tP q k c lp)) d) := by
  intro y l
  have h4 := r_pay63 hn h36 h58 h74 h79
  unfold k0_pay66
  pointwise
  simp only [h4 _ _, h42 _ _]
  exact coe_dot 512 (fun x => low (tP q k c lp) x y) (fun x => d x l)

theorem r_pay67 (hn : n < 8) (h36 : R2 v36 q) (h42 : R2 v42 d) (h50 : R1 v50 δ) (h58 : R1 v58 lp) (h74 : R2 v74 k) (h76 : R2 v76 v)
    (h79 : R4 v79 c) :
    R2 (k0_pay67 (F := Ideal) (BitVec.ofNat 32 n) v36 v42 v50 v58 v74 v76 v79) (tT (tD (low (tP q k c lp)) d v δ) q) := by
  intro y l
  have h5 := r_pay64 hn h36 h42 h50 h58 h74 h76 h79
  unfold k0_pay67 k0_pay65
  pointwise
  simp only [h5 _ _, h36 _ _]
  exact coe_dot 512 (fun x => tD (low (tP q k c lp)) d v δ x y) (fun x => q x l)

theorem r_pay68 (hn : n < 8) (h36 : R2 v36 q) (h42 : R2 v42 d) (h50 : R1 v50 δ) (h58 : R1 v58 lp) (h74 : R2 v74 k) (h76 : R2 v76 v)
    (h79 : R4 v79 c) (h106 : R3 v106 e) :
    R3 (k0_pay68 (F := Ideal) (BitVec.ofNat 32 n) v36 v42 v50 v58 v74 v76 v79 v106)
      (fun y => e y - tC (tD (low (tP q k c lp)) d v δ) y) := by
  intro y
  have h5 := r_pay64 hn h36 h42 h50 h58 h74 h76 h79
  unfold k0_pay68
  pointwise
  simp only [h5 _ _, h106 _]
  rw [coe_sum 512 (fun x => tD (low (tP q k c lp)) d v δ x y), ← EReal.coe_sub]
  rfl

theorem r_pay69 (hn : n < 8) (h36 : R2 v36 q) (h42 : R2 v42 d) (h50 : R1 v50 δ) (h58 : R1 v58 lp) (h74 : R2 v74 k) (h76 : R2 v76 v)
    (h79 : R4 v79 c) :
    R2 (k0_pay69 (F := Ideal) (BitVec.ofNat 32 n) v36 v42 v50 v58 v74 v76 v79) (tN (tD (low (tP q k c lp)) d v δ) k) := by
  intro x l
  have h5 := r_pay64 hn h36 h42 h50 h58 h74 h76 h79
  unfold k0_pay69 k0_pay65
  pointwise
  simp only [h5 _ _, h74 _ _]
  exact coe_dot 512 (tD (low (tP q k c lp)) d v δ x) (fun y => k y l)

theorem r_pay70 (ha : R2 acc a) (hu : R2 acc' u) : R2 (k0_pay70 (F := Ideal) acc acc') (fun x l => a x l + u x l) := by
  intro x l
  unfold k0_pay70
  pointwise
  rw [ha _ _, hu _ _, ← EReal.coe_add]

theorem r_pay71 (hr : R1 rs r) (hd : R2 ds w) : R1 (k0_pay71 (F := Ideal) rs ds) (fun x => r x + tW w x) := by
  intro x
  unfold k0_pay71
  pointwise
  simp only [hd _ _, hr _]
  rw [coe_sum 512 (w x), ← EReal.coe_add]
  rfl

theorem r_pay72 (hn : n < 8) (h36 : R2 v36 q) (h58 : R1 v58 lp) (h74 : R2 v74 k) (h79 : R4 v79 c) :
    R2 (k0_pay72 (F := Ideal) (BitVec.ofNat 32 n) v36 v58 v74 v79) (low (tP q k c lp)) := by
  intro x y
  unfold k0_pay72
  pointwise
  rw [diag_sel hn]
  simp only [h36 _ _, h74 _ _, h58 _, h79 _]
  rw [coe_dot 128 (q x) (k y), ← EReal.coe_sub, ← EReal.coe_sub, Ideal.exp_coe, ← EReal.coe_zero, coe_ite]
  rfl

theorem r_pay73 (hn : n < 8) (h36 : R2 v36 q) (h42 : R2 v42 d) (h50 : R1 v50 δ) (h58 : R1 v58 lp) (h74 : R2 v74 k) (h76 : R2 v76 v)
    (h79 : R4 v79 c) : R2 (k0_pay73 (F := Ideal) (BitVec.ofNat 32 n) v36 v42 v50 v58 v74 v76 v79) (tD (low (tP q k c lp)) d v δ) := by
  intro x y
  have h4 := r_pay72 hn h36 h58 h74 h79 x y
  unfold k0_pay73
  pointwise
  rw [h4]
  simp only [h42 _ _, h76 _ _, h50 _]
  rw [coe_dot 128 (d x) (v y), ← EReal.coe_sub, ← EReal.coe_mul]
  rfl

theorem r_pay74 (hn : n < 8) (h36 : R2 v36 q) (h42 : R2 v42 d) (h50 : R1 v50 δ) (h58 : R1 v58 lp) (h74 : R2 v74 k) (h76 : R2 v76 v)
    (h79 : R4 v79 c) : R2 (k0_pay74 (F := Ideal) (BitVec.ofNat 32 n) v36 v42 v50 v58 v74 v76 v79) (tD (low (tP q k c lp)) d v δ) := by
  intro x y
  have h4 := r_pay73 hn h36 h42 h50 h58 h74 h76 h79 x y
  unfold k0_pay74
  pointwise
  exact h4

theorem r_pay75 (hn : n < 8) (h36 : R2 v36 q) (h42 : R2 v42 d) (h58 : R1 v58 lp) (h74 : R2 v74 k) (h79 : R4 v79 c) (hu : R2 acc u) :
    R2 (k0_pay75 (F := Ideal) (BitVec.ofNat 32 n) v36 v42 v58 v74 acc v79) (fun y l => u y l + tT (low (tP q k c lp)) d y l) := by
  intro y l
  have h4 := r_pay72 hn h36 h58 h74 h79
  unfold k0_pay75
  pointwise
  simp only [h4 _ _, h42 _ _, hu _ _]
  rw [coe_dot 512 (fun x => low (tP q k c lp) x y) (fun x => d x l), ← EReal.coe_add]
  rfl

theorem r_pay76 (hn : n < 8) (h36 : R2 v36 q) (h42 : R2 v42 d) (h50 : R1 v50 δ) (h58 : R1 v58 lp) (h74 : R2 v74 k) (h76 : R2 v76 v)
    (h79 : R4 v79 c) (hu : R2 acc u) :
    R2 (k0_pay76 (F := Ideal) (BitVec.ofNat 32 n) v36 v42 v50 v58 v74 v76 acc v79)
      (fun y l => u y l + tT (tD (low (tP q k c lp)) d v δ) q y l) := by
  intro y l
  have h5 := r_pay74 hn h36 h42 h50 h58 h74 h76 h79
  unfold k0_pay76
  pointwise
  simp only [h5 _ _, h36 _ _, hu _ _]
  rw [coe_dot 512 (fun x => tD (low (tP q k c lp)) d v δ x y) (fun x => q x l), ← EReal.coe_add]
  rfl

theorem r_pay77 (hn : n < 8) (h36 : R2 v36 q) (h42 : R2 v42 d) (h50 : R1 v50 δ) (h58 : R1 v58 lp) (h74 : R2 v74 k) (h76 : R2 v76 v)
    (h79 : R4 v79 c) (h106 : R3 v106 e) :
    R3 (k0_pay77 (F := Ideal) (BitVec.ofNat 32 n) v36 v42 v50 v58 v74 v76 v79 v106)
      (fun y => e y - tC (tD (low (tP q k c lp)) d v δ) y) := by
  intro y
  have h5 := r_pay73 hn h36 h42 h50 h58 h74 h76 h79
  unfold k0_pay77
  pointwise
  simp only [h5 _ _, h106 _]
  rw [coe_sum 512 (fun x => tD (low (tP q k c lp)) d v δ x y), ← EReal.coe_sub]
  rfl

theorem r_pay78 (hu : R2 acc' u) (ha : R2 acc a) : R2 (k0_pay78 (F := Ideal) acc' acc) (fun x l => a x l + u x l) := by
  intro x l
  unfold k0_pay78
  pointwise
  rw [ha _ _, hu _ _, ← EReal.coe_add]

theorem r_pay79 (hu : R2 acc' u) (ha : R2 acc a) : R2 (k0_pay79 (F := Ideal) acc' acc) (fun x l => a x l + u x l) := by
  intro x l
  unfold k0_pay79
  pointwise
  rw [ha _ _, hu _ _, ← EReal.coe_add]

theorem r_pay80 (hr : R1 rs r) : R4 (k0_pay80 (F := Ideal) rs) r := by
  intro y
  unfold k0_pay80
  pointwise
  exact hr y

theorem r_pay81 (hr : R1 rs r) (hd : R2 ds w) : R4 (k0_pay81 (F := Ideal) rs ds) (fun x => r x + tW w x) := by
  intro x
  unfold k0_pay81
  pointwise
  simp only [hd _ _, hr _]
  rw [coe_sum 512 (w x), ← EReal.coe_add]
  rfl

theorem r_pay82 (ha : R2 acc a) (h74 : R2 v74 k) (hu : R2 acc' u) (hd : R2 ds w) :
    R2 (k0_pay82 (F := Ideal) k0_pay48 acc v74 acc' ds)
      (fun x l => (if l < 64 then u x l else a x l + tN w k x l) * (1 / 8)) := by
  intro x l
  unfold k0_pay82
  pointwise
  rw [even_sel, eighth]
  simp only [ha _ _, h74 _ _, hu _ _, hd _ _]
  rw [coe_dot 512 (w x) (fun y => k y l), ← EReal.coe_add, coe_ite, ← EReal.coe_mul]
  rfl

end
end Cert.Kernel2Ideal.Value
-- ==== Proof.Flash.Acc.lean ====
/- Reading and replacing blocks of the attention backward call's buffers, over the reals. -/
module

public import proofs.«01_k».proof.Proof.Flash.Pay2
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Flash

/-- The entries of the forget-gate tiles and of their gradient's. -/
def R3c (v : S2x8x512.Idx → EReal) (E : ℕ → ℕ → ℕ → ℝ) : Prop :=
  ∀ (h : Fin 2) (n : Fin 8) (y : Fin 512), v (ix3 h n y) = ((E h.val n.val y.val : ℝ) : EReal)
def R4c (v : S1x2x8x512.Idx → EReal) (E : ℕ → ℕ → ℕ → ℝ) : Prop :=
  ∀ (h : Fin 2) (n : Fin 8) (y : Fin 512), v (ix4 0 h n y) = ((E h.val n.val y.val : ℝ) : EReal)
/-- Block `n` of 512 rows replaced. -/
def putR (A : ℕ → ℕ → ℝ) (n : ℕ) (u : ℕ → ℕ → ℝ) (r l : ℕ) : ℝ := if 512 * n ≤ r ∧ r < 512 * n + 512 then u (r - 512 * n) l else A r l
/-- One row of the forget-gate gradient replaced. -/
def putC (E : ℕ → ℕ → ℕ → ℝ) (h n : ℕ) (u : ℕ → ℝ) (h' n' y : ℕ) : ℝ := if h' = h ∧ n' = n then u y else E h' n' y

section
variable {κ : Kind} {sp : Space} {A u : ℕ → ℕ → ℝ} {E : ℕ → ℕ → ℕ → ℝ} {w : ℕ → ℝ} {n h : ℕ}

theorem win_rows {x : S4096x128.Idx → EReal} (hx : R2 x A) (inb : ∀ a, (![512 * n, 0] : Fin 2 → ℕ) a + (![512, 128] : Fin 2 → ℕ) a ≤ S4096x128.size a) :
    R2 (VecWindow.window x ![512 * n, 0] ![512, 128] inb) (fun y l => A (512 * n + y) l) := by
  intro y l
  have hb := inb 0
  have hb' : 512 * n + 512 ≤ 4096 := hb
  have e : (Rect.unit (s := S4096x128) ![512 * n, 0] ![512, 128] inb).emb (ix2 y l) = ix2 ⟨512 * n + y.val, by omega⟩ l := by
    funext a
    refine Fin.cases ?_ (fun a => Fin.cases ?_ (fun a => a.elim0) a) a
    · exact Fin.ext (show 512 * n + 1 * y.val = 512 * n + y.val by omega)
    · exact Fin.ext (show 0 + 1 * l.val = l.val by omega)
  show x _ = _
  rw [e]
  exact hx _ _

theorem win_cum {x : S1x2x8x512.Idx → EReal} (hx : R4c x E)
    (inb : ∀ a, (![0, h, n, 0] : Fin 4 → ℕ) a + (![1, 1, 1, 512] : Fin 4 → ℕ) a ≤ S1x2x8x512.size a) :
    R4 (VecWindow.window x ![0, h, n, 0] ![1, 1, 1, 512] inb) (fun y => E h n y) := by
  intro y
  have hb : h + 1 ≤ 2 := inb 1
  have hb' : n + 1 ≤ 8 := inb 2
  have e : (Rect.unit (s := S1x2x8x512) ![0, h, n, 0] ![1, 1, 1, 512] inb).emb (ix4 0 0 0 y) = ix4 0 ⟨h, by omega⟩ ⟨n, by omega⟩ y := by
    funext a
    refine Fin.cases ?_ (fun a => Fin.cases ?_ (fun a => Fin.cases ?_ (fun a => Fin.cases ?_ (fun a => a.elim0) a) a) a) a
    · exact Fin.ext (show 0 + 1 * 0 = 0 by omega)
    · exact Fin.ext (show h + 1 * 0 = h by omega)
    · exact Fin.ext (show n + 1 * 0 = n by omega)
    · exact Fin.ext (show 0 + 1 * y.val = y.val by omega)
  show x _ = _
  rw [e]
  exact hx _ _ _

theorem win_dca {x : S2x8x512.Idx → EReal} (hx : R3c x E)
    (inb : ∀ a, (![h, n, 0] : Fin 3 → ℕ) a + (![1, 1, 512] : Fin 3 → ℕ) a ≤ S2x8x512.size a) :
    R3 (VecWindow.window x ![h, n, 0] ![1, 1, 512] inb) (fun y => E h n y) := by
  intro y
  have hb : h + 1 ≤ 2 := inb 0
  have hb' : n + 1 ≤ 8 := inb 1
  have e : (Rect.unit (s := S2x8x512) ![h, n, 0] ![1, 1, 512] inb).emb (ix3 0 0 y) = ix3 ⟨h, by omega⟩ ⟨n, by omega⟩ y := by
    funext a
    refine Fin.cases ?_ (fun a => Fin.cases ?_ (fun a => Fin.cases ?_ (fun a => a.elim0) a) a) a
    · exact Fin.ext (show h + 1 * 0 = h by omega)
    · exact Fin.ext (show n + 1 * 0 = n by omega)
    · exact Fin.ext (show 0 + 1 * y.val = y.val by omega)
  show x _ = _
  rw [e]
  exact hx _ _ _

theorem rd_rows (v : View sig κ sp S4096x128 .f32) {f : v.ty.Contents (Elt Ideal)} (hf : R2 (v.read (Elt Ideal) f) A) {off : Fin 2 → ℕ}
    (ho : off = ![512 * n, 0]) (inb : ∀ a, off a + (![512, 128] : Fin 2 → ℕ) a ≤ S4096x128.size a) :
    R2 (a := 512) (b := 128) (v.readAt (Elt Ideal) (Rect.unit (s := S4096x128) off ![512, 128] inb).toLoadRect f : S512x128.Idx → EReal) (fun y l => A (512 * n + y) l) := by
  subst ho
  rw [View.readAt_unit v f inb rfl inb]
  exact win_rows hf inb

theorem rd_rows16 (v : View sig κ sp S4096x128 .bf16) {f : v.ty.Contents (Elt Ideal)} (hf : R2 (v.read (Elt Ideal) f) A) {off : Fin 2 → ℕ}
    (ho : off = ![512 * n, 0]) (inb : ∀ a, off a + (![512, 128] : Fin 2 → ℕ) a ≤ S4096x128.size a) :
    R2 (a := 512) (b := 128) (v.readAt (Elt Ideal) (Rect.unit (s := S4096x128) off ![512, 128] inb).toLoadRect f : S512x128.Idx → EReal) (fun y l => A (512 * n + y) l) := by
  subst ho
  rw [View.readAt_unit v f inb rfl inb]
  exact win_rows hf inb

theorem rd_cum (v : View sig κ sp S1x2x8x512 .f32) {f : v.ty.Contents (Elt Ideal)} (hf : R4c (v.read (Elt Ideal) f) E) {off : Fin 4 → ℕ}
    (ho : off = ![0, h, n, 0]) (inb : ∀ a, off a + (![1, 1, 1, 512] : Fin 4 → ℕ) a ≤ S1x2x8x512.size a) :
    R4 (b := 512) (v.readAt (Elt Ideal) (Rect.unit (s := S1x2x8x512) off ![1, 1, 1, 512] inb).toLoadRect f : S1x1x1x512.Idx → EReal) (fun y => E h n y) := by
  subst ho
  rw [View.readAt_unit v f inb rfl inb]
  exact win_cum hf inb

theorem rd_dca (v : View sig κ sp S2x8x512 .f32) {f : v.ty.Contents (Elt Ideal)} (hf : R3c (v.read (Elt Ideal) f) E) {off : Fin 3 → ℕ}
    (ho : off = ![h, n, 0]) (inb : ∀ a, off a + (![1, 1, 512] : Fin 3 → ℕ) a ≤ S2x8x512.size a) :
    R3 (b := 512) (v.readAt (Elt Ideal) (Rect.unit (s := S2x8x512) off ![1, 1, 512] inb).toLoadRect f : S1x1x512.Idx → EReal) (fun y => E h n y) := by
  subst ho
  rw [View.readAt_unit v f inb rfl inb]
  exact win_dca hf inb

theorem wr_rows (v : View sig κ sp S4096x128 .f32) {f : v.ty.Contents (Elt Ideal)} {L : List (View.Piece (Elt Ideal) S4096x128 .f32)}
    (hf : R2 (v.read (Elt Ideal) (v.writes (Elt Ideal) f L)) A) {off : Fin 2 → ℕ}
    (ho : off = ![512 * n, 0]) (inb : ∀ a, off a + (![512, 128] : Fin 2 → ℕ) a ≤ S4096x128.size a)
    {x : S512x128.Idx → EReal} (hx : R2 x u) :
    R2 (v.read (Elt Ideal) (v.writes (Elt Ideal) f (⟨Rect.unit off ![512, 128] inb, x⟩ :: L))) (putR A n u) := by
  subst ho
  rw [View.read_writes_cons_put v f inb x L rfl]
  intro r l
  have hb : 512 * n + 512 ≤ 4096 := inb 0
  unfold putR VecWindow.put
  by_cases hr : 512 * n ≤ r.val ∧ r.val < 512 * n + 512
  · have hall : ∀ a, (![512 * n, 0] : Fin 2 → ℕ) a ≤ ((ix2 r l : S4096x128.Idx) a).val
        ∧ ((ix2 r l : S4096x128.Idx) a).val < (![512 * n, 0] : Fin 2 → ℕ) a + (![512, 128] : Fin 2 → ℕ) a := by
      refine Fin.cases hr (fun a => Fin.cases ⟨Nat.zero_le _, ?_⟩ (fun a => a.elim0) a)
      show l.val < 0 + 128
      omega
    rw [dif_pos hall, if_pos hr]
    have e : (Rect.unitLocal (s := S4096x128) (off := ![512 * n, 0]) (size := ![512, 128]) (ix2 r l) hall : S512x128.Idx)
        = (ix2 (n0 := 512) (n1 := 128) ⟨r.val - 512 * n, by omega⟩ l : S512x128.Idx) := by
      funext a
      refine Fin.cases ?_ (fun a => Fin.cases ?_ (fun a => a.elim0) a) a
      · exact Fin.ext rfl
      · exact Fin.ext (show l.val - 0 = l.val by omega)
    exact (congrArg x e).trans (hx _ _)
  · rw [dif_neg (fun hall => hr (hall 0)), if_neg hr]
    exact hf _ _

theorem wr_dca (v : View sig κ sp S2x8x512 .f32) {f : v.ty.Contents (Elt Ideal)} {L : List (View.Piece (Elt Ideal) S2x8x512 .f32)}
    (hf : R3c (v.read (Elt Ideal) (v.writes (Elt Ideal) f L)) E) {off : Fin 3 → ℕ}
    (ho : off = ![h, n, 0]) (inb : ∀ a, off a + (![1, 1, 512] : Fin 3 → ℕ) a ≤ S2x8x512.size a)
    {x : S1x1x512.Idx → EReal} (hx : R3 x w) :
    R3c (v.read (Elt Ideal) (v.writes (Elt Ideal) f (⟨Rect.unit off ![1, 1, 512] inb, x⟩ :: L))) (putC E h n w) := by
  subst ho
  rw [View.read_writes_cons_put v f inb x L rfl]
  intro h' n' y
  unfold putC VecWindow.put
  by_cases hr : h'.val = h ∧ n'.val = n
  · have hall : ∀ a, (![h, n, 0] : Fin 3 → ℕ) a ≤ ((ix3 h' n' y : S2x8x512.Idx) a).val
        ∧ ((ix3 h' n' y : S2x8x512.Idx) a).val < (![h, n, 0] : Fin 3 → ℕ) a + (![1, 1, 512] : Fin 3 → ℕ) a := by
      refine Fin.cases ?_ (fun a => Fin.cases ?_ (fun a => Fin.cases ⟨Nat.zero_le _, ?_⟩ (fun a => a.elim0) a) a)
      · show h ≤ h'.val ∧ h'.val < h + 1
        omega
      · show n ≤ n'.val ∧ n'.val < n + 1
        omega
      · show y.val < 0 + 512
        omega
    rw [dif_pos hall, if_pos hr]
    have e : (Rect.unitLocal (s := S2x8x512) (off := ![h, n, 0]) (size := ![1, 1, 512]) (ix3 h' n' y) hall : S1x1x512.Idx)
        = (ix3 (n0 := 1) (n1 := 1) (n2 := 512) 0 0 y : S1x1x512.Idx) := by
      funext a
      refine Fin.cases ?_ (fun a => Fin.cases ?_ (fun a => Fin.cases ?_ (fun a => a.elim0) a) a) a
      · exact Fin.ext (show h'.val - h = 0 by omega)
      · exact Fin.ext (show n'.val - n = 0 by omega)
      · exact Fin.ext (show y.val - 0 = y.val by omega)
    exact (congrArg x e).trans (hx _)
  · rw [dif_neg, if_neg hr]
    · exact hf _ _ _
    · intro hall
      have h0 : h ≤ h'.val ∧ h'.val < h + 1 := hall 0
      have h1 : n ≤ n'.val ∧ n'.val < n + 1 := hall 1
      omega
end
end Cert.Kernel2Ideal.Value
-- ==== Proof.Flash.Trip.lean ====
/- One trip of the attention backward call's loop over the key blocks, over the reals, and all trips. -/
module

public import proofs.«01_k».proof.Proof.Flash.Acc
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Flash

/-- What one row block computes with: its scaled queries and output gradients per head, the keys and values, the keys'
    running sums, the row sums of `do * o` and the rows' log-sums. -/
structure Row where
  q : ℕ → ℕ → ℕ → ℝ
  d : ℕ → ℕ → ℕ → ℝ
  K : ℕ → ℕ → ℝ
  V : ℕ → ℕ → ℝ
  C : ℕ → ℕ → ℕ → ℝ
  δ : ℕ → ℕ → ℝ
  lp : ℕ → ℕ → ℝ

/-- Block `k` of 512 rows. -/
def blkR (K : ℕ → ℕ → ℝ) (k y l : ℕ) : ℝ := K (512 * k + y) l
/-- The weights against key block `k`, and the scores' gradient. -/
def Row.P (R : Row) (h k : ℕ) : ℕ → ℕ → ℝ := tP (R.q h) (blkR R.K k) (R.C h k) (R.lp h)
def Row.D (R : Row) (h k : ℕ) : ℕ → ℕ → ℝ := tD (R.P h k) (R.d h) (blkR R.V k) (R.δ h)

/-- The vectors prepared from the block's loads are those of the row. -/
structure Prep (R : Row) (v12 v15 v28 : FVec Ideal S512x128 .f32) (v31 v33 : IVec S512x128 1) (v34 : FVec Ideal S512x128 .f32)
    (v56 v59 : Vec Ideal S1x512x128 .f32) : Prop where
  q0 : R2 (k0_pay51 (F := Ideal) v28 v31 v34) (R.q 0)
  q1 : R2 (k0_pay52 (F := Ideal) v28 v33) (R.q 1)
  d0 : R2 (k0_pay53 (F := Ideal) v15 v31) (R.d 0)
  d1 : R2 (k0_pay54 (F := Ideal) v15 v33) (R.d 1)
  δ0 : R1 (k0_pay55 (F := Ideal) v12 v15 v31) (R.δ 0)
  δ1 : R1 (k0_pay56 (F := Ideal) v12 v15 v33) (R.δ 1)
  l0 : R1 (k0_pay57 (F := Ideal) v56) (R.lp 0)
  l1 : R1 (k0_pay58 (F := Ideal) v59) (R.lp 1)

/-- The carried sums of both heads. -/
structure Sums (acc : FVec Ideal S512x128 .f32 × FVec Ideal S512x1 .f32 × FVec Ideal S512x128 .f32 × FVec Ideal S512x1 .f32)
    (a : ℕ → ℕ → ℕ → ℝ) (r : ℕ → ℕ → ℝ) : Prop where
  a0 : R2 acc.1 (a 0)
  r0 : R1 acc.2.1 (r 0)
  a1 : R2 acc.2.2.1 (a 1)
  r1 : R1 acc.2.2.2 (r 1)

section
variable (𝒱 : Variants) (c : Dev nD) (bd : Option 𝒱.V) (i : grid0.Coords)
  (arg2 : Memref sig .tc .vmem S512x128 .f32) (harg2 : arg2.IsWhole) (arg3 : Memref sig .tc .vmem S4096x128 .f32) (harg3 : arg3.IsWhole)
  (arg4 : Memref sig .tc .vmem S4096x128 .f32) (harg4 : arg4.IsWhole) (arg5 : Memref sig .tc .vmem S512x128 .f32) (harg5 : arg5.IsWhole)
  (arg6 : Memref sig .tc .vmem S1x2x8x512 .f32) (harg6 : arg6.IsWhole) (arg7 : Memref sig .tc .vmem S512x128 .f32) (harg7 : arg7.IsWhole)
  (arg8 : Memref sig .tc .vmem S512x128 .f32) (harg8 : arg8.IsWhole) (arg9 : Memref sig .tc .vmem S2x512x128 .f32) (harg9 : arg9.IsWhole)
  (arg10 : Memref sig .tc .vmem S512x128 .bf16) (harg10 : arg10.IsWhole) (arg11 : Memref sig .tc .vmem S512x128 .bf16) (harg11 : arg11.IsWhole)
  (arg12 : Memref sig .tc .vmem S4096x128 .bf16) (harg12 : arg12.IsWhole) (arg13 : Memref sig .tc .vmem S4096x128 .bf16) (harg13 : arg13.IsWhole)
  (arg14 : Memref sig .tc .vmem S1x1x2x512 .f32) (harg14 : arg14.IsWhole) (arg15 : Memref sig .tc .vmem S1x2x8x512 .f32) (harg15 : arg15.IsWhole)
  (arg16 : Memref sig .tc .vmem S4096x128 .bf16) (harg16 : arg16.IsWhole) (arg17 : Memref sig .tc .vmem S4096x128 .bf16) (harg17 : arg17.IsWhole)
  (arg18 : Memref sig .tc .vmem S4096x128 .f32) (harg18 : arg18.IsWhole) (arg19 : Memref sig .tc .vmem S4096x128 .f32) (harg19 : arg19.IsWhole)
  (arg20 : Memref sig .tc .vmem S2x8x512 .f32) (harg20 : arg20.IsWhole)
  (arg1 : BitVec 32) (v12 v15 v28 : FVec Ideal S512x128 .f32) (v31 v33 : IVec S512x128 1) (v34 : FVec Ideal S512x128 .f32)
  (v56 v59 : Vec Ideal S1x512x128 .f32)
  (X6 : BufTy.Contents (Elt Ideal) arg6.view.ty) (X16 : BufTy.Contents (Elt Ideal) arg16.view.ty)
  (X17 : BufTy.Contents (Elt Ideal) arg17.view.ty)

section
variable (k : Fin (k0_t1_loop i).trips)
  (acc : FVec Ideal S512x128 .f32 × FVec Ideal S512x1 .f32 × FVec Ideal S512x128 .f32 × FVec Ideal S512x1 .f32)
  (f18 : BufTy.Contents (Elt Ideal) arg18.view.ty) (f19 : BufTy.Contents (Elt Ideal) arg19.view.ty)
  (f20 : BufTy.Contents (Elt Ideal) arg20.view.ty)
variable {R : Row} {a : ℕ → ℕ → ℕ → ℝ} {r : ℕ → ℕ → ℝ} {A B : ℕ → ℕ → ℝ} {E : ℕ → ℕ → ℕ → ℝ}

theorem trip_sums (hp : Prep R v12 v15 v28 v31 v33 v34 v56 v59) (h6 : R4c (arg6.view.read (Elt Ideal) X6) R.C)
    (h16 : R2 (arg16.view.read (Elt Ideal) X16) R.K) (h17 : R2 (arg17.view.read (Elt Ideal) X17) R.V) (hs : Sums acc a r) :
    Sums (tripR_k0_t1 (F := Ideal) 𝒱 c bd i arg2 harg2 arg3 harg3 arg4 harg4 arg5 harg5 arg6 harg6 arg7 harg7 arg8 harg8 arg9 harg9 arg10 harg10 arg11 harg11 arg12 harg12 arg13 harg13
          arg14 harg14 arg15 harg15 arg16 harg16 arg17 harg17 arg18 harg18 arg19 harg19 arg20 harg20 arg1 v12 v15 v28 v31 v33 v34 v56 v59 X6 X16 X17 k acc f18
          f19 f20)
      (fun h x l => a h x l + tN (R.D h k.val) (blkR R.K k.val) x l) (fun h x => r h x + tW (R.D h k.val) x) := by
  have hK := fun inb => rd_rows16 (n := k.val) arg16.view h16 (k0_off1_eq i k) inb
  have hV := fun inb => rd_rows16 (n := k.val) arg17.view h17 (k0_off1_eq i k) inb
  have hC0 := fun inb => rd_cum (h := 0) (n := k.val) arg6.view h6 (k0_off2_eq i k) inb
  have hC1 := fun inb => rd_cum (h := 1) (n := k.val) arg6.view h6 (k0_off4_eq i k) inb
  refine ⟨?_, ?_, ?_, ?_⟩ <;> (unfold tripR_k0_t1 trip_k0_t1; dsimp only; sl_unfold_run_names)
  · exact r_pay10 hp.q0 hp.d0 hp.δ0 hp.l0 (hK _) (hV _) (hC0 _) hs.a0
  · exact r_pay11 hp.q0 hp.d0 hp.δ0 hp.l0 (hK _) (hV _) (hC0 _) hs.r0
  · exact r_pay17 hp.d1 hp.δ1 hp.l1 (hK _) (hV _) (r_pay12 hp.q1 (hK _)) (hC1 _) hs.a1
  · exact r_pay18 hp.d1 hp.δ1 hp.l1 (hV _) (r_pay12 hp.q1 (hK _)) (hC1 _) hs.r1

theorem trip_dk (hp : Prep R v12 v15 v28 v31 v33 v34 v56 v59) (h6 : R4c (arg6.view.read (Elt Ideal) X6) R.C)
    (h16 : R2 (arg16.view.read (Elt Ideal) X16) R.K) (h17 : R2 (arg17.view.read (Elt Ideal) X17) R.V)
    (h18 : R2 (arg18.view.read (Elt Ideal) f18) A) :
    R2 (arg18.view.read (Elt Ideal) (arg18.view.writes (Elt Ideal) f18 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13
          arg14 harg14 arg15 harg15 arg16 harg16 arg17 harg17 arg18 harg18 arg19 harg19 arg20 harg20 arg1 v12 v15 v28 v31 v33 v34 v56 v59 X6 X16 X17 k acc f18
          f19 f20).1))
      (putR A k.val fun y l => A (512 * k.val + y) l + (tT (R.D 0 k.val) (R.q 0) y l + tT (R.D 1 k.val) (R.q 1) y l)) := by
  have hK := fun inb => rd_rows16 (n := k.val) arg16.view h16 (k0_off1_eq i k) inb
  have hV := fun inb => rd_rows16 (n := k.val) arg17.view h17 (k0_off1_eq i k) inb
  have hC0 := fun inb => rd_cum (h := 0) (n := k.val) arg6.view h6 (k0_off2_eq i k) inb
  have hC1 := fun inb => rd_cum (h := 1) (n := k.val) arg6.view h6 (k0_off4_eq i k) inb
  unfold tripL_k0_t1 trip_k0_t1
  dsimp only
  sl_unfold_run_names
  exact wr_rows (L := []) arg18.view h18 (k0_off1_eq i k) _
    (r_pay19 hp.q1 hp.d1 hp.δ1 hp.l1 (hV _) (r_pay8 hp.q0 hp.d0 hp.δ0 hp.l0 (hK _) (hV _) (hC0 _)) (r_pay12 hp.q1 (hK _)) (hC1 _)
      (rd_rows arg18.view h18 (k0_off1_eq i k) _))

theorem trip_dv (hp : Prep R v12 v15 v28 v31 v33 v34 v56 v59) (h6 : R4c (arg6.view.read (Elt Ideal) X6) R.C)
    (h16 : R2 (arg16.view.read (Elt Ideal) X16) R.K) (h17 : R2 (arg17.view.read (Elt Ideal) X17) R.V)
    (h19 : R2 (arg19.view.read (Elt Ideal) f19) B) :
    R2 (arg19.view.read (Elt Ideal) (arg19.view.writes (Elt Ideal) f19 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13
          arg14 harg14 arg15 harg15 arg16 harg16 arg17 harg17 arg18 harg18 arg19 harg19 arg20 harg20 arg1 v12 v15 v28 v31 v33 v34 v56 v59 X6 X16 X17 k acc f18
          f19 f20).2.1))
      (putR B k.val fun y l => B (512 * k.val + y) l + (tT (R.P 0 k.val) (R.d 0) y l + tT (R.P 1 k.val) (R.d 1) y l)) := by
  have hK := fun inb => rd_rows16 (n := k.val) arg16.view h16 (k0_off1_eq i k) inb
  have hC0 := fun inb => rd_cum (h := 0) (n := k.val) arg6.view h6 (k0_off2_eq i k) inb
  have hC1 := fun inb => rd_cum (h := 1) (n := k.val) arg6.view h6 (k0_off4_eq i k) inb
  unfold tripL_k0_t1 trip_k0_t1
  dsimp only
  sl_unfold_run_names
  exact wr_rows (L := []) arg19.view h19 (k0_off1_eq i k) _
    (r_pay61 (r_pay20 hp.d1 hp.l1 (r_pay7 hp.q0 hp.d0 hp.l0 (hK _) (hC0 _)) (r_pay12 hp.q1 (hK _)) (hC1 _)
      (rd_rows arg19.view h19 (k0_off1_eq i k) _)))

theorem trip_dc (hp : Prep R v12 v15 v28 v31 v33 v34 v56 v59) (h6 : R4c (arg6.view.read (Elt Ideal) X6) R.C)
    (h16 : R2 (arg16.view.read (Elt Ideal) X16) R.K) (h17 : R2 (arg17.view.read (Elt Ideal) X17) R.V)
    (h20 : R3c (arg20.view.read (Elt Ideal) f20) E) :
    R3c (arg20.view.read (Elt Ideal) (arg20.view.writes (Elt Ideal) f20 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13
          arg14 harg14 arg15 harg15 arg16 harg16 arg17 harg17 arg18 harg18 arg19 harg19 arg20 harg20 arg1 v12 v15 v28 v31 v33 v34 v56 v59 X6 X16 X17 k acc f18
          f19 f20).2.2))
      (putC (putC E 0 k.val fun y => E 0 k.val y - tC (R.D 0 k.val) y) 1 k.val fun y => E 1 k.val y - tC (R.D 1 k.val) y) := by
  have hK := fun inb => rd_rows16 (n := k.val) arg16.view h16 (k0_off1_eq i k) inb
  have hV := fun inb => rd_rows16 (n := k.val) arg17.view h17 (k0_off1_eq i k) inb
  have hC0 := fun inb => rd_cum (h := 0) (n := k.val) arg6.view h6 (k0_off2_eq i k) inb
  have hC1 := fun inb => rd_cum (h := 1) (n := k.val) arg6.view h6 (k0_off4_eq i k) inb
  unfold tripL_k0_t1 trip_k0_t1
  dsimp only
  sl_unfold_run_names
  exact wr_dca arg20.view (wr_dca (L := []) arg20.view h20 (k0_off3_eq i k) _
      (r_pay9 hp.q0 hp.d0 hp.δ0 hp.l0 (hK _) (hV _) (hC0 _) (rd_dca arg20.view h20 (k0_off3_eq i k) _))) (k0_off5_eq i k) _
    (r_pay16 hp.d1 hp.δ1 hp.l1 (hV _) (r_pay12 hp.q1 (hK _)) (hC1 _) (rd_dca arg20.view h20 (k0_off5_eq i k) _))

end

/-- Every row before block `n` raised by `g`. -/
def upTo (n : ℕ) (A g : ℕ → ℕ → ℝ) (r l : ℕ) : ℝ := A r l + if r < 512 * n then g r l else 0

theorem putR_upTo (n : ℕ) (A g u : ℕ → ℕ → ℝ) (hu : ∀ y l, y < 512 → u y l = g (512 * n + y) l) :
    putR (upTo n A g) n (fun y l => upTo n A g (512 * n + y) l + u y l) = upTo (n + 1) A g := by
  funext r l
  unfold putR upTo
  by_cases h : 512 * n ≤ r ∧ r < 512 * n + 512
  · have e : 512 * n + (r - 512 * n) = r := by omega
    dsimp only
    rw [if_pos h, hu _ _ (by omega), e, if_neg (by omega), if_pos (by omega), add_zero]
  · rw [if_neg h]
    by_cases h' : r < 512 * n
    · rw [if_pos h', if_pos (by omega)]
    · rw [if_neg h', if_neg (by omega)]

/-- Every key block before block `n` lowered by `g`. -/
def downTo (n : ℕ) (E g : ℕ → ℕ → ℕ → ℝ) (h k y : ℕ) : ℝ := E h k y - if k < n then g h k y else 0

theorem putC_downTo (n : ℕ) (E g : ℕ → ℕ → ℕ → ℝ) (h k y : ℕ) (hh : h < 2) :
    putC (putC (downTo n E g) 0 n fun y => downTo n E g 0 n y - g 0 n y) 1 n (fun y => downTo n E g 1 n y - g 1 n y) h k y
      = downTo (n + 1) E g h k y := by
  unfold putC downTo
  by_cases hk : k = n
  · subst hk
    obtain rfl | rfl : h = 0 ∨ h = 1 := by omega
    · simp
    · simp
  · have e : (k < n) = (k < n + 1) := propext (by omega)
    simp only [hk, and_false, if_false, e]

/-- What the rows of one block add to the gradients of the keys and values. -/
def Row.gK (R : Row) (r l : ℕ) : ℝ := tT (R.D 0 (r / 512)) (R.q 0) (r % 512) l + tT (R.D 1 (r / 512)) (R.q 1) (r % 512) l
def Row.gV (R : Row) (r l : ℕ) : ℝ := tT (R.P 0 (r / 512)) (R.d 0) (r % 512) l + tT (R.P 1 (r / 512)) (R.d 1) (r % 512) l

theorem div_blk {n y : ℕ} (hy : y < 512) : (512 * n + y) / 512 = n := by omega
theorem mod_blk {n y : ℕ} (hy : y < 512) : (512 * n + y) % 512 = y := by omega

variable (G18 : BufTy.Contents (Elt Ideal) arg18.view.ty) (G19 : BufTy.Contents (Elt Ideal) arg19.view.ty)
  (G20 : BufTy.Contents (Elt Ideal) arg20.view.ty)
  (init : FVec Ideal S512x128 .f32 × FVec Ideal S512x1 .f32 × FVec Ideal S512x128 .f32 × FVec Ideal S512x1 .f32)
variable {R : Row} {A B : ℕ → ℕ → ℝ} {E : ℕ → ℕ → ℕ → ℝ}

/-- What the loop holds before trip `n`. -/
structure Trips (R : Row) (A B : ℕ → ℕ → ℝ) (E : ℕ → ℕ → ℕ → ℝ) (n : ℕ)
    (acc : FVec Ideal S512x128 .f32 × FVec Ideal S512x1 .f32 × FVec Ideal S512x128 .f32 × FVec Ideal S512x1 .f32)
    (x18 x19 : S4096x128.Idx → EReal) (x20 : S2x8x512.Idx → EReal) : Prop where
  s : Sums acc (fun h x l => ∑ k ∈ Finset.range n, tN (R.D h k) (blkR R.K k) x l) (fun h x => ∑ k ∈ Finset.range n, tW (R.D h k) x)
  dk : R2 x18 (upTo n A R.gK)
  dv : R2 x19 (upTo n B R.gV)
  dc : R3c x20 (downTo n E fun h k => tC (R.D h k))

theorem trips (hp : Prep R v12 v15 v28 v31 v33 v34 v56 v59) (h6 : R4c (arg6.view.read (Elt Ideal) X6) R.C)
    (h16 : R2 (arg16.view.read (Elt Ideal) X16) R.K) (h17 : R2 (arg17.view.read (Elt Ideal) X17) R.V)
    (h18 : R2 (arg18.view.read (Elt Ideal) G18) A) (h19 : R2 (arg19.view.read (Elt Ideal) G19) B)
    (h20 : R3c (arg20.view.read (Elt Ideal) G20) E) (hs : Sums init (fun _ _ _ => 0) (fun _ _ => 0)) :
    ∀ n, n ≤ (k0_t1_loop i).trips → ∀ st, st = st_k0_t1 (F := Ideal) 𝒱 c bd i arg2 harg2 arg3 harg3 arg4 harg4 arg5 harg5 arg6 harg6 arg7 harg7 arg8 harg8 arg9 harg9 arg10 harg10 arg11 harg11 arg12 harg12 arg13 harg13
          arg14 harg14 arg15 harg15 arg16 harg16 arg17 harg17 arg18 harg18 arg19 harg19 arg20 harg20 arg1 v12 v15 v28 v31 v33 v34 v56 v59 X6 X16 X17 G18 G19 G20
          init n →
      Trips R A B E n st.1 (arg18.view.read (Elt Ideal) (arg18.view.writes (Elt Ideal) G18 st.2.1))
        (arg19.view.read (Elt Ideal) (arg19.view.writes (Elt Ideal) G19 st.2.2.1))
        (arg20.view.read (Elt Ideal) (arg20.view.writes (Elt Ideal) G20 st.2.2.2)) := by
  intro n
  induction n with
  | zero =>
    intro _ st hst
    rw [st_k0_t1.eq_1] at hst
    subst hst
    refine ⟨?_, ?_, ?_, ?_⟩
    · simpa only [Finset.range_zero, Finset.sum_empty] using hs
    · intro x l
      simpa [upTo] using h18 x l
    · intro x l
      simpa [upTo] using h19 x l
    · intro h x l
      simpa [downTo] using h20 h x l
  | succ n ih =>
    intro hn st hst
    obtain ⟨s, dk, dv, dc⟩ := ih (by omega) _ rfl
    have hsucc := st_k0_t1_succ (F := Ideal) 𝒱 c bd i arg2 harg2 arg3 harg3 arg4 harg4 arg5 harg5 arg6 harg6 arg7 harg7 arg8 harg8 arg9 harg9 arg10 harg10 arg11 harg11 arg12 harg12 arg13 harg13
          arg14 harg14 arg15 harg15 arg16 harg16 arg17 harg17 arg18 harg18 arg19 harg19 arg20 harg20 arg1 v12 v15 v28 v31 v33 v34 v56 v59 X6 X16 X17 G18 G19 G20
          init ⟨n, by omega⟩
    rw [show (⟨n, by omega⟩ : Fin (k0_t1_loop i).trips).val + 1 = n + 1 from rfl] at hsucc
    rw [hsucc] at hst
    subst hst
    dsimp only
    simp only [View.writes_append]
    refine ⟨?_, ?_, ?_, ?_⟩
    · simp only [Finset.sum_range_succ]
      exact trip_sums 𝒱 c bd i arg2 harg2 arg3 harg3 arg4 harg4 arg5 harg5 arg6 harg6 arg7 harg7 arg8 harg8 arg9 harg9 arg10 harg10 arg11 harg11 arg12 harg12 arg13 harg13
          arg14 harg14 arg15 harg15 arg16 harg16 arg17 harg17 arg18 harg18 arg19 harg19 arg20 harg20 arg1 v12 v15 v28 v31 v33 v34 v56 v59 X6 X16 X17 ⟨n, by omega⟩ _ _ _ _ hp h6 h16 h17 s
    · rw [← putR_upTo n A R.gK (fun y l => tT (R.D 0 n) (R.q 0) y l + tT (R.D 1 n) (R.q 1) y l)
        (fun y l hy => by unfold Row.gK; rw [div_blk hy, mod_blk hy])]
      exact trip_dk 𝒱 c bd i arg2 harg2 arg3 harg3 arg4 harg4 arg5 harg5 arg6 harg6 arg7 harg7 arg8 harg8 arg9 harg9 arg10 harg10 arg11 harg11 arg12 harg12 arg13 harg13
          arg14 harg14 arg15 harg15 arg16 harg16 arg17 harg17 arg18 harg18 arg19 harg19 arg20 harg20 arg1 v12 v15 v28 v31 v33 v34 v56 v59 X6 X16 X17 ⟨n, by omega⟩ _ _ _ _ hp h6 h16 h17 dk
    · rw [← putR_upTo n B R.gV (fun y l => tT (R.P 0 n) (R.d 0) y l + tT (R.P 1 n) (R.d 1) y l)
        (fun y l hy => by unfold Row.gV; rw [div_blk hy, mod_blk hy])]
      exact trip_dv 𝒱 c bd i arg2 harg2 arg3 harg3 arg4 harg4 arg5 harg5 arg6 harg6 arg7 harg7 arg8 harg8 arg9 harg9 arg10 harg10 arg11 harg11 arg12 harg12 arg13 harg13
          arg14 harg14 arg15 harg15 arg16 harg16 arg17 harg17 arg18 harg18 arg19 harg19 arg20 harg20 arg1 v12 v15 v28 v31 v33 v34 v56 v59 X6 X16 X17 ⟨n, by omega⟩ _ _ _ _ hp h6 h16 h17 dv
    · intro h k y
      refine Eq.trans ?_ (congrArg _ (putC_downTo n E (fun h k => tC (R.D h k)) h.val k.val y.val h.isLt))
      exact trip_dc 𝒱 c bd i arg2 harg2 arg3 harg3 arg4 harg4 arg5 harg5 arg6 harg6 arg7 harg7 arg8 harg8 arg9 harg9 arg10 harg10 arg11 harg11 arg12 harg12 arg13 harg13
          arg14 harg14 arg15 harg15 arg16 harg16 arg17 harg17 arg18 harg18 arg19 harg19 arg20 harg20 arg1 v12 v15 v28 v31 v33 v34 v56 v59 X6 X16 X17 ⟨n, by omega⟩ _ _ _ _ hp h6 h16 h17 dc h k y

end
end Cert.Kernel2Ideal.Value
-- ==== Proof.Flash.Point.lean ====
/- What one grid point of the attention backward call computes, over the reals. -/
module

public import proofs.«01_k».proof.Proof.Flash.Trip
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Flash

section
variable {κ : Kind} {sp : Space} {f : ℕ → ℕ → ℝ} {E : ℕ → ℕ → ℕ → ℝ} {lp : ℕ → ℕ → ℝ}

theorem rd_tile (m : Memref sig κ sp S512x128 .f32) (hm : m.IsWhole) {x : Vec Ideal S512x128 .f32} (hx : R2 x f)
    (inb : ∀ a, (![0, 0] : Fin 2 → ℕ) a + S512x128.size a ≤ S512x128.size a) :
    R2 (m.view.readAt (Elt Ideal) (Rect.unit ![0, 0] S512x128.size inb).toLoadRect (hm.unread x)) f := by
  rw [View.readAt_full, hm.read_unread]
  exact hx

theorem rd_all (v : View sig κ sp S4096x128 .f32) {g : v.ty.Contents (Elt Ideal)} (hx : R2 (v.read (Elt Ideal) g) f)
    (inb : ∀ a, (![0, 0] : Fin 2 → ℕ) a + S4096x128.size a ≤ S4096x128.size a) :
    R2 (v.readAt (Elt Ideal) (Rect.unit ![0, 0] S4096x128.size inb).toLoadRect g) f := by
  rw [View.readAt_full]
  exact hx

theorem rd_allc (v : View sig κ sp S2x8x512 .f32) {g : v.ty.Contents (Elt Ideal)} (hx : R3c (v.read (Elt Ideal) g) E)
    (inb : ∀ a, (![0, 0, 0] : Fin 3 → ℕ) a + S2x8x512.size a ≤ S2x8x512.size a) :
    R3c (v.readAt (Elt Ideal) (Rect.unit ![0, 0, 0] S2x8x512.size inb).toLoadRect g) E := by
  rw [View.readAt_full]
  exact hx

theorem rd_lp (m : Memref sig κ sp S2x512x128 .f32) (hm : m.IsWhole) {x : Vec Ideal S2x512x128 .f32}
    (hx : ∀ (h : Fin 2) (r : Fin 512), x (ix3 h r 0) = ((lp h.val r.val : ℝ) : EReal)) (h : Fin 2)
    (inb : ∀ a, (![h.val, 0, 0] : Fin 3 → ℕ) a + (![1, 512, 128] : Fin 3 → ℕ) a ≤ S2x512x128.size a) (r : Fin 512) :
    (m.view.readAt (Elt Ideal) (Rect.unit (s := S2x512x128) ![h.val, 0, 0] ![1, 512, 128] inb).toLoadRect (hm.unread x) : S1x512x128.Idx → EReal)
      (ix3 0 r 0) = ((lp h.val r.val : ℝ) : EReal) := by
  rw [View.readAt_unit m.view _ inb rfl inb, hm.read_unread]
  have e : (Rect.unit (s := S2x512x128) ![h.val, 0, 0] ![1, 512, 128] inb).emb (ix3 0 r 0) = ix3 h r 0 := by
    funext a
    refine Fin.cases ?_ (fun a => Fin.cases ?_ (fun a => Fin.cases ?_ (fun a => a.elim0) a) a) a
    · exact Fin.ext (show h.val + 1 * 0 = h.val by omega)
    · exact Fin.ext (show 0 + 1 * r.val = r.val by omega)
    · exact Fin.ext (show 0 + 1 * 0 = 0 by omega)
  show x _ = _
  rw [e]
  exact hx _ _

theorem wr_all (v : View sig κ sp S4096x128 .f32) (g : v.ty.Contents (Elt Ideal)) {x : S4096x128.Idx → EReal} (hx : R2 x f)
    (inb : ∀ a, (![0, 0] : Fin 2 → ℕ) a + S4096x128.size a ≤ S4096x128.size a) (L : List (View.Piece (Elt Ideal) S4096x128 .f32)) :
    R2 (v.read (Elt Ideal) (v.writes (Elt Ideal) g (⟨Rect.unit ![0, 0] S4096x128.size inb, x⟩ :: L))) f := by
  rw [View.read_writes_full]
  exact hx

theorem wr_all16 (v : View sig κ sp S4096x128 .bf16) (g : v.ty.Contents (Elt Ideal)) {x : S4096x128.Idx → EReal} (hx : R2 x f)
    (inb : ∀ a, (![0, 0] : Fin 2 → ℕ) a + S4096x128.size a ≤ S4096x128.size a) (L : List (View.Piece (Elt Ideal) S4096x128 .bf16)) :
    R2 (v.read (Elt Ideal) (v.writes (Elt Ideal) g (⟨Rect.unit ![0, 0] S4096x128.size inb, x⟩ :: L))) f := by
  rw [View.read_writes_full]
  exact hx

theorem wr_allc (v : View sig κ sp S2x8x512 .f32) (g : v.ty.Contents (Elt Ideal)) {x : S2x8x512.Idx → EReal} (hx : R3c x E)
    (inb : ∀ a, (![0, 0, 0] : Fin 3 → ℕ) a + S2x8x512.size a ≤ S2x8x512.size a) (L : List (View.Piece (Elt Ideal) S2x8x512 .f32)) :
    R3c (v.read (Elt Ideal) (v.writes (Elt Ideal) g (⟨Rect.unit ![0, 0, 0] S2x8x512.size inb, x⟩ :: L))) E := by
  rw [View.read_writes_full]
  exact hx

theorem wr_tile16 (v : View sig κ sp S512x128 .bf16) (g : v.ty.Contents (Elt Ideal)) {x : S512x128.Idx → EReal} (hx : R2 x f)
    (inb : ∀ a, (![0, 0] : Fin 2 → ℕ) a + S512x128.size a ≤ S512x128.size a) (L : List (View.Piece (Elt Ideal) S512x128 .bf16)) :
    R2 (v.read (Elt Ideal) (v.writes (Elt Ideal) g (⟨Rect.unit ![0, 0] S512x128.size inb, x⟩ :: L))) f := by
  rw [View.read_writes_full]
  exact hx

/-- The two rows of the row sums' block. -/
theorem wr_dcq (v : View sig κ sp S1x1x2x512 .f32) (g : v.ty.Contents (Elt Ideal)) {x0 x1 : S1x1x1x512.Idx → EReal} {r0 r1 : ℕ → ℝ}
    (h0 : R4 x0 r0) (h1 : R4 x1 r1) (inb0 : ∀ a, (![0, 0, 0, 0] : Fin 4 → ℕ) a + (![1, 1, 1, 512] : Fin 4 → ℕ) a ≤ S1x1x2x512.size a)
    (inb1 : ∀ a, (![0, 0, 1, 0] : Fin 4 → ℕ) a + (![1, 1, 1, 512] : Fin 4 → ℕ) a ≤ S1x1x2x512.size a) (h : Fin 2) (y : Fin 512) :
    (v.read (Elt Ideal) (v.writes (Elt Ideal) g [⟨Rect.unit ![0, 0, 1, 0] ![1, 1, 1, 512] inb1, x1⟩,
      ⟨Rect.unit ![0, 0, 0, 0] ![1, 1, 1, 512] inb0, x0⟩]) : S1x1x2x512.Idx → EReal) (ix4 0 0 h y)
      = (((if h.val = 0 then r0 else r1) y.val : ℝ) : EReal) := by
  rw [View.read_writes_cons_put v g inb1 x1 _ rfl, View.read_writes_cons_put v g inb0 x0 _ rfl]
  have hin : ∀ k : ℕ, k = h.val → ∀ a, (![0, 0, k, 0] : Fin 4 → ℕ) a ≤ ((ix4 0 0 h y : S1x1x2x512.Idx) a).val
      ∧ ((ix4 0 0 h y : S1x1x2x512.Idx) a).val < (![0, 0, k, 0] : Fin 4 → ℕ) a + (![1, 1, 1, 512] : Fin 4 → ℕ) a := by
    intro k hk
    refine Fin.cases ?_ (fun a => Fin.cases ?_ (fun a => Fin.cases ?_ (fun a => Fin.cases ?_ (fun a => a.elim0) a) a) a)
    · show 0 ≤ 0 ∧ 0 < 0 + 1
      omega
    · show 0 ≤ 0 ∧ 0 < 0 + 1
      omega
    · show k ≤ h.val ∧ h.val < k + 1
      omega
    · show 0 ≤ y.val ∧ y.val < 0 + 512
      omega
  have hloc : ∀ k : ℕ, ∀ hk : k = h.val, (Rect.unitLocal (s := S1x1x2x512) (off := ![0, 0, k, 0]) (size := ![1, 1, 1, 512]) (ix4 0 0 h y) (hin k hk) : S1x1x1x512.Idx)
      = (ix4 (n0 := 1) (n1 := 1) (n2 := 1) (n3 := 512) 0 0 0 y : S1x1x1x512.Idx) := by
    intro k hk
    funext a
    refine Fin.cases ?_ (fun a => Fin.cases ?_ (fun a => Fin.cases ?_ (fun a => Fin.cases ?_ (fun a => a.elim0) a) a) a) a
    · exact Fin.ext (show 0 - 0 = 0 by omega)
    · exact Fin.ext (show 0 - 0 = 0 by omega)
    · exact Fin.ext (show h.val - k = 0 by omega)
    · exact Fin.ext (show y.val - 0 = y.val by omega)
  unfold VecWindow.put
  by_cases hh : h.val = 0
  · rw [dif_neg, dif_pos (hin 0 hh.symm), if_pos hh]
    · exact (congrArg x0 (hloc 0 hh.symm)).trans (h0 y)
    · intro hall
      have := (hall 2).1
      have h1 : 1 ≤ h.val := this
      omega
  · have h1' : 1 = h.val := by omega
    rw [dif_pos (hin 1 h1'), if_neg hh]
    exact (congrArg x1 (hloc 1 h1')).trans (h1 y)

end

section
variable {v : Vec Ideal S4096x128 .f32} {f : ℕ → ℕ → ℝ} {E : ℕ → ℕ → ℕ → ℝ}

theorem r_pay38 (h : R2 v f) : R2 (k0_pay38 (F := Ideal) v) f := by
  intro x l
  unfold k0_pay38
  pointwise
  exact h _ _

theorem r_pay39 (h : R2 v f) : R2 (k0_pay39 (F := Ideal) v) f := by
  intro x l
  unfold k0_pay39
  pointwise
  exact h _ _

theorem r_pay40 : R2 (k0_pay40 (F := Ideal)) (fun _ _ => 0) := by
  intro x l
  unfold k0_pay40
  pointwise
  rfl

theorem r_pay41 : R2 (k0_pay41 (F := Ideal)) (fun _ _ => 0) := by
  intro x l
  unfold k0_pay41
  pointwise
  rfl

theorem r_pay42 : R3c (k0_pay42 (F := Ideal)) (fun _ _ _ => 0) := by
  intro h x l
  unfold k0_pay42
  pointwise
  rfl

theorem r_pay1 (h : R2 v f) : R2 (k0_pay1 (F := Ideal) v) f := by
  intro x l
  unfold k0_pay1
  pointwise
  exact h _ _

theorem r_pay2 (h : R2 v f) : R2 (k0_pay2 (F := Ideal) v) f := by
  intro x l
  unfold k0_pay2
  pointwise
  exact h _ _

theorem r_pay3 {w : Vec Ideal S2x8x512 .f32} (h : R3c w E) : R4c (k0_pay3 (F := Ideal) w) E := by
  intro a x l
  unfold k0_pay3
  pointwise
  exact h _ _ _

end

/-- The weights on and below the diagonal block's diagonal, and their gradient. -/
def Row.Dd (R : Row) (h k : ℕ) : ℕ → ℕ → ℝ := tD (low (R.P h k)) (R.d h) (blkR R.V k) (R.δ h)
/-- What the rows of block `n` add to the gradients of the keys, the values and the keys' running sums. -/
def Row.gKd (R : Row) (n r l : ℕ) : ℝ :=
  if r / 512 = n then tT (R.Dd 0 n) (R.q 0) (r % 512) l + tT (R.Dd 1 n) (R.q 1) (r % 512) l else R.gK r l
def Row.gVd (R : Row) (n r l : ℕ) : ℝ :=
  if r / 512 = n then tT (low (R.P 0 n)) (R.d 0) (r % 512) l + tT (low (R.P 1 n)) (R.d 1) (r % 512) l else R.gV r l
def Row.gCd (R : Row) (n h k y : ℕ) : ℝ := if k = n then tC (R.Dd h n) y else tC (R.D h k) y
/-- The gradient of the queries before its scale, and the row sums. -/
def Row.dq (R : Row) (n h x l : ℕ) : ℝ := (∑ k ∈ Finset.range n, tN (R.D h k) (blkR R.K k) x l) + tN (R.Dd h n) (blkR R.K n) x l
def Row.dcq (R : Row) (n h x : ℕ) : ℝ := (∑ k ∈ Finset.range n, tW (R.D h k) x) + tW (R.Dd h n) x

theorem putR_diag (n : ℕ) (A g g' u : ℕ → ℕ → ℝ) (hg : ∀ r l, g' r l = if r / 512 = n then u (r % 512) l else g r l) :
    putR (upTo n A g) n (fun y l => upTo n A g (512 * n + y) l + u y l) = upTo (n + 1) A g' := by
  have e : upTo n A g = upTo n A g' := by
    funext r l
    unfold upTo
    by_cases h : r < 512 * n
    · rw [if_pos h, if_pos h, hg, if_neg (by omega)]
    · rw [if_neg h, if_neg h]
  rw [e]
  exact putR_upTo n A g' u fun y l hy => by rw [hg, div_blk hy, mod_blk hy, if_pos rfl]

theorem putC_diag (n : ℕ) (E g g' : ℕ → ℕ → ℕ → ℝ) (u : ℕ → ℕ → ℝ) (hg : ∀ h k y, g' h k y = if k = n then u h y else g h k y) (h k y : ℕ) (hh : h < 2) :
    putC (putC (downTo n E g) 0 n fun y => downTo n E g 0 n y - u 0 y) 1 n
        (fun y => putC (downTo n E g) 0 n (fun y => downTo n E g 0 n y - u 0 y) 1 n y - u 1 y) h k y
      = downTo (n + 1) E g' h k y := by
  unfold putC downTo
  rw [hg]
  by_cases hk : k = n
  · subst hk
    obtain rfl | rfl : h = 0 ∨ h = 1 := by omega
    · simp
    · simp
  · have e : (k < n) = (k < n + 1) := propext (by omega)
    simp only [hk, and_false, if_false, e]

/-- The row block's data from its loads. -/
def mkRow (Q G O Dg K V : ℕ → ℕ → ℝ) (C : ℕ → ℕ → ℕ → ℝ) (lp : ℕ → ℕ → ℝ) : Row where
  q h := if h = 0 then m0 fun x l => Q x l * (1 / 8) else m1 fun x l => Q x l * (1 / 8)
  d h := if h = 0 then m0 fun x l => Dg x l * (G x l * sg (G x l)) else m1 fun x l => Dg x l * (G x l * sg (G x l))
  K := K
  V := V
  C := C
  δ h := if h = 0 then dlt m0 (fun x l => Dg x l * (G x l * sg (G x l))) O else dlt m1 (fun x l => Dg x l * (G x l * sg (G x l))) O
  lp := lp

/-- What a grid point of row block `n` leaves: the blocks of the queries' and gates' gradients, the row sums, and the carried
    keys, values and sums. -/
structure PointVal (R : Row) (A B : ℕ → ℕ → ℝ) (E : ℕ → ℕ → ℕ → ℝ) (n : ℕ) (dg : ℕ → ℕ → ℝ) (o8 o9 : S512x128.Idx → EReal)
    (o12 : S1x1x2x512.Idx → EReal) (s0 s1 s2 s3 : S4096x128.Idx → EReal) (s4 : S2x8x512.Idx → EReal) : Prop where
  dq : R2 o8 (fun x l => (if l < 64 then R.dq n 0 x l else R.dq n 1 x l) * (1 / 8))
  dg : R2 o9 dg
  dcq : ∀ (h : Fin 2) (y : Fin 512), o12 (ix4 0 0 h y) = (((if h.val = 0 then R.dcq n 0 else R.dcq n 1) y.val : ℝ) : EReal)
  k : R2 s0 R.K
  v : R2 s1 R.V
  dk : R2 s2 (upTo (n + 1) A (R.gKd n))
  dv : R2 s3 (upTo (n + 1) B (R.gVd n))
  dc : R3c s4 (downTo (n + 1) E (R.gCd n))

theorem trips1 (i : grid0.Coords) : Scf.trips 0#32 (Scalar.addi 0#32 (Scalar.muli (Scalar.divsi (Scalar.subi (BitVec.ofNat 32 (i 1).val) 0#32) 1#32) 1#32)) 1#32 = (i 1).val := by
  have h : ∀ a : Fin 8, Scf.trips 0#32 (Scalar.addi 0#32 (Scalar.muli (Scalar.divsi (Scalar.subi (BitVec.ofNat 32 a.val) 0#32) 1#32) 1#32)) 1#32 = a.val := by
    decide +kernel
  exact h (i 1)

theorem trips2 (i : grid0.Coords) : Scf.trips (Scalar.addi 0#32 (Scalar.muli (Scalar.divsi (Scalar.subi (BitVec.ofNat 32 (i 1).val) 0#32) 1#32) 1#32))
    (Scalar.addi 0#32 (Scalar.subi (BitVec.ofNat 32 (i 1).val) 0#32)) 1#32 = 0 := by
  have h : ∀ a : Fin 8, Scf.trips (Scalar.addi 0#32 (Scalar.muli (Scalar.divsi (Scalar.subi (BitVec.ofNat 32 a.val) 0#32) 1#32) 1#32))
      (Scalar.addi 0#32 (Scalar.subi (BitVec.ofNat 32 a.val) 0#32)) 1#32 = 0 := by
    decide +kernel
  exact h (i 1)

theorem loop_trips (i : grid0.Coords) : (k0_t1_loop i).trips = (i 1).val := trips1 i

end Cert.Kernel2Ideal.Value
-- ==== Proof.Flash.Cases.lean ====
/- The blocks and stores of a grid point of the attention backward call. -/
module

public import proofs.«01_k».proof.Proof.Flash.Point
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Flash

/-- The blocks a grid point loads. -/
structure Loads (Q G O Dg K V : ℕ → ℕ → ℝ) (C : ℕ → ℕ → ℕ → ℝ) (lp : ℕ → ℕ → ℝ) (x0 : Vec Ideal S512x128 .f32) (x1 x2 : Vec Ideal S4096x128 .f32)
    (x3 : Vec Ideal S512x128 .f32) (x4 : Vec Ideal S1x2x8x512 .f32) (x5 x6 : Vec Ideal S512x128 .f32) (x7 : Vec Ideal S2x512x128 .f32) : Prop where
  x0 : R2 x0 Q
  x1 : R2 x1 K
  x2 : R2 x2 V
  x3 : R2 x3 G
  x4 : R4c x4 C
  x5 : R2 x5 O
  x6 : R2 x6 Dg
  x7 : ∀ (h : Fin 2) (r : Fin 512), x7 (ix3 h r 0) = ((lp h.val r.val : ℝ) : EReal)

variable {Q G O Dg K V A B : ℕ → ℕ → ℝ} {C E : ℕ → ℕ → ℕ → ℝ} {lp : ℕ → ℕ → ℝ}

theorem prep_of {g o d q : Vec Ideal S512x128 .f32} {l0 l1 : Vec Ideal S1x512x128 .f32} (hg : R2 g G) (ho : R2 o O) (hd : R2 d Dg) (hq : R2 q Q)
    (h0 : ∀ r : Fin 512, l0 (ix3 0 r 0) = ((lp 0 r.val : ℝ) : EReal)) (h1 : ∀ r : Fin 512, l1 (ix3 0 r 0) = ((lp 1 r.val : ℝ) : EReal)) :
    Prep (mkRow Q G O Dg K V C lp) (k0_pay44 (F := Ideal) o) (k0_pay45 (F := Ideal) g d) (k0_pay47 (F := Ideal) q) k0_pay48 k0_pay49 (k0_pay50 (F := Ideal)) l0 l1 where
  q0 := r_pay51 (r_pay47 hq)
  q1 := r_pay52 (r_pay47 hq)
  d0 := r_pay53 (r_pay45 hg hd)
  d1 := r_pay54 (r_pay45 hg hd)
  δ0 := r_pay55 (r_pay44 ho) (r_pay45 hg hd)
  δ1 := r_pay56 (r_pay44 ho) (r_pay45 hg hd)
  l0 := r_pay57 h0
  l1 := r_pay58 h1

/-- The gate's gradient. -/
def dgate (G O Dg : ℕ → ℕ → ℝ) (x l : ℕ) : ℝ := Dg x l * O x l * (sg (G x l) * (1 + G x l * (1 - sg (G x l))))

theorem sums0 : Sums (k0_pay59 (F := Ideal), k0_pay60 (F := Ideal), k0_pay59 (F := Ideal), k0_pay60 (F := Ideal)) (fun _ _ _ => 0) (fun _ _ => 0) :=
  ⟨r_zero128, r_zero1, r_zero128, r_zero1⟩

theorem wr_outc {κ : Kind} {sp : Space} {E : ℕ → ℕ → ℕ → ℝ} (v : View sig κ sp S1x2x8x512 .f32) (g : v.ty.Contents (Elt Ideal)) {x : S1x2x8x512.Idx → EReal} (hx : R4c x E)
    (inb : ∀ a, (![0, 0, 0, 0] : Fin 4 → ℕ) a + S1x2x8x512.size a ≤ S1x2x8x512.size a) (L : List (View.Piece (Elt Ideal) S1x2x8x512 .f32)) :
    R4c (v.read (Elt Ideal) (v.writes (Elt Ideal) g (⟨Rect.unit ![0, 0, 0, 0] S1x2x8x512.size inb, x⟩ :: L))) E := by
  rw [View.read_writes_full]
  exact hx

/-- Stores covering a buffer read the same whatever view they go through. -/
theorem over {κ κ' : Kind} {sp sp' : Space} {s : Shape} {et : EltTy} (v : View sig κ sp s et) (v' : View sig κ' sp' s et) (g : v.ty.Contents (Elt Ideal))
    (g' : v'.ty.Contents (Elt Ideal)) (L : List (View.Piece (Elt Ideal) s et)) (h : ∀ y, ∃ p ∈ L, y ∈ p.1.set) :
    v.read (Elt Ideal) (v.writes (Elt Ideal) g L) = v'.read (Elt Ideal) (v'.writes (Elt Ideal) g' L) :=
  (View.read_writes_eq_canon v g L h).trans (View.read_writes_eq_canon v' g' L h).symm

theorem dk_diag (R : Row) (n : ℕ) (A : ℕ → ℕ → ℝ) : putR (upTo n A R.gK) n (fun y l => upTo n A R.gK (512 * n + y) l
    + (tT (R.Dd 0 n) (R.q 0) y l + tT (R.Dd 1 n) (R.q 1) y l)) = upTo (n + 1) A (R.gKd n) :=
  putR_diag n A R.gK (R.gKd n) (fun y l => tT (R.Dd 0 n) (R.q 0) y l + tT (R.Dd 1 n) (R.q 1) y l) fun _ _ => rfl

theorem dv_diag (R : Row) (n : ℕ) (A : ℕ → ℕ → ℝ) : putR (upTo n A R.gV) n (fun y l => upTo n A R.gV (512 * n + y) l
    + (tT (low (R.P 0 n)) (R.d 0) y l + tT (low (R.P 1 n)) (R.d 1) y l)) = upTo (n + 1) A (R.gVd n) :=
  putR_diag n A R.gV (R.gVd n) (fun y l => tT (low (R.P 0 n)) (R.d 0) y l + tT (low (R.P 1 n)) (R.d 1) y l) fun _ _ => rfl

end Cert.Kernel2Ideal.Value
-- ==== Proof.Flash.CaseA.lean ====
/- A grid point of the attention backward call: the first row block of a pair of heads. -/
module

public import proofs.«01_k».proof.Proof.Flash.Cases
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Flash

variable {Q G O Dg K V A B : ℕ → ℕ → ℝ} {C E : ℕ → ℕ → ℕ → ℝ} {lp : ℕ → ℕ → ℝ}

variable (c : Dev nD) (i : grid0.Coords)
  (arg2 : Memref sig .tc .vmem S512x128 .f32) (harg2 : arg2.IsWhole) (arg3 : Memref sig .tc .vmem S4096x128 .f32) (harg3 : arg3.IsWhole)
  (arg4 : Memref sig .tc .vmem S4096x128 .f32) (harg4 : arg4.IsWhole) (arg5 : Memref sig .tc .vmem S512x128 .f32) (harg5 : arg5.IsWhole)
  (arg6 : Memref sig .tc .vmem S1x2x8x512 .f32) (harg6 : arg6.IsWhole) (arg7 : Memref sig .tc .vmem S512x128 .f32) (harg7 : arg7.IsWhole)
  (arg8 : Memref sig .tc .vmem S512x128 .f32) (harg8 : arg8.IsWhole) (arg9 : Memref sig .tc .vmem S2x512x128 .f32) (harg9 : arg9.IsWhole)
  (arg10 : Memref sig .tc .vmem S512x128 .bf16) (harg10 : arg10.IsWhole) (arg11 : Memref sig .tc .vmem S512x128 .bf16) (harg11 : arg11.IsWhole)
  (arg12 : Memref sig .tc .vmem S4096x128 .bf16) (harg12 : arg12.IsWhole) (arg13 : Memref sig .tc .vmem S4096x128 .bf16) (harg13 : arg13.IsWhole)
  (arg14 : Memref sig .tc .vmem S1x1x2x512 .f32) (harg14 : arg14.IsWhole) (arg15 : Memref sig .tc .vmem S1x2x8x512 .f32) (harg15 : arg15.IsWhole)
  (arg16 : Memref sig .tc .vmem S4096x128 .bf16) (harg16 : arg16.IsWhole) (arg17 : Memref sig .tc .vmem S4096x128 .bf16) (harg17 : arg17.IsWhole)
  (arg18 : Memref sig .tc .vmem S4096x128 .f32) (harg18 : arg18.IsWhole) (arg19 : Memref sig .tc .vmem S4096x128 .f32) (harg19 : arg19.IsWhole)
  (arg20 : Memref sig .tc .vmem S2x8x512 .f32) (harg20 : arg20.IsWhole)
  (x0 x3 x5 x6 : Vec Ideal S512x128 .f32) (x1 x2 : Vec Ideal S4096x128 .f32) (x4 : Vec Ideal S1x2x8x512 .f32) (x7 : Vec Ideal S2x512x128 .f32)
  (s0 s1 : Vec Ideal S4096x128 .bf16) (s2 s3 : Vec Ideal S4096x128 .f32) (s4 : Vec Ideal S2x8x512 .f32)

set_option maxHeartbeats 1600000 in
theorem point_A (hc0 : cond0_0 i) (hc1 : ¬cond0_1 i) (hL : Loads Q G O Dg K V C lp x0 x1 x2 x3 x4 x5 x6 x7) :
    PointVal (mkRow Q G O Dg K V C lp) (fun _ _ => 0) (fun _ _ => 0) (fun _ _ _ => 0) (i 1).val (dgate G O Dg)
      (out0_A_8 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7)
      (out0_A_9 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7)
      (out0_A_12 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7)
      (sout0_A_0 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7)
      (sout0_A_1 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7)
      (sout0_A_2 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7)
      (sout0_A_3 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7)
      (sout0_A_4 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7) := by
  have hg := rd_tile arg5 harg5 hL.x3 inb_S512x128_S512x128_0_0
  have ho := rd_tile arg7 harg7 hL.x5 inb_S512x128_S512x128_0_0
  have hd := rd_tile arg8 harg8 hL.x6 inb_S512x128_S512x128_0_0
  have hq := rd_tile arg2 harg2 hL.x0 inb_S512x128_S512x128_0_0
  have hl0 := rd_lp arg9 harg9 hL.x7 0 inb_S2x512x128_S1x512x128_0_0_0
  have hl1 := rd_lp arg9 harg9 hL.x7 1 inb_S2x512x128_S1x512x128_1_0_0
  have hp := prep_of (K := K) (V := V) (C := C) hg ho hd hq hl0 hl1
  have h6 : R4c (arg6.view.read (Elt Ideal) (harg6.unread x4)) C := by
    rw [harg6.read_unread]
    exact hL.x4
  have h16 := wr_all16 arg16.view arg16.view.junk (r_pay38 (rd_all arg3.view (show R2 (arg3.view.read (Elt Ideal) (harg3.unread x1)) K by
    rw [harg3.read_unread]
    exact hL.x1) inb_S4096x128_S4096x128_0_0)) inb_S4096x128_S4096x128_0_0 []
  have h17 := wr_all16 arg17.view arg17.view.junk (r_pay39 (rd_all arg4.view (show R2 (arg4.view.read (Elt Ideal) (harg4.unread x2)) V by
    rw [harg4.read_unread]
    exact hL.x2) inb_S4096x128_S4096x128_0_0)) inb_S4096x128_S4096x128_0_0 []
  have h18 := wr_all arg18.view arg18.view.junk r_pay40 inb_S4096x128_S4096x128_0_0 []
  have h19 := wr_all arg19.view arg19.view.junk r_pay41 inb_S4096x128_S4096x128_0_0 []
  have h20 := wr_allc arg20.view arg20.view.junk r_pay42 inb_S2x8x512_S2x8x512_0_0_0 []
  have hK := fun inb => rd_rows16 (n := (i 1).val) arg16.view h16 (k0_off11_eq i) inb
  have hV := fun inb => rd_rows16 (n := (i 1).val) arg17.view h17 (k0_off11_eq i) inb
  have hC0 := fun inb => rd_cum (h := 0) (n := (i 1).val) arg6.view h6 (k0_off12_eq i) inb
  have hC1 := fun inb => rd_cum (h := 1) (n := (i 1).val) arg6.view h6 (k0_off14_eq i) inb
  have hn : (i 1).val < 8 := (i 1).isLt
  have T := trips (E := fun _ _ _ => 0) (B := fun _ _ => 0) Variants.none c none i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 (BitVec.ofNat 32 (i 1).val) _ _ _ _ _ _ _ _ _ _ _ _ _ _ _
    hp h6 h16 h17 h18 h19 h20 sums0 (i 1).val (le_of_eq (loop_trips i).symm) _ rfl
  have tdk := T.dk
  have tdv := T.dv
  have tdc := T.dc
  rw [← View.writes_append] at tdk tdv tdc
  refine ⟨?_, ?_, ?_, ?_, ?_, ?_, ?_, ?_⟩
  · unfold out0_A_8 kernelRun0_A; dsimp only; sl_unfold_run_names; simp only [trips1, trips2, st_k0_t2.eq_1, List.nil_append]
    refine wr_tile16 _ _ ?_ _ _
    exact r_pay82 T.s.a1 (hK _) (r_pay70 T.s.a0 (r_pay69 hn hp.q0 hp.d0 hp.δ0 hp.l0 (hK _) (hV _) (hC0 _))) (r_pay74 hn hp.q1 hp.d1 hp.δ1 hp.l1 (hK _) (hV _) (hC1 _))
  · unfold out0_A_9 kernelRun0_A; dsimp only; sl_unfold_run_names
    refine wr_tile16 _ _ ?_ _ _
    exact r_pay46 hg ho hd
  · unfold out0_A_12 kernelRun0_A; dsimp only; sl_unfold_run_names; simp only [trips1, trips2, st_k0_t2.eq_1, List.nil_append]
    exact wr_dcq _ _ (r_pay80 (r_pay71 T.s.r0 (r_pay64 hn hp.q0 hp.d0 hp.δ0 hp.l0 (hK _) (hV _) (hC0 _)))) (r_pay81 T.s.r1 (r_pay73 hn hp.q1 hp.d1 hp.δ1 hp.l1 (hK _) (hV _) (hC1 _))) _ _
  · unfold sout0_A_0 kernelRun0_A; dsimp only; sl_unfold_run_names
    refine wr_all16 _ _ (r_pay38 (rd_all arg3.view ?_ _)) _ _
    rw [harg3.read_unread]
    exact hL.x1
  · unfold sout0_A_1 kernelRun0_A; dsimp only; sl_unfold_run_names
    refine wr_all16 _ _ (r_pay39 (rd_all arg4.view ?_ _)) _ _
    rw [harg4.read_unread]
    exact hL.x2
  · unfold sout0_A_2
    rw [over VS0_2 arg18.view VS0_2.junk arg18.view.junk _ (scover0_A_2 c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7)]
    unfold kernelRun0_A; dsimp only; sl_unfold_run_names; simp only [trips1, trips2, st_k0_t2.eq_1, List.nil_append, List.append_nil]
    rw [← dk_diag]
    exact wr_rows arg18.view tdk (k0_off11_eq i) _ (r_pay78 (r_pay76 hn hp.q1 hp.d1 hp.δ1 hp.l1 (hK _) (hV _) (hC1 _) (r_pay67 hn hp.q0 hp.d0 hp.δ0 hp.l0 (hK _) (hV _) (hC0 _))) (rd_rows arg18.view tdk (k0_off11_eq i) _))
  · unfold sout0_A_3
    rw [over VS0_3 arg19.view VS0_3.junk arg19.view.junk _ (scover0_A_3 c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7)]
    unfold kernelRun0_A; dsimp only; sl_unfold_run_names; simp only [trips1, trips2, st_k0_t2.eq_1, List.nil_append, List.append_nil]
    rw [← dv_diag]
    exact wr_rows arg19.view tdv (k0_off11_eq i) _ (r_pay79 (r_pay75 hn hp.q1 hp.d1 hp.l1 (hK _) (hC1 _) (r_pay66 hn hp.q0 hp.d0 hp.l0 (hK _) (hC0 _))) (rd_rows arg19.view tdv (k0_off11_eq i) _))
  · unfold sout0_A_4
    rw [over VS0_4 arg20.view VS0_4.junk arg20.view.junk _ (scover0_A_4 c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7)]
    unfold kernelRun0_A; dsimp only; sl_unfold_run_names; simp only [trips1, trips2, st_k0_t2.eq_1, List.nil_append, List.append_nil]
    intro h k y
    refine Eq.trans ?_ (congrArg (fun r : ℝ => (r : EReal)) (putC_diag (i 1).val (fun _ _ _ => 0) (fun h k => tC ((mkRow Q G O Dg K V C lp).D h k)) (Row.gCd _ (i 1).val)
      (fun h => tC (Row.Dd (mkRow Q G O Dg K V C lp) h (i 1).val)) (fun h k y => rfl) h.val k.val y.val h.isLt))
    have w0 := wr_dca (h := 0) arg20.view tdc (k0_off13_eq i) (k0_off13_inb i) (r_pay68 hn hp.q0 hp.d0 hp.δ0 hp.l0 (hK (k0_off11_inb i)) (hV (k0_off11_inb i)) (hC0 (k0_off12_inb i)) (rd_dca arg20.view tdc (k0_off13_eq i) (k0_off13_inb i)))
    exact wr_dca (h := 1) arg20.view w0 (k0_off15_eq i) _ (r_pay77 hn hp.q1 hp.d1 hp.δ1 hp.l1 (hK _) (hV _) (hC1 _) (rd_dca arg20.view w0 (k0_off15_eq i) _)) h k y

end Cert.Kernel2Ideal.Value
-- ==== Proof.Flash.CaseB.lean ====
/- A grid point of the attention backward call: a row block between. -/
module

public import proofs.«01_k».proof.Proof.Flash.Cases
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Flash

variable {Q G O Dg K V A B : ℕ → ℕ → ℝ} {C E : ℕ → ℕ → ℕ → ℝ} {lp : ℕ → ℕ → ℝ}

variable (c : Dev nD) (i : grid0.Coords)
  (arg2 : Memref sig .tc .vmem S512x128 .f32) (harg2 : arg2.IsWhole) (arg3 : Memref sig .tc .vmem S4096x128 .f32) (harg3 : arg3.IsWhole)
  (arg4 : Memref sig .tc .vmem S4096x128 .f32) (harg4 : arg4.IsWhole) (arg5 : Memref sig .tc .vmem S512x128 .f32) (harg5 : arg5.IsWhole)
  (arg6 : Memref sig .tc .vmem S1x2x8x512 .f32) (harg6 : arg6.IsWhole) (arg7 : Memref sig .tc .vmem S512x128 .f32) (harg7 : arg7.IsWhole)
  (arg8 : Memref sig .tc .vmem S512x128 .f32) (harg8 : arg8.IsWhole) (arg9 : Memref sig .tc .vmem S2x512x128 .f32) (harg9 : arg9.IsWhole)
  (arg10 : Memref sig .tc .vmem S512x128 .bf16) (harg10 : arg10.IsWhole) (arg11 : Memref sig .tc .vmem S512x128 .bf16) (harg11 : arg11.IsWhole)
  (arg12 : Memref sig .tc .vmem S4096x128 .bf16) (harg12 : arg12.IsWhole) (arg13 : Memref sig .tc .vmem S4096x128 .bf16) (harg13 : arg13.IsWhole)
  (arg14 : Memref sig .tc .vmem S1x1x2x512 .f32) (harg14 : arg14.IsWhole) (arg15 : Memref sig .tc .vmem S1x2x8x512 .f32) (harg15 : arg15.IsWhole)
  (arg16 : Memref sig .tc .vmem S4096x128 .bf16) (harg16 : arg16.IsWhole) (arg17 : Memref sig .tc .vmem S4096x128 .bf16) (harg17 : arg17.IsWhole)
  (arg18 : Memref sig .tc .vmem S4096x128 .f32) (harg18 : arg18.IsWhole) (arg19 : Memref sig .tc .vmem S4096x128 .f32) (harg19 : arg19.IsWhole)
  (arg20 : Memref sig .tc .vmem S2x8x512 .f32) (harg20 : arg20.IsWhole)
  (x0 x3 x5 x6 : Vec Ideal S512x128 .f32) (x1 x2 : Vec Ideal S4096x128 .f32) (x4 : Vec Ideal S1x2x8x512 .f32) (x7 : Vec Ideal S2x512x128 .f32)
  (s0 s1 : Vec Ideal S4096x128 .bf16) (s2 s3 : Vec Ideal S4096x128 .f32) (s4 : Vec Ideal S2x8x512 .f32)

theorem point_B (hc0 : ¬cond0_0 i) (hc1 : ¬cond0_1 i) (hL : Loads Q G O Dg K V C lp x0 x1 x2 x3 x4 x5 x6 x7)
    (h0 : R2 s0 K) (h1 : R2 s1 V) (h2 : R2 s2 A) (h3 : R2 s3 B) (h4 : R3c s4 E) :
    PointVal (mkRow Q G O Dg K V C lp) A B E (i 1).val (dgate G O Dg)
      (out0_B_8 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7 s0 s1 s2 s3 s4)
      (out0_B_9 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7 s0 s1 s2 s3 s4)
      (out0_B_12 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7 s0 s1 s2 s3 s4)
      (sout0_B_0 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7 s0 s1 s2 s3 s4)
      (sout0_B_1 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7 s0 s1 s2 s3 s4)
      (sout0_B_2 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7 s0 s1 s2 s3 s4)
      (sout0_B_3 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7 s0 s1 s2 s3 s4)
      (sout0_B_4 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7 s0 s1 s2 s3 s4) := by
  have hg := rd_tile arg5 harg5 hL.x3 inb_S512x128_S512x128_0_0
  have ho := rd_tile arg7 harg7 hL.x5 inb_S512x128_S512x128_0_0
  have hd := rd_tile arg8 harg8 hL.x6 inb_S512x128_S512x128_0_0
  have hq := rd_tile arg2 harg2 hL.x0 inb_S512x128_S512x128_0_0
  have hl0 := rd_lp arg9 harg9 hL.x7 0 inb_S2x512x128_S1x512x128_0_0_0
  have hl1 := rd_lp arg9 harg9 hL.x7 1 inb_S2x512x128_S1x512x128_1_0_0
  have hp := prep_of (K := K) (V := V) (C := C) hg ho hd hq hl0 hl1
  have h6 : R4c (arg6.view.read (Elt Ideal) (harg6.unread x4)) C := by
    rw [harg6.read_unread]
    exact hL.x4
  have h16 : R2 (arg16.view.read (Elt Ideal) (harg16.unread s0)) K := by
    rw [harg16.read_unread]
    exact h0
  have h17 : R2 (arg17.view.read (Elt Ideal) (harg17.unread s1)) V := by
    rw [harg17.read_unread]
    exact h1
  have h18 : R2 (arg18.view.read (Elt Ideal) (harg18.unread s2)) A := by
    rw [harg18.read_unread]
    exact h2
  have h19 : R2 (arg19.view.read (Elt Ideal) (harg19.unread s3)) B := by
    rw [harg19.read_unread]
    exact h3
  have h20 : R3c (arg20.view.read (Elt Ideal) (harg20.unread s4)) E := by
    rw [harg20.read_unread]
    exact h4
  have hK := fun inb => rd_rows16 (n := (i 1).val) arg16.view h16 (k0_off11_eq i) inb
  have hV := fun inb => rd_rows16 (n := (i 1).val) arg17.view h17 (k0_off11_eq i) inb
  have hC0 := fun inb => rd_cum (h := 0) (n := (i 1).val) arg6.view h6 (k0_off12_eq i) inb
  have hC1 := fun inb => rd_cum (h := 1) (n := (i 1).val) arg6.view h6 (k0_off14_eq i) inb
  have hn : (i 1).val < 8 := (i 1).isLt
  have T := trips (E := E) (B := B) Variants.none c none i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 (BitVec.ofNat 32 (i 1).val) _ _ _ _ _ _ _ _ _ _ _ _ _ _ _
    hp h6 h16 h17 h18 h19 h20 sums0 (i 1).val (le_of_eq (loop_trips i).symm) _ rfl
  refine ⟨?_, ?_, ?_, ?_, ?_, ?_, ?_, ?_⟩
  · unfold out0_B_8 kernelRun0_B; dsimp only; sl_unfold_run_names; simp only [trips1, trips2, st_k0_t2.eq_1, List.nil_append]
    refine wr_tile16 _ _ ?_ _ _
    exact r_pay82 T.s.a1 (hK _) (r_pay70 T.s.a0 (r_pay69 hn hp.q0 hp.d0 hp.δ0 hp.l0 (hK _) (hV _) (hC0 _))) (r_pay74 hn hp.q1 hp.d1 hp.δ1 hp.l1 (hK _) (hV _) (hC1 _))
  · unfold out0_B_9 kernelRun0_B; dsimp only; sl_unfold_run_names
    refine wr_tile16 _ _ ?_ _ _
    exact r_pay46 hg ho hd
  · unfold out0_B_12 kernelRun0_B; dsimp only; sl_unfold_run_names; simp only [trips1, trips2, st_k0_t2.eq_1, List.nil_append]
    exact wr_dcq _ _ (r_pay80 (r_pay71 T.s.r0 (r_pay64 hn hp.q0 hp.d0 hp.δ0 hp.l0 (hK _) (hV _) (hC0 _)))) (r_pay81 T.s.r1 (r_pay73 hn hp.q1 hp.d1 hp.δ1 hp.l1 (hK _) (hV _) (hC1 _))) _ _
  · exact h0
  · exact h1
  · unfold sout0_B_2 kernelRun0_B; dsimp only; sl_unfold_run_names; simp only [trips1, trips2, st_k0_t2.eq_1, List.nil_append]
    rw [← dk_diag]
    exact wr_rows arg18.view T.dk (k0_off11_eq i) _ (r_pay78 (r_pay76 hn hp.q1 hp.d1 hp.δ1 hp.l1 (hK _) (hV _) (hC1 _) (r_pay67 hn hp.q0 hp.d0 hp.δ0 hp.l0 (hK _) (hV _) (hC0 _))) (rd_rows arg18.view T.dk (k0_off11_eq i) _))
  · unfold sout0_B_3 kernelRun0_B; dsimp only; sl_unfold_run_names; simp only [trips1, trips2, st_k0_t2.eq_1, List.nil_append]
    rw [← dv_diag]
    exact wr_rows arg19.view T.dv (k0_off11_eq i) _ (r_pay79 (r_pay75 hn hp.q1 hp.d1 hp.l1 (hK _) (hC1 _) (r_pay66 hn hp.q0 hp.d0 hp.l0 (hK _) (hC0 _))) (rd_rows arg19.view T.dv (k0_off11_eq i) _))
  · unfold sout0_B_4 kernelRun0_B; dsimp only; sl_unfold_run_names; simp only [trips1, trips2, st_k0_t2.eq_1, List.nil_append]
    intro h k y
    refine Eq.trans ?_ (congrArg (fun r : ℝ => (r : EReal)) (putC_diag (i 1).val E (fun h k => tC ((mkRow Q G O Dg K V C lp).D h k)) (Row.gCd _ (i 1).val)
      (fun h => tC (Row.Dd (mkRow Q G O Dg K V C lp) h (i 1).val)) (fun h k y => rfl) h.val k.val y.val h.isLt))
    have w0 := wr_dca (h := 0) arg20.view T.dc (k0_off13_eq i) (k0_off13_inb i) (r_pay68 hn hp.q0 hp.d0 hp.δ0 hp.l0 (hK (k0_off11_inb i)) (hV (k0_off11_inb i)) (hC0 (k0_off12_inb i)) (rd_dca arg20.view T.dc (k0_off13_eq i) (k0_off13_inb i)))
    exact wr_dca (h := 1) arg20.view w0 (k0_off15_eq i) _ (r_pay77 hn hp.q1 hp.d1 hp.δ1 hp.l1 (hK _) (hV _) (hC1 _) (rd_dca arg20.view w0 (k0_off15_eq i) _)) h k y

end Cert.Kernel2Ideal.Value
-- ==== Proof.Flash.CaseC.lean ====
/- A grid point of the attention backward call: the last row block of a pair of heads. -/
module

public import proofs.«01_k».proof.Proof.Flash.Cases
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Flash

variable {Q G O Dg K V A B : ℕ → ℕ → ℝ} {C E : ℕ → ℕ → ℕ → ℝ} {lp : ℕ → ℕ → ℝ}

variable (c : Dev nD) (i : grid0.Coords)
  (arg2 : Memref sig .tc .vmem S512x128 .f32) (harg2 : arg2.IsWhole) (arg3 : Memref sig .tc .vmem S4096x128 .f32) (harg3 : arg3.IsWhole)
  (arg4 : Memref sig .tc .vmem S4096x128 .f32) (harg4 : arg4.IsWhole) (arg5 : Memref sig .tc .vmem S512x128 .f32) (harg5 : arg5.IsWhole)
  (arg6 : Memref sig .tc .vmem S1x2x8x512 .f32) (harg6 : arg6.IsWhole) (arg7 : Memref sig .tc .vmem S512x128 .f32) (harg7 : arg7.IsWhole)
  (arg8 : Memref sig .tc .vmem S512x128 .f32) (harg8 : arg8.IsWhole) (arg9 : Memref sig .tc .vmem S2x512x128 .f32) (harg9 : arg9.IsWhole)
  (arg10 : Memref sig .tc .vmem S512x128 .bf16) (harg10 : arg10.IsWhole) (arg11 : Memref sig .tc .vmem S512x128 .bf16) (harg11 : arg11.IsWhole)
  (arg12 : Memref sig .tc .vmem S4096x128 .bf16) (harg12 : arg12.IsWhole) (arg13 : Memref sig .tc .vmem S4096x128 .bf16) (harg13 : arg13.IsWhole)
  (arg14 : Memref sig .tc .vmem S1x1x2x512 .f32) (harg14 : arg14.IsWhole) (arg15 : Memref sig .tc .vmem S1x2x8x512 .f32) (harg15 : arg15.IsWhole)
  (arg16 : Memref sig .tc .vmem S4096x128 .bf16) (harg16 : arg16.IsWhole) (arg17 : Memref sig .tc .vmem S4096x128 .bf16) (harg17 : arg17.IsWhole)
  (arg18 : Memref sig .tc .vmem S4096x128 .f32) (harg18 : arg18.IsWhole) (arg19 : Memref sig .tc .vmem S4096x128 .f32) (harg19 : arg19.IsWhole)
  (arg20 : Memref sig .tc .vmem S2x8x512 .f32) (harg20 : arg20.IsWhole)
  (x0 x3 x5 x6 : Vec Ideal S512x128 .f32) (x1 x2 : Vec Ideal S4096x128 .f32) (x4 : Vec Ideal S1x2x8x512 .f32) (x7 : Vec Ideal S2x512x128 .f32)
  (s0 s1 : Vec Ideal S4096x128 .bf16) (s2 s3 : Vec Ideal S4096x128 .f32) (s4 : Vec Ideal S2x8x512 .f32)

theorem point_C (hc0 : ¬cond0_0 i) (hc1 : cond0_1 i) (hL : Loads Q G O Dg K V C lp x0 x1 x2 x3 x4 x5 x6 x7)
    (h0 : R2 s0 K) (h1 : R2 s1 V) (h2 : R2 s2 A) (h3 : R2 s3 B) (h4 : R3c s4 E) :
    PointVal (mkRow Q G O Dg K V C lp) A B E (i 1).val (dgate G O Dg)
      (out0_C_8 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7 s0 s1 s2 s3 s4)
      (out0_C_9 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7 s0 s1 s2 s3 s4)
      (out0_C_12 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7 s0 s1 s2 s3 s4)
      (sout0_C_0 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7 s0 s1 s2 s3 s4)
      (sout0_C_1 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7 s0 s1 s2 s3 s4)
      (sout0_C_2 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7 s0 s1 s2 s3 s4)
      (sout0_C_3 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7 s0 s1 s2 s3 s4)
      (sout0_C_4 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7 s0 s1 s2 s3 s4) := by
  have hg := rd_tile arg5 harg5 hL.x3 inb_S512x128_S512x128_0_0
  have ho := rd_tile arg7 harg7 hL.x5 inb_S512x128_S512x128_0_0
  have hd := rd_tile arg8 harg8 hL.x6 inb_S512x128_S512x128_0_0
  have hq := rd_tile arg2 harg2 hL.x0 inb_S512x128_S512x128_0_0
  have hl0 := rd_lp arg9 harg9 hL.x7 0 inb_S2x512x128_S1x512x128_0_0_0
  have hl1 := rd_lp arg9 harg9 hL.x7 1 inb_S2x512x128_S1x512x128_1_0_0
  have hp := prep_of (K := K) (V := V) (C := C) hg ho hd hq hl0 hl1
  have h6 : R4c (arg6.view.read (Elt Ideal) (harg6.unread x4)) C := by
    rw [harg6.read_unread]
    exact hL.x4
  have h16 : R2 (arg16.view.read (Elt Ideal) (harg16.unread s0)) K := by
    rw [harg16.read_unread]
    exact h0
  have h17 : R2 (arg17.view.read (Elt Ideal) (harg17.unread s1)) V := by
    rw [harg17.read_unread]
    exact h1
  have h18 : R2 (arg18.view.read (Elt Ideal) (harg18.unread s2)) A := by
    rw [harg18.read_unread]
    exact h2
  have h19 : R2 (arg19.view.read (Elt Ideal) (harg19.unread s3)) B := by
    rw [harg19.read_unread]
    exact h3
  have h20 : R3c (arg20.view.read (Elt Ideal) (harg20.unread s4)) E := by
    rw [harg20.read_unread]
    exact h4
  have hK := fun inb => rd_rows16 (n := (i 1).val) arg16.view h16 (k0_off11_eq i) inb
  have hV := fun inb => rd_rows16 (n := (i 1).val) arg17.view h17 (k0_off11_eq i) inb
  have hC0 := fun inb => rd_cum (h := 0) (n := (i 1).val) arg6.view h6 (k0_off12_eq i) inb
  have hC1 := fun inb => rd_cum (h := 1) (n := (i 1).val) arg6.view h6 (k0_off14_eq i) inb
  have hn : (i 1).val < 8 := (i 1).isLt
  have T := trips (E := E) (B := B) Variants.none c none i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 (BitVec.ofNat 32 (i 1).val) _ _ _ _ _ _ _ _ _ _ _ _ _ _ _
    hp h6 h16 h17 h18 h19 h20 sums0 (i 1).val (le_of_eq (loop_trips i).symm) _ rfl
  refine ⟨?_, ?_, ?_, ?_, ?_, ?_, ?_, ?_⟩
  · unfold out0_C_8 kernelRun0_C; dsimp only; sl_unfold_run_names; simp only [trips1, trips2, st_k0_t2.eq_1, List.nil_append]
    refine wr_tile16 _ _ ?_ _ _
    exact r_pay82 T.s.a1 (hK _) (r_pay70 T.s.a0 (r_pay69 hn hp.q0 hp.d0 hp.δ0 hp.l0 (hK _) (hV _) (hC0 _))) (r_pay74 hn hp.q1 hp.d1 hp.δ1 hp.l1 (hK _) (hV _) (hC1 _))
  · unfold out0_C_9 kernelRun0_C; dsimp only; sl_unfold_run_names
    refine wr_tile16 _ _ ?_ _ _
    exact r_pay46 hg ho hd
  · unfold out0_C_12 kernelRun0_C; dsimp only; sl_unfold_run_names; simp only [trips1, trips2, st_k0_t2.eq_1, List.nil_append]
    exact wr_dcq _ _ (r_pay80 (r_pay71 T.s.r0 (r_pay64 hn hp.q0 hp.d0 hp.δ0 hp.l0 (hK _) (hV _) (hC0 _)))) (r_pay81 T.s.r1 (r_pay73 hn hp.q1 hp.d1 hp.δ1 hp.l1 (hK _) (hV _) (hC1 _))) _ _
  · exact h0
  · exact h1
  · unfold sout0_C_2 kernelRun0_C; dsimp only; sl_unfold_run_names; simp only [trips1, trips2, st_k0_t2.eq_1, List.nil_append]
    rw [← dk_diag]
    exact wr_rows arg18.view T.dk (k0_off11_eq i) _ (r_pay78 (r_pay76 hn hp.q1 hp.d1 hp.δ1 hp.l1 (hK _) (hV _) (hC1 _) (r_pay67 hn hp.q0 hp.d0 hp.δ0 hp.l0 (hK _) (hV _) (hC0 _))) (rd_rows arg18.view T.dk (k0_off11_eq i) _))
  · unfold sout0_C_3 kernelRun0_C; dsimp only; sl_unfold_run_names; simp only [trips1, trips2, st_k0_t2.eq_1, List.nil_append]
    rw [← dv_diag]
    exact wr_rows arg19.view T.dv (k0_off11_eq i) _ (r_pay79 (r_pay75 hn hp.q1 hp.d1 hp.l1 (hK _) (hC1 _) (r_pay66 hn hp.q0 hp.d0 hp.l0 (hK _) (hC0 _))) (rd_rows arg19.view T.dv (k0_off11_eq i) _))
  · unfold sout0_C_4 kernelRun0_C; dsimp only; sl_unfold_run_names; simp only [trips1, trips2, st_k0_t2.eq_1, List.nil_append]
    intro h k y
    refine Eq.trans ?_ (congrArg (fun r : ℝ => (r : EReal)) (putC_diag (i 1).val E (fun h k => tC ((mkRow Q G O Dg K V C lp).D h k)) (Row.gCd _ (i 1).val)
      (fun h => tC (Row.Dd (mkRow Q G O Dg K V C lp) h (i 1).val)) (fun h k y => rfl) h.val k.val y.val h.isLt))
    have w0 := wr_dca (h := 0) arg20.view T.dc (k0_off13_eq i) (k0_off13_inb i) (r_pay68 hn hp.q0 hp.d0 hp.δ0 hp.l0 (hK (k0_off11_inb i)) (hV (k0_off11_inb i)) (hC0 (k0_off12_inb i)) (rd_dca arg20.view T.dc (k0_off13_eq i) (k0_off13_inb i)))
    exact wr_dca (h := 1) arg20.view w0 (k0_off15_eq i) _ (r_pay77 hn hp.q1 hp.d1 hp.δ1 hp.l1 (hK _) (hV _) (hC1 _) (rd_dca arg20.view w0 (k0_off15_eq i) _)) h k y

theorem last_10 (hc0 : ¬cond0_0 i) (hc1 : cond0_1 i) {f : ℕ → ℕ → ℝ}
    (hf : R2 (sout0_C_2 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7 s0 s1 s2 s3 s4) f) :
    R2 (out0_C_10 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7 s0 s1 s2 s3 s4) f := by
  unfold sout0_C_2 kernelRun0_C at hf
  unfold out0_C_10 kernelRun0_C
  dsimp only at hf ⊢
  sl_unfold_run_names
  refine wr_all16 _ _ ?_ _ _
  exact r_pay1 (rd_all arg18.view hf _)

theorem last_11 (hc0 : ¬cond0_0 i) (hc1 : cond0_1 i) {f : ℕ → ℕ → ℝ}
    (hf : R2 (sout0_C_3 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7 s0 s1 s2 s3 s4) f) :
    R2 (out0_C_11 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7 s0 s1 s2 s3 s4) f := by
  unfold sout0_C_3 kernelRun0_C at hf
  unfold out0_C_11 kernelRun0_C
  dsimp only at hf ⊢
  sl_unfold_run_names
  refine wr_all16 _ _ ?_ _ _
  exact r_pay2 (rd_all arg19.view hf _)

theorem last_13 (hc0 : ¬cond0_0 i) (hc1 : cond0_1 i) {f : ℕ → ℕ → ℕ → ℝ}
    (hf : R3c (sout0_C_4 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7 s0 s1 s2 s3 s4) f) :
    R4c (out0_C_13 (F := Ideal) c i arg2 harg2 arg3 harg3 arg4 harg4 arg5 harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 hc0 hc1 x0 x1 x2 x3 x4 x5 x6 x7 s0 s1 s2 s3 s4) f := by
  unfold sout0_C_4 kernelRun0_C at hf
  unfold out0_C_13 kernelRun0_C
  dsimp only at hf ⊢
  sl_unfold_run_names
  refine wr_outc _ _ ?_ _ _
  exact r_pay3 (rd_allc arg20.view hf _)

end Cert.Kernel2Ideal.Value
-- ==== Proof.Flash.Carry.lean ====
/- The carried sums of the attention backward call after each grid point. -/
module

public import proofs.«01_k».proof.Proof.Flash.CaseA
public import proofs.«01_k».proof.Proof.Flash.CaseB
public import proofs.«01_k».proof.Proof.Flash.CaseC
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Flash

theorem idx0 : ∀ t : Fin cfg0.N, win0_0.index t = ![t.val % 8, t.val / 8] :=
  (by decide +kernel : ∀ t : Fin grid0.N, win0_0.index t = ![t.val % 8, t.val / 8])
theorem idx1 : ∀ t : Fin cfg0.N, win0_1.index t = ![0, 8 + t.val / 8] :=
  (by decide +kernel : ∀ t : Fin grid0.N, win0_1.index t = ![0, 8 + t.val / 8])
theorem idx2 : ∀ t : Fin cfg0.N, win0_2.index t = ![0, 16 + t.val / 8] :=
  (by decide +kernel : ∀ t : Fin grid0.N, win0_2.index t = ![0, 16 + t.val / 8])
theorem idx3 : ∀ t : Fin cfg0.N, win0_3.index t = ![t.val % 8, 24 + t.val / 8] :=
  (by decide +kernel : ∀ t : Fin grid0.N, win0_3.index t = ![t.val % 8, 24 + t.val / 8])
theorem idx4 : ∀ t : Fin cfg0.N, win0_4.index t = ![t.val / 8, 0, 0, 0] :=
  (by decide +kernel : ∀ t : Fin grid0.N, win0_4.index t = ![t.val / 8, 0, 0, 0])
theorem idx5 : ∀ t : Fin cfg0.N, win0_5.index t = ![t.val % 8, t.val / 8] :=
  (by decide +kernel : ∀ t : Fin grid0.N, win0_5.index t = ![t.val % 8, t.val / 8])
theorem idx6 : ∀ t : Fin cfg0.N, win0_6.index t = ![t.val % 8, t.val / 8] :=
  (by decide +kernel : ∀ t : Fin grid0.N, win0_6.index t = ![t.val % 8, t.val / 8])
theorem idx7 : ∀ t : Fin cfg0.N, win0_7.index t = ![t.val / 8, t.val % 8, 0] :=
  (by decide +kernel : ∀ t : Fin grid0.N, win0_7.index t = ![t.val / 8, t.val % 8, 0])
theorem idx8 : ∀ t : Fin cfg0.N, win0_8.index t = ![t.val % 8, t.val / 8] :=
  (by decide +kernel : ∀ t : Fin grid0.N, win0_8.index t = ![t.val % 8, t.val / 8])
theorem idx9 : ∀ t : Fin cfg0.N, win0_9.index t = ![t.val % 8, t.val / 8] :=
  (by decide +kernel : ∀ t : Fin grid0.N, win0_9.index t = ![t.val % 8, t.val / 8])
theorem idx10 : ∀ t : Fin cfg0.N, win0_10.index t = ![0, t.val / 8] :=
  (by decide +kernel : ∀ t : Fin grid0.N, win0_10.index t = ![0, t.val / 8])
theorem idx11 : ∀ t : Fin cfg0.N, win0_11.index t = ![0, t.val / 8] :=
  (by decide +kernel : ∀ t : Fin grid0.N, win0_11.index t = ![0, t.val / 8])
theorem idx12 : ∀ t : Fin cfg0.N, win0_12.index t = ![t.val / 8, t.val % 8, 0, 0] :=
  (by decide +kernel : ∀ t : Fin grid0.N, win0_12.index t = ![t.val / 8, t.val % 8, 0, 0])
theorem idx13 : ∀ t : Fin cfg0.N, win0_13.index t = ![t.val / 8, 0, 0, 0] :=
  (by decide +kernel : ∀ t : Fin grid0.N, win0_13.index t = ![t.val / 8, 0, 0, 0])

theorem coord (t : Fin cfg0.N) : (grid0.coords t 1).val = t.val % 8 :=
  (by decide +kernel : ∀ t : Fin grid0.N, (grid0.coords t 1).val = t.val % 8) t

variable (m : (ℓ : Loc nD τ sig) → Buf (Elt Ideal) ℓ)

/-- The arrays the call reads, as real functions. -/
structure Entry (c : Dev nD) (pr cr dr Or lr : ℕ → ℕ → ℝ) : Prop where
  pr : ∀ (r : Fin 4096) (l : Fin 4096), (V m c main_arg0 (ix2 r l) : EReal) = ((pr r.val l.val : ℝ) : EReal)
  cr : ∀ (j : Fin 8) (h : Fin 2) (n : Fin 8) (y : Fin 512),
    (V m c main_v44 (ix4 j h n y) : EReal) = ((cr (2 * j.val + h.val) (512 * n.val + y.val) : ℝ) : EReal)
  Or : ∀ (r : Fin 4096) (l : Fin 1024), (V m c main_v38 (ix2 r l) : EReal) = ((Or r.val l.val : ℝ) : EReal)
  dr : ∀ (r : Fin 4096) (l : Fin 1024), (V m c main_arg2 (ix2 r l) : EReal) = ((dr r.val l.val : ℝ) : EReal)
  lr : ∀ (h : Fin 16) (r : Fin 4096) (l : Fin 128), (V m c main_v43 (ix3 h r l) : EReal) = ((lr h.val r.val : ℝ) : EReal)

section
variable (pr cr dr Or lr : ℕ → ℕ → ℝ)

/-- Row block `i` of the pair `j` of heads. -/
def rowAt (j i : ℕ) : Row :=
  mkRow (fun x l => pr (512 * i + x) (128 * j + l)) (fun x l => pr (512 * i + x) (3072 + (128 * j + l))) (fun x l => Or (512 * i + x) (128 * j + l))
    (fun x l => dr (512 * i + x) (128 * j + l)) (fun r l => pr r (1024 + (128 * j + l))) (fun r l => pr r (2048 + (128 * j + l)))
    (fun h n y => cr (2 * j + h) (512 * n + y)) (fun h x => lr (2 * j + h) (512 * i + x))

/-- The sums carried over the row blocks below `n`. -/
def accK (j n r l : ℕ) : ℝ := ∑ i ∈ Finset.range n, if r < 512 * (i + 1) then (rowAt pr cr dr Or lr j i).gKd i r l else 0
def accV (j n r l : ℕ) : ℝ := ∑ i ∈ Finset.range n, if r < 512 * (i + 1) then (rowAt pr cr dr Or lr j i).gVd i r l else 0
def accC (j n h k y : ℕ) : ℝ := -∑ i ∈ Finset.range n, if k < i + 1 then (rowAt pr cr dr Or lr j i).gCd i h k y else 0

theorem accK_succ (j n : ℕ) : upTo (n + 1) (accK pr cr dr Or lr j n) ((rowAt pr cr dr Or lr j n).gKd n) = accK pr cr dr Or lr j (n + 1) := by
  funext r l
  unfold upTo accK
  rw [Finset.sum_range_succ]

theorem accV_succ (j n : ℕ) : upTo (n + 1) (accV pr cr dr Or lr j n) ((rowAt pr cr dr Or lr j n).gVd n) = accV pr cr dr Or lr j (n + 1) := by
  funext r l
  unfold upTo accV
  rw [Finset.sum_range_succ]

theorem accC_succ (j n : ℕ) : downTo (n + 1) (accC pr cr dr Or lr j n) ((rowAt pr cr dr Or lr j n).gCd n) = accC pr cr dr Or lr j (n + 1) := by
  funext h k y
  unfold downTo accC
  rw [Finset.sum_range_succ]
  ring

theorem accK_zero (j : ℕ) : accK pr cr dr Or lr j 0 = fun _ _ => 0 := by
  funext r l
  rfl

theorem accV_zero (j : ℕ) : accV pr cr dr Or lr j 0 = fun _ _ => 0 := by
  funext r l
  rfl

theorem accC_zero (j : ℕ) : accC pr cr dr Or lr j 0 = fun _ _ _ => 0 := by
  funext h k y
  simp [accC]

def gateAt (j i : ℕ) : ℕ → ℕ → ℝ :=
  dgate (fun x l => pr (512 * i + x) (3072 + (128 * j + l))) (fun x l => Or (512 * i + x) (128 * j + l)) (fun x l => dr (512 * i + x) (128 * j + l))

end

variable {m} {c : Dev nD} {pr cr dr Or lr : ℕ → ℕ → ℝ}

theorem ld0 (hE : Entry m c pr cr dr Or lr) (t : Fin cfg0.N) (x : Fin 512) (l : Fin 128) :
    (iblk m c 0 t (ix2 x l) : EReal) = ((pr (512 * (t.val % 8) + x.val) (128 * (t.val / 8) + l.val) : ℝ) : EReal) := by
  have hN : cfg0.N = 64 := N_0
  have ht := t.isLt
  refine Eq.trans ?_ (hE.pr ⟨512 * (t.val % 8) + x.val, by omega⟩ ⟨128 * (t.val / 8) + l.val, by omega⟩)
  blk_ext [iblk, idx0 t]

theorem ld1 (hE : Entry m c pr cr dr Or lr) (t : Fin cfg0.N) (x : Fin 4096) (l : Fin 128) :
    (iblk m c 1 t (ix2 x l) : EReal) = ((pr x.val (1024 + (128 * (t.val / 8) + l.val)) : ℝ) : EReal) := by
  have hN : cfg0.N = 64 := N_0
  have ht := t.isLt
  refine Eq.trans ?_ (hE.pr x ⟨1024 + (128 * (t.val / 8) + l.val), by omega⟩)
  blk_ext [iblk, idx1 t]

theorem ld2 (hE : Entry m c pr cr dr Or lr) (t : Fin cfg0.N) (x : Fin 4096) (l : Fin 128) :
    (iblk m c 2 t (ix2 x l) : EReal) = ((pr x.val (2048 + (128 * (t.val / 8) + l.val)) : ℝ) : EReal) := by
  have hN : cfg0.N = 64 := N_0
  have ht := t.isLt
  refine Eq.trans ?_ (hE.pr x ⟨2048 + (128 * (t.val / 8) + l.val), by omega⟩)
  blk_ext [iblk, idx2 t]

theorem ld3 (hE : Entry m c pr cr dr Or lr) (t : Fin cfg0.N) (x : Fin 512) (l : Fin 128) :
    (iblk m c 3 t (ix2 x l) : EReal) = ((pr (512 * (t.val % 8) + x.val) (3072 + (128 * (t.val / 8) + l.val)) : ℝ) : EReal) := by
  have hN : cfg0.N = 64 := N_0
  have ht := t.isLt
  refine Eq.trans ?_ (hE.pr ⟨512 * (t.val % 8) + x.val, by omega⟩ ⟨3072 + (128 * (t.val / 8) + l.val), by omega⟩)
  blk_ext [iblk, idx3 t]

theorem ld4 (hE : Entry m c pr cr dr Or lr) (t : Fin cfg0.N) (h : Fin 2) (n : Fin 8) (y : Fin 512) :
    (iblk m c 4 t (ix4 0 h n y) : EReal) = ((cr (2 * (t.val / 8) + h.val) (512 * n.val + y.val) : ℝ) : EReal) := by
  have hN : cfg0.N = 64 := N_0
  have ht := t.isLt
  refine Eq.trans ?_ (hE.cr ⟨t.val / 8, by omega⟩ h n y)
  blk_ext [iblk, idx4 t]

theorem ld5 (hE : Entry m c pr cr dr Or lr) (t : Fin cfg0.N) (x : Fin 512) (l : Fin 128) :
    (iblk m c 5 t (ix2 x l) : EReal) = ((Or (512 * (t.val % 8) + x.val) (128 * (t.val / 8) + l.val) : ℝ) : EReal) := by
  have hN : cfg0.N = 64 := N_0
  have ht := t.isLt
  refine Eq.trans ?_ (hE.Or ⟨512 * (t.val % 8) + x.val, by omega⟩ ⟨128 * (t.val / 8) + l.val, by omega⟩)
  blk_ext [iblk, idx5 t]

theorem ld6 (hE : Entry m c pr cr dr Or lr) (t : Fin cfg0.N) (x : Fin 512) (l : Fin 128) :
    (iblk m c 6 t (ix2 x l) : EReal) = ((dr (512 * (t.val % 8) + x.val) (128 * (t.val / 8) + l.val) : ℝ) : EReal) := by
  have hN : cfg0.N = 64 := N_0
  have ht := t.isLt
  refine Eq.trans ?_ (hE.dr ⟨512 * (t.val % 8) + x.val, by omega⟩ ⟨128 * (t.val / 8) + l.val, by omega⟩)
  blk_ext [iblk, idx6 t]

theorem read7 (X : S16x4096x128.Idx → EReal) (t : Fin cfg0.N) (y : S2x512x128.Idx) :
    (((cfg0.win 7).blk t).view.read (Elt Ideal) X y : EReal) = X ((win0_7.blk t).view.emb y) := by
  blk_simp

theorem emb7 (t : Fin cfg0.N) (h : Fin 2) (r : Fin 512) (l : Fin 128) (h1 : 2 * (t.val / 8) + h.val < 16) (h2 : 512 * (t.val % 8) + r.val < 4096) :
    ((win0_7.blk t).view.emb (ix3 h r l) : S16x4096x128.Idx) = ix3 ⟨2 * (t.val / 8) + h.val, h1⟩ ⟨512 * (t.val % 8) + r.val, h2⟩ l := by
  funext a
  refine Fin.cases ?_ (fun a => Fin.cases ?_ (fun a => Fin.cases ?_ (fun a => a.elim0) a) a) a
  · refine Fin.ext ?_
    blk_simp
    rw [idx7 t]
    show t.val / 8 * 2 + h.val = 2 * (t.val / 8) + h.val
    omega
  · refine Fin.ext ?_
    blk_simp
    rw [idx7 t]
    show t.val % 8 * 512 + r.val = 512 * (t.val % 8) + r.val
    omega
  · refine Fin.ext ?_
    blk_simp
    rw [idx7 t]
    show 0 * 128 + l.val = l.val
    omega

theorem ld7 (hE : Entry m c pr cr dr Or lr) (t : Fin cfg0.N) (h : Fin 2) (r : Fin 512) (l : Fin 128) :
    (iblk m c 7 t (ix3 h r l) : EReal) = ((lr (2 * (t.val / 8) + h.val) (512 * (t.val % 8) + r.val) : ℝ) : EReal) := by
  have hN : cfg0.N = 64 := N_0
  have ht := t.isLt
  have h1 : 2 * (t.val / 8) + h.val < 16 := by omega
  have h2 : 512 * (t.val % 8) + r.val < 4096 := by omega
  refine (read7 (V m c main_v43) t (ix3 h r l)).trans ?_
  rw [emb7 t h r l h1 h2]
  exact hE.lr ⟨2 * (t.val / 8) + h.val, h1⟩ ⟨512 * (t.val % 8) + r.val, h2⟩ l

theorem loads (hE : Entry m c pr cr dr Or lr) (t : Fin cfg0.N) :
    Loads (fun x l => pr (512 * (t.val % 8) + x) (128 * (t.val / 8) + l)) (fun x l => pr (512 * (t.val % 8) + x) (3072 + (128 * (t.val / 8) + l)))
      (fun x l => Or (512 * (t.val % 8) + x) (128 * (t.val / 8) + l)) (fun x l => dr (512 * (t.val % 8) + x) (128 * (t.val / 8) + l))
      (fun r l => pr r (1024 + (128 * (t.val / 8) + l))) (fun r l => pr r (2048 + (128 * (t.val / 8) + l)))
      (fun h n y => cr (2 * (t.val / 8) + h) (512 * n + y)) (fun h x => lr (2 * (t.val / 8) + h) (512 * (t.val % 8) + x))
      (iblk m c 0 t) (iblk m c 1 t) (iblk m c 2 t) (iblk m c 3 t) (iblk m c 4 t) (iblk m c 5 t) (iblk m c 6 t) (iblk m c 7 t) :=
  ⟨ld0 hE t, ld1 hE t, ld2 hE t, ld3 hE t, ld4 hE t, ld5 hE t, ld6 hE t, fun h r => ld7 hE t h r 0⟩

/-- What a point leaves. -/
abbrev Outs : Type := Vec Ideal S512x128 .bf16 × Vec Ideal S512x128 .bf16 × Vec Ideal S4096x128 .bf16 × Vec Ideal S4096x128 .bf16 × Vec Ideal S1x1x2x512 .f32
  × Vec Ideal S1x2x8x512 .f32 × Vec Ideal S4096x128 .bf16 × Vec Ideal S4096x128 .bf16 × Vec Ideal S4096x128 .f32 × Vec Ideal S4096x128 .f32
  × Vec Ideal S2x8x512 .f32

/-- What a grid point leaves, over the sums of the row blocks before it. -/
def Holds (pr cr dr Or lr : ℕ → ℕ → ℝ) (n : ℕ) (o : Outs) : Prop :=
  PointVal (rowAt pr cr dr Or lr (n / 8) (n % 8)) (accK pr cr dr Or lr (n / 8) (n % 8)) (accV pr cr dr Or lr (n / 8) (n % 8))
    (accC pr cr dr Or lr (n / 8) (n % 8)) (n % 8) (gateAt pr dr Or (n / 8) (n % 8)) o.1 o.2.1 o.2.2.2.2.1 o.2.2.2.2.2.2.1 o.2.2.2.2.2.2.2.1
    o.2.2.2.2.2.2.2.2.1 o.2.2.2.2.2.2.2.2.2.1 o.2.2.2.2.2.2.2.2.2.2

theorem Holds.of_eq {n : ℕ} {o o' : Outs} (e : o = o') (h : Holds pr cr dr Or lr n o') : Holds pr cr dr Or lr n o := by
  subst e
  exact h

theorem cast_val {R : Row} {A A' B B' : ℕ → ℕ → ℝ} {E E' : ℕ → ℕ → ℕ → ℝ} {n n' : ℕ} {dg : ℕ → ℕ → ℝ} {o8 o9 : S512x128.Idx → EReal}
    {o12 : S1x1x2x512.Idx → EReal} {s0 s1 s2 s3 : S4096x128.Idx → EReal} {s4 : S2x8x512.Idx → EReal}
    (h : PointVal R A B E n dg o8 o9 o12 s0 s1 s2 s3 s4) (hA : A = A') (hB : B = B') (hE : E = E') (hn : n = n') :
    PointVal R A' B' E' n' dg o8 o9 o12 s0 s1 s2 s3 s4 := by
  subst hA hB hE hn
  exact h

theorem holds_A (hE : Entry m c pr cr dr Or lr) (n : ℕ) (h : n < cfg0.N) (h0 : n % 8 = 0) : Holds pr cr dr Or lr n (outsAt0 m c n h) := by
  have e := outsAt0_A m c ⟨n, h⟩ h0 (by dsimp only; omega)
  have hp := fun hc0 hc1 => point_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
    (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩)
    (ms0_8 ⟨n, h⟩) (hs0_8 ⟨n, h⟩) (ms0_9 ⟨n, h⟩) (hs0_9 ⟨n, h⟩) (ms0_10 ⟨n, h⟩) (hs0_10 ⟨n, h⟩) (ms0_11 ⟨n, h⟩) (hs0_11 ⟨n, h⟩) (ms0_12 ⟨n, h⟩)
    (hs0_12 ⟨n, h⟩) (ms0_13 ⟨n, h⟩) (hs0_13 ⟨n, h⟩) scM0_0 (Memref.isWhole_whole _) scM0_1 (Memref.isWhole_whole _) scM0_2 (Memref.isWhole_whole _)
    scM0_3 (Memref.isWhole_whole _) scM0_4 (Memref.isWhole_whole _) _ _ _ _ _ _ _ _ hc0 hc1 (loads hE ⟨n, h⟩)
  have hq := hp ((hcond0_0 ⟨n, h⟩).mpr h0) (fun h' => absurd ((hcond0_1 ⟨n, h⟩).mp h') (by dsimp only; omega))
  have h2 : PointVal (rowAt pr cr dr Or lr (n / 8) (n % 8)) (fun _ _ => 0) (fun _ _ => 0) (fun _ _ _ => 0) (grid0.coords ⟨n, h⟩ 1).val
    (gateAt pr dr Or (n / 8) (n % 8)) _ _ _ _ _ _ _ _ := hq
  clear hp hq
  refine Holds.of_eq e ?_
  clear e
  unfold Holds
  dsimp only
  refine cast_val h2 ?_ ?_ ?_ (coord ⟨n, h⟩)
  · rw [h0]
    exact (accK_zero pr cr dr Or lr (n / 8)).symm
  · rw [h0]
    exact (accV_zero pr cr dr Or lr (n / 8)).symm
  · rw [h0]
    exact (accC_zero pr cr dr Or lr (n / 8)).symm

theorem holds_B (hE : Entry m c pr cr dr Or lr) (n : ℕ) (h : n + 1 < cfg0.N) (h0 : ¬(n + 1) % 8 = 0) (h1 : ¬(n + 1) % 8 = 7) (ih : Holds pr cr dr Or lr n (outsAt0 m c n (by omega))) :
    Holds pr cr dr Or lr (n + 1) (outsAt0 m c (n + 1) h) := by
  have e := outsAt0_B m c ⟨n + 1, h⟩ h0 h1
  obtain ⟨_, _, _, ik, iv, idk, idv, idc⟩ := ih
  rw [accK_succ] at idk
  rw [accV_succ] at idv
  rw [accC_succ] at idc
  rw [show n / 8 = (n + 1) / 8 by omega] at ik iv
  rw [show n / 8 = (n + 1) / 8 by omega, show n % 8 + 1 = (n + 1) % 8 by omega] at idk idv idc
  have hp := fun hc0 hc1 => point_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩)
     (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩)
     (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩)
     (ms0_12 ⟨n + 1, h⟩) (hs0_12 ⟨n + 1, h⟩) (ms0_13 ⟨n + 1, h⟩) (hs0_13 ⟨n + 1, h⟩) scM0_0 (Memref.isWhole_whole _)
    scM0_1 (Memref.isWhole_whole _) scM0_2 (Memref.isWhole_whole _) scM0_3 (Memref.isWhole_whole _) scM0_4 (Memref.isWhole_whole _)
    _ _ _ _ _ _ _ _ _ _ _ _ _ hc0 hc1 (loads hE ⟨n + 1, h⟩) ik iv idk idv idc
  have hq := hp (fun h' => h0 ((hcond0_0 ⟨n + 1, h⟩).mp h')) (fun h' => h1 ((hcond0_1 ⟨n + 1, h⟩).mp h'))
  have h2 : PointVal (rowAt pr cr dr Or lr ((n + 1) / 8) ((n + 1) % 8)) (accK pr cr dr Or lr ((n + 1) / 8) ((n + 1) % 8))
    (accV pr cr dr Or lr ((n + 1) / 8) ((n + 1) % 8)) (accC pr cr dr Or lr ((n + 1) / 8) ((n + 1) % 8)) (grid0.coords ⟨n + 1, h⟩ 1).val
    (gateAt pr dr Or ((n + 1) / 8) ((n + 1) % 8)) _ _ _ _ _ _ _ _ := hq
  clear hp hq
  refine Holds.of_eq e ?_
  clear e
  unfold Holds
  dsimp only [Nat.add_sub_cancel]
  exact cast_val h2 rfl rfl rfl (coord ⟨n + 1, h⟩)

theorem holds_C (hE : Entry m c pr cr dr Or lr) (n : ℕ) (h : n + 1 < cfg0.N) (h1 : (n + 1) % 8 = 7) (ih : Holds pr cr dr Or lr n (outsAt0 m c n (by omega))) :
    Holds pr cr dr Or lr (n + 1) (outsAt0 m c (n + 1) h) := by
  have e := outsAt0_C m c ⟨n + 1, h⟩ (by dsimp only; omega) h1
  obtain ⟨_, _, _, ik, iv, idk, idv, idc⟩ := ih
  rw [accK_succ] at idk
  rw [accV_succ] at idv
  rw [accC_succ] at idc
  rw [show n / 8 = (n + 1) / 8 by omega] at ik iv
  rw [show n / 8 = (n + 1) / 8 by omega, show n % 8 + 1 = (n + 1) % 8 by omega] at idk idv idc
  have hp := fun hc0 hc1 => point_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩)
     (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩)
     (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩)
     (ms0_12 ⟨n + 1, h⟩) (hs0_12 ⟨n + 1, h⟩) (ms0_13 ⟨n + 1, h⟩) (hs0_13 ⟨n + 1, h⟩) scM0_0 (Memref.isWhole_whole _)
    scM0_1 (Memref.isWhole_whole _) scM0_2 (Memref.isWhole_whole _) scM0_3 (Memref.isWhole_whole _) scM0_4 (Memref.isWhole_whole _)
    _ _ _ _ _ _ _ _ _ _ _ _ _ hc0 hc1 (loads hE ⟨n + 1, h⟩) ik iv idk idv idc
  have hq := hp (fun h' => absurd ((hcond0_0 ⟨n + 1, h⟩).mp h') (by dsimp only; omega)) ((hcond0_1 ⟨n + 1, h⟩).mpr h1)
  have h2 : PointVal (rowAt pr cr dr Or lr ((n + 1) / 8) ((n + 1) % 8)) (accK pr cr dr Or lr ((n + 1) / 8) ((n + 1) % 8))
    (accV pr cr dr Or lr ((n + 1) / 8) ((n + 1) % 8)) (accC pr cr dr Or lr ((n + 1) / 8) ((n + 1) % 8)) (grid0.coords ⟨n + 1, h⟩ 1).val
    (gateAt pr dr Or ((n + 1) / 8) ((n + 1) % 8)) _ _ _ _ _ _ _ _ := hq
  clear hp hq
  refine Holds.of_eq e ?_
  clear e
  unfold Holds
  dsimp only [Nat.add_sub_cancel]
  exact cast_val h2 rfl rfl rfl (coord ⟨n + 1, h⟩)

theorem holds (hE : Entry m c pr cr dr Or lr) : ∀ (n : ℕ) (h : n < cfg0.N), Holds pr cr dr Or lr n (outsAt0 m c n h)
  | 0, h => holds_A hE 0 h rfl
  | n + 1, h => by
    by_cases h0 : (n + 1) % 8 = 0
    · exact holds_A hE (n + 1) h h0
    · by_cases h1 : (n + 1) % 8 = 7
      · exact holds_C hE n h h1 (holds hE n (by omega))
      · exact holds_B hE n h h0 h1 (holds hE n (by omega))

end Cert.Kernel2Ideal.Value
-- ==== Proof.Flash.Whole.lean ====
/- The carried sums of the attention backward call as sums over whole rows and columns. -/
module

public import proofs.«01_k».proof.Proof.Flash.Carry

set_option maxRecDepth 65536

@[expose] public noncomputable section

namespace Cert.Kernel2Ideal.Value

open Cert.Flash

theorem sum_blocks (f : ℕ → ℝ) : ∀ n : ℕ, (∑ i ∈ Finset.range n, ∑ x ∈ Finset.range 512, f (512 * i + x)) = ∑ q ∈ Finset.range (512 * n), f q
  | 0 => by simp
  | n + 1 => by
    rw [Finset.sum_range_succ, sum_blocks f n, show 512 * (n + 1) = 512 * n + 512 by ring, Finset.sum_range_add]

theorem sum_upto (f : ℕ → ℝ) {a b : ℕ} (h : a ≤ b) (hf : ∀ k, a ≤ k → f k = 0) : (∑ k ∈ Finset.range a, f k) = ∑ k ∈ Finset.range b, f k := by
  refine Finset.sum_subset (Finset.range_mono h) fun k _ hk => hf k ?_
  simpa using hk

theorem lanes0 (f : ℕ → ℝ) : (∑ l ∈ Finset.range 128, if l < 64 then f l else 0) = ∑ d ∈ Finset.range 64, f d := by
  rw [show (128 : ℕ) = 64 + 64 from rfl, Finset.sum_range_add]
  have h : (∑ x ∈ Finset.range 64, if 64 + x < 64 then f (64 + x) else 0) = 0 := Finset.sum_eq_zero fun x _ => if_neg (by omega)
  rw [h, add_zero]
  exact Finset.sum_congr rfl fun x hx => if_pos (Finset.mem_range.mp hx)

theorem lanes1 (f : ℕ → ℝ) : (∑ l ∈ Finset.range 128, if 64 ≤ l then f l else 0) = ∑ d ∈ Finset.range 64, f (64 + d) := by
  rw [show (128 : ℕ) = 64 + 64 from rfl, Finset.sum_range_add]
  have h : (∑ x ∈ Finset.range 64, if 64 ≤ x then f x else 0) = 0 :=
    Finset.sum_eq_zero fun x hx => if_neg (by have := Finset.mem_range.mp hx; omega)
  rw [h, zero_add]
  exact Finset.sum_congr rfl fun x _ => if_pos (by omega)

theorem tS_m0 (f g : ℕ → ℕ → ℝ) (x y : ℕ) : tS (m0 f) g x y = ∑ d ∈ Finset.range 64, f x d * g y d := by
  unfold tS m0
  rw [← lanes0]
  exact Finset.sum_congr rfl fun l _ => by split_ifs <;> simp

theorem tS_m1 (f g : ℕ → ℕ → ℝ) (x y : ℕ) : tS (m1 f) g x y = ∑ d ∈ Finset.range 64, f x (64 + d) * g y (64 + d) := by
  unfold tS m1
  rw [← lanes1 (fun l => f x l * g y l)]
  exact Finset.sum_congr rfl fun l _ => by split_ifs <;> simp

variable (pr cr dr Or lr : ℕ → ℕ → ℝ)

/-- The scaled scores. -/
def gS (h q k : ℕ) : ℝ := ∑ d ∈ Finset.range 64, pr q (64 * h + d) * (1 / 8) * pr k (1024 + (64 * h + d))
/-- The weights, from the saved logarithms. -/
def gW (h q k : ℕ) : ℝ := if k ≤ q then Real.exp (gS pr h q k - cr h k - lr h q) else 0
/-- The cotangent of the ungated output. -/
def gDo (q C : ℕ) : ℝ := dr q C * (pr q (3072 + C) * sg (pr q (3072 + C)))
def gDp (h q k : ℕ) : ℝ := ∑ d ∈ Finset.range 64, gDo pr dr q (64 * h + d) * pr k (2048 + (64 * h + d))
def gDl (h q : ℕ) : ℝ := ∑ d ∈ Finset.range 64, gDo pr dr q (64 * h + d) * Or q (64 * h + d)
/-- The gradient of the scores. -/
def gDs (h q k : ℕ) : ℝ := gW pr cr lr h q k * (gDp pr dr h q k - gDl pr dr Or h q)

variable {pr cr dr Or lr}
variable {j i h r : ℕ}

theorem col (h d : ℕ) : 128 * j + (64 * h + d) = 64 * (2 * j + h) + d := by ring

theorem row_S (hh : h < 2) (k x y : ℕ) : tS ((rowAt pr cr dr Or lr j i).q h) (blkR (rowAt pr cr dr Or lr j i).K k) x y
    = gS pr (2 * j + h) (512 * i + x) (512 * k + y) := by
  obtain rfl | rfl : h = 0 ∨ h = 1 := by omega
  · refine (tS_m0 _ _ _ _).trans (Finset.sum_congr rfl fun d _ => ?_)
    have := col (j := j) 0 d
    simp only [Nat.mul_zero, Nat.zero_add] at this
    show pr (512 * i + x) (128 * j + d) * (1 / 8) * pr (512 * k + y) (1024 + (128 * j + d)) = _
    rw [this]
  · refine (tS_m1 _ _ _ _).trans (Finset.sum_congr rfl fun d _ => ?_)
    have := col (j := j) 1 d
    simp only [Nat.mul_one] at this
    show pr (512 * i + x) (128 * j + (64 + d)) * (1 / 8) * pr (512 * k + y) (1024 + (128 * j + (64 + d))) = _
    rw [this]

theorem row_dp (hh : h < 2) (k x y : ℕ) : tS ((rowAt pr cr dr Or lr j i).d h) (blkR (rowAt pr cr dr Or lr j i).V k) x y
    = gDp pr dr (2 * j + h) (512 * i + x) (512 * k + y) := by
  obtain rfl | rfl : h = 0 ∨ h = 1 := by omega
  · refine (tS_m0 _ _ _ _).trans (Finset.sum_congr rfl fun d _ => ?_)
    have := col (j := j) 0 d
    simp only [Nat.mul_zero, Nat.zero_add] at this
    show gDo pr dr (512 * i + x) (128 * j + d) * pr (512 * k + y) (2048 + (128 * j + d)) = _
    rw [this]
  · refine (tS_m1 _ _ _ _).trans (Finset.sum_congr rfl fun d _ => ?_)
    have := col (j := j) 1 d
    simp only [Nat.mul_one] at this
    show gDo pr dr (512 * i + x) (128 * j + (64 + d)) * pr (512 * k + y) (2048 + (128 * j + (64 + d))) = _
    rw [this]

theorem row_dl (hh : h < 2) (x : ℕ) : (rowAt pr cr dr Or lr j i).δ h x = gDl pr dr Or (2 * j + h) (512 * i + x) := by
  obtain rfl | rfl : h = 0 ∨ h = 1 := by omega
  · refine (lanes0 (fun l => gDo pr dr (512 * i + x) (128 * j + l) * Or (512 * i + x) (128 * j + l))).trans (Finset.sum_congr rfl fun d _ => ?_)
    have := col (j := j) 0 d
    simp only [Nat.mul_zero, Nat.zero_add] at this
    show gDo pr dr (512 * i + x) (128 * j + d) * Or (512 * i + x) (128 * j + d) = _
    rw [this]
  · refine (lanes1 (fun l => gDo pr dr (512 * i + x) (128 * j + l) * Or (512 * i + x) (128 * j + l))).trans (Finset.sum_congr rfl fun d _ => ?_)
    have := col (j := j) 1 d
    simp only [Nat.mul_one] at this
    show gDo pr dr (512 * i + x) (128 * j + (64 + d)) * Or (512 * i + x) (128 * j + (64 + d)) = _
    rw [this]

theorem row_P (hh : h < 2) (k x y : ℕ) : (rowAt pr cr dr Or lr j i).P h k x y
    = Real.exp (gS pr (2 * j + h) (512 * i + x) (512 * k + y) - cr (2 * j + h) (512 * k + y) - lr (2 * j + h) (512 * i + x)) := by
  rw [← row_S (cr := cr) (dr := dr) (Or := Or) (lr := lr) hh]
  rfl

theorem row_Pw (hh : h < 2) {k x y : ℕ} (hk : 512 * k + y ≤ 512 * i + x) : (rowAt pr cr dr Or lr j i).P h k x y
    = gW pr cr lr (2 * j + h) (512 * i + x) (512 * k + y) := by
  rw [row_P hh, gW, if_pos hk]

theorem row_Pd (hh : h < 2) (x y : ℕ) : low ((rowAt pr cr dr Or lr j i).P h i) x y = gW pr cr lr (2 * j + h) (512 * i + x) (512 * i + y) := by
  unfold low
  by_cases hy : y ≤ x
  · rw [if_pos hy, row_Pw hh (by omega)]
  · rw [if_neg hy, gW, if_neg (by omega)]

theorem row_D (hh : h < 2) {k x y : ℕ} (hk : 512 * k + y ≤ 512 * i + x) : (rowAt pr cr dr Or lr j i).D h k x y
    = gDs pr cr dr Or lr (2 * j + h) (512 * i + x) (512 * k + y) := by
  show (rowAt pr cr dr Or lr j i).P h k x y * (tS ((rowAt pr cr dr Or lr j i).d h) (blkR (rowAt pr cr dr Or lr j i).V k) x y
    - (rowAt pr cr dr Or lr j i).δ h x) = _
  rw [row_Pw hh hk, row_dp hh, row_dl hh]
  rfl

theorem row_Dd (hh : h < 2) (x y : ℕ) : (rowAt pr cr dr Or lr j i).Dd h i x y = gDs pr cr dr Or lr (2 * j + h) (512 * i + x) (512 * i + y) := by
  show low ((rowAt pr cr dr Or lr j i).P h i) x y * (tS ((rowAt pr cr dr Or lr j i).d h) (blkR (rowAt pr cr dr Or lr j i).V i) x y
    - (rowAt pr cr dr Or lr j i).δ h x) = _
  rw [row_Pd hh, row_dp hh, row_dl hh]
  rfl

theorem gW_zero {h q k : ℕ} (hk : q < k) : gW pr cr lr h q k = 0 := if_neg (by omega)
theorem gDs_zero {h q k : ℕ} (hk : q < k) : gDs pr cr dr Or lr h q k = 0 := by rw [gDs, gW_zero hk, zero_mul]

/-- The gradient of the queries before its scale: one sum over all keys. -/
theorem row_dq (hh : h < 2) (hi : i < 8) {x : ℕ} (hx : x < 512) (l : ℕ) : (rowAt pr cr dr Or lr j i).dq i h x l
    = ∑ k ∈ Finset.range 4096, gDs pr cr dr Or lr (2 * j + h) (512 * i + x) k * pr k (1024 + (128 * j + l)) := by
  unfold Row.dq
  have e1 : ∀ k ∈ Finset.range i, tN ((rowAt pr cr dr Or lr j i).D h k) (blkR (rowAt pr cr dr Or lr j i).K k) x l
      = ∑ y ∈ Finset.range 512, gDs pr cr dr Or lr (2 * j + h) (512 * i + x) (512 * k + y) * pr (512 * k + y) (1024 + (128 * j + l)) := by
    intro k hk
    have hk := Finset.mem_range.mp hk
    refine Finset.sum_congr rfl fun y hy => ?_
    have hy := Finset.mem_range.mp hy
    rw [row_D hh (by omega)]
    rfl
  have e2 : tN ((rowAt pr cr dr Or lr j i).Dd h i) (blkR (rowAt pr cr dr Or lr j i).K i) x l
      = ∑ y ∈ Finset.range 512, gDs pr cr dr Or lr (2 * j + h) (512 * i + x) (512 * i + y) * pr (512 * i + y) (1024 + (128 * j + l)) :=
    Finset.sum_congr rfl fun y _ => by rw [row_Dd hh]; rfl
  rw [Finset.sum_congr rfl e1, e2, ← Finset.sum_range_succ (fun k => ∑ y ∈ Finset.range 512,
    gDs pr cr dr Or lr (2 * j + h) (512 * i + x) (512 * k + y) * pr (512 * k + y) (1024 + (128 * j + l))),
    sum_blocks (fun k => gDs pr cr dr Or lr (2 * j + h) (512 * i + x) k * pr k (1024 + (128 * j + l)))]
  exact sum_upto _ (by omega) fun k hk => by rw [gDs_zero (by omega), zero_mul]

theorem row_dcq (hh : h < 2) (hi : i < 8) {x : ℕ} (hx : x < 512) : (rowAt pr cr dr Or lr j i).dcq i h x
    = ∑ k ∈ Finset.range 4096, gDs pr cr dr Or lr (2 * j + h) (512 * i + x) k := by
  unfold Row.dcq
  have e1 : ∀ k ∈ Finset.range i, tW ((rowAt pr cr dr Or lr j i).D h k) x
      = ∑ y ∈ Finset.range 512, gDs pr cr dr Or lr (2 * j + h) (512 * i + x) (512 * k + y) := by
    intro k hk
    have hk := Finset.mem_range.mp hk
    refine Finset.sum_congr rfl fun y hy => ?_
    have hy := Finset.mem_range.mp hy
    rw [row_D hh (by omega)]
  have e2 : tW ((rowAt pr cr dr Or lr j i).Dd h i) x
      = ∑ y ∈ Finset.range 512, gDs pr cr dr Or lr (2 * j + h) (512 * i + x) (512 * i + y) :=
    Finset.sum_congr rfl fun y _ => by rw [row_Dd hh]
  rw [Finset.sum_congr rfl e1, e2, ← Finset.sum_range_succ (fun k => ∑ y ∈ Finset.range 512,
    gDs pr cr dr Or lr (2 * j + h) (512 * i + x) (512 * k + y)), sum_blocks (fun k => gDs pr cr dr Or lr (2 * j + h) (512 * i + x) k)]
  exact sum_upto _ (by omega) fun k hk => gDs_zero (by omega)

/-- The two heads' sums over a row block, told apart by the lane. -/
theorem two_heads (f : ℕ → ℕ → ℝ) (u : ℕ → ℕ → ℝ) (l : ℕ) :
    (∑ x ∈ Finset.range 512, f 0 x * m0 u x l) + (∑ x ∈ Finset.range 512, f 1 x * m1 u x l)
      = ∑ x ∈ Finset.range 512, f (if l < 64 then 0 else 1) x * u x l := by
  unfold m0 m1
  by_cases hl : l < 64
  · have h1 : ¬64 ≤ l := by omega
    simp [hl, h1]
  · have h1 : 64 ≤ l := by omega
    simp [hl, h1]

theorem head_of {l : ℕ} (hl : l < 128) : 2 * j + (if l < 64 then 0 else 1) = (128 * j + l) / 64 := by
  split_ifs <;> omega

theorem lt_two (l : ℕ) : (if l < 64 then 0 else 1) < 2 := by
  split_ifs <;> omega

theorem row_gKd (hi : r < 512 * (i + 1)) {l : ℕ} (hl : l < 128) : (rowAt pr cr dr Or lr j i).gKd i r l
    = ∑ x ∈ Finset.range 512, gDs pr cr dr Or lr ((128 * j + l) / 64) (512 * i + x) r * (pr (512 * i + x) (128 * j + l) * (1 / 8)) := by
  have hr := Nat.div_add_mod r 512
  have hm := Nat.mod_lt r (show 0 < 512 by omega)
  rw [← head_of hl]
  unfold Row.gKd
  by_cases hd : r / 512 = i
  · rw [if_pos hd]
    refine (two_heads (fun h x => (rowAt pr cr dr Or lr j i).Dd h i x (r % 512)) (fun x l => pr (512 * i + x) (128 * j + l) * (1 / 8)) l).trans ?_
    refine Finset.sum_congr rfl fun x _ => ?_
    rw [row_Dd (lt_two l), show 512 * i + r % 512 = r by omega]
  · rw [if_neg hd]
    refine (two_heads (fun h x => (rowAt pr cr dr Or lr j i).D h (r / 512) x (r % 512)) (fun x l => pr (512 * i + x) (128 * j + l) * (1 / 8)) l).trans ?_
    refine Finset.sum_congr rfl fun x _ => ?_
    rw [row_D (lt_two l) (by omega), show 512 * (r / 512) + r % 512 = r by omega]

theorem row_gVd (hi : r < 512 * (i + 1)) {l : ℕ} (hl : l < 128) : (rowAt pr cr dr Or lr j i).gVd i r l
    = ∑ x ∈ Finset.range 512, gW pr cr lr ((128 * j + l) / 64) (512 * i + x) r * gDo pr dr (512 * i + x) (128 * j + l) := by
  have hr := Nat.div_add_mod r 512
  have hm := Nat.mod_lt r (show 0 < 512 by omega)
  rw [← head_of hl]
  unfold Row.gVd
  by_cases hd : r / 512 = i
  · rw [if_pos hd]
    refine (two_heads (fun h x => low ((rowAt pr cr dr Or lr j i).P h i) x (r % 512)) (fun x l => gDo pr dr (512 * i + x) (128 * j + l)) l).trans ?_
    refine Finset.sum_congr rfl fun x _ => ?_
    rw [row_Pd (lt_two l), show 512 * i + r % 512 = r by omega]
  · rw [if_neg hd]
    refine (two_heads (fun h x => (rowAt pr cr dr Or lr j i).P h (r / 512) x (r % 512)) (fun x l => gDo pr dr (512 * i + x) (128 * j + l)) l).trans ?_
    refine Finset.sum_congr rfl fun x _ => ?_
    rw [row_Pw (lt_two l) (by omega), show 512 * (r / 512) + r % 512 = r by omega]

/-- The gradient of the keys: one sum over all rows. -/
theorem accK_all {r l : ℕ} (hl : l < 128) : accK pr cr dr Or lr j 8 r l
    = ∑ q ∈ Finset.range 4096, gDs pr cr dr Or lr ((128 * j + l) / 64) q r * (pr q (128 * j + l) * (1 / 8)) := by
  rw [show (4096 : ℕ) = 512 * 8 from rfl, ← sum_blocks (fun q => gDs pr cr dr Or lr ((128 * j + l) / 64) q r * (pr q (128 * j + l) * (1 / 8)))]
  refine Finset.sum_congr rfl fun i _ => ?_
  by_cases hi : r < 512 * (i + 1)
  · rw [if_pos hi, row_gKd hi hl]
  · rw [if_neg hi]
    refine (Finset.sum_eq_zero fun x hx => ?_).symm
    have hx := Finset.mem_range.mp hx
    rw [gDs_zero (by omega), zero_mul]

theorem accV_all {r l : ℕ} (hl : l < 128) : accV pr cr dr Or lr j 8 r l
    = ∑ q ∈ Finset.range 4096, gW pr cr lr ((128 * j + l) / 64) q r * gDo pr dr q (128 * j + l) := by
  rw [show (4096 : ℕ) = 512 * 8 from rfl, ← sum_blocks (fun q => gW pr cr lr ((128 * j + l) / 64) q r * gDo pr dr q (128 * j + l))]
  refine Finset.sum_congr rfl fun i _ => ?_
  by_cases hi : r < 512 * (i + 1)
  · rw [if_pos hi, row_gVd hi hl]
  · rw [if_neg hi]
    refine (Finset.sum_eq_zero fun x hx => ?_).symm
    have hx := Finset.mem_range.mp hx
    rw [gW_zero (by omega), zero_mul]

theorem accC_all (hh : h < 2) {k y : ℕ} (hy : y < 512) : accC pr cr dr Or lr j 8 h k y
    = -∑ q ∈ Finset.range 4096, gDs pr cr dr Or lr (2 * j + h) q (512 * k + y) := by
  rw [show (4096 : ℕ) = 512 * 8 from rfl, ← sum_blocks (fun q => gDs pr cr dr Or lr (2 * j + h) q (512 * k + y))]
  unfold accC
  refine congrArg Neg.neg (Finset.sum_congr rfl fun i _ => ?_)
  by_cases hi : k < i + 1
  · rw [if_pos hi]
    unfold Row.gCd
    by_cases hd : k = i
    · rw [if_pos hd, hd]
      exact Finset.sum_congr rfl fun x _ => row_Dd hh x y
    · rw [if_neg hd]
      exact Finset.sum_congr rfl fun x _ => row_D hh (by omega)
  · rw [if_neg hi]
    refine (Finset.sum_eq_zero fun x hx => ?_).symm
    have hx := Finset.mem_range.mp hx
    exact gDs_zero (by omega)

end Cert.Kernel2Ideal.Value

end
-- ==== Proof.Flash.Final.lean ====
/- What the attention backward call leaves in its six results. -/
module

public import proofs.«01_k».proof.Proof.Flash.Whole
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Flash

variable {m : (ℓ : Loc nD τ sig) → Buf (Elt Ideal) ℓ} {c : Dev nD} {pr cr dr Or lr : ℕ → ℕ → ℝ}

theorem out_10 (t : Fin cfg0.N) (h1 : t.val % 8 = 7) {f : ℕ → ℕ → ℝ} (hf : R2 (outsAt0 m c t.val t.isLt).2.2.2.2.2.2.2.2.1 f) :
    R2 (outsAt0 m c t.val t.isLt).2.2.1 f := by
  have e := outsAt0_C m c t (by omega) h1
  generalize outsAt0 m c t.val t.isLt = o at hf e ⊢
  subst e
  dsimp only at hf ⊢
  exact last_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _)
    _ _ _ _ _ _ _ _ _ _ _ _ _ _ _ hf

theorem out_11 (t : Fin cfg0.N) (h1 : t.val % 8 = 7) {f : ℕ → ℕ → ℝ} (hf : R2 (outsAt0 m c t.val t.isLt).2.2.2.2.2.2.2.2.2.1 f) :
    R2 (outsAt0 m c t.val t.isLt).2.2.2.1 f := by
  have e := outsAt0_C m c t (by omega) h1
  generalize outsAt0 m c t.val t.isLt = o at hf e ⊢
  subst e
  dsimp only at hf ⊢
  exact last_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _)
    _ _ _ _ _ _ _ _ _ _ _ _ _ _ _ hf

theorem out_13 (t : Fin cfg0.N) (h1 : t.val % 8 = 7) {f : ℕ → ℕ → ℕ → ℝ} (hf : R3c (outsAt0 m c t.val t.isLt).2.2.2.2.2.2.2.2.2.2 f) :
    R4c (outsAt0 m c t.val t.isLt).2.2.2.2.2.1 f := by
  have e := outsAt0_C m c t (by omega) h1
  generalize outsAt0 m c t.val t.isLt = o at hf e ⊢
  subst e
  dsimp only at hf ⊢
  exact last_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _)
    _ _ _ _ _ _ _ _ _ _ _ _ _ _ _ hf

theorem N64 : cfg0.N = 64 := by decide

theorem fl10 : ∀ t : Fin cfg0.N, (win0 10).flush t = true → t.val % 8 = 7 :=
  (by decide +kernel : ∀ t : Fin grid0.N, win0_10.flush t = true → t.val % 8 = 7)
theorem fl11 : ∀ t : Fin cfg0.N, (win0 11).flush t = true → t.val % 8 = 7 :=
  (by decide +kernel : ∀ t : Fin grid0.N, win0_11.flush t = true → t.val % 8 = 7)
theorem fl13 : ∀ t : Fin cfg0.N, (win0 13).flush t = true → t.val % 8 = 7 :=
  (by decide +kernel : ∀ t : Fin grid0.N, win0_13.flush t = true → t.val % 8 = 7)

theorem final8 (hE : Entry m c pr cr dr Or lr) : (dats m 0 c).arrAt 8 cfg0.N = fun z : S4096x1024.Idx =>
    ((((∑ k ∈ Finset.range 4096, gDs pr cr dr Or lr ((z 1).val / 64) ((z 0).val) k * pr k (1024 + (z 1).val)) * (1 / 8)) : ℝ) : EReal) := by
  refine (dats m 0 c).arrAt_eq_of_covers 8 _ (by decide +kernel) fun t hf y => ?_
  have ht : t.val < 64 := lt_of_lt_of_eq t.isLt N64
  blk_simp
  rw [after0_8]
  idx_vars y
  have hy0 := y0.isLt
  have hy1 := y1.isLt
  have i0 : win0_8.index t 0 = _ := congrFun (idx8 t) 0
  have i1 : win0_8.index t 1 = _ := congrFun (idx8 t) 1
  have key : ∀ a b : ℕ, a = 512 * (t.val % 8) + y0.val → b = 128 * (t.val / 8) + y1.val →
      ((outsAt0 m c t.val t.isLt).1 (ix2 y0 y1) : EReal) = ((((∑ k ∈ Finset.range 4096, gDs pr cr dr Or lr (b / 64) (a) k * pr k (1024 + b)) * (1 / 8)) : ℝ) : EReal) := by
    rintro _ _ rfl rfl
    refine ((holds hE t.val t.isLt).dq y0 y1).trans (congrArg _ ?_)
    dsimp only
    rw [← head_of hy1]
    refine congrArg (· * (1 / 8 : ℝ)) ?_
    split_ifs
    · exact row_dq (by omega) (by omega) hy0 _
    · exact row_dq (by omega) (by omega) hy0 _
  exact key _ _ ((congrArg (· * 512 + y0.val) i0).trans (by show t.val % 8 * 512 + _ = _; omega)) ((congrArg (· * 128 + y1.val) i1).trans (by show t.val / 8 * 128 + _ = _; omega))

theorem final9 (hE : Entry m c pr cr dr Or lr) : (dats m 0 c).arrAt 9 cfg0.N = fun z : S4096x1024.Idx =>
    (((dgate (fun r C => pr r (3072 + C)) Or dr ((z 0).val) ((z 1).val)) : ℝ) : EReal) := by
  refine (dats m 0 c).arrAt_eq_of_covers 9 _ (by decide +kernel) fun t hf y => ?_
  have ht : t.val < 64 := lt_of_lt_of_eq t.isLt N64
  blk_simp
  rw [after0_9]
  idx_vars y
  have hy0 := y0.isLt
  have hy1 := y1.isLt
  have i0 : win0_9.index t 0 = _ := congrFun (idx9 t) 0
  have i1 : win0_9.index t 1 = _ := congrFun (idx9 t) 1
  have key : ∀ a b : ℕ, a = 512 * (t.val % 8) + y0.val → b = 128 * (t.val / 8) + y1.val →
      ((outsAt0 m c t.val t.isLt).2.1 (ix2 y0 y1) : EReal) = (((dgate (fun r C => pr r (3072 + C)) Or dr (a) (b)) : ℝ) : EReal) := by
    rintro _ _ rfl rfl
    exact ((holds hE t.val t.isLt).dg y0 y1).trans rfl
  exact key _ _ ((congrArg (· * 512 + y0.val) i0).trans (by show t.val % 8 * 512 + _ = _; omega)) ((congrArg (· * 128 + y1.val) i1).trans (by show t.val / 8 * 128 + _ = _; omega))

theorem final10 (hE : Entry m c pr cr dr Or lr) : (dats m 0 c).arrAt 10 cfg0.N = fun z : S4096x1024.Idx =>
    (((∑ q ∈ Finset.range 4096, gDs pr cr dr Or lr ((z 1).val / 64) q ((z 0).val) * (pr q ((z 1).val) * (1 / 8))) : ℝ) : EReal) := by
  refine (dats m 0 c).arrAt_eq_of_covers 10 _ (by decide +kernel) fun t hf y => ?_
  have ht : t.val < 64 := lt_of_lt_of_eq t.isLt N64
  have h7 : t.val % 8 = 7 := fl10 t hf
  blk_simp
  rw [after0_10]
  idx_vars y
  have hy0 := y0.isLt
  have hy1 := y1.isLt
  have i0 : win0_10.index t 0 = _ := congrFun (idx10 t) 0
  have i1 : win0_10.index t 1 = _ := congrFun (idx10 t) 1
  have key : ∀ a b : ℕ, a = y0.val → b = 128 * (t.val / 8) + y1.val →
      ((outsAt0 m c t.val t.isLt).2.2.1 (ix2 y0 y1) : EReal) = (((∑ q ∈ Finset.range 4096, gDs pr cr dr Or lr (b / 64) q (a) * (pr q (b) * (1 / 8))) : ℝ) : EReal) := by
    rintro _ _ rfl rfl
    refine (out_10 t h7 (holds hE t.val t.isLt).dk y0 y1).trans (congrArg _ ?_)
    rw [accK_succ, h7]
    exact accK_all hy1
  exact key _ _ ((congrArg (· * 4096 + y0.val) i0).trans (by show 0 * 4096 + _ = _; omega)) ((congrArg (· * 128 + y1.val) i1).trans (by show t.val / 8 * 128 + _ = _; omega))

theorem final11 (hE : Entry m c pr cr dr Or lr) : (dats m 0 c).arrAt 11 cfg0.N = fun z : S4096x1024.Idx =>
    (((∑ q ∈ Finset.range 4096, gW pr cr lr ((z 1).val / 64) q ((z 0).val) * gDo pr dr q ((z 1).val)) : ℝ) : EReal) := by
  refine (dats m 0 c).arrAt_eq_of_covers 11 _ (by decide +kernel) fun t hf y => ?_
  have ht : t.val < 64 := lt_of_lt_of_eq t.isLt N64
  have h7 : t.val % 8 = 7 := fl11 t hf
  blk_simp
  rw [after0_11]
  idx_vars y
  have hy0 := y0.isLt
  have hy1 := y1.isLt
  have i0 : win0_11.index t 0 = _ := congrFun (idx11 t) 0
  have i1 : win0_11.index t 1 = _ := congrFun (idx11 t) 1
  have key : ∀ a b : ℕ, a = y0.val → b = 128 * (t.val / 8) + y1.val →
      ((outsAt0 m c t.val t.isLt).2.2.2.1 (ix2 y0 y1) : EReal) = (((∑ q ∈ Finset.range 4096, gW pr cr lr (b / 64) q (a) * gDo pr dr q (b)) : ℝ) : EReal) := by
    rintro _ _ rfl rfl
    refine (out_11 t h7 (holds hE t.val t.isLt).dv y0 y1).trans (congrArg _ ?_)
    rw [accV_succ, h7]
    exact accV_all hy1
  exact key _ _ ((congrArg (· * 4096 + y0.val) i0).trans (by show 0 * 4096 + _ = _; omega)) ((congrArg (· * 128 + y1.val) i1).trans (by show t.val / 8 * 128 + _ = _; omega))

theorem final12 (hE : Entry m c pr cr dr Or lr) : (dats m 0 c).arrAt 12 cfg0.N = fun z : S8x8x2x512.Idx =>
    (((∑ k ∈ Finset.range 4096, gDs pr cr dr Or lr (2 * (z 0).val + (z 2).val) (512 * (z 1).val + (z 3).val) k) : ℝ) : EReal) := by
  refine (dats m 0 c).arrAt_eq_of_covers 12 _ (by decide +kernel) fun t hf y => ?_
  have ht : t.val < 64 := lt_of_lt_of_eq t.isLt N64
  blk_simp
  rw [after0_12]
  idx_vars y
  obtain rfl : y0 = 0 := Subsingleton.elim _ _
  obtain rfl : y1 = 0 := Subsingleton.elim _ _
  have hy2 := y2.isLt
  have hy3 := y3.isLt
  have i0 : win0_12.index t 0 = t.val / 8 := congrFun (idx12 t) 0
  have i1 : win0_12.index t 1 = t.val % 8 := congrFun (idx12 t) 1
  have i2 : win0_12.index t 2 = _ := congrFun (idx12 t) 2
  have i3 : win0_12.index t 3 = _ := congrFun (idx12 t) 3
  have key : ∀ a b d e : ℕ, a = t.val / 8 → b = t.val % 8 → d = y2.val → e = y3.val →
      ((outsAt0 m c t.val t.isLt).2.2.2.2.1 (ix4 0 0 y2 y3) : EReal) = (((∑ k ∈ Finset.range 4096, gDs pr cr dr Or lr (2 * a + d) (512 * b + e) k) : ℝ) : EReal) := by
    rintro _ _ _ _ rfl rfl rfl rfl
    refine ((holds hE t.val t.isLt).dcq y2 y3).trans (congrArg _ ?_)
    by_cases h : y2.val = 0
    · rw [if_pos h, h]
      exact row_dcq (by omega) (by omega) hy3
    · rw [if_neg h, show y2.val = 1 by omega]
      exact row_dcq (by omega) (by omega) hy3
  exact key _ _ _ _ (by rw [← i0]) (by rw [← i1])
    ((congrArg (· * 2 + y2.val) i2).trans (by show 0 * 2 + _ = _; omega)) ((congrArg (· * 512 + y3.val) i3).trans (by show 0 * 512 + _ = _; omega))

theorem final13 (hE : Entry m c pr cr dr Or lr) : (dats m 0 c).arrAt 13 cfg0.N = fun z : S8x2x8x512.Idx =>
    (((-∑ q ∈ Finset.range 4096, gDs pr cr dr Or lr (2 * (z 0).val + (z 1).val) q (512 * (z 2).val + (z 3).val)) : ℝ) : EReal) := by
  refine (dats m 0 c).arrAt_eq_of_covers 13 _ (by decide +kernel) fun t hf y => ?_
  have ht : t.val < 64 := lt_of_lt_of_eq t.isLt N64
  have h7 : t.val % 8 = 7 := fl13 t hf
  blk_simp
  rw [after0_13]
  idx_vars y
  obtain rfl : y0 = 0 := Subsingleton.elim _ _
  have hy1 := y1.isLt
  have hy2 := y2.isLt
  have hy3 := y3.isLt
  have i0 : win0_13.index t 0 = t.val / 8 := congrFun (idx13 t) 0
  have i1 : win0_13.index t 1 = _ := congrFun (idx13 t) 1
  have i2 : win0_13.index t 2 = _ := congrFun (idx13 t) 2
  have i3 : win0_13.index t 3 = _ := congrFun (idx13 t) 3
  have key : ∀ a b d e : ℕ, a = t.val / 8 → b = y1.val → d = y2.val → e = y3.val →
      ((outsAt0 m c t.val t.isLt).2.2.2.2.2.1 (ix4 0 y1 y2 y3) : EReal) = (((-∑ q ∈ Finset.range 4096, gDs pr cr dr Or lr (2 * a + b) q (512 * d + e)) : ℝ) : EReal) := by
    rintro _ _ _ _ rfl rfl rfl rfl
    refine (out_13 t h7 (holds hE t.val t.isLt).dc y1 y2 y3).trans (congrArg _ ?_)
    rw [accC_succ, h7]
    exact accC_all hy1 hy3
  exact key _ _ _ _ (by rw [← i0]) ((congrArg (· * 2 + y1.val) i1).trans (by show 0 * 2 + _ = _; omega))
    ((congrArg (· * 8 + y2.val) i2).trans (by show 0 * 8 + _ = _; omega)) ((congrArg (· * 512 + y3.val) i3).trans (by show 0 * 512 + _ = _; omega))

end Cert.Kernel2Ideal.Value

end
-- ==== Proof.Flash.Real.lean ====
/- The gated attention with decay, and its gradient, over the reals. -/
module

public import proofs.«01_k».proof.Proof.Flash.Whole

set_option maxRecDepth 65536

@[expose] public noncomputable section

namespace Cert.Kernel2Ideal.Value

open Cert.Flash

variable (pr cr dr M : ℕ → ℕ → ℝ)

/-- The scores with the decay. -/
def gSc (h q k : ℕ) : ℝ := gS pr h q k + cr h q - cr h k
/-- The exponentials of the allowed scores, less the row's `M`. -/
def gE (h q k : ℕ) : ℝ := if k ≤ q then Real.exp (gSc pr cr h q k - M h q) else 0
def gL (h q : ℕ) : ℝ := ∑ k ∈ Finset.range 4096, gE pr cr M h q k
/-- The softmax. -/
def gP (h q k : ℕ) : ℝ := gE pr cr M h q k / gL pr cr M h q
/-- The attention's output before its gate. -/
def gOr (q C : ℕ) : ℝ := ∑ k ∈ Finset.range 4096, gP pr cr M (C / 64) q k * pr k (2048 + C)
/-- The saved logarithm. -/
def gLr (h q : ℕ) : ℝ := M h q + Real.log (gL pr cr M h q) - cr h q

variable {pr cr dr M}

theorem gE_nonneg (h q k : ℕ) : 0 ≤ gE pr cr M h q k := by
  unfold gE; split_ifs
  · exact (Real.exp_pos _).le
  · exact le_rfl

theorem gL_pos (h : ℕ) {q : ℕ} : 0 < gL pr cr M h q := by
  refine Finset.sum_pos' (fun k _ => gE_nonneg h q k) ⟨0, by simp, ?_⟩
  unfold gE
  rw [if_pos (Nat.zero_le _)]
  exact Real.exp_pos _

theorem gL_ne (h q : ℕ) : gL pr cr M h q ≠ 0 := (gL_pos h).ne'

theorem gW_eq (h q k : ℕ) : gW pr cr (gLr pr cr M) h q k = gP pr cr M h q k := by
  unfold gW gP gE
  by_cases hk : k ≤ q
  · rw [if_pos hk, if_pos hk]
    conv_rhs => rw [← Real.exp_log (gL_pos (pr := pr) (cr := cr) (M := M) h (q := q)), ← Real.exp_sub]
    refine congrArg Real.exp ?_
    unfold gLr gSc
    ring
  · rw [if_neg hk, if_neg hk, zero_div]

theorem gDl_eq (h q : ℕ) : gDl pr dr (gOr pr cr M) h q = ∑ k ∈ Finset.range 4096, gP pr cr M h q k * gDp pr dr h q k := by
  unfold gDl gOr gDp
  have e : ∀ d ∈ Finset.range 64, gDo pr dr q (64 * h + d) * ∑ k ∈ Finset.range 4096, gP pr cr M ((64 * h + d) / 64) q k * pr k (2048 + (64 * h + d))
      = ∑ k ∈ Finset.range 4096, gP pr cr M h q k * (gDo pr dr q (64 * h + d) * pr k (2048 + (64 * h + d))) := by
    intro d hd
    have hd := Finset.mem_range.mp hd
    rw [show (64 * h + d) / 64 = h by omega, Finset.mul_sum]
    exact Finset.sum_congr rfl fun k _ => by ring
  rw [Finset.sum_congr rfl e, Finset.sum_comm]
  exact Finset.sum_congr rfl fun k _ => (Finset.mul_sum _ _ _).symm

/-- The gradient of the scores, the way the derivative of the softmax gives it. -/
theorem gDs_eq (h q k : ℕ) : gDs pr cr dr (gOr pr cr M) (gLr pr cr M) h q k
    = if k ≤ q then (gDp pr dr h q k / gL pr cr M h q
        + -∑ k ∈ Finset.range 4096, gDp pr dr h q k * (1 / (gL pr cr M h q * gL pr cr M h q)) * gE pr cr M h q k) * gE pr cr M h q k else 0 := by
  by_cases hk : k ≤ q
  · rw [if_pos hk]
    unfold gDs
    rw [gW_eq, gDl_eq]
    have e : ∀ k ∈ Finset.range 4096, gDp pr dr h q k * (1 / (gL pr cr M h q * gL pr cr M h q)) * gE pr cr M h q k
        = gP pr cr M h q k * gDp pr dr h q k * (1 / gL pr cr M h q) := by
      intro k _
      unfold gP
      have := gL_ne (pr := pr) (cr := cr) (M := M) h q
      field_simp
    rw [Finset.sum_congr rfl e, ← Finset.sum_mul]
    have := gL_ne (pr := pr) (cr := cr) (M := M) h q
    generalize (∑ k ∈ Finset.range 4096, gP pr cr M h q k * gDp pr dr h q k) = w
    unfold gP
    field_simp
    ring
  · rw [if_neg hk, gDs_zero (by omega)]

end Cert.Kernel2Ideal.Value

end
-- ==== Proof.Flash.Ref.lean ====
/- The reference of the attention backward call, at real arguments. -/
module

public import proofs.«01_k».proof.Proof.Flash.Real
public import proofs.«01_k».proof.Proof.Gen.Reference2Ideal.Read
public import Mathlib.Data.Finset.Fold
public import Idealize.ShloMosaic.Lib.ValueIdx

@[expose] public section

set_option maxRecDepth 16384

noncomputable section

open Idealize.ShloMosaic Idealize.ShloMosaic.TcCoe Idealize.SL.Sem

namespace Cert.Reference2Ideal.Read
open Cert.Reference2Ideal Cert.Flash Cert.Kernel2Ideal.Value

/-- The three arguments at real numbers. -/
structure Args (x0 : S4096x4096.Idx → EReal) (x1 : S16x4096.Idx → EReal) (x2 : S4096x1024.Idx → EReal) (pr cr dr : ℕ → ℕ → ℝ) : Prop where
  a0 : ∀ i, x0 i = ((pr (i 0).val (i 1).val : ℝ) : EReal)
  a1 : ∀ i, x1 i = ((cr (i 0).val (i 1).val : ℝ) : EReal)
  a2 : ∀ i, x2 i = ((dr (i 0).val (i 1).val : ℝ) : EReal)

variable {x0 : (⟨S4096x4096, .f32⟩ : BufTy).Contents (Elt Idealize.ShloMosaic.Ideal)} {x1 : (⟨S16x4096, .f32⟩ : BufTy).Contents (Elt Idealize.ShloMosaic.Ideal)}
  {x2 : (⟨S4096x1024, .f32⟩ : BufTy).Contents (Elt Idealize.ShloMosaic.Ideal)} {pr cr dr M : ℕ → ℕ → ℝ}

theorem v7_r (H : Args x0 x1 x2 pr cr dr) (i : S16x4096x64.Idx) :
    val_main_v7 (F := Idealize.ShloMosaic.Ideal) x0 i = ((pr (i 1).val (64 * (i 0).val + (i 2).val) * (1 / 8) : ℝ) : EReal) := by
  have h0 : (i 0).val < 16 := (i 0).isLt
  have h2 : (i 2).val < 64 := (i 2).isLt
  simp only [val_main_v7_apply, val_main_v5_apply, val_main_v4_apply, val_main_v0_apply, val_main_v6_apply, val_main_cst_apply, H.a0]
  rw [EReal.coe_mul]
  refine congrArg₂ (· * ·) (congrArg _ (congrArg₂ pr ?_ ?_)) eighth
  · show (((i 1).val * 16 + (i 0).val) * 64 + (i 2).val) / 1024 = _
    omega
  · show (((i 1).val * 16 + (i 0).val) * 64 + (i 2).val) % 1024 = _
    omega

theorem v9_r (H : Args x0 x1 x2 pr cr dr) (i : S16x4096x64.Idx) :
    val_main_v9 (F := Idealize.ShloMosaic.Ideal) x0 i = ((pr (i 1).val (1024 + (64 * (i 0).val + (i 2).val)) : ℝ) : EReal) := by
  have h0 : (i 0).val < 16 := (i 0).isLt
  have h2 : (i 2).val < 64 := (i 2).isLt
  simp only [val_main_v9_apply, val_main_v8_apply, val_main_v1_apply, H.a0]
  refine congrArg _ (congrArg₂ pr ?_ ?_)
  · show (((i 1).val * 16 + (i 0).val) * 64 + (i 2).val) / 1024 = _
    omega
  · show 1024 + (((i 1).val * 16 + (i 0).val) * 64 + (i 2).val) % 1024 = _
    omega

theorem v11_r (H : Args x0 x1 x2 pr cr dr) (i : S16x4096x64.Idx) :
    val_main_v11 (F := Idealize.ShloMosaic.Ideal) x0 i = ((pr (i 1).val (2048 + (64 * (i 0).val + (i 2).val)) : ℝ) : EReal) := by
  have h0 : (i 0).val < 16 := (i 0).isLt
  have h2 : (i 2).val < 64 := (i 2).isLt
  simp only [val_main_v11_apply, val_main_v10_apply, val_main_v2_apply, H.a0]
  refine congrArg _ (congrArg₂ pr ?_ ?_)
  · show (((i 1).val * 16 + (i 0).val) * 64 + (i 2).val) / 1024 = _
    omega
  · show 2048 + (((i 1).val * 16 + (i 0).val) * 64 + (i 2).val) % 1024 = _
    omega

theorem v12_r (H : Args x0 x1 x2 pr cr dr) (i : S16x4096x4096.Idx) :
    val_main_v12 (F := Idealize.ShloMosaic.Ideal) x0 i = ((gS pr (i 0).val (i 1).val (i 2).val : ℝ) : EReal) := by
  simp only [val_main_v12_apply, v7_r H, v9_r H]
  exact coe_dot 64 (fun d => pr (i 1).val (64 * (i 0).val + d) * (1 / 8)) (fun d => pr (i 2).val (1024 + (64 * (i 0).val + d)))

theorem v18_r (H : Args x0 x1 x2 pr cr dr) (i : S16x4096x4096.Idx) :
    val_main_v18 (F := Idealize.ShloMosaic.Ideal) x0 x1 i = ((gSc pr cr (i 0).val (i 1).val (i 2).val : ℝ) : EReal) := by
  simp only [val_main_v18_apply, val_main_v15_apply, val_main_v14_apply, val_main_v13_apply, val_main_v17_apply, val_main_v16_apply, v12_r H, H.a1]
  unfold gSc
  rw [EReal.coe_sub, EReal.coe_add]
  rfl

/-- The mask's bit. -/
theorem bit_r (i : S16x4096x4096.Idx) (u v : EReal) :
    Scalar.select (val_main_v26_1 (F := Idealize.ShloMosaic.Ideal) i) u v = if (i 2).val ≤ (i 1).val then u else v := by
  have h1 : (i 1).val < 4096 := (i 1).isLt
  have h2 : (i 2).val < 4096 := (i 2).isLt
  simp only [val_main_v26_1_apply, val_main_v25_apply, val_main_v23_apply, val_main_v24_apply, val_main_v20_apply, val_main_v22_apply, val_main_v19_apply, val_main_v21_apply]
  exact sel_sge (by omega) (by omega) u v

theorem ninf : (FloatOps.ofBits (F := Idealize.ShloMosaic.Ideal) FTy.f32 0xFF800000#32 : EReal) = ⊥ := by
  show Ideal.ofBits FTy.f32 0xFF800000#32 = ⊥
  simp [Ideal.ofBits, Ideal.ieee]

theorem zero_w : (FloatOps.ofBits (F := Idealize.ShloMosaic.Ideal) FTy.f32 0x00000000#32 : EReal) = 0 := Ideal.ofBits_zero_f32
theorem one_w : (FloatOps.ofBits (F := Idealize.ShloMosaic.Ideal) FTy.f32 0x3F800000#32 : EReal) = ((1 : ℝ) : EReal) := Ideal.ofBits_one_f32

theorem v26_r (H : Args x0 x1 x2 pr cr dr) (i : S16x4096x4096.Idx) :
    val_main_v26_0 (F := Idealize.ShloMosaic.Ideal) x0 x1 i = if (i 2).val ≤ (i 1).val then ((gSc pr cr (i 0).val (i 1).val (i 2).val : ℝ) : EReal) else ⊥ := by
  rw [val_main_v26_0_apply, bit_r, v18_r H]
  simp only [val_main_call0_v2_apply, val_main_call0_v0_apply, val_main_cst_0_apply]
  rw [ninf]

/-- The greatest of finitely many reals and `⊥`s, one of them real. -/
theorem fold_real {n : ℕ} (f : Fin n → EReal) (k0 : Fin n) (h0 : f k0 ≠ ⊥) (ht : ∀ k, f k ≠ ⊤) :
    ∃ r : ℝ, (Finset.univ : Finset (Fin n)).fold max ⊥ f = (r : EReal) := by
  have hb : (⊥ : EReal) < (Finset.univ : Finset (Fin n)).fold max ⊥ f := (Finset.lt_fold_max _).mpr (Or.inr ⟨k0, Finset.mem_univ _, bot_lt_iff_ne_bot.mpr h0⟩)
  have hT : (Finset.univ : Finset (Fin n)).fold max ⊥ f < ⊤ := (Finset.fold_max_lt _).mpr ⟨bot_lt_top, fun k _ => lt_top_iff_ne_top.mpr (ht k)⟩
  exact ⟨_, (EReal.coe_toReal hT.ne hb.ne').symm⟩

theorem v27_fold (i : S16x4096.Idx) : val_main_v27 (F := Idealize.ShloMosaic.Ideal) x0 x1 i
    = (Finset.univ : Finset (Fin 4096)).fold max ⊥ (fun k => val_main_v26_0 (F := Idealize.ShloMosaic.Ideal) x0 x1 (ix3 (i 0) (i 1) k)) := by
  unfold val_main_v27
  rw [Host.reduce_eq_fold_single (FloatOps.maximumf (F := Idealize.ShloMosaic.Ideal) (φ := .f32)) _ _ Gen.reducesTo_S16x4096x4096_S16x4096_d2 (by decide) Gen.h_S_ i]
  rw [val_main_cst_1_apply, ninf]
  refine Finset.fold_congr fun k _ => ?_
  refine congrArg (val_main_v26_0 (F := Idealize.ShloMosaic.Ideal) x0 x1) ?_
  funext a
  refine Fin.cases ?_ (fun a => Fin.cases ?_ (fun a => Fin.cases ?_ (fun a => a.elim0) a) a) a
  · exact Fin.ext rfl
  · exact Fin.ext rfl
  · exact Fin.ext rfl

theorem v27_real (H : Args x0 x1 x2 pr cr dr) (i : S16x4096.Idx) : ∃ r : ℝ, (val_main_v27 (F := Idealize.ShloMosaic.Ideal) x0 x1 i : EReal) = (r : EReal) := by
  rw [v27_fold]
  refine fold_real (n := 4096) _ 0 ?_ fun k => ?_
  · intro hb
    have e := (v26_r H (ix3 (i 0) (i 1) 0)).symm.trans hb
    exact EReal.coe_ne_bot _ ((if_pos (Nat.zero_le _)).symm.trans e)
  · intro hb
    have e := (v26_r H (ix3 (i 0) (i 1) k)).symm.trans hb
    revert e
    generalize gSc pr cr _ _ _ = r
    split_ifs
    · exact fun h => EReal.coe_ne_top _ h
    · exact fun h => bot_ne_top h

/-- The rows' greatest scores. -/
def rowM (x0 : (⟨S4096x4096, .f32⟩ : BufTy).Contents (Elt Idealize.ShloMosaic.Ideal)) (x1 : (⟨S16x4096, .f32⟩ : BufTy).Contents (Elt Idealize.ShloMosaic.Ideal)) (h q : ℕ) : ℝ :=
  if hh : h < 16 ∧ q < 4096 then EReal.toReal (val_main_v27 (F := Idealize.ShloMosaic.Ideal) x0 x1 (ix2 ⟨h, hh.1⟩ ⟨q, hh.2⟩)) else 0

/-- The rows' greatest scores, at real numbers. -/
def IsM (x0 : (⟨S4096x4096, .f32⟩ : BufTy).Contents (Elt Idealize.ShloMosaic.Ideal)) (x1 : (⟨S16x4096, .f32⟩ : BufTy).Contents (Elt Idealize.ShloMosaic.Ideal)) (M : ℕ → ℕ → ℝ) : Prop :=
  ∀ i : S16x4096.Idx, (val_main_v27 (F := Idealize.ShloMosaic.Ideal) x0 x1 i : EReal) = ((M (i 0).val (i 1).val : ℝ) : EReal)

theorem isM (H : Args x0 x1 x2 pr cr dr) : IsM x0 x1 (rowM x0 x1) := fun i => by
  have hh : (i 0).val < 16 ∧ (i 1).val < 4096 := ⟨(i 0).isLt, (i 1).isLt⟩
  unfold rowM
  rw [dif_pos hh]
  have e : (ix2 ⟨(i 0).val, hh.1⟩ ⟨(i 1).val, hh.2⟩ : S16x4096.Idx) = i := by
    funext a
    refine Fin.cases ?_ (fun a => Fin.cases ?_ (fun a => a.elim0) a) a
    · exact Fin.ext rfl
    · exact Fin.ext rfl
  rw [e]
  obtain ⟨r, hr⟩ := v27_real H i
  rw [hr, EReal.toReal_coe]

/-- One exponential of the softmax. -/
theorem exp_row (p : Prop) [Decidable p] (s r : ℝ) :
    (FloatOps.hostUnary (F := Idealize.ShloMosaic.Ideal) (φ := .f32) .exp (FloatOps.subf (F := Idealize.ShloMosaic.Ideal) (φ := .f32) (if p then ((s : ℝ) : EReal) else ⊥) ((r : ℝ) : EReal)) : EReal)
      = ((if p then Real.exp (s - r) else 0 : ℝ) : EReal) := by
  show Ideal.exp ((if p then ((s : ℝ) : EReal) else ⊥) - ((r : ℝ) : EReal)) = _
  split_ifs
  · rw [← EReal.coe_sub, Ideal.exp_coe]
  · rw [EReal.bot_sub, Ideal.exp_bot]; rfl

theorem max_bot (r : ℝ) : (FloatOps.maximumf (F := Idealize.ShloMosaic.Ideal) (φ := .f32) (⊥ : EReal) ((r : ℝ) : EReal) : EReal) = ((r : ℝ) : EReal) :=
  max_eq_right bot_le

theorem v45_r (hM : IsM x0 x1 M) (i : S16x4096x4096.Idx) : val_main_v45 (F := Idealize.ShloMosaic.Ideal) x0 x1 i = ((M (i 0).val (i 1).val : ℝ) : EReal) := by
  rw [val_main_v45_apply, val_main_v44_apply, val_main_v34_apply, val_main_v33_apply, val_main_cst_3_apply, hM _, ninf]
  exact max_bot _

theorem v47_r (H : Args x0 x1 x2 pr cr dr) (hM : IsM x0 x1 M) (i : S16x4096x4096.Idx) :
    val_main_v47 (F := Idealize.ShloMosaic.Ideal) x0 x1 i = ((gE pr cr M (i 0).val (i 1).val (i 2).val : ℝ) : EReal) := by
  rw [val_main_v47_apply, val_main_v46_apply, v26_r H, v45_r hM]
  exact exp_row _ _ _

theorem v48_r (H : Args x0 x1 x2 pr cr dr) (hM : IsM x0 x1 M) (i : S16x4096.Idx) :
    val_main_v48 (F := Idealize.ShloMosaic.Ideal) x0 x1 i = ((gL pr cr M (i 0).val (i 1).val : ℝ) : EReal) := by
  simp only [val_main_v48_apply, v47_r H hM, val_main_cst_9_apply]
  rw [zero_w, zero_add]
  exact coe_sum 4096 (fun k => gE pr cr M (i 0).val (i 1).val k)

theorem v51_r (H : Args x0 x1 x2 pr cr dr) (hM : IsM x0 x1 M) (i : S16x4096x4096.Idx) :
    val_main_v51 (F := Idealize.ShloMosaic.Ideal) x0 x1 i = ((gP pr cr M (i 0).val (i 1).val (i 2).val : ℝ) : EReal) := by
  simp only [val_main_v51_apply, v47_r H hM, val_main_v50_apply, val_main_v49_apply, v48_r H hM]
  refine (Ideal.div_coe (gL_ne _ _) _).trans ?_
  rw [← EReal.coe_mul]
  exact congrArg _ (mul_one_div _ _)

theorem v54_r (H : Args x0 x1 x2 pr cr dr) (hM : IsM x0 x1 M) (i : S16x4096x1.Idx) :
    val_main_v54 (F := Idealize.ShloMosaic.Ideal) x0 x1 i = ((1 / (gL pr cr M (i 0).val (i 1).val * gL pr cr M (i 0).val (i 1).val) : ℝ) : EReal) := by
  simp only [val_main_v54_apply, val_main_v53_apply, val_main_cst_10_apply, val_main_v52_apply, val_main_v49_apply, v48_r H hM]
  rw [one_w]
  refine (congrArg (Ideal.div _) (EReal.coe_mul _ _).symm).trans ?_
  refine (Ideal.div_coe (mul_ne_zero (gL_ne _ _) (gL_ne _ _)) _).trans ?_
  rw [← EReal.coe_mul, one_mul]

theorem v57_r (H : Args x0 x1 x2 pr cr dr) (hM : IsM x0 x1 M) (i : S4096x1024.Idx) :
    val_main_v57 (F := Idealize.ShloMosaic.Ideal) x0 x1 i = ((gOr pr cr M (i 0).val (i 1).val : ℝ) : EReal) := by
  have h0 : (i 0).val < 4096 := (i 0).isLt
  have h1 : (i 1).val < 1024 := (i 1).isLt
  simp only [val_main_v57_apply, val_main_v56_apply, val_main_v55_apply, v51_r H hM, v11_r H]
  have e0 : ((i 0).val * 1024 + (i 1).val) / 1024 = (i 0).val := by omega
  have e1 : ((i 0).val * 1024 + (i 1).val) / 64 % 16 = (i 1).val / 64 := by omega
  have e2 : 64 * ((i 1).val / 64) + ((i 0).val * 1024 + (i 1).val) % 64 = (i 1).val := by omega
  have := coe_dot 4096 (fun k => gP pr cr M ((i 1).val / 64) (i 0).val k) (fun k => pr k (2048 + (i 1).val))
  refine Eq.trans (Finset.sum_congr rfl fun k _ => congrArg₂ (fun a b : ℝ => (a : EReal) * (b : EReal)) ?_ ?_) this
  · show gP pr cr M (((i 0).val * 1024 + (i 1).val) / 64 % 16) (((i 0).val * 1024 + (i 1).val) / 1024) k.val = _
    rw [e0, e1]
  · show pr k.val (2048 + (64 * (((i 0).val * 1024 + (i 1).val) / 64 % 16) + ((i 0).val * 1024 + (i 1).val) % 64)) = _
    rw [e1, e2]

theorem v58_r (H : Args x0 x1 x2 pr cr dr) (i : S4096x1024.Idx) :
    val_main_v58_2 (F := Idealize.ShloMosaic.Ideal) x0 i = ((sg (pr (i 0).val (3072 + (i 1).val)) : ℝ) : EReal) := by
  simp only [val_main_v58_2_apply, val_main_call1_v4_apply, val_main_call1_v3_apply, val_main_call1_v2_apply, val_main_call1_v1_apply, val_main_call1_v0_apply,
    val_main_call1_cst_apply, val_main_call1_cst_0_apply, val_main_v3_apply, H.a0]
  rw [one_w]
  show Ideal.div ((1 : ℝ) : EReal) (((1 : ℝ) : EReal) + Ideal.exp (-((pr (i 0).val (3072 + (i 1).val) : ℝ) : EReal))) = _
  rw [← EReal.coe_neg, Ideal.exp_coe, ← EReal.coe_add, Ideal.div_coe (by positivity), ← EReal.coe_mul, one_mul]
  rfl

theorem v3_r (H : Args x0 x1 x2 pr cr dr) (i : S4096x1024.Idx) :
    val_main_v3 (F := Idealize.ShloMosaic.Ideal) x0 i = ((pr (i 0).val (3072 + (i 1).val) : ℝ) : EReal) := by
  simp only [val_main_v3_apply, H.a0]

theorem v61_r (H : Args x0 x1 x2 pr cr dr) (i : S4096x1024.Idx) :
    val_main_v61 (F := Idealize.ShloMosaic.Ideal) x0 x2 i = ((gDo pr dr (i 0).val (i 1).val : ℝ) : EReal) := by
  simp only [val_main_v61_apply, val_main_v58_0_apply, v58_r H, v3_r H, H.a2]
  unfold gDo
  rw [EReal.coe_mul, EReal.coe_mul]
  rfl

/-- The gradient of the gate. -/
theorem v100_r (H : Args x0 x1 x2 pr cr dr) (hM : IsM x0 x1 M) (i : S4096x1024.Idx) :
    val_main_v100 (F := Idealize.ShloMosaic.Ideal) x0 x1 x2 i = ((dgate (fun r C => pr r (3072 + C)) (gOr pr cr M) dr (i 0).val (i 1).val : ℝ) : EReal) := by
  simp only [val_main_v100_apply, val_main_v62_apply, val_main_call2_v1_apply, val_main_call2_v2_apply, val_main_call2_v0_apply, val_main_v60_apply, val_main_v58_1_apply,
    val_main_call1_v7_apply, val_main_call1_v6_apply, val_main_call1_cst_1_apply, v58_r H, v3_r H, v57_r H hM, H.a2]
  rw [one_w]
  show (((gOr pr cr M (i 0).val (i 1).val : ℝ) : EReal) * ((dr (i 0).val (i 1).val : ℝ) : EReal)) * ((sg (pr (i 0).val (3072 + (i 1).val)) : ℝ) : EReal)
    + (((pr (i 0).val (3072 + (i 1).val) : ℝ) : EReal) * (((gOr pr cr M (i 0).val (i 1).val : ℝ) : EReal) * ((dr (i 0).val (i 1).val : ℝ) : EReal)))
      * (((sg (pr (i 0).val (3072 + (i 1).val)) : ℝ) : EReal) * (((1 : ℝ) : EReal) - ((sg (pr (i 0).val (3072 + (i 1).val)) : ℝ) : EReal))) = _
  simp only [← EReal.coe_mul, ← EReal.coe_add, ← EReal.coe_sub]
  refine congrArg _ ?_
  unfold dgate
  ring

theorem v64_r (H : Args x0 x1 x2 pr cr dr) (i : S16x4096x64.Idx) :
    val_main_v64 (F := Idealize.ShloMosaic.Ideal) x0 x2 i = ((gDo pr dr (i 1).val (64 * (i 0).val + (i 2).val) : ℝ) : EReal) := by
  have h0 : (i 0).val < 16 := (i 0).isLt
  have h2 : (i 2).val < 64 := (i 2).isLt
  simp only [val_main_v64_apply, val_main_v63_apply, v61_r H]
  refine congrArg _ (congrArg₂ (gDo pr dr) ?_ ?_)
  · show (((i 1).val * 16 + (i 0).val) * 64 + (i 2).val) / 1024 = _
    omega
  · show (((i 1).val * 16 + (i 0).val) * 64 + (i 2).val) % 1024 = _
    omega

theorem v67_r (H : Args x0 x1 x2 pr cr dr) (i : S16x4096x4096.Idx) :
    val_main_v67 (F := Idealize.ShloMosaic.Ideal) x0 x2 i = ((gDp pr dr (i 0).val (i 1).val (i 2).val : ℝ) : EReal) := by
  simp only [val_main_v67_apply, v64_r H, v11_r H]
  exact coe_dot 64 (fun d => gDo pr dr (i 1).val (64 * (i 0).val + d)) (fun d => pr (i 2).val (2048 + (64 * (i 0).val + d)))

theorem v71_r (H : Args x0 x1 x2 pr cr dr) (hM : IsM x0 x1 M) (i : S16x4096.Idx) :
    val_main_v71 (F := Idealize.ShloMosaic.Ideal) x0 x1 x2 i = ((∑ k ∈ Finset.range 4096, gDp pr dr (i 0).val (i 1).val k
      * (1 / (gL pr cr M (i 0).val (i 1).val * gL pr cr M (i 0).val (i 1).val)) * gE pr cr M (i 0).val (i 1).val k : ℝ) : EReal) := by
  simp only [val_main_v71_apply, val_main_v70_apply, val_main_v69_apply, val_main_v68_apply, v67_r H, v54_r H hM, v47_r H hM, val_main_cst_11_apply]
  rw [zero_w, zero_add, ← coe_sum 4096 (fun k => gDp pr dr (i 0).val (i 1).val k
      * (1 / (gL pr cr M (i 0).val (i 1).val * gL pr cr M (i 0).val (i 1).val)) * gE pr cr M (i 0).val (i 1).val k)]
  refine Finset.sum_congr rfl fun k _ => ?_
  rw [EReal.coe_mul, EReal.coe_mul]
  rfl

theorem v76_r (H : Args x0 x1 x2 pr cr dr) (hM : IsM x0 x1 M) (i : S16x4096.Idx) :
    val_main_v76 (F := Idealize.ShloMosaic.Ideal) x0 x1 x2 i = ((-∑ k ∈ Finset.range 4096, gDp pr dr (i 0).val (i 1).val k
      * (1 / (gL pr cr M (i 0).val (i 1).val * gL pr cr M (i 0).val (i 1).val)) * gE pr cr M (i 0).val (i 1).val k : ℝ) : EReal) := by
  have h0 : (i 0).val < 16 := (i 0).isLt
  have h1 : (i 1).val < 4096 := (i 1).isLt
  rw [val_main_v76_apply, Fin.sum_univ_one, val_main_cst_12_apply, zero_w, zero_add, val_main_v73_apply, val_main_v72_apply, v71_r H hM, EReal.coe_neg]
  have e0 : (((i 0).val * 4096 + (i 1).val) * 1 + 0) / 4096 = (i 0).val := by omega
  have e1 : (((i 0).val * 4096 + (i 1).val) * 1 + 0) % 4096 = (i 1).val := by omega
  have key : ∀ a b : ℕ, a = (i 0).val → b = (i 1).val → (-((∑ k ∈ Finset.range 4096, gDp pr dr a b k
      * (1 / (gL pr cr M a b * gL pr cr M a b)) * gE pr cr M a b k : ℝ) : EReal)) = -((∑ k ∈ Finset.range 4096, gDp pr dr (i 0).val (i 1).val k
      * (1 / (gL pr cr M (i 0).val (i 1).val * gL pr cr M (i 0).val (i 1).val)) * gE pr cr M (i 0).val (i 1).val k : ℝ) : EReal) := by
    rintro _ _ rfl rfl
    rfl
  exact key _ _ e0 e1

/-- The gradient of the scores. -/
theorem v80_r (H : Args x0 x1 x2 pr cr dr) (hM : IsM x0 x1 M) (i : S16x4096x4096.Idx) :
    val_main_v80 (F := Idealize.ShloMosaic.Ideal) x0 x1 x2 i = ((gDs pr cr dr (gOr pr cr M) (gLr pr cr M) (i 0).val (i 1).val (i 2).val : ℝ) : EReal) := by
  rw [val_main_v80_apply, bit_r, gDs_eq, val_main_v79_apply, val_main_v78_apply, val_main_v75_apply, v67_r H, v47_r H hM]
  simp only [val_main_v77_apply, val_main_v74_apply, val_main_v49_apply, v76_r H hM, v48_r H hM, val_main_call3_v0_apply, val_main_call3_cst_apply]
  rw [zero_w]
  split_ifs
  · rw [EReal.coe_mul, EReal.coe_add]
    refine congrArg (· * _) (congrArg (· + _) ?_)
    refine (Ideal.div_coe (gL_ne _ _) _).trans ?_
    rw [← EReal.coe_mul]
    exact congrArg _ (mul_one_div _ _)
  · rfl

/-- The gradient of the keys. -/
theorem v101_r (H : Args x0 x1 x2 pr cr dr) (hM : IsM x0 x1 M) (i : S4096x1024.Idx) :
    val_main_v101 (F := Idealize.ShloMosaic.Ideal) x0 x1 x2 i = ((∑ q ∈ Finset.range 4096, gDs pr cr dr (gOr pr cr M) (gLr pr cr M) ((i 1).val / 64) q (i 0).val * (pr q (i 1).val * (1 / 8)) : ℝ) : EReal) := by
  have h0 : (i 0).val < 4096 := (i 0).isLt
  have h1 : (i 1).val < 1024 := (i 1).isLt
  have e0 : ((i 0).val * 1024 + (i 1).val) / 1024 = (i 0).val := by omega
  have e1 : ((i 0).val * 1024 + (i 1).val) / 64 % 16 = (i 1).val / 64 := by omega
  have e2 : 64 * ((i 1).val / 64) + ((i 0).val * 1024 + (i 1).val) % 64 = (i 1).val := by omega
  simp only [val_main_v101_apply, val_main_v94_apply, val_main_v93_apply, val_main_v89_apply, v80_r H hM, v7_r H]
  refine Eq.trans (Finset.sum_congr rfl fun k _ => congrArg₂ (fun a b : ℝ => (a : EReal) * (b : EReal)) ?_ ?_)
    (coe_dot 4096 (fun k => gDs pr cr dr (gOr pr cr M) (gLr pr cr M) ((i 1).val / 64) k (i 0).val) (fun k => pr k (i 1).val * (1 / 8)))
  · show gDs pr cr dr (gOr pr cr M) (gLr pr cr M) (((i 0).val * 1024 + (i 1).val) / 64 % 16) k.val (((i 0).val * 1024 + (i 1).val) / 1024) = _
    rw [e0, e1]
  · show pr k.val (64 * (((i 0).val * 1024 + (i 1).val) / 64 % 16) + (((i 0).val * 1024 + (i 1).val) % 64)) * (1 / 8) = _
    rw [e1, e2]

/-- The gradient of the queries. -/
theorem v99_r (H : Args x0 x1 x2 pr cr dr) (hM : IsM x0 x1 M) (i : S4096x1024.Idx) :
    val_main_v99 (F := Idealize.ShloMosaic.Ideal) x0 x1 x2 i = (((∑ k ∈ Finset.range 4096, gDs pr cr dr (gOr pr cr M) (gLr pr cr M) ((i 1).val / 64) (i 0).val k * pr k (1024 + (i 1).val)) * (1 / 8) : ℝ) : EReal) := by
  have h0 : (i 0).val < 4096 := (i 0).isLt
  have h1 : (i 1).val < 1024 := (i 1).isLt
  have e0 : ((i 0).val * 1024 + (i 1).val) / 1024 = (i 0).val := by omega
  have e1 : ((i 0).val * 1024 + (i 1).val) / 64 % 16 = (i 1).val / 64 := by omega
  have e2 : 64 * ((i 1).val / 64) + ((i 0).val * 1024 + (i 1).val) % 64 = (i 1).val := by omega
  simp only [val_main_v99_apply, val_main_v98_apply, val_main_v97_apply, val_main_v96_apply, val_main_v95_apply, val_main_cst_17_apply, val_main_v90_apply, v80_r H hM, v9_r H]
  rw [EReal.coe_mul]
  refine congrArg₂ (· * ·) ?_ eighth
  refine Eq.trans (Finset.sum_congr rfl fun k _ => congrArg₂ (fun a b : ℝ => (a : EReal) * (b : EReal)) ?_ ?_)
    (coe_dot 4096 (fun k => gDs pr cr dr (gOr pr cr M) (gLr pr cr M) ((i 1).val / 64) (i 0).val k) (fun k => pr k (1024 + (i 1).val)))
  · show gDs pr cr dr (gOr pr cr M) (gLr pr cr M) (((i 0).val * 1024 + (i 1).val) / 64 % 16) (((i 0).val * 1024 + (i 1).val) / 1024) k.val = _
    rw [e0, e1]
  · show pr k.val (1024 + (64 * (((i 0).val * 1024 + (i 1).val) / 64 % 16) + (((i 0).val * 1024 + (i 1).val) % 64))) = _
    rw [e1, e2]

/-- The gradient of the values. -/
theorem v102_r (H : Args x0 x1 x2 pr cr dr) (hM : IsM x0 x1 M) (i : S4096x1024.Idx) :
    val_main_v102 (F := Idealize.ShloMosaic.Ideal) x0 x1 x2 i = ((∑ q ∈ Finset.range 4096, gW pr cr (gLr pr cr M) ((i 1).val / 64) q (i 0).val * gDo pr dr q (i 1).val : ℝ) : EReal) := by
  have h0 : (i 0).val < 4096 := (i 0).isLt
  have h1 : (i 1).val < 1024 := (i 1).isLt
  have e0 : ((i 0).val * 1024 + (i 1).val) / 1024 = (i 0).val := by omega
  have e1 : ((i 0).val * 1024 + (i 1).val) / 64 % 16 = (i 1).val / 64 := by omega
  have e2 : 64 * ((i 1).val / 64) + ((i 0).val * 1024 + (i 1).val) % 64 = (i 1).val := by omega
  simp only [val_main_v102_apply, val_main_v92_apply, val_main_v91_apply, val_main_v66_apply, val_main_v65_apply, v64_r H, v51_r H hM]
  have ec : (∑ q ∈ Finset.range 4096, gW pr cr (gLr pr cr M) ((i 1).val / 64) q (i 0).val * gDo pr dr q (i 1).val)
      = ∑ q ∈ Finset.range 4096, gDo pr dr q (i 1).val * gP pr cr M ((i 1).val / 64) q (i 0).val :=
    Finset.sum_congr rfl fun q _ => by rw [gW_eq, mul_comm]
  rw [ec]
  refine Eq.trans (Finset.sum_congr rfl fun k _ => congrArg₂ (fun a b : ℝ => (a : EReal) * (b : EReal)) ?_ ?_)
    (coe_dot 4096 (fun q => gDo pr dr q (i 1).val) (fun q => gP pr cr M ((i 1).val / 64) q (i 0).val))
  · show gDo pr dr k.val (64 * (((i 0).val * 1024 + (i 1).val) / 64 % 16) + (((i 0).val * 1024 + (i 1).val) % 64)) = _
    rw [e1, e2]
  · show gP pr cr M (((i 0).val * 1024 + (i 1).val) / 64 % 16) k.val (((i 0).val * 1024 + (i 1).val) / 1024) = _
    rw [e0, e1]

theorem v82_r (H : Args x0 x1 x2 pr cr dr) (hM : IsM x0 x1 M) (i : S16x4096.Idx) :
    val_main_v82 (F := Idealize.ShloMosaic.Ideal) x0 x1 x2 i = ((-∑ q ∈ Finset.range 4096, gDs pr cr dr (gOr pr cr M) (gLr pr cr M) (i 0).val q (i 1).val : ℝ) : EReal) := by
  simp only [val_main_v82_apply, val_main_v81_apply, v80_r H hM, val_main_cst_13_apply]
  rw [zero_w, zero_add, ← Finset.sum_neg_distrib, ← coe_sum 4096 (fun q => -gDs pr cr dr (gOr pr cr M) (gLr pr cr M) (i 0).val q (i 1).val)]
  exact Finset.sum_congr rfl fun k _ => (EReal.coe_neg _).symm

theorem v85_r (H : Args x0 x1 x2 pr cr dr) (hM : IsM x0 x1 M) (i : S16x4096.Idx) :
    val_main_v85 (F := Idealize.ShloMosaic.Ideal) x0 x1 x2 i = ((∑ k ∈ Finset.range 4096, gDs pr cr dr (gOr pr cr M) (gLr pr cr M) (i 0).val (i 1).val k : ℝ) : EReal) := by
  simp only [val_main_v85_apply, v80_r H hM, val_main_cst_15_apply]
  rw [zero_w, zero_add]
  exact coe_sum 4096 (fun k => gDs pr cr dr (gOr pr cr M) (gLr pr cr M) (i 0).val (i 1).val k)

theorem v84_r (H : Args x0 x1 x2 pr cr dr) (hM : IsM x0 x1 M) (i : S16x4096.Idx) :
    val_main_v84 (F := Idealize.ShloMosaic.Ideal) x0 x1 x2 i = ((-∑ q ∈ Finset.range 4096, gDs pr cr dr (gOr pr cr M) (gLr pr cr M) (i 0).val q (i 1).val : ℝ) : EReal) := by
  have h0 : (i 0).val < 16 := (i 0).isLt
  have h1 : (i 1).val < 4096 := (i 1).isLt
  rw [val_main_v84_apply, Fin.sum_univ_one, val_main_cst_14_apply, zero_w, zero_add, val_main_v83_apply, v82_r H hM]
  have e0 : (((i 0).val * 1 + 0) * 4096 + (i 1).val) / 4096 = (i 0).val := by omega
  have e1 : (((i 0).val * 1 + 0) * 4096 + (i 1).val) % 4096 = (i 1).val := by omega
  have key : ∀ a b : ℕ, a = (i 0).val → b = (i 1).val → ((-∑ q ∈ Finset.range 4096, gDs pr cr dr (gOr pr cr M) (gLr pr cr M) a q b : ℝ) : EReal)
      = ((-∑ q ∈ Finset.range 4096, gDs pr cr dr (gOr pr cr M) (gLr pr cr M) (i 0).val q (i 1).val : ℝ) : EReal) := by
    rintro _ _ rfl rfl
    rfl
  exact key _ _ e0 e1

theorem v87_r (H : Args x0 x1 x2 pr cr dr) (hM : IsM x0 x1 M) (i : S16x4096.Idx) :
    val_main_v87 (F := Idealize.ShloMosaic.Ideal) x0 x1 x2 i = ((∑ k ∈ Finset.range 4096, gDs pr cr dr (gOr pr cr M) (gLr pr cr M) (i 0).val (i 1).val k : ℝ) : EReal) := by
  have h0 : (i 0).val < 16 := (i 0).isLt
  have h1 : (i 1).val < 4096 := (i 1).isLt
  rw [val_main_v87_apply, Fin.sum_univ_one, val_main_cst_16_apply, zero_w, zero_add, val_main_v86_apply, v85_r H hM]
  have e0 : (((i 0).val * 4096 + (i 1).val) * 1 + 0) / 4096 = (i 0).val := by omega
  have e1 : (((i 0).val * 4096 + (i 1).val) * 1 + 0) % 4096 = (i 1).val := by omega
  have key : ∀ a b : ℕ, a = (i 0).val → b = (i 1).val → ((∑ k ∈ Finset.range 4096, gDs pr cr dr (gOr pr cr M) (gLr pr cr M) a b k : ℝ) : EReal)
      = ((∑ k ∈ Finset.range 4096, gDs pr cr dr (gOr pr cr M) (gLr pr cr M) (i 0).val (i 1).val k : ℝ) : EReal) := by
    rintro _ _ rfl rfl
    rfl
  exact key _ _ e0 e1

/-- The gradient of the decay. -/
theorem v88_r (H : Args x0 x1 x2 pr cr dr) (hM : IsM x0 x1 M) (i : S16x4096.Idx) :
    val_main_v88 (F := Idealize.ShloMosaic.Ideal) x0 x1 x2 i = ((∑ k ∈ Finset.range 4096, gDs pr cr dr (gOr pr cr M) (gLr pr cr M) (i 0).val (i 1).val k
      + -∑ q ∈ Finset.range 4096, gDs pr cr dr (gOr pr cr M) (gLr pr cr M) (i 0).val q (i 1).val : ℝ) : EReal) := by
  rw [val_main_v88_apply, v84_r H hM, v87_r H hM, add_comm, EReal.coe_add]
  rfl

end Cert.Reference2Ideal.Read

end
-- ==== Proof.Flash.Host.lean ====
/- The arrays the attention backward call is handed. -/
module

public import proofs.«01_k».proof.Proof.Flash.Final
public import proofs.«01_k».proof.Proof.Flash.Ref
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Flash

variable (m : (ℓ : Loc nD τ sig) → Buf (Elt Idealize.ShloMosaic.Ideal) ℓ) (c : Dev nD)

open Cert.Reference2Ideal.Read in
theorem v34_eq (x0 : (⟨Cert.Reference2Ideal.S4096x4096, .f32⟩ : BufTy).Contents (Elt Idealize.ShloMosaic.Ideal)) (x1 : (⟨Cert.Reference2Ideal.S16x4096, .f32⟩ : BufTy).Contents (Elt Idealize.ShloMosaic.Ideal)) :
    val_main_v34 (F := Idealize.ShloMosaic.Ideal) x0 x1 = val_main_v27 (F := Idealize.ShloMosaic.Ideal) x0 x1 := by
  funext i
  rw [val_main_v34_apply, val_main_v33_apply, val_main_cst_3_apply, ninf]
  exact max_eq_right bot_le

open Cert.Reference2Ideal.Read in
theorem V38 : V m c main_v38 = val_main_v57 (F := Idealize.ShloMosaic.Ideal) (m ((c.tc : Thread nD τ).loc main_arg0)) (m ((c.tc : Thread nD τ).loc main_arg1)) := by
  unfold V V0
  simp only [hostOps0, hostOps0_1, hostOps0_2, List.flatten_cons, List.flatten_nil, List.append_nil, List.cons_append, List.nil_append]
  after_reads_simp
  unfold val_main_v57 val_main_v56 val_main_v55 val_main_v51 val_main_v50 val_main_v49 val_main_v48 val_main_v47 val_main_v46 val_main_v45 val_main_v44
  rw [v34_eq]
  rfl

/-- The saved logarithm from the rows' maxima, sums and decays. -/
def lpF (x27 x48 x1 : FVec Idealize.ShloMosaic.Ideal S16x4096 .f32) : FVec Idealize.ShloMosaic.Ideal S16x4096x128 .f32 :=
  broadcastInDim S16x4096x128 ![0, 1, 2] bcast_S16x4096x1_S16x4096x128_0_1_2
    (subf (addf (broadcastInDim S16x4096x1 ![0, 1] bcast_S16x4096_S16x4096x1_0_1 x27)
      (Host.log (broadcastInDim S16x4096x1 ![0, 1] bcast_S16x4096_S16x4096x1_0_1 x48)))
      (broadcastInDim S16x4096x1 ![0, 1] bcast_S16x4096_S16x4096x1_0_1 x1))

theorem lpF_at (x27 x48 x1 : FVec Idealize.ShloMosaic.Ideal S16x4096 .f32) (h : Fin 16) (r : Fin 4096) (l : Fin 128) :
    lpF x27 x48 x1 (ix3 h r l) = (x27 (ix2 h r) + Ideal.log (x48 (ix2 h r)) - x1 (ix2 h r) : EReal) := by
  unfold lpF
  pointwise

open Cert.Reference2Ideal.Read in
theorem V43 : V m c main_v43 = lpF (val_main_v27 (F := Idealize.ShloMosaic.Ideal) (m ((c.tc : Thread nD τ).loc main_arg0)) (m ((c.tc : Thread nD τ).loc main_arg1))) (val_main_v48 (F := Idealize.ShloMosaic.Ideal) (m ((c.tc : Thread nD τ).loc main_arg0)) (m ((c.tc : Thread nD τ).loc main_arg1))) (m ((c.tc : Thread nD τ).loc main_arg1)) := by
  unfold V V0
  simp only [hostOps0, hostOps0_1, hostOps0_2, List.flatten_cons, List.flatten_nil, List.append_nil, List.cons_append, List.nil_append]
  after_reads_simp
  unfold lpF val_main_v48 val_main_v47 val_main_v46 val_main_v45 val_main_v44
  rw [v34_eq]
  rfl

theorem Varg0 : V m c main_arg0 = m ((c.tc : Thread nD τ).loc main_arg0) := V_main_arg0 m c
theorem Varg2 : V m c main_arg2 = m ((c.tc : Thread nD τ).loc main_arg2) := V_main_arg2 m c

theorem V44 (j : Fin 8) (h : Fin 2) (n : Fin 8) (y : Fin 512) : V m c main_v44 (ix4 j h n y)
    = m ((c.tc : Thread nD τ).loc main_arg1) (ix2 ⟨2 * j.val + h.val, by omega⟩ ⟨512 * n.val + y.val, by omega⟩) := by
  unfold V V0
  simp only [hostOps0, hostOps0_1, hostOps0_2, List.flatten_cons, List.flatten_nil, List.append_nil, List.cons_append, List.nil_append]
  after_reads_at
  exact congrArg _ (congrArg₂ ix2 (Fin.ext (by show j.val * 2 + h.val = 2 * j.val + h.val; omega)) (Fin.ext (by show n.val * 512 + y.val = 512 * n.val + y.val; omega)))

open Cert.Reference2Ideal.Read in
/-- What the call is handed, at real arguments. -/
theorem entry {pr cr dr : ℕ → ℕ → ℝ} (H : Args (m ((c.tc : Thread nD τ).loc main_arg0)) (m ((c.tc : Thread nD τ).loc main_arg1)) (m ((c.tc : Thread nD τ).loc main_arg2)) pr cr dr)
    {M : ℕ → ℕ → ℝ} (hM : IsM (m ((c.tc : Thread nD τ).loc main_arg0)) (m ((c.tc : Thread nD τ).loc main_arg1)) M) : Entry m c pr cr dr (gOr pr cr M) (gLr pr cr M) where
  pr r l := by rw [Varg0]; exact H.a0 _
  cr j h n y := by rw [V44]; exact H.a1 _
  Or r l := by rw [V38]; exact v57_r H hM _
  dr r l := by rw [Varg2]; exact H.a2 _
  lr h r l := by
    rw [V43, lpF_at, hM _, v48_r H hM, H.a1]
    show ((M h.val r.val : ℝ) : EReal) + Ideal.log ((gL pr cr M h.val r.val : ℝ) : EReal) - ((cr h.val r.val : ℝ) : EReal) = _
    rw [Ideal.log_coe, if_neg (not_le.mpr (gL_pos _)), ← EReal.coe_add, ← EReal.coe_sub]
    rfl

end Cert.Kernel2Ideal.Value

end
-- ==== Proof.Finite.lean ====
/- What a finite argument is: an array of real numbers. -/
module

public import proofs.«01_k».proof.Proof.Dcum.Math
public import Idealize.ShloMosaic.Lib.Pointwise

@[expose] public section

noncomputable section

open Idealize.ShloMosaic

namespace Cert.Finite

/-- An element whose size is below infinity is a real number. -/
theorem real_of_abs (x : EReal) (h : Ideal.cmp .olt (max x (-x)) ⊤ = 1#1) : x = ((EReal.toReal x : ℝ) : EReal) := by
  induction x with
  | bot => simp [Ideal.cmp] at h
  | top => simp [Ideal.cmp] at h
  | coe a => rfl

/-- The number an array of two axes holds at a row and a column, and zero outside it. -/
def realAt {a b : ℕ} (x : (⟨2, ![a, b]⟩ : Shape).Idx → EReal) (r k : ℕ) : ℝ :=
  if h : r < a ∧ k < b then EReal.toReal (x (ix2 ⟨r, h.1⟩ ⟨k, h.2⟩)) else 0

theorem realAt_eq {a b : ℕ} (x : (⟨2, ![a, b]⟩ : Shape).Idx → EReal) (hx : ∀ i, Ideal.cmp .olt (max (x i) (-(x i))) ⊤ = 1#1)
    (i : (⟨2, ![a, b]⟩ : Shape).Idx) : x i = ((realAt x (i 0).val (i 1).val : ℝ) : EReal) := by
  obtain ⟨p, q, rfl⟩ := Cert.Dcum.ix2_surj i
  have e : realAt x p.val q.val = EReal.toReal (x (ix2 p q)) := by
    unfold realAt
    rw [dif_pos ⟨p.isLt, q.isLt⟩]
  show x (ix2 p q) = ((realAt x p.val q.val : ℝ) : EReal)
  rw [e]
  exact real_of_abs _ (hx _)

theorem top_f32 : (FloatOps.ofBits .f32 0x7F800000#32 : Idealize.ShloMosaic.Ideal .f32) = (⊤ : EReal) := by
  show Ideal.ofBits .f32 _ = _
  simp [Ideal.ofBits, Ideal.ieee]

/-- The number an array of one axis holds at a place, and zero outside it. -/
def realAt1 {a : ℕ} (x : (⟨1, ![a]⟩ : Shape).Idx → EReal) (k : ℕ) : ℝ :=
  if h : k < a then EReal.toReal (x (ix1 ⟨k, h⟩)) else 0

theorem realAt1_eq {a : ℕ} (x : (⟨1, ![a]⟩ : Shape).Idx → EReal) (hx : ∀ i, Ideal.cmp .olt (max (x i) (-(x i))) ⊤ = 1#1)
    (i : (⟨1, ![a]⟩ : Shape).Idx) : x i = ((realAt1 x (i 0).val : ℝ) : EReal) := by
  have hi : i = ix1 (i 0) := by
    funext b
    refine Fin.cases ?_ (fun b => b.elim0) b
    rfl
  have e : realAt1 x (i 0).val = EReal.toReal (x i) := by
    unfold realAt1
    refine (dif_pos (show (i 0).val < a from (i 0).isLt)).trans ?_
    exact congrArg (fun j => EReal.toReal (x j)) hi.symm
  rw [e]
  exact real_of_abs _ (hx _)

theorem top_bf16 : (FloatOps.ofBits .bf16 0x7F80#16 : Idealize.ShloMosaic.Ideal .bf16) = (⊤ : EReal) := by
  show Ideal.ofBits .bf16 _ = _
  simp [Ideal.ofBits, Ideal.ieee]

end Cert.Finite

end
end
-- ==== Proof.Flash.Run.lean ====
/- The run of the attention backward call with the sum after it, and what finite arguments are. -/
module

public import proofs.«01_k».proof.Proof.Flash.Host
public import proofs.«01_k».proof.Defs
public import proofs.«01_k».proof.Proof.Gen.Pre_finite2
public import proofs.«01_k».proof.Proof.Finite
public import Idealize.ShloMosaic.Lib.Pipeline.FrameSuffix

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Flash Cert.Finite

variable (m : (ℓ : Loc nD τ sig) → Buf (Elt Idealize.ShloMosaic.Ideal) ℓ) (ρ : Dev nD → PrngReg) (c : Dev nD)

/-- The sum of the two parts of the decay gradient, as the lines after the call form it. -/
def tailF (x4 : FVec Idealize.ShloMosaic.Ideal S8x8x2x512 .f32) (x5 : FVec Idealize.ShloMosaic.Ideal S8x2x8x512 .f32) :
    FVec Idealize.ShloMosaic.Ideal S16x4096 .f32 :=
  shapeCast S16x4096 (addf (transpose S8x2x8x512 [0, 2, 1, 3] x4 transposes_S8x8x2x512_S8x2x8x512_0_2_1_3) x5) shapeCasts_S8x2x8x512_S16x4096

theorem tail48 : Pipeline.afterTail₀ cfgs (dats m) 0 (V0 m) [hostOps1] c main_v48
    = tailF ((dats m 0 c).arrAt 12 cfg0.N) ((dats m 0 c).arrAt 13 cfg0.N) := by
  have h12 := Pipeline.withArrays_arr_shared spec0 c (V0 m c) (fun w => (dats m 0 c).arrAt w cfg0.N)
    ((dats m 0 c).arrAt_sharedIn sharedIn0 (V0 m c) (A_eq m c) cfg0.N) 12
  have h13 := Pipeline.withArrays_arr_shared spec0 c (V0 m c) (fun w => (dats m 0 c).arrAt w cfg0.N)
    ((dats m 0 c).arrAt_sharedIn sharedIn0 (V0 m c) (A_eq m c) cfg0.N) 13
  unfold Pipeline.afterTail₀
  simp only [hostOps1, List.flatten_cons, List.flatten_nil, List.append_nil]
  after_reads_simp
  unfold tailF
  dsimp only at h12 h13
  rw [← h12, ← h13]
  rfl

theorem tailF_at (x4 : FVec Idealize.ShloMosaic.Ideal S8x8x2x512 .f32) (x5 : FVec Idealize.ShloMosaic.Ideal S8x2x8x512 .f32)
    (j : Fin 8) (h : Fin 2) (n : Fin 8) (y : Fin 512) (i : Fin 16) (r : Fin 4096) (hi : i.val = 2 * j.val + h.val) (hr : r.val = 512 * n.val + y.val) :
    tailF x4 x5 (ix2 i r) = x4 (ix4 j n h y) + x5 (ix4 j h n y) := by
  unfold tailF
  rw [show (ix2 i r : S16x4096.Idx) = ix2 ⟨2 * j.val + h.val, by omega⟩ ⟨512 * n.val + y.val, by omega⟩ from by
    congr 1 <;> exact Fin.ext (by assumption)]
  pointwise

theorem run_blocks : θ_run defs (onTc (τ := τ) (main (F := Idealize.ShloMosaic.Ideal))) ⟨m, fun _ => 0, ρ⟩ fun r => ∀ c : Dev nD,
      r.2.mem ((c : Thread nD τ).loc main_v45_0) = (dats m 0 c).arrAt 8 cfg0.N
      ∧ r.2.mem ((c : Thread nD τ).loc main_v45_1) = (dats m 0 c).arrAt 9 cfg0.N
      ∧ r.2.mem ((c : Thread nD τ).loc main_v45_2) = (dats m 0 c).arrAt 10 cfg0.N
      ∧ r.2.mem ((c : Thread nD τ).loc main_v45_3) = (dats m 0 c).arrAt 11 cfg0.N
      ∧ r.2.mem ((c : Thread nD τ).loc main_v48) = tailF ((dats m 0 c).arrAt 12 cfg0.N) ((dats m 0 c).arrAt 13 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 8, (h.1 c).1 9, (h.1 c).1 10, (h.1 c).1 11,
      ((h.1 c).2 main_v48 (Pipeline.mem_restRefs_of main_v48 (by decide) (by decide))).trans (tail48 m c), h.2 c⟩)
    (θ_run_and (run_main m ρ) (unchanged m ρ))

/-- What the precondition says of each argument's elements. -/
theorem args_real (h : Cert.Pre_Kernel2Ideal_finite2 m) :
    Cert.Reference2Ideal.Read.Args (m ((c.tc : Thread nD τ).loc main_arg0)) (m ((c.tc : Thread nD τ).loc main_arg1)) (m ((c.tc : Thread nD τ).loc main_arg2))
      (realAt (m ((c.tc : Thread nD τ).loc main_arg0))) (realAt (m ((c.tc : Thread nD τ).loc main_arg1))) (realAt (m ((c.tc : Thread nD τ).loc main_arg2))) := by
  obtain ⟨h0, h1, h2⟩ := h c
  refine ⟨realAt_eq _ fun i => ?_, realAt_eq _ fun i => ?_, realAt_eq _ fun i => ?_⟩
  · have e := congrFun h0 i
    rw [← top_f32]
    exact e
  · have e := congrFun h1 i
    rw [← top_f32]
    exact e
  · have e := congrFun h2 i
    rw [← top_f32]
    exact e

end Cert.Kernel2Ideal.Value

end
end
-- ==== Proof.Ln.Math.lean ====
/- The gradient of a row norm over the reals: the reference's form of it and the kernel's. -/
module

public import proofs.«01_k».proof.Proof.Flash.Tile

@[expose] public section

noncomputable section

open Idealize.ShloMosaic

namespace Cert.Ln

open Finset Cert.Flash

def eps : ℝ := 10995116 / 1099511627776

theorem eps_pos : 0 < eps := by unfold eps; norm_num

theorem zero_w : (FloatOps.ofBits (F := Idealize.ShloMosaic.Ideal) FTy.f32 0x00000000#32 : EReal) = 0 := Ideal.ofBits_zero_f32
theorem one_w : (FloatOps.ofBits (F := Idealize.ShloMosaic.Ideal) FTy.f32 0x3F800000#32 : EReal) = ((1 : ℝ) : EReal) := Ideal.ofBits_one_f32
theorem two_w : (FloatOps.ofBits (F := Idealize.ShloMosaic.Ideal) FTy.f32 0x40000000#32 : EReal) = ((2 : ℝ) : EReal) := by
  show Ideal.ofBits FTy.f32 _ = _
  simp [Ideal.ofBits, Ideal.ieee]; norm_num [← EReal.coe_mul]
theorem half_w : (FloatOps.ofBits (F := Idealize.ShloMosaic.Ideal) FTy.f32 0x3F000000#32 : EReal) = ((1 / 2 : ℝ) : EReal) := by
  show Ideal.ofBits FTy.f32 _ = _
  simp [Ideal.ofBits, Ideal.ieee]; norm_num [← EReal.coe_mul]
theorem nhalf_w : (FloatOps.ofBits (F := Idealize.ShloMosaic.Ideal) FTy.f32 0xBF000000#32 : EReal) = ((-(1 / 2) : ℝ) : EReal) := by
  show Ideal.ofBits FTy.f32 _ = _
  simp [Ideal.ofBits, Ideal.ieee]; norm_num [← EReal.coe_mul, ← EReal.coe_neg]
theorem k_w : (FloatOps.ofBits (F := Idealize.ShloMosaic.Ideal) FTy.f32 0x44800000#32 : EReal) = ((1024 : ℝ) : EReal) := by
  show Ideal.ofBits FTy.f32 _ = _
  simp [Ideal.ofBits, Ideal.ieee]; norm_num [← EReal.coe_mul]
theorem kth_w : (FloatOps.ofBits (F := Idealize.ShloMosaic.Ideal) FTy.f32 0x3A800000#32 : EReal) = ((1 / 1024 : ℝ) : EReal) := by
  show Ideal.ofBits FTy.f32 _ = _
  simp [Ideal.ofBits, Ideal.ieee]; norm_num [← EReal.coe_mul]
theorem hkth_w : (FloatOps.ofBits (F := Idealize.ShloMosaic.Ideal) FTy.f32 0x3A000000#32 : EReal) = ((1 / 2048 : ℝ) : EReal) := by
  show Ideal.ofBits FTy.f32 _ = _
  simp [Ideal.ofBits, Ideal.ieee]; norm_num [← EReal.coe_mul]
theorem eps_w : (FloatOps.ofBits (F := Idealize.ShloMosaic.Ideal) FTy.f32 0x3727C5AC#32 : EReal) = ((eps : ℝ) : EReal) := by
  show Ideal.ofBits FTy.f32 _ = _
  unfold eps
  simp [Ideal.ofBits, Ideal.ieee]; norm_num [← EReal.coe_mul]

/-- The residual scale of the step, as the literal both programs hold. -/
def al : ℝ := 14107901 / 8388608

theorem al_w : (FloatOps.ofBits (F := Idealize.ShloMosaic.Ideal) FTy.f32 0x3FD744FD#32 : EReal) = ((al : ℝ) : EReal) := by
  show Ideal.ofBits FTy.f32 _ = _
  unfold al
  simp [Ideal.ofBits, Ideal.ieee]; norm_num [← EReal.coe_mul]

theorem div_k (a : ℝ) : Ideal.div ((a : ℝ) : EReal) (FloatOps.ofBits (F := Idealize.ShloMosaic.Ideal) FTy.f32 0x44800000#32) = ((a * (1 / 1024) : ℝ) : EReal) := by
  rw [k_w]
  exact (Ideal.div_coe (by norm_num) _).trans (EReal.coe_mul _ _).symm

theorem div_pos (a b : ℝ) (h : 0 < b) : Ideal.div ((a : ℝ) : EReal) ((b : ℝ) : EReal) = ((a * (1 / b) : ℝ) : EReal) :=
  (Ideal.div_coe h.ne' _).trans (EReal.coe_mul _ _).symm

theorem rsqrt_pos (s : ℝ) (h : 0 < s) : Ideal.rsqrt ((s : ℝ) : EReal) = (((Real.sqrt s)⁻¹ : ℝ) : EReal) := by
  rw [Ideal.rsqrt_coe, if_neg (by linarith), if_neg h.ne']

variable (z : ℕ → ℕ → ℝ)

def mu (r : ℕ) : ℝ := (∑ k ∈ range 1024, z r k) * (1 / 1024)
def zc (r k : ℕ) : ℝ := z r k - mu z r
def sv (r : ℕ) : ℝ := (∑ k ∈ range 1024, zc z r k * zc z r k) * (1 / 1024) + eps
def rs (r : ℕ) : ℝ := (Real.sqrt (sv z r))⁻¹
def zh (r k : ℕ) : ℝ := zc z r k * rs z r

theorem sv_pos (r : ℕ) : 0 < sv z r := by
  have h : 0 ≤ ∑ k ∈ range 1024, zc z r k * zc z r k := Finset.sum_nonneg fun k _ => mul_self_nonneg _
  have := eps_pos
  unfold sv
  positivity

theorem rs_sq (r : ℕ) : rs z r * rs z r = 1 / sv z r := by
  unfold rs
  rw [← mul_inv, Real.mul_self_sqrt (sv_pos z r).le, one_div]

theorem sum_zc (r : ℕ) : ∑ k ∈ range 1024, zc z r k = 0 := by
  unfold zc
  rw [Finset.sum_sub_distrib, Finset.sum_const, card_range, nsmul_eq_mul]
  unfold mu
  push_cast
  ring

variable (w : ℕ → ℕ → ℝ)

/-- The kernel's form of the row gradient. -/
def dz (r k : ℕ) : ℝ :=
  rs z r * (w r k - (∑ j ∈ range 1024, w r j) * (1 / 1024) - zh z r k * ((∑ j ∈ range 1024, w r j * zh z r j) * (1 / 1024)))

/-- What the reference's derivative of the reciprocal root passes on. -/
def qv (r : ℕ) : ℝ := (∑ j ∈ range 1024, zc z r j * w r j) * (-(1 / 2) * (rs z r * (1 / sv z r))) * (1 / 1024)

theorem dz_eq (r k : ℕ) : w r k * rs z r + qv z w r * (2 * zc z r k)
      + ((∑ j ∈ range 1024, -(w r j * rs z r)) + ∑ j ∈ range 1024, -(qv z w r * (2 * zc z r j))) * (1 / 1024)
    = dz z w r k := by
  have e1 : ∑ j ∈ range 1024, -(w r j * rs z r) = -((∑ j ∈ range 1024, w r j) * rs z r) := by
    rw [Finset.sum_neg_distrib, Finset.sum_mul]
  have e2 : ∑ j ∈ range 1024, -(qv z w r * (2 * zc z r j)) = 0 := by
    rw [Finset.sum_neg_distrib, ← Finset.mul_sum, ← Finset.mul_sum, sum_zc]
    ring
  have e3 : ∑ j ∈ range 1024, w r j * zh z r j = (∑ j ∈ range 1024, zc z r j * w r j) * rs z r := by
    rw [Finset.sum_mul]
    exact Finset.sum_congr rfl fun j _ => by unfold zh; ring
  rw [e1, e2]
  unfold dz qv
  rw [e3, ← rs_sq]
  unfold zh
  ring

/-- The kernel's row gradient, as its operations form it. -/
theorem dz_row (r k : ℕ) :
    (((rs z r : ℝ) : EReal) * ((w r k : ℝ) - Ideal.div (∑ x : Fin 1024, ((w r x.val : ℝ) : EReal)) (Ideal.ofBits FTy.f32 0x44800000#32)
      - ((zh z r k : ℝ) : EReal) * Ideal.div (∑ x : Fin 1024, ((w r x.val : ℝ) : EReal) * ((zh z r x.val : ℝ) : EReal)) (Ideal.ofBits FTy.f32 0x44800000#32)))
      = ((dz z w r k : ℝ) : EReal) := by
  have d : ∀ a : ℝ, Ideal.div ((a : ℝ) : EReal) (Ideal.ofBits FTy.f32 0x44800000#32) = ((a * (1 / 1024) : ℝ) : EReal) := div_k
  rw [coe_sum 1024 (fun x => w r x), coe_dot 1024 (fun x => w r x) (fun x => zh z r x), d, d, ← EReal.coe_sub, ← EReal.coe_mul, ← EReal.coe_sub, ← EReal.coe_mul]
  rfl

/-- A running sum over blocks of rows takes its next block. -/
theorem block_sum (f : ℕ → ℝ) (B t : ℕ) :
    ((∑ r ∈ range (B * t), f r : ℝ) : EReal) + ∑ r : Fin B, ((f (B * t + r.val) : ℝ) : EReal) = ((∑ r ∈ range (B * (t + 1)), f r : ℝ) : EReal) := by
  rw [coe_sum B (fun r => f (B * t + r)), ← EReal.coe_add, Nat.mul_succ, Finset.sum_range_add]

/-- The cotangent of the norm before its scale. -/
def wv (g : ℕ → ℝ) (dy : ℕ → ℕ → ℝ) (r k : ℕ) : ℝ := dy r k * g k

/-- The error of the norm against its target, and the cotangent the loss gives the norm. -/
def er3 (g b : ℕ → ℝ) (t : ℕ → ℕ → ℝ) (r k : ℕ) : ℝ := zh z r k * g k + b k - t r k
def dy3 (g b : ℕ → ℝ) (t : ℕ → ℕ → ℝ) (r k : ℕ) : ℝ := er3 z g b t r k * (1 / 1024)

/-- The cotangent the following product gives the norm. -/
def dy4 (p w e : ℕ → ℕ → ℝ) (r k : ℕ) : ℝ := (∑ j ∈ range 2048, p r j * w k j) + al * e r k

end Cert.Ln

end
end
-- ==== Proof.Ln.Kernel3.lean ====
/- What the loss's call leaves in its five results. -/
module

public import proofs.«01_k».proof.Proof.Gen.Kernel3Ideal.Frame
public import proofs.«01_k».proof.Proof.Ln.Math
public import Idealize.ShloMosaic.Lib.Pipeline.ValueKit

@[expose] public section

set_option maxRecDepth 16384

noncomputable section

open Idealize.ShloMosaic Idealize.ShloMosaic.TcCoe Idealize.SL.Sem Finset
open Idealize.ShloMosaic.Pipeline (Dat)

namespace Cert.Kernel3Ideal.Value

open Cert.Kernel3Ideal Cert.Kernel3Ideal.Gen Cert.Flash Cert.Ln

local notation "I" => Idealize.ShloMosaic.Ideal

variable {m : (ℓ : Loc nD τ sig) → Buf (Elt I) ℓ} {c : Dev nD} {zr : ℕ → ℕ → ℝ} {gr : ℕ → ℝ} {br : ℕ → ℝ} {tr : ℕ → ℕ → ℝ}

/-- The arrays the call reads, at real numbers. -/
structure Entry (m : (ℓ : Loc nD τ sig) → Buf (Elt I) ℓ) (c : Dev nD) (zr : ℕ → ℕ → ℝ) (gr : ℕ → ℝ) (br : ℕ → ℝ) (tr : ℕ → ℕ → ℝ) : Prop where
  out (i : Fin 4096) (k : Fin 1024) : V m c main_v21 (ix2 i k) = ((zh zr i.val k.val * gr k.val + br k.val : ℝ) : EReal)
  tgt (i : Fin 4096) (k : Fin 1024) : V m c main_arg3 (ix2 i k) = ((tr i.val k.val : ℝ) : EReal)
  hat (i : Fin 4096) (k : Fin 1024) : V m c main_v15 (ix2 i k) = ((zh zr i.val k.val : ℝ) : EReal)
  root (i : Fin 4096) : V m c main_v13 (ix2 i 0) = ((rs zr i.val : ℝ) : EReal)
  scale (k : Fin 1024) : V m c main_v22 (ix2 0 k) = ((gr k.val : ℝ) : EReal)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![0, 0] := (by decide +kernel : ∀ t : Fin grid0.N, win0_4.index t = ![0, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])

theorem row_lt (t : Fin cfg0.N) (r : Fin 256) : 256 * t.val + r.val < 4096 := by
  have hN : cfg0.N = 16 := N_0
  have := t.isLt
  omega

variable (E : Entry m c zr gr br tr)
include E

theorem blk0 (t : Fin cfg0.N) (r : Fin 256) (k : Fin 1024) : (iblk m c 0 t (ix2 r k) : EReal) = ((zh zr (256 * t.val + r.val) k.val * gr k.val + br k.val : ℝ) : EReal) := by
  refine Eq.trans ?_ (E.out ⟨_, row_lt t r⟩ k)
  blk_ext [iblk, idx0 t]
theorem blk1 (t : Fin cfg0.N) (r : Fin 256) (k : Fin 1024) : (iblk m c 1 t (ix2 r k) : EReal) = ((tr (256 * t.val + r.val) k.val : ℝ) : EReal) := by
  refine Eq.trans ?_ (E.tgt ⟨_, row_lt t r⟩ k)
  blk_ext [iblk, idx1 t]
theorem blk2 (t : Fin cfg0.N) (r : Fin 256) (k : Fin 1024) : (iblk m c 2 t (ix2 r k) : EReal) = ((zh zr (256 * t.val + r.val) k.val : ℝ) : EReal) := by
  refine Eq.trans ?_ (E.hat ⟨_, row_lt t r⟩ k)
  blk_ext [iblk, idx2 t]
theorem blk3 (t : Fin cfg0.N) (r : Fin 256) : (iblk m c 3 t (ix2 r 0) : EReal) = ((rs zr (256 * t.val + r.val) : ℝ) : EReal) := by
  refine Eq.trans ?_ (E.root ⟨_, row_lt t r⟩)
  blk_ext [iblk, idx3 t]
theorem blk4 (t : Fin cfg0.N) (k : Fin 1024) : (iblk m c 4 t (ix2 0 k) : EReal) = ((gr k.val : ℝ) : EReal) := by
  refine Eq.trans ?_ (E.scale k)
  blk_ext [iblk, idx4 t]

theorem pay5_r (t : Fin cfg0.N) (r : Fin 256) (l : Fin 1024) :
    (k0_pay5 (F := I) (iblk m c 0 t) (iblk m c 1 t) (ix2 r l) : EReal) = ((er3 zr gr br tr (256 * t.val + r.val) l.val : ℝ) : EReal) := by
  unfold k0_pay5
  pointwise
  rw [blk0 E, blk1 E]
  exact (EReal.coe_sub _ _).symm

/-- The cotangent of the norm on one block of rows. -/
theorem pay7_r (t : Fin cfg0.N) (r : Fin 256) (l : Fin 1024) :
    (k0_pay7 (F := I) (iblk m c 0 t) (iblk m c 1 t) (ix2 r l) : EReal) = ((dy3 zr gr br tr (256 * t.val + r.val) l.val : ℝ) : EReal) := by
  unfold k0_pay7
  pointwise
  rw [pay5_r E]
  exact (congrArg (_ * ·) kth_w).trans (EReal.coe_mul _ _).symm

theorem pay10_r (t : Fin cfg0.N) (r : Fin 256) (l : Fin 1024) :
    (k0_pay10 (F := I) (iblk m c 2 t) (ix2 r l) : EReal) = ((zh zr (256 * t.val + r.val) l.val : ℝ) : EReal) := by
  unfold k0_pay10
  pointwise
  exact blk2 E t r l

/-- The loss of the rows up to a point, by lanes. -/
theorem pay6_r (t : Fin cfg0.N) (acc : Vec I S1x1024 .f32) (l : Fin 1024)
    (ha : (acc (ix2 0 l) : EReal) = ((∑ r ∈ range (256 * t.val), er3 zr gr br tr r l.val * er3 zr gr br tr r l.val * (1 / 2048) : ℝ) : EReal)) :
    (k0_pay6 (F := I) (iblk m c 0 t) (iblk m c 1 t) acc (ix2 0 l) : EReal)
      = ((∑ r ∈ range (256 * (t.val + 1)), er3 zr gr br tr r l.val * er3 zr gr br tr r l.val * (1 / 2048) : ℝ) : EReal) := by
  unfold k0_pay6
  pointwise
  have e : ∑ r : Fin 256, ((er3 zr gr br tr (256 * t.val + r.val) l.val * er3 zr gr br tr (256 * t.val + r.val) l.val * (1 / 2048) : ℝ) : EReal)
      = ((∑ r ∈ range 256, er3 zr gr br tr (256 * t.val + r) l.val * er3 zr gr br tr (256 * t.val + r) l.val : ℝ) : EReal) * ((1 / 2048 : ℝ) : EReal) := by
    rw [coe_sum 256 (fun r => er3 zr gr br tr (256 * t.val + r) l.val * er3 zr gr br tr (256 * t.val + r) l.val * (1 / 2048)), ← Finset.sum_mul, EReal.coe_mul]
  rw [ha, ← block_sum, e, ← coe_dot 256 (fun r => er3 zr gr br tr (256 * t.val + r) l.val) fun r => er3 zr gr br tr (256 * t.val + r) l.val]
  refine congrArg (_ + ·) (congrArg₂ (fun a b : EReal => a * b) (Finset.sum_congr rfl fun r _ => ?_) hkth_w)
  rw [pay5_r E]

theorem pay11_r (t : Fin cfg0.N) (acc : Vec I S1x1024 .f32) (l : Fin 1024)
    (ha : (acc (ix2 0 l) : EReal) = ((∑ r ∈ range (256 * t.val), dy3 zr gr br tr r l.val * zh zr r l.val : ℝ) : EReal)) :
    (k0_pay11 (F := I) (iblk m c 0 t) (iblk m c 1 t) (iblk m c 2 t) acc (ix2 0 l) : EReal)
      = ((∑ r ∈ range (256 * (t.val + 1)), dy3 zr gr br tr r l.val * zh zr r l.val : ℝ) : EReal) := by
  unfold k0_pay11
  pointwise
  rw [ha, ← block_sum]
  refine congrArg (_ + ·) (Finset.sum_congr rfl fun r _ => ?_)
  rw [pay7_r E, pay10_r E]
  exact (EReal.coe_mul _ _).symm

theorem pay1_r (t : Fin cfg0.N) (acc : Vec I S1x1024 .f32) (l : Fin 1024)
    (ha : (acc (ix2 0 l) : EReal) = ((∑ r ∈ range (256 * t.val), dy3 zr gr br tr r l.val : ℝ) : EReal)) :
    (k0_pay1 (F := I) (k0_pay7 (iblk m c 0 t) (iblk m c 1 t)) (k0_pay12 acc) (ix2 0 l) : EReal)
      = ((∑ r ∈ range (256 * (t.val + 1)), dy3 zr gr br tr r l.val : ℝ) : EReal) := by
  unfold k0_pay1 k0_pay12
  pointwise
  rw [ha, ← block_sum]
  exact congrArg (_ + ·) (Finset.sum_congr rfl fun r _ => pay7_r E t r l)

theorem pay2_r (t : Fin cfg0.N) (r : Fin 256) (l : Fin 1024) :
    (k0_pay2 (F := I) (k0_pay7 (iblk m c 0 t) (iblk m c 1 t)) (k0_pay10 (iblk m c 2 t)) (iblk m c 4 t) (iblk m c 3 t) (ix2 r l) : EReal)
      = ((dz zr (wv gr (dy3 zr gr br tr)) (256 * t.val + r.val) l.val : ℝ) : EReal) := by
  have ew : ∀ x : Fin 1024, (((dy3 zr gr br tr (256 * t.val + r.val) x.val : ℝ) : EReal) * ((gr x.val : ℝ) : EReal)) = ((wv gr (dy3 zr gr br tr) (256 * t.val + r.val) x.val : ℝ) : EReal) := fun x =>
    (EReal.coe_mul _ _).symm
  unfold k0_pay2
  pointwise
  simp only [pay7_r E, pay10_r E, blk4 E, blk3 E, ew]
  exact dz_row zr _ _ _

theorem pay3_r (t : Fin cfg0.N) (r : Fin 256) (l : Fin 1024) :
    (k0_pay3 (F := I) (k0_pay7 (iblk m c 0 t) (iblk m c 1 t)) (k0_pay10 (iblk m c 2 t)) (iblk m c 4 t) (iblk m c 3 t) (ix2 r l) : EReal)
      = ((dz zr (wv gr (dy3 zr gr br tr)) (256 * t.val + r.val) l.val : ℝ) : EReal) := by
  unfold k0_pay3
  pointwise
  exact pay2_r E t r l

omit E

theorem pay4_r (l : Fin 1024) : (k0_pay4 (F := I) (ix2 0 l) : EReal) = 0 := by
  unfold k0_pay4
  pointwise
theorem pay8_r (l : Fin 1024) : (k0_pay8 (F := I) (ix2 0 l) : EReal) = 0 := by
  unfold k0_pay8
  pointwise
theorem pay9_r (l : Fin 1024) : (k0_pay9 (F := I) (ix2 0 l) : EReal) = 0 := by
  unfold k0_pay9
  pointwise

variable (m c) in
/-- One point's five outputs, over the three running sums it starts from. -/
def ptOut (t : Fin cfg0.N) (s a b : FVec I S1x1024 .f32) :
    FVec I S1x1024 .f32 × FVec I S256x1024 .f32 × FVec I S256x1024 .bf16 × FVec I S1x1024 .f32 × FVec I S1x1024 .f32 :=
  let d := k0_pay7 (F := I) (iblk m c 0 t) (iblk m c 1 t)
  (k0_pay6 (iblk m c 0 t) (iblk m c 1 t) s, k0_pay2 d (k0_pay10 (iblk m c 2 t)) (iblk m c 4 t) (iblk m c 3 t),
    k0_pay3 d (k0_pay10 (iblk m c 2 t)) (iblk m c 4 t) (iblk m c 3 t),
    k0_pay11 (iblk m c 0 t) (iblk m c 1 t) (iblk m c 2 t) a, k0_pay1 d (k0_pay12 b))

theorem outs_A (t : Fin cfg0.N) (h : t.val % 16 = 0) : outsAt0 m c t.val t.isLt = ptOut m c t k0_pay4 k0_pay8 k0_pay9 := by
  rw [outsAt0_A m c t h h]
  unfold ptOut
  refine Prod.ext ?_ (Prod.ext ?_ (Prod.ext ?_ (Prod.ext ?_ ?_))) <;> dsimp only <;> frame_out

theorem outs_B (t : Fin cfg0.N) (h : ¬t.val % 16 = 0) :
    outsAt0 m c t.val t.isLt = (let o := outsAt0 m c (t.val - 1) (Nat.lt_of_le_of_lt (Nat.sub_le _ _) t.isLt)
      ptOut m c t o.1 o.2.2.2.1 o.2.2.2.2) := by
  rw [outsAt0_B m c t h h]
  unfold ptOut
  refine Prod.ext ?_ (Prod.ext ?_ (Prod.ext ?_ (Prod.ext ?_ ?_))) <;> dsimp only <;> frame_out

include E

/-- The three running sums after point `n`. -/
theorem carry (l : Fin 1024) : ∀ (n : ℕ) (h : n < cfg0.N),
    ((outsAt0 m c n h).1 (ix2 0 l) : EReal) = ((∑ r ∈ range (256 * (n + 1)), er3 zr gr br tr r l.val * er3 zr gr br tr r l.val * (1 / 2048) : ℝ) : EReal)
      ∧ ((outsAt0 m c n h).2.2.2.1 (ix2 0 l) : EReal) = ((∑ r ∈ range (256 * (n + 1)), dy3 zr gr br tr r l.val * zh zr r l.val : ℝ) : EReal)
      ∧ ((outsAt0 m c n h).2.2.2.2 (ix2 0 l) : EReal) = ((∑ r ∈ range (256 * (n + 1)), dy3 zr gr br tr r l.val : ℝ) : EReal)
  | 0, h => by
    have e := outs_A (m := m) (c := c) ⟨0, h⟩ rfl
    dsimp only at e
    rw [e]
    exact ⟨pay6_r E ⟨0, h⟩ _ l (by rw [pay4_r]; simp), pay11_r E ⟨0, h⟩ _ l (by rw [pay8_r]; simp), pay1_r E ⟨0, h⟩ _ l (by rw [pay9_r]; simp)⟩
  | n + 1, h => by
    have hN : cfg0.N = 16 := N_0
    have ih := carry l n (by omega)
    have e := outs_B (m := m) (c := c) ⟨n + 1, h⟩ (by dsimp only; omega)
    dsimp only [Nat.add_sub_cancel] at e
    rw [e]
    exact ⟨pay6_r E ⟨n + 1, h⟩ _ l ih.1, pay11_r E ⟨n + 1, h⟩ _ l ih.2.1, pay1_r E ⟨n + 1, h⟩ _ l ih.2.2⟩

theorem out6 (t : Fin cfg0.N) (r : Fin 256) (l : Fin 1024) :
    ((outsAt0 m c t.val t.isLt).2.1 (ix2 r l) : EReal) = ((dz zr (wv gr (dy3 zr gr br tr)) (256 * t.val + r.val) l.val : ℝ) : EReal)
      ∧ ((outsAt0 m c t.val t.isLt).2.2.1 (ix2 r l) : EReal) = ((dz zr (wv gr (dy3 zr gr br tr)) (256 * t.val + r.val) l.val : ℝ) : EReal) := by
  by_cases h : t.val % 16 = 0
  · rw [outs_A t h]; exact ⟨pay2_r E t r l, pay3_r E t r l⟩
  · rw [outs_B t h]; exact ⟨pay2_r E t r l, pay3_r E t r l⟩

theorem final6 : (dats m 0 c).arrAt 6 cfg0.N = fun i : S4096x1024.Idx => ((dz zr (wv gr (dy3 zr gr br tr)) (i 0).val (i 1).val : ℝ) : EReal) := by
  refine (dats m 0 c).arrAt_eq_of_covers 6 _ (by decide +kernel) fun t hf y => ?_
  blk_simp
  rw [after0_6]
  idx_vars y
  refine (out6 E t y0 y1).1.trans (congrArg Real.toEReal (congrArg₂ (dz zr _) ?_ ?_))
  · rw [idx6 t]; show _ = t.val * 256 + _; omega
  · rw [idx6 t]; show _ = 0 * 1024 + _; omega

theorem final7 : (dats m 0 c).arrAt 7 cfg0.N = fun i : S4096x1024.Idx => ((dz zr (wv gr (dy3 zr gr br tr)) (i 0).val (i 1).val : ℝ) : EReal) := by
  refine (dats m 0 c).arrAt_eq_of_covers 7 _ (by decide +kernel) fun t hf y => ?_
  blk_simp
  rw [after0_7]
  idx_vars y
  refine (out6 E t y0 y1).2.trans (congrArg Real.toEReal (congrArg₂ (dz zr _) ?_ ?_))
  · rw [idx7 t]; show _ = t.val * 256 + _; omega
  · rw [idx7 t]; show _ = 0 * 1024 + _; omega

omit E in
theorem row0 (j : S1x1024.Idx) : j = ix2 0 (j 1) := by
  have := (j 0).isLt
  funext a
  refine Fin.cases ?_ (fun a => Fin.cases ?_ (fun a => a.elim0) a) a
  · exact Fin.ext (by show (j 0).val = 0; change (j 0).val < 1 at this; omega)
  · rfl

theorem final5 : (dats m 0 c).arrAt 5 cfg0.N
    = fun i : S1x1024.Idx => ((∑ r ∈ range 4096, er3 zr gr br tr r (i 1).val * er3 zr gr br tr r (i 1).val * (1 / 2048) : ℝ) : EReal) := by
  refine (dats m 0 c).arrAt_eq_of_after_last 5 t0_15 (by decide +kernel) _ fun j => ?_
  rw [after0_5]
  exact (congrArg (outsAt0 m c 15 (by decide)).1 (row0 j)).trans (carry E (j 1) 15 (by decide)).1

theorem final8 : (dats m 0 c).arrAt 8 cfg0.N = fun i : S1x1024.Idx => ((∑ r ∈ range 4096, zh zr r (i 1).val * dy3 zr gr br tr r (i 1).val : ℝ) : EReal) := by
  refine (dats m 0 c).arrAt_eq_of_after_last 8 t0_15 (by decide +kernel) _ fun j => ?_
  rw [after0_8]
  refine (congrArg (outsAt0 m c 15 (by decide)).2.2.2.1 (row0 j)).trans ((carry E (j 1) 15 (by decide)).2.1.trans ?_)
  exact congrArg Real.toEReal (Finset.sum_congr rfl fun r _ => mul_comm _ _)

theorem final9 : (dats m 0 c).arrAt 9 cfg0.N = fun i : S1x1024.Idx => ((∑ r ∈ range 4096, dy3 zr gr br tr r (i 1).val : ℝ) : EReal) := by
  refine (dats m 0 c).arrAt_eq_of_after_last 9 t0_15 (by decide +kernel) _ fun j => ?_
  rw [after0_9]
  exact (congrArg (outsAt0 m c 15 (by decide)).2.2.2.2 (row0 j)).trans (carry E (j 1) 15 (by decide)).2.2

end Cert.Kernel3Ideal.Value

end
end
-- ==== Proof.Ln.Ref3.lean ====
/- The reference of the loss and of the last norm's backward call, at real arguments. -/
module

public import proofs.«01_k».proof.Proof.Ln.Math
public import proofs.«01_k».proof.Proof.Gen.Reference3Ideal.Read

@[expose] public section

set_option maxRecDepth 16384

noncomputable section

open Idealize.ShloMosaic Idealize.ShloMosaic.TcCoe Idealize.SL.Sem Finset

namespace Cert.Reference3Ideal.Read
open Cert.Reference3Ideal Cert.Flash Cert.Ln

/-- The four arguments at real numbers. -/
structure Args (x0 : S4096x1024.Idx → EReal) (x1 x2 : S1024.Idx → EReal) (x3 : S4096x1024.Idx → EReal) (zr : ℕ → ℕ → ℝ) (gr br : ℕ → ℝ) (tr : ℕ → ℕ → ℝ) : Prop where
  a0 : ∀ i, x0 i = ((zr (i 0).val (i 1).val : ℝ) : EReal)
  a1 : ∀ i, x1 i = ((gr (i 0).val : ℝ) : EReal)
  a2 : ∀ i, x2 i = ((br (i 0).val : ℝ) : EReal)
  a3 : ∀ i, x3 i = ((tr (i 0).val (i 1).val : ℝ) : EReal)

variable {x0 : (⟨S4096x1024, .f32⟩ : BufTy).Contents (Elt Idealize.ShloMosaic.Ideal)} {x1 x2 : (⟨S1024, .f32⟩ : BufTy).Contents (Elt Idealize.ShloMosaic.Ideal)}
  {x3 : (⟨S4096x1024, .f32⟩ : BufTy).Contents (Elt Idealize.ShloMosaic.Ideal)} {zr : ℕ → ℕ → ℝ} {gr br : ℕ → ℝ} {tr : ℕ → ℕ → ℝ}

theorem mean_r (H : Args x0 x1 x2 x3 zr gr br tr) (i : S4096x1.Idx) :
    val_main_v3 (F := Idealize.ShloMosaic.Ideal) x0 i = ((mu zr (i 0).val : ℝ) : EReal) := by
  have e : val_main_v1 (F := Idealize.ShloMosaic.Ideal) x0 i = ((∑ k ∈ range 1024, zr (i 0).val k : ℝ) : EReal) := by
    simp only [val_main_v1_apply, val_main_v0_apply, val_main_cst_apply, H.a0]
    rw [zero_w, zero_add]
    exact coe_sum 1024 (fun k => zr (i 0).val k)
  simp only [val_main_v3_apply, val_main_v2_apply, val_main_cst_0_apply, e]
  exact div_k _

theorem c_r (H : Args x0 x1 x2 x3 zr gr br tr) (i : S4096x1024.Idx) :
    val_main_v14 (F := Idealize.ShloMosaic.Ideal) x0 i = ((zc zr (i 0).val (i 1).val : ℝ) : EReal) := by
  simp only [val_main_v14_apply, val_main_v13_apply, mean_r H, H.a0]
  exact (EReal.coe_sub _ _).symm

theorem c2_r (H : Args x0 x1 x2 x3 zr gr br tr) (i : S4096x1024.Idx) :
    val_main_v5 (F := Idealize.ShloMosaic.Ideal) x0 i = ((zc zr (i 0).val (i 1).val : ℝ) : EReal) := by
  simp only [val_main_v5_apply, val_main_v4_apply, mean_r H, H.a0]
  exact (EReal.coe_sub _ _).symm

theorem tc_r (H : Args x0 x1 x2 x3 zr gr br tr) (i : S4096x1024.Idx) :
    val_main_v8 (F := Idealize.ShloMosaic.Ideal) x0 i = ((2 * zc zr (i 0).val (i 1).val : ℝ) : EReal) := by
  simp only [val_main_v8_apply, val_main_v7_apply, val_main_cst_1_apply, c2_r H]
  rw [EReal.coe_mul]
  exact congrArg (· * _) two_w

theorem sv_r (H : Args x0 x1 x2 x3 zr gr br tr) (i : S4096x1.Idx) :
    val_main_v16 (F := Idealize.ShloMosaic.Ideal) x0 i = ((sv zr (i 0).val : ℝ) : EReal) := by
  have e : val_main_v10 (F := Idealize.ShloMosaic.Ideal) x0 i = ((∑ k ∈ range 1024, zc zr (i 0).val k * zc zr (i 0).val k : ℝ) : EReal) := by
    simp only [val_main_v10_apply, val_main_v9_apply, val_main_cst_2_apply, val_main_v6_apply, c2_r H]
    rw [zero_w, zero_add]
    exact coe_dot 1024 (fun k => zc zr (i 0).val k) fun k => zc zr (i 0).val k
  simp only [val_main_v16_apply, val_main_v12_apply, val_main_v11_apply, val_main_cst_3_apply, val_main_v15_apply, val_main_cst_4_apply, e]
  exact (congrArg₂ (· + ·) (div_k _) eps_w).trans (EReal.coe_add _ _).symm

theorem rs_r (H : Args x0 x1 x2 x3 zr gr br tr) (i : S4096x1.Idx) :
    val_main_v17 (F := Idealize.ShloMosaic.Ideal) x0 i = ((rs zr (i 0).val : ℝ) : EReal) := by
  rw [val_main_v17_apply, sv_r H]
  exact rsqrt_pos _ (sv_pos _ _)

theorem half_r (H : Args x0 x1 x2 x3 zr gr br tr) (i : S4096x1.Idx) :
    val_main_v20 (F := Idealize.ShloMosaic.Ideal) x0 i = ((-(1 / 2) * (rs zr (i 0).val * (1 / sv zr (i 0).val)) : ℝ) : EReal) := by
  simp only [val_main_v20_apply, val_main_v19_apply, val_main_cst_5_apply, val_main_v18_apply, rs_r H, sv_r H]
  rw [EReal.coe_mul]
  exact congrArg₂ (· * ·) nhalf_w (div_pos _ _ (sv_pos _ _))

theorem zh_r (H : Args x0 x1 x2 x3 zr gr br tr) (i : S4096x1024.Idx) :
    val_main_v22 (F := Idealize.ShloMosaic.Ideal) x0 i = ((zh zr (i 0).val (i 1).val : ℝ) : EReal) := by
  simp only [val_main_v22_apply, val_main_v21_apply, c_r H, rs_r H]
  exact (EReal.coe_mul _ _).symm

theorem err_r (H : Args x0 x1 x2 x3 zr gr br tr) (i : S4096x1024.Idx) :
    val_main_v29 (F := Idealize.ShloMosaic.Ideal) x0 x1 x2 x3 i = ((er3 zr gr br tr (i 0).val (i 1).val : ℝ) : EReal) := by
  simp only [val_main_v29_apply, val_main_v28_apply, val_main_v25_apply, val_main_v24_apply, val_main_v23_apply, val_main_v27_apply, val_main_v26_apply, zh_r H, H.a1, H.a2, H.a3]
  unfold er3
  rw [EReal.coe_sub, EReal.coe_add, EReal.coe_mul]
  rfl

theorem dy_r (H : Args x0 x1 x2 x3 zr gr br tr) (i : S4096x1024.Idx) :
    val_main_v43 (F := Idealize.ShloMosaic.Ideal) x0 x1 x2 x3 i = ((dy3 zr gr br tr (i 0).val (i 1).val : ℝ) : EReal) := by
  simp only [val_main_v43_apply, val_main_v42_apply, val_main_v41_apply, val_main_v39_apply, val_main_v38_apply, val_main_v40_apply, val_main_v32_apply, val_main_v31_apply,
    val_main_cst_11_apply, val_main_cst_12_apply, val_main_cst_13_apply, val_main_cst_6_apply, err_r H, half_w, one_w, two_w]
  refine (congrArg₂ (fun a b : EReal => a * b) ((congrArg (Ideal.div · _) (EReal.coe_mul _ _).symm).trans (div_k _)) (EReal.coe_mul _ _).symm).trans ?_
  rw [← EReal.coe_mul]
  unfold dy3
  refine congrArg _ ?_
  ring

/-- The loss. -/
theorem loss_r (H : Args x0 x1 x2 x3 zr gr br tr) (i : S_.Idx) :
    val_main_v37 (F := Idealize.ShloMosaic.Ideal) x0 x1 x2 x3 i
      = ((1 / 2 * ∑ r ∈ range 4096, (∑ k ∈ range 1024, er3 zr gr br tr r k * er3 zr gr br tr r k) * (1 / 1024) : ℝ) : EReal) := by
  have e : ∀ j : S4096.Idx, val_main_v35 (F := Idealize.ShloMosaic.Ideal) x0 x1 x2 x3 j
      = (((∑ k ∈ range 1024, er3 zr gr br tr (j 0).val k * er3 zr gr br tr (j 0).val k) * (1 / 1024) : ℝ) : EReal) := fun j => by
    have e : val_main_v33 (F := Idealize.ShloMosaic.Ideal) x0 x1 x2 x3 j
        = ((∑ k ∈ range 1024, er3 zr gr br tr (j 0).val k * er3 zr gr br tr (j 0).val k : ℝ) : EReal) := by
      simp only [val_main_v33_apply, val_main_cst_7_apply, val_main_v30_apply, err_r H]
      rw [zero_w, zero_add]
      exact coe_dot 1024 (fun k => er3 zr gr br tr (j 0).val k) fun k => er3 zr gr br tr (j 0).val k
    simp only [val_main_v35_apply, val_main_v34_apply, val_main_cst_8_apply, e]
    exact div_k _
  simp only [val_main_v37_apply, val_main_v36_apply, val_main_cst_9_apply, val_main_cst_10_apply, e]
  rw [zero_w, zero_add, EReal.coe_mul]
  exact congrArg₂ (· * ·) half_w (coe_sum 4096 fun r => (∑ k ∈ range 1024, er3 zr gr br tr r k * er3 zr gr br tr r k) * (1 / 1024))

theorem db_r (H : Args x0 x1 x2 x3 zr gr br tr) (i : S1024.Idx) :
    val_main_v46 (F := Idealize.ShloMosaic.Ideal) x0 x1 x2 x3 i = ((∑ r ∈ range 4096, dy3 zr gr br tr r (i 0).val : ℝ) : EReal) := by
  have h0 : 0 * 1024 + (i 0).val = (i 0).val := by omega
  simp only [val_main_v46_apply, val_main_cst_15_apply, val_main_v45_apply, val_main_v44_apply, val_main_cst_14_apply, dy_r H, Fin.sum_univ_one, zero_w, zero_add]
  refine Eq.trans (coe_sum 4096 fun r => dy3 zr gr br tr r (0 * 1024 + (i 0).val)) ?_
  rw [h0]

theorem dg_r (H : Args x0 x1 x2 x3 zr gr br tr) (i : S1024.Idx) :
    val_main_v52 (F := Idealize.ShloMosaic.Ideal) x0 x1 x2 x3 i = ((∑ r ∈ range 4096, zh zr r (i 0).val * dy3 zr gr br tr r (i 0).val : ℝ) : EReal) := by
  have h0 : 0 * 1024 + (i 0).val = (i 0).val := by omega
  simp only [val_main_v52_apply, val_main_cst_17_apply, val_main_v49_apply, val_main_v48_apply, val_main_cst_16_apply, val_main_v47_apply, dy_r H, zh_r H, Fin.sum_univ_one, zero_w, zero_add]
  refine Eq.trans (coe_dot 4096 (fun r => zh zr r (0 * 1024 + (i 0).val)) fun r => dy3 zr gr br tr r (0 * 1024 + (i 0).val)) ?_
  rw [h0]

theorem w_r (H : Args x0 x1 x2 x3 zr gr br tr) (i : S4096x1024.Idx) :
    val_main_v51 (F := Idealize.ShloMosaic.Ideal) x0 x1 x2 x3 i = ((wv gr (dy3 zr gr br tr) (i 0).val (i 1).val : ℝ) : EReal) := by
  simp only [val_main_v51_apply, val_main_v50_apply, val_main_v23_apply, dy_r H, H.a1]
  exact (EReal.coe_mul _ _).symm

theorem a_r (H : Args x0 x1 x2 x3 zr gr br tr) (i : S4096x1.Idx) :
    val_main_v55 (F := Idealize.ShloMosaic.Ideal) x0 x1 x2 x3 i = ((∑ k ∈ range 1024, zc zr (i 0).val k * wv gr (dy3 zr gr br tr) (i 0).val k : ℝ) : EReal) := by
  have h1 : (i 0).val * 1 + (i 1).val = (i 0).val := by have : (i 1).val < 1 := (i 1).isLt; omega
  simp only [val_main_v55_apply, val_main_v54_apply, val_main_cst_18_apply, val_main_v53_apply, c_r H, w_r H, zero_w, zero_add]
  refine Eq.trans (coe_dot 1024 (fun k => zc zr ((i 0).val * 1 + (i 1).val) k) fun k => wv gr (dy3 zr gr br tr) ((i 0).val * 1 + (i 1).val) k) ?_
  rw [h1]

theorem wr_r (H : Args x0 x1 x2 x3 zr gr br tr) (i : S4096x1024.Idx) :
    val_main_v57 (F := Idealize.ShloMosaic.Ideal) x0 x1 x2 x3 i = ((wv gr (dy3 zr gr br tr) (i 0).val (i 1).val * rs zr (i 0).val : ℝ) : EReal) := by
  simp only [val_main_v57_apply, val_main_v56_apply, w_r H, rs_r H]
  exact (EReal.coe_mul _ _).symm

theorem q_r (H : Args x0 x1 x2 x3 zr gr br tr) (i : S4096.Idx) :
    val_main_v64 (F := Idealize.ShloMosaic.Ideal) x0 x1 x2 x3 i = ((qv zr (wv gr (dy3 zr gr br tr)) (i 0).val : ℝ) : EReal) := by
  simp only [val_main_v64_apply, val_main_cst_21_apply, val_main_v63_apply, val_main_v58_apply, val_main_v62_apply, val_main_cst_20_apply, a_r H, half_r H, Fin.sum_univ_one, zero_w, zero_add]
  exact (congrArg (Ideal.div · _) (EReal.coe_mul _ _).symm).trans (div_k _)

theorem q2_r (H : Args x0 x1 x2 x3 zr gr br tr) (i : S4096x1024.Idx) :
    val_main_v66 (F := Idealize.ShloMosaic.Ideal) x0 x1 x2 x3 i = ((qv zr (wv gr (dy3 zr gr br tr)) (i 0).val * (2 * zc zr (i 0).val (i 1).val) : ℝ) : EReal) := by
  simp only [val_main_v66_apply, val_main_v65_apply, q_r H, tc_r H]
  exact (EReal.coe_mul _ _).symm

theorem n1_r (H : Args x0 x1 x2 x3 zr gr br tr) (i : S4096x1024.Idx) :
    val_main_v59 (F := Idealize.ShloMosaic.Ideal) x0 x1 x2 x3 i = ((-(wv gr (dy3 zr gr br tr) (i 0).val (i 1).val * rs zr (i 0).val) : ℝ) : EReal) := by
  rw [val_main_v59_apply, wr_r H]
  exact (EReal.coe_neg _).symm

theorem n1r_r (H : Args x0 x1 x2 x3 zr gr br tr) (i : S4096x1.Idx) :
    val_main_v61 (F := Idealize.ShloMosaic.Ideal) x0 x1 x2 x3 i = ((∑ k ∈ range 1024, -(wv gr (dy3 zr gr br tr) (i 0).val k * rs zr (i 0).val) : ℝ) : EReal) := by
  have h1 : (i 0).val * 1 + (i 1).val = (i 0).val := by have : (i 1).val < 1 := (i 1).isLt; omega
  simp only [val_main_v61_apply, val_main_v60_apply, val_main_cst_19_apply, n1_r H, zero_w, zero_add]
  refine Eq.trans (coe_sum 1024 fun k => -(wv gr (dy3 zr gr br tr) ((i 0).val * 1 + (i 1).val) k * rs zr ((i 0).val * 1 + (i 1).val))) ?_
  rw [h1]

theorem n2_r (H : Args x0 x1 x2 x3 zr gr br tr) (i : S4096x1024.Idx) :
    val_main_v67 (F := Idealize.ShloMosaic.Ideal) x0 x1 x2 x3 i = ((-(qv zr (wv gr (dy3 zr gr br tr)) (i 0).val * (2 * zc zr (i 0).val (i 1).val)) : ℝ) : EReal) := by
  rw [val_main_v67_apply, q2_r H]
  exact (EReal.coe_neg _).symm

theorem n2r_r (H : Args x0 x1 x2 x3 zr gr br tr) (i : S4096x1.Idx) :
    val_main_v69 (F := Idealize.ShloMosaic.Ideal) x0 x1 x2 x3 i = ((∑ k ∈ range 1024, -(qv zr (wv gr (dy3 zr gr br tr)) (i 0).val * (2 * zc zr (i 0).val k)) : ℝ) : EReal) := by
  have h1 : (i 0).val * 1 + (i 1).val = (i 0).val := by have : (i 1).val < 1 := (i 1).isLt; omega
  simp only [val_main_v69_apply, val_main_v68_apply, val_main_cst_22_apply, n2_r H, zero_w, zero_add]
  refine Eq.trans (coe_sum 1024 fun k => -(qv zr (wv gr (dy3 zr gr br tr)) ((i 0).val * 1 + (i 1).val) * (2 * zc zr ((i 0).val * 1 + (i 1).val) k))) ?_
  rw [h1]

/-- The gradient of the row norm. -/
theorem dz_r (H : Args x0 x1 x2 x3 zr gr br tr) (i : S4096x1024.Idx) :
    val_main_v76 (F := Idealize.ShloMosaic.Ideal) x0 x1 x2 x3 i = ((dz zr (wv gr (dy3 zr gr br tr)) (i 0).val (i 1).val : ℝ) : EReal) := by
  simp only [val_main_v76_apply, val_main_v70_apply, val_main_v75_apply, val_main_v74_apply, val_main_cst_24_apply, val_main_v73_apply, val_main_v71_apply, val_main_v72_apply, val_main_cst_23_apply, wr_r H, q2_r H, n1r_r H, n2r_r H, Fin.sum_univ_one, zero_w, zero_add]
  rw [← dz_eq, EReal.coe_add]
  exact congrArg₂ (fun a b : EReal => a + b) (EReal.coe_add _ _).symm ((congrArg (Ideal.div · _) (EReal.coe_add _ _).symm).trans (div_k _))

theorem dzb_r (H : Args x0 x1 x2 x3 zr gr br tr) (i : S4096x1024.Idx) :
    val_main_v77 (F := Idealize.ShloMosaic.Ideal) x0 x1 x2 x3 i = ((dz zr (wv gr (dy3 zr gr br tr)) (i 0).val (i 1).val : ℝ) : EReal) := by
  rw [val_main_v77_apply]
  exact dz_r H i

theorem dgo_r (H : Args x0 x1 x2 x3 zr gr br tr) (i : S1x1024.Idx) :
    val_main_v78 (F := Idealize.ShloMosaic.Ideal) x0 x1 x2 x3 i = ((∑ r ∈ range 4096, zh zr r (i 1).val * dy3 zr gr br tr r (i 1).val : ℝ) : EReal) := by
  rw [val_main_v78_apply]
  exact dg_r H _

theorem dbo_r (H : Args x0 x1 x2 x3 zr gr br tr) (i : S1x1024.Idx) :
    val_main_v79 (F := Idealize.ShloMosaic.Ideal) x0 x1 x2 x3 i = ((∑ r ∈ range 4096, dy3 zr gr br tr r (i 1).val : ℝ) : EReal) := by
  rw [val_main_v79_apply]
  exact db_r H _

end Cert.Reference3Ideal.Read

end
end
-- ==== Proof.Ln.Host3.lean ====
/- The arrays the call is handed, and what finite arguments are. -/
module

public import proofs.«01_k».proof.Proof.Ln.Kernel3
public import proofs.«01_k».proof.Proof.Ln.Ref3
public import proofs.«01_k».proof.Proof.Finite
public import proofs.«01_k».proof.Proof.Gen.Pre_finite3
public import proofs.«01_k».proof.Defs
public import Idealize.ShloMosaic.Lib.StableHlo.ReadAt
public import Idealize.ShloMosaic.Lib.Pipeline.FrameSuffix

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen Cert.Flash Cert.Ln Cert.Finite Cert.Reference3Ideal.Read

local notation "I" => Idealize.ShloMosaic.Ideal

variable (m : (ℓ : Loc nD τ sig) → Buf (Elt I) ℓ) (c : Dev nD)

theorem V_root : V m c main_v13 = val_main_v17 (F := I) (m ((c.tc : Thread nD τ).loc main_arg0)) := by
  unfold V V0
  simp only [hostOps0, List.flatten_cons, List.flatten_nil, List.append_nil, List.cons_append, List.nil_append]
  after_reads_simp
  unfold val_main_v17 val_main_v16 val_main_v15 val_main_v12 val_main_v11 val_main_v10 val_main_v9 val_main_v6 val_main_v5 val_main_v4 val_main_v3 val_main_v2 val_main_v1 val_main_v0
  rfl

theorem V_hat : V m c main_v15 = val_main_v22 (F := I) (m ((c.tc : Thread nD τ).loc main_arg0)) := by
  unfold V V0
  simp only [hostOps0, List.flatten_cons, List.flatten_nil, List.append_nil, List.cons_append, List.nil_append]
  after_reads_simp
  unfold val_main_v22 val_main_v21 val_main_v17 val_main_v16 val_main_v15 val_main_v14 val_main_v13 val_main_v12 val_main_v11 val_main_v10 val_main_v9 val_main_v6 val_main_v5 val_main_v4 val_main_v3 val_main_v2 val_main_v1 val_main_v0
  rfl

theorem V_out : V m c main_v21 = val_main_v28 (F := I) (m ((c.tc : Thread nD τ).loc main_arg0)) (m ((c.tc : Thread nD τ).loc main_arg1)) (m ((c.tc : Thread nD τ).loc main_arg2)) := by
  unfold V V0
  simp only [hostOps0, List.flatten_cons, List.flatten_nil, List.append_nil, List.cons_append, List.nil_append]
  after_reads_simp
  unfold val_main_v28 val_main_v27 val_main_v26 val_main_v25 val_main_v24 val_main_v23 val_main_v22 val_main_v21 val_main_v17 val_main_v16 val_main_v15 val_main_v14 val_main_v13 val_main_v12 val_main_v11 val_main_v10 val_main_v9 val_main_v6 val_main_v5 val_main_v4 val_main_v3 val_main_v2 val_main_v1 val_main_v0
  rfl

theorem V_scale (k : Fin 1024) : V m c main_v22 (ix2 0 k) = (m ((c.tc : Thread nD τ).loc main_arg1)) (ix1 k) := by
  unfold V V0
  simp only [hostOps0, List.flatten_cons, List.flatten_nil, List.append_nil, List.cons_append, List.nil_append]
  after_reads_at

variable {m c} in
/-- What the call is handed, at real arguments. -/
theorem entry {zr : ℕ → ℕ → ℝ} {gr br : ℕ → ℝ} {tr : ℕ → ℕ → ℝ} (H : Args (m ((c.tc : Thread nD τ).loc main_arg0)) (m ((c.tc : Thread nD τ).loc main_arg1)) (m ((c.tc : Thread nD τ).loc main_arg2)) (m ((c.tc : Thread nD τ).loc main_arg3)) zr gr br tr) :
    Entry m c zr gr br tr where
  out i k := by
    rw [V_out, val_main_v28_apply, val_main_v25_apply, val_main_v24_apply, val_main_v23_apply, val_main_v27_apply, val_main_v26_apply, zh_r H, H.a1, H.a2, EReal.coe_add, EReal.coe_mul]
    rfl
  tgt i k := by rw [V_main_arg3 m c]; exact H.a3 _
  hat i k := by rw [V_hat]; exact zh_r H _
  root i := by rw [V_root]; exact rs_r H _
  scale k := by rw [V_scale]; exact H.a1 _

/-- The sum of the loss over the lanes, as the line after the call forms it. -/
def lossF (x : FVec I S1x1024 .f32) : FVec I S_ .f32 := Host.reduceAdd x (constant S_ .f32 0x00000000#32) reducesTo_S1x1024_S_d0_1 h_S_

theorem lossF_at (x : FVec I S1x1024 .f32) (f : ℕ → ℝ) (hx : ∀ k : Fin 1024, (x (ix2 0 k) : EReal) = ((f k.val : ℝ) : EReal)) (i : S_.Idx) :
    (lossF x i : EReal) = ((∑ k ∈ Finset.range 1024, f k : ℝ) : EReal) := by
  unfold lossF
  pointwise
  rw [← coe_sum, Fin.sum_univ_one]
  exact Finset.sum_congr rfl fun k _ => hx k

theorem tail24 : Pipeline.afterTail₀ cfgs (dats m) 0 (V0 m) [hostOps1] c main_v24 = lossF ((dats m 0 c).arrAt 5 cfg0.N) := by
  have h5 := Pipeline.withArrays_arr spec0 launch0.win.arr_inj c (V0 m c) (fun w => (dats m 0 c).arrAt w cfg0.N) 5
  unfold Pipeline.afterTail₀
  simp only [hostOps1, List.flatten_cons, List.flatten_nil, List.append_nil]
  after_reads_simp
  unfold lossF
  dsimp only at h5
  rw [← h5]

theorem run_blocks (ρ : Dev nD → PrngReg) : θ_run defs (onTc (τ := τ) (main (F := I))) ⟨m, fun _ => 0, ρ⟩ fun r => ∀ c : Dev nD,
      r.2.mem ((c : Thread nD τ).loc main_v24) = lossF ((dats m 0 c).arrAt 5 cfg0.N)
      ∧ r.2.mem ((c : Thread nD τ).loc main_v23_1) = (dats m 0 c).arrAt 6 cfg0.N
      ∧ r.2.mem ((c : Thread nD τ).loc main_v23_2) = (dats m 0 c).arrAt 7 cfg0.N
      ∧ r.2.mem ((c : Thread nD τ).loc main_v23_3) = (dats m 0 c).arrAt 8 cfg0.N
      ∧ r.2.mem ((c : Thread nD τ).loc main_v23_4) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).2 main_v24 (Pipeline.mem_restRefs_of main_v24 (by decide) (by decide))).trans (tail24 m c),
      (h.1 c).1 6, (h.1 c).1 7, (h.1 c).1 8, (h.1 c).1 9, h.2 c⟩)
    (θ_run_and (run_main m ρ) (unchanged m ρ))

/-- What the precondition says of each argument's elements. -/
theorem args_real (h : Cert.Pre_Kernel3Ideal_finite3 m) :
    Args (m ((c.tc : Thread nD τ).loc main_arg0)) (m ((c.tc : Thread nD τ).loc main_arg1)) (m ((c.tc : Thread nD τ).loc main_arg2)) (m ((c.tc : Thread nD τ).loc main_arg3))
      (realAt (m ((c.tc : Thread nD τ).loc main_arg0))) (realAt1 (m ((c.tc : Thread nD τ).loc main_arg1))) (realAt1 (m ((c.tc : Thread nD τ).loc main_arg2))) (realAt (m ((c.tc : Thread nD τ).loc main_arg3))) := by
  obtain ⟨h0, h1, h2, h3⟩ := h c
  refine ⟨realAt_eq _ fun i => ?_, realAt1_eq _ fun i => ?_, realAt1_eq _ fun i => ?_, realAt_eq _ fun i => ?_⟩
  · have e := congrFun h0 i
    rw [← top_f32]
    exact e
  · have e := congrFun h1 i
    rw [← top_f32]
    exact e
  · have e := congrFun h2 i
    rw [← top_f32]
    exact e
  · have e := congrFun h3 i
    rw [← top_f32]
    exact e

end Cert.Kernel3Ideal.Value

end
end
-- ==== Proof.Ln.Kernel4.lean ====
/- What the product fused with a norm's gradient leaves in its four results. -/
module

public import proofs.«01_k».proof.Proof.Gen.Kernel4Ideal.Value
public import proofs.«01_k».proof.Proof.Ln.Math
public import Idealize.ShloMosaic.Lib.Pipeline.ValueKit

@[expose] public section

set_option maxRecDepth 16384

noncomputable section

open Idealize.ShloMosaic Idealize.ShloMosaic.TcCoe Idealize.SL.Sem Finset
open Idealize.ShloMosaic.Pipeline (Dat)

namespace Cert.Kernel4Ideal.Value

open Cert.Kernel4Ideal Cert.Kernel4Ideal.Gen Cert.Flash Cert.Ln

local notation "I" => Idealize.ShloMosaic.Ideal

variable {m : (ℓ : Loc nD τ sig) → Buf (Elt I) ℓ} {c : Dev nD} {zr : ℕ → ℕ → ℝ} {gr : ℕ → ℝ} {pr wr er : ℕ → ℕ → ℝ}

/-- The arrays the call reads, at real numbers. -/
structure Entry (m : (ℓ : Loc nD τ sig) → Buf (Elt I) ℓ) (c : Dev nD) (zr : ℕ → ℕ → ℝ) (gr : ℕ → ℝ) (pr wr er : ℕ → ℕ → ℝ) : Prop where
  proj (i : Fin 4096) (k : Fin 2048) : V m c main_arg3 (ix2 i k) = ((pr i.val k.val : ℝ) : EReal)
  wt (i : Fin 1024) (k : Fin 2048) : V m c main_arg4 (ix2 i k) = ((wr i.val k.val : ℝ) : EReal)
  err (i : Fin 4096) (k : Fin 1024) : V m c main_arg5 (ix2 i k) = ((er i.val k.val : ℝ) : EReal)
  hat (i : Fin 4096) (k : Fin 1024) : V m c main_v15 (ix2 i k) = ((zh zr i.val k.val : ℝ) : EReal)
  root (i : Fin 4096) : V m c main_v13 (ix2 i 0) = ((rs zr i.val : ℝ) : EReal)
  scale (k : Fin 1024) : V m c main_v16 (ix2 0 k) = ((gr k.val : ℝ) : EReal)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![0, 0] := (by decide +kernel : ∀ t : Fin grid0.N, win0_5.index t = ![0, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])

theorem row_lt (t : Fin cfg0.N) (r : Fin 512) : 512 * t.val + r.val < 4096 := by
  have hN : cfg0.N = 8 := N_0
  have := t.isLt
  omega

variable (E : Entry m c zr gr pr wr er)
include E

theorem blk0 (t : Fin cfg0.N) (r : Fin 512) (k : Fin 2048) : (iblk m c 0 t (ix2 r k) : EReal) = ((pr (512 * t.val + r.val) k.val : ℝ) : EReal) := by
  refine Eq.trans ?_ (E.proj ⟨_, row_lt t r⟩ k)
  blk_ext [iblk, idx0 t]
theorem blk1 (t : Fin cfg0.N) (r : Fin 1024) (k : Fin 2048) : (iblk m c 1 t (ix2 r k) : EReal) = ((wr r.val k.val : ℝ) : EReal) := by
  refine Eq.trans ?_ (E.wt r k)
  blk_ext [iblk, idx1 t]
theorem blk2 (t : Fin cfg0.N) (r : Fin 512) (k : Fin 1024) : (iblk m c 2 t (ix2 r k) : EReal) = ((er (512 * t.val + r.val) k.val : ℝ) : EReal) := by
  refine Eq.trans ?_ (E.err ⟨_, row_lt t r⟩ k)
  blk_ext [iblk, idx2 t]
theorem blk3 (t : Fin cfg0.N) (r : Fin 512) (k : Fin 1024) : (iblk m c 3 t (ix2 r k) : EReal) = ((zh zr (512 * t.val + r.val) k.val : ℝ) : EReal) := by
  refine Eq.trans ?_ (E.hat ⟨_, row_lt t r⟩ k)
  blk_ext [iblk, idx3 t]
theorem blk4 (t : Fin cfg0.N) (r : Fin 512) : (iblk m c 4 t (ix2 r 0) : EReal) = ((rs zr (512 * t.val + r.val) : ℝ) : EReal) := by
  refine Eq.trans ?_ (E.root ⟨_, row_lt t r⟩)
  blk_ext [iblk, idx4 t]
theorem blk5 (t : Fin cfg0.N) (k : Fin 1024) : (iblk m c 5 t (ix2 0 k) : EReal) = ((gr k.val : ℝ) : EReal) := by
  refine Eq.trans ?_ (E.scale k)
  blk_ext [iblk, idx5 t]

/-- The cotangent of the norm on one block of rows. -/
theorem pay3_r (t : Fin cfg0.N) (r : Fin 512) (l : Fin 1024) :
    (k0_pay3 (F := I) (iblk m c 0 t) (iblk m c 1 t) (iblk m c 2 t) (ix2 r l) : EReal) = ((dy4 pr wr er (512 * t.val + r.val) l.val : ℝ) : EReal) := by
  unfold k0_pay3
  pointwise
  refine (congrArg₂ (fun a b : EReal => a + b) (Eq.trans (Finset.sum_congr rfl fun k _ => congrArg₂ (fun a b : EReal => a * b) (blk0 E t r k) (blk1 E t l k))
    (coe_dot 2048 (fun k => pr (512 * t.val + r.val) k) fun k => wr l.val k)) (congrArg₂ (fun a b : EReal => a * b) al_w (blk2 E t r l))).trans ?_
  unfold dy4
  rw [EReal.coe_add, EReal.coe_mul]

theorem pay6_r (t : Fin cfg0.N) (r : Fin 512) (l : Fin 1024) :
    (k0_pay6 (F := I) (iblk m c 3 t) (ix2 r l) : EReal) = ((zh zr (512 * t.val + r.val) l.val : ℝ) : EReal) := by
  unfold k0_pay6
  pointwise
  exact blk3 E t r l

theorem pay9_r (t : Fin cfg0.N) (r : Fin 512) (l : Fin 1024) :
    (k0_pay9 (F := I) (iblk m c 0 t) (iblk m c 1 t) (iblk m c 2 t) (iblk m c 5 t) (ix2 r l) : EReal)
      = ((wv gr (dy4 pr wr er) (512 * t.val + r.val) l.val : ℝ) : EReal) := by
  unfold k0_pay9
  pointwise
  rw [pay3_r E, blk5 E]
  exact (EReal.coe_mul _ _).symm

theorem pay7_r (t : Fin cfg0.N) (acc : Vec I S1x1024 .f32) (l : Fin 1024)
    (ha : (acc (ix2 0 l) : EReal) = ((∑ r ∈ range (512 * t.val), dy4 pr wr er r l.val * zh zr r l.val : ℝ) : EReal)) :
    (k0_pay7 (F := I) (iblk m c 0 t) (iblk m c 1 t) (iblk m c 2 t) (iblk m c 3 t) acc (ix2 0 l) : EReal)
      = ((∑ r ∈ range (512 * (t.val + 1)), dy4 pr wr er r l.val * zh zr r l.val : ℝ) : EReal) := by
  unfold k0_pay7
  pointwise
  rw [ha, ← block_sum]
  refine congrArg (_ + ·) (Finset.sum_congr rfl fun r _ => ?_)
  rw [pay3_r E, pay6_r E]
  exact (EReal.coe_mul _ _).symm

theorem pay8_r (t : Fin cfg0.N) (acc : Vec I S1x1024 .f32) (l : Fin 1024)
    (ha : (acc (ix2 0 l) : EReal) = ((∑ r ∈ range (512 * t.val), dy4 pr wr er r l.val : ℝ) : EReal)) :
    (k0_pay8 (F := I) (iblk m c 0 t) (iblk m c 1 t) (iblk m c 2 t) acc (ix2 0 l) : EReal)
      = ((∑ r ∈ range (512 * (t.val + 1)), dy4 pr wr er r l.val : ℝ) : EReal) := by
  unfold k0_pay8
  pointwise
  rw [ha, ← block_sum]
  exact congrArg (_ + ·) (Finset.sum_congr rfl fun r _ => pay3_r E t r l)

theorem pay1_r (t : Fin cfg0.N) (r : Fin 512) (l : Fin 1024) :
    (k0_pay1 (F := I) (k0_pay6 (iblk m c 3 t)) (k0_pay9 (iblk m c 0 t) (iblk m c 1 t) (iblk m c 2 t) (iblk m c 5 t))
      (k0_pay10 (iblk m c 0 t) (iblk m c 1 t) (iblk m c 2 t) (iblk m c 5 t)) (iblk m c 4 t) (ix2 r l) : EReal)
      = ((dz zr (wv gr (dy4 pr wr er)) (512 * t.val + r.val) l.val : ℝ) : EReal) := by
  have e10 : (k0_pay10 (F := I) (iblk m c 0 t) (iblk m c 1 t) (iblk m c 2 t) (iblk m c 5 t) (ix1 r) : EReal)
      = ∑ x : Fin 1024, ((wv gr (dy4 pr wr er) (512 * t.val + r.val) x.val : ℝ) : EReal) := by
    unfold k0_pay10
    pointwise
    exact Finset.sum_congr rfl fun x _ => pay9_r E t r x
  unfold k0_pay1
  pointwise
  simp only [e10, pay9_r E, pay6_r E, blk4 E]
  exact dz_row zr _ _ _

theorem pay2_r (t : Fin cfg0.N) (r : Fin 512) (l : Fin 1024) :
    (k0_pay2 (F := I) (k0_pay6 (iblk m c 3 t)) (k0_pay9 (iblk m c 0 t) (iblk m c 1 t) (iblk m c 2 t) (iblk m c 5 t))
      (k0_pay10 (iblk m c 0 t) (iblk m c 1 t) (iblk m c 2 t) (iblk m c 5 t)) (iblk m c 4 t) (ix2 r l) : EReal)
      = ((dz zr (wv gr (dy4 pr wr er)) (512 * t.val + r.val) l.val : ℝ) : EReal) := by
  unfold k0_pay2
  pointwise
  exact pay1_r E t r l

omit E

theorem pay4_r (l : Fin 1024) : (k0_pay4 (F := I) (ix2 0 l) : EReal) = 0 := by
  unfold k0_pay4
  pointwise
theorem pay5_r (l : Fin 1024) : (k0_pay5 (F := I) (ix2 0 l) : EReal) = 0 := by
  unfold k0_pay5
  pointwise

variable (m c) in
/-- One point's four outputs, over the two running sums it starts from. -/
def ptOut (t : Fin cfg0.N) (a b : FVec I S1x1024 .f32) : FVec I S512x1024 .f32 × FVec I S512x1024 .bf16 × FVec I S1x1024 .f32 × FVec I S1x1024 .f32 :=
  let w := k0_pay9 (F := I) (iblk m c 0 t) (iblk m c 1 t) (iblk m c 2 t) (iblk m c 5 t)
  let s := k0_pay10 (F := I) (iblk m c 0 t) (iblk m c 1 t) (iblk m c 2 t) (iblk m c 5 t)
  (k0_pay1 (k0_pay6 (iblk m c 3 t)) w s (iblk m c 4 t), k0_pay2 (k0_pay6 (iblk m c 3 t)) w s (iblk m c 4 t),
    k0_pay7 (iblk m c 0 t) (iblk m c 1 t) (iblk m c 2 t) (iblk m c 3 t) a, k0_pay8 (iblk m c 0 t) (iblk m c 1 t) (iblk m c 2 t) b)

theorem outs_A (t : Fin cfg0.N) (h : t.val % 8 = 0) : outsAt0 m c t.val t.isLt = ptOut m c t k0_pay4 k0_pay5 := by
  rw [outsAt0_A m c t h]
  unfold ptOut
  refine Prod.ext ?_ (Prod.ext ?_ (Prod.ext ?_ ?_)) <;> dsimp only <;> frame_out

theorem outs_B (t : Fin cfg0.N) (h : ¬t.val % 8 = 0) :
    outsAt0 m c t.val t.isLt = (let o := outsAt0 m c (t.val - 1) (Nat.lt_of_le_of_lt (Nat.sub_le _ _) t.isLt)
      ptOut m c t o.2.2.1 o.2.2.2) := by
  rw [outsAt0_B m c t h]
  unfold ptOut
  refine Prod.ext ?_ (Prod.ext ?_ (Prod.ext ?_ ?_)) <;> dsimp only <;> frame_out

include E

/-- The two running sums after point `n`. -/
theorem carry (l : Fin 1024) : ∀ (n : ℕ) (h : n < cfg0.N),
    ((outsAt0 m c n h).2.2.1 (ix2 0 l) : EReal) = ((∑ r ∈ range (512 * (n + 1)), dy4 pr wr er r l.val * zh zr r l.val : ℝ) : EReal)
      ∧ ((outsAt0 m c n h).2.2.2 (ix2 0 l) : EReal) = ((∑ r ∈ range (512 * (n + 1)), dy4 pr wr er r l.val : ℝ) : EReal)
  | 0, h => by
    have e := outs_A (m := m) (c := c) ⟨0, h⟩ rfl
    dsimp only at e
    rw [e]
    exact ⟨pay7_r E ⟨0, h⟩ _ l (by rw [pay4_r]; simp), pay8_r E ⟨0, h⟩ _ l (by rw [pay5_r]; simp)⟩
  | n + 1, h => by
    have hN : cfg0.N = 8 := N_0
    have ih := carry l n (by omega)
    have e := outs_B (m := m) (c := c) ⟨n + 1, h⟩ (by dsimp only; omega)
    dsimp only [Nat.add_sub_cancel] at e
    rw [e]
    exact ⟨pay7_r E ⟨n + 1, h⟩ _ l ih.1, pay8_r E ⟨n + 1, h⟩ _ l ih.2⟩

theorem out6 (t : Fin cfg0.N) (r : Fin 512) (l : Fin 1024) :
    ((outsAt0 m c t.val t.isLt).1 (ix2 r l) : EReal) = ((dz zr (wv gr (dy4 pr wr er)) (512 * t.val + r.val) l.val : ℝ) : EReal)
      ∧ ((outsAt0 m c t.val t.isLt).2.1 (ix2 r l) : EReal) = ((dz zr (wv gr (dy4 pr wr er)) (512 * t.val + r.val) l.val : ℝ) : EReal) := by
  by_cases h : t.val % 8 = 0
  · rw [outs_A t h]; exact ⟨pay1_r E t r l, pay2_r E t r l⟩
  · rw [outs_B t h]; exact ⟨pay1_r E t r l, pay2_r E t r l⟩

theorem final6 : (dats m 0 c).arrAt 6 cfg0.N = fun i : S4096x1024.Idx => ((dz zr (wv gr (dy4 pr wr er)) (i 0).val (i 1).val : ℝ) : EReal) := by
  refine (dats m 0 c).arrAt_eq_of_covers 6 _ (by decide +kernel) fun t hf y => ?_
  blk_simp
  rw [after0_6]
  idx_vars y
  refine (out6 E t y0 y1).1.trans (congrArg Real.toEReal (congrArg₂ (dz zr _) ?_ ?_))
  · rw [idx6 t]; show _ = t.val * 512 + _; omega
  · rw [idx6 t]; show _ = 0 * 1024 + _; omega

theorem final7 : (dats m 0 c).arrAt 7 cfg0.N = fun i : S4096x1024.Idx => ((dz zr (wv gr (dy4 pr wr er)) (i 0).val (i 1).val : ℝ) : EReal) := by
  refine (dats m 0 c).arrAt_eq_of_covers 7 _ (by decide +kernel) fun t hf y => ?_
  blk_simp
  rw [after0_7]
  idx_vars y
  refine (out6 E t y0 y1).2.trans (congrArg Real.toEReal (congrArg₂ (dz zr _) ?_ ?_))
  · rw [idx7 t]; show _ = t.val * 512 + _; omega
  · rw [idx7 t]; show _ = 0 * 1024 + _; omega

omit E in
theorem row0 (j : S1x1024.Idx) : j = ix2 0 (j 1) := by
  have := (j 0).isLt
  funext a
  refine Fin.cases ?_ (fun a => Fin.cases ?_ (fun a => a.elim0) a) a
  · exact Fin.ext (by show (j 0).val = 0; change (j 0).val < 1 at this; omega)
  · rfl

theorem final8 : (dats m 0 c).arrAt 8 cfg0.N = fun i : S1x1024.Idx => ((∑ r ∈ range 4096, zh zr r (i 1).val * dy4 pr wr er r (i 1).val : ℝ) : EReal) := by
  refine (dats m 0 c).arrAt_eq_of_after_last 8 t0_7 (by decide +kernel) _ fun j => ?_
  rw [after0_8]
  refine (congrArg (outsAt0 m c 7 (by decide)).2.2.1 (row0 j)).trans ((carry E (j 1) 7 (by decide)).1.trans ?_)
  exact congrArg Real.toEReal (Finset.sum_congr rfl fun r _ => mul_comm _ _)

theorem final9 : (dats m 0 c).arrAt 9 cfg0.N = fun i : S1x1024.Idx => ((∑ r ∈ range 4096, dy4 pr wr er r (i 1).val : ℝ) : EReal) := by
  refine (dats m 0 c).arrAt_eq_of_after_last 9 t0_7 (by decide +kernel) _ fun j => ?_
  rw [after0_9]
  exact (congrArg (outsAt0 m c 7 (by decide)).2.2.2 (row0 j)).trans (carry E (j 1) 7 (by decide)).2

end Cert.Kernel4Ideal.Value

end
end
-- ==== Proof.Ln.Ref4.lean ====
/- The reference of the product fused with a norm's backward call, at real arguments. -/
module

public import proofs.«01_k».proof.Proof.Ln.Math
public import proofs.«01_k».proof.Proof.Gen.Reference4Ideal.Read

@[expose] public section

set_option maxRecDepth 16384

noncomputable section

open Idealize.ShloMosaic Idealize.ShloMosaic.TcCoe Idealize.SL.Sem Finset

namespace Cert.Reference4Ideal.Read
open Cert.Reference4Ideal Cert.Flash Cert.Ln

/-- The arguments at real numbers. -/
structure Args (x0 : S4096x1024.Idx → EReal) (x1 : S1024.Idx → EReal) (x3 : S4096x2048.Idx → EReal) (x4 : S1024x2048.Idx → EReal) (x5 : S4096x1024.Idx → EReal)
    (zr : ℕ → ℕ → ℝ) (gr : ℕ → ℝ) (pr wr er : ℕ → ℕ → ℝ) : Prop where
  a0 : ∀ i, x0 i = ((zr (i 0).val (i 1).val : ℝ) : EReal)
  a1 : ∀ i, x1 i = ((gr (i 0).val : ℝ) : EReal)
  a3 : ∀ i, x3 i = ((pr (i 0).val (i 1).val : ℝ) : EReal)
  a4 : ∀ i, x4 i = ((wr (i 0).val (i 1).val : ℝ) : EReal)
  a5 : ∀ i, x5 i = ((er (i 0).val (i 1).val : ℝ) : EReal)

variable {x0 : (⟨S4096x1024, .f32⟩ : BufTy).Contents (Elt Idealize.ShloMosaic.Ideal)} {x1 : (⟨S1024, .f32⟩ : BufTy).Contents (Elt Idealize.ShloMosaic.Ideal)} {x3 : (⟨S4096x2048, .bf16⟩ : BufTy).Contents (Elt Idealize.ShloMosaic.Ideal)}
  {x4 : (⟨S1024x2048, .f32⟩ : BufTy).Contents (Elt Idealize.ShloMosaic.Ideal)} {x5 : (⟨S4096x1024, .f32⟩ : BufTy).Contents (Elt Idealize.ShloMosaic.Ideal)} {zr : ℕ → ℕ → ℝ} {gr : ℕ → ℝ} {pr wr er : ℕ → ℕ → ℝ}

theorem mean_r (H : Args x0 x1 x3 x4 x5 zr gr pr wr er) (i : S4096x1.Idx) :
    val_main_v9 (F := Idealize.ShloMosaic.Ideal) x0 i = ((mu zr (i 0).val : ℝ) : EReal) := by
  have e : val_main_v7 (F := Idealize.ShloMosaic.Ideal) x0 i = ((∑ k ∈ range 1024, zr (i 0).val k : ℝ) : EReal) := by
    simp only [val_main_v7_apply, val_main_v6_apply, val_main_cst_0_apply, H.a0]
    rw [zero_w, zero_add]
    exact coe_sum 1024 (fun k => zr (i 0).val k)
  simp only [val_main_v9_apply, val_main_v8_apply, val_main_cst_1_apply, e]
  exact div_k _

theorem c_r (H : Args x0 x1 x3 x4 x5 zr gr pr wr er) (i : S4096x1024.Idx) :
    val_main_v20 (F := Idealize.ShloMosaic.Ideal) x0 i = ((zc zr (i 0).val (i 1).val : ℝ) : EReal) := by
  simp only [val_main_v20_apply, val_main_v19_apply, mean_r H, H.a0]
  exact (EReal.coe_sub _ _).symm

theorem c2_r (H : Args x0 x1 x3 x4 x5 zr gr pr wr er) (i : S4096x1024.Idx) :
    val_main_v11 (F := Idealize.ShloMosaic.Ideal) x0 i = ((zc zr (i 0).val (i 1).val : ℝ) : EReal) := by
  simp only [val_main_v11_apply, val_main_v10_apply, mean_r H, H.a0]
  exact (EReal.coe_sub _ _).symm

theorem tc_r (H : Args x0 x1 x3 x4 x5 zr gr pr wr er) (i : S4096x1024.Idx) :
    val_main_v14 (F := Idealize.ShloMosaic.Ideal) x0 i = ((2 * zc zr (i 0).val (i 1).val : ℝ) : EReal) := by
  simp only [val_main_v14_apply, val_main_v13_apply, val_main_cst_2_apply, c2_r H]
  rw [EReal.coe_mul]
  exact congrArg (· * _) two_w

theorem sv_r (H : Args x0 x1 x3 x4 x5 zr gr pr wr er) (i : S4096x1.Idx) :
    val_main_v22 (F := Idealize.ShloMosaic.Ideal) x0 i = ((sv zr (i 0).val : ℝ) : EReal) := by
  have e : val_main_v16 (F := Idealize.ShloMosaic.Ideal) x0 i = ((∑ k ∈ range 1024, zc zr (i 0).val k * zc zr (i 0).val k : ℝ) : EReal) := by
    simp only [val_main_v16_apply, val_main_v15_apply, val_main_cst_3_apply, val_main_v12_apply, c2_r H]
    rw [zero_w, zero_add]
    exact coe_dot 1024 (fun k => zc zr (i 0).val k) fun k => zc zr (i 0).val k
  simp only [val_main_v22_apply, val_main_v18_apply, val_main_v17_apply, val_main_cst_4_apply, val_main_v21_apply, val_main_cst_5_apply, e]
  exact (congrArg₂ (· + ·) (div_k _) eps_w).trans (EReal.coe_add _ _).symm

theorem rs_r (H : Args x0 x1 x3 x4 x5 zr gr pr wr er) (i : S4096x1.Idx) :
    val_main_v23 (F := Idealize.ShloMosaic.Ideal) x0 i = ((rs zr (i 0).val : ℝ) : EReal) := by
  rw [val_main_v23_apply, sv_r H]
  exact rsqrt_pos _ (sv_pos _ _)

theorem half_r (H : Args x0 x1 x3 x4 x5 zr gr pr wr er) (i : S4096x1.Idx) :
    val_main_v26 (F := Idealize.ShloMosaic.Ideal) x0 i = ((-(1 / 2) * (rs zr (i 0).val * (1 / sv zr (i 0).val)) : ℝ) : EReal) := by
  simp only [val_main_v26_apply, val_main_v25_apply, val_main_cst_6_apply, val_main_v24_apply, rs_r H, sv_r H]
  rw [EReal.coe_mul]
  exact congrArg₂ (· * ·) nhalf_w (div_pos _ _ (sv_pos _ _))

theorem zh_r (H : Args x0 x1 x3 x4 x5 zr gr pr wr er) (i : S4096x1024.Idx) :
    val_main_v28 (F := Idealize.ShloMosaic.Ideal) x0 i = ((zh zr (i 0).val (i 1).val : ℝ) : EReal) := by
  simp only [val_main_v28_apply, val_main_v27_apply, c_r H, rs_r H]
  exact (EReal.coe_mul _ _).symm

theorem dy_r (H : Args x0 x1 x3 x4 x5 zr gr pr wr er) (i : S4096x1024.Idx) :
    val_main_v5 (F := Idealize.ShloMosaic.Ideal) x3 x4 x5 i = ((dy4 pr wr er (i 0).val (i 1).val : ℝ) : EReal) := by
  have e : val_main_v4 (F := Idealize.ShloMosaic.Ideal) x3 x4 i = ((∑ k ∈ range 2048, pr (i 0).val k * wr (i 1).val k : ℝ) : EReal) := by
    rw [val_main_v4_apply]
    refine Eq.trans (Finset.sum_congr rfl fun k _ => ?_) (coe_dot 2048 (fun k => pr (i 0).val k) fun k => wr (i 1).val k)
    rw [val_main_v3_apply, val_main_v2_apply, H.a3, H.a4]
    rfl
  simp only [val_main_v5_apply, val_main_v1_apply, val_main_v0_apply, val_main_cst_apply, H.a5, e]
  unfold dy4
  rw [add_comm, EReal.coe_add, EReal.coe_mul]
  exact congrArg (fun x : EReal => x * _ + _) al_w

theorem db_r (H : Args x0 x1 x3 x4 x5 zr gr pr wr er) (i : S1024.Idx) :
    val_main_v37 (F := Idealize.ShloMosaic.Ideal) x3 x4 x5 i = ((∑ r ∈ range 4096, dy4 pr wr er r (i 0).val : ℝ) : EReal) := by
  have h0 : 0 * 1024 + (i 0).val = (i 0).val := by omega
  simp only [val_main_v37_apply, val_main_cst_8_apply, val_main_v36_apply, val_main_v35_apply, val_main_cst_7_apply, dy_r H, Fin.sum_univ_one, zero_w, zero_add]
  refine Eq.trans (coe_sum 4096 fun r => dy4 pr wr er r (0 * 1024 + (i 0).val)) ?_
  rw [h0]

theorem dg_r (H : Args x0 x1 x3 x4 x5 zr gr pr wr er) (i : S1024.Idx) :
    val_main_v43 (F := Idealize.ShloMosaic.Ideal) x0 x3 x4 x5 i = ((∑ r ∈ range 4096, zh zr r (i 0).val * dy4 pr wr er r (i 0).val : ℝ) : EReal) := by
  have h0 : 0 * 1024 + (i 0).val = (i 0).val := by omega
  simp only [val_main_v43_apply, val_main_cst_10_apply, val_main_v40_apply, val_main_v39_apply, val_main_cst_9_apply, val_main_v38_apply, dy_r H, zh_r H, Fin.sum_univ_one, zero_w, zero_add]
  refine Eq.trans (coe_dot 4096 (fun r => zh zr r (0 * 1024 + (i 0).val)) fun r => dy4 pr wr er r (0 * 1024 + (i 0).val)) ?_
  rw [h0]

theorem w_r (H : Args x0 x1 x3 x4 x5 zr gr pr wr er) (i : S4096x1024.Idx) :
    val_main_v42 (F := Idealize.ShloMosaic.Ideal) x1 x3 x4 x5 i = ((wv gr (dy4 pr wr er) (i 0).val (i 1).val : ℝ) : EReal) := by
  simp only [val_main_v42_apply, val_main_v41_apply, val_main_v29_apply, dy_r H, H.a1]
  exact (EReal.coe_mul _ _).symm

theorem a_r (H : Args x0 x1 x3 x4 x5 zr gr pr wr er) (i : S4096x1.Idx) :
    val_main_v46 (F := Idealize.ShloMosaic.Ideal) x0 x1 x3 x4 x5 i = ((∑ k ∈ range 1024, zc zr (i 0).val k * wv gr (dy4 pr wr er) (i 0).val k : ℝ) : EReal) := by
  have h1 : (i 0).val * 1 + (i 1).val = (i 0).val := by have : (i 1).val < 1 := (i 1).isLt; omega
  simp only [val_main_v46_apply, val_main_v45_apply, val_main_cst_11_apply, val_main_v44_apply, c_r H, w_r H, zero_w, zero_add]
  refine Eq.trans (coe_dot 1024 (fun k => zc zr ((i 0).val * 1 + (i 1).val) k) fun k => wv gr (dy4 pr wr er) ((i 0).val * 1 + (i 1).val) k) ?_
  rw [h1]

theorem wr_r (H : Args x0 x1 x3 x4 x5 zr gr pr wr er) (i : S4096x1024.Idx) :
    val_main_v48 (F := Idealize.ShloMosaic.Ideal) x0 x1 x3 x4 x5 i = ((wv gr (dy4 pr wr er) (i 0).val (i 1).val * rs zr (i 0).val : ℝ) : EReal) := by
  simp only [val_main_v48_apply, val_main_v47_apply, w_r H, rs_r H]
  exact (EReal.coe_mul _ _).symm

theorem q_r (H : Args x0 x1 x3 x4 x5 zr gr pr wr er) (i : S4096.Idx) :
    val_main_v55 (F := Idealize.ShloMosaic.Ideal) x0 x1 x3 x4 x5 i = ((qv zr (wv gr (dy4 pr wr er)) (i 0).val : ℝ) : EReal) := by
  simp only [val_main_v55_apply, val_main_cst_14_apply, val_main_v54_apply, val_main_v49_apply, val_main_v53_apply, val_main_cst_13_apply, a_r H, half_r H, Fin.sum_univ_one, zero_w, zero_add]
  exact (congrArg (Ideal.div · _) (EReal.coe_mul _ _).symm).trans (div_k _)

theorem q2_r (H : Args x0 x1 x3 x4 x5 zr gr pr wr er) (i : S4096x1024.Idx) :
    val_main_v57 (F := Idealize.ShloMosaic.Ideal) x0 x1 x3 x4 x5 i = ((qv zr (wv gr (dy4 pr wr er)) (i 0).val * (2 * zc zr (i 0).val (i 1).val) : ℝ) : EReal) := by
  simp only [val_main_v57_apply, val_main_v56_apply, q_r H, tc_r H]
  exact (EReal.coe_mul _ _).symm

theorem n1_r (H : Args x0 x1 x3 x4 x5 zr gr pr wr er) (i : S4096x1024.Idx) :
    val_main_v50 (F := Idealize.ShloMosaic.Ideal) x0 x1 x3 x4 x5 i = ((-(wv gr (dy4 pr wr er) (i 0).val (i 1).val * rs zr (i 0).val) : ℝ) : EReal) := by
  rw [val_main_v50_apply, wr_r H]
  exact (EReal.coe_neg _).symm

theorem n1r_r (H : Args x0 x1 x3 x4 x5 zr gr pr wr er) (i : S4096x1.Idx) :
    val_main_v52 (F := Idealize.ShloMosaic.Ideal) x0 x1 x3 x4 x5 i = ((∑ k ∈ range 1024, -(wv gr (dy4 pr wr er) (i 0).val k * rs zr (i 0).val) : ℝ) : EReal) := by
  have h1 : (i 0).val * 1 + (i 1).val = (i 0).val := by have : (i 1).val < 1 := (i 1).isLt; omega
  simp only [val_main_v52_apply, val_main_v51_apply, val_main_cst_12_apply, n1_r H, zero_w, zero_add]
  refine Eq.trans (coe_sum 1024 fun k => -(wv gr (dy4 pr wr er) ((i 0).val * 1 + (i 1).val) k * rs zr ((i 0).val * 1 + (i 1).val))) ?_
  rw [h1]

theorem n2_r (H : Args x0 x1 x3 x4 x5 zr gr pr wr er) (i : S4096x1024.Idx) :
    val_main_v58 (F := Idealize.ShloMosaic.Ideal) x0 x1 x3 x4 x5 i = ((-(qv zr (wv gr (dy4 pr wr er)) (i 0).val * (2 * zc zr (i 0).val (i 1).val)) : ℝ) : EReal) := by
  rw [val_main_v58_apply, q2_r H]
  exact (EReal.coe_neg _).symm

theorem n2r_r (H : Args x0 x1 x3 x4 x5 zr gr pr wr er) (i : S4096x1.Idx) :
    val_main_v60 (F := Idealize.ShloMosaic.Ideal) x0 x1 x3 x4 x5 i = ((∑ k ∈ range 1024, -(qv zr (wv gr (dy4 pr wr er)) (i 0).val * (2 * zc zr (i 0).val k)) : ℝ) : EReal) := by
  have h1 : (i 0).val * 1 + (i 1).val = (i 0).val := by have : (i 1).val < 1 := (i 1).isLt; omega
  simp only [val_main_v60_apply, val_main_v59_apply, val_main_cst_15_apply, n2_r H, zero_w, zero_add]
  refine Eq.trans (coe_sum 1024 fun k => -(qv zr (wv gr (dy4 pr wr er)) ((i 0).val * 1 + (i 1).val) * (2 * zc zr ((i 0).val * 1 + (i 1).val) k))) ?_
  rw [h1]

/-- The gradient of the row norm. -/
theorem dz_r (H : Args x0 x1 x3 x4 x5 zr gr pr wr er) (i : S4096x1024.Idx) :
    val_main_v67 (F := Idealize.ShloMosaic.Ideal) x0 x1 x3 x4 x5 i = ((dz zr (wv gr (dy4 pr wr er)) (i 0).val (i 1).val : ℝ) : EReal) := by
  simp only [val_main_v67_apply, val_main_v61_apply, val_main_v66_apply, val_main_v65_apply, val_main_cst_17_apply, val_main_v64_apply, val_main_v62_apply, val_main_v63_apply, val_main_cst_16_apply, wr_r H, q2_r H, n1r_r H, n2r_r H, Fin.sum_univ_one, zero_w, zero_add]
  rw [← dz_eq, EReal.coe_add]
  exact congrArg₂ (fun a b : EReal => a + b) (EReal.coe_add _ _).symm ((congrArg (Ideal.div · _) (EReal.coe_add _ _).symm).trans (div_k _))

theorem dzb_r (H : Args x0 x1 x3 x4 x5 zr gr pr wr er) (i : S4096x1024.Idx) :
    val_main_v68 (F := Idealize.ShloMosaic.Ideal) x0 x1 x3 x4 x5 i = ((dz zr (wv gr (dy4 pr wr er)) (i 0).val (i 1).val : ℝ) : EReal) := by
  rw [val_main_v68_apply]
  exact dz_r H i

theorem dgo_r (H : Args x0 x1 x3 x4 x5 zr gr pr wr er) (i : S1x1024.Idx) :
    val_main_v69 (F := Idealize.ShloMosaic.Ideal) x0 x3 x4 x5 i = ((∑ r ∈ range 4096, zh zr r (i 1).val * dy4 pr wr er r (i 1).val : ℝ) : EReal) := by
  rw [val_main_v69_apply]
  exact dg_r H _

theorem dbo_r (H : Args x0 x1 x3 x4 x5 zr gr pr wr er) (i : S1x1024.Idx) :
    val_main_v70 (F := Idealize.ShloMosaic.Ideal) x3 x4 x5 i = ((∑ r ∈ range 4096, dy4 pr wr er r (i 1).val : ℝ) : EReal) := by
  rw [val_main_v70_apply]
  exact db_r H _

end Cert.Reference4Ideal.Read

end
end
-- ==== Proof.Ln.Host4.lean ====
/- The arrays the call is handed, and what finite arguments are. -/
module

public import proofs.«01_k».proof.Proof.Ln.Kernel4
public import proofs.«01_k».proof.Proof.Ln.Ref4
public import proofs.«01_k».proof.Proof.Finite
public import proofs.«01_k».proof.Proof.Gen.Pre_finite4
public import proofs.«01_k».proof.Defs
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen Cert.Flash Cert.Ln Cert.Finite Cert.Reference4Ideal.Read

local notation "I" => Idealize.ShloMosaic.Ideal

variable (m : (ℓ : Loc nD τ sig) → Buf (Elt I) ℓ) (c : Dev nD)

theorem V_root : V m c main_v13 = val_main_v23 (F := I) (m ((c.tc : Thread nD τ).loc main_arg0)) := by
  unfold V
  simp only [hostOps0, List.flatten_cons, List.flatten_nil, List.append_nil, List.cons_append, List.nil_append]
  after_reads_simp
  unfold val_main_v23 val_main_v22 val_main_v21 val_main_v18 val_main_v17 val_main_v16 val_main_v15 val_main_v12 val_main_v11 val_main_v10 val_main_v9 val_main_v8 val_main_v7 val_main_v6
  rfl

theorem V_hat : V m c main_v15 = val_main_v28 (F := I) (m ((c.tc : Thread nD τ).loc main_arg0)) := by
  unfold V
  simp only [hostOps0, List.flatten_cons, List.flatten_nil, List.append_nil, List.cons_append, List.nil_append]
  after_reads_simp
  unfold val_main_v28 val_main_v27 val_main_v23 val_main_v22 val_main_v21 val_main_v20 val_main_v19 val_main_v18 val_main_v17 val_main_v16 val_main_v15 val_main_v12 val_main_v11 val_main_v10 val_main_v9 val_main_v8 val_main_v7 val_main_v6
  rfl

theorem V_scale (k : Fin 1024) : V m c main_v16 (ix2 0 k) = (m ((c.tc : Thread nD τ).loc main_arg1)) (ix1 k) := by
  unfold V
  simp only [hostOps0, List.flatten_cons, List.flatten_nil, List.append_nil, List.cons_append, List.nil_append]
  after_reads_at

variable {m c} in
/-- What the call is handed, at real arguments. -/
theorem entry {zr : ℕ → ℕ → ℝ} {gr : ℕ → ℝ} {pr wr er : ℕ → ℕ → ℝ}  (H : Args (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) zr gr pr wr er) :
    Entry m c zr gr pr wr er where
  proj i k := by rw [V_main_arg3 m c]; exact H.a3 _
  wt i k := by rw [V_main_arg4 m c]; exact H.a4 _
  err i k := by rw [V_main_arg5 m c]; exact H.a5 _
  hat i k := by rw [V_hat]; exact zh_r H _
  root i := by rw [V_root]; exact rs_r H _
  scale k := by rw [V_scale]; exact H.a1 _

/-- What the precondition says of each argument's elements. -/
theorem args_real (h : Cert.Pre_Kernel4Ideal_finite4 m) :
    Args (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      (realAt (m ((c.tc : Thread nD τ).loc main_arg0))) (realAt1 (m ((c.tc : Thread nD τ).loc main_arg1))) (realAt (m ((c.tc : Thread nD τ).loc main_arg3))) (realAt (m ((c.tc : Thread nD τ).loc main_arg4))) (realAt (m ((c.tc : Thread nD τ).loc main_arg5))) := by
  obtain ⟨h0, h1, h3, h4, h5⟩ := h c
  refine ⟨realAt_eq _ fun i => ?_, realAt1_eq _ fun i => ?_, realAt_eq _ fun i => ?_, realAt_eq _ fun i => ?_, realAt_eq _ fun i => ?_⟩
  · have e := congrFun h0 i
    rw [← top_f32]
    exact e
  · have e := congrFun h1 i
    rw [← top_f32]
    exact e
  · have e := congrFun h3 i
    rw [← top_bf16]
    exact e
  · have e := congrFun h4 i
    rw [← top_f32]
    exact e
  · have e := congrFun h5 i
    rw [← top_f32]
    exact e

end Cert.Kernel4Ideal.Value

end
end
-- ==== Proof.Ln.Claims.lean ====
module

public import proofs.«01_k».proof.Defs
public import proofs.«01_k».proof.Proof.Ln.Host3
public import proofs.«01_k».proof.Proof.Ln.Host4
public import proofs.«01_k».proof.Proof.Gen.Kernel3
public import proofs.«01_k».proof.Proof.Gen.Kernel4
public import proofs.«01_k».proof.Proof.Gen.Pre_finite4
public import Idealize.ShloMosaic.Adequacy
public import Idealize.ShloMosaic.Init

@[expose] public section

noncomputable section

namespace Cert.Ln

open Idealize.ShloMosaic Idealize.SL.Sem

/-- The loss, summed lane by lane or row by row. -/
theorem loss_eq (e : ℕ → ℕ → ℝ) : (∑ k ∈ Finset.range 1024, ∑ r ∈ Finset.range 4096, e r k * e r k * (1 / 2048))
    = 1 / 2 * ∑ r ∈ Finset.range 4096, (∑ k ∈ Finset.range 1024, e r k * e r k) * (1 / 1024) := by
  rw [Finset.sum_comm, Finset.mul_sum]
  refine Finset.sum_congr rfl fun r _ => ?_
  rw [← Finset.sum_mul]
  ring

open Cert.Reference3Ideal.Read in
/-- The loss and the gradients through the norm that ends the model. -/
theorem ln3_value : Cert.algebraic_Kernel3Ideal_Reference3Ideal_pre_finite3 := fun m ρ m' ρ' hpre hm => by
  have A := fun c => Cert.Kernel3Ideal.Value.args_real m c hpre
  have E := fun c => Cert.Kernel3Ideal.Value.entry (A c)
  refine ⟨fun c => Cert.Kernel3Ideal.Value.lossF ((Cert.Kernel3Ideal.Gen.dats m 0 c).arrAt 5 Cert.Kernel3Ideal.cfg0.N),
    fun c => (Cert.Kernel3Ideal.Gen.dats m 0 c).arrAt 6 Cert.Kernel3Ideal.cfg0.N, fun c => (Cert.Kernel3Ideal.Gen.dats m 0 c).arrAt 7 Cert.Kernel3Ideal.cfg0.N,
    fun c => (Cert.Kernel3Ideal.Gen.dats m 0 c).arrAt 8 Cert.Kernel3Ideal.cfg0.N, fun c => (Cert.Kernel3Ideal.Gen.dats m 0 c).arrAt 9 Cert.Kernel3Ideal.cfg0.N,
    Cert.Kernel3Ideal.Value.run_blocks m ρ,
    (θ_run Cert.Reference3Ideal.defs _ _).mono (fun _ h c => ⟨(h c).1.trans ?_, (h c).2.1.trans ?_, (h c).2.2.1.trans ?_, (h c).2.2.2.1.trans ?_,
      (h c).2.2.2.2.1.trans ?_, (h c).2.2.2.2.2⟩) (Cert.Reference3Ideal.Value.run m' ρ')⟩
  · rw [val_main_v37_eq, (hm c).1, (hm c).2.1, (hm c).2.2.1, (hm c).2.2.2]; dsimp only; rw [Cert.Kernel3Ideal.Value.final5 (E c)]
    funext i
    exact (loss_r (A c) i).trans ((congrArg Real.toEReal (loss_eq _).symm).trans (Cert.Kernel3Ideal.Value.lossF_at _ _ (fun _ => rfl) i).symm)
  · rw [val_main_v76_eq, (hm c).1, (hm c).2.1, (hm c).2.2.1, (hm c).2.2.2]; dsimp only; rw [Cert.Kernel3Ideal.Value.final6 (E c)]
    exact funext fun i => dz_r (A c) i
  · rw [val_main_v77_eq, (hm c).1, (hm c).2.1, (hm c).2.2.1, (hm c).2.2.2]; dsimp only; rw [Cert.Kernel3Ideal.Value.final7 (E c)]
    exact funext fun i => dzb_r (A c) i
  · rw [val_main_v78_eq, (hm c).1, (hm c).2.1, (hm c).2.2.1, (hm c).2.2.2]; dsimp only; rw [Cert.Kernel3Ideal.Value.final8 (E c)]
    exact funext fun i => dgo_r (A c) i
  · rw [val_main_v79_eq, (hm c).1, (hm c).2.1, (hm c).2.2.1, (hm c).2.2.2]; dsimp only; rw [Cert.Kernel3Ideal.Value.final9 (E c)]
    exact funext fun i => dbo_r (A c) i

open Cert.Reference4Ideal.Read in
/-- The gradients through the norm between the two halves of the model. -/
theorem ln4_value : Cert.algebraic_Kernel4Ideal_Reference4Ideal_pre_finite4 := fun m ρ m' ρ' hpre hm => by
  have A := fun c => Cert.Kernel4Ideal.Value.args_real m c hpre
  have E := fun c => Cert.Kernel4Ideal.Value.entry (A c)
  refine ⟨fun c => (Cert.Kernel4Ideal.Gen.dats m 0 c).arrAt 6 Cert.Kernel4Ideal.cfg0.N, fun c => (Cert.Kernel4Ideal.Gen.dats m 0 c).arrAt 7 Cert.Kernel4Ideal.cfg0.N,
    fun c => (Cert.Kernel4Ideal.Gen.dats m 0 c).arrAt 8 Cert.Kernel4Ideal.cfg0.N, fun c => (Cert.Kernel4Ideal.Gen.dats m 0 c).arrAt 9 Cert.Kernel4Ideal.cfg0.N,
    Cert.Kernel4Ideal.Value.run_blocks m ρ,
    (θ_run Cert.Reference4Ideal.defs _ _).mono (fun _ h c => ⟨(h c).1.trans ?_, (h c).2.1.trans ?_, (h c).2.2.1.trans ?_, (h c).2.2.2.1.trans ?_, (h c).2.2.2.2⟩)
      (Cert.Reference4Ideal.Value.run m' ρ')⟩
  · rw [val_main_v67_eq, (hm c).1, (hm c).2.1, (hm c).2.2.2.1, (hm c).2.2.2.2.1, (hm c).2.2.2.2.2]; dsimp only; rw [Cert.Kernel4Ideal.Value.final6 (E c)]
    exact funext fun i => dz_r (A c) i
  · rw [val_main_v68_eq, (hm c).1, (hm c).2.1, (hm c).2.2.2.1, (hm c).2.2.2.2.1, (hm c).2.2.2.2.2]; dsimp only; rw [Cert.Kernel4Ideal.Value.final7 (E c)]
    exact funext fun i => dzb_r (A c) i
  · rw [val_main_v69_eq, (hm c).1, (hm c).2.2.2.1, (hm c).2.2.2.2.1, (hm c).2.2.2.2.2]; dsimp only; rw [Cert.Kernel4Ideal.Value.final8 (E c)]
    exact funext fun i => dgo_r (A c) i
  · rw [val_main_v70_eq, (hm c).2.2.2.1, (hm c).2.2.2.2.1, (hm c).2.2.2.2.2]; dsimp only; rw [Cert.Kernel4Ideal.Value.final9 (E c)]
    exact funext fun i => dbo_r (A c) i

theorem defs_kernel3 : Cert.Kernel3.defs (F := Bits) = Cert.Kernel3Ideal.defs (F := Bits) := by sl_kernel_rfl

theorem main_kernel3 : Cert.Kernel3.main (F := Bits) = Cert.Kernel3Ideal.main (F := Bits) := by sl_kernel_rfl

theorem frame_kernel3 : Cert.quiescent_Kernel3 := fun m ρ _ => by
  rw [defs_kernel3, main_kernel3]
  exact Cert.Kernel3Ideal.Gen.frame (F := Bits) m ρ

theorem frame_reference3 : Cert.quiescent_Reference3Ideal := fun m ρ _ =>
  (θ_run Cert.Reference3Ideal.defs _ _).mono (fun r h => ⟨fun c => (h c).2.2.2.2.2, sem_eq_zero_of_no_sems rfl r.2⟩) (Cert.Reference3Ideal.Value.run m ρ)

theorem defs_kernel4 : Cert.Kernel4.defs (F := Bits) = Cert.Kernel4Ideal.defs (F := Bits) := by sl_kernel_rfl

theorem main_kernel4 : Cert.Kernel4.main (F := Bits) = Cert.Kernel4Ideal.main (F := Bits) := by sl_kernel_rfl

theorem frame_kernel4 : Cert.quiescent_Kernel4 := fun m ρ _ => by
  rw [defs_kernel4, main_kernel4]
  exact Cert.Kernel4Ideal.Gen.frame (F := Bits) m ρ

theorem frame_reference4 : Cert.quiescent_Reference4Ideal := fun m ρ _ =>
  (θ_run Cert.Reference4Ideal.defs _ _).mono (fun r h => ⟨fun c => (h c).2.2.2.2, sem_eq_zero_of_no_sems rfl r.2⟩) (Cert.Reference4Ideal.Value.run m ρ)

end Cert.Ln

end
end
-- ==== Proof.Fwd.Online.lean ====
/- A row's softmax taken block by block: its running maximum, sum and weighted sums, over the reals. -/
module

public import proofs.«01_k».proof.Proof.Flash.Tile
public import Mathlib.Data.Finset.Fold

@[expose] public section

noncomputable section

open Idealize.ShloMosaic

namespace Cert.Fwd

/-- A score and its exponential: a masked score has none. -/
def Sc (s : EReal) (e : ℝ) : Prop := (s = ⊥ ∧ e = 0) ∨ ∃ σ : ℝ, s = (σ : EReal) ∧ e = Real.exp σ

theorem Sc.exp_sub {s : EReal} {e : ℝ} (h : Sc s e) (μ : ℝ) : Ideal.exp (s - (μ : EReal)) = ((Real.exp (-μ) * e : ℝ) : EReal) := by
  obtain ⟨rfl, rfl⟩ | ⟨σ, rfl, rfl⟩ := h
  · rw [EReal.bot_sub, Ideal.exp_bot, mul_zero]; rfl
  · rw [← EReal.coe_sub, Ideal.exp_coe, ← Real.exp_add, neg_add_eq_sub]

theorem Sc.ne_top {s : EReal} {e : ℝ} (h : Sc s e) : s ≠ ⊤ := by
  obtain ⟨rfl, _⟩ | ⟨σ, rfl, _⟩ := h
  · exact bot_ne_top
  · exact EReal.coe_ne_top _

theorem Sc.ne_bot {s : EReal} {e : ℝ} (h : Sc s e) (he : e ≠ 0) : s ≠ ⊥ := by
  obtain ⟨_, h0⟩ | ⟨σ, rfl, _⟩ := h
  · exact absurd h0 he
  · exact EReal.coe_ne_bot _

theorem sc_ite (p : Prop) [Decidable p] (σ : ℝ) : Sc (if p then (σ : EReal) else ⊥) (if p then Real.exp σ else 0) := by
  split_ifs
  · exact Or.inr ⟨σ, rfl, rfl⟩
  · exact Or.inl ⟨rfl, rfl⟩

/-- A row's state after some columns: `L` is the sum of the exponentials, `A` the sums weighted with them; `m` is any real
    number, `⊥` before the first column. -/
def On (m l : EReal) (a : Fin 128 → EReal) (L : ℝ) (A : ℕ → ℝ) : Prop :=
  (m = ⊥ ∧ l = 0 ∧ (∀ d, a d = 0) ∧ L = 0 ∧ ∀ d : Fin 128, A d.val = 0)
    ∨ ∃ μ : ℝ, m = (μ : EReal) ∧ l = ((Real.exp (-μ) * L : ℝ) : EReal) ∧ ∀ d : Fin 128, a d = ((Real.exp (-μ) * A d.val : ℝ) : EReal)

/-- The greatest of finitely many reals and `⊥`s, one of them real. -/
theorem fold_real {n : ℕ} (f : Fin n → EReal) (h0 : ∃ k, f k ≠ ⊥) (ht : ∀ k, f k ≠ ⊤) :
    ∃ r : ℝ, (Finset.univ : Finset (Fin n)).fold max ⊥ f = (r : EReal) := by
  obtain ⟨k0, h0⟩ := h0
  have hb : (⊥ : EReal) < (Finset.univ : Finset (Fin n)).fold max ⊥ f := (Finset.lt_fold_max _).mpr (Or.inr ⟨k0, Finset.mem_univ _, bot_lt_iff_ne_bot.mpr h0⟩)
  have hT : (Finset.univ : Finset (Fin n)).fold max ⊥ f < ⊤ := (Finset.fold_max_lt _).mpr ⟨bot_lt_top, fun k _ => lt_top_iff_ne_top.mpr (ht k)⟩
  exact ⟨_, (EReal.coe_toReal hT.ne hb.ne').symm⟩

variable {m l m' l' : EReal} {a a' : Fin 128 → EReal} {L : ℝ} {A : ℕ → ℝ}

theorem On.max_real (h : On m l a L A) (r : ℝ) : ∃ μ : ℝ, max m (r : EReal) = (μ : EReal) := by
  obtain ⟨rfl, _⟩ | ⟨μ, rfl, _⟩ := h
  · exact ⟨r, max_eq_right bot_le⟩
  · obtain h | h := le_total ((μ : ℝ) : EReal) (r : EReal)
    · exact ⟨r, max_eq_right h⟩
    · exact ⟨μ, max_eq_left h⟩

/-- The old sums brought to the new maximum. -/
theorem On.scale (h : On m l a L A) (ν : ℝ) : Ideal.exp (m - (ν : EReal)) * l = ((Real.exp (-ν) * L : ℝ) : EReal)
    ∧ ∀ d : Fin 128, Ideal.exp (m - (ν : EReal)) * a d = ((Real.exp (-ν) * A d.val : ℝ) : EReal) := by
  obtain ⟨rfl, rfl, ha, rfl, hA⟩ | ⟨μ, rfl, rfl, ha⟩ := h
  · refine ⟨by rw [mul_zero, mul_zero]; rfl, fun d => ?_⟩
    rw [ha, hA, mul_zero, mul_zero]; rfl
  · have e : ∀ x : ℝ, Ideal.exp ((μ : EReal) - (ν : EReal)) * ((Real.exp (-μ) * x : ℝ) : EReal) = ((Real.exp (-ν) * x : ℝ) : EReal) := fun x => by
      rw [← EReal.coe_sub, Ideal.exp_coe, ← EReal.coe_mul, ← mul_assoc, ← Real.exp_add]
      congr 3
      ring
    exact ⟨e L, fun d => by rw [ha d]; exact e _⟩

/-- One more block of columns. -/
theorem On.step (h : On m l a L A) {n : ℕ} (s : Fin n → EReal) (e : ℕ → ℝ) (v : ℕ → ℕ → ℝ) (hs : ∀ y, Sc (s y) (e y.val)) (hne : ∃ y : Fin n, e y.val ≠ 0)
    (hm : m' = max m ((Finset.univ : Finset (Fin n)).fold max ⊥ s)) (hl : l' = Ideal.exp (m - m') * l + ∑ y, Ideal.exp (s y - m'))
    (ha : ∀ d, a' d = Ideal.exp (m - m') * a d + ∑ y, Ideal.exp (s y - m') * ((v y.val d.val : ℝ) : EReal)) :
    On m' l' a' (L + ∑ y ∈ Finset.range n, e y) (fun d => A d + ∑ y ∈ Finset.range n, e y * v y d) := by
  obtain ⟨r, hr⟩ := fold_real s (hne.imp fun y hy => (hs y).ne_bot hy) fun y => (hs y).ne_top
  obtain ⟨ν, hν⟩ := h.max_real r
  rw [hr, hν] at hm
  subst hm
  obtain ⟨hL, hA⟩ := h.scale ν
  refine Or.inr ⟨ν, rfl, ?_, fun d => ?_⟩
  · rw [hl, hL]
    simp only [(hs _).exp_sub]
    rw [Cert.Flash.coe_sum n fun y => Real.exp (-ν) * e y, ← EReal.coe_add, mul_add, Finset.mul_sum]
  · rw [ha, hA]
    simp only [(hs _).exp_sub, ← EReal.coe_mul]
    rw [Cert.Flash.coe_sum n fun y => Real.exp (-ν) * e y * v y d.val, ← EReal.coe_add, mul_add, Finset.mul_sum]
    simp only [mul_assoc]

theorem On.zero : On ⊥ 0 (fun _ => 0) 0 (fun _ => 0) := Or.inl ⟨rfl, rfl, fun _ => rfl, rfl, fun _ => rfl⟩

/-- The weighted mean and the logarithm of the sum. -/
theorem On.out (h : On m l a L A) (hL : 0 < L) : (∀ d : Fin 128, Ideal.div (a d) l = ((A d.val / L : ℝ) : EReal)) ∧ m + Ideal.log l = ((Real.log L : ℝ) : EReal) := by
  obtain ⟨_, _, _, h0, _⟩ | ⟨μ, rfl, rfl, ha⟩ := h
  · exact absurd h0 hL.ne'
  · have hp : 0 < Real.exp (-μ) * L := mul_pos (Real.exp_pos _) hL
    refine ⟨fun d => ?_, ?_⟩
    · rw [ha d, Ideal.div_coe hp.ne', ← EReal.coe_mul]
      congr 1
      have := Real.exp_ne_zero (-μ)
      field_simp
    · rw [Ideal.log_coe, if_neg (not_le.mpr hp), ← EReal.coe_add, Real.log_mul (Real.exp_ne_zero _) hL.ne', Real.log_exp]
      congr 1
      ring

end Cert.Fwd
-- ==== Proof.Fwd.Real.lean ====
/- The attention's forward call block by block, as sums over whole rows. -/
module

public import proofs.«01_k».proof.Proof.Flash.Real

set_option maxRecDepth 65536

@[expose] public noncomputable section

namespace Cert.Fwd

open Cert.Flash Cert.Kernel2Ideal.Value

/-- What one row block reads: queries by head, keys, values, the running sums by head and block, and the gate. -/
structure Blk where
  q : ℕ → ℕ → ℕ → ℝ
  K : ℕ → ℕ → ℝ
  V : ℕ → ℕ → ℝ
  C : ℕ → ℕ → ℕ → ℝ
  r : ℕ → ℝ
  g : ℕ → ℕ → ℝ

/-- Rows of a block of 1024. -/
def rows (f : ℕ → ℕ → ℝ) (k y l : ℕ) : ℝ := f (1024 * k + y) l
/-- The exponentials of the scores of a block: the rows `q`, the keys `k` with their running sum `c`, the rows' reference `r`. -/
def eT (q k : ℕ → ℕ → ℝ) (r : ℝ) (c : ℕ → ℝ) (x y : ℕ) : ℝ := Real.exp (tS q k x y + (r - c y))
def Blk.e (B : Blk) (h k : ℕ) : ℕ → ℕ → ℝ := eT (B.q h) (rows B.K k) (B.r h) (B.C h k)
/-- The diagonal block's exponentials. -/
def tri (e : ℕ → ℕ → ℝ) (x y : ℕ) : ℝ := if y ≤ x then e x y else 0
/-- The sums after the first `n` blocks, and after the diagonal block. -/
def Blk.L (B : Blk) (h n x : ℕ) : ℝ := ∑ k ∈ Finset.range n, ∑ y ∈ Finset.range 1024, B.e h k x y
def Blk.A (B : Blk) (h n x d : ℕ) : ℝ := ∑ k ∈ Finset.range n, ∑ y ∈ Finset.range 1024, B.e h k x y * rows B.V k y d
def Blk.Ld (B : Blk) (h n x : ℕ) : ℝ := B.L h n x + ∑ y ∈ Finset.range 1024, tri (B.e h n) x y
def Blk.Ad (B : Blk) (h n x d : ℕ) : ℝ := B.A h n x d + ∑ y ∈ Finset.range 1024, tri (B.e h n) x y * rows B.V n y d
/-- The results. -/
def Blk.o (B : Blk) (n x l : ℕ) : ℝ := if l < 64 then B.Ad 0 n x l / B.Ld 0 n x else B.Ad 1 n x l / B.Ld 1 n x
def Blk.og (B : Blk) (n x l : ℕ) : ℝ := B.o n x l * (B.g x l * sg (B.g x l))
def Blk.lp (B : Blk) (n h x : ℕ) : ℝ := Real.log (B.Ld h n x) - B.r h

theorem tri_nonneg {e : ℕ → ℕ → ℝ} (he : ∀ x y, 0 ≤ e x y) (x y : ℕ) : 0 ≤ tri e x y := by
  unfold tri; split_ifs
  · exact he x y
  · exact le_rfl

theorem Blk.e_pos (B : Blk) (h k x y : ℕ) : 0 < B.e h k x y := Real.exp_pos _

theorem Blk.Ld_pos (B : Blk) (h n x : ℕ) : 0 < B.Ld h n x := by
  refine add_pos_of_nonneg_of_pos (Finset.sum_nonneg fun k _ => Finset.sum_nonneg fun y _ => (B.e_pos h k x y).le) ?_
  refine Finset.sum_pos' (fun y _ => tri_nonneg (fun x y => (B.e_pos h n x y).le) x y) ⟨0, by simp, ?_⟩
  unfold tri
  rw [if_pos (Nat.zero_le _)]
  exact B.e_pos h n x 0

/-- The diagonal block's upper rows end in its first 512 columns. -/
theorem tri_half (e v : ℕ → ℕ → ℝ) {x : ℕ} (hx : x < 512) (d : ℕ) :
    (∑ y ∈ Finset.range 512, tri e x y * v y d) = ∑ y ∈ Finset.range 1024, tri e x y * v y d :=
  sum_upto _ (by norm_num) fun y hy => by rw [tri, if_neg (by omega), zero_mul]

theorem tri_half1 (e : ℕ → ℕ → ℝ) {x : ℕ} (hx : x < 512) : (∑ y ∈ Finset.range 512, tri e x y) = ∑ y ∈ Finset.range 1024, tri e x y :=
  sum_upto _ (by norm_num) fun y hy => by rw [tri, if_neg (by omega)]

theorem blocks (f : ℕ → ℝ) : ∀ n : ℕ, (∑ k ∈ Finset.range n, ∑ y ∈ Finset.range 1024, f (1024 * k + y)) = ∑ q ∈ Finset.range (1024 * n), f q
  | 0 => by simp
  | n + 1 => by
    rw [Finset.sum_range_succ, blocks f n, show 1024 * (n + 1) = 1024 * n + 1024 by ring, Finset.sum_range_add]

/-- Whole blocks and the diagonal one: all the columns up to the row. -/
theorem blocks_tri (f : ℕ → ℝ) {n x : ℕ} (hn : n < 4) (hx : x < 1024) :
    (∑ k ∈ Finset.range n, ∑ y ∈ Finset.range 1024, f (1024 * k + y)) + (∑ y ∈ Finset.range 1024, if y ≤ x then f (1024 * n + y) else 0)
      = ∑ k ∈ Finset.range 4096, if k ≤ 1024 * n + x then f k else 0 := by
  have h1 : ∀ k ∈ Finset.range n, ∀ y ∈ Finset.range 1024, f (1024 * k + y) = if 1024 * k + y ≤ 1024 * n + x then f (1024 * k + y) else 0 := by
    intro k hk y hy
    have := Finset.mem_range.mp hk
    have := Finset.mem_range.mp hy
    rw [if_pos (by omega)]
  rw [Finset.sum_congr rfl fun k hk => Finset.sum_congr rfl (h1 k hk), blocks (fun k => if k ≤ 1024 * n + x then f k else 0) n]
  have h2 : ∀ y ∈ Finset.range 1024, (if y ≤ x then f (1024 * n + y) else 0) = if 1024 * n + y ≤ 1024 * n + x then f (1024 * n + y) else 0 :=
    fun y _ => by simp only [Nat.add_le_add_iff_left]
  rw [Finset.sum_congr rfl h2, ← Finset.sum_range_add (fun k => if k ≤ 1024 * n + x then f k else 0)]
  exact sum_upto _ (by omega) fun k hk => if_neg (by omega)

variable (pr cr M : ℕ → ℕ → ℝ)

/-- The data of head pair `j` and row block `i`. -/
def blkAt (j i : ℕ) : Blk where
  q h := if h = 0 then m0 fun x l => pr (1024 * i + x) (128 * j + l) * (1 / 8) else m1 fun x l => pr (1024 * i + x) (128 * j + l) * (1 / 8)
  K y l := pr y (1024 + (128 * j + l))
  V y l := pr y (2048 + (128 * j + l))
  C h k y := cr (2 * j + h) (1024 * k + y)
  r h := cr (2 * j + h) (1024 * i)
  g x l := pr (1024 * i + x) (3072 + (128 * j + l))

variable {pr cr M}
variable {j i h : ℕ}

theorem at_S (hh : h < 2) (k x y : ℕ) : tS ((blkAt pr cr j i).q h) (rows (blkAt pr cr j i).K k) x y = gS pr (2 * j + h) (1024 * i + x) (1024 * k + y) := by
  obtain rfl | rfl : h = 0 ∨ h = 1 := by omega
  · refine (tS_m0 _ _ _ _).trans (Finset.sum_congr rfl fun d _ => ?_)
    have := col (j := j) 0 d
    simp only [Nat.mul_zero, Nat.zero_add] at this
    show pr (1024 * i + x) (128 * j + d) * (1 / 8) * pr (1024 * k + y) (1024 + (128 * j + d)) = _
    rw [this]
  · refine (tS_m1 _ _ _ _).trans (Finset.sum_congr rfl fun d _ => ?_)
    have := col (j := j) 1 d
    simp only [Nat.mul_one] at this
    show pr (1024 * i + x) (128 * j + (64 + d)) * (1 / 8) * pr (1024 * k + y) (1024 + (128 * j + (64 + d))) = _
    rw [this]

/-- The row's factor between the two programs' exponentials. -/
def fac (cr M : ℕ → ℕ → ℝ) (i h q : ℕ) : ℝ := Real.exp (cr h (1024 * i) - cr h q + M h q)

theorem fac_ne (i h q : ℕ) : fac cr M i h q ≠ 0 := Real.exp_ne_zero _

theorem at_e (hh : h < 2) (k x y : ℕ) : (blkAt pr cr j i).e h k x y
    = Real.exp (gS pr (2 * j + h) (1024 * i + x) (1024 * k + y) + (cr (2 * j + h) (1024 * i) - cr (2 * j + h) (1024 * k + y))) := by
  rw [← at_S (cr := cr) hh]
  rfl

theorem fac_gE (hh : ℕ) (q k : ℕ) : (if k ≤ q then Real.exp (gS pr hh q k + (cr hh (1024 * i) - cr hh k)) else 0) = fac cr M i hh q * gE pr cr M hh q k := by
  unfold gE fac gSc
  split_ifs
  · rw [← Real.exp_add]
    congr 1
    ring
  · rw [mul_zero]

theorem at_L (hh : h < 2) (hi : i < 4) {x : ℕ} (hx : x < 1024) :
    (blkAt pr cr j i).Ld h i x = fac cr M i (2 * j + h) (1024 * i + x) * gL pr cr M (2 * j + h) (1024 * i + x) := by
  unfold Blk.Ld Blk.L tri gL
  simp only [at_e hh]
  rw [blocks_tri (fun k => Real.exp (gS pr (2 * j + h) (1024 * i + x) k + (cr (2 * j + h) (1024 * i) - cr (2 * j + h) k))) hi hx, Finset.mul_sum]
  exact Finset.sum_congr rfl fun k _ => fac_gE _ _ _

theorem at_A (hh : h < 2) (hi : i < 4) {x : ℕ} (hx : x < 1024) (d : ℕ) : (blkAt pr cr j i).Ad h i x d
    = fac cr M i (2 * j + h) (1024 * i + x) * ∑ k ∈ Finset.range 4096, gE pr cr M (2 * j + h) (1024 * i + x) k * pr k (2048 + (128 * j + d)) := by
  unfold Blk.Ad Blk.A tri
  simp only [at_e hh, ite_mul, zero_mul]
  refine (blocks_tri (fun k => Real.exp (gS pr (2 * j + h) (1024 * i + x) k + (cr (2 * j + h) (1024 * i) - cr (2 * j + h) k)) * pr k (2048 + (128 * j + d))) hi hx).trans ?_
  rw [Finset.mul_sum]
  refine Finset.sum_congr rfl fun k _ => ?_
  rw [← mul_assoc, ← fac_gE, ite_mul, zero_mul]

theorem at_div (hh : h < 2) (hi : i < 4) {x : ℕ} (hx : x < 1024) {d : ℕ} (hd : (128 * j + d) / 64 = 2 * j + h) :
    (blkAt pr cr j i).Ad h i x d / (blkAt pr cr j i).Ld h i x = gOr pr cr M (1024 * i + x) (128 * j + d) := by
  rw [at_A (M := M) hh hi hx, at_L (M := M) hh hi hx, mul_div_mul_left _ _ (fac_ne _ _ _)]
  unfold gOr gP
  rw [hd, Finset.sum_div]
  exact Finset.sum_congr rfl fun k _ => by ring

theorem at_o (hi : i < 4) {x l : ℕ} (hx : x < 1024) (hl : l < 128) : (blkAt pr cr j i).o i x l = gOr pr cr M (1024 * i + x) (128 * j + l) := by
  unfold Blk.o
  split_ifs with h
  · exact at_div (by norm_num) hi hx (by omega)
  · exact at_div (by norm_num) hi hx (by omega)

theorem at_lp (hh : h < 2) (hi : i < 4) {x : ℕ} (hx : x < 1024) : (blkAt pr cr j i).lp i h x = gLr pr cr M (2 * j + h) (1024 * i + x) := by
  unfold Blk.lp gLr
  rw [at_L (M := M) hh hi hx, Real.log_mul (fac_ne _ _ _) (gL_ne _ _)]
  unfold fac
  rw [Real.log_exp]
  show _ - cr (2 * j + h) (1024 * i) = _
  ring

end Cert.Fwd
-- ==== Proof.Fwd.Tile.lean ====
/- A block of columns of the attention's forward call, over the reals. -/
module

public import proofs.«01_k».proof.Proof.Fwd.Online
public import proofs.«01_k».proof.Proof.Fwd.Real
public import proofs.«01_k».proof.Proof.Flash.Pay2
public import proofs.«01_k».proof.Proof.Gen.Kernel5Ideal.Skeleton

@[expose] public section

set_option maxRecDepth 16384

noncomputable section

open Idealize.ShloMosaic Idealize.ShloMosaic.TcCoe Idealize.SL.Sem

namespace Cert.Kernel5Ideal.Value

open Cert.Kernel5Ideal Cert.Kernel5Ideal.Gen Cert.Flash Cert.Fwd
open Cert.Kernel2Ideal.Value (R1 R2 R3 R4 m0 m1 sel_slt sel_sge eighth coe_ite sg)

/-- The rows' states, and the scores with their exponentials. -/
def OnV {r : ℕ} (m l : (⟨2, ![r, 1]⟩ : Shape).Idx → EReal) (a : (⟨2, ![r, 128]⟩ : Shape).Idx → EReal) (L : ℕ → ℝ) (A : ℕ → ℕ → ℝ) : Prop :=
  ∀ x : Fin r, On (m (ix2 x 0)) (l (ix2 x 0)) (fun d => a (ix2 x d)) (L x.val) (A x.val)
def ScV {r c : ℕ} (s : (⟨2, ![r, c]⟩ : Shape).Idx → EReal) (e : ℕ → ℕ → ℝ) : Prop := ∀ (x : Fin r) (y : Fin c), Sc (s (ix2 x y)) (e x.val y.val)

theorem OnV.step {r c : ℕ} {m l m' l' : (⟨2, ![r, 1]⟩ : Shape).Idx → EReal} {a a' : (⟨2, ![r, 128]⟩ : Shape).Idx → EReal} {L : ℕ → ℝ} {A e V : ℕ → ℕ → ℝ}
    {s : (⟨2, ![r, c]⟩ : Shape).Idx → EReal} {v : (⟨2, ![c, 128]⟩ : Shape).Idx → EReal}
    (h : OnV m l a L A) (hs : ScV s e) (hne : ∀ x : Fin r, ∃ y : Fin c, e x.val y.val ≠ 0) (hv : R2 v V)
    (hm : ∀ x : Fin r, m' (ix2 x 0) = max (m (ix2 x 0)) ((Finset.univ : Finset (Fin c)).fold max ⊥ fun y => s (ix2 x y)))
    (hl : ∀ x : Fin r, l' (ix2 x 0) = Ideal.exp (m (ix2 x 0) - m' (ix2 x 0)) * l (ix2 x 0) + ∑ y : Fin c, Ideal.exp (s (ix2 x y) - m' (ix2 x 0)))
    (ha : ∀ (x : Fin r) (d : Fin 128), a' (ix2 x d) = Ideal.exp (m (ix2 x 0) - m' (ix2 x 0)) * a (ix2 x d)
      + ∑ y : Fin c, Ideal.exp (s (ix2 x y) - m' (ix2 x 0)) * v (ix2 y d)) :
    OnV m' l' a' (fun x => L x + ∑ y ∈ Finset.range c, e x y) (fun x d => A x d + ∑ y ∈ Finset.range c, e x y * V y d) := fun x =>
  (h x).step (fun y => s (ix2 x y)) (e x.val) V (fun y => hs x y) (hne x) (hm x) (hl x) fun d => by simp only [ha, hv _ _]

theorem ninf : Ideal.ofBits FTy.f32 0xFF800000#32 = ⊥ := by simp [Ideal.ofBits, Ideal.ieee]

/-- The lower rows of a block. -/
def lo {α : Type} (f : ℕ → α) (x : ℕ) : α := f (512 + x)

/-- A block below the diagonal. -/
theorem OnV.block {m l m' l' : (⟨2, ![1024, 1]⟩ : Shape).Idx → EReal} {a a' : (⟨2, ![1024, 128]⟩ : Shape).Idx → EReal} {q k V A : ℕ → ℕ → ℝ} {r : ℝ}
    {c L : ℕ → ℝ} {s : (⟨2, ![1024, 1024]⟩ : Shape).Idx → EReal} {v : (⟨2, ![1024, 128]⟩ : Shape).Idx → EReal}
    (h : OnV m l a L A) (hs : ScV s (eT q k r c)) (hv : R2 v V)
    (hm : ∀ x : Fin 1024, m' (ix2 x 0) = max (m (ix2 x 0)) ((Finset.univ : Finset (Fin 1024)).fold max ⊥ fun y => s (ix2 x y)))
    (hl : ∀ x : Fin 1024, l' (ix2 x 0) = Ideal.exp (m (ix2 x 0) - m' (ix2 x 0)) * l (ix2 x 0) + ∑ y : Fin 1024, Ideal.exp (s (ix2 x y) - m' (ix2 x 0)))
    (ha : ∀ (x : Fin 1024) (d : Fin 128), a' (ix2 x d) = Ideal.exp (m (ix2 x 0) - m' (ix2 x 0)) * a (ix2 x d)
      + ∑ y : Fin 1024, Ideal.exp (s (ix2 x y) - m' (ix2 x 0)) * v (ix2 y d)) :
    OnV m' l' a' (fun x => L x + ∑ y ∈ Finset.range 1024, eT q k r c x y) (fun x d => A x d + ∑ y ∈ Finset.range 1024, eT q k r c x y * V y d) :=
  h.step hs (fun _ => ⟨0, (Real.exp_pos _).ne'⟩) hv hm hl ha

theorem tri_sc {q k : ℕ → ℕ → ℝ} {r : ℝ} {c : ℕ → ℝ} {x y : ℕ} {s : EReal} (h : s = ((tS q k x y + (r - c y) : ℝ) : EReal)) :
    Sc (if y ≤ x then s else ⊥) (tri (eT q k r c) x y) := by
  subst h
  exact sc_ite _ _

theorem tri_ne {q k : ℕ → ℕ → ℝ} {r : ℝ} {c : ℕ → ℝ} {x y : ℕ} (h : y ≤ x) : tri (eT q k r c) x y ≠ 0 := by
  rw [tri, if_pos h]
  exact (Real.exp_pos _).ne'

theorem addi_ofNat (a b : ℕ) : IntOp.addi (BitVec.ofNat 32 a) (BitVec.ofNat 32 b) = BitVec.ofNat 32 (a + b) := (BitVec.ofNat_add a b).symm

theorem mask_sel {α : Type} (o : ℕ) (ho : o ≤ 512) (x : Fin 512) {n : ℕ} (hn : n ≤ 1024) (y : Fin n) (a b : α) :
    Scalar.select (IntOp.cmpi CmpIPredicate.sge (IntOp.addi (BitVec.ofNat 32 o) (BitVec.ofNat 32 x.val)) (BitVec.ofNat 32 y.val)) a b
      = if y.val ≤ o + x.val then a else b := by
  rw [addi_ofNat, sel_sge (by omega) (by omega)]

section
variable {v13 v16 : FVec Ideal S1024x128 .bf16} {v20 v24 : FVec Ideal S1x1 .f32} {m l : FVec Ideal S1024x1 .f32} {a : FVec Ideal S1024x128 .f32}
  {kb vb : Vec Ideal S1024x128 .bf16} {cb : Vec Ideal S1x1x1x1024 .f32} {ku vu q5 : Vec Ideal S512x128 .bf16}
  {mh lh : FVec Ideal S512x1 .f32} {ah : FVec Ideal S512x128 .f32}
  {q k V A : ℕ → ℕ → ℝ} {r : ℝ} {c L : ℕ → ℝ}

theorem sc_real {s : EReal} {x y : ℕ} (h : s = ((tS q k x y + (r - c y) : ℝ) : EReal)) : Sc s (eT q k r c x y) := Or.inr ⟨_, h, rfl⟩

theorem s_pay2 (hq : R2 v13 q) (hr : v20 (ix2 0 0) = (r : EReal)) (hk : R2 kb k) (hc : R4 cb c) : ScV (k0_pay2 (F := Ideal) v13 v20 kb cb) (eT q k r c) := by
  intro x y
  refine sc_real ?_
  unfold k0_pay2
  pointwise
  simp only [hq _ _, hk _ _, hr, hc _]
  rw [coe_dot 128 (q x) (k y), ← EReal.coe_sub, ← EReal.coe_add]
  rfl

theorem s_pay8 (hq : R2 v16 q) (hr : v24 (ix2 0 0) = (r : EReal)) (hk : R2 kb k) (hc : R4 cb c) : ScV (k0_pay8 (F := Ideal) v16 v24 kb cb) (eT q k r c) := by
  intro x y
  refine sc_real ?_
  unfold k0_pay8
  pointwise
  simp only [hq _ _, hk _ _, hr, hc _]
  rw [coe_dot 128 (q x) (k y), ← EReal.coe_sub, ← EReal.coe_add]
  rfl

theorem s_pay41 (hq : R2 v13 q) (hr : v20 (ix2 0 0) = (r : EReal)) (hk : R2 ku k) (hc : R4 cb c) :
    ScV (k0_pay41 (F := Ideal) v13 v20 ku cb) (tri (eT q k r c)) := by
  intro x y
  unfold k0_pay41
  pointwise
  rw [ninf]
  rw [mask_sel 0 (by omega) x (by omega) y, Nat.zero_add]
  refine tri_sc ?_
  simp only [hq _ _, hk _ _, hr, hc _]
  rw [coe_dot 128 (q x) (k y), ← EReal.coe_sub, ← EReal.coe_add]
  rfl

theorem r_pay47 (hq : R2 v16 q) : R2 (k0_pay47 (F := Ideal) v16) q := by
  intro x y
  unfold k0_pay47
  pointwise
  exact hq _ _

theorem s_pay48 (hq : R2 q5 q) (hr : v24 (ix2 0 0) = (r : EReal)) (hk : R2 ku k) (hc : R4 cb c) :
    ScV (k0_pay48 (F := Ideal) v24 ku q5 (constant S512x512 .f32 0x00000000#32) cb) (tri (eT q k r c)) := by
  intro x y
  unfold k0_pay48
  pointwise
  rw [ninf]
  rw [mask_sel 0 (by omega) x (by omega) y, Nat.zero_add]
  refine tri_sc ?_
  simp only [hq _ _, hk _ _, hr, hc _]
  rw [coe_dot 128 (q x) (k y), ← EReal.coe_sub, ← EReal.coe_add]
  rfl

theorem s_pay61 (hq : R2 v13 q) (hr : v20 (ix2 0 0) = (r : EReal)) (hk : R2 kb k) (hc : R4 cb c) :
    ScV (k0_pay61 (F := Ideal) v20 (k0_pay60 (F := Ideal) v13 kb) cb) (lo (tri (eT q k r c))) := by
  intro x y
  unfold k0_pay61 k0_pay60
  pointwise
  rw [ninf]
  rw [mask_sel 512 le_rfl x le_rfl y]
  refine tri_sc ?_
  simp only [hq _ _, hk _ _, hr, hc _]
  rw [coe_dot 128 (q (512 + x)) (k y), ← EReal.coe_sub, ← EReal.coe_add]
  rfl

theorem s_pay67 (hq : R2 v16 q) (hr : v24 (ix2 0 0) = (r : EReal)) (hk : R2 kb k) (hc : R4 cb c) :
    ScV (k0_pay67 (F := Ideal) v16 v24 kb cb) (lo (tri (eT q k r c))) := by
  intro x y
  unfold k0_pay67
  pointwise
  rw [ninf]
  rw [mask_sel 512 le_rfl x le_rfl y]
  refine tri_sc ?_
  simp only [hq _ _, hk _ _, hr, hc _]
  rw [coe_dot 128 (q (512 + x)) (k y), ← EReal.coe_sub, ← EReal.coe_add]
  rfl
end
end Cert.Kernel5Ideal.Value
-- ==== Proof.Fwd.Step.lean ====
/- One step of the rows' states of the attention's forward call, over the reals. -/
module

public import proofs.«01_k».proof.Proof.Fwd.Online
public import proofs.«01_k».proof.Proof.Fwd.Real
public import proofs.«01_k».proof.Proof.Flash.Pay2
public import proofs.«01_k».proof.Proof.Fwd.Tile
public import proofs.«01_k».proof.Proof.Gen.Kernel5Ideal.Skeleton

@[expose] public section

set_option maxRecDepth 16384

noncomputable section

open Idealize.ShloMosaic Idealize.ShloMosaic.TcCoe Idealize.SL.Sem

namespace Cert.Kernel5Ideal.Value

open Cert.Kernel5Ideal Cert.Kernel5Ideal.Gen Cert.Flash Cert.Fwd
open Cert.Kernel2Ideal.Value (R1 R2 R3 R4 m0 m1 sel_slt sel_sge eighth coe_ite sg)

section
variable {v13 v16 : FVec Ideal S1024x128 .bf16} {v20 v24 : FVec Ideal S1x1 .f32} {m l : FVec Ideal S1024x1 .f32} {a : FVec Ideal S1024x128 .f32}
  {kb vb : Vec Ideal S1024x128 .bf16} {cb : Vec Ideal S1x1x1x1024 .f32} {ku vu q5 : Vec Ideal S512x128 .bf16}
  {mh lh : FVec Ideal S512x1 .f32} {ah : FVec Ideal S512x128 .f32}
  {q k V A : ℕ → ℕ → ℝ} {r : ℝ} {c L : ℕ → ℝ}

theorem on_init : OnV (k0_pay28 (F := Ideal)) (k0_pay29 (F := Ideal)) (k0_pay30 (F := Ideal)) (fun _ => 0) (fun _ _ => 0) := by
  intro x
  refine Or.inl ⟨?_, ?_, fun d => ?_, rfl, fun _ => rfl⟩
  · unfold k0_pay28
    pointwise
    exact ninf
  · unfold k0_pay29
    pointwise
  · unfold k0_pay30
    pointwise

theorem on_loop0 (h : OnV m l a L A) (hq : R2 v13 q) (hr : v20 (ix2 0 0) = (r : EReal)) (hk : R2 kb k) (hv : R2 vb V) (hc : R4 cb c) :
    OnV (k0_pay3 (F := Ideal) v13 v20 m kb cb) (k0_pay6 (F := Ideal) v13 v20 m l kb cb) (k0_pay7 (F := Ideal) v13 v20 m a kb vb cb)
      (fun x => L x + ∑ y ∈ Finset.range 1024, eT q k r c x y) (fun x d => A x d + ∑ y ∈ Finset.range 1024, eT q k r c x y * V y d) := by
  refine h.block (s_pay2 hq hr hk hc) hv (fun x => ?_) (fun x => ?_) (fun x d => ?_)
  · unfold k0_pay3
    pointwise
    rw [ninf]
  · unfold k0_pay6 k0_pay4 k0_pay5
    pointwise
  · unfold k0_pay7 k0_pay4 k0_pay5
    pointwise

theorem on_loop1 (h : OnV m l a L A) (hq : R2 v16 q) (hr : v24 (ix2 0 0) = (r : EReal)) (hk : R2 kb k) (hv : R2 vb V) (hc : R4 cb c) :
    OnV (k0_pay9 (F := Ideal) v16 v24 m kb cb)
      (k0_pay32 (F := Ideal) l (k0_pay8 (F := Ideal) v16 v24 kb cb) (k0_pay9 (F := Ideal) v16 v24 m kb cb) (k0_pay10 (F := Ideal) v16 v24 m kb cb))
      (k0_pay33 (F := Ideal) a vb (k0_pay8 (F := Ideal) v16 v24 kb cb) (k0_pay9 (F := Ideal) v16 v24 m kb cb) (k0_pay10 (F := Ideal) v16 v24 m kb cb))
      (fun x => L x + ∑ y ∈ Finset.range 1024, eT q k r c x y) (fun x d => A x d + ∑ y ∈ Finset.range 1024, eT q k r c x y * V y d) := by
  refine h.block (s_pay8 hq hr hk hc) hv (fun x => ?_) (fun x => ?_) (fun x d => ?_)
  · unfold k0_pay9
    pointwise
    rw [ninf]
  · unfold k0_pay32 k0_pay10 k0_pay31
    pointwise
  · unfold k0_pay33 k0_pay10 k0_pay31
    pointwise

/-- The upper rows' states, as the diagonal block takes them. -/
theorem on_up0 (h : OnV m l a L A) : OnV (k0_pay37 (F := Ideal) m) (extractStridedSlice S512x1 ![0, 0] l slices_S1024x1_o0_0_S512x1)
    (extractStridedSlice S512x128 ![0, 0] a slices_S1024x128_o0_0_S512x128) L A := by
  intro x
  have := h (x.castLE (by norm_num))
  unfold k0_pay37
  pointwise
  exact this

theorem on_up1 (h : OnV m l a L A) : OnV (k0_pay38 (F := Ideal) m) (k0_pay39 (F := Ideal) l) (k0_pay40 (F := Ideal) a) L A := on_up0 h

theorem on_lo0 (h : OnV m l a L A) : OnV (k0_pay54 (F := Ideal) m) (k0_pay55 (F := Ideal) l) (k0_pay56 (F := Ideal) a) (lo L) (lo A) := by
  intro x
  have := h ⟨512 + x.val, by omega⟩
  unfold k0_pay54 k0_pay55 k0_pay56
  pointwise
  exact this

theorem on_lo1 (h : OnV m l a L A) : OnV (k0_pay57 (F := Ideal) m) (k0_pay58 (F := Ideal) l) (k0_pay59 (F := Ideal) a) (lo L) (lo A) := on_lo0 h

theorem on_diag0 (h : OnV m l a L A) (hq : R2 v13 q) (hr : v20 (ix2 0 0) = (r : EReal)) (hk : R2 ku k) (hv : R2 vu V) (hc : R4 cb c) :
    OnV (k0_pay42 (F := Ideal) v13 v20 m ku cb) (k0_pay45 (F := Ideal) v13 v20 m l ku cb) (k0_pay46 (F := Ideal) v13 v20 m a ku vu cb)
      (fun x => L x + ∑ y ∈ Finset.range 512, tri (eT q k r c) x y) (fun x d => A x d + ∑ y ∈ Finset.range 512, tri (eT q k r c) x y * V y d) := by
  refine (on_up0 h).step (s_pay41 hq hr hk hc) (fun x => ⟨x, tri_ne le_rfl⟩) hv (fun x => ?_) (fun x => ?_) (fun x d => ?_)
  · unfold k0_pay42
    pointwise
    rw [ninf]
  · unfold k0_pay45 k0_pay43 k0_pay44
    pointwise
  · unfold k0_pay46 k0_pay43 k0_pay44
    pointwise

theorem on_diag1 (h : OnV mh lh ah L A) (hq : R2 q5 q) (hr : v24 (ix2 0 0) = (r : EReal)) (hk : R2 ku k) (hv : R2 vu V) (hc : R4 cb c) :
    OnV (k0_pay49 (F := Ideal) v24 mh ku q5 (constant S512x512 .f32 0x00000000#32) cb) (k0_pay52 (F := Ideal) v24 mh lh ku q5 (constant S512x512 .f32 0x00000000#32) cb)
      (k0_pay53 (F := Ideal) v24 mh ah ku vu q5 (constant S512x512 .f32 0x00000000#32) cb)
      (fun x => L x + ∑ y ∈ Finset.range 512, tri (eT q k r c) x y) (fun x d => A x d + ∑ y ∈ Finset.range 512, tri (eT q k r c) x y * V y d) := by
  refine h.step (s_pay48 hq hr hk hc) (fun x => ⟨x, tri_ne le_rfl⟩) hv (fun x => ?_) (fun x => ?_) (fun x d => ?_)
  · unfold k0_pay49
    pointwise
    rw [ninf]
  · unfold k0_pay52 k0_pay50 k0_pay51
    pointwise
  · unfold k0_pay53 k0_pay50 k0_pay51
    pointwise

theorem on_low0 (h : OnV mh lh ah (lo L) (lo A)) (hq : R2 v13 q) (hr : v20 (ix2 0 0) = (r : EReal)) (hk : R2 kb k) (hv : R2 vb V) (hc : R4 cb c) :
    OnV (k0_pay62 (F := Ideal) v20 mh (k0_pay60 (F := Ideal) v13 kb) cb) (k0_pay65 (F := Ideal) v20 mh lh (k0_pay60 (F := Ideal) v13 kb) cb)
      (k0_pay66 (F := Ideal) v20 mh ah vb (k0_pay60 (F := Ideal) v13 kb) cb)
      (lo fun x => L x + ∑ y ∈ Finset.range 1024, tri (eT q k r c) x y) (lo fun x d => A x d + ∑ y ∈ Finset.range 1024, tri (eT q k r c) x y * V y d) := by
  refine h.step (s_pay61 hq hr hk hc) (fun x => ⟨0, tri_ne (Nat.zero_le _)⟩) hv (fun x => ?_) (fun x => ?_) (fun x d => ?_)
  · unfold k0_pay62
    pointwise
    rw [ninf]
  · unfold k0_pay65 k0_pay63 k0_pay64
    pointwise
  · unfold k0_pay66 k0_pay63 k0_pay64
    pointwise

/-- The odd head's lower rows: the sums the last step forms. -/
def low1L (mh lh : (⟨2, ![512, 1]⟩ : Shape).Idx → EReal) (m' : (⟨2, ![512, 1]⟩ : Shape).Idx → EReal) (s : (⟨2, ![512, 1024]⟩ : Shape).Idx → EReal) :
    (⟨2, ![512, 1]⟩ : Shape).Idx → EReal :=
  fun i => Ideal.exp (mh (ix2 (i 0) 0) - m' (ix2 (i 0) 0)) * lh (ix2 (i 0) 0) + ∑ y : Fin 1024, Ideal.exp (s (ix2 (i 0) y) - m' (ix2 (i 0) 0))
def low1A (mh : (⟨2, ![512, 1]⟩ : Shape).Idx → EReal) (ah : (⟨2, ![512, 128]⟩ : Shape).Idx → EReal) (m' : (⟨2, ![512, 1]⟩ : Shape).Idx → EReal)
    (s : (⟨2, ![512, 1024]⟩ : Shape).Idx → EReal) (v : (⟨2, ![1024, 128]⟩ : Shape).Idx → EReal) : (⟨2, ![512, 128]⟩ : Shape).Idx → EReal :=
  fun i => Ideal.exp (mh (ix2 (i 0) 0) - m' (ix2 (i 0) 0)) * ah (ix2 (i 0) (i 1)) + ∑ y : Fin 1024, Ideal.exp (s (ix2 (i 0) y) - m' (ix2 (i 0) 0)) * v (ix2 y (i 1))

theorem on_low1 {s : FVec Ideal S512x1024 .f32} (h : OnV mh lh ah (lo L) (lo A)) (hs : ScV s (lo (tri (eT q k r c)))) (hv : R2 vb V) :
    OnV (k0_pay68 (F := Ideal) mh s) (low1L mh lh (k0_pay68 (F := Ideal) mh s) s) (low1A mh ah (k0_pay68 (F := Ideal) mh s) s vb)
      (lo fun x => L x + ∑ y ∈ Finset.range 1024, tri (eT q k r c) x y) (lo fun x d => A x d + ∑ y ∈ Finset.range 1024, tri (eT q k r c) x y * V y d) := by
  refine h.step hs (fun x => ⟨0, tri_ne (Nat.zero_le _)⟩) hv (fun x => ?_) (fun x => rfl) (fun x d => rfl)
  unfold k0_pay68
  pointwise
  rw [ninf]
end
end Cert.Kernel5Ideal.Value
-- ==== Proof.Fwd.Out.lean ====
/- The results of the attention's forward call, over the reals. -/
module

public import proofs.«01_k».proof.Proof.Fwd.Online
public import proofs.«01_k».proof.Proof.Fwd.Real
public import proofs.«01_k».proof.Proof.Flash.Pay2
public import proofs.«01_k».proof.Proof.Fwd.Step
public import proofs.«01_k».proof.Proof.Gen.Kernel5Ideal.Skeleton

@[expose] public section

set_option maxRecDepth 16384

noncomputable section

open Idealize.ShloMosaic Idealize.ShloMosaic.TcCoe Idealize.SL.Sem

namespace Cert.Kernel5Ideal.Value

open Cert.Kernel5Ideal Cert.Kernel5Ideal.Gen Cert.Flash Cert.Fwd
open Cert.Kernel2Ideal.Value (R1 R2 R3 R4 m0 m1 sel_slt sel_sge eighth coe_ite sg)

section
variable {v13 v16 : FVec Ideal S1024x128 .bf16} {v20 v24 : FVec Ideal S1x1 .f32} {v3 : Vec Ideal S1024x128 .f32} {cw : Vec Ideal S1x1x1x1024 .f32}
  {m0u l0u m0l l0l m1u l1u m1l l1l : FVec Ideal S512x1 .f32} {a0u a0l a1u a1l : FVec Ideal S512x128 .f32} {s : FVec Ideal S512x1024 .f32} {vb : Vec Ideal S1024x128 .bf16}
  {q V A A0 A1 : ℕ → ℕ → ℝ} {r : ℝ} {c L L0 L1 : ℕ → ℝ}

theorem lane_sel {α : Type} (x : Fin 1024) (l : Fin 128) (a b : α) : Scalar.select (k0_pay23 (ix2 x l)) a b = if l.val < 64 then a else b := by
  unfold k0_pay23
  pointwise
  exact sel_slt (by omega) (by omega) a b

theorem r_pay24 (h : R2 v3 q) : R2 (k0_pay24 (F := Ideal) v3) (m0 fun x l => q x l * (1 / 8)) := by
  intro x l
  unfold k0_pay24 k0_pay22
  pointwise
  rw [lane_sel, eighth, h _ _, ← EReal.coe_mul, ← EReal.coe_zero, coe_ite]
  rfl

theorem r_pay25 (h : R2 v3 q) : R2 (k0_pay25 (F := Ideal) v3) (m1 fun x l => q x l * (1 / 8)) := by
  intro x l
  unfold k0_pay25 k0_pay22
  pointwise
  rw [sel_sge (by omega) (by omega), eighth, h _ _, ← EReal.coe_mul, ← EReal.coe_zero, coe_ite]
  rfl

theorem r_pay26 (h : R4 cw c) : k0_pay26 (F := Ideal) cw (ix2 0 0) = ((c 0 : ℝ) : EReal) := by
  unfold k0_pay26
  pointwise
  exact h 0

theorem r_pay27 (h : R4 cw c) : k0_pay27 (F := Ideal) cw (ix2 0 0) = ((c 0 : ℝ) : EReal) := r_pay26 h

/-- A row of the block is one of its upper or of its lower half. -/
theorem halves {P : Fin 1024 → Prop} (h1 : ∀ x : Fin 512, P ⟨x.val, by omega⟩) (h2 : ∀ x : Fin 512, P ⟨512 + x.val, by omega⟩) (x : Fin 1024) : P x := by
  by_cases h : x.val < 512
  · exact h1 ⟨x.val, h⟩
  · have := h2 ⟨x.val - 512, by omega⟩
    rwa [show (⟨512 + (x.val - 512), by omega⟩ : Fin 1024) = x from Fin.ext (by show 512 + (x.val - 512) = x.val; omega)] at this

theorem r_pay72 (hu : OnV m0u l0u a0u L A) (hl : OnV m0l l0l a0l (lo L) (lo A)) (hp : ∀ x, 0 < L x) (hr : v20 (ix2 0 0) = (r : EReal)) (x : Fin 1024) (z : Fin 128) :
    k0_pay72 (F := Ideal) v20 m0u l0u m0l l0l (ix3 0 x z) = ((Real.log (L x.val) - r : ℝ) : EReal) := by
  revert x
  refine halves (fun x => ?_) fun x => ?_
  · have := ((hu x).out (hp _)).2
    unfold k0_pay72 k0_pay71
    pointwise
    rw [this, hr, ← EReal.coe_sub]
  · have := ((hl x).out (hp _)).2
    unfold k0_pay72 k0_pay71
    pointwise
    rw [this, hr, ← EReal.coe_sub]
    rfl

theorem r_pay74 (hu : OnV m1u l1u a1u L A) (hl : OnV (k0_pay68 (F := Ideal) m1l s) (low1L m1l l1l (k0_pay68 (F := Ideal) m1l s) s) (low1A m1l a1l (k0_pay68 (F := Ideal) m1l s) s vb) (lo L) (lo A))
    (hp : ∀ x, 0 < L x) (hr : v24 (ix2 0 0) = (r : EReal)) (x : Fin 1024) (z : Fin 128) :
    k0_pay74 (F := Ideal) v24 m1u l1u m1l l1l s (ix3 0 x z) = ((Real.log (L x.val) - r : ℝ) : EReal) := by
  revert x
  refine halves (fun x => ?_) fun x => ?_
  · have := ((hu x).out (hp _)).2
    unfold k0_pay74 k0_pay73 k0_pay69 k0_pay70
    pointwise
    rw [this, hr, ← EReal.coe_sub]
  · have := ((hl x).out (hp _)).2
    unfold k0_pay74 k0_pay73 k0_pay69 k0_pay70
    pointwise
    refine (congrArg₂ (· - ·) this hr).trans ?_
    rw [← EReal.coe_sub]
    rfl

theorem r_pay75 (h0u : OnV m0u l0u a0u L0 A0) (h0l : OnV m0l l0l a0l (lo L0) (lo A0)) (h1u : OnV m1u l1u a1u L1 A1)
    (h1l : OnV (k0_pay68 (F := Ideal) m1l s) (low1L m1l l1l (k0_pay68 (F := Ideal) m1l s) s) (low1A m1l a1l (k0_pay68 (F := Ideal) m1l s) s vb) (lo L1) (lo A1))
    (hp0 : ∀ x, 0 < L0 x) (hp1 : ∀ x, 0 < L1 x) :
    R2 (k0_pay75 (F := Ideal) k0_pay23 l0u a0u l1u a1u m1l l1l a1l vb l0l a0l s) (fun x l => if l < 64 then A0 x l / L0 x else A1 x l / L1 x) := by
  refine halves (fun x l => ?_) fun x l => ?_
  · have e0 := ((h0u x).out (hp0 _)).1 l
    have e1 := ((h1u x).out (hp1 _)).1 l
    unfold k0_pay75 k0_pay73 k0_pay71 k0_pay69 k0_pay70
    pointwise
    rw [lane_sel, e0, e1, coe_ite]
  · have e0 := ((h0l x).out (hp0 _)).1 l
    have e1 := ((h1l x).out (hp1 _)).1 l
    unfold k0_pay75 k0_pay73 k0_pay71 k0_pay69 k0_pay70
    pointwise
    refine (lane_sel (α := EReal) ⟨512 + x.val, by omega⟩ l _ _).trans ?_
    refine (congrArg₂ (fun a b : EReal => if l.val < 64 then a else b) e0 e1).trans ?_
    exact coe_ite _ _ _

theorem r_pay1 {o g : Vec Ideal S1024x128 .f32} {f γ : ℕ → ℕ → ℝ} (ho : R2 o f) (hg : R2 g γ) : R2 (k0_pay1 (F := Ideal) o g) (fun x l => f x l * (γ x l * sg (γ x l))) := by
  intro x l
  have hp : (1 + Real.exp (-γ x.val l.val)) ≠ 0 := by positivity
  unfold k0_pay1
  pointwise
  rw [ho _ _, hg _ _, zero_sub, ← EReal.coe_neg, Ideal.exp_coe, ← EReal.coe_one, ← EReal.coe_add, Ideal.div_coe hp, ← EReal.coe_mul, ← EReal.coe_mul, ← EReal.coe_mul, one_mul]
  rfl
end
end Cert.Kernel5Ideal.Value
-- ==== Proof.Fwd.Trip.lean ====
/- The attention forward call's reads and its loop over the key blocks, over the reals. -/
module

public import proofs.«01_k».proof.Proof.Fwd.Out
public import proofs.«01_k».proof.Proof.Flash.Cases
public import proofs.«01_k».proof.Proof.Gen.Kernel5Ideal.Frame
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen Cert.Flash Cert.Fwd
open Cert.Kernel2Ideal.Value (R1 R2 R3 R4 m0 m1 sg)

/-- The entries of the running sums' tile. -/
def C4 (v : S1x2x4x1024.Idx → EReal) (E : ℕ → ℕ → ℕ → ℝ) : Prop :=
  ∀ (h : Fin 2) (n : Fin 4) (y : Fin 1024), v (ix4 0 h n y) = ((E h.val n.val y.val : ℝ) : EReal)

section
variable {κ : Kind} {sp : Space} {A f : ℕ → ℕ → ℝ} {E : ℕ → ℕ → ℕ → ℝ} {n h b : ℕ}

/-- The first `b` rows of a block of 1024. -/
theorem rd_rows (hb1 : b ≤ 1024) (v : View sig κ sp S4096x128 .bf16) {f : v.ty.Contents (Elt Ideal)} (hf : R2 (v.read (Elt Ideal) f) A) {off : Fin 2 → ℕ}
    (ho : off = ![1024 * n, 0]) (inb : ∀ a, off a + (![b, 128] : Fin 2 → ℕ) a ≤ S4096x128.size a) :
    R2 (a := b) (b := 128) (v.readAt (Elt Ideal) (Rect.unit (s := S4096x128) off ![b, 128] inb).toLoadRect f : (⟨2, ![b, 128]⟩ : Shape).Idx → EReal) (rows A n) := by
  subst ho
  rw [View.readAt_unit v f inb rfl inb]
  intro y l
  have hb : 1024 * n + b ≤ 4096 := inb 0
  have e : (Rect.unit (s := S4096x128) ![1024 * n, 0] ![b, 128] inb).emb (ix2 y l) = ix2 ⟨1024 * n + y.val, by omega⟩ l := by
    funext a
    refine Fin.cases ?_ (fun a => Fin.cases ?_ (fun a => a.elim0) a) a
    · exact Fin.ext (show 1024 * n + 1 * y.val = 1024 * n + y.val by omega)
    · exact Fin.ext (show 0 + 1 * l.val = l.val by omega)
  show v.read (Elt Ideal) f _ = _
  rw [e]
  exact hf _ _

theorem rd_cum (v : View sig κ sp S1x2x4x1024 .f32) {f : v.ty.Contents (Elt Ideal)} (hf : C4 (v.read (Elt Ideal) f) E) {off : Fin 4 → ℕ}
    (ho : off = ![0, h, n, 0]) (inb : ∀ a, off a + (![1, 1, 1, 1024] : Fin 4 → ℕ) a ≤ S1x2x4x1024.size a) :
    R4 (b := 1024) (v.readAt (Elt Ideal) (Rect.unit (s := S1x2x4x1024) off ![1, 1, 1, 1024] inb).toLoadRect f : S1x1x1x1024.Idx → EReal) (E h n) := by
  subst ho
  rw [View.readAt_unit v f inb rfl inb]
  intro y
  have hb : h + 1 ≤ 2 := inb 1
  have hb' : n + 1 ≤ 4 := inb 2
  have e : (Rect.unit (s := S1x2x4x1024) ![0, h, n, 0] ![1, 1, 1, 1024] inb).emb (ix4 0 0 0 y) = ix4 0 ⟨h, by omega⟩ ⟨n, by omega⟩ y := by
    funext a
    refine Fin.cases ?_ (fun a => Fin.cases ?_ (fun a => Fin.cases ?_ (fun a => Fin.cases ?_ (fun a => a.elim0) a) a) a) a
    · exact Fin.ext (show 0 + 1 * 0 = 0 by omega)
    · exact Fin.ext (show h + 1 * 0 = h by omega)
    · exact Fin.ext (show n + 1 * 0 = n by omega)
    · exact Fin.ext (show 0 + 1 * y.val = y.val by omega)
  show v.read (Elt Ideal) f _ = _
  rw [e]
  exact hf _ _ _

theorem rd_tile (m : Memref sig κ sp S1024x128 .f32) (hm : m.IsWhole) {x : Vec Ideal S1024x128 .f32} (hx : R2 x f)
    (inb : ∀ a, (![0, 0] : Fin 2 → ℕ) a + S1024x128.size a ≤ S1024x128.size a) :
    R2 (m.view.readAt (Elt Ideal) (Rect.unit ![0, 0] S1024x128.size inb).toLoadRect (hm.unread x)) f := by
  rw [View.readAt_full, hm.read_unread]
  exact hx

theorem wr_tile (v : View sig κ sp S1024x128 .f32) (g : v.ty.Contents (Elt Ideal)) {x : S1024x128.Idx → EReal} (hx : R2 x f)
    (inb : ∀ a, (![0, 0] : Fin 2 → ℕ) a + S1024x128.size a ≤ S1024x128.size a) (L : List (View.Piece (Elt Ideal) S1024x128 .f32)) :
    R2 (v.read (Elt Ideal) (v.writes (Elt Ideal) g (⟨Rect.unit ![0, 0] S1024x128.size inb, x⟩ :: L))) f := by
  rw [View.read_writes_full]
  exact hx

theorem wr_tile16 (v : View sig κ sp S1024x128 .bf16) (g : v.ty.Contents (Elt Ideal)) {x : S1024x128.Idx → EReal} (hx : R2 x f)
    (inb : ∀ a, (![0, 0] : Fin 2 → ℕ) a + S1024x128.size a ≤ S1024x128.size a) (L : List (View.Piece (Elt Ideal) S1024x128 .bf16)) :
    R2 (v.read (Elt Ideal) (v.writes (Elt Ideal) g (⟨Rect.unit ![0, 0] S1024x128.size inb, x⟩ :: L))) f := by
  rw [View.read_writes_full]
  exact hx

/-- The two heads' parts of the row statistics' block. -/
theorem wr_lp (v : View sig κ sp S2x1024x128 .f32) (g : v.ty.Contents (Elt Ideal)) {x0 x1 : S1x1024x128.Idx → EReal} {r : ℕ → ℕ → ℝ}
    (h0 : ∀ (x : Fin 1024) (z : Fin 128), x0 (ix3 0 x z) = ((r 0 x.val : ℝ) : EReal)) (h1 : ∀ (x : Fin 1024) (z : Fin 128), x1 (ix3 0 x z) = ((r 1 x.val : ℝ) : EReal))
    (inb0 : ∀ a, (![0, 0, 0] : Fin 3 → ℕ) a + (![1, 1024, 128] : Fin 3 → ℕ) a ≤ S2x1024x128.size a)
    (inb1 : ∀ a, (![1, 0, 0] : Fin 3 → ℕ) a + (![1, 1024, 128] : Fin 3 → ℕ) a ≤ S2x1024x128.size a) (h : Fin 2) (x : Fin 1024) (z : Fin 128) :
    (v.read (Elt Ideal) (v.writes (Elt Ideal) g [⟨Rect.unit ![1, 0, 0] ![1, 1024, 128] inb1, x1⟩,
      ⟨Rect.unit ![0, 0, 0] ![1, 1024, 128] inb0, x0⟩]) : S2x1024x128.Idx → EReal) (ix3 h x z) = ((r h.val x.val : ℝ) : EReal) := by
  rw [View.read_writes_cons_put v g inb1 x1 _ rfl, View.read_writes_cons_put v g inb0 x0 _ rfl]
  have hin : ∀ k : ℕ, k = h.val → ∀ a, (![k, 0, 0] : Fin 3 → ℕ) a ≤ ((ix3 h x z : S2x1024x128.Idx) a).val
      ∧ ((ix3 h x z : S2x1024x128.Idx) a).val < (![k, 0, 0] : Fin 3 → ℕ) a + (![1, 1024, 128] : Fin 3 → ℕ) a := by
    intro k hk
    refine Fin.cases ?_ (fun a => Fin.cases ?_ (fun a => Fin.cases ?_ (fun a => a.elim0) a) a)
    · show k ≤ h.val ∧ h.val < k + 1
      omega
    · show 0 ≤ x.val ∧ x.val < 0 + 1024
      omega
    · show 0 ≤ z.val ∧ z.val < 0 + 128
      omega
  have hloc : ∀ k : ℕ, ∀ hk : k = h.val, (Rect.unitLocal (s := S2x1024x128) (off := ![k, 0, 0]) (size := ![1, 1024, 128]) (ix3 h x z) (hin k hk) : S1x1024x128.Idx)
      = (ix3 (n0 := 1) (n1 := 1024) (n2 := 128) 0 x z : S1x1024x128.Idx) := by
    intro k hk
    funext a
    refine Fin.cases ?_ (fun a => Fin.cases ?_ (fun a => Fin.cases ?_ (fun a => a.elim0) a) a) a
    · exact Fin.ext (show h.val - k = 0 by omega)
    · exact Fin.ext (show x.val - 0 = x.val by omega)
    · exact Fin.ext (show z.val - 0 = z.val by omega)
  unfold VecWindow.put
  obtain hh | hh : h.val = 0 ∨ h.val = 1 := by omega
  · rw [dif_neg, dif_pos (hin 0 hh.symm)]
    · exact ((congrArg x0 (hloc 0 hh.symm)).trans (h0 x z)).trans (by rw [hh])
    · intro hall
      have h1 : 1 ≤ h.val := (hall 0).1
      omega
  · rw [dif_pos (hin 1 hh.symm)]
    exact ((congrArg x1 (hloc 1 hh.symm)).trans (h1 x z)).trans (by rw [hh])
end

theorem Blk.L_succ (B : Blk) (h n : ℕ) : (fun x => B.L h n x + ∑ y ∈ Finset.range 1024, B.e h n x y) = B.L h (n + 1) :=
  funext fun x => (Finset.sum_range_succ _ _).symm
theorem Blk.A_succ (B : Blk) (h n : ℕ) : (fun x d => B.A h n x d + ∑ y ∈ Finset.range 1024, B.e h n x y * rows B.V n y d) = B.A h (n + 1) :=
  funext fun x => funext fun d => (Finset.sum_range_succ _ _).symm

/-- The block's data from its loads. -/
def mkBlk (Q G K V : ℕ → ℕ → ℝ) (C : ℕ → ℕ → ℕ → ℝ) (n : ℕ) : Blk where
  q h := if h = 0 then m0 fun x l => Q x l * (1 / 8) else m1 fun x l => Q x l * (1 / 8)
  K := K
  V := V
  C := C
  r h := C h n 0
  g := G

/-- The queries by head and the references, as the block prepares them. -/
structure Prep (B : Blk) (v3 : Vec Ideal S1024x128 .f32) (v18 v22 : Vec Ideal S1x1x1x1024 .f32) : Prop where
  q0 : R2 (k0_pay24 (F := Ideal) v3) (B.q 0)
  q1 : R2 (k0_pay25 (F := Ideal) v3) (B.q 1)
  r0 : k0_pay26 (F := Ideal) v18 (ix2 0 0) = ((B.r 0 : ℝ) : EReal)
  r1 : k0_pay27 (F := Ideal) v22 (ix2 0 0) = ((B.r 1 : ℝ) : EReal)

theorem prep_of {Q G K V : ℕ → ℕ → ℝ} {C : ℕ → ℕ → ℕ → ℝ} {n : ℕ} {v3 : Vec Ideal S1024x128 .f32} {v18 v22 : Vec Ideal S1x1x1x1024 .f32} (hq : R2 v3 Q) (h18 : R4 v18 (C 0 n)) (h22 : R4 v22 (C 1 n)) :
    Prep (mkBlk Q G K V C n) v3 v18 v22 where
  q0 := r_pay24 hq
  q1 := r_pay25 hq
  r0 := r_pay26 (c := C 0 n) h18
  r1 := r_pay27 (c := C 1 n) h22

/-- The carried maxima, sums and weighted sums of both heads. -/
abbrev Car : Type := FVec Ideal S1024x1 .f32 × FVec Ideal S1024x1 .f32 × FVec Ideal S1024x128 .f32 × FVec Ideal S1024x1 .f32 × FVec Ideal S1024x1 .f32 × FVec Ideal S1024x128 .f32
structure Sums (B : Blk) (n : ℕ) (s : Car) : Prop where
  h0 : OnV s.1 s.2.1 s.2.2.1 (B.L 0 n) (B.A 0 n)
  h1 : OnV s.2.2.2.1 s.2.2.2.2.1 s.2.2.2.2.2 (B.L 1 n) (B.A 1 n)

theorem sums0 (B : Blk) : Sums B 0 (k0_pay28 (F := Ideal), k0_pay29 (F := Ideal), k0_pay30 (F := Ideal), k0_pay28 (F := Ideal), k0_pay29 (F := Ideal), k0_pay30 (F := Ideal)) := ⟨on_init, on_init⟩

section
variable (𝒱 : Variants) (c : Dev nD) (bd : Option 𝒱.V) (i : grid0.Coords)
  (arg2 : Memref sig .tc .vmem S1024x128 .f32) (harg2 : arg2.IsWhole) (arg3 : Memref sig .tc .vmem S4096x128 .f32) (harg3 : arg3.IsWhole)
  (arg4 : Memref sig .tc .vmem S4096x128 .f32) (harg4 : arg4.IsWhole) (arg5 : Memref sig .tc .vmem S1024x128 .f32) (harg5 : arg5.IsWhole)
  (arg6 : Memref sig .tc .vmem S1x2x4x1024 .f32) (harg6 : arg6.IsWhole) (arg7 : Memref sig .tc .vmem S1024x128 .f32) (harg7 : arg7.IsWhole)
  (arg8 : Memref sig .tc .vmem S1024x128 .bf16) (harg8 : arg8.IsWhole) (arg9 : Memref sig .tc .vmem S2x1024x128 .f32) (harg9 : arg9.IsWhole)
  (arg10 : Memref sig .tc .vmem S4096x128 .bf16) (harg10 : arg10.IsWhole) (arg11 : Memref sig .tc .vmem S4096x128 .bf16) (harg11 : arg11.IsWhole)
  (v3 : Vec Ideal S1024x128 .f32) (v18 v22 : Vec Ideal S1x1x1x1024 .f32)
  (X6 : BufTy.Contents (Elt Ideal) arg6.view.ty) (X10 : BufTy.Contents (Elt Ideal) arg10.view.ty) (X11 : BufTy.Contents (Elt Ideal) arg11.view.ty)
variable {B : Blk}

theorem trip (hp : Prep B v3 v18 v22) (h6 : C4 (arg6.view.read (Elt Ideal) X6) B.C) (h10 : R2 (arg10.view.read (Elt Ideal) X10) B.K)
    (h11 : R2 (arg11.view.read (Elt Ideal) X11) B.V) (k : Fin (k0_t1_loop i).trips) (acc : Car) (hs : Sums B k.val acc) :
    Sums B (k.val + 1) (tripR_k0_t1 (F := Ideal) 𝒱 c bd i arg2 harg2 arg3 harg3 arg4 harg4 arg5 harg5 arg6 harg6 arg7 harg7 arg8 harg8 arg9 harg9 arg10 harg10 arg11 harg11 v3 v18 v22 X6 X10 X11 k acc) := by
  have hK := fun inb => rd_rows (b := 1024) (n := k.val) le_rfl arg10.view h10 (k0_off3_eq i k) inb
  have hV := fun inb => rd_rows (b := 1024) (n := k.val) le_rfl arg11.view h11 (k0_off3_eq i k) inb
  have hC0 := fun inb => rd_cum (h := 0) (n := k.val) arg6.view h6 (k0_off4_eq i k) inb
  have hC1 := fun inb => rd_cum (h := 1) (n := k.val) arg6.view h6 (k0_off5_eq i k) inb
  refine ⟨?_, ?_⟩ <;> (unfold tripR_k0_t1 trip_k0_t1; dsimp only; sl_unfold_run_names)
  · rw [← Blk.L_succ, ← Blk.A_succ]
    exact on_loop0 hs.h0 hp.q0 hp.r0 (hK _) (hV _) (hC0 _)
  · rw [← Blk.L_succ, ← Blk.A_succ]
    exact on_loop1 hs.h1 hp.q1 hp.r1 (hK _) (hV _) (hC1 _)

theorem trips (hp : Prep B v3 v18 v22) (h6 : C4 (arg6.view.read (Elt Ideal) X6) B.C) (h10 : R2 (arg10.view.read (Elt Ideal) X10) B.K)
    (h11 : R2 (arg11.view.read (Elt Ideal) X11) B.V) (init : Car) (hs : Sums B 0 init) : ∀ n, n ≤ (k0_t1_loop i).trips →
    Sums B n (st_k0_t1 (F := Ideal) 𝒱 c bd i arg2 harg2 arg3 harg3 arg4 harg4 arg5 harg5 arg6 harg6 arg7 harg7 arg8 harg8 arg9 harg9 arg10 harg10 arg11 harg11 v3 v18 v22 X6 X10 X11 init n) := by
  intro n
  induction n with
  | zero =>
    intro _
    rw [st_k0_t1.eq_1]
    exact hs
  | succ n ih =>
    intro hn
    have h := trip 𝒱 c bd i arg2 harg2 arg3 harg3 arg4 harg4 arg5 harg5 arg6 harg6 arg7 harg7 arg8 harg8 arg9 harg9 arg10 harg10 arg11 harg11 v3 v18 v22 X6 X10 X11 hp h6 h10 h11 ⟨n, by omega⟩ _ (ih (by omega))
    rwa [← st_k0_t1_succ] at h
end

theorem trips1 (i : grid0.Coords) : Scf.trips 0#32 (Scalar.addi 0#32 (Scalar.muli (Scalar.divsi (Scalar.subi (BitVec.ofNat 32 (i 1).val) 0#32) 1#32) 1#32)) 1#32 = (i 1).val := by
  have h : ∀ a : Fin 4, Scf.trips 0#32 (Scalar.addi 0#32 (Scalar.muli (Scalar.divsi (Scalar.subi (BitVec.ofNat 32 a.val) 0#32) 1#32) 1#32)) 1#32 = a.val := by
    decide +kernel
  exact h (i 1)

theorem trips2 (i : grid0.Coords) : Scf.trips (Scalar.addi 0#32 (Scalar.muli (Scalar.divsi (Scalar.subi (BitVec.ofNat 32 (i 1).val) 0#32) 1#32) 1#32))
    (Scalar.addi 0#32 (Scalar.subi (BitVec.ofNat 32 (i 1).val) 0#32)) 1#32 = 0 := by
  have h : ∀ a : Fin 4, Scf.trips (Scalar.addi 0#32 (Scalar.muli (Scalar.divsi (Scalar.subi (BitVec.ofNat 32 a.val) 0#32) 1#32) 1#32))
      (Scalar.addi 0#32 (Scalar.subi (BitVec.ofNat 32 a.val) 0#32)) 1#32 = 0 := by
    decide +kernel
  exact h (i 1)

theorem loop_trips (i : grid0.Coords) : (k0_t1_loop i).trips = (i 1).val := trips1 i

end Cert.Kernel5Ideal.Value
-- ==== Proof.Fwd.Point.lean ====
/- What a grid point of the attention forward call computes, over the reals. -/
module

public import proofs.«01_k».proof.Proof.Fwd.Trip
public import proofs.«01_k».proof.Proof.Flash.Cases
public import proofs.«01_k».proof.Proof.Gen.Kernel5Ideal.Frame
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen Cert.Flash Cert.Fwd
open Cert.Kernel2Ideal.Value (R1 R2 R3 R4 m0 m1 sg)

theorem OnV.congr {r : ℕ} {m l : (⟨2, ![r, 1]⟩ : Shape).Idx → EReal} {a : (⟨2, ![r, 128]⟩ : Shape).Idx → EReal} {L L' : ℕ → ℝ} {A A' : ℕ → ℕ → ℝ}
    (h : OnV m l a L A) (hL : ∀ x < r, L x = L' x) (hA : ∀ x < r, ∀ d, A x d = A' x d) : OnV m l a L' A' := by
  intro x
  have := h x
  rwa [hL x.val x.isLt, show A x.val = A' x.val from funext (hA x.val x.isLt)] at this

/-- What the point's last part reads: the prepared vectors, the carried sums, and the diagonal block's keys, values and running
    sums. -/
structure Pt (B : Blk) (n : ℕ) (v3 : Vec Ideal S1024x128 .f32) (v18 v22 : Vec Ideal S1x1x1x1024 .f32) (s : Car) (ku vu : Vec Ideal S512x128 .bf16)
    (kb vb : Vec Ideal S1024x128 .bf16) (c0 c1 : Vec Ideal S1x1x1x1024 .f32) : Prop where
  p : Prep B v3 v18 v22
  s : Sums B n s
  ku : R2 ku (rows B.K n)
  vu : R2 vu (rows B.V n)
  kb : R2 kb (rows B.K n)
  vb : R2 vb (rows B.V n)
  c0 : R4 c0 (B.C 0 n)
  c1 : R4 c1 (B.C 1 n)

section
variable {B : Blk} {n : ℕ} {v3 : Vec Ideal S1024x128 .f32} {v18 v22 : Vec Ideal S1x1x1x1024 .f32} {s : Car} {ku vu : Vec Ideal S512x128 .bf16}
    {kb vb : Vec Ideal S1024x128 .bf16} {c0 c1 : Vec Ideal S1x1x1x1024 .f32}

theorem up_congr {h : ℕ} {m l : (⟨2, ![512, 1]⟩ : Shape).Idx → EReal} {a : (⟨2, ![512, 128]⟩ : Shape).Idx → EReal}
    (H : OnV m l a (fun x => B.L h n x + ∑ y ∈ Finset.range 512, tri (B.e h n) x y) (fun x d => B.A h n x d + ∑ y ∈ Finset.range 512, tri (B.e h n) x y * rows B.V n y d)) :
    OnV m l a (B.Ld h n) (B.Ad h n) :=
  H.congr (fun x hx => congrArg _ (tri_half1 _ hx)) fun x hx d => congrArg _ (tri_half _ _ hx d)

theorem Pt.u0 (P : Pt B n v3 v18 v22 s ku vu kb vb c0 c1) :
    OnV (k0_pay42 (F := Ideal) (k0_pay24 v3) (k0_pay26 v18) s.1 ku c0) (k0_pay45 (F := Ideal) (k0_pay24 v3) (k0_pay26 v18) s.1 s.2.1 ku c0)
      (k0_pay46 (F := Ideal) (k0_pay24 v3) (k0_pay26 v18) s.1 s.2.2.1 ku vu c0) (B.Ld 0 n) (B.Ad 0 n) :=
  up_congr (on_diag0 P.s.h0 P.p.q0 P.p.r0 P.ku P.vu P.c0)
theorem Pt.u1 (P : Pt B n v3 v18 v22 s ku vu kb vb c0 c1) :
    OnV (k0_pay49 (F := Ideal) (k0_pay27 v22) (k0_pay38 s.2.2.2.1) ku (k0_pay47 (k0_pay25 v3)) (constant S512x512 .f32 0x00000000#32) c1)
      (k0_pay52 (F := Ideal) (k0_pay27 v22) (k0_pay38 s.2.2.2.1) (k0_pay39 s.2.2.2.2.1) ku (k0_pay47 (k0_pay25 v3)) (constant S512x512 .f32 0x00000000#32) c1)
      (k0_pay53 (F := Ideal) (k0_pay27 v22) (k0_pay38 s.2.2.2.1) (k0_pay40 s.2.2.2.2.2) ku vu (k0_pay47 (k0_pay25 v3)) (constant S512x512 .f32 0x00000000#32) c1)
      (B.Ld 1 n) (B.Ad 1 n) :=
  up_congr (on_diag1 (on_up1 P.s.h1) (r_pay47 P.p.q1) P.p.r1 P.ku P.vu P.c1)
theorem Pt.l0 (P : Pt B n v3 v18 v22 s ku vu kb vb c0 c1) :
    OnV (k0_pay62 (F := Ideal) (k0_pay26 v18) (k0_pay54 s.1) (k0_pay60 (k0_pay24 v3) kb) c0)
      (k0_pay65 (F := Ideal) (k0_pay26 v18) (k0_pay54 s.1) (k0_pay55 s.2.1) (k0_pay60 (k0_pay24 v3) kb) c0)
      (k0_pay66 (F := Ideal) (k0_pay26 v18) (k0_pay54 s.1) (k0_pay56 s.2.2.1) vb (k0_pay60 (k0_pay24 v3) kb) c0) (lo (B.Ld 0 n)) (lo (B.Ad 0 n)) :=
  on_low0 (on_lo0 P.s.h0) P.p.q0 P.p.r0 P.kb P.vb P.c0
/-- The second head's scores in the lower half of the diagonal block. -/
abbrev sc1 (v3 : Vec Ideal S1024x128 .f32) (v22 : Vec Ideal S1x1x1x1024 .f32) (kb : Vec Ideal S1024x128 .bf16) (c1 : Vec Ideal S1x1x1x1024 .f32) : FVec Ideal S512x1024 .f32 :=
  k0_pay67 (F := Ideal) (k0_pay25 v3) (k0_pay27 v22) kb c1
theorem Pt.l1 (P : Pt B n v3 v18 v22 s ku vu kb vb c0 c1) :
    OnV (k0_pay68 (F := Ideal) (k0_pay57 s.2.2.2.1) (sc1 v3 v22 kb c1))
      (low1L (k0_pay57 s.2.2.2.1) (k0_pay58 s.2.2.2.2.1) (k0_pay68 (F := Ideal) (k0_pay57 s.2.2.2.1) (sc1 v3 v22 kb c1)) (sc1 v3 v22 kb c1))
      (low1A (k0_pay57 s.2.2.2.1) (k0_pay59 s.2.2.2.2.2) (k0_pay68 (F := Ideal) (k0_pay57 s.2.2.2.1) (sc1 v3 v22 kb c1)) (sc1 v3 v22 kb c1) vb)
      (lo (B.Ld 1 n)) (lo (B.Ad 1 n)) :=
  on_low1 (on_lo1 P.s.h1) (s_pay67 P.p.q1 P.p.r1 P.kb P.c1) P.vb
end

section
variable {κ : Kind} {sp : Space} {f : ℕ → ℕ → ℝ}
theorem rd_all (v : View sig κ sp S4096x128 .f32) {g : v.ty.Contents (Elt Ideal)} (hx : R2 (v.read (Elt Ideal) g) f)
    (inb : ∀ a, (![0, 0] : Fin 2 → ℕ) a + S4096x128.size a ≤ S4096x128.size a) :
    R2 (v.readAt (Elt Ideal) (Rect.unit ![0, 0] S4096x128.size inb).toLoadRect g) f := by
  rw [View.readAt_full]
  exact hx

theorem wr_all16 (v : View sig κ sp S4096x128 .bf16) (g : v.ty.Contents (Elt Ideal)) {x : S4096x128.Idx → EReal} (hx : R2 x f)
    (inb : ∀ a, (![0, 0] : Fin 2 → ℕ) a + S4096x128.size a ≤ S4096x128.size a) (L : List (View.Piece (Elt Ideal) S4096x128 .bf16)) :
    R2 (v.read (Elt Ideal) (v.writes (Elt Ideal) g (⟨Rect.unit ![0, 0] S4096x128.size inb, x⟩ :: L))) f := by
  rw [View.read_writes_full]
  exact hx
end

theorem r_pay20 {v : Vec Ideal S4096x128 .f32} {f : ℕ → ℕ → ℝ} (h : R2 v f) : R2 (k0_pay20 (F := Ideal) v) f := by
  intro x l
  unfold k0_pay20
  pointwise
  exact h _ _

theorem r_pay21 {v : Vec Ideal S4096x128 .f32} {f : ℕ → ℕ → ℝ} (h : R2 v f) : R2 (k0_pay21 (F := Ideal) v) f := by
  intro x l
  unfold k0_pay21
  pointwise
  exact h _ _

/-- The blocks a grid point loads. -/
structure Loads (Q G K V : ℕ → ℕ → ℝ) (C : ℕ → ℕ → ℕ → ℝ) (x0 : Vec Ideal S1024x128 .f32) (x1 x2 : Vec Ideal S4096x128 .f32)
    (x3 : Vec Ideal S1024x128 .f32) (x4 : Vec Ideal S1x2x4x1024 .f32) : Prop where
  x0 : R2 x0 Q
  x1 : R2 x1 K
  x2 : R2 x2 V
  x3 : R2 x3 G
  x4 : C4 x4 C

/-- What it leaves: the blocks of the outputs, plain and gated, the row statistics, and the carried keys and values. -/
structure PointVal (B : Blk) (n : ℕ) (o5 o6 : S1024x128.Idx → EReal) (o7 : S2x1024x128.Idx → EReal) (s0 s1 : S4096x128.Idx → EReal) : Prop where
  o : R2 o5 (B.o n)
  og : R2 o6 (B.og n)
  lp : ∀ (h : Fin 2) (x : Fin 1024) (z : Fin 128), o7 (ix3 h x z) = ((B.lp n h.val x.val : ℝ) : EReal)
  k : R2 s0 B.K
  v : R2 s1 B.V

section
variable {Q G K V : ℕ → ℕ → ℝ} {C : ℕ → ℕ → ℕ → ℝ} (c : Dev nD) (i : grid0.Coords)
  (arg2 : Memref sig .tc .vmem S1024x128 .f32) (harg2 : arg2.IsWhole) (arg3 : Memref sig .tc .vmem S4096x128 .f32) (harg3 : arg3.IsWhole)
  (arg4 : Memref sig .tc .vmem S4096x128 .f32) (harg4 : arg4.IsWhole) (arg5 : Memref sig .tc .vmem S1024x128 .f32) (harg5 : arg5.IsWhole)
  (arg6 : Memref sig .tc .vmem S1x2x4x1024 .f32) (harg6 : arg6.IsWhole) (arg7 : Memref sig .tc .vmem S1024x128 .f32) (harg7 : arg7.IsWhole)
  (arg8 : Memref sig .tc .vmem S1024x128 .bf16) (harg8 : arg8.IsWhole) (arg9 : Memref sig .tc .vmem S2x1024x128 .f32) (harg9 : arg9.IsWhole)
  (arg10 : Memref sig .tc .vmem S4096x128 .bf16) (harg10 : arg10.IsWhole) (arg11 : Memref sig .tc .vmem S4096x128 .bf16) (harg11 : arg11.IsWhole)
  (x0 x3 : Vec Ideal S1024x128 .f32) (x1 x2 : Vec Ideal S4096x128 .f32) (x4 : Vec Ideal S1x2x4x1024 .f32) (s0 s1 : Vec Ideal S4096x128 .bf16)

theorem point_A (hc0 : cond0_0 i) (hL : Loads Q G K V C x0 x1 x2 x3 x4) :
    PointVal (mkBlk Q G K V C (i 1).val) (i 1).val
      (out0_A_5 (F := Ideal) c i arg2 harg2 arg3 harg3 arg4 harg4 arg5 harg5 arg6 harg6 arg7 harg7 arg8 harg8 arg9 harg9 arg10 harg10 arg11 harg11 hc0 x0 x1 x2 x3 x4)
      (out0_A_6 (F := Ideal) c i arg2 harg2 arg3 harg3 arg4 harg4 arg5 harg5 arg6 harg6 arg7 harg7 arg8 harg8 arg9 harg9 arg10 harg10 arg11 harg11 hc0 x0 x1 x2 x3 x4)
      (out0_A_7 (F := Ideal) c i arg2 harg2 arg3 harg3 arg4 harg4 arg5 harg5 arg6 harg6 arg7 harg7 arg8 harg8 arg9 harg9 arg10 harg10 arg11 harg11 hc0 x0 x1 x2 x3 x4)
      (sout0_A_0 (F := Ideal) c i arg2 harg2 arg3 harg3 arg4 harg4 arg5 harg5 arg6 harg6 arg7 harg7 arg8 harg8 arg9 harg9 arg10 harg10 arg11 harg11 hc0 x0 x1 x2 x3 x4)
      (sout0_A_1 (F := Ideal) c i arg2 harg2 arg3 harg3 arg4 harg4 arg5 harg5 arg6 harg6 arg7 harg7 arg8 harg8 arg9 harg9 arg10 harg10 arg11 harg11 hc0 x0 x1 x2 x3 x4) := by
  have hq := rd_tile arg2 harg2 hL.x0 inb_S1024x128_S1024x128_0_0
  have hg := rd_tile arg5 harg5 hL.x3 inb_S1024x128_S1024x128_0_0
  have h6 : C4 (arg6.view.read (Elt Ideal) (harg6.unread x4)) C := by
    rw [harg6.read_unread]
    exact hL.x4
  have h10 := wr_all16 arg10.view arg10.view.junk (r_pay20 (rd_all arg3.view (show R2 (arg3.view.read (Elt Ideal) (harg3.unread x1)) K by
    rw [harg3.read_unread]
    exact hL.x1) inb_S4096x128_S4096x128_0_0)) inb_S4096x128_S4096x128_0_0 []
  have h11 := wr_all16 arg11.view arg11.view.junk (r_pay21 (rd_all arg4.view (show R2 (arg4.view.read (Elt Ideal) (harg4.unread x2)) V by
    rw [harg4.read_unread]
    exact hL.x2) inb_S4096x128_S4096x128_0_0)) inb_S4096x128_S4096x128_0_0 []
  have hC0 := rd_cum (h := 0) (n := (i 1).val) arg6.view h6 (k0_off1_eq i) (k0_off1_inb i)
  have hC1 := rd_cum (h := 1) (n := (i 1).val) arg6.view h6 (k0_off2_eq i) (k0_off2_inb i)
  have hp := prep_of (G := G) (K := K) (V := V) hq hC0 hC1
  have T := trips Variants.none c none i arg2 harg2 arg3 harg3 arg4 harg4 arg5 harg5 arg6 harg6 arg7 harg7 arg8 harg8 arg9 harg9 arg10 harg10 arg11 harg11 _ _ _ _ _ _ hp h6 h10 h11 _ (sums0 _) (i 1).val (le_of_eq (loop_trips i).symm)
  have P := Pt.mk hp T (rd_rows (b := 512) (n := (i 1).val) (by norm_num) arg10.view h10 (k0_off9_eq i) (k0_off9_inb i)) (rd_rows (b := 512) (n := (i 1).val) (by norm_num) arg11.view h11 (k0_off9_eq i) (k0_off9_inb i))
    (rd_rows (b := 1024) (n := (i 1).val) le_rfl arg10.view h10 (k0_off10_eq i) (k0_off10_inb i)) (rd_rows (b := 1024) (n := (i 1).val) le_rfl arg11.view h11 (k0_off10_eq i) (k0_off10_inb i)) hC0 hC1
  refine ⟨?_, ?_, ?_, ?_, ?_⟩
  · unfold out0_A_5 kernelRun0_A; dsimp only; sl_unfold_run_names; simp only [trips1, trips2, st_k0_t2.eq_1]
    refine wr_tile _ _ ?_ _ _
    exact r_pay75 P.u0 P.l0 P.u1 P.l1 (Blk.Ld_pos _ 0 _) (Blk.Ld_pos _ 1 _)
  · unfold out0_A_6 kernelRun0_A; dsimp only; sl_unfold_run_names; simp only [trips1, trips2, st_k0_t2.eq_1]
    refine wr_tile16 _ _ ?_ _ _
    exact r_pay1 (r_pay75 P.u0 P.l0 P.u1 P.l1 (Blk.Ld_pos _ 0 _) (Blk.Ld_pos _ 1 _)) hg
  · unfold out0_A_7 kernelRun0_A; dsimp only; sl_unfold_run_names; simp only [trips1, trips2, st_k0_t2.eq_1]
    exact wr_lp (r := Blk.lp (mkBlk Q G K V C (i 1).val) (i 1).val) _ _ (r_pay72 P.u0 P.l0 (Blk.Ld_pos _ 0 _) P.p.r0) (r_pay74 P.u1 P.l1 (Blk.Ld_pos _ 1 _) P.p.r1) _ _
  · unfold sout0_A_0 kernelRun0_A; dsimp only; sl_unfold_run_names
    refine wr_all16 _ _ (r_pay20 (rd_all arg3.view ?_ _)) _ _
    rw [harg3.read_unread]
    exact hL.x1
  · unfold sout0_A_1 kernelRun0_A; dsimp only; sl_unfold_run_names
    refine wr_all16 _ _ (r_pay21 (rd_all arg4.view ?_ _)) _ _
    rw [harg4.read_unread]
    exact hL.x2

theorem point_B (hc0 : ¬cond0_0 i) (hL : Loads Q G K V C x0 x1 x2 x3 x4) (h0 : R2 s0 K) (h1 : R2 s1 V) :
    PointVal (mkBlk Q G K V C (i 1).val) (i 1).val
      (out0_B_5 (F := Ideal) c i arg2 harg2 arg3 harg3 arg4 harg4 arg5 harg5 arg6 harg6 arg7 harg7 arg8 harg8 arg9 harg9 arg10 harg10 arg11 harg11 hc0 x0 x1 x2 x3 x4 s0 s1)
      (out0_B_6 (F := Ideal) c i arg2 harg2 arg3 harg3 arg4 harg4 arg5 harg5 arg6 harg6 arg7 harg7 arg8 harg8 arg9 harg9 arg10 harg10 arg11 harg11 hc0 x0 x1 x2 x3 x4 s0 s1)
      (out0_B_7 (F := Ideal) c i arg2 harg2 arg3 harg3 arg4 harg4 arg5 harg5 arg6 harg6 arg7 harg7 arg8 harg8 arg9 harg9 arg10 harg10 arg11 harg11 hc0 x0 x1 x2 x3 x4 s0 s1)
      (sout0_B_0 (F := Ideal) c i arg2 harg2 arg3 harg3 arg4 harg4 arg5 harg5 arg6 harg6 arg7 harg7 arg8 harg8 arg9 harg9 arg10 harg10 arg11 harg11 hc0 x0 x1 x2 x3 x4 s0 s1)
      (sout0_B_1 (F := Ideal) c i arg2 harg2 arg3 harg3 arg4 harg4 arg5 harg5 arg6 harg6 arg7 harg7 arg8 harg8 arg9 harg9 arg10 harg10 arg11 harg11 hc0 x0 x1 x2 x3 x4 s0 s1) := by
  have hq := rd_tile arg2 harg2 hL.x0 inb_S1024x128_S1024x128_0_0
  have hg := rd_tile arg5 harg5 hL.x3 inb_S1024x128_S1024x128_0_0
  have h6 : C4 (arg6.view.read (Elt Ideal) (harg6.unread x4)) C := by
    rw [harg6.read_unread]
    exact hL.x4
  have h10 : R2 (arg10.view.read (Elt Ideal) (harg10.unread s0)) K := by
    rw [harg10.read_unread]
    exact h0
  have h11 : R2 (arg11.view.read (Elt Ideal) (harg11.unread s1)) V := by
    rw [harg11.read_unread]
    exact h1
  have hC0 := rd_cum (h := 0) (n := (i 1).val) arg6.view h6 (k0_off1_eq i) (k0_off1_inb i)
  have hC1 := rd_cum (h := 1) (n := (i 1).val) arg6.view h6 (k0_off2_eq i) (k0_off2_inb i)
  have hp := prep_of (G := G) (K := K) (V := V) hq hC0 hC1
  have T := trips Variants.none c none i arg2 harg2 arg3 harg3 arg4 harg4 arg5 harg5 arg6 harg6 arg7 harg7 arg8 harg8 arg9 harg9 arg10 harg10 arg11 harg11 _ _ _ _ _ _ hp h6 h10 h11 _ (sums0 _) (i 1).val (le_of_eq (loop_trips i).symm)
  have P := Pt.mk hp T (rd_rows (b := 512) (n := (i 1).val) (by norm_num) arg10.view h10 (k0_off9_eq i) (k0_off9_inb i)) (rd_rows (b := 512) (n := (i 1).val) (by norm_num) arg11.view h11 (k0_off9_eq i) (k0_off9_inb i))
    (rd_rows (b := 1024) (n := (i 1).val) le_rfl arg10.view h10 (k0_off10_eq i) (k0_off10_inb i)) (rd_rows (b := 1024) (n := (i 1).val) le_rfl arg11.view h11 (k0_off10_eq i) (k0_off10_inb i)) hC0 hC1
  refine ⟨?_, ?_, ?_, ?_, ?_⟩
  · unfold out0_B_5 kernelRun0_B; dsimp only; sl_unfold_run_names; simp only [trips1, trips2, st_k0_t2.eq_1]
    refine wr_tile _ _ ?_ _ _
    exact r_pay75 P.u0 P.l0 P.u1 P.l1 (Blk.Ld_pos _ 0 _) (Blk.Ld_pos _ 1 _)
  · unfold out0_B_6 kernelRun0_B; dsimp only; sl_unfold_run_names; simp only [trips1, trips2, st_k0_t2.eq_1]
    refine wr_tile16 _ _ ?_ _ _
    exact r_pay1 (r_pay75 P.u0 P.l0 P.u1 P.l1 (Blk.Ld_pos _ 0 _) (Blk.Ld_pos _ 1 _)) hg
  · unfold out0_B_7 kernelRun0_B; dsimp only; sl_unfold_run_names; simp only [trips1, trips2, st_k0_t2.eq_1]
    exact wr_lp (r := Blk.lp (mkBlk Q G K V C (i 1).val) (i 1).val) _ _ (r_pay72 P.u0 P.l0 (Blk.Ld_pos _ 0 _) P.p.r0) (r_pay74 P.u1 P.l1 (Blk.Ld_pos _ 1 _) P.p.r1) _ _
  · exact h0
  · exact h1

end
end Cert.Kernel5Ideal.Value
-- ==== Proof.Fwd.Carry.lean ====
/- What the attention forward call holds after each grid point. -/
module

public import proofs.«01_k».proof.Proof.Fwd.Point

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen Cert.Flash Cert.Fwd
open Cert.Kernel2Ideal.Value (R2 R4 sg gOr gLr)

theorem idx0 : ∀ t : Fin cfg0.N, win0_0.index t = ![t.val % 4, t.val / 4] :=
  (by decide +kernel : ∀ t : Fin grid0.N, win0_0.index t = ![t.val % 4, t.val / 4])
theorem idx1 : ∀ t : Fin cfg0.N, win0_1.index t = ![0, 8 + t.val / 4] :=
  (by decide +kernel : ∀ t : Fin grid0.N, win0_1.index t = ![0, 8 + t.val / 4])
theorem idx2 : ∀ t : Fin cfg0.N, win0_2.index t = ![0, 16 + t.val / 4] :=
  (by decide +kernel : ∀ t : Fin grid0.N, win0_2.index t = ![0, 16 + t.val / 4])
theorem idx3 : ∀ t : Fin cfg0.N, win0_3.index t = ![t.val % 4, 24 + t.val / 4] :=
  (by decide +kernel : ∀ t : Fin grid0.N, win0_3.index t = ![t.val % 4, 24 + t.val / 4])
theorem idx4 : ∀ t : Fin cfg0.N, win0_4.index t = ![t.val / 4, 0, 0, 0] :=
  (by decide +kernel : ∀ t : Fin grid0.N, win0_4.index t = ![t.val / 4, 0, 0, 0])
theorem idx5 : ∀ t : Fin cfg0.N, win0_5.index t = ![t.val % 4, t.val / 4] :=
  (by decide +kernel : ∀ t : Fin grid0.N, win0_5.index t = ![t.val % 4, t.val / 4])
theorem idx6 : ∀ t : Fin cfg0.N, win0_6.index t = ![t.val % 4, t.val / 4] :=
  (by decide +kernel : ∀ t : Fin grid0.N, win0_6.index t = ![t.val % 4, t.val / 4])
theorem idx7 : ∀ t : Fin cfg0.N, win0_7.index t = ![t.val / 4, t.val % 4, 0] :=
  (by decide +kernel : ∀ t : Fin grid0.N, win0_7.index t = ![t.val / 4, t.val % 4, 0])

theorem coord (t : Fin cfg0.N) : (grid0.coords t 1).val = t.val % 4 :=
  (by decide +kernel : ∀ t : Fin grid0.N, (grid0.coords t 1).val = t.val % 4) t

theorem N32 : cfg0.N = 32 := by decide

variable {m : (ℓ : Loc nD τ sig) → Buf (Elt Ideal) ℓ} {c : Dev nD} {pr cr : ℕ → ℕ → ℝ}

/-- The arrays the call reads, as real functions. -/
structure Entry (m : (ℓ : Loc nD τ sig) → Buf (Elt Ideal) ℓ) (c : Dev nD) (pr cr : ℕ → ℕ → ℝ) : Prop where
  pr : ∀ (r : Fin 4096) (l : Fin 4096), (V m c main_arg0 (ix2 r l) : EReal) = ((pr r.val l.val : ℝ) : EReal)
  cr : ∀ (j : Fin 8) (h : Fin 2) (n : Fin 4) (y : Fin 1024),
    (V m c main_v0 (ix4 j h n y) : EReal) = ((cr (2 * j.val + h.val) (1024 * n.val + y.val) : ℝ) : EReal)

theorem ld0 (hE : Entry m c pr cr) (t : Fin cfg0.N) (x : Fin 1024) (l : Fin 128) :
    (iblk m c 0 t (ix2 x l) : EReal) = ((pr (1024 * (t.val % 4) + x.val) (128 * (t.val / 4) + l.val) : ℝ) : EReal) := by
  have hN : cfg0.N = 32 := N_0
  have ht := t.isLt
  refine Eq.trans ?_ (hE.pr ⟨1024 * (t.val % 4) + x.val, by omega⟩ ⟨128 * (t.val / 4) + l.val, by omega⟩)
  blk_ext [iblk, idx0 t]

theorem ld1 (hE : Entry m c pr cr) (t : Fin cfg0.N) (x : Fin 4096) (l : Fin 128) :
    (iblk m c 1 t (ix2 x l) : EReal) = ((pr (x.val) (1024 + (128 * (t.val / 4) + l.val)) : ℝ) : EReal) := by
  have hN : cfg0.N = 32 := N_0
  have ht := t.isLt
  refine Eq.trans ?_ (hE.pr x ⟨1024 + (128 * (t.val / 4) + l.val), by omega⟩)
  blk_ext [iblk, idx1 t]

theorem ld2 (hE : Entry m c pr cr) (t : Fin cfg0.N) (x : Fin 4096) (l : Fin 128) :
    (iblk m c 2 t (ix2 x l) : EReal) = ((pr (x.val) (2048 + (128 * (t.val / 4) + l.val)) : ℝ) : EReal) := by
  have hN : cfg0.N = 32 := N_0
  have ht := t.isLt
  refine Eq.trans ?_ (hE.pr x ⟨2048 + (128 * (t.val / 4) + l.val), by omega⟩)
  blk_ext [iblk, idx2 t]

theorem ld3 (hE : Entry m c pr cr) (t : Fin cfg0.N) (x : Fin 1024) (l : Fin 128) :
    (iblk m c 3 t (ix2 x l) : EReal) = ((pr (1024 * (t.val % 4) + x.val) (3072 + (128 * (t.val / 4) + l.val)) : ℝ) : EReal) := by
  have hN : cfg0.N = 32 := N_0
  have ht := t.isLt
  refine Eq.trans ?_ (hE.pr ⟨1024 * (t.val % 4) + x.val, by omega⟩ ⟨3072 + (128 * (t.val / 4) + l.val), by omega⟩)
  blk_ext [iblk, idx3 t]

theorem ld4 (hE : Entry m c pr cr) (t : Fin cfg0.N) (h : Fin 2) (n : Fin 4) (y : Fin 1024) :
    (iblk m c 4 t (ix4 0 h n y) : EReal) = ((cr (2 * (t.val / 4) + h.val) (1024 * n.val + y.val) : ℝ) : EReal) := by
  have hN : cfg0.N = 32 := N_0
  have ht := t.isLt
  refine Eq.trans ?_ (hE.cr ⟨t.val / 4, by omega⟩ h n y)
  blk_ext [iblk, idx4 t]

theorem loads (hE : Entry m c pr cr) (t : Fin cfg0.N) :
    Loads (fun x l => pr (1024 * (t.val % 4) + x) (128 * (t.val / 4) + l)) (fun x l => pr (1024 * (t.val % 4) + x) (3072 + (128 * (t.val / 4) + l)))
      (fun r l => pr r (1024 + (128 * (t.val / 4) + l))) (fun r l => pr r (2048 + (128 * (t.val / 4) + l)))
      (fun h n y => cr (2 * (t.val / 4) + h) (1024 * n + y)) (iblk m c 0 t) (iblk m c 1 t) (iblk m c 2 t) (iblk m c 3 t) (iblk m c 4 t) :=
  ⟨ld0 hE t, ld1 hE t, ld2 hE t, ld3 hE t, ld4 hE t⟩

/-- What a point leaves. -/
abbrev Outs : Type := Vec Ideal S1024x128 .f32 × Vec Ideal S1024x128 .bf16 × Vec Ideal S2x1024x128 .f32 × Vec Ideal S4096x128 .bf16 × Vec Ideal S4096x128 .bf16

/-- What grid point `n` leaves: its row block of its pair of heads. -/
def Holds (pr cr : ℕ → ℕ → ℝ) (n : ℕ) (o : Outs) : Prop := PointVal (blkAt pr cr (n / 4) (n % 4)) (n % 4) o.1 o.2.1 o.2.2.1 o.2.2.2.1 o.2.2.2.2

theorem Holds.of_eq {n : ℕ} {o o' : Outs} (e : o = o') (h : Holds pr cr n o') : Holds pr cr n o := by
  subst e
  exact h

theorem cast_val {j i i' : ℕ} {o5 o6 : S1024x128.Idx → EReal} {o7 : S2x1024x128.Idx → EReal} {s0 s1 : S4096x128.Idx → EReal} (hi : i' = i)
    (h : PointVal (mkBlk (fun x l => pr (1024 * i + x) (128 * j + l)) (fun x l => pr (1024 * i + x) (3072 + (128 * j + l)))
      (fun r l => pr r (1024 + (128 * j + l))) (fun r l => pr r (2048 + (128 * j + l))) (fun h n y => cr (2 * j + h) (1024 * n + y)) i') i' o5 o6 o7 s0 s1) :
    PointVal (blkAt pr cr j i) i o5 o6 o7 s0 s1 := by
  subst hi
  exact h

theorem holds_A (hE : Entry m c pr cr) (n : ℕ) (h : n < cfg0.N) (h0 : n % 4 = 0) : Holds pr cr n (outsAt0 m c n h) := by
  have e := outsAt0_A m c ⟨n, h⟩ h0
  have hq := point_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) scM0_1 (Memref.isWhole_whole _)
    _ _ _ _ _ ((hcond0_0 ⟨n, h⟩).mpr h0) (loads hE ⟨n, h⟩)
  have h2 := cast_val (coord ⟨n, h⟩) hq
  clear hq
  refine Holds.of_eq e ?_
  clear e
  unfold Holds
  dsimp only
  exact h2

theorem holds_B (hE : Entry m c pr cr) (n : ℕ) (h : n + 1 < cfg0.N) (h0 : ¬(n + 1) % 4 = 0) (ih : Holds pr cr n (outsAt0 m c n (by omega))) :
    Holds pr cr (n + 1) (outsAt0 m c (n + 1) h) := by
  have e := outsAt0_B m c ⟨n + 1, h⟩ h0
  obtain ⟨_, _, _, ik, iv⟩ := ih
  rw [show n / 4 = (n + 1) / 4 by omega] at ik iv
  have hq := point_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _)
    _ _ _ _ _ _ _ (fun h' => h0 ((hcond0_0 ⟨n + 1, h⟩).mp h')) (loads hE ⟨n + 1, h⟩) ik iv
  have h2 := cast_val (coord ⟨n + 1, h⟩) hq
  clear hq
  refine Holds.of_eq e ?_
  clear e
  unfold Holds
  dsimp only [Nat.add_sub_cancel]
  exact h2

theorem holds (hE : Entry m c pr cr) : ∀ (n : ℕ) (h : n < cfg0.N), Holds pr cr n (outsAt0 m c n h)
  | 0, h => holds_A hE 0 h rfl
  | n + 1, h => by
    by_cases h0 : (n + 1) % 4 = 0
    · exact holds_A hE (n + 1) h h0
    · exact holds_B hE n h h0 (holds hE n (by omega))

variable {M : ℕ → ℕ → ℝ}

theorem fin_o (hE : Entry m c pr cr) (M : ℕ → ℕ → ℝ) : (dats m 0 c).arrAt 5 cfg0.N = fun z : S4096x1024.Idx =>
    ((gOr pr cr M ((z 0).val) ((z 1).val) : ℝ) : EReal) := by
  refine (dats m 0 c).arrAt_eq_of_covers 5 _ (by decide +kernel) fun t hf y => ?_
  have ht : t.val < 32 := lt_of_lt_of_eq t.isLt N32
  blk_simp
  rw [after0_5]
  idx_vars y
  have i0 : win0_5.index t 0 = _ := congrFun (idx5 t) 0
  have i1 : win0_5.index t 1 = _ := congrFun (idx5 t) 1
  have key : ∀ a b : ℕ, a = 1024 * (t.val % 4) + y0.val → b = 128 * (t.val / 4) + y1.val →
      ((outsAt0 m c t.val t.isLt).1 (ix2 y0 y1) : EReal) = ((gOr pr cr M a b : ℝ) : EReal) := by
    rintro _ _ rfl rfl
    exact ((holds hE t.val t.isLt).o y0 y1).trans (congrArg _ (at_o (by omega) y0.isLt y1.isLt))
  exact key _ _ ((congrArg (· * 1024 + y0.val) i0).trans (by show t.val % 4 * 1024 + _ = _; omega)) ((congrArg (· * 128 + y1.val) i1).trans (by show t.val / 4 * 128 + _ = _; omega))

/-- The gated output. -/
def gOg (pr cr M : ℕ → ℕ → ℝ) (q C : ℕ) : ℝ := gOr pr cr M q C * (pr q (3072 + C) * sg (pr q (3072 + C)))

theorem fin_og (hE : Entry m c pr cr) (M : ℕ → ℕ → ℝ) : (dats m 0 c).arrAt 6 cfg0.N = fun z : S4096x1024.Idx =>
    ((gOg pr cr M ((z 0).val) ((z 1).val) : ℝ) : EReal) := by
  refine (dats m 0 c).arrAt_eq_of_covers 6 _ (by decide +kernel) fun t hf y => ?_
  have ht : t.val < 32 := lt_of_lt_of_eq t.isLt N32
  blk_simp
  rw [after0_6]
  idx_vars y
  have i0 : win0_6.index t 0 = _ := congrFun (idx6 t) 0
  have i1 : win0_6.index t 1 = _ := congrFun (idx6 t) 1
  have key : ∀ a b : ℕ, a = 1024 * (t.val % 4) + y0.val → b = 128 * (t.val / 4) + y1.val →
      ((outsAt0 m c t.val t.isLt).2.1 (ix2 y0 y1) : EReal) = ((gOg pr cr M a b : ℝ) : EReal) := by
    rintro _ _ rfl rfl
    exact ((holds hE t.val t.isLt).og y0 y1).trans (congrArg _ (congrArg (· * _) (at_o (by omega) y0.isLt y1.isLt)))
  exact key _ _ ((congrArg (· * 1024 + y0.val) i0).trans (by show t.val % 4 * 1024 + _ = _; omega)) ((congrArg (· * 128 + y1.val) i1).trans (by show t.val / 4 * 128 + _ = _; omega))

theorem fin_lp (hE : Entry m c pr cr) (M : ℕ → ℕ → ℝ) : (dats m 0 c).arrAt 7 cfg0.N = fun z : S16x4096x128.Idx =>
    ((gLr pr cr M ((z 0).val) ((z 1).val) : ℝ) : EReal) := by
  refine (dats m 0 c).arrAt_eq_of_covers 7 _ (by decide +kernel) fun t hf y => ?_
  have ht : t.val < 32 := lt_of_lt_of_eq t.isLt N32
  blk_simp
  rw [after0_7]
  idx_vars y
  have i0 : win0_7.index t 0 = _ := congrFun (idx7 t) 0
  have i1 : win0_7.index t 1 = _ := congrFun (idx7 t) 1
  have key : ∀ a b : ℕ, a = 2 * (t.val / 4) + y0.val → b = 1024 * (t.val % 4) + y1.val →
      ((outsAt0 m c t.val t.isLt).2.2.1 (ix3 y0 y1 y2) : EReal) = ((gLr pr cr M a b : ℝ) : EReal) := by
    rintro _ _ rfl rfl
    exact ((holds hE t.val t.isLt).lp y0 y1 y2).trans (congrArg _ (at_lp y0.isLt (by omega) y1.isLt))
  exact key _ _ ((congrArg (· * 2 + y0.val) i0).trans (by show t.val / 4 * 2 + _ = _; omega)) ((congrArg (· * 1024 + y1.val) i1).trans (by show t.val % 4 * 1024 + _ = _; omega))

end Cert.Kernel5Ideal.Value
-- ==== Proof.Fwd.Ref.lean ====
/- The reference of the attention forward call, at real arguments. -/
module

public import proofs.«01_k».proof.Proof.Flash.Host
public import proofs.«01_k».proof.Proof.Gen.Reference5Ideal.Read

@[expose] public section

set_option maxRecDepth 16384

noncomputable section

open Idealize.ShloMosaic Idealize.ShloMosaic.TcCoe Idealize.SL.Sem
open Idealize.ShloMosaic.Pipeline (Dat)

namespace Cert.Reference5Ideal.Read

open Cert.Kernel2Ideal.Value (sg gOr gLr gL gL_pos lpF lpF_at v34_eq)

/-- The arguments at real numbers. -/
structure Args (x0 : S4096x4096.Idx → EReal) (x1 : S16x4096.Idx → EReal) (pr cr : ℕ → ℕ → ℝ) : Prop where
  a0 : ∀ i, x0 i = ((pr (i 0).val (i 1).val : ℝ) : EReal)
  a1 : ∀ i, x1 i = ((cr (i 0).val (i 1).val : ℝ) : EReal)

variable {x0 : (⟨S4096x4096, .f32⟩ : BufTy).Contents (Elt Idealize.ShloMosaic.Ideal)} {x1 : (⟨S16x4096, .f32⟩ : BufTy).Contents (Elt Idealize.ShloMosaic.Ideal)}
  {pr cr M : ℕ → ℕ → ℝ}

/-- The forward lines are those the backward call's reference differentiates. -/
theorem Args.back (H : Args x0 x1 pr cr) : Cert.Reference2Ideal.Read.Args x0 x1 (fun _ => 0) pr cr (fun _ _ => 0) := ⟨H.a0, H.a1, fun _ => rfl⟩

theorem v38_eq : val_main_v38 (F := Idealize.ShloMosaic.Ideal) x0 x1 = Cert.Reference2Ideal.Read.val_main_v57 (F := Idealize.ShloMosaic.Ideal) x0 x1 := by
  unfold Cert.Reference2Ideal.Read.val_main_v57 Cert.Reference2Ideal.Read.val_main_v56 Cert.Reference2Ideal.Read.val_main_v55 Cert.Reference2Ideal.Read.val_main_v51 Cert.Reference2Ideal.Read.val_main_v50 Cert.Reference2Ideal.Read.val_main_v49 Cert.Reference2Ideal.Read.val_main_v48 Cert.Reference2Ideal.Read.val_main_v47 Cert.Reference2Ideal.Read.val_main_v46 Cert.Reference2Ideal.Read.val_main_v45 Cert.Reference2Ideal.Read.val_main_v44
  rw [v34_eq]
  rfl

theorem v46_eq : val_main_v46 (F := Idealize.ShloMosaic.Ideal) x0 x1 = lpF (Cert.Reference2Ideal.Read.val_main_v27 (F := Idealize.ShloMosaic.Ideal) x0 x1)
    (Cert.Reference2Ideal.Read.val_main_v48 (F := Idealize.ShloMosaic.Ideal) x0 x1) x1 := by
  unfold lpF Cert.Reference2Ideal.Read.val_main_v48 Cert.Reference2Ideal.Read.val_main_v47 Cert.Reference2Ideal.Read.val_main_v46 Cert.Reference2Ideal.Read.val_main_v45 Cert.Reference2Ideal.Read.val_main_v44
  rw [v34_eq]
  rfl

open Cert.Reference2Ideal.Read (IsM) in
theorem o_r (H : Args x0 x1 pr cr) (hM : IsM x0 x1 M) (i : S4096x1024.Idx) :
    val_main_v38 (F := Idealize.ShloMosaic.Ideal) x0 x1 i = ((gOr pr cr M (i 0).val (i 1).val : ℝ) : EReal) := by
  rw [v38_eq]
  exact Cert.Reference2Ideal.Read.v57_r H.back hM i

theorem sg_r (H : Args x0 x1 pr cr) (i : S4096x1024.Idx) :
    val_main_call1_v5 (F := Idealize.ShloMosaic.Ideal) x0 i = ((sg (pr (i 0).val (3072 + (i 1).val)) : ℝ) : EReal) :=
  Eq.trans rfl (Cert.Reference2Ideal.Read.v58_r H.back i)

open Cert.Reference2Ideal.Read (IsM) in
theorem og_r (H : Args x0 x1 pr cr) (hM : IsM x0 x1 M) (i : S4096x1024.Idx) :
    val_main_v45 (F := Idealize.ShloMosaic.Ideal) x0 x1 i = ((gOr pr cr M (i 0).val (i 1).val * (pr (i 0).val (3072 + (i 1).val) * sg (pr (i 0).val (3072 + (i 1).val))) : ℝ) : EReal) := by
  simp only [val_main_v45_apply, val_main_v44_apply, val_main_v43_apply, val_main_v3_apply, o_r H hM, sg_r H, H.a0]
  rw [EReal.coe_mul, EReal.coe_mul]
  rfl

open Cert.Reference2Ideal.Read (IsM) in
theorem lp_r (H : Args x0 x1 pr cr) (hM : IsM x0 x1 M) (i : S16x4096x128.Idx) :
    val_main_v46 (F := Idealize.ShloMosaic.Ideal) x0 x1 i = ((gLr pr cr M (i 0).val (i 1).val : ℝ) : EReal) := by
  obtain ⟨h, r, l, rfl⟩ : ∃ (h : Fin 16) (r : Fin 4096) (l : Fin 128), i = ix3 h r l := ⟨i 0, i 1, i 2, by
    funext a
    refine Fin.cases ?_ (fun a => Fin.cases ?_ (fun a => Fin.cases ?_ (fun a => a.elim0) a) a) a <;> rfl⟩
  rw [v46_eq]
  refine (lpF_at _ _ _ h r l).trans ?_
  rw [hM _, Cert.Reference2Ideal.Read.v48_r H.back hM, H.a1]
  show ((M h.val r.val : ℝ) : EReal) + Ideal.log ((gL pr cr M h.val r.val : ℝ) : EReal) - ((cr h.val r.val : ℝ) : EReal) = _
  rw [Ideal.log_coe, if_neg (not_le.mpr (gL_pos _)), ← EReal.coe_add, ← EReal.coe_sub]
  rfl

end Cert.Reference5Ideal.Read
-- ==== Proof.Fwd.Claims.lean ====
/- The attention forward call: its value and its frames. -/
module

public import proofs.«01_k».proof.Defs
public import proofs.«01_k».proof.Proof.Fwd.Carry
public import proofs.«01_k».proof.Proof.Fwd.Ref
public import proofs.«01_k».proof.Proof.Finite
public import proofs.«01_k».proof.Proof.Gen.Kernel5
public import proofs.«01_k».proof.Proof.Gen.Kernel5Ideal.Value
public import proofs.«01_k».proof.Proof.Gen.Pre_finite5
public import Idealize.ShloMosaic.Lib.StableHlo.ReadAt
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen Cert.Finite

variable {m : (ℓ : Loc nD τ sig) → Buf (Elt Idealize.ShloMosaic.Ideal) ℓ} {c : Dev nD}

theorem V0_at (j : Fin 8) (h : Fin 2) (n : Fin 4) (y : Fin 1024) : V m c main_v0 (ix4 j h n y)
    = m ((c.tc : Thread nD τ).loc main_arg1) (ix2 ⟨2 * j.val + h.val, by omega⟩ ⟨1024 * n.val + y.val, by omega⟩) := by
  unfold V
  simp only [hostOps0, List.flatten_cons, List.flatten_nil, List.append_nil, List.cons_append, List.nil_append]
  after_reads_at
  exact congrArg _ (congrArg₂ ix2 (Fin.ext (by show j.val * 2 + h.val = 2 * j.val + h.val; omega)) (Fin.ext (by show n.val * 1024 + y.val = 1024 * n.val + y.val; omega)))

/-- What the call is handed, at real arguments. -/
theorem entry {pr cr : ℕ → ℕ → ℝ} (H : Cert.Reference5Ideal.Read.Args (m ((c.tc : Thread nD τ).loc main_arg0)) (m ((c.tc : Thread nD τ).loc main_arg1)) pr cr) :
    Entry m c pr cr where
  pr r l := by rw [V_main_arg0]; exact H.a0 _
  cr j h n y := by rw [V0_at]; exact H.a1 _

/-- What the precondition says of each argument's elements. -/
theorem args_real (h : Cert.Pre_Kernel5Ideal_finite5 m) :
    Cert.Reference5Ideal.Read.Args (m ((c.tc : Thread nD τ).loc main_arg0)) (m ((c.tc : Thread nD τ).loc main_arg1))
      (realAt (m ((c.tc : Thread nD τ).loc main_arg0))) (realAt (m ((c.tc : Thread nD τ).loc main_arg1))) := by
  obtain ⟨h0, h1⟩ := h c
  refine ⟨realAt_eq _ fun i => ?_, realAt_eq _ fun i => ?_⟩
  · have e := congrFun h0 i
    rw [← top_f32]
    exact e
  · have e := congrFun h1 i
    rw [← top_f32]
    exact e

end Cert.Kernel5Ideal.Value

namespace Cert.Fwd

open Cert.Reference2Ideal.Read (isM) in
open Cert.Reference5Ideal.Read in
/-- The gated forgetting attention. -/
theorem fwd_value : Cert.algebraic_Kernel5Ideal_Reference5Ideal_pre_finite5 := fun m ρ m' ρ' hpre hm => by
  have A := fun c => Cert.Kernel5Ideal.Value.args_real (c := c) hpre
  have hM := fun c => isM (A c).back
  have E := fun c => Cert.Kernel5Ideal.Value.entry (A c)
  refine ⟨fun c => (Cert.Kernel5Ideal.Gen.dats m 0 c).arrAt 5 Cert.Kernel5Ideal.cfg0.N, fun c => (Cert.Kernel5Ideal.Gen.dats m 0 c).arrAt 6 Cert.Kernel5Ideal.cfg0.N,
    fun c => (Cert.Kernel5Ideal.Gen.dats m 0 c).arrAt 7 Cert.Kernel5Ideal.cfg0.N, Cert.Kernel5Ideal.Value.run_blocks m ρ,
    (θ_run Cert.Reference5Ideal.defs _ _).mono (fun _ h c => ⟨(h c).1.trans ?_, (h c).2.1.trans ?_, (h c).2.2.1.trans ?_, (h c).2.2.2⟩)
      (Cert.Reference5Ideal.Value.run m' ρ')⟩
  · rw [val_main_v38_eq, (hm c).1, (hm c).2]; dsimp only; rw [Cert.Kernel5Ideal.Value.fin_o (E c)]
    exact funext fun i => o_r (A c) (hM c) i
  · rw [val_main_v45_eq, (hm c).1, (hm c).2]; dsimp only; rw [Cert.Kernel5Ideal.Value.fin_og (E c)]
    exact funext fun i => og_r (A c) (hM c) i
  · rw [val_main_v46_eq, (hm c).1, (hm c).2]; dsimp only; rw [Cert.Kernel5Ideal.Value.fin_lp (E c)]
    exact funext fun i => lp_r (A c) (hM c) i

theorem defs_kernel5 : Cert.Kernel5.defs (F := Bits) = Cert.Kernel5Ideal.defs (F := Bits) := by sl_kernel_rfl

theorem main_kernel5 : Cert.Kernel5.main (F := Bits) = Cert.Kernel5Ideal.main (F := Bits) := by sl_kernel_rfl

theorem frame_kernel5 : Cert.quiescent_Kernel5 := fun m ρ _ => by
  rw [defs_kernel5, main_kernel5]
  exact Cert.Kernel5Ideal.Gen.frame (F := Bits) m ρ

theorem frame_reference5 : Cert.quiescent_Reference5Ideal := fun m ρ _ =>
  (θ_run Cert.Reference5Ideal.defs _ _).mono (fun r h => ⟨fun c => (h c).2.2.2, sem_eq_zero_of_no_sems rfl r.2⟩) (Cert.Reference5Ideal.Value.run m ρ)

end Cert.Fwd
-- ==== Proof.Norm.Out.lean ====
/- The output product fused with a norm: what both programs compute of one row, and what the call leaves in its four results. -/
module

public import proofs.«01_k».proof.Proof.Gen.Kernel6Ideal.Value
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Norm

/-- The mean of a row. -/
def mean (z : Fin 1024 → EReal) : EReal := Ideal.div (∑ k, z k) (Ideal.ofBits .f32 0x44800000#32)

/-- The reciprocal standard deviation of a row. -/
def root (z : Fin 1024 → EReal) : EReal :=
  Ideal.rsqrt (Ideal.div (∑ k, (z k - mean z) * (z k - mean z)) (Ideal.ofBits .f32 0x44800000#32) + Ideal.ofBits .f32 0x3727C5AC#32)

/-- The normalised row. -/
def hat (z : Fin 1024 → EReal) (k : Fin 1024) : EReal := (z k - mean z) * root z

/-- Row `s` before the norm: the scaled input plus the product. -/
def pre (a : (⟨2, ![4096, 1024]⟩ : Shape).Idx → EReal) (w : (⟨2, ![1024, 1024]⟩ : Shape).Idx → EReal) (x : (⟨2, ![4096, 1024]⟩ : Shape).Idx → EReal)
    (s : Fin 4096) (k : Fin 1024) : EReal :=
  Ideal.ofBits .f32 0x3FD744FD#32 * x (ix2 s k) + ∑ j : Fin 1024, a (ix2 s j) * w (ix2 j k)

/-- Row `s` after the norm. -/
def post (a : (⟨2, ![4096, 1024]⟩ : Shape).Idx → EReal) (w : (⟨2, ![1024, 1024]⟩ : Shape).Idx → EReal) (x : (⟨2, ![4096, 1024]⟩ : Shape).Idx → EReal)
    (g b : (⟨1, ![1024]⟩ : Shape).Idx → EReal) (s : Fin 4096) (k : Fin 1024) : EReal :=
  hat (pre a w x s) k * g (ix1 k) + b (ix1 k)

end Cert.Norm

namespace Cert.Kernel6Ideal.Value

open Cert.Kernel6Ideal Cert.Kernel6Ideal.Gen Cert.Norm

local notation "I" => Idealize.ShloMosaic.Ideal

variable (m : (ℓ : Loc nD τ sig) → Buf (Elt I) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![t.val, 0] := (by decide +kernel : ∀ t : Fin grid0.N, win0_8.index t = ![t.val, 0])

theorem row_lt (t : Fin cfg0.N) (r : Fin 512) : 512 * t.val + r.val < 4096 := by
  have hN : cfg0.N = 8 := N_0
  have := t.isLt
  omega

theorem blk0 (t : Fin cfg0.N) (r : Fin 512) (k : Fin 1024) :
    (iblk m c 0 t (ix2 r k) : EReal) = m ((c.tc : Thread nD τ).loc main_arg0) (ix2 ⟨512 * t.val + r.val, row_lt t r⟩ k) := by
  rw [← V_main_arg0 m c]
  blk_ext [iblk, idx0 t]
theorem blk1 (t : Fin cfg0.N) (r k : Fin 1024) : (iblk m c 1 t (ix2 r k) : EReal) = m ((c.tc : Thread nD τ).loc main_arg1) (ix2 r k) := by
  rw [← V_main_arg1 m c]
  blk_ext [iblk, idx1 t]
theorem blk2 (t : Fin cfg0.N) (r : Fin 512) (k : Fin 1024) :
    (iblk m c 2 t (ix2 r k) : EReal) = m ((c.tc : Thread nD τ).loc main_arg2) (ix2 ⟨512 * t.val + r.val, row_lt t r⟩ k) := by
  rw [← V_main_arg2 m c]
  blk_ext [iblk, idx2 t]

theorem V0_at (k : Fin 1024) : V m c main_v0 (ix2 0 k) = m ((c.tc : Thread nD τ).loc main_arg3) (ix1 k) := by
  unfold V
  simp only [hostOps0, List.flatten_cons, List.flatten_nil, List.append_nil, List.cons_append, List.nil_append]
  after_reads_at
theorem V1_at (k : Fin 1024) : V m c main_v1 (ix2 0 k) = m ((c.tc : Thread nD τ).loc main_arg4) (ix1 k) := by
  unfold V
  simp only [hostOps0, List.flatten_cons, List.flatten_nil, List.append_nil, List.cons_append, List.nil_append]
  after_reads_at

theorem blk3 (t : Fin cfg0.N) (k : Fin 1024) : (iblk m c 3 t (ix2 0 k) : EReal) = m ((c.tc : Thread nD τ).loc main_arg3) (ix1 k) := by
  refine Eq.trans ?_ (V0_at m c k)
  blk_ext [iblk, idx3 t]
theorem blk4 (t : Fin cfg0.N) (k : Fin 1024) : (iblk m c 4 t (ix2 0 k) : EReal) = m ((c.tc : Thread nD τ).loc main_arg4) (ix1 k) := by
  refine Eq.trans ?_ (V1_at m c k)
  blk_ext [iblk, idx4 t]

/-- Row `s` before the norm, of the call's arguments. -/
def zrow (s : Fin 4096) : Fin 1024 → EReal :=
  pre (m ((c.tc : Thread nD τ).loc main_arg0)) (m ((c.tc : Thread nD τ).loc main_arg1)) (m ((c.tc : Thread nD τ).loc main_arg2)) s

/-- Row `s` after the norm, of the call's arguments. -/
def yrow (s : Fin 4096) : Fin 1024 → EReal :=
  post (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) s

variable (t : Fin cfg0.N) (r : Fin 512)

theorem pay2_at (k : Fin 1024) : (k0_pay2 (F := I) (iblk m c 0 t) (iblk m c 1 t) (iblk m c 2 t) (ix2 r k) : EReal)
    = zrow m c ⟨_, row_lt t r⟩ k - mean (zrow m c ⟨_, row_lt t r⟩) := by
  unfold k0_pay2
  pointwise
  simp only [blk0, blk1, blk2]
  rfl

theorem pay3_at : (k0_pay3 (F := I) (iblk m c 0 t) (iblk m c 1 t) (iblk m c 2 t) (ix2 r 0) : EReal) = root (zrow m c ⟨_, row_lt t r⟩) := by
  unfold k0_pay3
  pointwise
  simp only [pay2_at]
  rfl

theorem pay4_at (k : Fin 1024) : (k0_pay4 (F := I) (iblk m c 0 t) (iblk m c 1 t) (iblk m c 2 t) (ix2 r k) : EReal)
    = hat (zrow m c ⟨_, row_lt t r⟩) k := by
  unfold k0_pay4
  pointwise
  simp only [pay2_at, pay3_at]
  rfl

theorem pay5_at (k : Fin 1024) : (k0_pay5 (F := I) (iblk m c 0 t) (iblk m c 1 t) (iblk m c 2 t) (iblk m c 3 t) (iblk m c 4 t) (ix2 r k) : EReal)
    = yrow m c ⟨_, row_lt t r⟩ k := by
  unfold k0_pay5
  pointwise
  simp only [pay4_at, blk3, blk4]
  rfl

theorem pay1_at (x : FVec I S512x1024 .f32) (k : Fin 1024) : (k0_pay1 (F := I) x (ix2 r k) : EReal) = x (ix2 r k) := by
  unfold k0_pay1
  pointwise

theorem fin_y : (dats m 0 c).arrAt 5 cfg0.N = fun i : S4096x1024.Idx => yrow m c (i 0) (i 1) := by
  refine (dats m 0 c).arrAt_eq_of_covers 5 _ (by decide +kernel) fun t hf y => ?_
  blk_simp
  rw [after0_5]
  idx_vars y
  have e : out0_5 (F := I) (iblk m c 0 t) (iblk m c 1 t) (iblk m c 2 t) (iblk m c 3 t) (iblk m c 4 t)
      = k0_pay5 (iblk m c 0 t) (iblk m c 1 t) (iblk m c 2 t) (iblk m c 3 t) (iblk m c 4 t) := by
    unfold_out out0_5
    frame_out
  have i0 : win0_5.index t 0 = t.val := congrFun (idx5 t) 0
  have i1 : win0_5.index t 1 = 0 := congrFun (idx5 t) 1
  refine (congrFun e _).trans ((pay5_at m c t y0 y1).trans (congrArg₂ (yrow m c) (Fin.ext ?_) (Fin.ext ?_)))
  · blk_simp; rw [i0]; show 512 * t.val + y0.val = t.val * 512 + y0.val; omega
  · blk_simp; rw [i1]; omega

theorem fin_yb : (dats m 0 c).arrAt 6 cfg0.N = fun i : S4096x1024.Idx => yrow m c (i 0) (i 1) := by
  refine (dats m 0 c).arrAt_eq_of_covers 6 _ (by decide +kernel) fun t hf y => ?_
  blk_simp
  rw [after0_6]
  idx_vars y
  have e : out0_6 (F := I) (iblk m c 0 t) (iblk m c 1 t) (iblk m c 2 t) (iblk m c 3 t) (iblk m c 4 t)
      = k0_pay1 (k0_pay5 (iblk m c 0 t) (iblk m c 1 t) (iblk m c 2 t) (iblk m c 3 t) (iblk m c 4 t)) := by
    unfold_out out0_6
    frame_out
  have i0 : win0_6.index t 0 = t.val := congrFun (idx6 t) 0
  have i1 : win0_6.index t 1 = 0 := congrFun (idx6 t) 1
  refine (congrFun e _).trans ((pay1_at y0 _ y1).trans <| (pay5_at m c t y0 y1).trans (congrArg₂ (yrow m c) (Fin.ext ?_) (Fin.ext ?_)))
  · blk_simp; rw [i0]; show 512 * t.val + y0.val = t.val * 512 + y0.val; omega
  · blk_simp; rw [i1]; omega

theorem fin_zh : (dats m 0 c).arrAt 7 cfg0.N = fun i : S4096x1024.Idx => hat (zrow m c (i 0)) (i 1) := by
  refine (dats m 0 c).arrAt_eq_of_covers 7 _ (by decide +kernel) fun t hf y => ?_
  blk_simp
  rw [after0_7]
  idx_vars y
  have e : out0_7 (F := I) (iblk m c 0 t) (iblk m c 1 t) (iblk m c 2 t) (iblk m c 3 t) (iblk m c 4 t)
      = k0_pay4 (iblk m c 0 t) (iblk m c 1 t) (iblk m c 2 t) := by
    unfold_out out0_7
    frame_out
  have i0 : win0_7.index t 0 = t.val := congrFun (idx7 t) 0
  have i1 : win0_7.index t 1 = 0 := congrFun (idx7 t) 1
  refine (congrFun e _).trans ((pay4_at m c t y0 y1).trans (congrArg₂ (fun a b => hat (zrow m c a) b) (Fin.ext ?_) (Fin.ext ?_)))
  · blk_simp; rw [i0]; show 512 * t.val + y0.val = t.val * 512 + y0.val; omega
  · blk_simp; rw [i1]; omega

theorem fin_rs : (dats m 0 c).arrAt 8 cfg0.N = fun i : S4096x1.Idx => root (zrow m c (i 0)) := by
  refine (dats m 0 c).arrAt_eq_of_covers 8 _ (by decide +kernel) fun t hf y => ?_
  blk_simp
  rw [after0_8]
  idx_vars y
  have e : out0_8 (F := I) (iblk m c 0 t) (iblk m c 1 t) (iblk m c 2 t) (iblk m c 3 t) (iblk m c 4 t)
      = k0_pay3 (iblk m c 0 t) (iblk m c 1 t) (iblk m c 2 t) := by
    unfold_out out0_8
    frame_out
  have i0 : win0_8.index t 0 = t.val := congrFun (idx8 t) 0
  have i1 : win0_8.index t 1 = 0 := congrFun (idx8 t) 1
  refine (congrFun e _).trans ((congrArg (k0_pay3 (F := I) (iblk m c 0 t) (iblk m c 1 t) (iblk m c 2 t)) (congrArg (ix2 y0) (Subsingleton.elim y1 0))).trans <|
    (pay3_at m c t y0).trans (congrArg (fun a => root (zrow m c a)) (Fin.ext ?_)))
  · blk_simp; rw [i0]; show 512 * t.val + y0.val = t.val * 512 + y0.val; omega

end Cert.Kernel6Ideal.Value

end
-- ==== Proof.Norm.Ref.lean ====
/- The reference of the output product with its norm, row by row. -/
module

public import proofs.«01_k».proof.Proof.Norm.Out
public import proofs.«01_k».proof.Proof.Gen.Reference6Ideal.Read

@[expose] public section

set_option maxRecDepth 16384

noncomputable section

open Idealize.ShloMosaic Idealize.ShloMosaic.TcCoe Idealize.SL.Sem

namespace Cert.Reference6Ideal.Read
open Cert.Reference6Ideal Cert.Norm

local notation "I" => Idealize.ShloMosaic.Ideal

variable (x0 : (⟨S4096x1024, .bf16⟩ : BufTy).Contents (Elt I)) (x1 : (⟨S1024x1024, .bf16⟩ : BufTy).Contents (Elt I))
  (x2 : (⟨S4096x1024, .f32⟩ : BufTy).Contents (Elt I)) (x3 x4 : (⟨S1024, .f32⟩ : BufTy).Contents (Elt I))

/-- A position of a row of 1024 from its two coordinates. -/
theorem idx_pair (f g : S4096x1024.Idx) (h0 : (f 0).val = (g 0).val) (h1 : (f 1).val = (g 1).val) : f = g := by
  funext a
  refine Fin.cases ?_ (fun a => Fin.cases ?_ (fun a => a.elim0) a) a
  · exact Fin.ext h0
  · exact Fin.ext h1

theorem z_at (s : Fin 4096) (k : Fin 1024) : (val_main_v5 (F := I) x0 x1 x2 (ix2 s k) : EReal) = pre x0 x1 x2 s k := by
  rw [val_main_v5_apply, val_main_v1_apply, val_main_v0_apply, val_main_cst_apply, val_main_v4_apply]
  unfold pre
  refine congrArg (Ideal.ofBits .f32 0x3FD744FD#32 * x2 (ix2 s k) + ·) (Finset.sum_congr rfl fun j _ =>
    congrArg₂ (fun a b : EReal => a * b) (congrArg x0 (idx_pair _ (ix2 s j) rfl rfl)) (congrArg x1 (a₂ := ix2 j k) ?_))
  funext a
  refine Fin.cases ?_ (fun a => Fin.cases ?_ (fun a => a.elim0) a) a <;> rfl

theorem mean_at (i : S4096x1.Idx) : (val_main_v9 (F := I) x0 x1 x2 i : EReal) = mean (pre x0 x1 x2 (i 0)) := by
  rw [val_main_v9_apply, val_main_v7_apply, val_main_v6_apply, val_main_v8_apply, val_main_cst_1_apply, val_main_cst_0_apply]
  refine congrArg (Ideal.div · _) ((congrArg (· + _) Ideal.ofBits_zero_f32).trans ((zero_add _).trans (Finset.sum_congr rfl fun k _ => ?_)))
  exact (congrArg (val_main_v5 (F := I) x0 x1 x2) (idx_pair (idx_main_v6 (idx_main_v7 i) k) (ix2 (i 0) k) rfl rfl)).trans (z_at x0 x1 x2 (i 0) k)

theorem dev_at (s : Fin 4096) (k : Fin 1024) : (val_main_v11 (F := I) x0 x1 x2 (ix2 s k) : EReal) = pre x0 x1 x2 s k - mean (pre x0 x1 x2 s) := by
  rw [val_main_v11_apply, z_at, val_main_v10_apply, mean_at]
  rfl

theorem root_at (i : S4096x1.Idx) : (val_main_v19 (F := I) x0 x1 x2 i : EReal) = root (pre x0 x1 x2 (i 0)) := by
  rw [val_main_v19_apply, val_main_v18_apply, val_main_v16_apply, val_main_v14_apply, val_main_v13_apply, val_main_v15_apply, val_main_v17_apply,
    val_main_cst_2_apply, val_main_cst_3_apply, val_main_cst_4_apply]
  refine congrArg (fun q => Ideal.rsqrt (Ideal.div q _ + _))
    ((congrArg (· + _) Ideal.ofBits_zero_f32).trans ((zero_add _).trans (Finset.sum_congr rfl fun k _ => ?_)))
  exact congrArg (fun q : EReal => q * q)
    ((congrArg (val_main_v11 (F := I) x0 x1 x2) (idx_pair (idx_main_v13 (idx_main_v14 i) k) (ix2 (i 0) k) rfl rfl)).trans (dev_at x0 x1 x2 (i 0) k))

theorem hat_at (s : Fin 4096) (k : Fin 1024) : (val_main_v34 (F := I) x0 x1 x2 (ix2 s k) : EReal) = hat (pre x0 x1 x2 s) k := by
  rw [val_main_v34_apply, val_main_v32_apply, val_main_v31_apply, val_main_v33_apply, z_at, mean_at, root_at]
  rfl

theorem post_at (s : Fin 4096) (k : Fin 1024) : (val_main_v29 (F := I) x0 x1 x2 x3 x4 (ix2 s k) : EReal) = post x0 x1 x2 x3 x4 s k := by
  rw [val_main_v29_apply, val_main_v26_apply, val_main_v23_apply, val_main_v21_apply, val_main_v20_apply, val_main_v22_apply,
    val_main_v25_apply, val_main_v24_apply, val_main_v28_apply, val_main_v27_apply, z_at, mean_at, root_at]
  refine congrArg₂ (· + ·) (congrArg (_ * ·) (congrArg x3 ?_)) (congrArg x4 ?_) <;>
  · funext a
    refine Fin.cases ?_ (fun a => a.elim0) a
    rfl

end Cert.Reference6Ideal.Read

end
-- ==== Proof.Norm.Claims.lean ====
/- The output product with its norm: its value and its frames. -/
module

public import proofs.«01_k».proof.Defs
public import proofs.«01_k».proof.Proof.Norm.Ref
public import proofs.«01_k».proof.Proof.Gen.Kernel6
public import proofs.«01_k».proof.Proof.Gen.Reference6Ideal.Run
public import Idealize.ShloMosaic.Adequacy
public import Idealize.ShloMosaic.Init

@[expose] public section

set_option maxRecDepth 16384

noncomputable section

open Idealize.ShloMosaic Idealize.ShloMosaic.TcCoe Idealize.SL.Sem

namespace Cert.Norm

open Cert.Reference6Ideal.Read in
/-- The output product and its norm, the rounded copy, the normalised rows and their reciprocal deviations. -/
theorem norm_value : Cert.algebraic_Kernel6Ideal_Reference6Ideal := fun m ρ m' ρ' _ hm => by
  refine ⟨fun c => (Cert.Kernel6Ideal.Gen.dats m 0 c).arrAt 5 Cert.Kernel6Ideal.cfg0.N, fun c => (Cert.Kernel6Ideal.Gen.dats m 0 c).arrAt 6 Cert.Kernel6Ideal.cfg0.N,
    fun c => (Cert.Kernel6Ideal.Gen.dats m 0 c).arrAt 7 Cert.Kernel6Ideal.cfg0.N, fun c => (Cert.Kernel6Ideal.Gen.dats m 0 c).arrAt 8 Cert.Kernel6Ideal.cfg0.N,
    Cert.Kernel6Ideal.Value.run_blocks m ρ,
    (θ_run Cert.Reference6Ideal.defs _ _).mono (fun _ h c => ⟨(h c).1.trans ?_, (h c).2.1.trans ?_, (h c).2.2.1.trans ?_, (h c).2.2.2.1.trans ?_, (h c).2.2.2.2⟩)
      (Cert.Reference6Ideal.Value.run m' ρ')⟩ <;>
    simp only [val_main_v29_eq, val_main_v30_eq, val_main_v34_eq, val_main_v19_eq, (hm c).1, (hm c).2.1, (hm c).2.2.1, (hm c).2.2.2.1, (hm c).2.2.2.2]
  · rw [Cert.Kernel6Ideal.Value.fin_y]
    exact funext fun i => (congrArg _ (idx_pair i (ix2 (i 0) (i 1)) rfl rfl)).trans (post_at _ _ _ _ _ (i 0) (i 1))
  · rw [Cert.Kernel6Ideal.Value.fin_yb]
    exact funext fun i => (congrArg _ (idx_pair i (ix2 (i 0) (i 1)) rfl rfl)).trans (post_at _ _ _ _ _ (i 0) (i 1))
  · rw [Cert.Kernel6Ideal.Value.fin_zh]
    exact funext fun i => (congrArg _ (idx_pair i (ix2 (i 0) (i 1)) rfl rfl)).trans (hat_at _ _ _ (i 0) (i 1))
  · rw [Cert.Kernel6Ideal.Value.fin_rs]
    exact funext fun i => root_at _ _ _ i

theorem defs_kernel6 : Cert.Kernel6.defs (F := Bits) = Cert.Kernel6Ideal.defs (F := Bits) := by sl_kernel_rfl

theorem main_kernel6 : Cert.Kernel6.main (F := Bits) = Cert.Kernel6Ideal.main (F := Bits) := by sl_kernel_rfl

theorem frame_kernel6 : Cert.quiescent_Kernel6 := fun m ρ _ => by
  rw [defs_kernel6, main_kernel6]
  exact Cert.Kernel6Ideal.Gen.frame (F := Bits) m ρ

theorem frame_reference6 : Cert.quiescent_Reference6Ideal := fun m ρ _ =>
  (θ_run Cert.Reference6Ideal.defs _ _).mono (fun r h => ⟨fun c => (h c).2.2.2.2, sem_eq_zero_of_no_sems rfl r.2⟩) (Cert.Reference6Ideal.Value.run m ρ)

end Cert.Norm

end
-- ==== Proof.Cum.Math.lean ====
/- The running sum of the log-sigmoid forget gates: prefix sums, and the log-sigmoid as both programs write it. -/
module

public import proofs.«01_k».proof.Proof.Dcum.Math

@[expose] public section

set_option maxRecDepth 16384

noncomputable section

open Idealize.ShloMosaic

namespace Cert.Cum

/-- The sum of the first `n` values of `f`. -/
def upto (f : ℕ → EReal) (n : ℕ) : EReal := ∑ k ∈ Finset.range n, f k

/-- The positions before a block, and a block of 512 positions read against the lower triangle. -/
theorem upto_block (f : ℕ → EReal) (s : ℕ) (r : Fin 512) :
    ∑ k : Fin 512, (if k.val ≤ r.val then f (s + k.val) else 0) + upto f s = upto f (s + r.val + 1) := by
  unfold upto
  rw [add_assoc, Finset.sum_range_add, add_comm (∑ _ : Fin 512, _)]
  congr 1
  rw [Fin.sum_univ_eq_sum_range (fun k => if k ≤ r.val then f (s + k) else 0) 512, ← Finset.sum_filter]
  refine Finset.sum_congr ?_ fun _ _ => rfl
  ext k
  have := r.isLt
  simp only [Finset.mem_filter, Finset.mem_range]
  omega

/-- The log-sigmoid of `y`. -/
def logsig (y : EReal) : EReal := -(max (-y) 0 + Ideal.log (1 + Ideal.exp (-(max (-y) (- -y)))))

/-- Column `l` of the gates' log-sigmoids, and zero from row 4096 on. -/
def gates (f : (⟨2, ![4096, 4224]⟩ : Shape).Idx → EReal) (b : (⟨1, ![128]⟩ : Shape).Idx → EReal) (l : Fin 128) (s : ℕ) : EReal :=
  if h : s < 4096 then logsig (f (ix2 ⟨s, h⟩ ⟨4096 + l.val, by have := l.isLt; show _ < 4224; omega⟩) + b (ix1 l)) else 0

/-- The running sum as the host computes it: a window of the whole length padded at the start. -/
theorem presum (x : (⟨2, ![4096, 128]⟩ : Shape).Idx → EReal) (v : EReal) (hv : v = 0)
    (h : (⟨2, ![4096, 128]⟩ : Shape).ReduceWindows ![4096, 1] ![1, 1] ![4095, 0] ![0, 0] ⟨2, ![4096, 128]⟩) (t : Fin 4096) (c : Fin 128) :
    Ideal.hostReduceWindowAdd ![4096, 1] ![1, 1] ![4095, 0] ![0, 0] h x v (ix2 t c)
      = upto (fun k => if hk : k < 4096 then x (ix2 ⟨k, hk⟩ c) else 0) (t.val + 1) := by
  subst hv
  unfold Ideal.hostReduceWindowAdd Host.reduceWindow
  rw [Cert.Dcum.foldl_add, zero_add, ← List.ofFn_eq_map, List.sum_ofFn]
  have key := Equiv.sum_comp (⟨2, ![4096, 1]⟩ : Shape).rowMajor.symm (fun i : (⟨2, ![4096, 1]⟩ : Shape).Idx =>
    if hk : 4095 ≤ t.val + (i 0).val ∧ t.val + (i 0).val - 4095 < 4096 then x (ix2 ⟨t.val + (i 0).val - 4095, hk.2⟩ c) else 0)
  rw [sum_idx2] at key
  simp only [Fin.sum_univ_one] at key
  refine Eq.trans (Finset.sum_congr rfl fun n _ => ?_) (key.trans ?_)
  · have hi1 : ((⟨2, ![4096, 1]⟩ : Shape).rowMajor.symm n 1).val = 0 := by
      have := ((⟨2, ![4096, 1]⟩ : Shape).rowMajor.symm n 1).isLt
      simp at this
      omega
    by_cases hk : 4095 ≤ t.val + ((⟨2, ![4096, 1]⟩ : Shape).rowMajor.symm n 0).val ∧ t.val + ((⟨2, ![4096, 1]⟩ : Shape).rowMajor.symm n 0).val - 4095 < 4096
    · rw [dif_pos hk, dif_pos]
      · congr 1
        funext a
        refine Fin.cases ?_ (fun a => Fin.cases ?_ (fun a => a.elim0) a) a
        · exact Fin.ext (by simp [ix2])
        · exact Fin.ext (by simpa [ix2] using hi1)
      · intro a
        refine Fin.cases ?_ (fun a => Fin.cases ?_ (fun a => a.elim0) a) a
        · simpa [ix2] using hk
        · have := c.isLt
          simp [ix2] at hi1 ⊢
          omega
    · rw [dif_neg hk, dif_neg]
      intro hh
      exact hk (by simpa [ix2] using hh 0)
  · show (∑ i : Fin 4096, if hk : 4095 ≤ t.val + i.val ∧ t.val + i.val - 4095 < 4096 then x (ix2 ⟨t.val + i.val - 4095, hk.2⟩ c) else 0) = _
    unfold upto
    have ht := t.isLt
    have hr : Finset.range 4096 = Finset.range ((4095 - t.val) + (t.val + 1)) := congrArg _ (by omega)
    rw [Fin.sum_univ_eq_sum_range (fun k => if hk : 4095 ≤ t.val + k ∧ t.val + k - 4095 < 4096 then x (ix2 ⟨t.val + k - 4095, hk.2⟩ c) else 0) 4096,
      hr, Finset.sum_range_add, Finset.sum_eq_zero (fun k hk => ?_), zero_add]
    · refine Finset.sum_congr rfl fun k hk => ?_
      simp only [Finset.mem_range] at hk
      rw [dif_pos (by omega)]
      dsimp only
      rw [dif_pos (by omega)]
      exact congrArg (fun a => x (ix2 a c)) (Fin.ext (by dsimp only; omega))
    · simp only [Finset.mem_range] at hk
      rw [dif_neg (by omega)]

end Cert.Cum

end
-- ==== Proof.Cum.Kernel.lean ====
/- What the running sum's call leaves in its result. -/
module

public import proofs.«01_k».proof.Proof.Gen.Kernel7Ideal.Value
public import proofs.«01_k».proof.Proof.Cum.Math
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel7Ideal.Value

open Cert.Kernel7Ideal Cert.Kernel7Ideal.Gen Cert.Cum

local notation "I" => Idealize.ShloMosaic.Ideal

variable (m : (ℓ : Loc nD τ sig) → Buf (Elt I) ℓ) (c : Dev nD)

theorem tri_val (r k : Fin 512) :
    (FloatOps.sitofp (F := I) FTy.f32 (BitVec.setWidth 32 (IntOp.cmpi CmpIPredicate.sge (BitVec.ofNat 32 r.val) (BitVec.ofNat 32 k.val))) : EReal)
      = if k.val ≤ r.val then 1 else 0 := by
  have e : (BitVec.ofNat 32 k.val).sle (BitVec.ofNat 32 r.val) = decide (k.val ≤ r.val) := by
    have hr : (BitVec.ofNat 32 r.val).toInt = r.val := by
      rw [BitVec.toInt_ofNat']; exact Int.bmod_eq_of_le (by omega) (by omega)
    have hk : (BitVec.ofNat 32 k.val).toInt = k.val := by
      rw [BitVec.toInt_ofNat']; exact Int.bmod_eq_of_le (by omega) (by omega)
    unfold BitVec.sle
    rw [hr, hk]
    exact decide_eq_decide.mpr (by omega)
  have h0 : (FloatOps.sitofp (F := I) FTy.f32 0#32 : EReal) = 0 := by
    show (((0#32).toInt : ℝ) : EReal) = 0
    norm_num
  have h1 : (FloatOps.sitofp (F := I) FTy.f32 1#32 : EReal) = 1 := by
    show (((1#32).toInt : ℝ) : EReal) = 1
    norm_num
  unfold IntOp.cmpi
  simp only [e]
  by_cases h : k.val ≤ r.val
  · rw [if_pos h]; simp [h]; exact h1
  · rw [if_neg h]; simp [h]; exact h0

theorem pay2_apply (v3 : Vec I S512x128 .f32) (v4 v28 : Vec I S1x128 .f32) (r : Fin 512) (l : Fin 128) :
    (k0_pay2 (F := I) v3 v4 v28 (ix2 r l) : EReal)
      = ∑ k : Fin 512, (if k.val ≤ r.val then logsig (v3 (ix2 k l) + v4 (ix2 0 l)) else 0) + v28 (ix2 0 l) := by
  unfold k0_pay2
  pointwise
  refine congrArg (· + _) (Finset.sum_congr rfl fun k _ => ?_)
  rw [tri_val, ite_mul, one_mul, zero_mul]
  unfold logsig
  simp only [zero_sub]
  rfl

theorem pay1_apply (j : S1x128.Idx) : (k0_pay1 (F := I) j : EReal) = 0 := by
  unfold k0_pay1
  pointwise

theorem pay3_apply (v3 : Vec I S512x128 .f32) (v4 v28 : Vec I S1x128 .f32) (l : Fin 128) :
    (k0_pay3 (F := I) v3 v4 v28 (ix2 0 l) : EReal) = k0_pay2 (F := I) v3 v4 v28 (ix2 511 l) := by
  unfold k0_pay3
  pointwise

theorem pay4_apply (v3 : Vec I S512x128 .f32) (v4 v28 : Vec I S1x128 .f32) (r : Fin 512) (l : Fin 128) :
    (k0_pay4 (F := I) v3 v4 v28 (ix2 l r) : EReal) = k0_pay2 (F := I) v3 v4 v28 (ix2 r l) := by
  unfold k0_pay4
  pointwise

/-- The first point, from the zero carry. -/
theorem outs_A (t : Fin cfg0.N) (h : t.val % 8 = 0) :
    outsAt0 m c t.val t.isLt = (k0_pay4 (F := I) (iblk m c 0 t) (iblk m c 1 t) (k0_pay1 (F := I)), k0_pay3 (F := I) (iblk m c 0 t) (iblk m c 1 t) (k0_pay1 (F := I))) := by
  rw [outsAt0_A m c t h]
  refine Prod.ext ?_ ?_ <;> dsimp only <;> frame_out

/-- A later point, over what the point before it left. -/
theorem outs_B (t : Fin cfg0.N) (h : ¬t.val % 8 = 0) :
    outsAt0 m c t.val t.isLt
      = (let o := outsAt0 m c (t.val - 1) (Nat.lt_of_le_of_lt (Nat.sub_le _ _) t.isLt)
         (k0_pay4 (F := I) (iblk m c 0 t) (iblk m c 1 t) o.2, k0_pay3 (F := I) (iblk m c 0 t) (iblk m c 1 t) o.2)) := by
  rw [outsAt0_B m c t h]
  have hr : ∀ x, View.read (Elt I) (View.whole cc0_scratch0) ((Memref.isWhole_whole cc0_scratch0).unread x) = x := fun x =>
    (Memref.isWhole_whole cc0_scratch0).read_unread x
  refine Prod.ext ?_ ?_ <;> dsimp only <;> frame_out <;> rw [hr]

theorem idx0 : ∀ t : Fin cfg0.N, win0_0.index t = ![t.val, 32] := (by decide +kernel : ∀ t : Fin grid0.N, win0_0.index t = ![t.val, 32])
theorem idx1 : ∀ t : Fin cfg0.N, win0_1.index t = ![0, 0] := (by decide +kernel : ∀ t : Fin grid0.N, win0_1.index t = ![0, 0])
theorem idx2 : ∀ t : Fin cfg0.N, win0_2.index t = ![0, t.val] := (by decide +kernel : ∀ t : Fin grid0.N, win0_2.index t = ![0, t.val])

theorem V0_at (l : Fin 128) : V m c main_v0 (ix2 0 l) = m ((c.tc : Thread nD τ).loc main_arg1) (ix1 l) := by
  unfold V
  simp only [hostOps0, List.flatten_cons, List.flatten_nil, List.append_nil, List.cons_append, List.nil_append]
  after_reads_at

/-- Column `l` of the gates, of the call's arguments. -/
def col (l : Fin 128) : ℕ → EReal := gates (m ((c.tc : Thread nD τ).loc main_arg0)) (m ((c.tc : Thread nD τ).loc main_arg1)) l

theorem row_lt (t : Fin cfg0.N) (r : Fin 512) : 512 * t.val + r.val < 4096 := by
  have hN : cfg0.N = 8 := N_0
  have := t.isLt
  omega

theorem blk_at (t : Fin cfg0.N) (r : Fin 512) (l : Fin 128) (x y : EReal) (hx : x = iblk m c 0 t (ix2 r l)) (hy : y = iblk m c 1 t (ix2 0 l)) :
    logsig (x + y) = col m c l (512 * t.val + r.val) := by
  unfold col gates
  rw [dif_pos (row_lt t r)]
  have e0 : iblk m c 0 t (ix2 r l) = m ((c.tc : Thread nD τ).loc main_arg0) (ix2 ⟨_, row_lt t r⟩ ⟨4096 + l.val, by have := l.isLt; show _ < 4224; omega⟩) := by
    rw [← V_main_arg0 m c]
    blk_ext [iblk, idx0 t]
  have e1 : iblk m c 1 t (ix2 0 l) = m ((c.tc : Thread nD τ).loc main_arg1) (ix1 l) := by
    refine Eq.trans ?_ (V0_at m c l)
    blk_ext [iblk, idx1 t]
  rw [hx, hy, e0, e1]

/-- One point's running sum, over a carry that holds the sum of the earlier rows. -/
theorem point (t : Fin cfg0.N) (acc : Vec I S1x128 .f32) (l : Fin 128) (ha : (acc (ix2 0 l) : EReal) = upto (col m c l) (512 * t.val)) (r : Fin 512) :
    (k0_pay2 (F := I) (iblk m c 0 t) (iblk m c 1 t) acc (ix2 r l) : EReal) = upto (col m c l) (512 * t.val + r.val + 1) := by
  rw [pay2_apply, ha, ← upto_block]
  refine congrArg (· + _) (Finset.sum_congr rfl fun k _ => ?_)
  rw [blk_at m c t k l _ _ rfl rfl]

theorem carry_eq (l : Fin 128) : ∀ (n : ℕ) (h : n < cfg0.N), ((outsAt0 m c n h).2 (ix2 0 l) : EReal) = upto (col m c l) (512 * (n + 1))
  | 0, h => by
    have e := outs_A m c ⟨0, h⟩ rfl
    dsimp only at e
    rw [e]
    exact (pay3_apply _ _ _ l).trans (point m c ⟨0, h⟩ _ l (by rw [pay1_apply]; exact (Finset.sum_range_zero _).symm) 511)
  | n + 1, h => by
    have hN : cfg0.N = 8 := N_0
    have ih := carry_eq l n (by omega)
    have e := outs_B m c ⟨n + 1, h⟩ (by dsimp only; omega)
    dsimp only [Nat.add_sub_cancel] at e
    rw [e]
    exact (pay3_apply _ _ _ l).trans (point m c ⟨n + 1, h⟩ _ l ih 511)

theorem out_eq (t : Fin cfg0.N) (r : Fin 512) (l : Fin 128) :
    ((outsAt0 m c t.val t.isLt).1 (ix2 l r) : EReal) = upto (col m c l) (512 * t.val + r.val + 1) := by
  have hN : cfg0.N = 8 := N_0
  by_cases h : t.val % 8 = 0
  · have h0 : t.val = 0 := by omega
    rw [outs_A m c t h]
    refine (pay4_apply _ _ _ r l).trans (point m c t _ l ?_ r)
    rw [pay1_apply, h0]
    exact (Finset.sum_range_zero _).symm
  · have ih := carry_eq m c l (t.val - 1) (by omega)
    rw [outs_B m c t h]
    refine (pay4_apply _ _ _ r l).trans (point m c t _ l ?_ r)
    rw [show 512 * t.val = 512 * (t.val - 1 + 1) by omega]
    exact ih

/-- The running sums, whole. -/
theorem fin_cum : (dats m 0 c).arrAt 2 cfg0.N = fun i : S128x4096.Idx => upto (col m c (i 0)) ((i 1).val + 1) := by
  refine (dats m 0 c).arrAt_eq_of_covers 2 _ (by decide +kernel) fun t hf y => ?_
  blk_simp
  rw [after0_2]
  idx_vars y
  have i0 : win0_2.index t 0 = 0 := congrFun (idx2 t) 0
  have i1 : win0_2.index t 1 = t.val := congrFun (idx2 t) 1
  refine (out_eq m c t y1 y0).trans (congrArg₂ (fun (a : Fin 128) (b : ℕ) => upto (col m c a) b) (Fin.ext ?_) ?_)
  · blk_simp; rw [i0]; show y0.val = 0 * 128 + y0.val; omega
  · rw [i1]; show 512 * t.val + y1.val + 1 = t.val * 512 + y1.val + 1; omega

end Cert.Kernel7Ideal.Value

end
-- ==== Proof.Cum.Claims.lean ====
/- The running sum of the log-sigmoid forget gates: its value and its frames. -/
module

public import proofs.«01_k».proof.Defs
public import proofs.«01_k».proof.Proof.Cum.Kernel
public import proofs.«01_k».proof.Proof.Dcum.Host
public import proofs.«01_k».proof.Proof.Gen.Kernel7
public import proofs.«01_k».proof.Proof.Gen.Reference7Ideal.Read
public import proofs.«01_k».proof.Proof.Gen.Reference7Ideal.Run
public import Idealize.ShloMosaic.Adequacy
public import Idealize.ShloMosaic.Init

@[expose] public section

set_option maxRecDepth 16384

noncomputable section

open Idealize.ShloMosaic Idealize.ShloMosaic.TcCoe Idealize.SL.Sem

namespace Cert.Reference7Ideal.Read
open Cert.Reference7Ideal Cert.Cum

local notation "I" => Idealize.ShloMosaic.Ideal

variable (x0 : (⟨S4096x4224, .f32⟩ : BufTy).Contents (Elt I)) (x1 : (⟨S128, .f32⟩ : BufTy).Contents (Elt I))

/-- The reference's own operations for the log-sigmoid at `-y`. -/
def lsF (x : Ideal .f32) : Ideal .f32 :=
  let z : Ideal .f32 := FloatOps.ofBits FTy.f32 0#32
  let d : Ideal .f32 := FloatOps.subf x z
  FloatOps.hostNegf (Scalar.select (FloatOps.cmpf CmpFPredicate.une d d) (FloatOps.addf x z)
    (FloatOps.addf (FloatOps.maximumf x z)
      (FloatOps.hostUnary HostUnaryOp.log1p (FloatOps.hostUnary HostUnaryOp.exp (FloatOps.hostNegf (FloatOps.hostAbsf d))))))

theorem lsF_eq (y : EReal) : lsF (-y) = logsig y := by
  unfold lsF logsig
  simp only [Cert.ReferenceIdeal.Read.select_une]
  have hz : (FloatOps.ofBits (F := I) FTy.f32 0#32 : EReal) = 0 := Ideal.ofBits_zero_f32
  have hd : (FloatOps.subf (F := I) (φ := .f32) (-y : EReal) (0 : EReal) : EReal) = -y := sub_zero _
  simp only [hz, hd]
  rfl

theorem v4_at (s : Fin 4096) (l : Fin 128) : (val_main_v4 (F := I) x0 x1 (ix2 s l) : EReal) = gates x0 x1 l s.val := by
  simp only [val_main_v4_apply, val_main_call0_v1_apply, val_main_call0_call0_v11_apply, val_main_call0_call0_v10_apply, val_main_call0_call0_v9_apply,
    val_main_call0_call0_v8_apply, val_main_call0_call0_v7_apply, val_main_call0_call0_v6_apply, val_main_call0_call0_v5_apply,
    val_main_call0_call0_v4_apply, val_main_call0_call0_v3_apply, val_main_call0_call0_v2_apply, val_main_call0_call0_v1_apply,
    val_main_call0_call0_v0_apply, val_main_call0_call0_cst_apply, val_main_call0_v0_apply, val_main_v3_apply, val_main_v2_apply, val_main_v1_apply, val_main_v0_apply]
  have e0 : idx_main_v0 (ix2 s l) = ix2 s ⟨4096 + l.val, by have := l.isLt; show _ < 4224; omega⟩ := by
    funext a
    refine Fin.cases ?_ (fun a => Fin.cases ?_ (fun a => a.elim0) a) a
    · rfl
    · exact Fin.ext (by show 4096 + l.val = _; rfl)
  have e1 : idx_main_v1 (idx_main_v2 (ix2 s l)) = ix1 l := by
    funext a
    refine Fin.cases ?_ (fun a => a.elim0) a
    rfl
  rw [e0, e1]
  unfold gates
  rw [dif_pos s.isLt]
  exact lsF_eq _

theorem v5_at (s : Fin 4096) (l : Fin 128) : (val_main_v5 (F := I) x0 x1 (ix2 s l) : EReal) = upto (gates x0 x1 l) (s.val + 1) := by
  have e : (fun k => if hk : k < 4096 then (val_main_v4 (F := I) x0 x1 (ix2 ⟨k, hk⟩ l) : EReal) else 0) = gates x0 x1 l := by
    funext k
    by_cases hk : k < 4096
    · rw [dif_pos hk, v4_at]
    · rw [dif_neg hk]; unfold gates; rw [dif_neg hk]
  rw [← e]
  unfold val_main_v5
  generalize val_main_v4 (F := I) x0 x1 = y
  simp only [Host.reduceWindowAdd, Ideal.hostReduceWindowAdd_def]
  exact presum y _ Ideal.ofBits_zero_f32 _ s l

theorem v6_at (i : S128x4096.Idx) : (val_main_v6 (F := I) x0 x1 i : EReal) = upto (gates x0 x1 (i 0)) ((i 1).val + 1) := by
  rw [val_main_v6_apply]
  refine (congrArg (val_main_v5 (F := I) x0 x1) ?_).trans (v5_at x0 x1 (i 1) (i 0))
  funext a
  refine Fin.cases ?_ (fun a => Fin.cases ?_ (fun a => a.elim0) a) a <;> rfl

end Cert.Reference7Ideal.Read

namespace Cert.Cum

theorem cum_value : Cert.algebraic_Kernel7Ideal_Reference7Ideal := fun m ρ m' ρ' _ hm => by
  refine ⟨fun c => (Cert.Kernel7Ideal.Gen.dats m 0 c).arrAt 2 Cert.Kernel7Ideal.cfg0.N, Cert.Kernel7Ideal.Value.run_blocks m ρ,
    (θ_run Cert.Reference7Ideal.defs _ _).mono (fun _ h c => ⟨(h c).1.trans ?_, (h c).2⟩) (Cert.Reference7Ideal.Value.run m' ρ')⟩
  rw [Cert.Reference7Ideal.Read.val_main_v6_eq, (hm c).1, (hm c).2]; dsimp only; rw [Cert.Kernel7Ideal.Value.fin_cum]
  exact funext fun i => Cert.Reference7Ideal.Read.v6_at _ _ i

theorem defs_kernel7 : Cert.Kernel7.defs (F := Bits) = Cert.Kernel7Ideal.defs (F := Bits) := by sl_kernel_rfl

theorem main_kernel7 : Cert.Kernel7.main (F := Bits) = Cert.Kernel7Ideal.main (F := Bits) := by sl_kernel_rfl

theorem frame_kernel7 : Cert.quiescent_Kernel7 := fun m ρ _ => by
  rw [defs_kernel7, main_kernel7]
  exact Cert.Kernel7Ideal.Gen.frame (F := Bits) m ρ

theorem frame_reference7 : Cert.quiescent_Reference7Ideal := fun m ρ _ =>
  (θ_run Cert.Reference7Ideal.defs _ _).mono (fun r h => ⟨fun c => (h c).2, sem_eq_zero_of_no_sems rfl r.2⟩) (Cert.Reference7Ideal.Value.run m ρ)

end Cert.Cum

end
-- ==== Proof.Rg.Math.lean ====
/- The gated linear recurrence: its numbers, and the doubling scan of a block against the recurrence row by row. -/
module

public import Idealize.ShloMosaic.Lib.Pointwise

@[expose] public section

set_option maxRecDepth 16384

noncomputable section

open Idealize.ShloMosaic

namespace Cert.Rg

/-- The logistic function. -/
def sgm (x : EReal) : EReal := Ideal.div 1 (1 + Ideal.exp (-x))

/-- The softplus of `-y`. -/
def spl (y : EReal) : EReal := max (-y) 0 + Ideal.log (1 + Ideal.exp (-(max (-y) (- -y))))

/-- The logarithm of the decay, of the gate `r` and the parameter `y`. -/
def logA (r y : EReal) : EReal := (Ideal.ofBits .f32 0xC1000000#32 * r) * spl y

/-- The input's weight, of the logarithm of the decay. -/
def root (x : EReal) : EReal := Ideal.sqrt (-(Ideal.exp (Ideal.ofBits .f32 0x40000000#32 * x) - 1))

theorem exp_nonneg (x : EReal) : 0 ≤ Ideal.exp x := by
  induction x with
  | bot => exact le_rfl
  | top => exact le_top
  | coe a => exact EReal.coe_nonneg.mpr (Real.exp_pos a).le

theorem one_le_add (x : EReal) : (1 : EReal) ≤ 1 + Ideal.exp x := le_add_of_nonneg_right (exp_nonneg x)

theorem sgm_nonneg (x : EReal) : 0 ≤ sgm x := by
  have h := one_le_add (-x)
  have h0 : (0 : EReal) < 1 + Ideal.exp (-x) := lt_of_lt_of_le zero_lt_one h
  unfold sgm Ideal.div
  rw [if_neg h0.ne', one_mul]
  exact EReal.inv_nonneg_of_nonneg h0.le

theorem log_nonneg (x : EReal) (h : 1 ≤ x) : 0 ≤ Ideal.log x := by
  induction x with
  | bot => exact absurd h (not_le.mpr (EReal.bot_lt_coe 1))
  | top => exact le_top
  | coe a =>
    have ha : (1 : ℝ) ≤ a := by exact_mod_cast h
    show (0 : EReal) ≤ if a ≤ 0 then ⊥ else (Real.log a : EReal)
    rw [if_neg (by linarith)]
    exact EReal.coe_nonneg.mpr (Real.log_nonneg ha)

theorem spl_nonneg (y : EReal) : 0 ≤ spl y := add_nonneg (le_max_right _ _) (log_nonneg _ (one_le_add _))

theorem eight : (Ideal.ofBits .f32 0xC1000000#32 : EReal) = ((-8 : ℝ) : EReal) := by
  simp [Ideal.ofBits, Ideal.ieee]; rw [← EReal.coe_mul]; norm_num

theorem two : (Ideal.ofBits .f32 0x40000000#32 : EReal) = ((2 : ℝ) : EReal) := by
  simp [Ideal.ofBits, Ideal.ieee]; rw [← EReal.coe_mul]; norm_num

theorem logA_nonpos (z y : EReal) : logA (sgm z) y ≤ 0 := by
  have h1 := sgm_nonneg z
  have h2 := spl_nonneg y
  unfold logA
  rw [eight, EReal.coe_neg, neg_mul, neg_mul]
  have h8 : (0 : EReal) ≤ ((8 : ℝ) : EReal) := EReal.coe_nonneg.mpr (by norm_num)
  have h := mul_nonneg (mul_nonneg h8 h1) h2
  have := EReal.neg_le_neg_iff.mpr h
  rwa [neg_zero] at this

theorem exp_ne_top (x : EReal) (h : x ≤ 0) : Ideal.exp x ≠ ⊤ := by
  induction x with
  | bot => exact EReal.zero_ne_top
  | top => simp at h
  | coe a => exact EReal.coe_ne_top _

theorem tanh_form (r : ℝ) : Real.tanh (-r) * (Real.exp r * Real.exp r + 1) = 1 - Real.exp r * Real.exp r := by
  have hp := Real.exp_pos r
  rw [Real.tanh_eq_sinh_div_cosh, Real.sinh_eq, Real.cosh_eq, neg_neg, Real.exp_neg]
  field_simp
  ring

/-- The input's weight as the kernel computes it. -/
theorem root_eq (x : EReal) (h : x ≤ 0) :
    (if 0 < Ideal.tanh (0 - x) * (Ideal.exp x * Ideal.exp x + 1)
      then (Ideal.tanh (0 - x) * (Ideal.exp x * Ideal.exp x + 1)) * Ideal.rsqrt (Ideal.tanh (0 - x) * (Ideal.exp x * Ideal.exp x + 1)) else 0)
      = root x := by
  unfold root
  rw [two, zero_sub]
  induction x with
  | top => simp at h
  | bot =>
    have e1 : Ideal.tanh (-⊥) * (Ideal.exp ⊥ * Ideal.exp ⊥ + 1) = ((1 : ℝ) : EReal) := by
      show (1 : EReal) * (0 * 0 + 1) = _
      simp
    have e2 : (((2 : ℝ) : EReal) * ⊥) = ⊥ := EReal.coe_mul_bot_of_pos (by norm_num)
    rw [e1, e2, if_pos (by exact_mod_cast one_pos)]
    have e3 : -(Ideal.exp ⊥ - 1) = ((1 : ℝ) : EReal) := by
      show -((0 : EReal) - 1) = _
      rw [zero_sub, neg_neg]; rfl
    rw [e3]
    show ((1 : ℝ) : EReal) * (if (1 : ℝ) < 0 then (⊥ : EReal) else if (1 : ℝ) = 0 then ⊤ else (((Real.sqrt 1)⁻¹ : ℝ) : EReal)) = if (1 : ℝ) < 0 then ⊥ else (Real.sqrt 1 : EReal)
    norm_num
  | coe r =>
    have hr : r ≤ 0 := by exact_mod_cast h
    have hE : Real.exp r * Real.exp r ≤ 1 := by
      have := Real.exp_le_one_iff.mpr hr
      have := Real.exp_pos r
      nlinarith
    have e1 : Ideal.tanh (-(r : EReal)) * (Ideal.exp r * Ideal.exp r + 1) = ((1 - Real.exp r * Real.exp r : ℝ) : EReal) := by
      rw [← tanh_form, ← EReal.coe_neg]
      show (Real.tanh (-r) : EReal) * ((Real.exp r : EReal) * (Real.exp r : EReal) + 1) = _
      norm_cast
    have e2 : -(Ideal.exp (((2 : ℝ) : EReal) * (r : EReal)) - 1) = ((1 - Real.exp r * Real.exp r : ℝ) : EReal) := by
      have e : Real.exp (2 * r) = Real.exp r * Real.exp r := by rw [two_mul, Real.exp_add]
      rw [← EReal.coe_mul]
      show -((Real.exp (2 * r) : EReal) - 1) = _
      rw [e]
      have : (1 - Real.exp r * Real.exp r : ℝ) = -(Real.exp r * Real.exp r - 1) := by ring
      rw [this]
      norm_cast
    rw [e1, e2]
    generalize hd : 1 - Real.exp r * Real.exp r = d
    have hd0 : 0 ≤ d := by linarith
    show _ = if d < 0 then ⊥ else (Real.sqrt d : EReal)
    rw [if_neg (not_lt.mpr hd0)]
    by_cases hz : d = 0
    · subst hz; simp
    · have hp : 0 < d := lt_of_le_of_ne hd0 (Ne.symm hz)
      rw [if_pos (by exact_mod_cast hp)]
      show (d : EReal) * (if d < 0 then (⊥ : EReal) else if d = 0 then ⊤ else (((Real.sqrt d)⁻¹ : ℝ) : EReal)) = _
      rw [if_neg (not_lt.mpr hd0), if_neg hz, ← EReal.coe_mul]
      congr 1
      have hs := Real.sqrt_pos.mpr hp
      have := Real.mul_self_sqrt hd0
      field_simp
      nlinarith

/-- The recurrence: what `n` rows of decays `a` and inputs `b` make of the state `c`. -/
def walk (a b : ℕ → EReal) (c : EReal) : ℕ → EReal
  | 0 => c
  | n + 1 => a n * walk a b c n + b n

theorem walk_add (a b : ℕ → EReal) (c : EReal) (m : ℕ) : ∀ n, walk a b c (m + n) = walk (fun k => a (m + k)) (fun k => b (m + k)) (walk a b c m) n
  | 0 => rfl
  | n + 1 => by
    show a (m + n) * walk a b c (m + n) + b (m + n) = _
    rw [walk_add a b c m n]
    rfl

theorem walk_congr {a a' b b' : ℕ → EReal} {c : EReal} : ∀ {n : ℕ}, (∀ k < n, a k = a' k) → (∀ k < n, b k = b' k) → walk a b c n = walk a' b' c n
  | 0, _, _ => rfl
  | n + 1, ha, hb => by
    show a n * walk a b c n + b n = a' n * walk a' b' c n + b' n
    rw [ha n (by omega), hb n (by omega), walk_congr (fun k h => ha k (by omega)) (fun k h => hb k (by omega))]

/-- The decays of a block, 128 rows of one before it. -/
def padA (x : Fin 128 → EReal) (k : ℕ) : EReal := if h : 128 ≤ k ∧ k - 128 < 128 then x ⟨k - 128, h.2⟩ else 1

/-- The inputs of a block, 128 rows of zero before it. -/
def padB (x : Fin 128 → EReal) (k : ℕ) : EReal := if h : 128 ≤ k ∧ k - 128 < 128 then x ⟨k - 128, h.2⟩ else 0

/-- The decay over the `n` rows that end at row `k`. -/
def P (A : ℕ → EReal) : ℕ → ℕ → EReal
  | 0, _ => 1
  | n + 1, k => A k * P A n (k - 1)

/-- What the `n` rows that end at row `k` make of a zero state. -/
def Q (A B : ℕ → EReal) : ℕ → ℕ → EReal
  | 0, _ => 0
  | n + 1, k => B k + A k * Q A B n (k - 1)

theorem P_add (A : ℕ → EReal) : ∀ m n k, P A (m + n) k = P A m k * P A n (k - m)
  | 0, n, k => by rw [Nat.zero_add]; show _ = 1 * _; rw [one_mul]; rfl
  | m + 1, n, k => by
    rw [show m + 1 + n = (m + n) + 1 by omega]
    show A k * P A (m + n) (k - 1) = A k * P A m (k - 1) * _
    rw [P_add A m n (k - 1), mul_assoc, Nat.sub_sub, Nat.add_comm 1 m]

theorem Q_add (A B : ℕ → EReal) (h0 : ∀ k, 0 ≤ A k) (h1 : ∀ k, A k ≠ ⊤) : ∀ m n k, Q A B (m + n) k = Q A B m k + P A m k * Q A B n (k - m)
  | 0, n, k => by rw [Nat.zero_add]; show _ = 0 + 1 * _; rw [one_mul, zero_add]; rfl
  | m + 1, n, k => by
    rw [show m + 1 + n = (m + n) + 1 by omega]
    show B k + A k * Q A B (m + n) (k - 1) = B k + A k * Q A B m (k - 1) + A k * P A m (k - 1) * _
    rw [Q_add A B h0 h1 m n (k - 1), EReal.left_distrib_of_nonneg_of_ne_top (h0 k) (h1 k), mul_assoc, Nat.sub_sub, Nat.add_comm 1 m, add_assoc]

theorem P_pad (x : Fin 128 → EReal) : ∀ n k, k < 128 → P (padA x) n k = 1
  | 0, _, _ => rfl
  | n + 1, k, h => by
    show padA x k * _ = 1
    rw [P_pad x n (k - 1) (by omega), mul_one]
    exact dif_neg (by omega)

theorem Q_pad (x y : Fin 128 → EReal) : ∀ n k, k < 128 → Q (padA x) (padB y) n k = 0
  | 0, _, _ => rfl
  | n + 1, k, h => by
    show padB y k + padA x k * _ = 0
    rw [Q_pad x y n (k - 1) (by omega), mul_zero, add_zero]
    exact dif_neg (by omega)

theorem span (A B : ℕ → EReal) (h0 : ∀ k, 0 ≤ A k) (h1 : ∀ k, A k ≠ ⊤) (c : EReal) :
    ∀ n k, n ≤ k + 1 → P A n k * walk A B c (k + 1 - n) + Q A B n k = walk A B c (k + 1)
  | 0, k, _ => by show 1 * _ + 0 = _; rw [one_mul, add_zero]; rfl
  | n + 1, 0, h => by
    obtain rfl : n = 0 := by omega
    show A 0 * 1 * c + (B 0 + A 0 * 0) = A 0 * c + B 0
    rw [mul_one, mul_zero, add_zero]
  | n + 1, k + 1, h => by
    have ih := span A B h0 h1 c n k (by omega)
    show A (k + 1) * P A n k * walk A B c (k + 1 + 1 - (n + 1)) + (B (k + 1) + A (k + 1) * Q A B n k) = A (k + 1) * walk A B c (k + 1) + B (k + 1)
    rw [← ih, EReal.left_distrib_of_nonneg_of_ne_top (h0 _) (h1 _), mul_assoc, show k + 1 + 1 - (n + 1) = k + 1 - n by omega, add_comm (B _), add_assoc]

/-- The rows before the block leave the state alone. -/
theorem walk_pad (x y : Fin 128 → EReal) (c : EReal) : ∀ n, n ≤ 128 → walk (padA x) (padB y) c n = c
  | 0, _ => rfl
  | n + 1, h => by
    show padA x n * _ + padB y n = c
    rw [walk_pad x y c n (by omega), show padA x n = 1 from dif_neg (by omega), show padB y n = 0 from dif_neg (by omega), one_mul, add_zero]

/-- The block's whole scan, over the state that enters it. -/
theorem whole (x y : Fin 128 → EReal) (h0 : ∀ r, 0 ≤ x r) (h1 : ∀ r, x r ≠ ⊤) (c : EReal) (a b : ℕ → EReal)
    (ha : ∀ r : Fin 128, x r = a r.val) (hb : ∀ r : Fin 128, y r = b r.val) (r : Fin 128) :
    P (padA x) 128 (r.val + 128) * c + Q (padA x) (padB y) 128 (r.val + 128) = walk a b c (r.val + 1) := by
  have g0 : ∀ k, 0 ≤ padA x k := fun k => by unfold padA; split; exacts [h0 _, zero_le_one]
  have g1 : ∀ k, padA x k ≠ ⊤ := fun k => by unfold padA; split; exacts [h1 _, EReal.coe_ne_top 1]
  have e := span (padA x) (padB y) g0 g1 c 128 (r.val + 128) (by omega)
  have hr := r.isLt
  rw [walk_pad x y c _ (by omega), show r.val + 128 + 1 = 128 + (r.val + 1) by omega, walk_add, walk_pad x y c 128 le_rfl] at e
  rw [e]
  refine walk_congr (fun k hk => ?_) fun k hk => ?_
  · exact (dif_pos (show 128 ≤ 128 + k ∧ 128 + k - 128 < 128 by omega)).trans ((congrArg x (Fin.ext (by show 128 + k - 128 = k; omega))).trans (ha ⟨k, by omega⟩))
  · exact (dif_pos (show 128 ≤ 128 + k ∧ 128 + k - 128 < 128 by omega)).trans ((congrArg y (Fin.ext (by show 128 + k - 128 = k; omega))).trans (hb ⟨k, by omega⟩))

/-- Row `r - d`, and `f` where there is none. -/
def dn (d : ℕ) (f : EReal) (x : Fin 128 → EReal) (r : Fin 128) : EReal := if r.val < d then f else x ⟨r.val - d, by omega⟩

theorem P_one (x : Fin 128 → EReal) (r : Fin 128) : x r = P (padA x) 1 (r.val + 128) := by
  show _ = padA x (r.val + 128) * 1
  rw [mul_one]
  exact ((dif_pos (show 128 ≤ r.val + 128 ∧ r.val + 128 - 128 < 128 by omega)).trans (congrArg x (Fin.ext (by show r.val + 128 - 128 = r.val; omega)))).symm

theorem Q_one (x y : Fin 128 → EReal) (r : Fin 128) : y r = Q (padA x) (padB y) 1 (r.val + 128) := by
  show _ = padB y (r.val + 128) + _ * 0
  rw [mul_zero, add_zero]
  exact ((dif_pos (show 128 ≤ r.val + 128 ∧ r.val + 128 - 128 < 128 by omega)).trans (congrArg y (Fin.ext (by show r.val + 128 - 128 = r.val; omega)))).symm

/-- A doubling of the decays. -/
theorem P_step (x p : Fin 128 → EReal) (d : ℕ) (hp : ∀ r, p r = P (padA x) d (r.val + 128)) (r : Fin 128) :
    p r * dn d 1 p r = P (padA x) (d + d) (r.val + 128) := by
  rw [P_add, hp]
  congr 1
  unfold dn
  split
  · exact (P_pad x _ _ (by omega)).symm
  · rw [hp]; congr 1; show r.val - d + 128 = _; omega

/-- A doubling of the inputs. -/
theorem Q_step (x y p q : Fin 128 → EReal) (h0 : ∀ r, 0 ≤ x r) (h1 : ∀ r, x r ≠ ⊤) (d : ℕ) (hp : ∀ r, p r = P (padA x) d (r.val + 128))
    (hq : ∀ r, q r = Q (padA x) (padB y) d (r.val + 128)) (r : Fin 128) :
    q r + p r * dn d 0 q r = Q (padA x) (padB y) (d + d) (r.val + 128) := by
  have g0 : ∀ k, 0 ≤ padA x k := fun k => by unfold padA; split; exacts [h0 _, zero_le_one]
  have g1 : ∀ k, padA x k ≠ ⊤ := fun k => by unfold padA; split; exacts [h1 _, EReal.coe_ne_top 1]
  rw [Q_add _ _ g0 g1, hp, hq]
  congr 2
  unfold dn
  split
  · exact (Q_pad x y _ _ (by omega)).symm
  · rw [hq]; congr 1; show r.val - d + 128 = _; omega

/-- The column `d` rows up, zero before the first row. -/
def tap (x : ℕ → EReal) (d s : ℕ) : EReal := if s < d then 0 else x (s - d)

/-- The causal convolution of four taps. -/
def conv (x : ℕ → EReal) (w : Fin 4 → EReal) (b : EReal) (s : ℕ) : EReal :=
  (((b + tap x 3 s * w 0) + tap x 2 s * w 1) + tap x 1 s * w 2) + x s * w 3

/-- The block-diagonal product of a row. -/
def pre (u : Fin 1024 → EReal) (W : Fin 4 → Fin 256 → Fin 256 → EReal) (l : Fin 1024) : EReal :=
  ∑ k : Fin 256, u ⟨256 * (l.val / 256) + k.val, by have := l.isLt; have := k.isLt; omega⟩
    * W ⟨l.val / 256, by have := l.isLt; omega⟩ k ⟨l.val % 256, Nat.mod_lt _ (by omega)⟩

/-- The logarithm of the decay of a row. -/
def lg (u : Fin 1024 → EReal) (W : Fin 4 → Fin 256 → Fin 256 → EReal) (b y : Fin 1024 → EReal) (l : Fin 1024) : EReal := logA (sgm (pre u W l + b l)) (y l)

/-- The input of a row. -/
def inp (u : Fin 1024 → EReal) (W W' : Fin 4 → Fin 256 → Fin 256 → EReal) (b b' y : Fin 1024 → EReal) (l : Fin 1024) : EReal :=
  root (lg u W b y l) * (sgm (pre u W' l + b' l) * u l)

section Arguments

variable (X : (⟨2, ![4096, 2048]⟩ : Shape).Idx → EReal) (cw : (⟨2, ![4, 1024]⟩ : Shape).Idx → EReal) (cb : (⟨1, ![1024]⟩ : Shape).Idx → EReal)
  (wa : (⟨3, ![4, 256, 256]⟩ : Shape).Idx → EReal) (ba : (⟨1, ![1024]⟩ : Shape).Idx → EReal) (wi : (⟨3, ![4, 256, 256]⟩ : Shape).Idx → EReal)
  (bi lam : (⟨1, ![1024]⟩ : Shape).Idx → EReal)

/-- A column of the projection, and zero past its rows. -/
def xcol (j : Fin 2048) (s : ℕ) : EReal := if h : s < 4096 then X (ix2 ⟨s, h⟩ j) else 0

/-- The recurrent half's column `l`, and the gating half's. -/
def lo (l : Fin 1024) : Fin 2048 := ⟨l.val, by omega⟩
def hi (l : Fin 1024) : Fin 2048 := ⟨1024 + l.val, by omega⟩

/-- The convolved row `s`. -/
def uS (s : ℕ) (l : Fin 1024) : EReal := conv (xcol X (lo l)) (fun k => cw (ix2 k l)) (cb (ix1 l)) s

/-- The decay at row `s`. -/
def aS (l : Fin 1024) (s : ℕ) : EReal := Ideal.exp (lg (uS X cw cb s) (fun g k j => wa (ix3 g k j)) (fun l => ba (ix1 l)) (fun l => lam (ix1 l)) l)

/-- The input at row `s`. -/
def bS (l : Fin 1024) (s : ℕ) : EReal :=
  inp (uS X cw cb s) (fun g k j => wa (ix3 g k j)) (fun g k j => wi (ix3 g k j)) (fun l => ba (ix1 l)) (fun l => bi (ix1 l)) (fun l => lam (ix1 l)) l

/-- The state after `n` rows. -/
def hS (l : Fin 1024) (n : ℕ) : EReal := walk (aS X cw cb wa ba lam l) (bS X cw cb wa ba wi bi lam l) 0 n

/-- The gating half's weight at row `s`. -/
def gS (l : Fin 1024) (s : ℕ) : EReal := xcol X (hi l) s * sgm (xcol X (hi l) s)

end Arguments

end Cert.Rg

end
-- ==== Proof.Rg.Shift.lean ====
/- Moving a block's rows down, over the rows of another vector or over a constant. -/
module

public import proofs.«01_k».proof.Proof.Gen.Kernel8Ideal.Value
public import proofs.«01_k».proof.Proof.Rg.Math
public import Idealize.ShloMosaic.Lib.Pipeline.ValueKit

@[expose] public section

set_option maxRecDepth 16384

noncomputable section

open Idealize.ShloMosaic Idealize.ShloMosaic.TcCoe Idealize.SL.Sem

namespace Cert.Kernel8Ideal.Value

open Cert.Kernel8Ideal Cert.Kernel8Ideal.Gen Cert.Rg

local notation "I" => Idealize.ShloMosaic.Ideal

/-- The rows of `x` moved down by `sh`, the last rows of `e` above them. -/
def shift (sh : ℕ) (e : FVec I S8x1024 .f32) (x : FVec I S128x1024 .f32) : FVec I S128x1024 .f32 :=
  concatenate S128x1024 0
    [⟨S8x1024, select (cmpi .slt (iota .tc S8x1024 32 [0] iota_S8x1024_d0_w32) (broadcast S8x1024 (BitVec.ofNat 32 sh)))
        (dynamicRotate 0 (BitVec.ofNat 32 sh) none e rotates_S8x1024_d0)
        (extractStridedSlice S8x1024 ![0, 0] (dynamicRotate 0 (BitVec.ofNat 32 sh) none x rotates_S128x1024_d0) slices_S128x1024_o0_0_S8x1024)⟩,
      ⟨S120x1024, extractStridedSlice S120x1024 ![8, 0] (dynamicRotate 0 (BitVec.ofNat 32 sh) none x rotates_S128x1024_d0) slices_S128x1024_o8_0_S120x1024⟩]
    concatenates_S8x1024_S120x1024_S128x1024_d0

theorem slt_at (q sh : ℕ) (hq : q < 8) (hs : sh < 8) : IntOp.cmpi CmpIPredicate.slt (BitVec.ofNat 32 q) (BitVec.ofNat 32 sh) = if q < sh then 1#1 else 0#1 := by
  have hr : (BitVec.ofNat 32 q).toInt = q := by
    rw [BitVec.toInt_ofNat']; exact Int.bmod_eq_of_le (by omega) (by omega)
  have hk : (BitVec.ofNat 32 sh).toInt = sh := by
    rw [BitVec.toInt_ofNat']; exact Int.bmod_eq_of_le (by omega) (by omega)
  unfold IntOp.cmpi BitVec.slt
  rw [hr, hk]
  by_cases h : q < sh
  · rw [if_pos h]; simp [h]
  · rw [if_neg h]; simp [h]

theorem shift_at (sh : ℕ) (hs : sh < 8) (h0 : 0 < sh) (e : FVec I S8x1024 .f32) (x : FVec I S128x1024 .f32) (r : Fin 128) (l : Fin 1024) :
    (shift sh e x (ix2 r l) : EReal)
      = if h : r.val < sh then e (ix2 (⟨r.val + 8 - sh, by omega⟩ : Fin 8) l) else x (ix2 (⟨r.val - sh, by omega⟩ : Fin 128) l) := by
  have hr := r.isLt
  have hm : (BitVec.ofNat 32 sh).toNat = sh := by rw [BitVec.toNat_ofNat]; exact Nat.mod_eq_of_lt (by omega)
  unfold shift
  pointwise
  by_cases h8 : r.val < 8
  · rw [dif_pos h8, slt_at _ _ h8 hs]
    by_cases h : r.val < sh
    · rw [dif_pos h, if_pos h]
      refine congrArg (fun a : Fin 8 => (e (ix2 a l) : EReal)) (Fin.ext ?_)
      show (r.val + 8 - (BitVec.ofNat 32 sh).toNat % 8) % 8 = r.val + 8 - sh
      rw [hm]; omega
    · rw [dif_neg h, if_neg h]
      refine congrArg (fun a : Fin 128 => (x (ix2 a l) : EReal)) (Fin.ext ?_)
      show (r.val + 128 - (BitVec.ofNat 32 sh).toNat % 128) % 128 = r.val - sh
      rw [hm]; omega
  · rw [dif_neg h8, dif_neg (show ¬r.val < sh by omega)]
    refine congrArg (fun a : Fin 128 => (x (ix2 a l) : EReal)) (Fin.ext ?_)
    show (8 + (r.val - 8) + 128 - (BitVec.ofNat 32 sh).toNat % 128) % 128 = r.val - sh
    rw [hm]; omega

/-- Column `l` of a block. -/
def col (x : FVec I S128x1024 .f32) (l : Fin 1024) (r : Fin 128) : EReal := x (ix2 r l)

theorem shift_dn (sh : ℕ) (hs : sh < 8) (h0 : 0 < sh) (f : EReal) (e : FVec I S8x1024 .f32) (he : ∀ j, (e j : EReal) = f) (x : FVec I S128x1024 .f32)
    (r : Fin 128) (l : Fin 1024) : (shift sh e x (ix2 r l) : EReal) = dn sh f (col x l) r := by
  rw [shift_at sh hs h0]
  unfold dn col
  split
  · rw [he]
  · rfl

/-- Over eight rows of `f`. -/
def pad8 (f : Ideal .f32) (x : FVec I S128x1024 .f32) : FVec I S128x1024 .f32 :=
  concatenate S128x1024 0 [⟨S8x1024, broadcast S8x1024 f⟩, ⟨S120x1024, extractStridedSlice S120x1024 ![0, 0] x slices_S128x1024_o0_0_S120x1024⟩]
    concatenates_S8x1024_S120x1024_S128x1024_d0

/-- Over sixteen. -/
def pad16 (f : Ideal .f32) (x : FVec I S128x1024 .f32) : FVec I S128x1024 .f32 :=
  concatenate S128x1024 0 [⟨S16x1024, broadcast S16x1024 f⟩, ⟨S112x1024, extractStridedSlice S112x1024 ![0, 0] x slices_S128x1024_o0_0_S112x1024⟩]
    concatenates_S16x1024_S112x1024_S128x1024_d0

/-- Over thirty-two. -/
def pad32 (f : Ideal .f32) (x : FVec I S128x1024 .f32) : FVec I S128x1024 .f32 :=
  concatenate S128x1024 0 [⟨S32x1024, broadcast S32x1024 f⟩, ⟨S96x1024, extractStridedSlice S96x1024 ![0, 0] x slices_S128x1024_o0_0_S96x1024⟩]
    concatenates_S32x1024_S96x1024_S128x1024_d0

/-- Over sixty-four. -/
def pad64 (f : Ideal .f32) (x : FVec I S128x1024 .f32) : FVec I S128x1024 .f32 :=
  concatenate S128x1024 0 [⟨S64x1024, broadcast S64x1024 f⟩, ⟨S64x1024, extractStridedSlice S64x1024 ![0, 0] x slices_S128x1024_o0_0_S64x1024⟩]
    concatenates_S64x1024_S64x1024_S128x1024_d0

variable (f : Ideal .f32) (x : FVec I S128x1024 .f32) (r : Fin 128) (l : Fin 1024)

theorem pad8_dn : (pad8 f x (ix2 r l) : EReal) = dn 8 f (col x l) r := by
  unfold pad8 dn col
  pointwise
  split <;> rfl

theorem pad16_dn : (pad16 f x (ix2 r l) : EReal) = dn 16 f (col x l) r := by
  unfold pad16 dn col
  pointwise
  split <;> rfl

theorem pad32_dn : (pad32 f x (ix2 r l) : EReal) = dn 32 f (col x l) r := by
  unfold pad32 dn col
  pointwise
  split <;> rfl

theorem pad64_dn : (pad64 f x (ix2 r l) : EReal) = dn 64 f (col x l) r := by
  unfold pad64 dn col
  pointwise
  split <;> rfl

/-- The constants' rows. -/
def rows (f : Ideal .f32) : FVec I S8x1024 .f32 := broadcast S8x1024 f

/-- The constant one, and zero, as the kernel spells them. -/
abbrev one : Ideal .f32 := Scalar.ofBits .f32 0x3F800000#32
abbrev zer : Ideal .f32 := Scalar.ofBits .f32 0x00000000#32

/-- The decays after each doubling. -/
def p1 (a : FVec I S128x1024 .f32) : FVec I S128x1024 .f32 := mulf a (shift 1 (rows one) a)
def p2 (a : FVec I S128x1024 .f32) : FVec I S128x1024 .f32 := mulf (p1 a) (shift 2 (rows one) (p1 a))
def p3 (a : FVec I S128x1024 .f32) : FVec I S128x1024 .f32 := mulf (p2 a) (shift 4 (rows one) (p2 a))
def p4 (a : FVec I S128x1024 .f32) : FVec I S128x1024 .f32 := mulf (p3 a) (pad8 one (p3 a))
def p5 (a : FVec I S128x1024 .f32) : FVec I S128x1024 .f32 := mulf (p4 a) (pad16 one (p4 a))
def p6 (a : FVec I S128x1024 .f32) : FVec I S128x1024 .f32 := mulf (p5 a) (pad32 one (p5 a))
def p7 (a : FVec I S128x1024 .f32) : FVec I S128x1024 .f32 := mulf (p6 a) (pad64 one (p6 a))

/-- The inputs after each doubling. -/
def q1 (a b : FVec I S128x1024 .f32) : FVec I S128x1024 .f32 := addf b (mulf a (shift 1 (rows zer) b))
def q2 (a b : FVec I S128x1024 .f32) : FVec I S128x1024 .f32 := addf (q1 a b) (mulf (p1 a) (shift 2 (rows zer) (q1 a b)))
def q3 (a b : FVec I S128x1024 .f32) : FVec I S128x1024 .f32 := addf (q2 a b) (mulf (p2 a) (shift 4 (rows zer) (q2 a b)))
def q4 (a b : FVec I S128x1024 .f32) : FVec I S128x1024 .f32 := addf (q3 a b) (mulf (p3 a) (pad8 zer (q3 a b)))
def q5 (a b : FVec I S128x1024 .f32) : FVec I S128x1024 .f32 := addf (q4 a b) (mulf (p4 a) (pad16 zer (q4 a b)))
def q6 (a b : FVec I S128x1024 .f32) : FVec I S128x1024 .f32 := addf (q5 a b) (mulf (p5 a) (pad32 zer (q5 a b)))
def q7 (a b : FVec I S128x1024 .f32) : FVec I S128x1024 .f32 := addf (q6 a b) (mulf (p6 a) (pad64 zer (q6 a b)))

/-- The block's states over the entering row `h`, as the kernel names them. -/
def states (a b : FVec I S128x1024 .f32) (h : Vec I S1x1024 .f32) : FVec I S128x1024 .f32 :=
  k0_pay1 h
    (k0_pay36 (k0_pay29 a b k0_pay25 (dynamicRotate 0 1#32 none b rotates_S128x1024_d0) (iota .tc S8x1024 32 [0] iota_S8x1024_d0_w32) k0_pay27) (k0_pay30 a) k0_pay31
      (k0_pay32 a b k0_pay25 (dynamicRotate 0 1#32 none b rotates_S128x1024_d0) (iota .tc S8x1024 32 [0] iota_S8x1024_d0_w32) k0_pay27)
      (iota .tc S8x1024 32 [0] iota_S8x1024_d0_w32))
    (k0_pay37 (k0_pay30 a)) zer

theorem states_eq (a b : FVec I S128x1024 .f32) (h : Vec I S1x1024 .f32) :
    states a b h = addf (mulf (p7 a) (broadcastTo S128x1024 h broadcasts_S1x1024_S128x1024)) (q7 a b) := by
  have e30 : k0_pay30 a = p2 a := rfl
  have e29 : k0_pay29 a b k0_pay25 (dynamicRotate 0 1#32 none b rotates_S128x1024_d0) (iota .tc S8x1024 32 [0] iota_S8x1024_d0_w32) k0_pay27 = q2 a b := rfl
  have e32 : k0_pay32 a b k0_pay25 (dynamicRotate 0 1#32 none b rotates_S128x1024_d0) (iota .tc S8x1024 32 [0] iota_S8x1024_d0_w32) k0_pay27
      = dynamicRotate 0 4#32 none (q2 a b) rotates_S128x1024_d0 := rfl
  unfold states
  rw [e29, e30, e32]
  rfl

theorem one_eq : (one : EReal) = 1 := by
  show Ideal.ofBits .f32 0x3F800000#32 = 1
  pointwise

theorem zer_eq : (zer : EReal) = 0 := by
  show Ideal.ofBits .f32 0x00000000#32 = 0
  pointwise

section Scan

variable (a b : FVec I S128x1024 .f32)

theorem p_step (sh : ℕ) (p s : FVec I S128x1024 .f32) (hs : ∀ r, (s (ix2 r l) : EReal) = dn sh 1 (col p l) r)
    (hp : ∀ r, col p l r = P (padA (col a l)) sh (r.val + 128)) (r : Fin 128) : col (mulf p s) l r = P (padA (col a l)) (sh + sh) (r.val + 128) := by
  rw [← P_step (col a l) (col p l) sh hp r, ← hs]
  rfl

theorem q_step (h0 : ∀ r, 0 ≤ col a l r) (h1 : ∀ r, col a l r ≠ ⊤) (sh : ℕ) (p q s : FVec I S128x1024 .f32) (hs : ∀ r, (s (ix2 r l) : EReal) = dn sh 0 (col q l) r)
    (hp : ∀ r, col p l r = P (padA (col a l)) sh (r.val + 128)) (hq : ∀ r, col q l r = Q (padA (col a l)) (padB (col b l)) sh (r.val + 128)) (r : Fin 128) :
    col (addf q (mulf p s)) l r = Q (padA (col a l)) (padB (col b l)) (sh + sh) (r.val + 128) := by
  rw [← Q_step (col a l) (col b l) (col p l) (col q l) h0 h1 sh hp hq r, ← hs]
  rfl

theorem p1_at (r) : col (p1 a) l r = P (padA (col a l)) 2 (r.val + 128) :=
  p_step l a 1 a _ (fun r => shift_dn 1 (by omega) (by omega) 1 _ (fun _ => one_eq) _ r l) (P_one _) r

theorem p2_at (r) : col (p2 a) l r = P (padA (col a l)) 4 (r.val + 128) :=
  p_step l a 2 (p1 a) _ (fun r => shift_dn 2 (by omega) (by omega) 1 _ (fun _ => one_eq) _ r l) (p1_at l a) r

theorem p3_at (r) : col (p3 a) l r = P (padA (col a l)) 8 (r.val + 128) :=
  p_step l a 4 (p2 a) _ (fun r => shift_dn 4 (by omega) (by omega) 1 _ (fun _ => one_eq) _ r l) (p2_at l a) r

theorem p4_at (r) : col (p4 a) l r = P (padA (col a l)) 16 (r.val + 128) :=
  p_step l a 8 (p3 a) _ (fun r => (pad8_dn _ _ r l).trans (by rw [one_eq])) (p3_at l a) r

theorem p5_at (r) : col (p5 a) l r = P (padA (col a l)) 32 (r.val + 128) :=
  p_step l a 16 (p4 a) _ (fun r => (pad16_dn _ _ r l).trans (by rw [one_eq])) (p4_at l a) r

theorem p6_at (r) : col (p6 a) l r = P (padA (col a l)) 64 (r.val + 128) :=
  p_step l a 32 (p5 a) _ (fun r => (pad32_dn _ _ r l).trans (by rw [one_eq])) (p5_at l a) r

theorem p7_at (r) : col (p7 a) l r = P (padA (col a l)) 128 (r.val + 128) :=
  p_step l a 64 (p6 a) _ (fun r => (pad64_dn _ _ r l).trans (by rw [one_eq])) (p6_at l a) r

variable (h0 : ∀ r, 0 ≤ col a l r) (h1 : ∀ r, col a l r ≠ ⊤)
include h0 h1

theorem q7_at (r) : col (q7 a b) l r = Q (padA (col a l)) (padB (col b l)) 128 (r.val + 128) := by
  have g1 : ∀ r, col (q1 a b) l r = Q (padA (col a l)) (padB (col b l)) 2 (r.val + 128) :=
    q_step l a b h0 h1 1 a b _ (fun r => shift_dn 1 (by omega) (by omega) 0 _ (fun _ => zer_eq) _ r l) (P_one _) (Q_one _ _)
  have g2 : ∀ r, col (q2 a b) l r = Q (padA (col a l)) (padB (col b l)) 4 (r.val + 128) :=
    q_step l a b h0 h1 2 _ _ _ (fun r => shift_dn 2 (by omega) (by omega) 0 _ (fun _ => zer_eq) _ r l) (p1_at l a) g1
  have g3 : ∀ r, col (q3 a b) l r = Q (padA (col a l)) (padB (col b l)) 8 (r.val + 128) :=
    q_step l a b h0 h1 4 _ _ _ (fun r => shift_dn 4 (by omega) (by omega) 0 _ (fun _ => zer_eq) _ r l) (p2_at l a) g2
  have g4 : ∀ r, col (q4 a b) l r = Q (padA (col a l)) (padB (col b l)) 16 (r.val + 128) :=
    q_step l a b h0 h1 8 _ _ _ (fun r => (pad8_dn _ _ r l).trans (by rw [zer_eq])) (p3_at l a) g3
  have g5 : ∀ r, col (q5 a b) l r = Q (padA (col a l)) (padB (col b l)) 32 (r.val + 128) :=
    q_step l a b h0 h1 16 _ _ _ (fun r => (pad16_dn _ _ r l).trans (by rw [zer_eq])) (p4_at l a) g4
  have g6 : ∀ r, col (q6 a b) l r = Q (padA (col a l)) (padB (col b l)) 64 (r.val + 128) :=
    q_step l a b h0 h1 32 _ _ _ (fun r => (pad32_dn _ _ r l).trans (by rw [zer_eq])) (p5_at l a) g5
  exact q_step l a b h0 h1 64 _ _ _ (fun r => (pad64_dn _ _ r l).trans (by rw [zer_eq])) (p6_at l a) g6 r

/-- The block's states are the recurrence's, from the entering row. -/
theorem states_at (h : Vec I S1x1024 .f32) (fa fb : ℕ → EReal) (ha : ∀ r : Fin 128, col a l r = fa r.val) (hb : ∀ r : Fin 128, col b l r = fb r.val) (r : Fin 128) :
    (states a b h (ix2 r l) : EReal) = walk fa fb (h (ix2 0 l)) (r.val + 1) := by
  rw [← whole (col a l) (col b l) h0 h1 (h (ix2 0 l)) fa fb ha hb r, ← p7_at, ← q7_at l a b h0 h1, states_eq]
  unfold col
  pointwise

end Scan

end Cert.Kernel8Ideal.Value

end
-- ==== Proof.Rg.Gate.lean ====
/- What one block's gates are: the convolution, the two block-diagonal products, the decay and the input. -/
module

public import proofs.«01_k».proof.Proof.Rg.Shift

@[expose] public section

set_option maxRecDepth 16384

noncomputable section

open Idealize.ShloMosaic Idealize.ShloMosaic.TcCoe Idealize.SL.Sem

namespace Cert.Kernel8Ideal.Value

open Cert.Kernel8Ideal Cert.Kernel8Ideal.Gen Cert.Rg

local notation "I" => Idealize.ShloMosaic.Ideal

/-- The convolved rows of a block. -/
def bU (g : grid0.Coords) (x0 : Vec I S128x1024 .f32) (x1 x3 : Vec I S8x1024 .f32) : FVec I S128x1024 .f32 :=
  k0_pay10 x0 (k0_pay6 g x1 x0) (k0_pay7 g x1 x0) (k0_pay8 g x1 x0) (k0_pay9 (View.ld x3 (Rect.unit ![4, 0] ![1, 1024] inb_S8x1024_S1x1024_4_0))) (View.ld x3 (Rect.unit ![0, 0] ![1, 1024] inb_S8x1024_S1x1024_0_0)) (View.ld x3 (Rect.unit ![1, 0] ![1, 1024] inb_S8x1024_S1x1024_1_0)) (View.ld x3 (Rect.unit ![2, 0] ![1, 1024] inb_S8x1024_S1x1024_2_0)) (View.ld x3 (Rect.unit ![3, 0] ![1, 1024] inb_S8x1024_S1x1024_3_0))

/-- The block-diagonal product of the rows `u`. -/
def gate (u : FVec I S128x1024 .f32) (x : Vec I S4x256x256 .bf16) : FVec I S128x1024 .f32 :=
  concatenate S128x1024 1
    [⟨S128x256, matmul (φ₂ := .bf16) dot_S128x256_S256x256_S128x256_1_0_0_1_n_n none (truncf .bf16 (extractStridedSlice S128x256 ![0, 0] u slices_S128x1024_o0_0_S128x256) bitsLt_bf16_f32) (shapeCast S256x256 (View.ld x (Rect.unit ![0, 0, 0] ![1, 256, 256] inb_S4x256x256_S1x256x256_0_0_0)) shapeCasts_S1x256x256_S256x256) (constant S128x256 .f32 0x00000000#32)⟩,
      ⟨S128x256, matmul (φ₂ := .bf16) dot_S128x256_S256x256_S128x256_1_0_0_1_n_n none (truncf .bf16 (extractStridedSlice S128x256 ![0, 256] u slices_S128x1024_o0_256_S128x256) bitsLt_bf16_f32) (shapeCast S256x256 (View.ld x (Rect.unit ![1, 0, 0] ![1, 256, 256] inb_S4x256x256_S1x256x256_1_0_0)) shapeCasts_S1x256x256_S256x256) (constant S128x256 .f32 0x00000000#32)⟩,
      ⟨S128x256, matmul (φ₂ := .bf16) dot_S128x256_S256x256_S128x256_1_0_0_1_n_n none (truncf .bf16 (extractStridedSlice S128x256 ![0, 512] u slices_S128x1024_o0_512_S128x256) bitsLt_bf16_f32) (shapeCast S256x256 (View.ld x (Rect.unit ![2, 0, 0] ![1, 256, 256] inb_S4x256x256_S1x256x256_2_0_0)) shapeCasts_S1x256x256_S256x256) (constant S128x256 .f32 0x00000000#32)⟩,
      ⟨S128x256, matmul (φ₂ := .bf16) dot_S128x256_S256x256_S128x256_1_0_0_1_n_n none (truncf .bf16 (extractStridedSlice S128x256 ![0, 768] u slices_S128x1024_o0_768_S128x256) bitsLt_bf16_f32) (shapeCast S256x256 (View.ld x (Rect.unit ![3, 0, 0] ![1, 256, 256] inb_S4x256x256_S1x256x256_3_0_0)) shapeCasts_S1x256x256_S256x256) (constant S128x256 .f32 0x00000000#32)⟩]
    concatenates_S128x256_S128x256_S128x256_S128x256_S128x1024_d1

/-- The recurrence gate of a block. -/
def bR (g : grid0.Coords) (x0 : Vec I S128x1024 .f32) (x1 x3 : Vec I S8x1024 .f32) (x4 : Vec I S4x256x256 .bf16) : FVec I S128x1024 .f32 :=
  k0_pay20 (bU g x0 x1 x3) (k0_pay12 x0 (k0_pay6 g x1 x0) (k0_pay7 g x1 x0) (k0_pay8 g x1 x0) (k0_pay9 (View.ld x3 (Rect.unit ![4, 0] ![1, 1024] inb_S8x1024_S1x1024_4_0))) (View.ld x3 (Rect.unit ![0, 0] ![1, 1024] inb_S8x1024_S1x1024_0_0)) (View.ld x3 (Rect.unit ![1, 0] ![1, 1024] inb_S8x1024_S1x1024_1_0)) (View.ld x3 (Rect.unit ![2, 0] ![1, 1024] inb_S8x1024_S1x1024_2_0)) (View.ld x3 (Rect.unit ![3, 0] ![1, 1024] inb_S8x1024_S1x1024_3_0)) (View.ld x4 (Rect.unit ![0, 0, 0] ![1, 256, 256] inb_S4x256x256_S1x256x256_0_0_0)))
    (k0_pay15 x0 (k0_pay6 g x1 x0) (k0_pay7 g x1 x0) (k0_pay8 g x1 x0) (k0_pay9 (View.ld x3 (Rect.unit ![4, 0] ![1, 1024] inb_S8x1024_S1x1024_4_0))) (View.ld x3 (Rect.unit ![0, 0] ![1, 1024] inb_S8x1024_S1x1024_0_0)) (View.ld x3 (Rect.unit ![1, 0] ![1, 1024] inb_S8x1024_S1x1024_1_0)) (View.ld x3 (Rect.unit ![2, 0] ![1, 1024] inb_S8x1024_S1x1024_2_0)) (View.ld x3 (Rect.unit ![3, 0] ![1, 1024] inb_S8x1024_S1x1024_3_0)) (View.ld x4 (Rect.unit ![1, 0, 0] ![1, 256, 256] inb_S4x256x256_S1x256x256_1_0_0)))
    (k0_pay17 x0 (k0_pay6 g x1 x0) (k0_pay7 g x1 x0) (k0_pay8 g x1 x0) (k0_pay9 (View.ld x3 (Rect.unit ![4, 0] ![1, 1024] inb_S8x1024_S1x1024_4_0))) (View.ld x3 (Rect.unit ![0, 0] ![1, 1024] inb_S8x1024_S1x1024_0_0)) (View.ld x3 (Rect.unit ![1, 0] ![1, 1024] inb_S8x1024_S1x1024_1_0)) (View.ld x3 (Rect.unit ![2, 0] ![1, 1024] inb_S8x1024_S1x1024_2_0)) (View.ld x3 (Rect.unit ![3, 0] ![1, 1024] inb_S8x1024_S1x1024_3_0))) (View.ld x4 (Rect.unit ![2, 0, 0] ![1, 256, 256] inb_S4x256x256_S1x256x256_2_0_0)) (View.ld x4 (Rect.unit ![3, 0, 0] ![1, 256, 256] inb_S4x256x256_S1x256x256_3_0_0)) (View.ld x3 (Rect.unit ![5, 0] ![1, 1024] inb_S8x1024_S1x1024_5_0))

/-- The exponential of the input gate of a block. -/
def bE (g : grid0.Coords) (x0 : Vec I S128x1024 .f32) (x1 x3 : Vec I S8x1024 .f32) (x5 : Vec I S4x256x256 .bf16) : FVec I S128x1024 .f32 :=
  k0_pay21 (bU g x0 x1 x3) (k0_pay13 x0 (k0_pay6 g x1 x0) (k0_pay7 g x1 x0) (k0_pay8 g x1 x0) (k0_pay9 (View.ld x3 (Rect.unit ![4, 0] ![1, 1024] inb_S8x1024_S1x1024_4_0))) (View.ld x3 (Rect.unit ![0, 0] ![1, 1024] inb_S8x1024_S1x1024_0_0)) (View.ld x3 (Rect.unit ![1, 0] ![1, 1024] inb_S8x1024_S1x1024_1_0)) (View.ld x3 (Rect.unit ![2, 0] ![1, 1024] inb_S8x1024_S1x1024_2_0)) (View.ld x3 (Rect.unit ![3, 0] ![1, 1024] inb_S8x1024_S1x1024_3_0)) (View.ld x5 (Rect.unit ![0, 0, 0] ![1, 256, 256] inb_S4x256x256_S1x256x256_0_0_0)))
    (k0_pay16 x0 (k0_pay6 g x1 x0) (k0_pay7 g x1 x0) (k0_pay8 g x1 x0) (k0_pay9 (View.ld x3 (Rect.unit ![4, 0] ![1, 1024] inb_S8x1024_S1x1024_4_0))) (View.ld x3 (Rect.unit ![0, 0] ![1, 1024] inb_S8x1024_S1x1024_0_0)) (View.ld x3 (Rect.unit ![1, 0] ![1, 1024] inb_S8x1024_S1x1024_1_0)) (View.ld x3 (Rect.unit ![2, 0] ![1, 1024] inb_S8x1024_S1x1024_2_0)) (View.ld x3 (Rect.unit ![3, 0] ![1, 1024] inb_S8x1024_S1x1024_3_0)) (View.ld x5 (Rect.unit ![1, 0, 0] ![1, 256, 256] inb_S4x256x256_S1x256x256_1_0_0)))
    (k0_pay17 x0 (k0_pay6 g x1 x0) (k0_pay7 g x1 x0) (k0_pay8 g x1 x0) (k0_pay9 (View.ld x3 (Rect.unit ![4, 0] ![1, 1024] inb_S8x1024_S1x1024_4_0))) (View.ld x3 (Rect.unit ![0, 0] ![1, 1024] inb_S8x1024_S1x1024_0_0)) (View.ld x3 (Rect.unit ![1, 0] ![1, 1024] inb_S8x1024_S1x1024_1_0)) (View.ld x3 (Rect.unit ![2, 0] ![1, 1024] inb_S8x1024_S1x1024_2_0)) (View.ld x3 (Rect.unit ![3, 0] ![1, 1024] inb_S8x1024_S1x1024_3_0))) (View.ld x5 (Rect.unit ![2, 0, 0] ![1, 256, 256] inb_S4x256x256_S1x256x256_2_0_0)) (View.ld x5 (Rect.unit ![3, 0, 0] ![1, 256, 256] inb_S4x256x256_S1x256x256_3_0_0)) (View.ld x3 (Rect.unit ![6, 0] ![1, 1024] inb_S8x1024_S1x1024_6_0))

/-- The decays of a block. -/
def bA (g : grid0.Coords) (x0 : Vec I S128x1024 .f32) (x1 x3 : Vec I S8x1024 .f32) (x4 : Vec I S4x256x256 .bf16) : FVec I S128x1024 .f32 := k0_pay23 (bR g x0 x1 x3 x4) (View.ld x3 (Rect.unit ![7, 0] ![1, 1024] inb_S8x1024_S1x1024_7_0))

/-- The inputs of a block. -/
def bB (g : grid0.Coords) (x0 : Vec I S128x1024 .f32) (x1 x3 : Vec I S8x1024 .f32) (x4 x5 : Vec I S4x256x256 .bf16) : FVec I S128x1024 .f32 :=
  k0_pay24 (bU g x0 x1 x3) (bR g x0 x1 x3 x4) (bE g x0 x1 x3 x5) one (View.ld x3 (Rect.unit ![7, 0] ![1, 1024] inb_S8x1024_S1x1024_7_0))

theorem bR_eq (g : grid0.Coords) (x0 : Vec I S128x1024 .f32) (x1 x3 : Vec I S8x1024 .f32) (x4 : Vec I S4x256x256 .bf16) :
    bR g x0 x1 x3 x4 = divf (broadcast S128x1024 one) (addf (broadcast S128x1024 one) (exp (subf (broadcast S128x1024 zer)
      (addf (gate (bU g x0 x1 x3) x4) (broadcastTo S128x1024 (shapeCast S1x1024 (View.ld x3 (Rect.unit ![5, 0] ![1, 1024] inb_S8x1024_S1x1024_5_0)) shapeCasts_S1x1024_S1x1024) broadcasts_S1x1024_S128x1024))))) := rfl

theorem bE_eq (g : grid0.Coords) (x0 : Vec I S128x1024 .f32) (x1 x3 : Vec I S8x1024 .f32) (x5 : Vec I S4x256x256 .bf16) :
    bE g x0 x1 x3 x5 = exp (subf (broadcast S128x1024 zer)
      (addf (gate (bU g x0 x1 x3) x5) (broadcastTo S128x1024 (shapeCast S1x1024 (View.ld x3 (Rect.unit ![6, 0] ![1, 1024] inb_S8x1024_S1x1024_6_0)) shapeCasts_S1x1024_S1x1024) broadcasts_S1x1024_S128x1024))) := rfl

theorem gate_at (u : FVec I S128x1024 .f32) (x : Vec I S4x256x256 .bf16) (W : Fin 4 → Fin 256 → Fin 256 → EReal) (hW : ∀ g k j, (x (ix3 g k j) : EReal) = W g k j)
    (r : Fin 128) (l : Fin 1024) : (gate u x (ix2 r l) : EReal) = pre (fun l => u (ix2 r l)) W l := by
  have hl := l.isLt
  unfold gate pre
  pointwise
  have key : ∀ (q : Fin 4) (a : Fin 256 → Fin 1024) (b : Fin 256), (∀ k, (a k).val = 256 * (l.val / 256) + k.val) → q.val = l.val / 256 → b.val = l.val % 256 →
      (∑ k : Fin 256, (u (ix2 r (a k)) : EReal) * x (ix3 q k b)) = ∑ k : Fin 256, (u (ix2 r ⟨256 * (l.val / 256) + k.val, by have := k.isLt; omega⟩) : EReal)
        * W ⟨l.val / 256, by omega⟩ k ⟨l.val % 256, Nat.mod_lt _ (by omega)⟩ := by
    intro q a b ha hq hb
    refine Finset.sum_congr rfl fun k _ => ?_
    rw [hW]
    congr 1
    · exact congrArg (fun a : Fin 1024 => (u (ix2 r a) : EReal)) (Fin.ext (ha k))
    · exact congrArg₂ (fun (a : Fin 4) (b : Fin 256) => W a k b) (Fin.ext hq) (Fin.ext hb)
  split
  · refine Eq.trans (Finset.sum_congr rfl fun k _ => ?_) (key 0 (fun k => ⟨k.val, by have := k.isLt; omega⟩) ⟨l.val, by omega⟩ (fun k => by dsimp only; omega) (by show 0 = _; omega) (by dsimp only; omega))
    rfl
  split
  · refine Eq.trans (Finset.sum_congr rfl fun k _ => ?_) (key 1 (fun k => ⟨256 + k.val, by have := k.isLt; omega⟩) ⟨l.val - 256, by omega⟩ (fun k => by dsimp only; omega) (by show 1 = _; omega) (by dsimp only; omega))
    rfl
  split
  · refine Eq.trans (Finset.sum_congr rfl fun k _ => ?_) (key 2 (fun k => ⟨512 + k.val, by have := k.isLt; omega⟩) ⟨l.val - 256 - 256, by omega⟩ (fun k => by dsimp only; omega) (by show 2 = _; omega) (by dsimp only; omega))
    rfl
  · refine Eq.trans (Finset.sum_congr rfl fun k _ => ?_) (key 3 (fun k => ⟨768 + k.val, by have := k.isLt; omega⟩) ⟨l.val - 256 - 256 - 256, by omega⟩ (fun k => by dsimp only; omega) (by show 3 = _; omega) (by dsimp only; omega))
    rfl

section Block

variable (g : grid0.Coords) (x0 : Vec I S128x1024 .f32) (x1 x3 : Vec I S8x1024 .f32) (x4 x5 : Vec I S4x256x256 .bf16)

/-- The halo's rows: zero at the first point. -/
theorem halo_at (q : Fin 8) (l : Fin 1024) : (k0_pay5 g x1 (ix2 q l) : EReal) = if (g 0).val = 0 then 0 else x1 (ix2 q l) := by
  have hg : (g 0).val < 32 := (g 0).isLt
  unfold k0_pay5
  pointwise
  have e : Scalar.cmpi CmpIPredicate.eq (BitVec.ofNat 32 (g 0).val) 0#32 = if (g 0).val = 0 then 1#1 else 0#1 := by
    revert hg
    generalize (g 0).val = n
    intro hg
    interval_cases n <;> rfl
  rw [e]
  by_cases h : (g 0).val = 0
  · rw [if_pos h, if_pos h]; rfl
  · rw [if_neg h, if_neg h]; rfl

variable (t : ℕ) (ht : (g 0).val = t) (x : Fin 1024 → ℕ → EReal) (h0 : ∀ r l, (x0 (ix2 r l) : EReal) = x l (128 * t + r.val))
  (h1 : t ≠ 0 → ∀ q l, (x1 (ix2 q l) : EReal) = x l (128 * t - 8 + q.val))
include ht h0 h1

theorem tap_at (sh : ℕ) (hs : sh < 8) (hp : 0 < sh) (r : Fin 128) (l : Fin 1024) : (shift sh (k0_pay5 g x1) x0 (ix2 r l) : EReal) = tap (x l) sh (128 * t + r.val) := by
  rw [shift_at sh hs hp]
  unfold tap
  by_cases h : r.val < sh
  · rw [dif_pos h, halo_at, ht]
    by_cases hz : t = 0
    · rw [if_pos hz, if_pos (by omega)]
    · rw [if_neg hz, if_neg (by omega), h1 hz]
      congr 1
      dsimp only
      omega
  · rw [dif_neg h, if_neg (by omega), h0]
    congr 1
    dsimp only
    omega

theorem bU_at (r : Fin 128) (l : Fin 1024) :
    (bU g x0 x1 x3 (ix2 r l) : EReal) = conv (x l) (fun k => x3 (ix2 (⟨k.val, by have := k.isLt; omega⟩ : Fin 8) l)) (x3 (ix2 4 l)) (128 * t + r.val) := by
  have e3 := tap_at g x0 x1 t ht x h0 h1 3 (by omega) (by omega) r l
  have e2 := tap_at g x0 x1 t ht x h0 h1 2 (by omega) (by omega) r l
  have e1 := tap_at g x0 x1 t ht x h0 h1 1 (by omega) (by omega) r l
  unfold conv
  rw [← e3, ← e2, ← e1, ← h0]
  have e6 : k0_pay6 g x1 x0 = shift 3 (k0_pay5 g x1) x0 := rfl
  have e7 : k0_pay7 g x1 x0 = shift 2 (k0_pay5 g x1) x0 := rfl
  have e8 : k0_pay8 g x1 x0 = shift 1 (k0_pay5 g x1) x0 := rfl
  unfold bU
  rw [e6, e7, e8]
  generalize shift 3 (k0_pay5 g x1) x0 = y3
  generalize shift 2 (k0_pay5 g x1) x0 = y2
  generalize shift 1 (k0_pay5 g x1) x0 = y1
  unfold k0_pay10 k0_pay9
  pointwise

omit ht h0 h1

/-- The convolved row. -/
def uRow (r : Fin 128) (l : Fin 1024) : EReal := bU g x0 x1 x3 (ix2 r l)

variable (W W' : Fin 4 → Fin 256 → Fin 256 → EReal) (hW : ∀ g k j, (x4 (ix3 g k j) : EReal) = W g k j) (hW' : ∀ g k j, (x5 (ix3 g k j) : EReal) = W' g k j)

include hW

theorem bR_at (r : Fin 128) (l : Fin 1024) : (bR g x0 x1 x3 x4 (ix2 r l) : EReal) = sgm (pre (uRow g x0 x1 x3 r) W l + x3 (ix2 5 l)) := by
  rw [bR_eq]
  have e := gate_at (bU g x0 x1 x3) x4 W hW r l
  unfold uRow sgm
  rw [← e]
  generalize gate (bU g x0 x1 x3) x4 = y
  pointwise
  simp only [zero_sub]

theorem bL_at (r : Fin 128) (l : Fin 1024) :
    (k0_pay22 (bR g x0 x1 x3 x4) (View.ld x3 (Rect.unit ![7, 0] ![1, 1024] inb_S8x1024_S1x1024_7_0)) (ix2 r l) : EReal)
      = lg (uRow g x0 x1 x3 r) W (fun l => x3 (ix2 5 l)) (fun l => x3 (ix2 7 l)) l := by
  unfold lg logA
  rw [← bR_at g x0 x1 x3 x4 W hW]
  unfold spl k0_pay22
  pointwise
  simp only [zero_sub]
  rfl

theorem bA_at (r : Fin 128) (l : Fin 1024) :
    col (bA g x0 x1 x3 x4) l r = Ideal.exp (lg (uRow g x0 x1 x3 r) W (fun l => x3 (ix2 5 l)) (fun l => x3 (ix2 7 l)) l) := by
  rw [← bL_at g x0 x1 x3 x4 W hW]
  rfl

include hW'

theorem bB_at (r : Fin 128) (l : Fin 1024) :
    col (bB g x0 x1 x3 x4 x5) l r = inp (uRow g x0 x1 x3 r) W W' (fun l => x3 (ix2 5 l)) (fun l => x3 (ix2 6 l)) (fun l => x3 (ix2 7 l)) l := by
  have e := gate_at (bU g x0 x1 x3) x5 W' hW' r l
  have eL := bL_at g x0 x1 x3 x4 W hW r l
  unfold inp
  have hn : lg (uRow g x0 x1 x3 r) W (fun l => x3 (ix2 5 l)) (fun l => x3 (ix2 7 l)) l ≤ 0 := logA_nonpos _ _
  rw [← root_eq _ hn, ← eL]
  unfold col bB k0_pay24 k0_pay23
  generalize k0_pay22 (bR g x0 x1 x3 x4) (View.ld x3 (Rect.unit ![7, 0] ![1, 1024] inb_S8x1024_S1x1024_7_0)) = y
  unfold uRow sgm
  rw [← e, bE_eq]
  generalize gate (bU g x0 x1 x3) x5 = z
  generalize bU g x0 x1 x3 = u
  pointwise
  simp only [zero_sub]

end Block

end Cert.Kernel8Ideal.Value

end
-- ==== Proof.Rg.Kernel.lean ====
/- What the gated recurrence's call leaves in its two results. -/
module

public import proofs.«01_k».proof.Proof.Rg.Gate
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel8Ideal.Value

open Cert.Kernel8Ideal Cert.Kernel8Ideal.Gen Cert.Rg

local notation "I" => Idealize.ShloMosaic.Ideal

variable (m : (ℓ : Loc nD τ sig) → Buf (Elt I) ℓ) (c : Dev nD)

/-- The decays and the inputs of point `t`. -/
def aT (t : Fin cfg0.N) : FVec I S128x1024 .f32 := bA (grid0.coords t) (iblk m c 0 t) (iblk m c 1 t) (iblk m c 3 t) (iblk m c 4 t)
def bT (t : Fin cfg0.N) : FVec I S128x1024 .f32 := bB (grid0.coords t) (iblk m c 0 t) (iblk m c 1 t) (iblk m c 3 t) (iblk m c 4 t) (iblk m c 5 t)

/-- The gated states, and the last state. -/
def outY (s : FVec I S128x1024 .f32) (g : Vec I S128x1024 .f32) : FVec I S128x1024 .bf16 :=
  truncf .bf16 (mulf s (mulf g (divf (broadcast S128x1024 one) (addf (broadcast S128x1024 one) (exp (subf (broadcast S128x1024 zer) g)))))) bitsLt_bf16_f32
def outC (s : FVec I S128x1024 .f32) : FVec I S1x1024 .f32 :=
  shapeCast S1x1024 (extractStridedSlice S1x1024 ![127, 0] s slices_S128x1024_o127_0_S1x1024) shapeCasts_S1x1024_S1x1024

/-- What a point leaves over the entering state `h`. -/
def outs (t : Fin cfg0.N) (h : Vec I S1x1024 .f32) : Vec I S128x1024 .f32 × Vec I S128x1024 .bf16 × Vec I S1x1024 .f32 :=
  (states (aT m c t) (bT m c t) h, outY (states (aT m c t) (bT m c t) h) (iblk m c 2 t), outC (states (aT m c t) (bT m c t) h))

/-- The first point, from the zero state. -/
theorem outs_A (t : Fin cfg0.N) (h : t.val % 32 = 0) : outsAt0 m c t.val t.isLt = outs m c t (k0_pay4 (F := I)) := by
  rw [outsAt0_A m c t h]
  refine Prod.ext ?_ (Prod.ext ?_ ?_) <;> dsimp only [outs] <;> frame_out <;> rfl

/-- A later point, over what the point before it left. -/
theorem outs_B (t : Fin cfg0.N) (h : ¬t.val % 32 = 0) :
    outsAt0 m c t.val t.isLt = outs m c t (outsAt0 m c (t.val - 1) (Nat.lt_of_le_of_lt (Nat.sub_le _ _) t.isLt)).2.2 := by
  rw [outsAt0_B m c t h]
  have hr : ∀ x, View.read (Elt I) (View.whole cc0_scratch0) ((Memref.isWhole_whole cc0_scratch0).unread x) = x := fun x =>
    (Memref.isWhole_whole cc0_scratch0).read_unread x
  refine Prod.ext ?_ (Prod.ext ?_ ?_) <;> dsimp only [outs] <;> frame_out <;> rw [hr] <;> rfl

theorem idx0 : ∀ t : Fin cfg0.N, win0_0.index t = ![t.val, 0] := (by decide +kernel : ∀ t : Fin grid0.N, win0_0.index t = ![t.val, 0])
theorem idx1 : ∀ t : Fin cfg0.N, win0_1.index t = ![16 * t.val - 1, 0] := (by decide +kernel : ∀ t : Fin grid0.N, win0_1.index t = ![16 * t.val - 1, 0])
theorem idx2 : ∀ t : Fin cfg0.N, win0_2.index t = ![t.val, 1] := (by decide +kernel : ∀ t : Fin grid0.N, win0_2.index t = ![t.val, 1])
theorem idx3 : ∀ t : Fin cfg0.N, win0_3.index t = ![0, 0] := (by decide +kernel : ∀ t : Fin grid0.N, win0_3.index t = ![0, 0])
theorem idx4 : ∀ t : Fin cfg0.N, win0_4.index t = ![0, 0, 0] := (by decide +kernel : ∀ t : Fin grid0.N, win0_4.index t = ![0, 0, 0])
theorem idx5 : ∀ t : Fin cfg0.N, win0_5.index t = ![0, 0, 0] := (by decide +kernel : ∀ t : Fin grid0.N, win0_5.index t = ![0, 0, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem crd : ∀ t : Fin cfg0.N, ((grid0.coords t) 0).val = t.val := (by decide +kernel : ∀ t : Fin grid0.N, ((grid0.coords t) 0).val = t.val)

theorem V4_at (k : Fin 8) (l : Fin 1024) : V m c main_v4 (ix2 k l)
    = if h : k.val < 4 then m ((c.tc : Thread nD τ).loc main_arg1) (ix2 ⟨k.val, h⟩ l) else if k.val = 4 then m ((c.tc : Thread nD τ).loc main_arg2) (ix1 l)
      else if k.val = 5 then m ((c.tc : Thread nD τ).loc main_arg4) (ix1 l) else if k.val = 6 then m ((c.tc : Thread nD τ).loc main_arg6) (ix1 l)
      else m ((c.tc : Thread nD τ).loc main_arg7) (ix1 l) := by
  unfold V
  simp only [hostOps0, List.flatten_cons, List.flatten_nil, List.append_nil, List.cons_append, List.nil_append]
  after_reads_at
  have hk := k.isLt
  by_cases h0 : k.val < 4
  · rw [dif_pos h0, dif_pos h0]
  rw [dif_neg h0, dif_neg h0]
  by_cases h1 : k.val = 4
  · rw [dif_pos (by omega), if_pos h1]
    simp only [StableHlo.upto, List.take_zero]
    after_reads_at
    done
  rw [dif_neg (by omega), if_neg h1]
  by_cases h2 : k.val = 5
  · rw [dif_pos (by omega), if_pos h2]
    simp only [StableHlo.upto, List.take_zero, List.take_succ_cons]
    after_reads_at
    done
  rw [dif_neg (by omega), if_neg h2]
  by_cases h3 : k.val = 6
  · rw [dif_pos (by omega), if_pos h3]
    simp only [StableHlo.upto, List.take_zero, List.take_succ_cons]
    after_reads_at
    done
  rw [dif_neg (by omega), if_neg h3]
  simp only [StableHlo.upto, List.take_zero, List.take_succ_cons]
  after_reads_at
  done

theorem V5_at (g : Fin 4) (k j : Fin 256) : (V m c main_v5 (ix3 g k j) : EReal) = m ((c.tc : Thread nD τ).loc main_arg3) (ix3 g k j) := by
  unfold V
  simp only [hostOps0, List.flatten_cons, List.flatten_nil, List.append_nil, List.cons_append, List.nil_append]
  after_reads_at

theorem V6_at (g : Fin 4) (k j : Fin 256) : (V m c main_v6 (ix3 g k j) : EReal) = m ((c.tc : Thread nD τ).loc main_arg5) (ix3 g k j) := by
  unfold V
  simp only [hostOps0, List.flatten_cons, List.flatten_nil, List.append_nil, List.cons_append, List.nil_append]
  after_reads_at

theorem row_lt (t : Fin cfg0.N) (r : Fin 128) : 128 * t.val + r.val < 4096 := by
  have hN : cfg0.N = 32 := N_0
  have := t.isLt
  omega

theorem blk0 (t : Fin cfg0.N) (r : Fin 128) (l : Fin 1024) :
    (iblk m c 0 t (ix2 r l) : EReal) = xcol (m ((c.tc : Thread nD τ).loc main_arg0)) (lo l) (128 * t.val + r.val) := by
  unfold xcol
  rw [dif_pos (row_lt t r), ← V_main_arg0 m c]
  blk_ext [iblk, idx0 t]
  rfl

theorem blk2 (t : Fin cfg0.N) (r : Fin 128) (l : Fin 1024) :
    (iblk m c 2 t (ix2 r l) : EReal) = xcol (m ((c.tc : Thread nD τ).loc main_arg0)) (hi l) (128 * t.val + r.val) := by
  unfold xcol
  rw [dif_pos (row_lt t r), ← V_main_arg0 m c]
  blk_ext [iblk, idx2 t]
  rfl

theorem blk1 (t : Fin cfg0.N) (h : t.val ≠ 0) (q : Fin 8) (l : Fin 1024) :
    (iblk m c 1 t (ix2 q l) : EReal) = xcol (m ((c.tc : Thread nD τ).loc main_arg0)) (lo l) (128 * t.val - 8 + q.val) := by
  have hN : cfg0.N = 32 := N_0
  have ht := t.isLt
  unfold xcol
  rw [dif_pos (show 128 * t.val - 8 + q.val < 4096 by omega), ← V_main_arg0 m c]
  blk_ext [iblk, idx1 t]
  rfl

theorem blk3 (t : Fin cfg0.N) (k : Fin 8) (l : Fin 1024) : iblk m c 3 t (ix2 k l) = V m c main_v4 (ix2 k l) := by
  blk_ext [iblk, idx3 t]

theorem blk4 (t : Fin cfg0.N) (g : Fin 4) (k j : Fin 256) : (iblk m c 4 t (ix3 g k j) : EReal) = m ((c.tc : Thread nD τ).loc main_arg3) (ix3 g k j) := by
  refine Eq.trans ?_ (V5_at m c g k j)
  blk_ext [iblk, idx4 t]

theorem blk5 (t : Fin cfg0.N) (g : Fin 4) (k j : Fin 256) : (iblk m c 5 t (ix3 g k j) : EReal) = m ((c.tc : Thread nD τ).loc main_arg5) (ix3 g k j) := by
  refine Eq.trans ?_ (V6_at m c g k j)
  blk_ext [iblk, idx5 t]

/-- The call's arguments. -/
abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)
abbrev A4 := m ((c.tc : Thread nD τ).loc main_arg4)
abbrev A5 := m ((c.tc : Thread nD τ).loc main_arg5)
abbrev A6 := m ((c.tc : Thread nD τ).loc main_arg6)
abbrev A7 := m ((c.tc : Thread nD τ).loc main_arg7)

theorem s4 (t : Fin cfg0.N) (l : Fin 1024) : (iblk m c 3 t (ix2 (4 : Fin 8) l) : EReal) = A2 m c (ix1 l) := (blk3 m c t 4 l).trans (V4_at m c 4 l)
theorem s5 (t : Fin cfg0.N) (l : Fin 1024) : (iblk m c 3 t (ix2 (5 : Fin 8) l) : EReal) = A4 m c (ix1 l) := (blk3 m c t 5 l).trans (V4_at m c 5 l)
theorem s6 (t : Fin cfg0.N) (l : Fin 1024) : (iblk m c 3 t (ix2 (6 : Fin 8) l) : EReal) = A6 m c (ix1 l) := (blk3 m c t 6 l).trans (V4_at m c 6 l)
theorem s7 (t : Fin cfg0.N) (l : Fin 1024) : (iblk m c 3 t (ix2 (7 : Fin 8) l) : EReal) = A7 m c (ix1 l) := (blk3 m c t 7 l).trans (V4_at m c 7 l)

theorem u_at (t : Fin cfg0.N) (r : Fin 128) :
    uRow (grid0.coords t) (iblk m c 0 t) (iblk m c 1 t) (iblk m c 3 t) r = uS (A0 m c) (A1 m c) (A2 m c) (128 * t.val + r.val) := by
  funext l
  unfold uRow uS
  refine (bU_at (grid0.coords t) (iblk m c 0 t) (iblk m c 1 t) (iblk m c 3 t) t.val (crd t) (fun l => xcol (A0 m c) (lo l)) (blk0 m c t) (blk1 m c t) r l).trans ?_
  refine congrArg₂ (fun w b => conv (xcol (A0 m c) (lo l)) w b (128 * t.val + r.val)) (funext fun k => ?_) (s4 m c t l)
  exact ((blk3 m c t _ l).trans (V4_at m c _ l)).trans (dif_pos k.isLt)

theorem a_at (t : Fin cfg0.N) (r : Fin 128) (l : Fin 1024) :
    col (aT m c t) l r = aS (A0 m c) (A1 m c) (A2 m c) (A3 m c) (A4 m c) (A7 m c) l (128 * t.val + r.val) := by
  unfold aT aS
  rw [bA_at _ _ _ _ _ (fun g k j => A3 m c (ix3 g k j)) (blk4 m c t), u_at, funext (s5 m c t), funext (s7 m c t)]

theorem b_at (t : Fin cfg0.N) (r : Fin 128) (l : Fin 1024) :
    col (bT m c t) l r = bS (A0 m c) (A1 m c) (A2 m c) (A3 m c) (A4 m c) (A5 m c) (A6 m c) (A7 m c) l (128 * t.val + r.val) := by
  unfold bT bS
  rw [bB_at _ _ _ _ _ _ (fun g k j => A3 m c (ix3 g k j)) (fun g k j => A5 m c (ix3 g k j)) (blk4 m c t) (blk5 m c t), u_at, funext (s5 m c t), funext (s6 m c t),
    funext (s7 m c t)]

/-- The state after `n` rows, of the call's arguments. -/
def st (l : Fin 1024) (n : ℕ) : EReal := hS (A0 m c) (A1 m c) (A2 m c) (A3 m c) (A4 m c) (A5 m c) (A6 m c) (A7 m c) l n

/-- One point's states, over a state that is the recurrence's so far. -/
theorem point (t : Fin cfg0.N) (h : Vec I S1x1024 .f32) (l : Fin 1024) (hh : (h (ix2 0 l) : EReal) = st m c l (128 * t.val)) (r : Fin 128) :
    (states (aT m c t) (bT m c t) h (ix2 r l) : EReal) = st m c l (128 * t.val + r.val + 1) := by
  have e0 : ∀ r, 0 ≤ col (aT m c t) l r := fun r => by rw [a_at]; exact exp_nonneg _
  have e1 : ∀ r, col (aT m c t) l r ≠ ⊤ := fun r => by rw [a_at]; exact exp_ne_top _ (logA_nonpos _ _)
  refine (states_at l _ _ e0 e1 h (fun k => aS (A0 m c) (A1 m c) (A2 m c) (A3 m c) (A4 m c) (A7 m c) l (128 * t.val + k))
    (fun k => bS (A0 m c) (A1 m c) (A2 m c) (A3 m c) (A4 m c) (A5 m c) (A6 m c) (A7 m c) l (128 * t.val + k)) (fun r => a_at m c t r l) (fun r => b_at m c t r l) r).trans ?_
  rw [hh, Nat.add_assoc]
  exact (walk_add _ _ _ _ _).symm

theorem pay4_at (j : S1x1024.Idx) : (k0_pay4 (F := I) j : EReal) = 0 := by
  unfold k0_pay4
  pointwise

theorem outC_at (s : FVec I S128x1024 .f32) (l : Fin 1024) : (outC s (ix2 0 l) : EReal) = s (ix2 127 l) := by
  unfold outC
  pointwise

theorem outY_at (s : FVec I S128x1024 .f32) (g : Vec I S128x1024 .f32) (r : Fin 128) (l : Fin 1024) :
    (outY s g (ix2 r l) : EReal) = s (ix2 r l) * (g (ix2 r l) * sgm (g (ix2 r l))) := by
  unfold outY sgm
  pointwise
  simp only [zero_sub]

theorem carry_eq (l : Fin 1024) : ∀ (n : ℕ) (h : n < cfg0.N), ((outsAt0 m c n h).2.2 (ix2 0 l) : EReal) = st m c l (128 * (n + 1))
  | 0, h => by
    have e := outs_A m c ⟨0, h⟩ rfl
    dsimp only at e
    rw [e]
    exact (outC_at _ l).trans (point m c ⟨0, h⟩ _ l (pay4_at _) 127)
  | n + 1, h => by
    have hN : cfg0.N = 32 := N_0
    have ih := carry_eq l n (by omega)
    have e := outs_B m c ⟨n + 1, h⟩ (by dsimp only; omega)
    dsimp only [Nat.add_sub_cancel] at e
    rw [e]
    exact (outC_at _ l).trans (point m c ⟨n + 1, h⟩ _ l ih 127)

/-- Every point's states are the recurrence's. -/
theorem out_eq (t : Fin cfg0.N) : ∃ h, outsAt0 m c t.val t.isLt = outs m c t h ∧ ∀ l : Fin 1024, (h (ix2 0 l) : EReal) = st m c l (128 * t.val) := by
  have hN : cfg0.N = 32 := N_0
  by_cases h : t.val % 32 = 0
  · have h0 : t.val = 0 := by have := t.isLt; omega
    refine ⟨_, outs_A m c t h, fun l => ?_⟩
    rw [h0]
    exact pay4_at _
  · refine ⟨_, outs_B m c t h, fun l => ?_⟩
    rw [show 128 * t.val = 128 * (t.val - 1 + 1) by omega]
    exact carry_eq m c l _ _

/-- The states, whole. -/
theorem fin_h : (dats m 0 c).arrAt 6 cfg0.N = fun i : S4096x1024.Idx => st m c (i 1) ((i 0).val + 1) := by
  refine (dats m 0 c).arrAt_eq_of_covers 6 _ (by decide +kernel) fun t hf y => ?_
  blk_simp
  rw [after0_6]
  idx_vars y
  have i0 : win0_6.index t 0 = t.val := congrFun (idx6 t) 0
  have i1 : win0_6.index t 1 = 0 := congrFun (idx6 t) 1
  obtain ⟨h, e, hh⟩ := out_eq m c t
  rw [e]
  refine (point m c t h y1 (hh y1) y0).trans (congrArg₂ (fun (a : Fin 1024) (b : ℕ) => st m c a b) (Fin.ext ?_) ?_)
  · blk_simp; rw [i1]; show y1.val = 0 * 1024 + y1.val; omega
  · rw [i0]; show 128 * t.val + y0.val + 1 = t.val * 128 + y0.val + 1; omega

/-- The gated states, whole. -/
theorem fin_y : (dats m 0 c).arrAt 7 cfg0.N = fun i : S4096x1024.Idx => (st m c (i 1) ((i 0).val + 1) * gS (A0 m c) (i 1) (i 0).val : EReal) := by
  refine (dats m 0 c).arrAt_eq_of_covers 7 _ (by decide +kernel) fun t hf y => ?_
  blk_simp
  rw [after0_7]
  idx_vars y
  have i0 : win0_7.index t 0 = t.val := congrFun (idx7 t) 0
  have i1 : win0_7.index t 1 = 0 := congrFun (idx7 t) 1
  obtain ⟨h, e, hh⟩ := out_eq m c t
  rw [e]
  refine (outY_at _ _ y0 y1).trans ?_
  rw [point m c t h y1 (hh y1) y0, blk2]
  refine congrArg₂ (fun (a : Fin 1024) (b : ℕ) => (st m c a (b + 1) * gS (A0 m c) a b : EReal)) (Fin.ext ?_) ?_
  · blk_simp; rw [i1]; show y1.val = 0 * 1024 + y1.val; omega
  · rw [i0]; show 128 * t.val + y0.val = t.val * 128 + y0.val; omega

end Cert.Kernel8Ideal.Value

end
-- ==== Proof.Rg.Ref.lean ====
/- The reference's values before its loop, element by element. -/
module

public import proofs.«01_k».proof.Proof.Rg.Math
public import proofs.«01_k».proof.Proof.Gen.Reference8Ideal.Step

@[expose] public section

set_option maxRecDepth 16384

noncomputable section

namespace Cert.Reference8Ideal.Rows

open Idealize.ShloMosaic Idealize.ShloMosaic.TcCoe Idealize.SL.Sem
open Cert.Reference8Ideal Cert.Reference8Ideal.Gen Cert.Reference8Ideal.Step Cert.Rg

local notation "I" => Idealize.ShloMosaic.Ideal

variable (x0 : (⟨S4096x2048, .f32⟩ : BufTy).Contents (Elt I)) (x1 : (⟨S4x1024, .f32⟩ : BufTy).Contents (Elt I)) (x2 : (⟨S1024, .f32⟩ : BufTy).Contents (Elt I))
  (x3 : (⟨S4x256x256, .f32⟩ : BufTy).Contents (Elt I)) (x4 : (⟨S1024, .f32⟩ : BufTy).Contents (Elt I)) (x5 : (⟨S4x256x256, .f32⟩ : BufTy).Contents (Elt I))
  (x6 x7 : (⟨S1024, .f32⟩ : BufTy).Contents (Elt I))

theorem tap_at (s : Fin 4096) (l : Fin 1024) (d k : ℕ) (hk : d + k = 3) :
    tap (xcol x0 (lo l)) d s.val = if h : k + s.val < 3 then (0 : EReal) else x0 (ix2 ⟨k + s.val - 3, by have := s.isLt; omega⟩ ⟨l.val, by have := l.isLt; omega⟩) := by
  have hs := s.isLt
  unfold tap
  by_cases h : s.val < d
  · rw [if_pos h, dif_pos (by omega)]
  · rw [if_neg h, dif_neg (by omega)]
    refine (dif_pos (show s.val - d < 4096 by omega)).trans ?_
    exact congrArg x0 (congrArg (fun t => ix2 t (lo l)) (Fin.ext (by show s.val - d = k + s.val - 3; omega)))

theorem sum5 (b t u v w : EReal) : b + (t + u + v + w) = b + t + u + v + w := by simp only [add_assoc]

theorem v35_at (s : Fin 4096) (l : Fin 1024) : (A_main_v35 (F := I) x0 x1 x2 x3 x4 x5 x6 x7 (ix2 s l) : EReal) = uS x0 x1 x2 s.val l := by
  unfold A_main_v35 A_main_v34 A_main_v33 A_main_v32 A_main_v31 A_main_v30 A_main_v29 A_main_v28 A_main_v27 A_main_v26 A_main_v25 A_main_v24 A_main_v23 A_main_v22 A_main_v21
    A_main_v20 A_main_v19 A_main_v18 A_main_v17 A_main_v16 A_main_v15 A_main_v14 A_main_v13 A_main_v12 A_main_v11 A_main_v9 A_main_v8 A_main_v7 A_main_v6 A_main_v5 A_main_v4
    A_main_v3 A_main_v0 K_main_v10 K_main_v2 K_main_cst_0 K_main_cst
  pointwise
  unfold uS conv
  rw [tap_at x0 s l 3 0 rfl, tap_at x0 s l 2 1 rfl, tap_at x0 s l 1 2 rfl, show xcol x0 (lo l) s.val = x0 (ix2 s ⟨l.val, by have := l.isLt; omega⟩) from dif_pos s.isLt]
  refine (sum5 _ _ _ _ _).trans ?_
  simp only [Nat.zero_add]

theorem v77_at (s : Fin 4096) (l : Fin 1024) : (A_main_v77 (F := I) x0 x1 x2 x3 x4 x5 x6 x7 (ix2 s l) : EReal) = gS x0 l s.val := by
  unfold A_main_v77 A_main_call1_v5 A_main_call1_v3 A_main_call1_v1 A_main_call1_v0 A_main_v1 K_main_call1_v2 K_main_call1_v4 K_main_call1_cst K_main_call1_cst_0
  pointwise
  have e3 : xcol x0 (hi l) s.val = x0 (ix2 s ⟨1024 + l.val, by have := l.isLt; omega⟩) := dif_pos s.isLt
  unfold gS
  rw [e3]
  rfl

theorem v42_at (s : Fin 4096) (l : Fin 1024) : (A_main_v42 (F := I) x0 x1 x2 x3 x4 x5 x6 x7 (ix2 s l) : EReal) = pre (uS x0 x1 x2 s.val) (fun g k j => x3 (ix3 g k j)) l + x4 (ix1 l) := by
  have e : (fun l => (A_main_v35 (F := I) x0 x1 x2 x3 x4 x5 x6 x7 (ix2 s l) : EReal)) = uS x0 x1 x2 s.val := funext fun l => v35_at x0 x1 x2 x3 x4 x5 x6 x7 s l
  rw [← e]
  unfold A_main_v42 A_main_v41 A_main_v40 A_main_v39 A_main_v38 A_main_v37 A_main_v36
  generalize A_main_v35 (F := I) x0 x1 x2 x3 x4 x5 x6 x7 = u
  pointwise
  unfold pre
  refine congrArg (· + _) (Finset.sum_congr rfl fun k _ => ?_)
  rw [mul_comm]
  exact congrArg (· * _) (congrArg (fun t => u (ix2 s t)) (Fin.ext (congrArg (· + k.val) (Nat.mul_comm _ _))))

theorem v54_at (s : Fin 4096) (l : Fin 1024) : (A_main_v54 (F := I) x0 x1 x2 x3 x4 x5 x6 x7 (ix2 s l) : EReal) = pre (uS x0 x1 x2 s.val) (fun g k j => x5 (ix3 g k j)) l + x6 (ix1 l) := by
  have e : (fun l => (A_main_v35 (F := I) x0 x1 x2 x3 x4 x5 x6 x7 (ix2 s l) : EReal)) = uS x0 x1 x2 s.val := funext fun l => v35_at x0 x1 x2 x3 x4 x5 x6 x7 s l
  rw [← e]
  unfold A_main_v54 A_main_v53 A_main_v52 A_main_v51 A_main_v50 A_main_v49 A_main_v36
  generalize A_main_v35 (F := I) x0 x1 x2 x3 x4 x5 x6 x7 = u
  pointwise
  unfold pre
  refine congrArg (· + _) (Finset.sum_congr rfl fun k _ => ?_)
  rw [mul_comm]
  exact congrArg (· * _) (congrArg (fun t => u (ix2 s t)) (Fin.ext (congrArg (· + k.val) (Nat.mul_comm _ _))))

theorem v64_at (l : Fin 1024) : (A_main_v64 (F := I) x0 x1 x2 x3 x4 x5 x6 x7 (ix1 l) : EReal) = spl (x7 (ix1 l)) := by
  unfold A_main_v64 A_main_call0_v11 A_main_call0_v10 A_main_call0_v9 A_main_call0_v8 A_main_call0_v7 A_main_call0_v6 A_main_call0_v4 A_main_call0_v3 A_main_call0_v1 A_main_v63
    K_main_call0_v0 K_main_call0_v2 K_main_call0_v5 K_main_call0_cst
  pointwise
  rw [if_neg (fun h => h rfl)]
  rfl

theorem v67_at (s : Fin 4096) (l : Fin 1024) : (A_main_v67 (F := I) x0 x1 x2 x3 x4 x5 x6 x7 (ix2 s l) : EReal)
    = lg (uS x0 x1 x2 s.val) (fun g k j => x3 (ix3 g k j)) (fun l => x4 (ix1 l)) (fun l => x7 (ix1 l)) l := by
  unfold lg
  rw [← v42_at x0 x1 x2 x3 x4 x5 x6 x7]
  unfold logA
  rw [← v64_at x0 x1 x2 x3 x4 x5 x6 x7]
  unfold A_main_v67 A_main_v66 A_main_v65 A_main_v62 A_main_v48 A_main_v46 A_main_v44 A_main_v43
  generalize A_main_v42 (F := I) x0 x1 x2 x3 x4 x5 x6 x7 = u
  generalize A_main_v64 (F := I) x0 x1 x2 x3 x4 x5 x6 x7 = v
  unfold K_main_v61 K_main_v47 K_main_v45 K_main_cst_5 K_main_cst_2 K_main_cst_1
  pointwise
  rfl

theorem v68_at (s : Fin 4096) (l : Fin 1024) : (A_main_v68 (F := I) x0 x1 x2 x3 x4 x5 x6 x7 (ix2 s l) : EReal) = aS x0 x1 x2 x3 x4 x7 l s.val := by
  unfold aS
  rw [← v67_at x0 x1 x2 x3 x4 x5 x6 x7]
  rfl

theorem v75_at (s : Fin 4096) (l : Fin 1024) : (A_main_v75 (F := I) x0 x1 x2 x3 x4 x5 x6 x7 (ix2 s l) : EReal) = bS x0 x1 x2 x3 x4 x5 x6 x7 l s.val := by
  unfold bS inp
  rw [← v67_at x0 x1 x2 x3 x4 x5 x6 x7, ← v54_at x0 x1 x2 x3 x4 x5 x6 x7, ← v35_at x0 x1 x2 x3 x4 x5 x6 x7]
  unfold A_main_v75 A_main_v74 A_main_v73 A_main_v72 A_main_v71 A_main_v70 A_main_v60 A_main_v58 A_main_v56 A_main_v55
  generalize A_main_v67 (F := I) x0 x1 x2 x3 x4 x5 x6 x7 = u
  generalize A_main_v54 (F := I) x0 x1 x2 x3 x4 x5 x6 x7 = v
  generalize A_main_v35 (F := I) x0 x1 x2 x3 x4 x5 x6 x7 = w
  unfold K_main_v69 K_main_cst_6 K_main_v57 K_main_v59 K_main_cst_4 K_main_cst_3
  pointwise
  rfl

end Cert.Reference8Ideal.Rows

end
-- ==== Proof.Rg.Loop.lean ====
/- The reference's loop: its state after `n` rows. -/
module

public import proofs.«01_k».proof.Proof.Rg.Ref
public import proofs.«01_k».proof.Proof.Gen.Reference8Ideal.Run
public import Idealize.ShloMosaic.Lib.WordCmp

@[expose] public section

set_option maxRecDepth 16384

noncomputable section

namespace Cert.Reference8Ideal.Rows

open Idealize.ShloMosaic Idealize.ShloMosaic.TcCoe Idealize.SL.Sem Idealize.ShloMosaic.StableHlo
open Cert.Reference8Ideal Cert.Reference8Ideal.Gen Cert.Reference8Ideal.Value Cert.Rg

local notation "I" => Idealize.ShloMosaic.Ideal

/-- A row of a stacked array. -/
theorem row_at {α : Type} (x : S4096x1024.Idx → α) (n : ℕ) (hn : n < 4096) (l : Fin 1024) (w : (⟨S_, .i32⟩ : BufTy).Contents (Elt I)) (hw : w = constantI S_ 32 (BitVec.ofNat 32 n)) :
    shapeCast S1024 (Host.dynamicSlice S1x1024 x (fun k => (((![w, constantI S_ 32 0#32] : Fin 2 → (⟨S_, .i32⟩ : BufTy).Contents (Elt I))) k (Shape.Idx.first h_S_)).toInt) sliceFits_S4096x1024_S1x1024) shapeCasts_S1x1024_S1024 (ix1 l)
      = x (ix2 ⟨n, hn⟩ l) := by
  have hk : S4096x1024.Slices (![n, 0] : Fin 2 → ℕ) S1x1024 := ⟨rfl, fun a => by
    refine Fin.cases ?_ (fun a => Fin.cases ?_ (fun a => a.elim0) a) a
    · show n + 1 ≤ 4096; omega
    · show 0 + 1024 ≤ 1024; omega⟩
  rw [WordCmp.dynamicSlice_eq_extract S1x1024 x _ sliceFits_S4096x1024_S1x1024 ![n, 0] hk (fun a => by
    subst hw
    refine Fin.cases ?_ (fun a => Fin.cases ?_ (fun a => a.elim0) a) a
    · exact WordCmp.toInt_ofNat_of_lt (by show n < 2147483648; omega)
    · rfl)]
  pointwise

/-- A stacked array with one row replaced. -/
theorem put_at {α : Type} (x : S4096x1024.Idx → α) (y : S1024.Idx → α) (n : ℕ) (hn : n < 4096) (s : Fin 4096) (l : Fin 1024) (w : (⟨S_, .i32⟩ : BufTy).Contents (Elt I)) (hw : w = constantI S_ 32 (BitVec.ofNat 32 n)) :
    Host.dynamicUpdateSlice x (broadcastInDim S1x1024 ![1] bcast_S1024_S1x1024_1 y) (fun k => (((![w, constantI S_ 32 0#32] : Fin 2 → (⟨S_, .i32⟩ : BufTy).Contents (Elt I))) k (Shape.Idx.first h_S_)).toInt) updateFits_S4096x1024_S1x1024 (ix2 s l)
      = if s.val = n then y (ix1 l) else x (ix2 s l) := by
  have hk : S4096x1024.Slices (![n, 0] : Fin 2 → ℕ) S1x1024 := ⟨rfl, fun a => by
    refine Fin.cases ?_ (fun a => Fin.cases ?_ (fun a => a.elim0) a) a
    · show n + 1 ≤ 4096; omega
    · show 0 + 1024 ≤ 1024; omega⟩
  rw [WordCmp.dynamicUpdateSlice_eq_update x _ _ updateFits_S4096x1024_S1x1024 ![n, 0] hk (fun a => by
    subst hw
    refine Fin.cases ?_ (fun a => Fin.cases ?_ (fun a => a.elim0) a) a
    · exact WordCmp.toInt_ofNat_of_lt (by show n < 2147483648; omega)
    · rfl)]
  pointwise
  by_cases e : s.val = n
  · rw [dif_pos (by omega), if_pos e]
  · rw [dif_neg (by omega), if_neg e]

section Loop

variable (x0 : (⟨S4096x2048, .f32⟩ : BufTy).Contents (Elt I)) (x1 : (⟨S4x1024, .f32⟩ : BufTy).Contents (Elt I)) (x2 : (⟨S1024, .f32⟩ : BufTy).Contents (Elt I))
  (x3 : (⟨S4x256x256, .f32⟩ : BufTy).Contents (Elt I)) (x4 : (⟨S1024, .f32⟩ : BufTy).Contents (Elt I)) (x5 : (⟨S4x256x256, .f32⟩ : BufTy).Contents (Elt I))
  (x6 x7 : (⟨S1024, .f32⟩ : BufTy).Contents (Elt I))

/-- The loop's buffers after `n` rows. -/
structure After (V : Valuation τ sig (Elt I)) (n : ℕ) : Prop where
  a : ∀ s l, (V (Proc.devRef .tc main_v80_0) (ix2 s l) : EReal) = aS x0 x1 x2 x3 x4 x7 l s.val
  b : ∀ s l, (V (Proc.devRef .tc main_v80_1) (ix2 s l) : EReal) = bS x0 x1 x2 x3 x4 x5 x6 x7 l s.val
  g : ∀ s l, (V (Proc.devRef .tc main_v80_2) (ix2 s l) : EReal) = gS x0 l s.val
  k : V (Proc.devRef .tc main_v80_3) = constantI S_ 32 (BitVec.ofNat 32 n)
  h : ∀ l, (V (Proc.devRef .tc main_v80_4) (ix1 l) : EReal) = hS x0 x1 x2 x3 x4 x5 x6 x7 l n
  o : ∀ s l, s.val < n → (V (Proc.devRef .tc main_v80_5) (ix2 s l) : EReal) = hS x0 x1 x2 x3 x4 x5 x6 x7 l (s.val + 1)
  y : ∀ s l, s.val < n → (V (Proc.devRef .tc main_v80_6) (ix2 s l) : EReal) = hS x0 x1 x2 x3 x4 x5 x6 x7 l (s.val + 1) * gS x0 l s.val

variable {x0 x1 x2 x3 x4 x5 x6 x7} {V : Valuation τ sig (Elt I)} {n : ℕ}

theorem new_at (H : After x0 x1 x2 x3 x4 x5 x6 x7 V n) (hn : n < 4096) (l : Fin 1024) :
    (res_main_while0b_v85 V (ix1 l) : EReal) = hS x0 x1 x2 x3 x4 x5 x6 x7 l (n + 1) := by
  have ea := (row_at (V (Proc.devRef .tc main_v80_0)) n hn l _ H.k).trans (H.a ⟨n, hn⟩ l)
  have eb := (row_at (V (Proc.devRef .tc main_v80_1)) n hn l _ H.k).trans (H.b ⟨n, hn⟩ l)
  unfold res_main_while0b_v85
  exact congrArg₂ (fun s t : EReal => s + t) (congrArg₂ (fun s t : EReal => s * t) ea (H.h l)) eb

theorem after_step (H : After x0 x1 x2 x3 x4 x5 x6 x7 V n) (hn : n < 4096) : After x0 x1 x2 x3 x4 x5 x6 x7 (STEP V) (n + 1) where
  a s l := by rw [STEP_main_v80_0]; exact H.a s l
  b s l := by rw [STEP_main_v80_1]; exact H.b s l
  g s l := by rw [STEP_main_v80_2]; exact H.g s l
  k := by
    rw [STEP_main_v80_3]
    unfold step_main_v80_3
    rw [H.k]
    funext i
    show BitVec.ofNat 32 n + 1#32 = BitVec.ofNat 32 (n + 1)
    rw [BitVec.ofNat_add]
  h l := by rw [STEP_main_v80_4]; exact new_at H hn l
  o s l hs := by
    rw [STEP_main_v80_5]
    unfold step_main_v80_5
    refine (put_at (V (Proc.devRef .tc main_v80_5)) (res_main_while0b_v85 V) n hn s l _ H.k).trans ?_
    by_cases e : s.val = n
    · rw [if_pos e, e]; exact new_at H hn l
    · rw [if_neg e]; exact H.o s l (by omega)
  y s l hs := by
    rw [STEP_main_v80_6]
    unfold step_main_v80_6
    refine (put_at (V (Proc.devRef .tc main_v80_6)) _ n hn s l _ H.k).trans ?_
    by_cases e : s.val = n
    · rw [if_pos e, e]
      exact congrArg₂ (fun s t : EReal => s * t) (new_at H hn l) ((row_at (V (Proc.devRef .tc main_v80_2)) n hn l _ H.k).trans (H.g ⟨n, hn⟩ l))
    · rw [if_neg e]; exact H.y s l (by omega)

theorem after_iter (H : After x0 x1 x2 x3 x4 x5 x6 x7 V 0) : ∀ n, n ≤ 4096 → After x0 x1 x2 x3 x4 x5 x6 x7 (STEP^[n] V) n
  | 0, _ => H
  | n + 1, hn => by
    rw [Function.iterate_succ_apply']
    exact after_step (after_iter H n (by omega)) (by omega)

end Loop

set_option maxHeartbeats 1000000 in
set_option maxRecDepth 65536 in
/-- The buffers the loop starts from. -/
theorem entry (m : (ℓ : Loc nD τ sig) → Buf (Elt I) ℓ) (c : Dev nD) :
    let V := entryContents preI m c
    let f := fun {α : Type} (A : _ → _ → _ → _ → _ → _ → _ → _ → α) => A (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
    V (Proc.devRef .tc main_v80_0) = f (Step.A_main_v68 (F := I)) ∧ V (Proc.devRef .tc main_v80_1) = f (Step.A_main_v75 (F := I)) ∧ V (Proc.devRef .tc main_v80_2) = f (Step.A_main_v77 (F := I))
      ∧ V (Proc.devRef .tc main_v80_3) = constantI S_ 32 (BitVec.ofNat 32 0) ∧ V (Proc.devRef .tc main_v80_4) = Step.K_main_v76 (F := I) := by
  refine ⟨?_, ?_, ?_, ?_, ?_⟩ <;> (simp only [entryContents, afterL_cons, afterL_nil]; after_reads_simp) <;> rfl

theorem after_zero (m : (ℓ : Loc nD τ sig) → Buf (Elt I) ℓ) (c : Dev nD) :
    After (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) (entryContents preI m c) 0 := by
  obtain ⟨ea, eb, eg, ek, eh⟩ := entry m c
  refine ⟨fun s l => ?_, fun s l => ?_, fun s l => ?_, ek, fun l => ?_, fun s l h => absurd h (Nat.not_lt_zero _), fun s l h => absurd h (Nat.not_lt_zero _)⟩
  · rw [ea]; exact v68_at _ _ _ _ _ _ _ _ s l
  · rw [eb]; exact v75_at _ _ _ _ _ _ _ _ s l
  · rw [eg]; exact v77_at _ _ _ _ _ _ _ _ s l
  · rw [eh]; exact Ideal.ofBits_zero_f32

end Cert.Reference8Ideal.Rows

end
-- ==== Proof.Rg.Claims.lean ====
/- The gated linear recurrence: its values and its frames. -/
module

public import proofs.«01_k».proof.Defs
public import proofs.«01_k».proof.Proof.Rg.Kernel
public import proofs.«01_k».proof.Proof.Rg.Loop
public import proofs.«01_k».proof.Proof.Gen.Kernel8
public import Idealize.ShloMosaic.Adequacy
public import Idealize.ShloMosaic.Init

@[expose] public section

set_option maxRecDepth 16384

noncomputable section

open Idealize.ShloMosaic Idealize.ShloMosaic.TcCoe Idealize.SL.Sem

namespace Cert.Rg

theorem rg_value : Cert.algebraic_Kernel8Ideal_Reference8Ideal := fun m ρ m' ρ' _ hm => by
  refine ⟨fun c => (Cert.Kernel8Ideal.Gen.dats m 0 c).arrAt 6 Cert.Kernel8Ideal.cfg0.N, fun c => (Cert.Kernel8Ideal.Gen.dats m 0 c).arrAt 7 Cert.Kernel8Ideal.cfg0.N,
    Cert.Kernel8Ideal.Value.run_blocks m ρ,
    (θ_run Cert.Reference8Ideal.defs _ _).mono (fun _ h c => ⟨(h c).1.trans ?_, (h c).2.1.trans ?_, (h c).2.2⟩) (Cert.Reference8Ideal.Value.run m' ρ')⟩
  · have H := Cert.Reference8Ideal.Rows.after_iter (Cert.Reference8Ideal.Rows.after_zero m' c) 4096 le_rfl
    obtain ⟨e0, e1, e2, e3, e4, e5, e6, e7⟩ := hm c
    rw [e0, e1, e2, e3, e4, e5, e6, e7] at H
    dsimp only; rw [Cert.Kernel8Ideal.Value.fin_h]
    exact funext fun i => (congrArg _ (eq_ix2 i)).trans (H.o (i 0) (i 1) (i 0).isLt)
  · have H := Cert.Reference8Ideal.Rows.after_iter (Cert.Reference8Ideal.Rows.after_zero m' c) 4096 le_rfl
    obtain ⟨e0, e1, e2, e3, e4, e5, e6, e7⟩ := hm c
    rw [e0, e1, e2, e3, e4, e5, e6, e7] at H
    dsimp only; rw [Cert.Kernel8Ideal.Value.fin_y]
    exact funext fun i => (congrArg _ (eq_ix2 i)).trans (H.y (i 0) (i 1) (i 0).isLt)

theorem defs_kernel8 : Cert.Kernel8.defs (F := Bits) = Cert.Kernel8Ideal.defs (F := Bits) := by sl_kernel_rfl

theorem main_kernel8 : Cert.Kernel8.main (F := Bits) = Cert.Kernel8Ideal.main (F := Bits) := by sl_kernel_rfl

theorem frame_kernel8 : Cert.quiescent_Kernel8 := fun m ρ _ => by
  rw [defs_kernel8, main_kernel8]
  exact Cert.Kernel8Ideal.Gen.frame (F := Bits) m ρ

theorem frame_reference8 : Cert.quiescent_Reference8Ideal := fun m ρ _ =>
  (θ_run Cert.Reference8Ideal.defs _ _).mono (fun r h => ⟨fun c => (h c).2.2, sem_eq_zero_of_no_sems rfl r.2⟩) (Cert.Reference8Ideal.Value.run m ρ)

end Cert.Rg

end
-- ==== Proof.Plain.Adam.lean ====
/- The optimiser's step on the small parameters, element by element. -/
module

public import proofs.«01_k».proof.Defs
public import proofs.«01_k».proof.Proof.Gen.Kernel9
public import proofs.«01_k».proof.Proof.Gen.Kernel9Ideal.Value
public import proofs.«01_k».proof.Proof.Gen.Reference9Ideal.Read
public import proofs.«01_k».proof.Proof.Gen.Reference9Ideal.Run
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem

namespace Cert.Adam

open Cert.Kernel9Ideal Cert.Kernel9Ideal.Gen Cert.Kernel9Ideal.Value
open Cert.Reference9Ideal.Read

local notation "I" => Idealize.ShloMosaic.Ideal

variable (a0 : Vec I S8x16x1024 .f32) (a1 a2 a3 : Vec I S16x1024 .f32) (r : Fin 16) (l : Fin 1024)

theorem part_at (k : Fin 8) : idx_main_v0 (ix2 r l) k = ix3 k r l := by
  funext a
  refine Fin.cases ?_ (fun a => Fin.cases ?_ (fun a => Fin.cases ?_ (fun a => a.elim0) a) a) a <;> rfl

/-- The gradient: the sum of the eight devices' parts. -/
theorem grad_at : (k0_pay5 (F := I) a0 a1 a2 a3 (ix2 r l) : EReal) = val_main_v0 (F := I) a0 (ix2 r l) := by
  rw [val_main_v0_apply, Fin.sum_univ_eight, val_main_cst_apply]
  unfold k0_pay5 k0_pay3
  pointwise
  simp only [part_at]

/-- The first moment. -/
theorem first_at : (k0_pay6 (F := I) a0 a1 a2 a3 (ix2 r l) : EReal) = val_main_v5 (F := I) a0 a2 (ix2 r l) := by
  have g := grad_at a0 a1 a2 a3 r l
  unfold k0_pay5 at g
  unfold k0_pay6 k0_pay4
  pointwise
  rw [g, val_main_v5_apply, val_main_v2_apply, val_main_v4_apply, val_main_v1_apply, val_main_v3_apply, val_main_cst_0_apply, val_main_cst_1_apply]
  rfl

/-- The second moment. -/
theorem second_at : (k0_pay1 (F := I) (k0_pay5 a0 a1 a2 a3) a3 (ix2 r l) : EReal) = val_main_v11 (F := I) a0 a3 (ix2 r l) := by
  unfold k0_pay1
  pointwise
  rw [grad_at, val_main_v11_apply, val_main_v7_apply, val_main_v10_apply, val_main_v8_apply, val_main_v6_apply, val_main_v9_apply, val_main_cst_2_apply, val_main_cst_3_apply]
  rfl

/-- The step of the weights. -/
theorem delta_at : (k0_pay2 (F := I) (k0_pay5 a0 a1 a2 a3) (k0_pay6 a0 a1 a2 a3) a3 a1 (ix2 r l) : EReal) = val_main_v24 (F := I) a0 a1 a2 a3 (ix2 r l) := by
  unfold k0_pay2
  pointwise
  rw [first_at, second_at, val_main_v24_apply, val_main_v22_apply, val_main_v19_apply, val_main_v13_apply, val_main_v18_apply, val_main_v16_apply,
    val_main_v15_apply, val_main_v21_apply, val_main_v23_apply, val_main_v12_apply, val_main_v14_apply, val_main_v17_apply, val_main_v20_apply,
    val_main_cst_4_apply, val_main_cst_5_apply, val_main_cst_6_apply, val_main_cst_7_apply, val_main_cst_8_apply]
  rfl

theorem ext2 {f g : S16x1024.Idx → EReal} (h : ∀ r l, f (ix2 r l) = g (ix2 r l)) : f = g := by
  funext i
  idx_vars i
  exact h _ _

/-- The optimiser's step: the gradient, the step of the weights and the two moments. -/
theorem adam_value : Cert.algebraic_Kernel9Ideal_Reference9Ideal := fun m ρ m' ρ' _ hm => by
  refine ⟨_, _, _, _, Cert.Kernel9Ideal.Value.run m ρ,
    (θ_run Cert.Reference9Ideal.defs _ _).mono (fun _ h c => ⟨(h c).1.trans ?_, (h c).2.1.trans ?_, (h c).2.2.1.trans ?_, (h c).2.2.2.1.trans ?_, (h c).2.2.2.2⟩)
      (Cert.Reference9Ideal.Value.run m' ρ')⟩ <;>
    simp only [val_main_v0_eq, val_main_v24_eq, val_main_v5_eq, val_main_v11_eq, (hm c).1, (hm c).2.1, (hm c).2.2.1, (hm c).2.2.2]
  · exact (ext2 fun r l => grad_at _ _ _ _ r l).symm
  · exact (ext2 fun r l => delta_at _ _ _ _ r l).symm
  · exact (ext2 fun r l => first_at _ _ _ _ r l).symm
  · exact (ext2 fun r l => second_at _ _ _ _ r l).symm

theorem defs_kernel9 : Cert.Kernel9.defs (F := Bits) = Cert.Kernel9Ideal.defs (F := Bits) := by sl_kernel_rfl

theorem main_kernel9 : Cert.Kernel9.main (F := Bits) = Cert.Kernel9Ideal.main (F := Bits) := by sl_kernel_rfl

theorem frame_kernel9 : Cert.quiescent_Kernel9 := fun m ρ _ => by
  rw [defs_kernel9, main_kernel9]
  exact Cert.Kernel9Ideal.Gen.frame (F := Bits) m ρ

theorem frame_reference9 : Cert.quiescent_Reference9Ideal := fun m ρ _ =>
  (θ_run Cert.Reference9Ideal.defs _ _).mono (fun r h => ⟨fun c => (h c).2.2.2.2, sem_eq_zero_of_no_sems rfl r.2⟩) (Cert.Reference9Ideal.Value.run m ρ)

end Cert.Adam

end
-- ==== Proof.Plain.Mat.lean ====
/- The input projection of an attention layer: a plain product, tile by tile. -/
module

public import proofs.«01_k».proof.Defs
public import proofs.«01_k».proof.Proof.Gen.Kernel10
public import proofs.«01_k».proof.Proof.Gen.Kernel10Ideal.Value
public import proofs.«01_k».proof.Proof.Gen.Reference10Ideal.Read
public import proofs.«01_k».proof.Proof.Gen.Reference10Ideal.Run
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel10Ideal.Value

open Cert.Kernel10Ideal Cert.Kernel10Ideal.Gen

local notation "I" => Idealize.ShloMosaic.Ideal

variable (m : (ℓ : Loc nD τ sig) → Buf (Elt I) ℓ) (c : Dev nD)

theorem idx0 : ∀ t : Fin cfg0.N, win0_0.index t = ![t.val % 8, 0] := (by decide +kernel : ∀ t : Fin grid0.N, win0_0.index t = ![t.val % 8, 0])
theorem idx1 : ∀ t : Fin cfg0.N, win0_1.index t = ![0, t.val / 8] := (by decide +kernel : ∀ t : Fin grid0.N, win0_1.index t = ![0, t.val / 8])
theorem idx2 : ∀ t : Fin cfg0.N, win0_2.index t = ![t.val % 8, t.val / 8] := (by decide +kernel : ∀ t : Fin grid0.N, win0_2.index t = ![t.val % 8, t.val / 8])

/-- Entry `(s, e)` of the product. -/
def prod (a : S4096x1024.Idx → EReal) (w : S1024x4224.Idx → EReal) (s : Fin 4096) (e : Fin 4224) : EReal := ∑ k : Fin 1024, a (ix2 s k) * w (ix2 k e)

theorem row_lt (t : Fin cfg0.N) (r : Fin 512) : 512 * (t.val % 8) + r.val < 4096 := by omega
theorem col_lt (t : Fin cfg0.N) (l : Fin 1408) : 1408 * (t.val / 8) + l.val < 4224 := by
  have hN : cfg0.N = 24 := N_0
  have := t.isLt
  omega

theorem blk0 (t : Fin cfg0.N) (r : Fin 512) (k : Fin 1024) :
    (iblk m c 0 t (ix2 r k) : EReal) = m ((c.tc : Thread nD τ).loc main_arg0) (ix2 ⟨_, row_lt t r⟩ k) := by
  rw [← V_main_arg0 m c]
  blk_ext [iblk, idx0 t]
theorem blk1 (t : Fin cfg0.N) (k : Fin 1024) (l : Fin 1408) :
    (iblk m c 1 t (ix2 k l) : EReal) = m ((c.tc : Thread nD τ).loc main_arg1) (ix2 k ⟨_, col_lt t l⟩) := by
  rw [← V_main_arg1 m c]
  blk_ext [iblk, idx1 t]

theorem pay1_at (t : Fin cfg0.N) (r : Fin 512) (l : Fin 1408) : (k0_pay1 (F := I) (iblk m c 0 t) (iblk m c 1 t) (ix2 r l) : EReal)
    = prod (m ((c.tc : Thread nD τ).loc main_arg0)) (m ((c.tc : Thread nD τ).loc main_arg1)) ⟨_, row_lt t r⟩ ⟨_, col_lt t l⟩ := by
  unfold k0_pay1
  pointwise
  simp only [blk0, blk1]
  rfl

theorem fin_proj : (dats m 0 c).arrAt 2 cfg0.N
    = fun i : S4096x4224.Idx => prod (m ((c.tc : Thread nD τ).loc main_arg0)) (m ((c.tc : Thread nD τ).loc main_arg1)) (i 0) (i 1) := by
  refine (dats m 0 c).arrAt_eq_of_covers 2 _ (by decide +kernel) fun t hf y => ?_
  blk_simp
  rw [after0_2]
  idx_vars y
  have e : out0_2 (F := I) (iblk m c 0 t) (iblk m c 1 t) = k0_pay1 (iblk m c 0 t) (iblk m c 1 t) := by
    unfold out0_2
    frame_out
  have i0 : win0_2.index t 0 = t.val % 8 := congrFun (idx2 t) 0
  have i1 : win0_2.index t 1 = t.val / 8 := congrFun (idx2 t) 1
  refine (congrFun e _).trans ((pay1_at m c t y0 y1).trans (congrArg₂ (prod _ _) (Fin.ext ?_) (Fin.ext ?_)))
  · blk_simp; rw [i0]; show 512 * (t.val % 8) + y0.val = t.val % 8 * 512 + y0.val; omega
  · blk_simp; rw [i1]; show 1408 * (t.val / 8) + y1.val = t.val / 8 * 1408 + y1.val; omega

end Cert.Kernel10Ideal.Value

namespace Cert.Mat

open Cert.Reference10Ideal.Read in
theorem mat_value : Cert.algebraic_Kernel10Ideal_Reference10Ideal := fun m ρ m' ρ' _ hm => by
  refine ⟨fun c => (Cert.Kernel10Ideal.Gen.dats m 0 c).arrAt 2 Cert.Kernel10Ideal.cfg0.N, Cert.Kernel10Ideal.Value.run_blocks m ρ,
    (θ_run Cert.Reference10Ideal.defs _ _).mono (fun _ h c => ⟨(h c).1.trans ?_, (h c).2⟩) (Cert.Reference10Ideal.Value.run m' ρ')⟩
  rw [val_main_v1_eq, (hm c).1, (hm c).2]; dsimp only; rw [Cert.Kernel10Ideal.Value.fin_proj]
  refine funext fun i => (val_main_v1_apply _ _ i).trans (Finset.sum_congr rfl fun k _ => ?_)
  exact congrArg₂ (fun a b : EReal => a * b) (congrArg _ (funext fun a => by refine Fin.cases rfl (fun a => Fin.cases rfl (fun a => a.elim0) a) a))
    (congrArg (m ((c.tc : Thread _ _).loc Cert.Kernel10Ideal.main_arg1)) (funext fun a => by refine Fin.cases rfl (fun a => Fin.cases rfl (fun a => a.elim0) a) a))

theorem defs_kernel10 : Cert.Kernel10.defs (F := Bits) = Cert.Kernel10Ideal.defs (F := Bits) := by sl_kernel_rfl

theorem main_kernel10 : Cert.Kernel10.main (F := Bits) = Cert.Kernel10Ideal.main (F := Bits) := by sl_kernel_rfl

theorem frame_kernel10 : Cert.quiescent_Kernel10 := fun m ρ _ => by
  rw [defs_kernel10, main_kernel10]
  exact Cert.Kernel10Ideal.Gen.frame (F := Bits) m ρ

theorem frame_reference10 : Cert.quiescent_Reference10Ideal := fun m ρ _ =>
  (θ_run Cert.Reference10Ideal.defs _ _).mono (fun r h => ⟨fun c => (h c).2, sem_eq_zero_of_no_sems rfl r.2⟩) (Cert.Reference10Ideal.Value.run m ρ)

end Cert.Mat

end
-- ==== Proof.Plain.MatT.lean ====
/- A weight gradient of a recurrent layer: a plain product summed over blocks of rows. -/
module

public import proofs.«01_k».proof.Defs
public import proofs.«01_k».proof.Proof.Gen.Kernel11
public import proofs.«01_k».proof.Proof.Gen.Kernel11Ideal.Value
public import proofs.«01_k».proof.Proof.Gen.Reference11Ideal.Read
public import proofs.«01_k».proof.Proof.Gen.Reference11Ideal.Run
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel11Ideal.Value

open Cert.Kernel11Ideal Cert.Kernel11Ideal.Gen

local notation "I" => Idealize.ShloMosaic.Ideal

variable (m : (ℓ : Loc nD τ sig) → Buf (Elt I) ℓ) (c : Dev nD)

theorem idx0 : ∀ t : Fin cfg0.N, win0_0.index t = ![t.val % 4, t.val / 4] := (by decide +kernel : ∀ t : Fin grid0.N, win0_0.index t = ![t.val % 4, t.val / 4])
theorem idx1 : ∀ t : Fin cfg0.N, win0_1.index t = ![t.val % 4, 0] := (by decide +kernel : ∀ t : Fin grid0.N, win0_1.index t = ![t.val % 4, 0])
theorem idx2 : ∀ t : Fin cfg0.N, win0_2.index t = ![t.val / 4, 0] := (by decide +kernel : ∀ t : Fin grid0.N, win0_2.index t = ![t.val / 4, 0])

/-- Row `s`'s term of entry `(d, e)` of the product, zero past the last row. -/
def term (a : S4096x1024.Idx → EReal) (b : S4096x2048.Idx → EReal) (d : Fin 1024) (e : Fin 2048) (s : ℕ) : EReal :=
  if h : s < 4096 then a (ix2 ⟨s, h⟩ d) * b (ix2 ⟨s, h⟩ e) else 0

theorem row_lt (t : Fin cfg0.N) (k : Fin 1024) : 1024 * (t.val % 4) + k.val < 4096 := by omega
theorem col_lt (t : Fin cfg0.N) (r : Fin 512) : 512 * (t.val / 4) + r.val < 1024 := by
  have hN : cfg0.N = 8 := N_0
  have := t.isLt
  omega

theorem blk0 (t : Fin cfg0.N) (k : Fin 1024) (r : Fin 512) :
    (iblk m c 0 t (ix2 k r) : EReal) = m ((c.tc : Thread nD τ).loc main_arg0) (ix2 ⟨_, row_lt t k⟩ ⟨_, col_lt t r⟩) := by
  rw [← V_main_arg0 m c]
  blk_ext [iblk, idx0 t]
theorem blk1 (t : Fin cfg0.N) (k : Fin 1024) (l : Fin 2048) :
    (iblk m c 1 t (ix2 k l) : EReal) = m ((c.tc : Thread nD τ).loc main_arg1) (ix2 ⟨_, row_lt t k⟩ l) := by
  rw [← V_main_arg1 m c]
  blk_ext [iblk, idx1 t]

/-- The terms of one entry, of the call's arguments. -/
def tm (d : Fin 1024) (e : Fin 2048) : ℕ → EReal := term (m ((c.tc : Thread nD τ).loc main_arg0)) (m ((c.tc : Thread nD τ).loc main_arg1)) d e

/-- A point adds its block of rows. -/
theorem pay2_at (t : Fin cfg0.N) (acc : Vec I S512x2048 .f32) (r : Fin 512) (l : Fin 2048)
    (ha : (acc (ix2 r l) : EReal) = ∑ s ∈ Finset.range (1024 * (t.val % 4)), tm m c ⟨_, col_lt t r⟩ l s) :
    (k0_pay2 (F := I) acc (iblk m c 0 t) (iblk m c 1 t) (ix2 r l) : EReal)
      = ∑ s ∈ Finset.range (1024 * (t.val % 4 + 1)), tm m c ⟨_, col_lt t r⟩ l s := by
  unfold k0_pay2
  pointwise
  rw [ha, Nat.mul_succ, Finset.sum_range_add]
  refine congrArg (_ + ·) (Eq.trans ?_ (Finset.sum_range (fun s => tm m c ⟨_, col_lt t r⟩ l (1024 * (t.val % 4) + s))).symm)
  refine Finset.sum_congr rfl fun k _ => ?_
  rw [blk0, blk1]
  unfold tm term
  rw [dif_pos (row_lt t k)]

theorem carry (r : Fin 512) (l : Fin 2048) : ∀ (n : ℕ) (h : n < cfg0.N),
    (outsAt0 m c n h (ix2 r l) : EReal) = ∑ s ∈ Finset.range (1024 * (n % 4 + 1)), tm m c ⟨_, col_lt ⟨n, h⟩ r⟩ l s
  | 0, h => by
    have e := outsAt_2_eq m c ⟨0, h⟩
    dsimp only at e
    rw [e]
    refine pay2_at m c ⟨0, h⟩ _ r l ?_
    unfold k0_pay1
    pointwise
    simp
  | n + 1, h => by
    have ih := carry r l n (by omega)
    by_cases h0 : (n + 1) % 4 = 0
    · rw [outsAt0_A m c ⟨n + 1, h⟩ h0]
      refine (congrFun (out_A_2_eq ..) _).trans (pay2_at m c ⟨n + 1, h⟩ _ r l ?_)
      unfold k0_pay1
      pointwise
      show (0 : EReal) = ∑ s ∈ Finset.range (1024 * ((n + 1) % 4)), _
      rw [h0]; simp
    · rw [outsAt0_B m c ⟨n + 1, h⟩ h0]
      refine (congrFun (out_B_2_eq ..) _).trans (pay2_at m c ⟨n + 1, h⟩ _ r l ?_)
      have e1 : n % 4 + 1 = (n + 1) % 4 := by omega
      have e2 : n / 4 = (n + 1) / 4 := by omega
      refine ih.trans ?_
      simp only [e1, e2]

theorem fin_dw : (dats m 0 c).arrAt 2 cfg0.N = fun i : S1024x2048.Idx => ∑ s ∈ Finset.range 4096, tm m c (i 0) (i 1) s := by
  refine (dats m 0 c).arrAt_eq_of_covers 2 _ (by decide +kernel) fun t hf y => ?_
  have h3 : t.val % 4 = 3 := (by decide +kernel : ∀ t : Fin grid0.N, (cfg0.win 2).flush t = true → t.val % 4 = 3) t hf
  blk_simp
  rw [after0_2]
  idx_vars y
  have i0 : win0_2.index t 0 = t.val / 4 := congrFun (idx2 t) 0
  have i1 : win0_2.index t 1 = 0 := congrFun (idx2 t) 1
  refine (carry m c y0 y1 t.val t.isLt).trans ?_
  rw [h3]
  refine congrArg (Finset.sum (Finset.range 4096)) (congrArg₂ (tm m c) (Fin.ext ?_) (Fin.ext ?_))
  · blk_simp; rw [i0]; show 512 * (t.val / 4) + y0.val = t.val / 4 * 512 + y0.val; omega
  · blk_simp; rw [i1]; omega

end Cert.Kernel11Ideal.Value

namespace Cert.MatT

open Cert.Reference11Ideal.Read in
theorem matT_value : Cert.algebraic_Kernel11Ideal_Reference11Ideal := fun m ρ m' ρ' _ hm => by
  refine ⟨fun c => (Cert.Kernel11Ideal.Gen.dats m 0 c).arrAt 2 Cert.Kernel11Ideal.cfg0.N, Cert.Kernel11Ideal.Value.run_blocks m ρ,
    (θ_run Cert.Reference11Ideal.defs _ _).mono (fun _ h c => ⟨(h c).1.trans ?_, (h c).2⟩) (Cert.Reference11Ideal.Value.run m' ρ')⟩
  rw [val_main_v5_eq, (hm c).1, (hm c).2]; dsimp only; rw [Cert.Kernel11Ideal.Value.fin_dw]
  refine funext fun i => (val_main_v5_apply _ _ i).trans ((val_main_v4_apply _ _ _).trans (Eq.trans ?_ (Finset.sum_range _).symm))
  refine Finset.sum_congr rfl fun k _ => ?_
  unfold Cert.Kernel11Ideal.Value.tm Cert.Kernel11Ideal.Value.term
  rw [dif_pos k.isLt]
  refine (mul_comm _ _).trans (congrArg₂ (fun a b : EReal => a * b) (congrArg (m ((c.tc : Thread _ _).loc Cert.Kernel11Ideal.main_arg0)) ?_)
    (congrArg (m ((c.tc : Thread _ _).loc Cert.Kernel11Ideal.main_arg1)) ?_)) <;>
  exact funext fun a => by refine Fin.cases rfl (fun a => Fin.cases rfl (fun a => a.elim0) a) a

theorem defs_kernel11 : Cert.Kernel11.defs (F := Bits) = Cert.Kernel11Ideal.defs (F := Bits) := by sl_kernel_rfl

theorem main_kernel11 : Cert.Kernel11.main (F := Bits) = Cert.Kernel11Ideal.main (F := Bits) := by sl_kernel_rfl

theorem frame_kernel11 : Cert.quiescent_Kernel11 := fun m ρ _ => by
  rw [defs_kernel11, main_kernel11]
  exact Cert.Kernel11Ideal.Gen.frame (F := Bits) m ρ

theorem frame_reference11 : Cert.quiescent_Reference11Ideal := fun m ρ _ =>
  (θ_run Cert.Reference11Ideal.defs _ _).mono (fun r h => ⟨fun c => (h c).2, sem_eq_zero_of_no_sems rfl r.2⟩) (Cert.Reference11Ideal.Value.run m ρ)

end Cert.MatT

end
-- ==== Proof.Plain.Split.lean ====
/- A weight gradient cut into the eight devices' columns. -/
module

public import proofs.«01_k».proof.Defs
public import proofs.«01_k».proof.Proof.Gen.Kernel12
public import proofs.«01_k».proof.Proof.Gen.Kernel12Ideal.Value
public import proofs.«01_k».proof.Proof.Gen.Reference12Ideal.Read
public import proofs.«01_k».proof.Proof.Gen.Reference12Ideal.Run
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel12Ideal.Value

open Cert.Kernel12Ideal Cert.Kernel12Ideal.Gen

local notation "I" => Idealize.ShloMosaic.Ideal

variable (m : (ℓ : Loc nD τ sig) → Buf (Elt I) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![0, 0, t.val, 0] := (by decide +kernel : ∀ t : Fin grid0.N, win0_1.index t = ![0, 0, t.val, 0])

/-- The column of entry `l` of the part of device `(p, q)`. -/
def col (p : Fin 2) (q : Fin 4) (l : Fin 256) : Fin 2048 := ⟨256 * (2 * q.val + p.val) + l.val, by omega⟩

/-- The parts of one block of rows. -/
def cut (x : Vec I S256x2048 .f32) (y : S2x4x256x256.Idx) : Elt I .f32 := x (ix2 (y 2) (col (y 0) (y 1) (y 3)))

theorem out_eq (x : Vec I S256x2048 .f32) (y : S2x4x256x256.Idx) : (out0_1 (F := I) x y : EReal) = cut x y := by
  unfold out0_1
  refine View.canon_apply_of_pieces (cut x) _ ?_ y (cover0_1 _ _ _ _ _ _ _ _ y)
  intro pc hpc
  simp only [List.mem_cons, List.not_mem_nil, or_false] at hpc
  rcases hpc with rfl | rfl | rfl | rfl | rfl | rfl | rfl | rfl <;> intro j <;> idx_vars j <;> (try dsimp only) <;> (try unfold k0_pay1) <;> (try first | unfold k0_pay2 | unfold k0_pay3 | unfold k0_pay4| unfold k0_pay5| unfold k0_pay6| unfold k0_pay7| unfold k0_pay8| unfold k0_pay9) <;> pointwise <;>
    (unfold cut col; refine congrArg x (congrArg₂ ix2 (Fin.ext ?_) (Fin.ext ?_)) <;> blk_simp <;> dsimp only <;> omega)

theorem blk0 (t : Fin cfg0.N) (r : Fin 256) (l : Fin 2048) (h : 256 * t.val + r.val < 1024) :
    (iblk m c 0 t (ix2 r l) : EReal) = m ((c.tc : Thread nD τ).loc main_arg0) (ix2 ⟨_, h⟩ l) := by
  rw [← V_main_arg0 m c]
  blk_ext [iblk, idx0 t]

theorem fin_split : (dats m 0 c).arrAt 1 cfg0.N = fun i : S2x4x1024x256.Idx => m ((c.tc : Thread nD τ).loc main_arg0) (ix2 (i 2) (col (i 0) (i 1) (i 3))) := by
  refine (dats m 0 c).arrAt_eq_of_covers 1 _ (by decide +kernel) fun t hf y => ?_
  have hN : cfg0.N = 4 := N_0
  have ht : t.val < 4 := lt_of_lt_of_eq t.isLt hN
  blk_simp
  rw [after0_1]
  idx_vars y
  have i0 : win0_1.index t 0 = 0 := congrFun (idx1 t) 0
  have i1 : win0_1.index t 1 = 0 := congrFun (idx1 t) 1
  have i2 : win0_1.index t 2 = t.val := congrFun (idx1 t) 2
  have i3 : win0_1.index t 3 = 0 := congrFun (idx1 t) 3
  refine (out_eq _ _).trans ((blk0 m c t y2 (col y0 y1 y3) (by omega)).trans ?_)
  refine congrArg (m ((c.tc : Thread nD τ).loc main_arg0)) (congrArg₂ ix2 (Fin.ext ?_) (congr (congr (congrArg col (Fin.ext ?_)) (Fin.ext ?_)) (Fin.ext ?_)))
  · blk_simp; rw [i2]; show 256 * t.val + y2.val = t.val * 256 + y2.val; omega
  · blk_simp; rw [i0]; omega
  · blk_simp; rw [i1]; omega
  · blk_simp; rw [i3]; omega

end Cert.Kernel12Ideal.Value

namespace Cert.Split

open Cert.Kernel12Ideal.Value

open Cert.Reference12Ideal.Read in
theorem split_value : Cert.algebraic_Kernel12Ideal_Reference12Ideal := fun m ρ m' ρ' _ hm => by
  refine ⟨fun c => (Cert.Kernel12Ideal.Gen.dats m 0 c).arrAt 1 Cert.Kernel12Ideal.cfg0.N, Cert.Kernel12Ideal.Value.run_blocks m ρ,
    (θ_run Cert.Reference12Ideal.defs _ _).mono (fun _ h c => ⟨(h c).1.trans ?_, (h c).2⟩) (Cert.Reference12Ideal.Value.run m' ρ')⟩
  rw [val_main_v1_eq, hm c]; dsimp only; rw [fin_split]
  refine funext fun i => (val_main_v1_apply _ i).trans ((val_main_v0_apply _ _).trans ?_)
  idx_vars i
  refine congrArg (m ((c.tc : Thread _ _).loc Cert.Kernel12Ideal.main_arg0)) (funext fun a => ?_)
  refine Fin.cases (Fin.ext ?_) (fun a => Fin.cases (Fin.ext ?_) (fun a => a.elim0) a) a
  · show (((i2.val * 4 + i1.val) * 2 + i0.val) * 256 + i3.val) / 2048 = i2.val; omega
  · show (((i2.val * 4 + i1.val) * 2 + i0.val) * 256 + i3.val) % 2048 = 256 * (2 * i1.val + i0.val) + i3.val; omega

theorem defs_kernel12 : Cert.Kernel12.defs (F := Bits) = Cert.Kernel12Ideal.defs (F := Bits) := by sl_kernel_rfl

theorem main_kernel12 : Cert.Kernel12.main (F := Bits) = Cert.Kernel12Ideal.main (F := Bits) := by sl_kernel_rfl

theorem frame_kernel12 : Cert.quiescent_Kernel12 := fun m ρ _ => by
  rw [defs_kernel12, main_kernel12]
  exact Cert.Kernel12Ideal.Gen.frame (F := Bits) m ρ

theorem frame_reference12 : Cert.quiescent_Reference12Ideal := fun m ρ _ =>
  (θ_run Cert.Reference12Ideal.defs _ _).mono (fun r h => ⟨fun c => (h c).2, sem_eq_zero_of_no_sems rfl r.2⟩) (Cert.Reference12Ideal.Value.run m ρ)

end Cert.Split

end
-- ==== Proof.Plain.Join.lean ====
/- The gathered columns of a weight put side by side, with zeros behind them. -/
module

public import proofs.«01_k».proof.Defs
public import proofs.«01_k».proof.Proof.Gen.Kernel13
public import proofs.«01_k».proof.Proof.Gen.Kernel13Ideal.Value
public import proofs.«01_k».proof.Proof.Gen.Reference13Ideal.Read
public import proofs.«01_k».proof.Proof.Gen.Reference13Ideal.Run
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel13Ideal.Value

open Cert.Kernel13Ideal Cert.Kernel13Ideal.Gen

local notation "I" => Idealize.ShloMosaic.Ideal

variable (m : (ℓ : Loc nD τ sig) → Buf (Elt I) ℓ) (c : Dev nD)

/-- The joined columns at row `R` and column `l`. -/
def joined (g : S2x4x1024x514.Idx → EReal) (R : Fin 1024) (l : Fin 4224) : EReal :=
  if h : l.val < 4112 then g (ix4 ⟨l.val / 514 % 2, by omega⟩ ⟨l.val / 1028, by omega⟩ R ⟨l.val % 514, by omega⟩) else 0

theorem joined_of (g : S2x4x1024x514.Idx → EReal) (R : Fin 1024) (l : Fin 4224) (k : ℕ) (p : Fin 2) (q : Fin 4) (j : Fin 514)
    (hp : p.val = k % 2) (hq : q.val = k / 2) (h : l.val = 514 * k + j.val) : joined g R l = g (ix4 p q R j) := by
  unfold joined
  rw [dif_pos (by omega)]
  refine congrArg g (congr (congr (congr (congrArg ix4 (Fin.ext ?_)) (Fin.ext ?_)) rfl) (Fin.ext ?_)) <;> dsimp only <;> omega

theorem row_lt (t : Fin cfg0.N) (r : Fin 256) : 256 * t.val + r.val < 1024 := by
  have hN : cfg0.N = 4 := N_0
  have := t.isLt
  omega

theorem idx0 : ∀ t : Fin cfg0.N, win0_0.index t = ![0, 0, t.val, 0] := (by decide +kernel : ∀ t : Fin grid0.N, win0_0.index t = ![0, 0, t.val, 0])
theorem idx1 : ∀ t : Fin cfg0.N, win0_1.index t = ![1, 0, t.val, 0] := (by decide +kernel : ∀ t : Fin grid0.N, win0_1.index t = ![1, 0, t.val, 0])
theorem idx2 : ∀ t : Fin cfg0.N, win0_2.index t = ![0, 1, t.val, 0] := (by decide +kernel : ∀ t : Fin grid0.N, win0_2.index t = ![0, 1, t.val, 0])
theorem idx3 : ∀ t : Fin cfg0.N, win0_3.index t = ![1, 1, t.val, 0] := (by decide +kernel : ∀ t : Fin grid0.N, win0_3.index t = ![1, 1, t.val, 0])
theorem idx4 : ∀ t : Fin cfg0.N, win0_4.index t = ![0, 2, t.val, 0] := (by decide +kernel : ∀ t : Fin grid0.N, win0_4.index t = ![0, 2, t.val, 0])
theorem idx5 : ∀ t : Fin cfg0.N, win0_5.index t = ![1, 2, t.val, 0] := (by decide +kernel : ∀ t : Fin grid0.N, win0_5.index t = ![1, 2, t.val, 0])
theorem idx6 : ∀ t : Fin cfg0.N, win0_6.index t = ![0, 3, t.val, 0] := (by decide +kernel : ∀ t : Fin grid0.N, win0_6.index t = ![0, 3, t.val, 0])
theorem idx7 : ∀ t : Fin cfg0.N, win0_7.index t = ![1, 3, t.val, 0] := (by decide +kernel : ∀ t : Fin grid0.N, win0_7.index t = ![1, 3, t.val, 0])
theorem idx8 : ∀ t : Fin cfg0.N, win0_8.index t = ![t.val, 0] := (by decide +kernel : ∀ t : Fin grid0.N, win0_8.index t = ![t.val, 0])

/-- The call's argument. -/
abbrev arg : S2x4x1024x514.Idx → EReal := m ((c.tc : Thread nD τ).loc main_arg0)

theorem blk0 (t : Fin cfg0.N) (r : Fin 256) (j : Fin 514) : (iblk m c 0 t (ix4 0 0 r j) : EReal) = arg m c (ix4 0 0 ⟨_, row_lt t r⟩ j) := by
  unfold arg; rw [← V_main_arg0 m c]; blk_ext [iblk, idx0 t]
theorem blk1 (t : Fin cfg0.N) (r : Fin 256) (j : Fin 514) : (iblk m c 1 t (ix4 0 0 r j) : EReal) = arg m c (ix4 1 0 ⟨_, row_lt t r⟩ j) := by
  unfold arg; rw [← V_main_arg0 m c]; blk_ext [iblk, idx1 t]
theorem blk2 (t : Fin cfg0.N) (r : Fin 256) (j : Fin 514) : (iblk m c 2 t (ix4 0 0 r j) : EReal) = arg m c (ix4 0 1 ⟨_, row_lt t r⟩ j) := by
  unfold arg; rw [← V_main_arg0 m c]; blk_ext [iblk, idx2 t]
theorem blk3 (t : Fin cfg0.N) (r : Fin 256) (j : Fin 514) : (iblk m c 3 t (ix4 0 0 r j) : EReal) = arg m c (ix4 1 1 ⟨_, row_lt t r⟩ j) := by
  unfold arg; rw [← V_main_arg0 m c]; blk_ext [iblk, idx3 t]
theorem blk4 (t : Fin cfg0.N) (r : Fin 256) (j : Fin 514) : (iblk m c 4 t (ix4 0 0 r j) : EReal) = arg m c (ix4 0 2 ⟨_, row_lt t r⟩ j) := by
  unfold arg; rw [← V_main_arg0 m c]; blk_ext [iblk, idx4 t]
theorem blk5 (t : Fin cfg0.N) (r : Fin 256) (j : Fin 514) : (iblk m c 5 t (ix4 0 0 r j) : EReal) = arg m c (ix4 1 2 ⟨_, row_lt t r⟩ j) := by
  unfold arg; rw [← V_main_arg0 m c]; blk_ext [iblk, idx5 t]
theorem blk6 (t : Fin cfg0.N) (r : Fin 256) (j : Fin 514) : (iblk m c 6 t (ix4 0 0 r j) : EReal) = arg m c (ix4 0 3 ⟨_, row_lt t r⟩ j) := by
  unfold arg; rw [← V_main_arg0 m c]; blk_ext [iblk, idx6 t]
theorem blk7 (t : Fin cfg0.N) (r : Fin 256) (j : Fin 514) : (iblk m c 7 t (ix4 0 0 r j) : EReal) = arg m c (ix4 1 3 ⟨_, row_lt t r⟩ j) := by
  unfold arg; rw [← V_main_arg0 m c]; blk_ext [iblk, idx7 t]

theorem pay_at (t : Fin cfg0.N) (r : Fin 256) (l : Fin 4224) :
    (k0_pay1 (F := I) (k0_pay2 (iblk m c 0 t) (iblk m c 1 t) (iblk m c 2 t) (iblk m c 3 t) (iblk m c 4 t) (iblk m c 5 t) (iblk m c 6 t) (iblk m c 7 t)) (ix2 r l) : EReal)
     = joined (arg m c) ⟨_, row_lt t r⟩ l := by
  unfold k0_pay1 k0_pay2
  pointwise
  by_cases h0 : l.val < 514
  · refine (dif_pos h0).trans ((blk0 m c t r _).trans (joined_of _ _ _ 0 _ _ _ rfl rfl ?_).symm)
    dsimp only; omega
  refine (dif_neg h0).trans ?_
  by_cases h1 : l.val - 514 < 514
  · refine (dif_pos h1).trans ((blk1 m c t r _).trans (joined_of _ _ _ 1 _ _ _ rfl rfl ?_).symm)
    dsimp only; omega
  refine (dif_neg h1).trans ?_
  by_cases h2 : l.val - 514 - 514 < 514
  · refine (dif_pos h2).trans ((blk2 m c t r _).trans (joined_of _ _ _ 2 _ _ _ rfl rfl ?_).symm)
    dsimp only; omega
  refine (dif_neg h2).trans ?_
  by_cases h3 : l.val - 514 - 514 - 514 < 514
  · refine (dif_pos h3).trans ((blk3 m c t r _).trans (joined_of _ _ _ 3 _ _ _ rfl rfl ?_).symm)
    dsimp only; omega
  refine (dif_neg h3).trans ?_
  by_cases h4 : l.val - 514 - 514 - 514 - 514 < 514
  · refine (dif_pos h4).trans ((blk4 m c t r _).trans (joined_of _ _ _ 4 _ _ _ rfl rfl ?_).symm)
    dsimp only; omega
  refine (dif_neg h4).trans ?_
  by_cases h5 : l.val - 514 - 514 - 514 - 514 - 514 < 514
  · refine (dif_pos h5).trans ((blk5 m c t r _).trans (joined_of _ _ _ 5 _ _ _ rfl rfl ?_).symm)
    dsimp only; omega
  refine (dif_neg h5).trans ?_
  by_cases h6 : l.val - 514 - 514 - 514 - 514 - 514 - 514 < 514
  · refine (dif_pos h6).trans ((blk6 m c t r _).trans (joined_of _ _ _ 6 _ _ _ rfl rfl ?_).symm)
    dsimp only; omega
  refine (dif_neg h6).trans ?_
  by_cases h7 : l.val - 514 - 514 - 514 - 514 - 514 - 514 - 514 < 514
  · refine (dif_pos h7).trans ((blk7 m c t r _).trans (joined_of _ _ _ 7 _ _ _ rfl rfl ?_).symm)
    dsimp only; omega
  refine (dif_neg h7).trans ?_
  unfold joined; rw [dif_neg (by omega)]

theorem fin_join : (dats m 0 c).arrAt 8 cfg0.N = fun i : S1024x4224.Idx => joined (arg m c) (i 0) (i 1) := by
  refine (dats m 0 c).arrAt_eq_of_covers 8 _ (by decide +kernel) fun t hf y => ?_
  blk_simp
  rw [after0_8]
  idx_vars y
  have i0 : win0_8.index t 0 = t.val := congrFun (idx8 t) 0
  have i1 : win0_8.index t 1 = 0 := congrFun (idx8 t) 1
  refine Eq.trans ?_ ((pay_at m c t y0 y1).trans ?_)
  · unfold out0_8
    frame_out
  · refine congrArg₂ (joined (arg m c)) (Fin.ext ?_) (Fin.ext ?_)
    · blk_simp; rw [i0]; show 256 * t.val + y0.val = t.val * 256 + y0.val; omega
    · blk_simp; rw [i1]; omega

end Cert.Kernel13Ideal.Value

namespace Cert.Join

local notation "I" => Idealize.ShloMosaic.Ideal

open Cert.Kernel13Ideal.Value

open Cert.Reference13Ideal.Read in
theorem ref_at (x : (⟨Cert.Reference13Ideal.S2x4x1024x514, .bf16⟩ : BufTy).Contents (Elt I)) (r : Fin 1024) (l : Fin 4224) :
    (val_main_v2 (F := I) x (ix2 r l) : EReal) = joined x r l := by
  have e : ∀ i, (val_main_v1 (F := I) x i : EReal) = x (idx_main_v0 (idx_main_v1 i)) := fun i => by rw [val_main_v1_apply, val_main_v0_apply]
  unfold val_main_v2
  generalize val_main_v1 (F := I) x = y at e ⊢
  pointwise
  split_ifs with h
  · rw [e]
    refine Eq.trans ?_ (joined_of x r l (l.val / 514) ⟨l.val / 514 % 2, by omega⟩ ⟨l.val / 1028, by omega⟩ ⟨l.val % 514, by omega⟩ rfl (by dsimp only; omega) (by dsimp only; omega)).symm
    refine congrArg x (funext fun a => ?_)
    refine Fin.cases (Fin.ext ?_) (fun a => Fin.cases (Fin.ext ?_) (fun a => Fin.cases (Fin.ext ?_) (fun a => Fin.cases (Fin.ext ?_) (fun a => a.elim0) a) a) a) a
    · show (r.val * 4112 + l.val) / 514 % 2 = l.val / 514 % 2; omega
    · show (r.val * 4112 + l.val) / 1028 % 4 = l.val / 1028; omega
    · show (r.val * 4112 + l.val) / 4112 = r.val; omega
    · show (r.val * 4112 + l.val) % 514 = l.val % 514; omega
  · rw [val_main_call0_v0_apply, val_main_c_apply]
    unfold joined; rw [dif_neg h]
    show (((0#32 : BitVec 32).toInt : ℝ) : EReal) = 0
    simp

theorem join_value : Cert.algebraic_Kernel13Ideal_Reference13Ideal := fun m ρ m' ρ' _ hm => by
  refine ⟨fun c => (Cert.Kernel13Ideal.Gen.dats m 0 c).arrAt 8 Cert.Kernel13Ideal.cfg0.N, Cert.Kernel13Ideal.Value.run_blocks m ρ,
    (θ_run Cert.Reference13Ideal.defs _ _).mono (fun _ h c => ⟨(h c).1.trans ?_, (h c).2⟩) (Cert.Reference13Ideal.Value.run m' ρ')⟩
  rw [Cert.Reference13Ideal.Read.val_main_v2_eq, hm c]; dsimp only; rw [fin_join]
  funext i
  idx_vars i
  exact ref_at _ _ _

theorem defs_kernel13 : Cert.Kernel13.defs (F := Bits) = Cert.Kernel13Ideal.defs (F := Bits) := by sl_kernel_rfl

theorem main_kernel13 : Cert.Kernel13.main (F := Bits) = Cert.Kernel13Ideal.main (F := Bits) := by sl_kernel_rfl

theorem frame_kernel13 : Cert.quiescent_Kernel13 := fun m ρ _ => by
  rw [defs_kernel13, main_kernel13]
  exact Cert.Kernel13Ideal.Gen.frame (F := Bits) m ρ

theorem frame_reference13 : Cert.quiescent_Reference13Ideal := fun m ρ _ =>
  (θ_run Cert.Reference13Ideal.defs _ _).mono (fun r h => ⟨fun c => (h c).2, sem_eq_zero_of_no_sems rfl r.2⟩) (Cert.Reference13Ideal.Value.run m ρ)

end Cert.Join

end
-- ==== Proof.Plain.MatParts.lean ====
/- The weight gradient of an attention layer: five plain products that share one operand, summed over blocks of rows. -/
module

public import proofs.«01_k».proof.Defs
public import proofs.«01_k».proof.Proof.Gen.Kernel14
public import proofs.«01_k».proof.Proof.Gen.Kernel14Ideal.Value
public import proofs.«01_k».proof.Proof.Gen.Reference14Ideal.Read
public import proofs.«01_k».proof.Proof.Gen.Reference14Ideal.Run
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel14Ideal.Value

open Cert.Kernel14Ideal Cert.Kernel14Ideal.Gen

local notation "I" => Idealize.ShloMosaic.Ideal

/-- Row `s`'s term of a product of two columns, zero past the last row. -/
def term (a b : Fin 4096 → EReal) (s : ℕ) : EReal := if h : s < 4096 then a ⟨s, h⟩ * b ⟨s, h⟩ else 0

theorem sum_term (a b : Fin 4096 → EReal) : ∑ s ∈ Finset.range 4096, term a b s = ∑ k : Fin 4096, a k * b k := by
  refine (Finset.sum_range _).trans (Finset.sum_congr rfl fun k _ => ?_)
  unfold term
  rw [dif_pos k.isLt]

/-- One more block of 1024 rows. -/
theorem add_block (a b : Fin 4096 → EReal) (q : ℕ) (hq : q < 4) (x y : Fin 1024 → EReal)
    (hx : ∀ k : Fin 1024, x k = a ⟨1024 * q + k.val, by omega⟩) (hy : ∀ k : Fin 1024, y k = b ⟨1024 * q + k.val, by omega⟩) :
    ∑ s ∈ Finset.range (1024 * q), term a b s + ∑ k, x k * y k = ∑ s ∈ Finset.range (1024 * (q + 1)), term a b s := by
  rw [Nat.mul_succ, Finset.sum_range_add]
  refine congrArg (_ + ·) (Eq.trans (Finset.sum_congr rfl fun k _ => ?_) (Finset.sum_range (fun s => term a b (1024 * q + s))).symm)
  unfold term
  rw [dif_pos (by omega), hx, hy]

/-- What an accumulator reset at the multiples of four holds, one entry of it. -/
theorem acc_sum {X : Type} {N : ℕ} (read : X → EReal) (T : ℕ → EReal) (reset : (n : ℕ) → n < N → X) (step : (n : ℕ) → n < N → X → X) (u : ℕ)
    (hr : ∀ n h, n = 4 * u → read (reset n h) = ∑ s ∈ Finset.range 1024, T s)
    (hs : ∀ j n h acc, j < 3 → n = 4 * u + (j + 1) → read acc = ∑ s ∈ Finset.range (1024 * (j + 1)), T s →
      read (step n h acc) = ∑ s ∈ Finset.range (1024 * (j + 1 + 1)), T s) :
    ∀ (j : ℕ) (h : 4 * u + j < N), j < 4 → read (Pipeline.accAt reset step (4 * u) j h) = ∑ s ∈ Finset.range (1024 * (j + 1)), T s
  | 0, h, _ => hr _ _ rfl
  | j + 1, h, hj => hs j _ _ _ (by omega) rfl (acc_sum read T reset step u hr hs j (by omega) (by omega))

variable (m : (ℓ : Loc nD τ sig) → Buf (Elt I) ℓ) (c : Dev nD)

theorem idx0 : ∀ t : Fin cfg0.N, win0_0.index t = ![t.val % 4, t.val / 4] := (by decide +kernel : ∀ t : Fin grid0.N, win0_0.index t = ![t.val % 4, t.val / 4])
theorem idx1 : ∀ t : Fin cfg0.N, win0_1.index t = ![t.val % 4, 0] := (by decide +kernel : ∀ t : Fin grid0.N, win0_1.index t = ![t.val % 4, 0])
theorem idx2 : ∀ t : Fin cfg0.N, win0_2.index t = ![t.val % 4, 0] := (by decide +kernel : ∀ t : Fin grid0.N, win0_2.index t = ![t.val % 4, 0])
theorem idx3 : ∀ t : Fin cfg0.N, win0_3.index t = ![t.val % 4, 0] := (by decide +kernel : ∀ t : Fin grid0.N, win0_3.index t = ![t.val % 4, 0])
theorem idx4 : ∀ t : Fin cfg0.N, win0_4.index t = ![t.val % 4, 0] := (by decide +kernel : ∀ t : Fin grid0.N, win0_4.index t = ![t.val % 4, 0])
theorem idx5 : ∀ t : Fin cfg0.N, win0_5.index t = ![t.val % 4, 0] := (by decide +kernel : ∀ t : Fin grid0.N, win0_5.index t = ![t.val % 4, 0])
theorem idx6 : ∀ t : Fin cfg0.N, win0_6.index t = ![t.val / 4, 0] := (by decide +kernel : ∀ t : Fin grid0.N, win0_6.index t = ![t.val / 4, 0])
theorem idx7 : ∀ t : Fin cfg0.N, win0_7.index t = ![t.val / 4, 0] := (by decide +kernel : ∀ t : Fin grid0.N, win0_7.index t = ![t.val / 4, 0])
theorem idx8 : ∀ t : Fin cfg0.N, win0_8.index t = ![t.val / 4, 0] := (by decide +kernel : ∀ t : Fin grid0.N, win0_8.index t = ![t.val / 4, 0])
theorem idx9 : ∀ t : Fin cfg0.N, win0_9.index t = ![t.val / 4, 0] := (by decide +kernel : ∀ t : Fin grid0.N, win0_9.index t = ![t.val / 4, 0])
theorem idx10 : ∀ t : Fin cfg0.N, win0_10.index t = ![t.val / 4, 0] := (by decide +kernel : ∀ t : Fin grid0.N, win0_10.index t = ![t.val / 4, 0])

theorem row_lt (t : Fin cfg0.N) (k : Fin 1024) : 1024 * (t.val % 4) + k.val < 4096 := by omega
theorem col_lt (t : Fin cfg0.N) (r : Fin 512) : 512 * (t.val / 4) + r.val < 1024 := by
  have := lt_of_lt_of_eq t.isLt (show cfg0.N = 8 from N_0)
  omega

/-- Column `d` of the shared operand. -/
def colA (d : Fin 1024) : Fin 4096 → EReal := fun s => m ((c.tc : Thread nD τ).loc main_arg0) (ix2 s d)

theorem blk0 (t : Fin cfg0.N) (k : Fin 1024) (r : Fin 512) : (iblk m c 0 t (ix2 k r) : EReal) = colA m c ⟨_, col_lt t r⟩ ⟨_, row_lt t k⟩ := by
  unfold colA
  rw [← V_main_arg0 m c]
  blk_ext [iblk, idx0 t]
theorem blk1 (t : Fin cfg0.N) (k : Fin 1024) (l : Fin 1024) : (iblk m c 1 t (ix2 k l) : EReal) = m ((c.tc : Thread nD τ).loc main_arg1) (ix2 ⟨_, row_lt t k⟩ l) := by
  rw [← V_main_arg1 m c]
  blk_ext [iblk, idx1 t]
theorem blk2 (t : Fin cfg0.N) (k : Fin 1024) (l : Fin 1024) : (iblk m c 2 t (ix2 k l) : EReal) = m ((c.tc : Thread nD τ).loc main_arg2) (ix2 ⟨_, row_lt t k⟩ l) := by
  rw [← V_main_arg2 m c]
  blk_ext [iblk, idx2 t]
theorem blk3 (t : Fin cfg0.N) (k : Fin 1024) (l : Fin 1024) : (iblk m c 3 t (ix2 k l) : EReal) = m ((c.tc : Thread nD τ).loc main_arg3) (ix2 ⟨_, row_lt t k⟩ l) := by
  rw [← V_main_arg3 m c]
  blk_ext [iblk, idx3 t]
theorem blk4 (t : Fin cfg0.N) (k : Fin 1024) (l : Fin 1024) : (iblk m c 4 t (ix2 k l) : EReal) = m ((c.tc : Thread nD τ).loc main_arg4) (ix2 ⟨_, row_lt t k⟩ l) := by
  rw [← V_main_arg4 m c]
  blk_ext [iblk, idx4 t]
theorem blk5 (t : Fin cfg0.N) (k : Fin 1024) (l : Fin 128) : (iblk m c 5 t (ix2 k l) : EReal) = m ((c.tc : Thread nD τ).loc main_arg5) (ix2 ⟨_, row_lt t k⟩ l) := by
  rw [← V_main_arg5 m c]
  blk_ext [iblk, idx5 t]

theorem wide_at (x : Vec I S1024x512 .bf16) (acc : Vec I S512x1024 .f32) (y : Vec I S1024x1024 .bf16) (r : Fin 512) (l : Fin 1024) :
    (k0_pay7 (F := I) x acc y (ix2 r l) : EReal) = acc (ix2 r l) + ∑ k : Fin 1024, x (ix2 k r) * y (ix2 k l) := by
  unfold k0_pay7
  pointwise

theorem narrow_at (x : Vec I S1024x512 .bf16) (acc : Vec I S512x128 .f32) (y : Vec I S1024x128 .bf16) (r : Fin 512) (l : Fin 128) :
    (k0_pay5 (F := I) x acc y (ix2 r l) : EReal) = acc (ix2 r l) + ∑ k : Fin 1024, x (ix2 k r) * y (ix2 k l) := by
  unfold k0_pay5
  pointwise

theorem zero_at (r : Fin 512) (l : Fin 1024) : (k0_pay6 (F := I) (ix2 r l) : EReal) = 0 := by
  unfold k0_pay6
  pointwise

theorem zero_at' (r : Fin 512) (l : Fin 128) : (k0_pay4 (F := I) (ix2 r l) : EReal) = 0 := by
  unfold k0_pay4
  pointwise

/-- A wide accumulator after the last of four points: the entry of the whole product. -/
theorem wide_acc (b : S4096x1024.Idx → EReal) (blk : (t : Fin cfg0.N) → Vec I S1024x1024 .bf16)
    (hb : ∀ t k l, (blk t (ix2 k l) : EReal) = b (ix2 ⟨_, row_lt t k⟩ l))
    (reset : (n : ℕ) → n < cfg0.N → Vec I S512x1024 .f32) (step : (n : ℕ) → n < cfg0.N → Vec I S512x1024 .f32 → Vec I S512x1024 .f32)
    (hr : ∀ n h, reset n h = k0_pay7 (F := I) (iblk m c 0 ⟨n, h⟩) (k0_pay6 (F := I)) (blk ⟨n, h⟩)) (hs : ∀ n h acc, step n h acc = k0_pay7 (F := I) (iblk m c 0 ⟨n, h⟩) acc (blk ⟨n, h⟩))
    (t : Fin cfg0.N) (h3 : t.val % 4 = 3) (h) (r : Fin 512) (l : Fin 1024) :
    (Pipeline.accAt reset step (4 * (t.val / 4)) (t.val % 4) h (ix2 r l) : EReal)
      = ∑ s ∈ Finset.range 4096, term (colA m c ⟨_, col_lt t r⟩) (fun q => b (ix2 q l)) s := by
  have P := fun (n : ℕ) (hn : n < cfg0.N) (j : ℕ) (hj : j < 4) (e : n = 4 * (t.val / 4) + j) (acc : Vec I S512x1024 .f32)
      (ha : (acc (ix2 r l) : EReal) = ∑ s ∈ Finset.range (1024 * j), term (colA m c ⟨_, col_lt t r⟩) (fun q => b (ix2 q l)) s) =>
    show (k0_pay7 (F := I) (iblk m c 0 ⟨n, hn⟩) acc (blk ⟨n, hn⟩) (ix2 r l) : EReal) = ∑ s ∈ Finset.range (1024 * (j + 1)), term (colA m c ⟨_, col_lt t r⟩) (fun q => b (ix2 q l)) s by
      rw [wide_at, ha]
      have e1 : n % 4 = j := by omega
      have e2 : n / 4 = t.val / 4 := by omega
      refine add_block _ _ j hj _ _ (fun k => (blk0 m c ⟨n, hn⟩ k r).trans ?_) (fun k => (hb ⟨n, hn⟩ k l).trans ?_)
      · simp only [e1, e2]
      · simp only [e1]
  refine (acc_sum (fun x : Vec I S512x1024 .f32 => (x (ix2 r l) : EReal)) _ reset step (t.val / 4)
    (fun n hn e => ?_) (fun j n hn acc hj e ha => ?_) (t.val % 4) h (by omega)).trans (by rw [h3])
  · rw [hr]
    exact P n hn 0 (by omega) e _ (by rw [zero_at]; simp)
  · rw [hs]
    exact P n hn (j + 1) (by omega) e _ ha

/-- The narrow accumulator after the last of four points. -/
theorem narrow_acc (t : Fin cfg0.N) (h3 : t.val % 4 = 3) (h) (r : Fin 512) (l : Fin 128) :
    (Pipeline.accAt (reset10 m c) (step10 m c) (4 * (t.val / 4)) (t.val % 4) h (ix2 r l) : EReal)
      = ∑ s ∈ Finset.range 4096, term (colA m c ⟨_, col_lt t r⟩) (fun q => m ((c.tc : Thread nD τ).loc main_arg5) (ix2 q l)) s := by
  have P := fun (n : ℕ) (hn : n < cfg0.N) (j : ℕ) (hj : j < 4) (e : n = 4 * (t.val / 4) + j) (acc : Vec I S512x128 .f32)
      (ha : (acc (ix2 r l) : EReal) = ∑ s ∈ Finset.range (1024 * j), term (colA m c ⟨_, col_lt t r⟩) (fun q => m ((c.tc : Thread nD τ).loc main_arg5) (ix2 q l)) s) =>
    show (k0_pay5 (F := I) (iblk m c 0 ⟨n, hn⟩) acc (iblk m c 5 ⟨n, hn⟩) (ix2 r l) : EReal)
        = ∑ s ∈ Finset.range (1024 * (j + 1)), term (colA m c ⟨_, col_lt t r⟩) (fun q => m ((c.tc : Thread nD τ).loc main_arg5) (ix2 q l)) s by
      rw [narrow_at, ha]
      have e1 : n % 4 = j := by omega
      have e2 : n / 4 = t.val / 4 := by omega
      refine add_block _ _ j hj _ _ (fun k => (blk0 m c ⟨n, hn⟩ k r).trans ?_) (fun k => (blk5 m c ⟨n, hn⟩ k l).trans ?_)
      · simp only [e1, e2]
      · simp only [e1]
  refine (acc_sum (fun x : Vec I S512x128 .f32 => (x (ix2 r l) : EReal)) _ _ _ (t.val / 4)
    (fun n hn e => ?_) (fun j n hn acc hj e ha => ?_) (t.val % 4) h (by omega)).trans (by rw [h3])
  · exact P n hn 0 (by omega) e _ (by rw [zero_at']; simp)
  · exact P n hn (j + 1) (by omega) e _ ha

/-- The product of the shared operand's columns with those of `b`. -/
def prod {w : ℕ} (b : Fin 4096 → Fin w → EReal) (d : Fin 1024) (l : Fin w) : EReal := ∑ s ∈ Finset.range 4096, term (colA m c d) (fun q => b q l) s

theorem fin6 : (dats m 0 c).arrAt 6 cfg0.N = fun i : S1024x1024.Idx => prod m c (fun q l => m ((c.tc : Thread nD τ).loc main_arg1) (ix2 q l)) (i 0) (i 1) := by
  refine (dats m 0 c).arrAt_eq_of_covers 6 _ (by decide +kernel) fun t hf y => ?_
  have h3 : t.val % 4 = 3 := (flush0_6 t).mp hf
  have i0 : win0_6.index t 0 = t.val / 4 := congrFun (idx6 t) 0
  have i1 : win0_6.index t 1 = 0 := congrFun (idx6 t) 1
  blk_simp
  rw [after0_6, outsAt_6_eq]
  idx_vars y
  refine (wide_acc m c _ (iblk m c 1) (blk1 m c) _ _ (fun _ _ => rfl) (fun _ _ _ => rfl) t h3 _ y0 y1).trans ?_
  refine congrArg₂ (prod m c (fun q l => m ((c.tc : Thread nD τ).loc main_arg1) (ix2 q l))) (Fin.ext ?_) (Fin.ext ?_)
  · blk_simp; rw [i0]; show 512 * (t.val / 4) + y0.val = t.val / 4 * 512 + y0.val; omega
  · blk_simp; rw [i1]; omega

theorem fin7 : (dats m 0 c).arrAt 7 cfg0.N = fun i : S1024x1024.Idx => prod m c (fun q l => m ((c.tc : Thread nD τ).loc main_arg2) (ix2 q l)) (i 0) (i 1) := by
  refine (dats m 0 c).arrAt_eq_of_covers 7 _ (by decide +kernel) fun t hf y => ?_
  have h3 : t.val % 4 = 3 := (flush0_7 t).mp hf
  have i0 : win0_7.index t 0 = t.val / 4 := congrFun (idx7 t) 0
  have i1 : win0_7.index t 1 = 0 := congrFun (idx7 t) 1
  blk_simp
  rw [after0_7, outsAt_7_eq]
  idx_vars y
  refine (wide_acc m c _ (iblk m c 2) (blk2 m c) _ _ (fun _ _ => rfl) (fun _ _ _ => rfl) t h3 _ y0 y1).trans ?_
  refine congrArg₂ (prod m c (fun q l => m ((c.tc : Thread nD τ).loc main_arg2) (ix2 q l))) (Fin.ext ?_) (Fin.ext ?_)
  · blk_simp; rw [i0]; show 512 * (t.val / 4) + y0.val = t.val / 4 * 512 + y0.val; omega
  · blk_simp; rw [i1]; omega

theorem fin8 : (dats m 0 c).arrAt 8 cfg0.N = fun i : S1024x1024.Idx => prod m c (fun q l => m ((c.tc : Thread nD τ).loc main_arg3) (ix2 q l)) (i 0) (i 1) := by
  refine (dats m 0 c).arrAt_eq_of_covers 8 _ (by decide +kernel) fun t hf y => ?_
  have h3 : t.val % 4 = 3 := (flush0_8 t).mp hf
  have i0 : win0_8.index t 0 = t.val / 4 := congrFun (idx8 t) 0
  have i1 : win0_8.index t 1 = 0 := congrFun (idx8 t) 1
  blk_simp
  rw [after0_8, outsAt_8_eq]
  idx_vars y
  refine (wide_acc m c _ (iblk m c 3) (blk3 m c) _ _ (fun _ _ => rfl) (fun _ _ _ => rfl) t h3 _ y0 y1).trans ?_
  refine congrArg₂ (prod m c (fun q l => m ((c.tc : Thread nD τ).loc main_arg3) (ix2 q l))) (Fin.ext ?_) (Fin.ext ?_)
  · blk_simp; rw [i0]; show 512 * (t.val / 4) + y0.val = t.val / 4 * 512 + y0.val; omega
  · blk_simp; rw [i1]; omega

theorem fin9 : (dats m 0 c).arrAt 9 cfg0.N = fun i : S1024x1024.Idx => prod m c (fun q l => m ((c.tc : Thread nD τ).loc main_arg4) (ix2 q l)) (i 0) (i 1) := by
  refine (dats m 0 c).arrAt_eq_of_covers 9 _ (by decide +kernel) fun t hf y => ?_
  have h3 : t.val % 4 = 3 := (flush0_9 t).mp hf
  have i0 : win0_9.index t 0 = t.val / 4 := congrFun (idx9 t) 0
  have i1 : win0_9.index t 1 = 0 := congrFun (idx9 t) 1
  blk_simp
  rw [after0_9, outsAt_9_eq]
  idx_vars y
  refine (wide_acc m c _ (iblk m c 4) (blk4 m c) _ _ (fun _ _ => rfl) (fun _ _ _ => rfl) t h3 _ y0 y1).trans ?_
  refine congrArg₂ (prod m c (fun q l => m ((c.tc : Thread nD τ).loc main_arg4) (ix2 q l))) (Fin.ext ?_) (Fin.ext ?_)
  · blk_simp; rw [i0]; show 512 * (t.val / 4) + y0.val = t.val / 4 * 512 + y0.val; omega
  · blk_simp; rw [i1]; omega

theorem fin10 : (dats m 0 c).arrAt 10 cfg0.N = fun i : S1024x128.Idx => prod m c (fun q l => m ((c.tc : Thread nD τ).loc main_arg5) (ix2 q l)) (i 0) (i 1) := by
  refine (dats m 0 c).arrAt_eq_of_covers 10 _ (by decide +kernel) fun t hf y => ?_
  have h3 : t.val % 4 = 3 := (flush0_10 t).mp hf
  have i0 : win0_10.index t 0 = t.val / 4 := congrFun (idx10 t) 0
  have i1 : win0_10.index t 1 = 0 := congrFun (idx10 t) 1
  blk_simp
  rw [after0_10, outsAt_10_eq]
  idx_vars y
  refine (narrow_acc m c t h3 _ y0 y1).trans ?_
  refine congrArg₂ (prod m c (fun q l => m ((c.tc : Thread nD τ).loc main_arg5) (ix2 q l))) (Fin.ext ?_) (Fin.ext ?_)
  · blk_simp; rw [i0]; show 512 * (t.val / 4) + y0.val = t.val / 4 * 512 + y0.val; omega
  · blk_simp; rw [i1]; omega

end Cert.Kernel14Ideal.Value

namespace Cert.MatParts

open Cert.Kernel14Ideal.Value

local notation "I" => Idealize.ShloMosaic.Ideal

open Cert.Reference14Ideal.Read

theorem ext2' {a b : ℕ} (i j : Shape.Idx ⟨2, ![a, b]⟩) (h0 : i 0 = j 0) (h1 : i 1 = j 1) : i = j :=
  funext fun x => by refine Fin.cases h0 (fun x => Fin.cases h1 (fun x => x.elim0) x) x

/-- Summing the products of two columns in either order. -/
theorem prod_eq (m : (ℓ : Loc Cert.Kernel14Ideal.nD Cert.Kernel14Ideal.τ Cert.Kernel14Ideal.sig) → Buf (Elt I) ℓ) (c : Dev Cert.Kernel14Ideal.nD) {w : ℕ}
    (b : Fin 4096 → Fin w → EReal) (d : Fin 1024) (l : Fin w) (f : Fin 4096 → EReal)
    (h : ∀ k, f k = b k l * m ((c.tc : Thread _ _).loc Cert.Kernel14Ideal.main_arg0) (ix2 k d)) : ∑ k, f k = prod m c b d l :=
  (Finset.sum_congr rfl fun k _ => (h k).trans (mul_comm _ _)).trans (sum_term _ _).symm

theorem matParts_value : Cert.algebraic_Kernel14Ideal_Reference14Ideal := fun m ρ m' ρ' _ hm => by
  refine ⟨fun c => (Cert.Kernel14Ideal.Gen.dats m 0 c).arrAt 6 Cert.Kernel14Ideal.cfg0.N, fun c => (Cert.Kernel14Ideal.Gen.dats m 0 c).arrAt 7 Cert.Kernel14Ideal.cfg0.N,
    fun c => (Cert.Kernel14Ideal.Gen.dats m 0 c).arrAt 8 Cert.Kernel14Ideal.cfg0.N, fun c => (Cert.Kernel14Ideal.Gen.dats m 0 c).arrAt 9 Cert.Kernel14Ideal.cfg0.N,
    fun c => (Cert.Kernel14Ideal.Gen.dats m 0 c).arrAt 10 Cert.Kernel14Ideal.cfg0.N, Cert.Kernel14Ideal.Value.run_blocks m ρ,
    (θ_run Cert.Reference14Ideal.defs _ _).mono (fun _ h c => ⟨(h c).1.trans ?_, (h c).2.1.trans ?_, (h c).2.2.1.trans ?_, (h c).2.2.2.1.trans ?_, (h c).2.2.2.2.1.trans ?_, (h c).2.2.2.2.2⟩)
      (Cert.Reference14Ideal.Value.run m' ρ')⟩
  · rw [val_main_v5_eq, (hm c).1, (hm c).2.1]; dsimp only; rw [fin6]
    funext i; idx_vars i
    refine (val_main_v5_apply _ _ _).trans ((val_main_v4_apply _ _ _).trans (prod_eq m c _ i0 i1 _ fun k => ?_))
    exact congrArg₂ (fun a b : EReal => a * b) (congrArg (m ((c.tc : Thread _ _).loc Cert.Kernel14Ideal.main_arg1)) (ext2' _ _ rfl rfl))
      (congrArg (m ((c.tc : Thread _ _).loc Cert.Kernel14Ideal.main_arg0)) (ext2' _ _ rfl rfl))
  · rw [val_main_v10_eq, (hm c).1, (hm c).2.2.1]; dsimp only; rw [fin7]
    funext i; idx_vars i
    refine (val_main_v10_apply _ _ _).trans ((val_main_v9_apply _ _ _).trans (prod_eq m c _ i0 i1 _ fun k => ?_))
    exact congrArg₂ (fun a b : EReal => a * b) (congrArg (m ((c.tc : Thread _ _).loc Cert.Kernel14Ideal.main_arg2)) (ext2' _ _ rfl rfl))
      (congrArg (m ((c.tc : Thread _ _).loc Cert.Kernel14Ideal.main_arg0)) (ext2' _ _ rfl rfl))
  · rw [val_main_v15_eq, (hm c).1, (hm c).2.2.2.1]; dsimp only; rw [fin8]
    funext i; idx_vars i
    refine (val_main_v15_apply _ _ _).trans ((val_main_v14_apply _ _ _).trans (prod_eq m c _ i0 i1 _ fun k => ?_))
    exact congrArg₂ (fun a b : EReal => a * b) (congrArg (m ((c.tc : Thread _ _).loc Cert.Kernel14Ideal.main_arg3)) (ext2' _ _ rfl rfl))
      (congrArg (m ((c.tc : Thread _ _).loc Cert.Kernel14Ideal.main_arg0)) (ext2' _ _ rfl rfl))
  · rw [val_main_v20_eq, (hm c).1, (hm c).2.2.2.2.1]; dsimp only; rw [fin9]
    funext i; idx_vars i
    refine (val_main_v20_apply _ _ _).trans ((val_main_v19_apply _ _ _).trans (prod_eq m c _ i0 i1 _ fun k => ?_))
    exact congrArg₂ (fun a b : EReal => a * b) (congrArg (m ((c.tc : Thread _ _).loc Cert.Kernel14Ideal.main_arg4)) (ext2' _ _ rfl rfl))
      (congrArg (m ((c.tc : Thread _ _).loc Cert.Kernel14Ideal.main_arg0)) (ext2' _ _ rfl rfl))
  · rw [val_main_v25_eq, (hm c).1, (hm c).2.2.2.2.2]; dsimp only; rw [fin10]
    funext i; idx_vars i
    refine (val_main_v25_apply _ _ _).trans ((val_main_v24_apply _ _ _).trans (prod_eq m c _ i0 i1 _ fun k => ?_))
    exact congrArg₂ (fun a b : EReal => a * b) (congrArg (m ((c.tc : Thread _ _).loc Cert.Kernel14Ideal.main_arg5)) (ext2' _ _ rfl rfl))
      (congrArg (m ((c.tc : Thread _ _).loc Cert.Kernel14Ideal.main_arg0)) (ext2' _ _ rfl rfl))

theorem defs_kernel14 : Cert.Kernel14.defs (F := Bits) = Cert.Kernel14Ideal.defs (F := Bits) := by sl_kernel_rfl

theorem main_kernel14 : Cert.Kernel14.main (F := Bits) = Cert.Kernel14Ideal.main (F := Bits) := by sl_kernel_rfl

theorem frame_kernel14 : Cert.quiescent_Kernel14 := fun m ρ _ => by
  rw [defs_kernel14, main_kernel14]
  exact Cert.Kernel14Ideal.Gen.frame (F := Bits) m ρ

theorem frame_reference14 : Cert.quiescent_Reference14Ideal := fun m ρ _ =>
  (θ_run Cert.Reference14Ideal.defs _ _).mono (fun r h => ⟨fun c => (h c).2.2.2.2.2, sem_eq_zero_of_no_sems rfl r.2⟩) (Cert.Reference14Ideal.Value.run m ρ)

end Cert.MatParts

end
-- ==== Proof.Plain.Own.lean ====
/- A device's own part of a gradient added to what it received: the part is chosen by a prefetched index. -/
module

public import proofs.«01_k».proof.Defs
public import proofs.«01_k».proof.Proof.Gen.Kernel15
public import proofs.«01_k».proof.Proof.Gen.Kernel15Ideal.Frame
public import proofs.«01_k».proof.Proof.Gen.Pre_in_range15
public import proofs.«01_k».proof.Proof.Gen.Reference15Ideal.Read
public import proofs.«01_k».proof.Proof.Gen.Reference15Ideal.Run
public import Idealize.ShloMosaic.Lib.Pipeline.Value
public import Idealize.ShloMosaic.Lib.Pipeline.Covers
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel15Ideal.Own

open Cert.Kernel15Ideal Cert.Kernel15Ideal.Gen

local notation "I" => Idealize.ShloMosaic.Ideal

section Table

variable {F : FTy → Type} [FloatOps F] (m : (ℓ : Loc nD τ sig) → Buf (Elt F) ℓ)

/-- The prefetched index. -/
def word : BitVec 32 := m (((0 : Dev nD).tc : Thread nD τ).loc main_arg2) (ix1 0)

theorem at_eq (hi hn) : (tbl m).at 0 (Rect.unit (s := S1) ![0] S1.size hi) hn = word m := by
  unfold word
  refine congrArg (m (((0 : Dev nD).tc : Thread nD τ).loc main_arg2)) (funext fun a => Fin.ext ?_)
  refine Fin.cases ?_ (fun a => a.elim0) a
  rfl

theorem step_eq : ∀ t : Fin grid0.N, cc0_transform_1 (grid0.coords t) = ![t.val / 2, t.val % 2, 0] := by decide +kernel

theorem coords_eq : ∀ t : Fin grid0.N, (BitVec.ofNat 32 (grid0.coords t 0).val).toNat = t.val / 2 ∧ (BitVec.ofNat 32 (grid0.coords t 1).val).toNat = t.val % 2 := by decide +kernel

theorem index0 (hi hn) (t : Fin grid0.N) : cc0_transform_0 hi hn (tbl m) (grid0.coords t) = ![(word m).toNat, t.val / 2, t.val % 2, 0] := by
  unfold cc0_transform_0
  dsimp only
  rw [at_eq m hi hn, (coords_eq t).1, (coords_eq t).2]
  rfl

/-- The block stays inside the array when the index is below two. -/
theorem ok (h : (word m).toNat < 2) : Ok m := by
  intro i
  obtain ⟨t, rfl⟩ : ∃ t : Fin grid0.N, grid0.coords t = i := Pipeline.Grid.coords_surjective grid0 i
  refine ⟨fun a => ?_, Or.inl rfl⟩
  rw [index0]
  have := coords_eq t
  have ht : t.val < 8 := t.isLt
  fin_cases a <;> simp <;> omega

theorem hz3 : (![0, 0, 0] : Fin 3 → Nat) = fun _ => 0 := funext fun a => by fin_cases a <;> rfl
theorem hz4 : (![0, 0, 0, 0] : Fin 4 → Nat) = fun _ => 0 := funext fun a => by fin_cases a <;> rfl

variable (hO : Ok m) (c : Dev nD)

theorem piece2 (i : grid0.Coords) (a3 : Memref sig .tc .vmem S1x1x512x514 .f32) (h3 : a3.IsWhole) (a4 : Memref sig .tc .vmem S1x512x514 .f32) (h4 : a4.IsWhole)
    (a5 : Memref sig .tc .vmem S1x512x514 .f32) (h5 : a5.IsWhole) (a6 : Memref sig .tc .vmem S1x512x514 .bf16) (h6 : a6.IsWhole)
    (x : Vec F S1x1x512x514 .f32) (y : Vec F S1x512x514 .f32) (w : TbBuf0 (F := F) c tbM0_0) :
    out0_A_2 c i a3 h3 a4 h4 a5 h5 a6 h6 x y w = k0_pay1 (F := F) x y := by
  unfold out0_A_2
  rw [View.read_writes_eq_canon _ _ _ (cover0_A_2 c i a3 h3 a4 h4 a5 h5 a6 h6 x y w)]
  unfold kernelRun0_A
  dsimp only
  try sl_unfold_words
  rw [View.canon_cons_unit_zero (S := S1x512x514) hz3]
  simp only [View.readAt_eq_ld, h3.read_unread, h4.read_unread, View.ld_unit_zero (S := S1x512x514) hz3, View.ld_unit_zero (S := S1x1x512x514) hz4, shapeCast_self]

theorem out2 (t : Fin (cfgM m hO).N) : (outsAt0 m hO c t).1 = k0_pay1 (F := F) (iblk m hO c 0 t) (iblk m hO c 1 t) := by
  have h := piece2 (F := F) c (grid0.coords t) (ms0_0 m hO t) (hs0_0 m hO t) (ms0_1 m hO t) (hs0_1 m hO t) (ms0_2 m hO t) (hs0_2 m hO t) (ms0_3 m hO t) (hs0_3 m hO t)
    (iblk m hO c 0 t) (iblk m hO c 1 t) (tbl m 0)
  unfold outsAt0
  dsimp only
  exact h

theorem piece3 (i : grid0.Coords) (a3 : Memref sig .tc .vmem S1x1x512x514 .f32) (h3 : a3.IsWhole) (a4 : Memref sig .tc .vmem S1x512x514 .f32) (h4 : a4.IsWhole)
    (a5 : Memref sig .tc .vmem S1x512x514 .f32) (h5 : a5.IsWhole) (a6 : Memref sig .tc .vmem S1x512x514 .bf16) (h6 : a6.IsWhole)
    (x : Vec F S1x1x512x514 .f32) (y : Vec F S1x512x514 .f32) (w : TbBuf0 (F := F) c tbM0_0) :
    out0_A_3 c i a3 h3 a4 h4 a5 h5 a6 h6 x y w = k0_pay2 (F := F) x y := by
  unfold out0_A_3
  rw [View.read_writes_eq_canon _ _ _ (cover0_A_3 c i a3 h3 a4 h4 a5 h5 a6 h6 x y w)]
  unfold kernelRun0_A
  dsimp only
  try sl_unfold_words
  rw [View.canon_cons_unit_zero (S := S1x512x514) hz3]
  simp only [View.readAt_eq_ld, h3.read_unread, h4.read_unread, View.ld_unit_zero (S := S1x512x514) hz3, View.ld_unit_zero (S := S1x1x512x514) hz4, shapeCast_self]

theorem out3 (t : Fin (cfgM m hO).N) : (outsAt0 m hO c t).2 = k0_pay2 (F := F) (iblk m hO c 0 t) (iblk m hO c 1 t) := by
  have h := piece3 (F := F) c (grid0.coords t) (ms0_0 m hO t) (hs0_0 m hO t) (ms0_1 m hO t) (hs0_1 m hO t) (ms0_2 m hO t) (hs0_2 m hO t) (ms0_3 m hO t) (hs0_3 m hO t)
    (iblk m hO c 0 t) (iblk m hO c 1 t) (tbl m 0)
  unfold outsAt0
  dsimp only
  exact h

end Table

variable (m : (ℓ : Loc nD τ sig) → Buf (Elt I) ℓ) (hO : Ok m) (c : Dev nD)

theorem idx0 (t : Fin grid0.N) : ((cfgM m hO).win 0).index t = ![(word m).toNat, t.val / 2, t.val % 2, 0] := index0 m _ _ t
theorem idx1 (t : Fin grid0.N) : ((cfgM m hO).win 1).index t = ![t.val / 2, t.val % 2, 0] := step_eq t
theorem idx2 (t : Fin grid0.N) : ((cfgM m hO).win 2).index t = ![t.val / 2, t.val % 2, 0] := step_eq t
theorem idx3 (t : Fin grid0.N) : ((cfgM m hO).win 3).index t = ![t.val / 2, t.val % 2, 0] := step_eq t

theorem covers2 : ((cfgM m hO).win 2).Covers := of_decide_eq_true (by sl_kernel_rfl)
theorem covers3 : ((cfgM m hO).win 3).Covers := of_decide_eq_true (by sl_kernel_rfl)

theorem sum_at (x : Vec I S1x1x512x514 .f32) (y : Vec I S1x512x514 .f32) (r : Fin 512) (l : Fin 514) :
    (k0_pay1 (F := I) x y (ix3 0 r l) : EReal) = x (ix4 0 0 r l) + y (ix3 0 r l) := by
  unfold k0_pay1
  pointwise

theorem blk1 (t : Fin grid0.N) (r : Fin 512) (l : Fin 514) :
    (iblk m hO c 1 t (ix3 0 r l) : EReal) = m ((c.tc : Thread nD τ).loc main_arg1) (ix3 ⟨t.val / 2, by have := t.isLt; change t.val < 8 at this; omega⟩ ⟨512 * (t.val % 2) + r.val, by omega⟩ l) := by
  rw [← V_main_arg1 m c]
  blk_ext [iblk, idx1 m hO t]

theorem blk0 (hw : (word m).toNat < 2) (t : Fin grid0.N) (r : Fin 512) (l : Fin 514) :
    (iblk m hO c 0 t (ix4 0 0 r l) : EReal) = m ((c.tc : Thread nD τ).loc main_arg0) (ix4 ⟨(word m).toNat, hw⟩ ⟨t.val / 2, by have := t.isLt; change t.val < 8 at this; omega⟩ ⟨512 * (t.val % 2) + r.val, by omega⟩ l) := by
  rw [← V_main_arg0 m c]
  blk_ext [iblk, idx0 m hO t]

/-- The chosen part plus what was received. -/
def total (hw : (word m).toNat < 2) (i : S4x1024x514.Idx) : EReal :=
  let a : EReal := m ((c.tc : Thread nD τ).loc main_arg0) (ix4 ⟨(word m).toNat, hw⟩ (i 0) (i 1) (i 2))
  let b : EReal := m ((c.tc : Thread nD τ).loc main_arg1) (ix3 (i 0) (i 1) (i 2))
  a + b

theorem sum_blk (hw : (word m).toNat < 2) (t : Fin grid0.N) (r : Fin 512) (l : Fin 514) :
    (k0_pay1 (F := I) (iblk m hO c 0 t) (iblk m hO c 1 t) (ix3 0 r l) : EReal)
      = total m c hw (ix3 ⟨t.val / 2, by have := t.isLt; change t.val < 8 at this; omega⟩ ⟨512 * (t.val % 2) + r.val, by omega⟩ l) := by
  refine (sum_at _ _ r l).trans ?_
  rw [blk0 m hO c hw t r l, blk1 m hO c t r l]
  rfl

theorem fin2 (hw : (word m).toNat < 2) : (dats m hO 0 c).arrAt 2 (cfgM m hO).N = total m c hw := by
  refine (dats m hO 0 c).arrAt_eq_of_covers 2 _ (covers2 m hO) fun t hf (y : S1x512x514.Idx) => ?_
  have i0 : ((cfgM m hO).win 2).index t (0 : Fin 3) = t.val / 2 := congrFun (idx2 m hO t) (0 : Fin 3)
  have i1 : ((cfgM m hO).win 2).index t (1 : Fin 3) = t.val % 2 := congrFun (idx2 m hO t) (1 : Fin 3)
  have i2 : ((cfgM m hO).win 2).index t (2 : Fin 3) = 0 := congrFun (idx2 m hO t) (2 : Fin 3)
  blk_simp
  rw [after0_2, out2]
  idx_vars y
  obtain rfl : y0 = 0 := Subsingleton.elim _ _
  refine (sum_blk m hO c hw t y1 y2).trans (congrArg (total m c hw) (funext fun a => ?_))
  refine Fin.cases (Fin.ext ?_) (fun a => Fin.cases (Fin.ext ?_) (fun a => Fin.cases (Fin.ext ?_) (fun a => a.elim0) a) a) a
  · blk_simp; exact i0.symm
  · blk_simp; refine Eq.trans ?_ (congrArg (fun n => n * 512 + y1.val) i1.symm); show 512 * (t.val % 2) + y1.val = t.val % 2 * 512 + y1.val; omega
  · blk_simp; refine Eq.trans ?_ (congrArg (fun n => n * 514 + y2.val) i2.symm); show y2.val = 0 * 514 + y2.val; omega

theorem fin3 (hw : (word m).toNat < 2) : (dats m hO 0 c).arrAt 3 (cfgM m hO).N = (total m c hw : Vec I S4x1024x514 .bf16) := by
  refine (dats m hO 0 c).arrAt_eq_of_covers 3 _ (covers3 m hO) fun t hf (y : S1x512x514.Idx) => ?_
  have i0 : ((cfgM m hO).win 3).index t (0 : Fin 3) = t.val / 2 := congrFun (idx3 m hO t) (0 : Fin 3)
  have i1 : ((cfgM m hO).win 3).index t (1 : Fin 3) = t.val % 2 := congrFun (idx3 m hO t) (1 : Fin 3)
  have i2 : ((cfgM m hO).win 3).index t (2 : Fin 3) = 0 := congrFun (idx3 m hO t) (2 : Fin 3)
  blk_simp
  rw [after0_3, out3]
  idx_vars y
  obtain rfl : y0 = 0 := Subsingleton.elim _ _
  refine (sum_blk m hO c hw t y1 y2).trans (congrArg (total m c hw) (funext fun a => ?_))
  refine Fin.cases (Fin.ext ?_) (fun a => Fin.cases (Fin.ext ?_) (fun a => Fin.cases (Fin.ext ?_) (fun a => a.elim0) a) a) a
  · blk_simp; exact i0.symm
  · blk_simp; refine Eq.trans ?_ (congrArg (fun n => n * 512 + y1.val) i1.symm); show 512 * (t.val % 2) + y1.val = t.val % 2 * 512 + y1.val; omega
  · blk_simp; refine Eq.trans ?_ (congrArg (fun n => n * 514 + y2.val) i2.symm); show y2.val = 0 * 514 + y2.val; omega

theorem run_own (ρ : Dev nD → PrngReg) (hw : (word m).toNat < 2) :
    θ_run (defs (F := I)) (onTc (τ := τ) (main (F := I))) ⟨m, fun _ => 0, ρ⟩ (fun r => ∀ c : Dev nD,
      r.2.mem ((c.tc : Thread nD τ).loc main_v0_0) = total m c hw
      ∧ r.2.mem ((c.tc : Thread nD τ).loc main_v0_1) = (total m c hw : Vec I S4x1024x514 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  have hO := ok m hw
  (θ_run defs _ _).mono (fun _ h c => ⟨(h.1 c).1 2 |>.trans (fin2 m hO c hw), (h.1 c).1 3 |>.trans (fin3 m hO c hw), h.2 c⟩)
    (θ_run_and (run_main m ρ hO) (unchanged m ρ hO))

end Cert.Kernel15Ideal.Own

namespace Cert.Own

open Cert.Kernel15Ideal.Own

theorem word_lt {w : BitVec 32} (h0 : IntOp.cmpi .sge w 0#32 = 1#1) (h1 : IntOp.cmpi .slt w 2#32 = 1#1) : w.toNat < 2 := by
  have b0 : BitVec.sle 0#32 w = true := by unfold IntOp.cmpi at h0; revert h0; cases BitVec.sle 0#32 w <;> simp
  have b1 : BitVec.slt w 2#32 = true := by unfold IntOp.cmpi at h1; revert h1; cases BitVec.slt w 2#32 <;> simp
  have hw := w.isLt
  simp only [BitVec.sle, BitVec.slt, decide_eq_true_eq, BitVec.toInt_eq_toNat_cond] at b0 b1
  simp at b0 b1
  split at b0 <;> omega

open Cert.Reference15Ideal.Read in
/-- The plain reading, at every index. -/
theorem ref_eq (m : (ℓ : Loc Cert.Kernel15Ideal.nD Cert.Kernel15Ideal.τ Cert.Kernel15Ideal.sig) → Buf (Elt Ideal) ℓ) (c : Dev Cert.Kernel15Ideal.nD) (hw : (word m).toNat < 2) :
    val_main_v7 (F := Ideal) (m ((c.tc : Thread _ _).loc Cert.Kernel15Ideal.main_arg0)) (m ((c.tc : Thread _ _).loc Cert.Kernel15Ideal.main_arg1)) (m ((c.tc : Thread _ _).loc Cert.Kernel15Ideal.main_arg2)) = total m c hw := by
  obtain rfl : c = 0 := Subsingleton.elim _ _
  funext i
  idx_vars i
  refine (val_main_v7_apply _ _ _ _).trans (congrArg (fun z : EReal => z + m (((0 : Dev Cert.Kernel15Ideal.nD).tc : Thread _ _).loc Cert.Kernel15Ideal.main_arg1) (ix3 i0 i1 i2)) ?_)
  unfold val_main_v6
  have hv : ∀ j, val_main_v0 (F := Ideal) (m (((0 : Dev Cert.Kernel15Ideal.nD).tc : Thread _ _).loc Cert.Kernel15Ideal.main_arg2)) j = word m := fun j =>
    congrArg (m (((0 : Dev Cert.Kernel15Ideal.nD).tc : Thread _ _).loc Cert.Kernel15Ideal.main_arg2)) (funext fun a => Fin.cases (Subsingleton.elim (α := Fin 1) _ _) (fun a => a.elim0) a)
  refine (show _ = (if IntOp.cmpi .eq (word m) 0#32 = 1#1 then _ else _) from congrArg (fun z => if IntOp.cmpi .eq z 0#32 = 1#1 then _ else _) (hv _)).trans ?_
  rw [val_main_v3_apply, val_main_v5_apply, val_main_v2_apply, val_main_v4_apply]
  split
  · rename_i h
    have h0 : (word m).toNat = 0 := by
      by_contra hn
      have hb : (word m == 0#32) = false := beq_eq_false_iff_ne.mpr fun e => hn (by rw [e]; rfl)
      unfold IntOp.cmpi at h
      simp [hb] at h
    refine congrArg (m (((0 : Dev Cert.Kernel15Ideal.nD).tc : Thread _ _).loc Cert.Kernel15Ideal.main_arg0)) (funext fun a => Fin.ext ?_)
    match a with
    | ⟨0, _⟩ => exact h0.symm
    | ⟨1, _⟩ => show ((i0.val * 1024 + i1.val) * 514 + i2.val) / 526336 % 4 = i0.val; omega
    | ⟨2, _⟩ => show ((i0.val * 1024 + i1.val) * 514 + i2.val) / 514 % 1024 = i1.val; omega
    | ⟨3, _⟩ => show ((i0.val * 1024 + i1.val) * 514 + i2.val) % 514 = i2.val; omega
  · rename_i h
    have h1 : (word m).toNat = 1 := by
      by_contra hn
      have e : word m = 0#32 := BitVec.eq_of_toNat_eq (by show (word m).toNat = 0; omega)
      exact h (by rw [e]; rfl)
    refine congrArg (m (((0 : Dev Cert.Kernel15Ideal.nD).tc : Thread _ _).loc Cert.Kernel15Ideal.main_arg0)) (funext fun a => Fin.ext ?_)
    match a with
    | ⟨0, _⟩ => exact h1.symm
    | ⟨1, _⟩ => show ((i0.val * 1024 + i1.val) * 514 + i2.val) / 526336 % 4 = i0.val; omega
    | ⟨2, _⟩ => show ((i0.val * 1024 + i1.val) * 514 + i2.val) / 514 % 1024 = i1.val; omega
    | ⟨3, _⟩ => show ((i0.val * 1024 + i1.val) * 514 + i2.val) % 514 = i2.val; omega

open Cert.Reference15Ideal.Read in
theorem own_value : Cert.algebraic_Kernel15Ideal_Reference15Ideal := fun m ρ m' ρ' hpre hm => by
  have hw : (word m).toNat < 2 := word_lt (congrFun (hpre 0).1 (ix1 0)) (congrFun (hpre 0).2 (ix1 0))
  refine ⟨fun c => total m c hw, fun c => total m c hw, run_own m ρ hw,
    (θ_run Cert.Reference15Ideal.defs _ _).mono (fun _ h c => ⟨(h c).1.trans ?_, (h c).2.1.trans ?_, (h c).2.2⟩) (Cert.Reference15Ideal.Value.run m' ρ')⟩
  · rw [val_main_v7_eq, (hm c).1, (hm c).2.1, (hm c).2.2]; exact ref_eq m c hw
  · rw [val_main_v8_eq, (hm c).1, (hm c).2.1, (hm c).2.2]; exact ref_eq m c hw

theorem defs_kernel15 : Cert.Kernel15.defs (F := Bits) = Cert.Kernel15Ideal.defs (F := Bits) := by sl_kernel_rfl

theorem main_kernel15 : Cert.Kernel15.main (F := Bits) = Cert.Kernel15Ideal.main (F := Bits) := by sl_kernel_rfl

theorem frame_kernel15 : Cert.quiescent_Kernel15 := fun m ρ h => by
  rw [defs_kernel15, main_kernel15]
  exact Cert.Kernel15Ideal.Gen.frame (F := Bits) m ρ (ok m (word_lt (congrFun (h 0).1 (ix1 0)) (congrFun (h 0).2 (ix1 0))))

theorem frame_kernel15Ideal : Cert.quiescent_Kernel15Ideal := fun m ρ h =>
  Cert.Kernel15Ideal.Gen.frame m ρ (ok m (word_lt (congrFun (h 0).1 (ix1 0)) (congrFun (h 0).2 (ix1 0))))

theorem frame_reference15 : Cert.quiescent_Reference15Ideal := fun m ρ _ =>
  (θ_run Cert.Reference15Ideal.defs _ _).mono (fun r h => ⟨fun c => (h c).2.2, sem_eq_zero_of_no_sems rfl r.2⟩) (Cert.Reference15Ideal.Value.run m ρ)

end Cert.Own

end
-- ==== Proof.Plain.ShardSum.lean ====
/- AdamW on a device's shard: the sum of the eight parts of the gradient, and the step, element by element. -/
module

public import proofs.«01_k».proof.Defs
public import proofs.«01_k».proof.Proof.Gen.Kernel16Ideal.Skeleton
public import proofs.«01_k».proof.Proof.Gen.Reference16Ideal.Read
public import Idealize.ShloMosaic.Lib.Pipeline.Value
public import Idealize.ShloMosaic.Lib.Pipeline.ValueKit
public import Idealize.ShloMosaic.Init

@[expose] public section

set_option maxRecDepth 16384

noncomputable section

open Idealize.ShloMosaic Idealize.ShloMosaic.TcCoe Idealize.SL.Sem

namespace Cert.ShardSum

open Cert.Kernel16Ideal Cert.Kernel16Ideal.Gen
open Cert.Reference16Ideal.Read

local notation "I" => Idealize.ShloMosaic.Ideal

theorem below2 {w : BitVec 32} (h : w.toNat < 2) : w = 0#32 ∨ w = 1#32 := by
  have : w.toNat = 0 ∨ w.toNat = 1 := by omega
  exact this.imp (fun e => BitVec.eq_of_toNat_eq e) (fun e => BitVec.eq_of_toNat_eq e)

theorem below4 {w : BitVec 32} (h : w.toNat < 4) : w = 0#32 ∨ w = 1#32 ∨ w = 2#32 ∨ w = 3#32 := by
  have : w.toNat = 0 ∨ w.toNat = 1 ∨ w.toNat = 2 ∨ w.toNat = 3 := by omega
  exact this.imp (fun e => BitVec.eq_of_toNat_eq e) (Or.imp (fun e => BitVec.eq_of_toNat_eq e) (Or.imp (fun e => BitVec.eq_of_toNat_eq e) (fun e => BitVec.eq_of_toNat_eq e)))

theorem xor2 (w : BitVec 32) (h : w.toNat < 2) : ∀ p : Fin 8, (w ^^^ BitVec.ofNat 32 (p.val / 4)).toNat < 2 := by
  obtain rfl | rfl := below2 h <;> decide
theorem xor4 (w : BitVec 32) (h : w.toNat < 4) : ∀ p : Fin 8, (w ^^^ BitVec.ofNat 32 (p.val % 4)).toNat < 4 := by
  obtain rfl | rfl | rfl | rfl := below4 h <;> decide

/-- Where part `p` comes from, along the axis of two and along the axis of four. -/
def placeE (w : BitVec 32) (h : w.toNat < 2) (p : Fin 8) : Fin 2 := ⟨_, xor2 w h p⟩
def placeD (w : BitVec 32) (h : w.toNat < 4) (p : Fin 8) : Fin 4 := ⟨_, xor4 w h p⟩

/-- Whether row `k` of the eight is the device's own. -/
def own (e d : BitVec 32) (k : Fin 8) : BitVec 1 := IntOp.cmpi .eq (BitVec.ofNat 32 k.val) (IntOp.addi (IntOp.muli 4#32 e) d)

/-- The device's own part and the seven received, taken in any order, are the eight rows. -/
theorem parts (f h : Fin 2 → Fin 4 → EReal) (e d : BitVec 32) (he : e.toNat < 2) (hd : d.toNat < 4) :
    f (placeE e he 0) (placeD d hd 0) + h (placeE e he 1) (placeD d hd 1) + h (placeE e he 2) (placeD d hd 2) + h (placeE e he 3) (placeD d hd 3)
      + h (placeE e he 4) (placeD d hd 4) + h (placeE e he 5) (placeD d hd 5) + h (placeE e he 6) (placeD d hd 6) + h (placeE e he 7) (placeD d hd 7)
    = ∑ k : Fin 8, Scalar.select (own e d k) (f ⟨k.val / 4, by omega⟩ ⟨k.val % 4, by omega⟩) (h ⟨k.val / 4, by omega⟩ ⟨k.val % 4, by omega⟩) := by
  rw [Fin.sum_univ_eight]
  obtain rfl | rfl := below2 he <;> obtain rfl | rfl | rfl | rfl := below4 hd <;>
    simp [placeE, placeD, own, Scalar.select, IntOp.cmpi, IntOp.addi, IntOp.muli] <;> abel

theorem sum_at (x0 x1 x2 x3 x4 x5 x6 x7 : Vec I S1x1x256x256 .f32) (r l : Fin 256) :
    (k0_pay1 (F := I) x0 x1 x2 x3 x4 x5 x6 x7 (ix3 0 r l) : EReal)
      = x0 (ix4 0 0 r l) + x1 (ix4 0 0 r l) + x2 (ix4 0 0 r l) + x3 (ix4 0 0 r l) + x4 (ix4 0 0 r l) + x5 (ix4 0 0 r l) + x6 (ix4 0 0 r l) + x7 (ix4 0 0 r l) := by
  unfold k0_pay1
  pointwise

section Ref

variable (a0 a1 a2 a3 : Vec I S2x4x1024x256 .f32) (a4 : Vec I S2 .i32) (a5 a6 a7 : Vec I S2x1024x256 .f32)

theorem own_at (k : Fin 8) (r : Fin 1024) (l : Fin 256) : val_main_v8 (F := I) a4 (ix3 k r l) = own (a4 (ix1 1)) (a4 (ix1 0)) k := by
  have h1 : ∀ j, val_main_v2 (F := I) a4 j = a4 (ix1 1) := fun j =>
    congrArg a4 (funext fun a => Fin.cases (Fin.ext (congrArg (1 + ·) (Nat.lt_one_iff.mp (Fin.isLt (n := 1) _)))) (fun a => a.elim0) a)
  have h0 : ∀ j, val_main_v5 (F := I) a4 j = a4 (ix1 0) := fun j =>
    congrArg a4 (funext fun a => Fin.cases (Fin.ext (congrArg (0 + ·) (Nat.lt_one_iff.mp (Fin.isLt (n := 1) _)))) (fun a => a.elim0) a)
  rw [val_main_v8_apply, val_main_v0_apply, val_main_v7_apply, val_main_v6_apply, val_main_v3_apply, h1, h0]
  rfl

/-- A stacked gradient, at layer `y`: the sum over the eight rows. -/
theorem layer0_at (r : Fin 1024) (l : Fin 256) : (val_main_v12 (F := I) a0 a1 a4 (ix2 r l) : EReal)
    = ∑ k : Fin 8, Scalar.select (own (a4 (ix1 1)) (a4 (ix1 0)) k) (a0 (ix4 ⟨k.val / 4, by omega⟩ ⟨k.val % 4, by omega⟩ r l) : EReal) (a1 (ix4 ⟨k.val / 4, by omega⟩ ⟨k.val % 4, by omega⟩ r l)) := by
  have e : ∀ k : Fin 8, idx_main_v9 (ix3 k r l) = ix4 ⟨k.val / 4, by omega⟩ ⟨k.val % 4, by omega⟩ r l := fun k => funext fun a => Fin.ext (match a with
    | ⟨0, _⟩ => by show ((k.val * 1024 + r.val) * 256 + l.val) / 1048576 = k.val / 4; omega
    | ⟨1, _⟩ => by show ((k.val * 1024 + r.val) * 256 + l.val) / 262144 % 4 = k.val % 4; omega
    | ⟨2, _⟩ => by show ((k.val * 1024 + r.val) * 256 + l.val) / 256 % 1024 = r.val; omega
    | ⟨3, _⟩ => by show ((k.val * 1024 + r.val) * 256 + l.val) % 256 = l.val; omega)
  have i : ∀ k : Fin 8, idx_main_v12 (ix2 r l) k = ix3 k r l := fun k => funext fun a => Fin.ext (match a with
    | ⟨0, _⟩ => rfl
    | ⟨1, _⟩ => rfl
    | ⟨2, _⟩ => rfl)
  rw [val_main_v12_apply, val_main_cst_apply, show (FloatOps.ofBits (F := I) FTy.f32 0x00000000#32 : EReal) = 0 from Ideal.ofBits_zero_f32, zero_add]
  refine Finset.sum_congr rfl fun k _ => ?_
  rw [i, val_main_v11_apply, own_at, val_main_v9_apply, val_main_v10_apply]
  exact congrArg₂ (Scalar.select _) (congrArg a0 (e k)) (congrArg a1 (e k))

/-- The second layer is read by the same text. -/
theorem layer1_eq : val_main_v16 (F := I) a2 a3 a4 = val_main_v12 (F := I) a2 a3 a4 := rfl

theorem grad0 (r : Fin 1024) (l : Fin 256) : val_main_v19 (F := I) a0 a1 a2 a3 a4 (ix3 0 r l) = val_main_v12 (F := I) a0 a1 a4 (ix2 r l) := by
  unfold val_main_v19
  refine (concatenate_pair_apply_left (t := S2x1024x256) (s₁ := Cert.Reference16Ideal.S1x1024x256) (s₂ := Cert.Reference16Ideal.S1x1024x256) 0 _ _ _ (ix3 0 r l) rfl (ix3 0 r l) (fun b => by fin_cases b <;> rfl)).trans ?_
  rw [val_main_v17_apply]
  exact congrArg (val_main_v12 (F := I) a0 a1 a4) (funext fun a => match a with
    | ⟨0, _⟩ => rfl
    | ⟨1, _⟩ => rfl)

theorem grad1 (r : Fin 1024) (l : Fin 256) : val_main_v19 (F := I) a0 a1 a2 a3 a4 (ix3 1 r l) = val_main_v12 (F := I) a2 a3 a4 (ix2 r l) := by
  unfold val_main_v19
  refine (concatenate_pair_apply_right (t := S2x1024x256) (s₁ := Cert.Reference16Ideal.S1x1024x256) (s₂ := Cert.Reference16Ideal.S1x1024x256) 0 _ _ _ (ix3 1 r l) rfl rfl (ix3 0 r l) (fun b hb => by fin_cases b <;> first | rfl | exact absurd rfl hb) rfl).trans ?_
  rw [val_main_v18_apply, layer1_eq]
  exact congrArg (val_main_v12 (F := I) a2 a3 a4) (funext fun a => match a with
    | ⟨0, _⟩ => rfl
    | ⟨1, _⟩ => rfl)

variable (g w mm vv : Vec I S1x256x256 .f32) (j : S1x256x256.Idx) (i : S2x1024x256.Idx)

/-- The first moment. -/
theorem first_at (hg : (g j : EReal) = val_main_v19 (F := I) a0 a1 a2 a3 a4 i) (hm : (mm j : EReal) = a6 i) :
    (k0_pay2 (F := I) g mm (Scalar.ofBits .f32 0x3F666666#32) j : EReal) = val_main_v24 (F := I) a0 a1 a2 a3 a4 a6 i := by
  unfold k0_pay2
  pointwise
  rw [hg, hm, val_main_v24_apply, val_main_v21_apply, val_main_v23_apply, val_main_v20_apply, val_main_v22_apply, val_main_cst_1_apply, val_main_cst_2_apply]
  rfl

/-- The second moment. -/
theorem second_at (hg : (g j : EReal) = val_main_v19 (F := I) a0 a1 a2 a3 a4 i) (hv : (vv j : EReal) = a7 i) :
    (k0_pay3 (F := I) g vv j : EReal) = val_main_v30 (F := I) a0 a1 a2 a3 a4 a7 i := by
  unfold k0_pay3
  pointwise
  rw [hg, hv, val_main_v30_apply, val_main_v26_apply, val_main_v29_apply, val_main_v27_apply, val_main_v25_apply, val_main_v28_apply, val_main_cst_3_apply, val_main_cst_4_apply]
  rfl

/-- The step of the weights. -/
theorem delta_at (hg : (g j : EReal) = val_main_v19 (F := I) a0 a1 a2 a3 a4 i) (hw : (w j : EReal) = a5 i) (hm : (mm j : EReal) = a6 i) (hv : (vv j : EReal) = a7 i) :
    (k0_pay4 (F := I) g mm (Scalar.ofBits .f32 0x3F666666#32) vv w j : EReal) = val_main_v43 (F := I) a0 a1 a2 a3 a4 a5 a6 a7 i := by
  unfold k0_pay4
  pointwise
  rw [show (k0_pay2 (F := I) g mm (Ideal.ofBits .f32 0x3F666666#32) j : EReal) = _ from first_at a0 a1 a2 a3 a4 a6 g mm j i hg hm, second_at a0 a1 a2 a3 a4 a7 g vv j i hg hv, hw, val_main_v43_apply, val_main_v41_apply, val_main_v38_apply, val_main_v32_apply, val_main_v37_apply,
    val_main_v35_apply, val_main_v34_apply, val_main_v40_apply, val_main_v42_apply, val_main_v31_apply, val_main_v33_apply, val_main_v36_apply, val_main_v39_apply,
    val_main_cst_5_apply, val_main_cst_6_apply, val_main_cst_7_apply, val_main_cst_8_apply, val_main_cst_9_apply]
  rfl

end Ref

end Cert.ShardSum

end
-- ==== Proof.Plain.Shard.lean ====
/- AdamW on a device's shard: the eight parts of the gradient are chosen by two prefetched indices. -/
module

public import proofs.«01_k».proof.Defs
public import proofs.«01_k».proof.Proof.Gen.Kernel16
public import proofs.«01_k».proof.Proof.Gen.Kernel16Ideal.Frame
public import proofs.«01_k».proof.Proof.Gen.Pre_in_range16
public import proofs.«01_k».proof.Proof.Gen.Reference16Ideal.Read
public import proofs.«01_k».proof.Proof.Gen.Reference16Ideal.Run
public import proofs.«01_k».proof.Proof.Plain.ShardSum
public import Idealize.ShloMosaic.Lib.Pipeline.Value
public import Idealize.ShloMosaic.Lib.Pipeline.Covers
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Kernel16Ideal.Shard

open Cert.Kernel16Ideal Cert.Kernel16Ideal.Gen Cert.ShardSum

local notation "I" => Idealize.ShloMosaic.Ideal

section Table

variable {F : FTy → Type} [FloatOps F] (m : (ℓ : Loc nD τ sig) → Buf (Elt F) ℓ)

/-- The device's place along the axis of four. -/
def wordD : BitVec 32 := m (((0 : Dev nD).tc : Thread nD τ).loc main_arg4) (ix1 0)

/-- The device's place along the axis of two. -/
def wordE : BitVec 32 := m (((0 : Dev nD).tc : Thread nD τ).loc main_arg4) (ix1 1)

theorem at0_eq (hi hn) : (tbl m).at 0 (Rect.unit (s := S2) ![0] S1.size hi) hn = wordD m := by
  unfold wordD
  refine congrArg (m (((0 : Dev nD).tc : Thread nD τ).loc main_arg4)) (funext fun a => Fin.ext ?_)
  refine Fin.cases ?_ (fun a => a.elim0) a
  rfl

theorem at1_eq (hi hn) : (tbl m).at 0 (Rect.unit (s := S2) ![1] S1.size hi) hn = wordE m := by
  unfold wordE
  refine congrArg (m (((0 : Dev nD).tc : Thread nD τ).loc main_arg4)) (funext fun a => Fin.ext ?_)
  refine Fin.cases ?_ (fun a => a.elim0) a
  rfl

theorem coords_eq : ∀ t : Fin grid0.N, (BitVec.ofNat 32 (grid0.coords t 0).val) = BitVec.ofNat 32 (t.val / 4) ∧ (BitVec.ofNat 32 (grid0.coords t 1).val) = BitVec.ofNat 32 (t.val % 4) := by decide +kernel

/-- The row block of layer `l`'s parts at a point. -/
def row (l : ℕ) (t : Fin grid0.N) : ℕ := if t.val / 4 = l then t.val % 4 else 0

theorem sel0 : ∀ t : Fin grid0.N, (Scalar.select (Scalar.cmpi .eq (BitVec.ofNat 32 (t.val / 4)) 0#32) (BitVec.ofNat 32 (t.val % 4)) 0#32 : BitVec 32).toNat = row 0 t := by decide +kernel
theorem sel1 : ∀ t : Fin grid0.N, (Scalar.select (Scalar.cmpi .eq (BitVec.ofNat 32 (t.val / 4)) 1#32) (BitVec.ofNat 32 (t.val % 4)) 0#32 : BitVec 32).toNat = row 1 t := by decide +kernel

/-- The block index of part `p` of layer `l` at a point. -/
def part (l p : ℕ) (t : Fin grid0.N) : Fin 4 → ℕ := ![(wordE m ^^^ BitVec.ofNat 32 (p / 4)).toNat, (wordD m ^^^ BitVec.ofNat 32 (p % 4)).toNat, row l t, 0]

theorem own_part (l : ℕ) (t : Fin grid0.N) : ![(wordE m).toNat, (wordD m).toNat, row l t, 0] = part m l 0 t := by
  unfold part
  rw [BitVec.xor_zero, BitVec.xor_zero]

theorem index_all (t : Fin grid0.N) (hi hn hj) :
    cc0_transform_0 hi hn hj (tbl m) (grid0.coords t) = part m 0 0 t ∧
    cc0_transform_1 hi hn hj (tbl m) (grid0.coords t) = part m 0 1 t ∧
    cc0_transform_2 hi hn hj (tbl m) (grid0.coords t) = part m 0 2 t ∧
    cc0_transform_3 hi hn hj (tbl m) (grid0.coords t) = part m 0 3 t ∧
    cc0_transform_4 hi hn hj (tbl m) (grid0.coords t) = part m 0 4 t ∧
    cc0_transform_5 hi hn hj (tbl m) (grid0.coords t) = part m 0 5 t ∧
    cc0_transform_6 hi hn hj (tbl m) (grid0.coords t) = part m 0 6 t ∧
    cc0_transform_7 hi hn hj (tbl m) (grid0.coords t) = part m 0 7 t ∧
    cc0_transform_8 hi hn hj (tbl m) (grid0.coords t) = part m 1 0 t ∧
    cc0_transform_9 hi hn hj (tbl m) (grid0.coords t) = part m 1 1 t ∧
    cc0_transform_10 hi hn hj (tbl m) (grid0.coords t) = part m 1 2 t ∧
    cc0_transform_11 hi hn hj (tbl m) (grid0.coords t) = part m 1 3 t ∧
    cc0_transform_12 hi hn hj (tbl m) (grid0.coords t) = part m 1 4 t ∧
    cc0_transform_13 hi hn hj (tbl m) (grid0.coords t) = part m 1 5 t ∧
    cc0_transform_14 hi hn hj (tbl m) (grid0.coords t) = part m 1 6 t ∧
    cc0_transform_15 hi hn hj (tbl m) (grid0.coords t) = part m 1 7 t := by
  unfold cc0_transform_0 cc0_transform_1 cc0_transform_2 cc0_transform_3 cc0_transform_4 cc0_transform_5 cc0_transform_6 cc0_transform_7 cc0_transform_8 cc0_transform_9 cc0_transform_10 cc0_transform_11 cc0_transform_12 cc0_transform_13 cc0_transform_14 cc0_transform_15
  have w0 := at0_eq m hj hn
  have w1 := at1_eq m hi hn
  dsimp only at w0 w1 ⊢
  simp only [w0, w1, (coords_eq t).1, (coords_eq t).2, sel0, sel1]
  exact ⟨own_part m 0 t, rfl, rfl, rfl, rfl, rfl, rfl, rfl, own_part m 1 t, rfl, rfl, rfl, rfl, rfl, rfl, rfl⟩

theorem part_inside (hE : (wordE m).toNat < 2) (hD : (wordD m).toNat < 4) (l : ℕ) (p : Fin 8) (t : Fin grid0.N) (a : Fin 4) :
    (part m l p.val t a + 1) * S1x1x256x256.size a ≤ S2x4x1024x256.size a := by
  have h2 := xor2 _ hE p
  have h4 := xor4 _ hD p
  have h : row l t < 4 := by unfold row; split <;> omega
  match a with
  | ⟨0, _⟩ => show (_ + 1) * 1 ≤ 2; exact (Nat.mul_one _).le.trans h2
  | ⟨1, _⟩ => show (_ + 1) * 1 ≤ 4; exact (Nat.mul_one _).le.trans h4
  | ⟨2, _⟩ => show (row l t + 1) * 256 ≤ 1024; omega
  | ⟨3, _⟩ => show (0 + 1) * 256 ≤ 256; omega

/-- The blocks stay inside the arrays when the place is one of the eight. -/
theorem ok (hE : (wordE m).toNat < 2) (hD : (wordD m).toNat < 4) : Ok m := by
  show ok0 (tbl m)
  unfold ok0
  refine ⟨?_, ?_, ?_, ?_, ?_, ?_, ?_, ?_, ?_, ?_, ?_, ?_, ?_, ?_, ?_, ?_⟩ <;>
    (intro i
     obtain ⟨t, rfl⟩ : ∃ t : Fin grid0.N, grid0.coords t = i := Pipeline.Grid.coords_surjective grid0 i
     refine ⟨fun a => ?_, Or.inl rfl⟩
     simp only [index_all m t])
  · exact part_inside m hE hD 0 0 t a
  · exact part_inside m hE hD 0 1 t a
  · exact part_inside m hE hD 0 2 t a
  · exact part_inside m hE hD 0 3 t a
  · exact part_inside m hE hD 0 4 t a
  · exact part_inside m hE hD 0 5 t a
  · exact part_inside m hE hD 0 6 t a
  · exact part_inside m hE hD 0 7 t a
  · exact part_inside m hE hD 1 0 t a
  · exact part_inside m hE hD 1 1 t a
  · exact part_inside m hE hD 1 2 t a
  · exact part_inside m hE hD 1 3 t a
  · exact part_inside m hE hD 1 4 t a
  · exact part_inside m hE hD 1 5 t a
  · exact part_inside m hE hD 1 6 t a
  · exact part_inside m hE hD 1 7 t a

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The four results of a point from its gradient and its three blocks. -/
abbrev Four (g x16 x17 x18 : Vec F S1x256x256 .f32) : Vec F S1x256x256 .f32 × Vec F S1x256x256 .f32 × Vec F S1x256x256 .f32 × Vec F S1x256x256 .f32 :=
  (g, k0_pay4 (F := F) g x17 (Scalar.ofBits .f32 0x3F666666#32) x18 x16, k0_pay2 (F := F) g x17 (Scalar.ofBits .f32 0x3F666666#32), k0_pay3 (F := F) g x18)

section Pieces

variable (c : Dev nD) (i : grid0.Coords)
  (a3 a4 a5 a6 a7 a8 a9 a10 a11 a12 a13 a14 a15 a16 a17 a18 : Memref sig .tc .vmem S1x1x256x256 .f32) (a19 a20 a21 a22 a23 a24 a25 : Memref sig .tc .vmem S1x256x256 .f32)
  (h3 : a3.IsWhole) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole) (h13 : a13.IsWhole) (h14 : a14.IsWhole) (h15 : a15.IsWhole) (h16 : a16.IsWhole) (h17 : a17.IsWhole) (h18 : a18.IsWhole) (h19 : a19.IsWhole) (h20 : a20.IsWhole) (h21 : a21.IsWhole) (h22 : a22.IsWhole) (h23 : a23.IsWhole) (h24 : a24.IsWhole) (h25 : a25.IsWhole)
  (x0 x1 x2 x3 x4 x5 x6 x7 x8 x9 x10 x11 x12 x13 x14 x15 : Vec F S1x1x256x256 .f32) (x16 x17 x18 : Vec F S1x256x256 .f32) (w : TbBuf0 (F := F) c tbM0_0)

theorem fourA (hc0 : cond0_0 i) (hc1 : ¬cond0_1 i) :
    (out0_A_19 c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 hc1 x0 x1 x2 x3 x4 x5 x6 x7 x8 x9 x10 x11 x12 x13 x14 x15 x16 x17 x18 w, out0_A_20 c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 hc1 x0 x1 x2 x3 x4 x5 x6 x7 x8 x9 x10 x11 x12 x13 x14 x15 x16 x17 x18 w, out0_A_21 c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 hc1 x0 x1 x2 x3 x4 x5 x6 x7 x8 x9 x10 x11 x12 x13 x14 x15 x16 x17 x18 w, out0_A_22 c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 hc1 x0 x1 x2 x3 x4 x5 x6 x7 x8 x9 x10 x11 x12 x13 x14 x15 x16 x17 x18 w)
      = Four (k0_pay1 (F := F) x0 x1 x2 x3 x4 x5 x6 x7) x16 x17 x18 := by
  refine congrArg₂ Prod.mk ?_ (congrArg₂ Prod.mk ?_ (congrArg₂ Prod.mk ?_ ?_))
  on_goal 1 => unfold out0_A_19; rw [View.read_writes_eq_canon _ _ _ (fun y => cover0_A_19 (y := y) ..)]
  on_goal 2 => unfold out0_A_20; rw [View.read_writes_eq_canon _ _ _ (fun y => cover0_A_20 (y := y) ..)]
  on_goal 3 => unfold out0_A_21; rw [View.read_writes_eq_canon _ _ _ (fun y => cover0_A_21 (y := y) ..)]
  on_goal 4 => unfold out0_A_22; rw [View.read_writes_eq_canon _ _ _ (fun y => cover0_A_22 (y := y) ..)]
  all_goals
    unfold kernelRun0_A
    dsimp only
    try sl_unfold_words
    rw [View.canon_cons_unit_zero (S := S1x256x256) hz3]
    simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread,
      View.ld_unit_zero (S := S1x256x256) hz3, View.ld_unit_zero (S := S1x1x256x256) hz4, shapeCast_self]

theorem fourB (hc0 : ¬cond0_0 i) (hc1 : cond0_1 i) :
    (out0_B_19 c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 hc1 x0 x1 x2 x3 x4 x5 x6 x7 x8 x9 x10 x11 x12 x13 x14 x15 x16 x17 x18 w, out0_B_20 c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 hc1 x0 x1 x2 x3 x4 x5 x6 x7 x8 x9 x10 x11 x12 x13 x14 x15 x16 x17 x18 w, out0_B_21 c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 hc1 x0 x1 x2 x3 x4 x5 x6 x7 x8 x9 x10 x11 x12 x13 x14 x15 x16 x17 x18 w, out0_B_22 c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 hc1 x0 x1 x2 x3 x4 x5 x6 x7 x8 x9 x10 x11 x12 x13 x14 x15 x16 x17 x18 w)
      = Four (k0_pay1 (F := F) x8 x9 x10 x11 x12 x13 x14 x15) x16 x17 x18 := by
  refine congrArg₂ Prod.mk ?_ (congrArg₂ Prod.mk ?_ (congrArg₂ Prod.mk ?_ ?_))
  on_goal 1 => unfold out0_B_19; rw [View.read_writes_eq_canon _ _ _ (fun y => cover0_B_19 (y := y) ..)]
  on_goal 2 => unfold out0_B_20; rw [View.read_writes_eq_canon _ _ _ (fun y => cover0_B_20 (y := y) ..)]
  on_goal 3 => unfold out0_B_21; rw [View.read_writes_eq_canon _ _ _ (fun y => cover0_B_21 (y := y) ..)]
  on_goal 4 => unfold out0_B_22; rw [View.read_writes_eq_canon _ _ _ (fun y => cover0_B_22 (y := y) ..)]
  all_goals
    unfold kernelRun0_B
    dsimp only
    try sl_unfold_words
    rw [View.canon_cons_unit_zero (S := S1x256x256) hz3]
    simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread,
      View.ld_unit_zero (S := S1x256x256) hz3, View.ld_unit_zero (S := S1x1x256x256) hz4, shapeCast_self]
    rfl

end Pieces

variable (hO : Ok m) (c : Dev nD)

/-- The sum of the eight parts at a point. -/
def eight (t : Fin (cfgM m hO).N) : Vec F S1x256x256 .f32 :=
  if t.val < 4 then k0_pay1 (F := F) (iblk m hO c 0 t) (iblk m hO c 1 t) (iblk m hO c 2 t) (iblk m hO c 3 t) (iblk m hO c 4 t) (iblk m hO c 5 t) (iblk m hO c 6 t) (iblk m hO c 7 t)
  else k0_pay1 (F := F) (iblk m hO c 8 t) (iblk m hO c 9 t) (iblk m hO c 10 t) (iblk m hO c 11 t) (iblk m hO c 12 t) (iblk m hO c 13 t) (iblk m hO c 14 t) (iblk m hO c 15 t)

theorem outsA (t : Fin (cfgM m hO).N) (h0 : t.val < 4) (h1 : ¬4 ≤ t.val) : outsAt0 m hO c t.val t.isLt
    = Four (k0_pay1 (F := F) (iblk m hO c 0 t) (iblk m hO c 1 t) (iblk m hO c 2 t) (iblk m hO c 3 t) (iblk m hO c 4 t) (iblk m hO c 5 t) (iblk m hO c 6 t) (iblk m hO c 7 t)) (iblk m hO c 16 t) (iblk m hO c 17 t) (iblk m hO c 18 t) :=
  (outsAt0_A m hO c t h0 h1).trans (fourA ..)

theorem outsB (t : Fin (cfgM m hO).N) (h0 : ¬t.val < 4) (h1 : 4 ≤ t.val) : outsAt0 m hO c t.val t.isLt
    = Four (k0_pay1 (F := F) (iblk m hO c 8 t) (iblk m hO c 9 t) (iblk m hO c 10 t) (iblk m hO c 11 t) (iblk m hO c 12 t) (iblk m hO c 13 t) (iblk m hO c 14 t) (iblk m hO c 15 t)) (iblk m hO c 16 t) (iblk m hO c 17 t) (iblk m hO c 18 t) :=
  (outsAt0_B m hO c t h0 h1).trans (fourB ..)

theorem outs (t : Fin (cfgM m hO).N) : outsAt0 m hO c t.val t.isLt
    = Four (eight m hO c t) (iblk m hO c 16 t) (iblk m hO c 17 t) (iblk m hO c 18 t) := by
  by_cases h : t.val < 4
  · rw [outsA m hO c t h (by omega), show eight m hO c t = _ from if_pos h]
  · rw [outsB m hO c t h (by omega), show eight m hO c t = _ from if_neg h]

end Table

def layer (t : Fin grid0.N) : Fin 2 := ⟨t.val / 4, by have := t.isLt; change t.val < 8 at this; omega⟩
def line (t : Fin grid0.N) (r : Fin 256) : Fin 1024 := ⟨256 * (t.val % 4) + r.val, by omega⟩

variable (m : (ℓ : Loc nD τ sig) → Buf (Elt I) ℓ) (hO : Ok m) (c : Dev nD) (hE : (wordE m).toNat < 2) (hD : (wordD m).toNat < 4)

/-- The block index of part `q` when its layer is the one at hand. -/
def place (q : Fin 8) (t : Fin grid0.N) : Fin 4 → ℕ := ![(placeE (wordE m) hE q).val, (placeD (wordD m) hD q).val, t.val % 4, 0]

theorem idx_layer0 (t : Fin grid0.N) (h : t.val / 4 = 0) :
    ((cfgM m hO).win 0).index t = place m hE hD 0 t ∧
    ((cfgM m hO).win 1).index t = place m hE hD 1 t ∧
    ((cfgM m hO).win 2).index t = place m hE hD 2 t ∧
    ((cfgM m hO).win 3).index t = place m hE hD 3 t ∧
    ((cfgM m hO).win 4).index t = place m hE hD 4 t ∧
    ((cfgM m hO).win 5).index t = place m hE hD 5 t ∧
    ((cfgM m hO).win 6).index t = place m hE hD 6 t ∧
    ((cfgM m hO).win 7).index t = place m hE hD 7 t := by
  have e : ∀ q : Fin 8, part m 0 q.val t = place m hE hD q t := fun q => by
    unfold part place row
    rw [if_pos h]
    rfl
  exact ⟨(index_all m t _ _ _).1.trans (e 0), (index_all m t _ _ _).2.1.trans (e 1), (index_all m t _ _ _).2.2.1.trans (e 2), (index_all m t _ _ _).2.2.2.1.trans (e 3), (index_all m t _ _ _).2.2.2.2.1.trans (e 4), (index_all m t _ _ _).2.2.2.2.2.1.trans (e 5), (index_all m t _ _ _).2.2.2.2.2.2.1.trans (e 6), (index_all m t _ _ _).2.2.2.2.2.2.2.1.trans (e 7)⟩

theorem idx_layer1 (t : Fin grid0.N) (h : t.val / 4 = 1) :
    ((cfgM m hO).win 8).index t = place m hE hD 0 t ∧
    ((cfgM m hO).win 9).index t = place m hE hD 1 t ∧
    ((cfgM m hO).win 10).index t = place m hE hD 2 t ∧
    ((cfgM m hO).win 11).index t = place m hE hD 3 t ∧
    ((cfgM m hO).win 12).index t = place m hE hD 4 t ∧
    ((cfgM m hO).win 13).index t = place m hE hD 5 t ∧
    ((cfgM m hO).win 14).index t = place m hE hD 6 t ∧
    ((cfgM m hO).win 15).index t = place m hE hD 7 t := by
  have e : ∀ q : Fin 8, part m 1 q.val t = place m hE hD q t := fun q => by
    unfold part place row
    rw [if_pos h]
    rfl
  exact ⟨(index_all m t _ _ _).2.2.2.2.2.2.2.2.1.trans (e 0), (index_all m t _ _ _).2.2.2.2.2.2.2.2.2.1.trans (e 1), (index_all m t _ _ _).2.2.2.2.2.2.2.2.2.2.1.trans (e 2), (index_all m t _ _ _).2.2.2.2.2.2.2.2.2.2.2.1.trans (e 3), (index_all m t _ _ _).2.2.2.2.2.2.2.2.2.2.2.2.1.trans (e 4), (index_all m t _ _ _).2.2.2.2.2.2.2.2.2.2.2.2.2.1.trans (e 5), (index_all m t _ _ _).2.2.2.2.2.2.2.2.2.2.2.2.2.2.1.trans (e 6), (index_all m t _ _ _).2.2.2.2.2.2.2.2.2.2.2.2.2.2.2.trans (e 7)⟩

theorem step_eq : ∀ t : Fin grid0.N, cc0_transform_16 (grid0.coords t) = ![t.val / 4, t.val % 4, 0] := by decide +kernel
theorem idx16 (t : Fin grid0.N) : ((cfgM m hO).win 16).index t = ![t.val / 4, t.val % 4, 0] := step_eq t
theorem idx17 (t : Fin grid0.N) : ((cfgM m hO).win 17).index t = ![t.val / 4, t.val % 4, 0] := step_eq t
theorem idx18 (t : Fin grid0.N) : ((cfgM m hO).win 18).index t = ![t.val / 4, t.val % 4, 0] := step_eq t
theorem idx19 (t : Fin grid0.N) : ((cfgM m hO).win 19).index t = ![t.val / 4, t.val % 4, 0] := step_eq t
theorem idx20 (t : Fin grid0.N) : ((cfgM m hO).win 20).index t = ![t.val / 4, t.val % 4, 0] := step_eq t
theorem idx21 (t : Fin grid0.N) : ((cfgM m hO).win 21).index t = ![t.val / 4, t.val % 4, 0] := step_eq t
theorem idx22 (t : Fin grid0.N) : ((cfgM m hO).win 22).index t = ![t.val / 4, t.val % 4, 0] := step_eq t

theorem covers19 : ((cfgM m hO).win 19).Covers := of_decide_eq_true (by sl_kernel_rfl)
theorem covers20 : ((cfgM m hO).win 20).Covers := of_decide_eq_true (by sl_kernel_rfl)
theorem covers21 : ((cfgM m hO).win 21).Covers := of_decide_eq_true (by sl_kernel_rfl)
theorem covers22 : ((cfgM m hO).win 22).Covers := of_decide_eq_true (by sl_kernel_rfl)

theorem blk_layer0 (t : Fin grid0.N) (h : t.val / 4 = 0) (r l : Fin 256) :
    (iblk m hO c 0 t (ix4 0 0 r l) : EReal) = m ((c.tc : Thread nD τ).loc main_arg0) (ix4 (placeE (wordE m) hE 0) (placeD (wordD m) hD 0) (line t r) l) ∧
    (iblk m hO c 1 t (ix4 0 0 r l) : EReal) = m ((c.tc : Thread nD τ).loc main_arg1) (ix4 (placeE (wordE m) hE 1) (placeD (wordD m) hD 1) (line t r) l) ∧
    (iblk m hO c 2 t (ix4 0 0 r l) : EReal) = m ((c.tc : Thread nD τ).loc main_arg1) (ix4 (placeE (wordE m) hE 2) (placeD (wordD m) hD 2) (line t r) l) ∧
    (iblk m hO c 3 t (ix4 0 0 r l) : EReal) = m ((c.tc : Thread nD τ).loc main_arg1) (ix4 (placeE (wordE m) hE 3) (placeD (wordD m) hD 3) (line t r) l) ∧
    (iblk m hO c 4 t (ix4 0 0 r l) : EReal) = m ((c.tc : Thread nD τ).loc main_arg1) (ix4 (placeE (wordE m) hE 4) (placeD (wordD m) hD 4) (line t r) l) ∧
    (iblk m hO c 5 t (ix4 0 0 r l) : EReal) = m ((c.tc : Thread nD τ).loc main_arg1) (ix4 (placeE (wordE m) hE 5) (placeD (wordD m) hD 5) (line t r) l) ∧
    (iblk m hO c 6 t (ix4 0 0 r l) : EReal) = m ((c.tc : Thread nD τ).loc main_arg1) (ix4 (placeE (wordE m) hE 6) (placeD (wordD m) hD 6) (line t r) l) ∧
    (iblk m hO c 7 t (ix4 0 0 r l) : EReal) = m ((c.tc : Thread nD τ).loc main_arg1) (ix4 (placeE (wordE m) hE 7) (placeD (wordD m) hD 7) (line t r) l) := by
  obtain ⟨i0, i1, i2, i3, i4, i5, i6, i7⟩ := idx_layer0 m hO hE hD t h
  rw [← V_main_arg0 m c, ← V_main_arg1 m c]
  refine ⟨?_, ?_, ?_, ?_, ?_, ?_, ?_, ?_⟩
  · blk_ext [iblk, i0, place, line]
  · blk_ext [iblk, i1, place, line]
  · blk_ext [iblk, i2, place, line]
  · blk_ext [iblk, i3, place, line]
  · blk_ext [iblk, i4, place, line]
  · blk_ext [iblk, i5, place, line]
  · blk_ext [iblk, i6, place, line]
  · blk_ext [iblk, i7, place, line]

theorem blk_layer1 (t : Fin grid0.N) (h : t.val / 4 = 1) (r l : Fin 256) :
    (iblk m hO c 8 t (ix4 0 0 r l) : EReal) = m ((c.tc : Thread nD τ).loc main_arg2) (ix4 (placeE (wordE m) hE 0) (placeD (wordD m) hD 0) (line t r) l) ∧
    (iblk m hO c 9 t (ix4 0 0 r l) : EReal) = m ((c.tc : Thread nD τ).loc main_arg3) (ix4 (placeE (wordE m) hE 1) (placeD (wordD m) hD 1) (line t r) l) ∧
    (iblk m hO c 10 t (ix4 0 0 r l) : EReal) = m ((c.tc : Thread nD τ).loc main_arg3) (ix4 (placeE (wordE m) hE 2) (placeD (wordD m) hD 2) (line t r) l) ∧
    (iblk m hO c 11 t (ix4 0 0 r l) : EReal) = m ((c.tc : Thread nD τ).loc main_arg3) (ix4 (placeE (wordE m) hE 3) (placeD (wordD m) hD 3) (line t r) l) ∧
    (iblk m hO c 12 t (ix4 0 0 r l) : EReal) = m ((c.tc : Thread nD τ).loc main_arg3) (ix4 (placeE (wordE m) hE 4) (placeD (wordD m) hD 4) (line t r) l) ∧
    (iblk m hO c 13 t (ix4 0 0 r l) : EReal) = m ((c.tc : Thread nD τ).loc main_arg3) (ix4 (placeE (wordE m) hE 5) (placeD (wordD m) hD 5) (line t r) l) ∧
    (iblk m hO c 14 t (ix4 0 0 r l) : EReal) = m ((c.tc : Thread nD τ).loc main_arg3) (ix4 (placeE (wordE m) hE 6) (placeD (wordD m) hD 6) (line t r) l) ∧
    (iblk m hO c 15 t (ix4 0 0 r l) : EReal) = m ((c.tc : Thread nD τ).loc main_arg3) (ix4 (placeE (wordE m) hE 7) (placeD (wordD m) hD 7) (line t r) l) := by
  obtain ⟨i0, i1, i2, i3, i4, i5, i6, i7⟩ := idx_layer1 m hO hE hD t h
  rw [← V_main_arg2 m c, ← V_main_arg3 m c]
  refine ⟨?_, ?_, ?_, ?_, ?_, ?_, ?_, ?_⟩
  · blk_ext [iblk, i0, place, line]
  · blk_ext [iblk, i1, place, line]
  · blk_ext [iblk, i2, place, line]
  · blk_ext [iblk, i3, place, line]
  · blk_ext [iblk, i4, place, line]
  · blk_ext [iblk, i5, place, line]
  · blk_ext [iblk, i6, place, line]
  · blk_ext [iblk, i7, place, line]

theorem blk16 (t : Fin grid0.N) (r l : Fin 256) :
    (iblk m hO c 16 t (ix3 0 r l) : EReal) = m ((c.tc : Thread nD τ).loc main_arg5) (ix3 (layer t) (line t r) l) := by
  rw [← V_main_arg5 m c]
  blk_ext [iblk, idx16 m hO t, layer, line]

theorem blk17 (t : Fin grid0.N) (r l : Fin 256) :
    (iblk m hO c 17 t (ix3 0 r l) : EReal) = m ((c.tc : Thread nD τ).loc main_arg6) (ix3 (layer t) (line t r) l) := by
  rw [← V_main_arg6 m c]
  blk_ext [iblk, idx17 m hO t, layer, line]

theorem blk18 (t : Fin grid0.N) (r l : Fin 256) :
    (iblk m hO c 18 t (ix3 0 r l) : EReal) = m ((c.tc : Thread nD τ).loc main_arg7) (ix3 (layer t) (line t r) l) := by
  rw [← V_main_arg7 m c]
  blk_ext [iblk, idx18 m hO t, layer, line]

open Cert.Reference16Ideal.Read

/-- The four results of the plain reading. -/
abbrev V19 := val_main_v19 (F := I) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
abbrev V43 := val_main_v43 (F := I) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
abbrev V24 := val_main_v24 (F := I) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
abbrev V30 := val_main_v30 (F := I) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))

include hE hD

/-- The sum of the eight parts at a point: the gradient of the plain reading. -/
theorem eight_at (t : Fin grid0.N) (r l : Fin 256) : (eight m hO c t (ix3 0 r l) : EReal) = V19 m c (ix3 (layer t) (line t r) l) := by
  unfold V19
  obtain rfl : c = 0 := Subsingleton.elim _ _
  have hN : t.val < 8 := t.isLt
  by_cases h : t.val < 4
  · rw [show eight m hO 0 t = _ from if_pos h]
    obtain ⟨b0, b1, b2, b3, b4, b5, b6, b7⟩ := blk_layer0 m hO 0 hE hD t (by omega) r l
    refine (sum_at _ _ _ _ _ _ _ _ r l).trans ?_
    rw [b0, b1, b2, b3, b4, b5, b6, b7, show layer t = 0 from Fin.ext (by show t.val / 4 = 0; omega), grad0, layer0_at]
    exact parts (fun a b => m (((0 : Dev nD).tc : Thread nD τ).loc main_arg0) (ix4 a b (line t r) l)) (fun a b => m (((0 : Dev nD).tc : Thread nD τ).loc main_arg1) (ix4 a b (line t r) l)) _ _ hE hD
  · rw [show eight m hO 0 t = _ from if_neg h]
    obtain ⟨b0, b1, b2, b3, b4, b5, b6, b7⟩ := blk_layer1 m hO 0 hE hD t (by omega) r l
    refine (sum_at _ _ _ _ _ _ _ _ r l).trans ?_
    rw [b0, b1, b2, b3, b4, b5, b6, b7, show layer t = 1 from Fin.ext (by show t.val / 4 = 1; omega), grad1, layer0_at]
    exact parts (fun a b => m (((0 : Dev nD).tc : Thread nD τ).loc main_arg2) (ix4 a b (line t r) l)) (fun a b => m (((0 : Dev nD).tc : Thread nD τ).loc main_arg3) (ix4 a b (line t r) l)) _ _ hE hD

theorem fin19 : (dats m hO 0 c).arrAt 19 (cfgM m hO).N = V19 m c := by
  refine (dats m hO 0 c).arrAt_eq_of_covers 19 _ (covers19 m hO) fun t hf (y : S1x256x256.Idx) => ?_
  have i0 : ((cfgM m hO).win 19).index t (0 : Fin 3) = t.val / 4 := congrFun (idx19 m hO t) (0 : Fin 3)
  have i1 : ((cfgM m hO).win 19).index t (1 : Fin 3) = t.val % 4 := congrFun (idx19 m hO t) (1 : Fin 3)
  have i2 : ((cfgM m hO).win 19).index t (2 : Fin 3) = 0 := congrFun (idx19 m hO t) (2 : Fin 3)
  blk_simp
  rw [after0_19, outs]
  idx_vars y
  obtain rfl : y0 = 0 := Subsingleton.elim _ _
  refine (eight_at m hO c hE hD t y1 y2).trans (congrArg (V19 m c) (funext fun a => ?_))
  refine Fin.cases (Fin.ext ?_) (fun a => Fin.cases (Fin.ext ?_) (fun a => Fin.cases (Fin.ext ?_) (fun a => a.elim0) a) a) a
  · blk_simp; exact i0.symm
  · blk_simp; refine Eq.trans ?_ (congrArg (fun n => n * 256 + y1.val) i1.symm); show 256 * (t.val % 4) + y1.val = t.val % 4 * 256 + y1.val; omega
  · blk_simp; refine Eq.trans ?_ (congrArg (fun n => n * 256 + y2.val) i2.symm); show y2.val = 0 * 256 + y2.val; omega

theorem fin20 : (dats m hO 0 c).arrAt 20 (cfgM m hO).N = V43 m c := by
  refine (dats m hO 0 c).arrAt_eq_of_covers 20 _ (covers20 m hO) fun t hf (y : S1x256x256.Idx) => ?_
  have i0 : ((cfgM m hO).win 20).index t (0 : Fin 3) = t.val / 4 := congrFun (idx20 m hO t) (0 : Fin 3)
  have i1 : ((cfgM m hO).win 20).index t (1 : Fin 3) = t.val % 4 := congrFun (idx20 m hO t) (1 : Fin 3)
  have i2 : ((cfgM m hO).win 20).index t (2 : Fin 3) = 0 := congrFun (idx20 m hO t) (2 : Fin 3)
  blk_simp
  rw [after0_20, outs]
  idx_vars y
  obtain rfl : y0 = 0 := Subsingleton.elim _ _
  refine (delta_at _ _ _ _ _ _ _ _ _ _ _ _ (ix3 0 y1 y2) _ (eight_at m hO c hE hD t y1 y2) (blk16 m hO c t y1 y2) (blk17 m hO c t y1 y2) (blk18 m hO c t y1 y2)).trans (congrArg (V43 m c) (funext fun a => ?_))
  refine Fin.cases (Fin.ext ?_) (fun a => Fin.cases (Fin.ext ?_) (fun a => Fin.cases (Fin.ext ?_) (fun a => a.elim0) a) a) a
  · blk_simp; exact i0.symm
  · blk_simp; refine Eq.trans ?_ (congrArg (fun n => n * 256 + y1.val) i1.symm); show 256 * (t.val % 4) + y1.val = t.val % 4 * 256 + y1.val; omega
  · blk_simp; refine Eq.trans ?_ (congrArg (fun n => n * 256 + y2.val) i2.symm); show y2.val = 0 * 256 + y2.val; omega

theorem fin21 : (dats m hO 0 c).arrAt 21 (cfgM m hO).N = V24 m c := by
  refine (dats m hO 0 c).arrAt_eq_of_covers 21 _ (covers21 m hO) fun t hf (y : S1x256x256.Idx) => ?_
  have i0 : ((cfgM m hO).win 21).index t (0 : Fin 3) = t.val / 4 := congrFun (idx21 m hO t) (0 : Fin 3)
  have i1 : ((cfgM m hO).win 21).index t (1 : Fin 3) = t.val % 4 := congrFun (idx21 m hO t) (1 : Fin 3)
  have i2 : ((cfgM m hO).win 21).index t (2 : Fin 3) = 0 := congrFun (idx21 m hO t) (2 : Fin 3)
  blk_simp
  rw [after0_21, outs]
  idx_vars y
  obtain rfl : y0 = 0 := Subsingleton.elim _ _
  refine (first_at _ _ _ _ _ _ _ _ (ix3 0 y1 y2) _ (eight_at m hO c hE hD t y1 y2) (blk17 m hO c t y1 y2)).trans (congrArg (V24 m c) (funext fun a => ?_))
  refine Fin.cases (Fin.ext ?_) (fun a => Fin.cases (Fin.ext ?_) (fun a => Fin.cases (Fin.ext ?_) (fun a => a.elim0) a) a) a
  · blk_simp; exact i0.symm
  · blk_simp; refine Eq.trans ?_ (congrArg (fun n => n * 256 + y1.val) i1.symm); show 256 * (t.val % 4) + y1.val = t.val % 4 * 256 + y1.val; omega
  · blk_simp; refine Eq.trans ?_ (congrArg (fun n => n * 256 + y2.val) i2.symm); show y2.val = 0 * 256 + y2.val; omega

theorem fin22 : (dats m hO 0 c).arrAt 22 (cfgM m hO).N = V30 m c := by
  refine (dats m hO 0 c).arrAt_eq_of_covers 22 _ (covers22 m hO) fun t hf (y : S1x256x256.Idx) => ?_
  have i0 : ((cfgM m hO).win 22).index t (0 : Fin 3) = t.val / 4 := congrFun (idx22 m hO t) (0 : Fin 3)
  have i1 : ((cfgM m hO).win 22).index t (1 : Fin 3) = t.val % 4 := congrFun (idx22 m hO t) (1 : Fin 3)
  have i2 : ((cfgM m hO).win 22).index t (2 : Fin 3) = 0 := congrFun (idx22 m hO t) (2 : Fin 3)
  blk_simp
  rw [after0_22, outs]
  idx_vars y
  obtain rfl : y0 = 0 := Subsingleton.elim _ _
  refine (second_at _ _ _ _ _ _ _ _ (ix3 0 y1 y2) _ (eight_at m hO c hE hD t y1 y2) (blk18 m hO c t y1 y2)).trans (congrArg (V30 m c) (funext fun a => ?_))
  refine Fin.cases (Fin.ext ?_) (fun a => Fin.cases (Fin.ext ?_) (fun a => Fin.cases (Fin.ext ?_) (fun a => a.elim0) a) a) a
  · blk_simp; exact i0.symm
  · blk_simp; refine Eq.trans ?_ (congrArg (fun n => n * 256 + y1.val) i1.symm); show 256 * (t.val % 4) + y1.val = t.val % 4 * 256 + y1.val; omega
  · blk_simp; refine Eq.trans ?_ (congrArg (fun n => n * 256 + y2.val) i2.symm); show y2.val = 0 * 256 + y2.val; omega

theorem run_shard (ρ : Dev nD → PrngReg) :
    θ_run (defs (F := I)) (onTc (τ := τ) (main (F := I))) ⟨m, fun _ => 0, ρ⟩ (fun r => ∀ c : Dev nD,
r.2.mem ((c.tc : Thread nD τ).loc main_v0_0) = V19 m c
      ∧ r.2.mem ((c.tc : Thread nD τ).loc main_v0_1) = V43 m c
      ∧ r.2.mem ((c.tc : Thread nD τ).loc main_v0_2) = V24 m c
      ∧ r.2.mem ((c.tc : Thread nD τ).loc main_v0_3) = V30 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  have hO := ok m hE hD
  (θ_run defs _ _).mono (fun _ h c => ⟨(h.1 c).1 19 |>.trans (fin19 m hO c hE hD), (h.1 c).1 20 |>.trans (fin20 m hO c hE hD), (h.1 c).1 21 |>.trans (fin21 m hO c hE hD), (h.1 c).1 22 |>.trans (fin22 m hO c hE hD), h.2 c⟩)
    (θ_run_and (run_main m ρ hO) (unchanged m ρ hO))

end Cert.Kernel16Ideal.Shard

namespace Cert.Shard

open Cert.Kernel16Ideal.Shard

theorem word_lt {w : BitVec 32} {n : ℕ} (hn : n < 8) (h0 : IntOp.cmpi .sge w 0#32 = 1#1) (h1 : IntOp.cmpi .slt w (BitVec.ofNat 32 n) = 1#1) : w.toNat < n := by
  have b0 : BitVec.sle 0#32 w = true := by unfold IntOp.cmpi at h0; revert h0; cases BitVec.sle 0#32 w <;> simp
  have b1 : BitVec.slt w (BitVec.ofNat 32 n) = true := by unfold IntOp.cmpi at h1; revert h1; cases BitVec.slt w (BitVec.ofNat 32 n) <;> simp
  have hw := w.isLt
  simp only [BitVec.sle, BitVec.slt, decide_eq_true_eq, BitVec.toInt_eq_toNat_cond] at b0 b1
  simp at b0 b1
  split at b0 <;> interval_cases n <;> simp at b1 <;> omega

section Frame

open Cert.Kernel16Ideal

variable {F : FTy → Type} [FloatOps F] (m : (ℓ : Loc nD τ sig) → Buf (Elt F) ℓ)

/-- The three tests of the place. -/
abbrev test (c : Dev nD) := Cert.Pre_in_range16.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- The place is one of the eight, at any reading of the numbers. -/
def InRange : Prop := ∀ c : Dev nD,
    (test m c).1 = (fun _ => 1#1)
    ∧ (test m c).2.1 = (fun _ => 1#1)
    ∧ (test m c).2.2 = (fun _ => 1#1)

theorem rangeD (h : InRange m) : (wordD m).toNat < 4 := word_lt (n := 4) (by omega) (congrFun (h 0).1 (ix1 0)) (congrFun (h 0).2.1 (ix1 0))

theorem rangeE (h : InRange m) : (wordE m).toNat < 2 := by
  refine word_lt (n := 2) (by omega) (congrFun (h 0).1 (ix1 1)) (Eq.trans ?_ (congrFun (h 0).2.2 (ix1 0)))
  unfold test Cert.Pre_in_range16.fn
  exact congrArg (fun z => IntOp.cmpi .slt z 2#32) (congrArg (m (((0 : Dev nD).tc : Thread _ _).loc main_arg4)) (funext fun a => Fin.cases (Fin.ext rfl) (fun a => a.elim0) a))

variable (F) in
/-- The frame, at any reading of the numbers. -/
def Quiet : Prop := ∀ (m : (ℓ : Loc nD τ sig) → Buf (Elt F) ℓ) (g : Dev nD → PrngReg), InRange m →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

theorem quiet : Quiet F := fun m ρ h => Cert.Kernel16Ideal.Gen.frame m ρ (ok m (rangeE m h) (rangeD m h))

theorem quiet_kernel16 : Quiet Bits = Cert.quiescent_Kernel16 := by sl_kernel_rfl

theorem frame_kernel16 : Cert.quiescent_Kernel16 := quiet_kernel16.mp quiet

theorem frame_kernel16Ideal : Cert.quiescent_Kernel16Ideal := quiet

end Frame

open Cert.Reference16Ideal.Read in
theorem shard_value : Cert.algebraic_Kernel16Ideal_Reference16Ideal := fun m ρ m' ρ' hpre hm => by
  have hD := rangeD m hpre
  have hE := rangeE m hpre
  refine ⟨_, _, _, _, run_shard m hE hD ρ,
    (θ_run Cert.Reference16Ideal.defs _ _).mono (fun _ h c => ⟨(h c).1.trans ?_, (h c).2.1.trans ?_, (h c).2.2.1.trans ?_, (h c).2.2.2.1.trans ?_, (h c).2.2.2.2⟩) (Cert.Reference16Ideal.Value.run m' ρ')⟩ <;>
    obtain ⟨h0, h1, h2, h3, h4, h5, h6, h7⟩ := hm c
  · rw [val_main_v19_eq, h0, h1, h2, h3, h4]
  · rw [val_main_v43_eq, h0, h1, h2, h3, h4, h5, h6, h7]
  · rw [val_main_v24_eq, h0, h1, h2, h3, h4, h6]
  · rw [val_main_v30_eq, h0, h1, h2, h3, h4, h7]

theorem frame_reference16 : Cert.quiescent_Reference16Ideal := fun m ρ _ =>
  (θ_run Cert.Reference16Ideal.defs _ _).mono (fun r h => ⟨fun c => (h c).2.2.2.2, sem_eq_zero_of_no_sems rfl r.2⟩) (Cert.Reference16Ideal.Value.run m ρ)

end Cert.Shard

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Dcum.Host
public import proofs.«01_k».proof.Proof.Flash.Run
public import proofs.«01_k».proof.Proof.Ln.Claims
public import proofs.«01_k».proof.Proof.Fwd.Claims
public import proofs.«01_k».proof.Proof.Norm.Claims
public import proofs.«01_k».proof.Proof.Cum.Claims
public import proofs.«01_k».proof.Proof.Rg.Claims
public import proofs.«01_k».proof.Proof.Plain.Adam
public import proofs.«01_k».proof.Proof.Plain.Mat
public import proofs.«01_k».proof.Proof.Plain.MatT
public import proofs.«01_k».proof.Proof.Plain.Split
public import proofs.«01_k».proof.Proof.Plain.Join
public import proofs.«01_k».proof.Proof.Plain.MatParts
public import proofs.«01_k».proof.Proof.Plain.Own
public import proofs.«01_k».proof.Proof.Plain.Shard
public import Idealize.ShloMosaic.Adequacy
public import Idealize.ShloMosaic.Init

@[expose] public section

noncomputable section

namespace Cert.Proof

open Idealize.ShloMosaic Idealize.SL.Sem Cert.Kernel Cert.Dcum Cert.Ln Cert.Fwd Cert.Norm Cert.Cum Cert.Rg Cert.Adam Cert.Mat Cert.MatT Cert.Split Cert.Join Cert.MatParts Cert.Own Cert.Shard

theorem frame_reference [hReferenceIdeal : Cert.ReferenceIdeal.Facts] : Cert.quiescent_ReferenceIdeal := fun m ρ _ =>
  (θ_run Cert.ReferenceIdeal.defs _ _).mono (fun r h => ⟨fun c => (h c).2.2, sem_eq_zero_of_no_sems rfl r.2⟩) (Cert.ReferenceIdeal.Value.run m ρ)

theorem dcum_value : Cert.algebraic_KernelIdeal_ReferenceIdeal := fun m ρ m' ρ' _ hm => by
  refine ⟨fun c => (Cert.KernelIdeal.Gen.dats m 0 c).arrAt 3 Cert.KernelIdeal.cfg0.N, fun c => (Cert.KernelIdeal.Gen.dats m 0 c).arrAt 4 Cert.KernelIdeal.cfg0.N,
    Cert.KernelIdeal.Value.run_blocks m ρ,
    (θ_run Cert.ReferenceIdeal.defs _ _).mono (fun _ h c => ⟨(h c).1.trans ?_, (h c).2.1.trans ?_, (h c).2.2⟩) (Cert.ReferenceIdeal.Value.run m' ρ')⟩
  · rw [Cert.ReferenceIdeal.Read.val_main_v14_eq, (hm c).1, (hm c).2.1, (hm c).2.2]; dsimp only; rw [Cert.KernelIdeal.Value.final3]
    funext i
    obtain ⟨a, b, rfl⟩ := ix2_surj i
    exact (Cert.ReferenceIdeal.Read.v14_eq _ _ _ a b).trans (Cert.KernelIdeal.Value.dfv_eq m c b a).symm
  · rw [Cert.ReferenceIdeal.Read.val_main_v16_eq, (hm c).1, (hm c).2.1, (hm c).2.2]; dsimp only; rw [Cert.KernelIdeal.Value.final4]
    funext i
    obtain ⟨a, b, rfl⟩ := ix2_surj i
    refine (Cert.ReferenceIdeal.Read.v16_eq _ _ _ a b).trans ?_
    refine Eq.trans ?_ (Cert.KernelIdeal.Value.sum_dfv m c b).symm
    simp only [Cert.KernelIdeal.Value.dfv_eq]
    split <;> simp

open Cert.Reference2Ideal.Read in
theorem flash_value : Cert.algebraic_Kernel2Ideal_Reference2Ideal_pre_finite2 := fun m ρ m' ρ' hpre hm => by
  have A := fun c => Cert.Kernel2Ideal.Value.args_real m c hpre
  have hM := fun c => isM (A c)
  have E := fun c => Cert.Kernel2Ideal.Value.entry m c (A c) (hM c)
  refine ⟨fun c => (Cert.Kernel2Ideal.Gen.dats m 0 c).arrAt 8 Cert.Kernel2Ideal.cfg0.N, fun c => (Cert.Kernel2Ideal.Gen.dats m 0 c).arrAt 9 Cert.Kernel2Ideal.cfg0.N,
    fun c => (Cert.Kernel2Ideal.Gen.dats m 0 c).arrAt 10 Cert.Kernel2Ideal.cfg0.N, fun c => (Cert.Kernel2Ideal.Gen.dats m 0 c).arrAt 11 Cert.Kernel2Ideal.cfg0.N,
    fun c => Cert.Kernel2Ideal.Value.tailF ((Cert.Kernel2Ideal.Gen.dats m 0 c).arrAt 12 Cert.Kernel2Ideal.cfg0.N) ((Cert.Kernel2Ideal.Gen.dats m 0 c).arrAt 13 Cert.Kernel2Ideal.cfg0.N),
    Cert.Kernel2Ideal.Value.run_blocks m ρ,
    (θ_run Cert.Reference2Ideal.defs _ _).mono (fun _ h c => ⟨(h c).1.trans ?_, (h c).2.1.trans ?_, (h c).2.2.1.trans ?_, (h c).2.2.2.1.trans ?_,
      (h c).2.2.2.2.1.trans ?_, (h c).2.2.2.2.2⟩) (Cert.Reference2Ideal.Value.run m' ρ')⟩
  · rw [val_main_v99_eq, (hm c).1, (hm c).2.1, (hm c).2.2]; dsimp only; rw [Cert.Kernel2Ideal.Value.final8 (E c)]
    exact funext fun i => v99_r (A c) (hM c) i
  · rw [val_main_v100_eq, (hm c).1, (hm c).2.1, (hm c).2.2]; dsimp only; rw [Cert.Kernel2Ideal.Value.final9 (E c)]
    exact funext fun i => v100_r (A c) (hM c) i
  · rw [val_main_v101_eq, (hm c).1, (hm c).2.1, (hm c).2.2]; dsimp only; rw [Cert.Kernel2Ideal.Value.final10 (E c)]
    exact funext fun i => v101_r (A c) (hM c) i
  · rw [val_main_v102_eq, (hm c).1, (hm c).2.1, (hm c).2.2]; dsimp only; rw [Cert.Kernel2Ideal.Value.final11 (E c)]
    exact funext fun i => v102_r (A c) (hM c) i
  · rw [val_main_v88_eq, (hm c).1, (hm c).2.1, (hm c).2.2]; dsimp only; rw [Cert.Kernel2Ideal.Value.final12 (E c), Cert.Kernel2Ideal.Value.final13 (E c)]
    funext i
    obtain ⟨h, s, rfl⟩ := ix2_surj i
    refine (v88_r (A c) (hM c) _).trans ?_
    refine Eq.symm ((Cert.Kernel2Ideal.Value.tailF_at _ _ ⟨h.val / 2, by omega⟩ ⟨h.val % 2, by omega⟩ ⟨s.val / 512, by omega⟩ ⟨s.val % 512, by omega⟩ h s
      (by dsimp only; omega) (by dsimp only; omega)).trans ?_)
    have e1 : 2 * (h.val / 2) + h.val % 2 = h.val := by omega
    have e2 : 512 * (s.val / 512) + s.val % 512 = s.val := by omega
    refine (EReal.coe_add _ _).symm.trans (congrArg Real.toEReal ?_)
    exact congrArg₂ (fun a b : ℕ => (∑ k ∈ Finset.range 4096, Cert.Kernel2Ideal.Value.gDs _ _ _ _ _ a b k)
      + -∑ q ∈ Finset.range 4096, Cert.Kernel2Ideal.Value.gDs _ _ _ _ _ a q b) e1 e2

theorem defs_kernel2 : Cert.Kernel2.defs (F := Bits) = Cert.Kernel2Ideal.defs (F := Bits) := by sl_kernel_rfl

theorem main_kernel2 : Cert.Kernel2.main (F := Bits) = Cert.Kernel2Ideal.main (F := Bits) := by sl_kernel_rfl

theorem frame_kernel2 : Cert.quiescent_Kernel2 := fun m ρ _ => by
  rw [defs_kernel2, main_kernel2]
  exact Cert.Kernel2Ideal.Gen.frame (F := Bits) m ρ

theorem frame_reference2 : Cert.quiescent_Reference2Ideal := fun m ρ _ =>
  (θ_run Cert.Reference2Ideal.defs _ _).mono (fun r h => ⟨fun c => (h c).2.2.2.2.2, sem_eq_zero_of_no_sems rfl r.2⟩) (Cert.Reference2Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Pre_finite2.Gen.facts, Cert.Pre_finite3.Gen.facts, Cert.Pre_finite4.Gen.facts, Cert.Pre_finite5.Gen.facts, Cert.Pre_in_range15.Gen.facts, Cert.Pre_in_range16.Gen.facts,
  fun m ρ _ => Cert.Kernel.Gen.frame m ρ, fun m ρ _ => Cert.KernelIdeal.Gen.frame m ρ, frame_reference,
  frame_kernel2, fun m ρ _ => Cert.Kernel2Ideal.Gen.frame m ρ, fun m ρ _ => Cert.Kernel2Ideal.Gen.frame m ρ,
  frame_reference2, fun m ρ _ => frame_reference2 m ρ trivial,
  frame_kernel3, fun m ρ _ => Cert.Kernel3Ideal.Gen.frame m ρ, fun m ρ _ => Cert.Kernel3Ideal.Gen.frame m ρ,
  frame_reference3, fun m ρ _ => frame_reference3 m ρ trivial,
  frame_kernel4, fun m ρ _ => Cert.Kernel4Ideal.Gen.frame m ρ, fun m ρ _ => Cert.Kernel4Ideal.Gen.frame m ρ,
  frame_reference4, fun m ρ _ => frame_reference4 m ρ trivial,
  frame_kernel5, fun m ρ _ => Cert.Kernel5Ideal.Gen.frame m ρ, fun m ρ _ => Cert.Kernel5Ideal.Gen.frame m ρ,
  frame_reference5, fun m ρ _ => frame_reference5 m ρ trivial,
  frame_kernel6, fun m ρ _ => Cert.Kernel6Ideal.Gen.frame m ρ, frame_reference6,
  frame_kernel7, fun m ρ _ => Cert.Kernel7Ideal.Gen.frame m ρ, frame_reference7,
  frame_kernel8, fun m ρ _ => Cert.Kernel8Ideal.Gen.frame m ρ, frame_reference8,
  frame_kernel9, fun m ρ _ => Cert.Kernel9Ideal.Gen.frame m ρ, frame_reference9,
  frame_kernel10, fun m ρ _ => Cert.Kernel10Ideal.Gen.frame m ρ, frame_reference10,
  frame_kernel11, fun m ρ _ => Cert.Kernel11Ideal.Gen.frame m ρ, frame_reference11,
  frame_kernel12, fun m ρ _ => Cert.Kernel12Ideal.Gen.frame m ρ, frame_reference12,
  frame_kernel13, fun m ρ _ => Cert.Kernel13Ideal.Gen.frame m ρ, frame_reference13,
  frame_kernel14, fun m ρ _ => Cert.Kernel14Ideal.Gen.frame m ρ, frame_reference14,
  frame_kernel15, frame_kernel15Ideal, frame_reference15, fun m ρ _ => frame_reference15 m ρ trivial,
  frame_kernel16, frame_kernel16Ideal, frame_reference16, fun m ρ _ => frame_reference16 m ρ trivial,
  trivial, dcum_value, trivial, flash_value, trivial, ln3_value, trivial, ln4_value, trivial, fwd_value, trivial, norm_value, trivial, cum_value, trivial, rg_value,
  trivial, adam_value, trivial, mat_value, trivial, matT_value, trivial, split_value, trivial, join_value, trivial, matParts_value, trivial, own_value, trivial, shard_value⟩

end Cert.Proof

end
